-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_SbOutGrad (m : (ℓ : Loc Cert.SbOutGrad.nD Cert.SbOutGrad.τ Cert.SbOutGrad.sig) → Buf (Elt Bits) ℓ) : Prop :=
  True

def Pre_SbOutGradIdeal (m : (ℓ : Loc Cert.SbOutGradIdeal.nD Cert.SbOutGradIdeal.τ Cert.SbOutGradIdeal.sig) → Buf (Elt Ideal) ℓ) : Prop :=
  True

def Pre_SbOutGradReferenceIdeal (m : (ℓ : Loc Cert.SbOutGradReferenceIdeal.nD Cert.SbOutGradReferenceIdeal.τ Cert.SbOutGradReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInReferenceIdeal (m : (ℓ : Loc Cert.ProjInReferenceIdeal.nD Cert.ProjInReferenceIdeal.τ Cert.ProjInReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_SbOutReferenceIdeal (m : (ℓ : Loc Cert.SbOutReferenceIdeal.nD Cert.SbOutReferenceIdeal.τ Cert.SbOutReferenceIdeal.sig) → Buf (Elt Ideal) ℓ) : Prop :=
  True

def Pre_DownBack (m : (ℓ : Loc Cert.DownBack.nD Cert.DownBack.τ Cert.DownBack.sig) → Buf (Elt Bits) ℓ) : Prop :=
  True

def Pre_DownBackIdeal (m : (ℓ : Loc Cert.DownBackIdeal.nD Cert.DownBackIdeal.τ Cert.DownBackIdeal.sig) → Buf (Elt Ideal) ℓ) : Prop :=
  True

def Pre_DownBackReferenceIdeal (m : (ℓ : Loc Cert.DownBackReferenceIdeal.nD Cert.DownBackReferenceIdeal.τ Cert.DownBackReferenceIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackReferenceIdeal (m : (ℓ : Loc Cert.OutBackReferenceIdeal.nD Cert.OutBackReferenceIdeal.τ Cert.OutBackReferenceIdeal.sig) → Buf (Elt Ideal) ℓ) : Prop :=
  True

def Pre_SbOutBack (m : (ℓ : Loc Cert.SbOutBack.nD Cert.SbOutBack.τ Cert.SbOutBack.sig) → Buf (Elt Bits) ℓ) : Prop :=
  True

def Pre_SbOutBackIdeal (m : (ℓ : Loc Cert.SbOutBackIdeal.nD Cert.SbOutBackIdeal.τ Cert.SbOutBackIdeal.sig) → Buf (Elt Ideal) ℓ) : Prop :=
  True

def Pre_SbOutBackReferenceIdeal (m : (ℓ : Loc Cert.SbOutBackReferenceIdeal.nD Cert.SbOutBackReferenceIdeal.τ Cert.SbOutBackReferenceIdeal.sig) → Buf (Elt Ideal) ℓ) : Prop :=
  True

def Pre_UpBack (m : (ℓ : Loc Cert.UpBack.nD Cert.UpBack.τ Cert.UpBack.sig) → Buf (Elt Bits) ℓ) : Prop :=
  True

def Pre_UpBackIdeal (m : (ℓ : Loc Cert.UpBackIdeal.nD Cert.UpBackIdeal.τ Cert.UpBackIdeal.sig) → Buf (Elt Ideal) ℓ) : Prop :=
  True

def Pre_UpBackReferenceIdeal (m : (ℓ : Loc Cert.UpBackReferenceIdeal.nD Cert.UpBackReferenceIdeal.τ Cert.UpBackReferenceIdeal.sig) → Buf (Elt Ideal) ℓ) : Prop :=
  True

def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackReferenceIdeal (m : (ℓ : Loc Cert.InBackReferenceIdeal.nD Cert.InBackReferenceIdeal.τ Cert.InBackReferenceIdeal.sig) → Buf (Elt Ideal) ℓ) : Prop :=
  True

def Pre_GluIn (m : (ℓ : Loc Cert.GluIn.nD Cert.GluIn.τ Cert.GluIn.sig) → Buf (Elt Bits) ℓ) : Prop :=
  True

def Pre_GluInIdeal (m : (ℓ : Loc Cert.GluInIdeal.nD Cert.GluInIdeal.τ Cert.GluInIdeal.sig) → Buf (Elt Ideal) ℓ) : Prop :=
  True

def Pre_GluInReferenceIdeal (m : (ℓ : Loc Cert.GluInReferenceIdeal.nD Cert.GluInReferenceIdeal.τ Cert.GluInReferenceIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutReferenceIdeal (m : (ℓ : Loc Cert.SsmOutReferenceIdeal.nD Cert.SsmOutReferenceIdeal.τ Cert.SsmOutReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_SsmOutBack (m : (ℓ : Loc Cert.SsmOutBack.nD Cert.SsmOutBack.τ Cert.SsmOutBack.sig) → Buf (Elt Bits) ℓ) : Prop :=
  True

def Pre_SsmOutBackIdeal (m : (ℓ : Loc Cert.SsmOutBackIdeal.nD Cert.SsmOutBackIdeal.τ Cert.SsmOutBackIdeal.sig) → Buf (Elt Ideal) ℓ) : Prop :=
  True

def Pre_SsmOutBackReferenceIdeal (m : (ℓ : Loc Cert.SsmOutBackReferenceIdeal.nD Cert.SsmOutBackReferenceIdeal.τ Cert.SsmOutBackReferenceIdeal.sig) → Buf (Elt Ideal) ℓ) : Prop :=
  True

def Pre_MemOutBack (m : (ℓ : Loc Cert.MemOutBack.nD Cert.MemOutBack.τ Cert.MemOutBack.sig) → Buf (Elt Bits) ℓ) : Prop :=
  True

def Pre_MemOutBackIdeal (m : (ℓ : Loc Cert.MemOutBackIdeal.nD Cert.MemOutBackIdeal.τ Cert.MemOutBackIdeal.sig) → Buf (Elt Ideal) ℓ) : Prop :=
  True

def Pre_MemOutBackReferenceIdeal (m : (ℓ : Loc Cert.MemOutBackReferenceIdeal.nD Cert.MemOutBackReferenceIdeal.τ Cert.MemOutBackReferenceIdeal.sig) → Buf (Elt Ideal) ℓ) : Prop :=
  True

def Pre_GluInBack (m : (ℓ : Loc Cert.GluInBack.nD Cert.GluInBack.τ Cert.GluInBack.sig) → Buf (Elt Bits) ℓ) : Prop :=
  True

def Pre_GluInBackIdeal (m : (ℓ : Loc Cert.GluInBackIdeal.nD Cert.GluInBackIdeal.τ Cert.GluInBackIdeal.sig) → Buf (Elt Ideal) ℓ) : Prop :=
  True

def Pre_GluInBackReferenceIdeal (m : (ℓ : Loc Cert.GluInBackReferenceIdeal.nD Cert.GluInBackReferenceIdeal.τ Cert.GluInBackReferenceIdeal.sig) → Buf (Elt Ideal) ℓ) : Prop :=
  True

def Pre_SsmOutGrad (m : (ℓ : Loc Cert.SsmOutGrad.nD Cert.SsmOutGrad.τ Cert.SsmOutGrad.sig) → Buf (Elt Bits) ℓ) : Prop :=
  True

def Pre_SsmOutGradIdeal (m : (ℓ : Loc Cert.SsmOutGradIdeal.nD Cert.SsmOutGradIdeal.τ Cert.SsmOutGradIdeal.sig) → Buf (Elt Ideal) ℓ) : Prop :=
  True

def Pre_SsmOutGradReferenceIdeal (m : (ℓ : Loc Cert.SsmOutGradReferenceIdeal.nD Cert.SsmOutGradReferenceIdeal.τ Cert.SsmOutGradReferenceIdeal.sig) → Buf (Elt Ideal) ℓ) : Prop :=
  True

def Pre_GluInGrad (m : (ℓ : Loc Cert.GluInGrad.nD Cert.GluInGrad.τ Cert.GluInGrad.sig) → Buf (Elt Bits) ℓ) : Prop :=
  True

def Pre_GluInGradIdeal (m : (ℓ : Loc Cert.GluInGradIdeal.nD Cert.GluInGradIdeal.τ Cert.GluInGradIdeal.sig) → Buf (Elt Ideal) ℓ) : Prop :=
  True

def Pre_GluInGradReferenceIdeal (m : (ℓ : Loc Cert.GluInGradReferenceIdeal.nD Cert.GluInGradReferenceIdeal.τ Cert.GluInGradReferenceIdeal.sig) → Buf (Elt Ideal) ℓ) : Prop :=
  True

def Pre_BGrad (m : (ℓ : Loc Cert.BGrad.nD Cert.BGrad.τ Cert.BGrad.sig) → Buf (Elt Bits) ℓ) : Prop :=
  True

def Pre_BGradIdeal (m : (ℓ : Loc Cert.BGradIdeal.nD Cert.BGradIdeal.τ Cert.BGradIdeal.sig) → Buf (Elt Ideal) ℓ) : Prop :=
  True

def Pre_BGradReferenceIdeal (m : (ℓ : Loc Cert.BGradReferenceIdeal.nD Cert.BGradReferenceIdeal.τ Cert.BGradReferenceIdeal.sig) → Buf (Elt Ideal) ℓ) : Prop :=
  True

def Pre_CGrad (m : (ℓ : Loc Cert.CGrad.nD Cert.CGrad.τ Cert.CGrad.sig) → Buf (Elt Bits) ℓ) : Prop :=
  True

def Pre_CGradIdeal (m : (ℓ : Loc Cert.CGradIdeal.nD Cert.CGradIdeal.τ Cert.CGradIdeal.sig) → Buf (Elt Ideal) ℓ) : Prop :=
  True

def Pre_CGradReferenceIdeal (m : (ℓ : Loc Cert.CGradReferenceIdeal.nD Cert.CGradReferenceIdeal.τ Cert.CGradReferenceIdeal.sig) → Buf (Elt Ideal) ℓ) : Prop :=
  True

def Pre_MemKvGrad (m : (ℓ : Loc Cert.MemKvGrad.nD Cert.MemKvGrad.τ Cert.MemKvGrad.sig) → Buf (Elt Bits) ℓ) : Prop :=
  True

def Pre_MemKvGradIdeal (m : (ℓ : Loc Cert.MemKvGradIdeal.nD Cert.MemKvGradIdeal.τ Cert.MemKvGradIdeal.sig) → Buf (Elt Ideal) ℓ) : Prop :=
  True

def Pre_MemKvGradReferenceIdeal (m : (ℓ : Loc Cert.MemKvGradReferenceIdeal.nD Cert.MemKvGradReferenceIdeal.τ Cert.MemKvGradReferenceIdeal.sig) → Buf (Elt Ideal) ℓ) : Prop :=
  True

def Pre_MergeBack (m : (ℓ : Loc Cert.MergeBack.nD Cert.MergeBack.τ Cert.MergeBack.sig) → Buf (Elt Bits) ℓ) : Prop :=
  True

def Pre_MergeBackIdeal (m : (ℓ : Loc Cert.MergeBackIdeal.nD Cert.MergeBackIdeal.τ Cert.MergeBackIdeal.sig) → Buf (Elt Ideal) ℓ) : Prop :=
  True

def Pre_MergeBackReferenceIdeal (m : (ℓ : Loc Cert.MergeBackReferenceIdeal.nD Cert.MergeBackReferenceIdeal.τ Cert.MergeBackReferenceIdeal.sig) → Buf (Elt Ideal) ℓ) : Prop :=
  True

def Pre_GluBack (m : (ℓ : Loc Cert.GluBack.nD Cert.GluBack.τ Cert.GluBack.sig) → Buf (Elt Bits) ℓ) : Prop :=
  True

def Pre_GluBackIdeal (m : (ℓ : Loc Cert.GluBackIdeal.nD Cert.GluBackIdeal.τ Cert.GluBackIdeal.sig) → Buf (Elt Ideal) ℓ) : Prop :=
  True

def Pre_GluBackReferenceIdeal (m : (ℓ : Loc Cert.GluBackReferenceIdeal.nD Cert.GluBackReferenceIdeal.τ Cert.GluBackReferenceIdeal.sig) → Buf (Elt Ideal) ℓ) : Prop :=
  True

def Pre_SwigluBack (m : (ℓ : Loc Cert.SwigluBack.nD Cert.SwigluBack.τ Cert.SwigluBack.sig) → Buf (Elt Bits) ℓ) : Prop :=
  True

def Pre_SwigluBackIdeal (m : (ℓ : Loc Cert.SwigluBackIdeal.nD Cert.SwigluBackIdeal.τ Cert.SwigluBackIdeal.sig) → Buf (Elt Ideal) ℓ) : Prop :=
  True

def Pre_SwigluBackIdeal_swiglu_finite [hPre_swiglu_finite : Cert.Pre_swiglu_finite.Facts] (m : (ℓ : Loc Cert.SwigluBackIdeal.nD Cert.SwigluBackIdeal.τ Cert.SwigluBackIdeal.sig) → Buf (Elt Ideal) ℓ) : Prop :=
  ∀ c : Dev Cert.SwigluBackIdeal.nD,
    (Cert.Pre_swiglu_finite.fn (F := Ideal) (m ((c.tc : Thread Cert.SwigluBackIdeal.nD Cert.SwigluBackIdeal.τ).loc Cert.SwigluBackIdeal.main_arg0)) (m ((c.tc : Thread Cert.SwigluBackIdeal.nD Cert.SwigluBackIdeal.τ).loc Cert.SwigluBackIdeal.main_arg1))).1 = (fun _ => 1#1)
    ∧ (Cert.Pre_swiglu_finite.fn (F := Ideal) (m ((c.tc : Thread Cert.SwigluBackIdeal.nD Cert.SwigluBackIdeal.τ).loc Cert.SwigluBackIdeal.main_arg0)) (m ((c.tc : Thread Cert.SwigluBackIdeal.nD Cert.SwigluBackIdeal.τ).loc Cert.SwigluBackIdeal.main_arg1))).2 = (fun _ => 1#1)

def Pre_SwigluBackReferenceIdeal (m : (ℓ : Loc Cert.SwigluBackReferenceIdeal.nD Cert.SwigluBackReferenceIdeal.τ Cert.SwigluBackReferenceIdeal.sig) → Buf (Elt Ideal) ℓ) : Prop :=
  True

def Pre_SwigluBackReferenceIdeal_swiglu_finite [hPre_swiglu_finite : Cert.Pre_swiglu_finite.Facts] (m : (ℓ : Loc Cert.SwigluBackReferenceIdeal.nD Cert.SwigluBackReferenceIdeal.τ Cert.SwigluBackReferenceIdeal.sig) → Buf (Elt Ideal) ℓ) : Prop :=
  ∀ c : Dev Cert.SwigluBackReferenceIdeal.nD,
    (Cert.Pre_swiglu_finite.fn (F := Ideal) (m ((c.tc : Thread Cert.SwigluBackReferenceIdeal.nD Cert.SwigluBackReferenceIdeal.τ).loc Cert.SwigluBackReferenceIdeal.main_arg0)) (m ((c.tc : Thread Cert.SwigluBackReferenceIdeal.nD Cert.SwigluBackReferenceIdeal.τ).loc Cert.SwigluBackReferenceIdeal.main_arg1))).1 = (fun _ => 1#1)
    ∧ (Cert.Pre_swiglu_finite.fn (F := Ideal) (m ((c.tc : Thread Cert.SwigluBackReferenceIdeal.nD Cert.SwigluBackReferenceIdeal.τ).loc Cert.SwigluBackReferenceIdeal.main_arg0)) (m ((c.tc : Thread Cert.SwigluBackReferenceIdeal.nD Cert.SwigluBackReferenceIdeal.τ).loc Cert.SwigluBackReferenceIdeal.main_arg1))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInReferenceIdeal (m : (ℓ : Loc Cert.UpdateInReferenceIdeal.nD Cert.UpdateInReferenceIdeal.τ Cert.UpdateInReferenceIdeal.sig) → Buf (Elt Ideal) ℓ) : Prop :=
  True

def Pre_UpdateSbOut (m : (ℓ : Loc Cert.UpdateSbOut.nD Cert.UpdateSbOut.τ Cert.UpdateSbOut.sig) → Buf (Elt Bits) ℓ) : Prop :=
  True

def Pre_UpdateSbOutIdeal (m : (ℓ : Loc Cert.UpdateSbOutIdeal.nD Cert.UpdateSbOutIdeal.τ Cert.UpdateSbOutIdeal.sig) → Buf (Elt Ideal) ℓ) : Prop :=
  True

def Pre_UpdateSbOutReferenceIdeal (m : (ℓ : Loc Cert.UpdateSbOutReferenceIdeal.nD Cert.UpdateSbOutReferenceIdeal.τ Cert.UpdateSbOutReferenceIdeal.sig) → Buf (Elt Ideal) ℓ) : Prop :=
  True

def Pre_UpdateGlu (m : (ℓ : Loc Cert.UpdateGlu.nD Cert.UpdateGlu.τ Cert.UpdateGlu.sig) → Buf (Elt Bits) ℓ) : Prop :=
  True

def Pre_UpdateGluIdeal (m : (ℓ : Loc Cert.UpdateGluIdeal.nD Cert.UpdateGluIdeal.τ Cert.UpdateGluIdeal.sig) → Buf (Elt Ideal) ℓ) : Prop :=
  True

def Pre_UpdateGluReferenceIdeal (m : (ℓ : Loc Cert.UpdateGluReferenceIdeal.nD Cert.UpdateGluReferenceIdeal.τ Cert.UpdateGluReferenceIdeal.sig) → Buf (Elt Ideal) ℓ) : Prop :=
  True

def Pre_UpdateSsmOut (m : (ℓ : Loc Cert.UpdateSsmOut.nD Cert.UpdateSsmOut.τ Cert.UpdateSsmOut.sig) → Buf (Elt Bits) ℓ) : Prop :=
  True

def Pre_UpdateSsmOutIdeal (m : (ℓ : Loc Cert.UpdateSsmOutIdeal.nD Cert.UpdateSsmOutIdeal.τ Cert.UpdateSsmOutIdeal.sig) → Buf (Elt Ideal) ℓ) : Prop :=
  True

def Pre_UpdateSsmOutReferenceIdeal (m : (ℓ : Loc Cert.UpdateSsmOutReferenceIdeal.nD Cert.UpdateSsmOutReferenceIdeal.τ Cert.UpdateSsmOutReferenceIdeal.sig) → Buf (Elt Ideal) ℓ) : Prop :=
  True

def Pre_UpdateMemKv (m : (ℓ : Loc Cert.UpdateMemKv.nD Cert.UpdateMemKv.τ Cert.UpdateMemKv.sig) → Buf (Elt Bits) ℓ) : Prop :=
  True

def Pre_UpdateMemKvIdeal (m : (ℓ : Loc Cert.UpdateMemKvIdeal.nD Cert.UpdateMemKvIdeal.τ Cert.UpdateMemKvIdeal.sig) → Buf (Elt Ideal) ℓ) : Prop :=
  True

def Pre_UpdateMemKvReferenceIdeal (m : (ℓ : Loc Cert.UpdateMemKvReferenceIdeal.nD Cert.UpdateMemKvReferenceIdeal.τ Cert.UpdateMemKvReferenceIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_UpdateUp (m : (ℓ : Loc Cert.UpdateUp.nD Cert.UpdateUp.τ Cert.UpdateUp.sig) → Buf (Elt Bits) ℓ) : Prop :=
  True

def Pre_UpdateUpIdeal (m : (ℓ : Loc Cert.UpdateUpIdeal.nD Cert.UpdateUpIdeal.τ Cert.UpdateUpIdeal.sig) → Buf (Elt Ideal) ℓ) : Prop :=
  True

def Pre_UpdateUpReferenceIdeal (m : (ℓ : Loc Cert.UpdateUpReferenceIdeal.nD Cert.UpdateUpReferenceIdeal.τ Cert.UpdateUpReferenceIdeal.sig) → Buf (Elt Ideal) ℓ) : Prop :=
  True

def Pre_UpdateDown (m : (ℓ : Loc Cert.UpdateDown.nD Cert.UpdateDown.τ Cert.UpdateDown.sig) → Buf (Elt Bits) ℓ) : Prop :=
  True

def Pre_UpdateDownIdeal (m : (ℓ : Loc Cert.UpdateDownIdeal.nD Cert.UpdateDownIdeal.τ Cert.UpdateDownIdeal.sig) → Buf (Elt Ideal) ℓ) : Prop :=
  True

def Pre_UpdateDownReferenceIdeal (m : (ℓ : Loc Cert.UpdateDownReferenceIdeal.nD Cert.UpdateDownReferenceIdeal.τ Cert.UpdateDownReferenceIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_forward_finite [hPre_forward_finite : Cert.Pre_forward_finite.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_forward_finite.fn (F := Ideal) (m ((c.tc : Thread Cert.SbFwdIdeal.nD Cert.SbFwdIdeal.τ).loc Cert.SbFwdIdeal.main_arg0))) = (fun _ => 1#1)

def Pre_SbFwdReferenceIdeal (m : (ℓ : Loc Cert.SbFwdReferenceIdeal.nD Cert.SbFwdReferenceIdeal.τ Cert.SbFwdReferenceIdeal.sig) → Buf (Elt Ideal) ℓ) : Prop :=
  True

def Pre_SbFwdReferenceIdeal_forward_finite [hPre_forward_finite : Cert.Pre_forward_finite.Facts] (m : (ℓ : Loc Cert.SbFwdReferenceIdeal.nD Cert.SbFwdReferenceIdeal.τ Cert.SbFwdReferenceIdeal.sig) → Buf (Elt Ideal) ℓ) : Prop :=
  ∀ c : Dev Cert.SbFwdReferenceIdeal.nD,
    (Cert.Pre_forward_finite.fn (F := Ideal) (m ((c.tc : Thread Cert.SbFwdReferenceIdeal.nD Cert.SbFwdReferenceIdeal.τ).loc Cert.SbFwdReferenceIdeal.main_arg0))) = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdReferenceIdeal (m : (ℓ : Loc Cert.MemFwdReferenceIdeal.nD Cert.MemFwdReferenceIdeal.τ Cert.MemFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_SbOutGrad [hSbOutGrad : Cert.SbOutGrad.Facts] : Prop :=
  ∀ (m : (ℓ : Loc Cert.SbOutGrad.nD Cert.SbOutGrad.τ Cert.SbOutGrad.sig) → Buf (Elt Bits) ℓ) (g : Dev Cert.SbOutGrad.nD → PrngReg), Pre_SbOutGrad m →
    θ_run (Cert.SbOutGrad.defs (F := Bits)) (onTc (τ := Cert.SbOutGrad.τ) (Cert.SbOutGrad.main (F := Bits))) ⟨m, fun _ => 0, g⟩ (fun r => (∀ c : Dev Cert.SbOutGrad.nD,
      r.2.mem ((c.tc : Thread Cert.SbOutGrad.nD Cert.SbOutGrad.τ).loc Cert.SbOutGrad.main_arg0) = m ((c.tc : Thread Cert.SbOutGrad.nD Cert.SbOutGrad.τ).loc Cert.SbOutGrad.main_arg0)
      ∧ r.2.mem ((c.tc : Thread Cert.SbOutGrad.nD Cert.SbOutGrad.τ).loc Cert.SbOutGrad.main_arg1) = m ((c.tc : Thread Cert.SbOutGrad.nD Cert.SbOutGrad.τ).loc Cert.SbOutGrad.main_arg1))
      ∧ r.2.sem = fun _ => 0)

def quiescent_SbOutGradIdeal [hSbOutGradIdeal : Cert.SbOutGradIdeal.Facts] : Prop :=
  ∀ (m : (ℓ : Loc Cert.SbOutGradIdeal.nD Cert.SbOutGradIdeal.τ Cert.SbOutGradIdeal.sig) → Buf (Elt Ideal) ℓ) (g : Dev Cert.SbOutGradIdeal.nD → PrngReg), Pre_SbOutGradIdeal m →
    θ_run (Cert.SbOutGradIdeal.defs (F := Ideal)) (onTc (τ := Cert.SbOutGradIdeal.τ) (Cert.SbOutGradIdeal.main (F := Ideal))) ⟨m, fun _ => 0, g⟩ (fun r => (∀ c : Dev Cert.SbOutGradIdeal.nD,
      r.2.mem ((c.tc : Thread Cert.SbOutGradIdeal.nD Cert.SbOutGradIdeal.τ).loc Cert.SbOutGradIdeal.main_arg0) = m ((c.tc : Thread Cert.SbOutGradIdeal.nD Cert.SbOutGradIdeal.τ).loc Cert.SbOutGradIdeal.main_arg0)
      ∧ r.2.mem ((c.tc : Thread Cert.SbOutGradIdeal.nD Cert.SbOutGradIdeal.τ).loc Cert.SbOutGradIdeal.main_arg1) = m ((c.tc : Thread Cert.SbOutGradIdeal.nD Cert.SbOutGradIdeal.τ).loc Cert.SbOutGradIdeal.main_arg1))
      ∧ r.2.sem = fun _ => 0)

def quiescent_SbOutGradReferenceIdeal [hSbOutGradReferenceIdeal : Cert.SbOutGradReferenceIdeal.Facts] : Prop :=
  ∀ (m : (ℓ : Loc Cert.SbOutGradReferenceIdeal.nD Cert.SbOutGradReferenceIdeal.τ Cert.SbOutGradReferenceIdeal.sig) → Buf (Elt Ideal) ℓ) (g : Dev Cert.SbOutGradReferenceIdeal.nD → PrngReg), Pre_SbOutGradReferenceIdeal m →
    θ_run (Cert.SbOutGradReferenceIdeal.defs (F := Ideal)) (onTc (τ := Cert.SbOutGradReferenceIdeal.τ) (Cert.SbOutGradReferenceIdeal.main (F := Ideal))) ⟨m, fun _ => 0, g⟩ (fun r => (∀ c : Dev Cert.SbOutGradReferenceIdeal.nD,
      r.2.mem ((c.tc : Thread Cert.SbOutGradReferenceIdeal.nD Cert.SbOutGradReferenceIdeal.τ).loc Cert.SbOutGradReferenceIdeal.main_arg0) = m ((c.tc : Thread Cert.SbOutGradReferenceIdeal.nD Cert.SbOutGradReferenceIdeal.τ).loc Cert.SbOutGradReferenceIdeal.main_arg0)
      ∧ r.2.mem ((c.tc : Thread Cert.SbOutGradReferenceIdeal.nD Cert.SbOutGradReferenceIdeal.τ).loc Cert.SbOutGradReferenceIdeal.main_arg1) = m ((c.tc : Thread Cert.SbOutGradReferenceIdeal.nD Cert.SbOutGradReferenceIdeal.τ).loc Cert.SbOutGradReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ r.2.sem = fun _ => 0)

def quiescent_ProjInReferenceIdeal [hProjInReferenceIdeal : Cert.ProjInReferenceIdeal.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1)
      ∧ r.2.mem ((c.tc : Thread Cert.ProjInReferenceIdeal.nD Cert.ProjInReferenceIdeal.τ).loc Cert.ProjInReferenceIdeal.main_arg2) = m ((c.tc : Thread Cert.ProjInReferenceIdeal.nD Cert.ProjInReferenceIdeal.τ).loc Cert.ProjInReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1))
      ∧ r.2.sem = fun _ => 0)

def quiescent_SbOutReferenceIdeal [hSbOutReferenceIdeal : Cert.SbOutReferenceIdeal.Facts] : Prop :=
  ∀ (m : (ℓ : Loc Cert.SbOutReferenceIdeal.nD Cert.SbOutReferenceIdeal.τ Cert.SbOutReferenceIdeal.sig) → Buf (Elt Ideal) ℓ) (g : Dev Cert.SbOutReferenceIdeal.nD → PrngReg), Pre_SbOutReferenceIdeal m →
    θ_run (Cert.SbOutReferenceIdeal.defs (F := Ideal)) (onTc (τ := Cert.SbOutReferenceIdeal.τ) (Cert.SbOutReferenceIdeal.main (F := Ideal))) ⟨m, fun _ => 0, g⟩ (fun r => (∀ c : Dev Cert.SbOutReferenceIdeal.nD,
      r.2.mem ((c.tc : Thread Cert.SbOutReferenceIdeal.nD Cert.SbOutReferenceIdeal.τ).loc Cert.SbOutReferenceIdeal.main_arg0) = m ((c.tc : Thread Cert.SbOutReferenceIdeal.nD Cert.SbOutReferenceIdeal.τ).loc Cert.SbOutReferenceIdeal.main_arg0)
      ∧ r.2.mem ((c.tc : Thread Cert.SbOutReferenceIdeal.nD Cert.SbOutReferenceIdeal.τ).loc Cert.SbOutReferenceIdeal.main_arg1) = m ((c.tc : Thread Cert.SbOutReferenceIdeal.nD Cert.SbOutReferenceIdeal.τ).loc Cert.SbOutReferenceIdeal.main_arg1))
      ∧ r.2.sem = fun _ => 0)

def quiescent_DownBack [hDownBack : Cert.DownBack.Facts] : Prop :=
  ∀ (m : (ℓ : Loc Cert.DownBack.nD Cert.DownBack.τ Cert.DownBack.sig) → Buf (Elt Bits) ℓ) (g : Dev Cert.DownBack.nD → PrngReg), Pre_DownBack m →
    θ_run (Cert.DownBack.defs (F := Bits)) (onTc (τ := Cert.DownBack.τ) (Cert.DownBack.main (F := Bits))) ⟨m, fun _ => 0, g⟩ (fun r => (∀ c : Dev Cert.DownBack.nD,
      r.2.mem ((c.tc : Thread Cert.DownBack.nD Cert.DownBack.τ).loc Cert.DownBack.main_arg0) = m ((c.tc : Thread Cert.DownBack.nD Cert.DownBack.τ).loc Cert.DownBack.main_arg0)
      ∧ r.2.mem ((c.tc : Thread Cert.DownBack.nD Cert.DownBack.τ).loc Cert.DownBack.main_arg1) = m ((c.tc : Thread Cert.DownBack.nD Cert.DownBack.τ).loc Cert.DownBack.main_arg1))
      ∧ r.2.sem = fun _ => 0)

def quiescent_DownBackIdeal [hDownBackIdeal : Cert.DownBackIdeal.Facts] : Prop :=
  ∀ (m : (ℓ : Loc Cert.DownBackIdeal.nD Cert.DownBackIdeal.τ Cert.DownBackIdeal.sig) → Buf (Elt Ideal) ℓ) (g : Dev Cert.DownBackIdeal.nD → PrngReg), Pre_DownBackIdeal m →
    θ_run (Cert.DownBackIdeal.defs (F := Ideal)) (onTc (τ := Cert.DownBackIdeal.τ) (Cert.DownBackIdeal.main (F := Ideal))) ⟨m, fun _ => 0, g⟩ (fun r => (∀ c : Dev Cert.DownBackIdeal.nD,
      r.2.mem ((c.tc : Thread Cert.DownBackIdeal.nD Cert.DownBackIdeal.τ).loc Cert.DownBackIdeal.main_arg0) = m ((c.tc : Thread Cert.DownBackIdeal.nD Cert.DownBackIdeal.τ).loc Cert.DownBackIdeal.main_arg0)
      ∧ r.2.mem ((c.tc : Thread Cert.DownBackIdeal.nD Cert.DownBackIdeal.τ).loc Cert.DownBackIdeal.main_arg1) = m ((c.tc : Thread Cert.DownBackIdeal.nD Cert.DownBackIdeal.τ).loc Cert.DownBackIdeal.main_arg1))
      ∧ r.2.sem = fun _ => 0)

def quiescent_DownBackReferenceIdeal [hDownBackReferenceIdeal : Cert.DownBackReferenceIdeal.Facts] : Prop :=
  ∀ (m : (ℓ : Loc Cert.DownBackReferenceIdeal.nD Cert.DownBackReferenceIdeal.τ Cert.DownBackReferenceIdeal.sig) → Buf (Elt Ideal) ℓ) (g : Dev Cert.DownBackReferenceIdeal.nD → PrngReg), Pre_DownBackReferenceIdeal m →
    θ_run (Cert.DownBackReferenceIdeal.defs (F := Ideal)) (onTc (τ := Cert.DownBackReferenceIdeal.τ) (Cert.DownBackReferenceIdeal.main (F := Ideal))) ⟨m, fun _ => 0, g⟩ (fun r => (∀ c : Dev Cert.DownBackReferenceIdeal.nD,
      r.2.mem ((c.tc : Thread Cert.DownBackReferenceIdeal.nD Cert.DownBackReferenceIdeal.τ).loc Cert.DownBackReferenceIdeal.main_arg0) = m ((c.tc : Thread Cert.DownBackReferenceIdeal.nD Cert.DownBackReferenceIdeal.τ).loc Cert.DownBackReferenceIdeal.main_arg0)
      ∧ r.2.mem ((c.tc : Thread Cert.DownBackReferenceIdeal.nD Cert.DownBackReferenceIdeal.τ).loc Cert.DownBackReferenceIdeal.main_arg1) = m ((c.tc : Thread Cert.DownBackReferenceIdeal.nD Cert.DownBackReferenceIdeal.τ).loc Cert.DownBackReferenceIdeal.main_arg1))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ r.2.sem = fun _ => 0)

def quiescent_OutBackReferenceIdeal [hOutBackReferenceIdeal : Cert.OutBackReferenceIdeal.Facts] : Prop :=
  ∀ (m : (ℓ : Loc Cert.OutBackReferenceIdeal.nD Cert.OutBackReferenceIdeal.τ Cert.OutBackReferenceIdeal.sig) → Buf (Elt Ideal) ℓ) (g : Dev Cert.OutBackReferenceIdeal.nD → PrngReg), Pre_OutBackReferenceIdeal m →
    θ_run (Cert.OutBackReferenceIdeal.defs (F := Ideal)) (onTc (τ := Cert.OutBackReferenceIdeal.τ) (Cert.OutBackReferenceIdeal.main (F := Ideal))) ⟨m, fun _ => 0, g⟩ (fun r => (∀ c : Dev Cert.OutBackReferenceIdeal.nD,
      r.2.mem ((c.tc : Thread Cert.OutBackReferenceIdeal.nD Cert.OutBackReferenceIdeal.τ).loc Cert.OutBackReferenceIdeal.main_arg0) = m ((c.tc : Thread Cert.OutBackReferenceIdeal.nD Cert.OutBackReferenceIdeal.τ).loc Cert.OutBackReferenceIdeal.main_arg0)
      ∧ r.2.mem ((c.tc : Thread Cert.OutBackReferenceIdeal.nD Cert.OutBackReferenceIdeal.τ).loc Cert.OutBackReferenceIdeal.main_arg1) = m ((c.tc : Thread Cert.OutBackReferenceIdeal.nD Cert.OutBackReferenceIdeal.τ).loc Cert.OutBackReferenceIdeal.main_arg1))
      ∧ r.2.sem = fun _ => 0)

def quiescent_SbOutBack [hSbOutBack : Cert.SbOutBack.Facts] : Prop :=
  ∀ (m : (ℓ : Loc Cert.SbOutBack.nD Cert.SbOutBack.τ Cert.SbOutBack.sig) → Buf (Elt Bits) ℓ) (g : Dev Cert.SbOutBack.nD → PrngReg), Pre_SbOutBack m →
    θ_run (Cert.SbOutBack.defs (F := Bits)) (onTc (τ := Cert.SbOutBack.τ) (Cert.SbOutBack.main (F := Bits))) ⟨m, fun _ => 0, g⟩ (fun r => (∀ c : Dev Cert.SbOutBack.nD,
      r.2.mem ((c.tc : Thread Cert.SbOutBack.nD Cert.SbOutBack.τ).loc Cert.SbOutBack.main_arg0) = m ((c.tc : Thread Cert.SbOutBack.nD Cert.SbOutBack.τ).loc Cert.SbOutBack.main_arg0)
      ∧ r.2.mem ((c.tc : Thread Cert.SbOutBack.nD Cert.SbOutBack.τ).loc Cert.SbOutBack.main_arg1) = m ((c.tc : Thread Cert.SbOutBack.nD Cert.SbOutBack.τ).loc Cert.SbOutBack.main_arg1))
      ∧ r.2.sem = fun _ => 0)

def quiescent_SbOutBackIdeal [hSbOutBackIdeal : Cert.SbOutBackIdeal.Facts] : Prop :=
  ∀ (m : (ℓ : Loc Cert.SbOutBackIdeal.nD Cert.SbOutBackIdeal.τ Cert.SbOutBackIdeal.sig) → Buf (Elt Ideal) ℓ) (g : Dev Cert.SbOutBackIdeal.nD → PrngReg), Pre_SbOutBackIdeal m →
    θ_run (Cert.SbOutBackIdeal.defs (F := Ideal)) (onTc (τ := Cert.SbOutBackIdeal.τ) (Cert.SbOutBackIdeal.main (F := Ideal))) ⟨m, fun _ => 0, g⟩ (fun r => (∀ c : Dev Cert.SbOutBackIdeal.nD,
      r.2.mem ((c.tc : Thread Cert.SbOutBackIdeal.nD Cert.SbOutBackIdeal.τ).loc Cert.SbOutBackIdeal.main_arg0) = m ((c.tc : Thread Cert.SbOutBackIdeal.nD Cert.SbOutBackIdeal.τ).loc Cert.SbOutBackIdeal.main_arg0)
      ∧ r.2.mem ((c.tc : Thread Cert.SbOutBackIdeal.nD Cert.SbOutBackIdeal.τ).loc Cert.SbOutBackIdeal.main_arg1) = m ((c.tc : Thread Cert.SbOutBackIdeal.nD Cert.SbOutBackIdeal.τ).loc Cert.SbOutBackIdeal.main_arg1))
      ∧ r.2.sem = fun _ => 0)

def quiescent_SbOutBackReferenceIdeal [hSbOutBackReferenceIdeal : Cert.SbOutBackReferenceIdeal.Facts] : Prop :=
  ∀ (m : (ℓ : Loc Cert.SbOutBackReferenceIdeal.nD Cert.SbOutBackReferenceIdeal.τ Cert.SbOutBackReferenceIdeal.sig) → Buf (Elt Ideal) ℓ) (g : Dev Cert.SbOutBackReferenceIdeal.nD → PrngReg), Pre_SbOutBackReferenceIdeal m →
    θ_run (Cert.SbOutBackReferenceIdeal.defs (F := Ideal)) (onTc (τ := Cert.SbOutBackReferenceIdeal.τ) (Cert.SbOutBackReferenceIdeal.main (F := Ideal))) ⟨m, fun _ => 0, g⟩ (fun r => (∀ c : Dev Cert.SbOutBackReferenceIdeal.nD,
      r.2.mem ((c.tc : Thread Cert.SbOutBackReferenceIdeal.nD Cert.SbOutBackReferenceIdeal.τ).loc Cert.SbOutBackReferenceIdeal.main_arg0) = m ((c.tc : Thread Cert.SbOutBackReferenceIdeal.nD Cert.SbOutBackReferenceIdeal.τ).loc Cert.SbOutBackReferenceIdeal.main_arg0)
      ∧ r.2.mem ((c.tc : Thread Cert.SbOutBackReferenceIdeal.nD Cert.SbOutBackReferenceIdeal.τ).loc Cert.SbOutBackReferenceIdeal.main_arg1) = m ((c.tc : Thread Cert.SbOutBackReferenceIdeal.nD Cert.SbOutBackReferenceIdeal.τ).loc Cert.SbOutBackReferenceIdeal.main_arg1))
      ∧ r.2.sem = fun _ => 0)

def quiescent_UpBack [hUpBack : Cert.UpBack.Facts] : Prop :=
  ∀ (m : (ℓ : Loc Cert.UpBack.nD Cert.UpBack.τ Cert.UpBack.sig) → Buf (Elt Bits) ℓ) (g : Dev Cert.UpBack.nD → PrngReg), Pre_UpBack m →
    θ_run (Cert.UpBack.defs (F := Bits)) (onTc (τ := Cert.UpBack.τ) (Cert.UpBack.main (F := Bits))) ⟨m, fun _ => 0, g⟩ (fun r => (∀ c : Dev Cert.UpBack.nD,
      r.2.mem ((c.tc : Thread Cert.UpBack.nD Cert.UpBack.τ).loc Cert.UpBack.main_arg0) = m ((c.tc : Thread Cert.UpBack.nD Cert.UpBack.τ).loc Cert.UpBack.main_arg0)
      ∧ r.2.mem ((c.tc : Thread Cert.UpBack.nD Cert.UpBack.τ).loc Cert.UpBack.main_arg1) = m ((c.tc : Thread Cert.UpBack.nD Cert.UpBack.τ).loc Cert.UpBack.main_arg1)
      ∧ r.2.mem ((c.tc : Thread Cert.UpBack.nD Cert.UpBack.τ).loc Cert.UpBack.main_arg2) = m ((c.tc : Thread Cert.UpBack.nD Cert.UpBack.τ).loc Cert.UpBack.main_arg2))
      ∧ r.2.sem = fun _ => 0)

def quiescent_UpBackIdeal [hUpBackIdeal : Cert.UpBackIdeal.Facts] : Prop :=
  ∀ (m : (ℓ : Loc Cert.UpBackIdeal.nD Cert.UpBackIdeal.τ Cert.UpBackIdeal.sig) → Buf (Elt Ideal) ℓ) (g : Dev Cert.UpBackIdeal.nD → PrngReg), Pre_UpBackIdeal m →
    θ_run (Cert.UpBackIdeal.defs (F := Ideal)) (onTc (τ := Cert.UpBackIdeal.τ) (Cert.UpBackIdeal.main (F := Ideal))) ⟨m, fun _ => 0, g⟩ (fun r => (∀ c : Dev Cert.UpBackIdeal.nD,
      r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
      ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
      ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2))
      ∧ r.2.sem = fun _ => 0)

def quiescent_UpBackReferenceIdeal [hUpBackReferenceIdeal : Cert.UpBackReferenceIdeal.Facts] : Prop :=
  ∀ (m : (ℓ : Loc Cert.UpBackReferenceIdeal.nD Cert.UpBackReferenceIdeal.τ Cert.UpBackReferenceIdeal.sig) → Buf (Elt Ideal) ℓ) (g : Dev Cert.UpBackReferenceIdeal.nD → PrngReg), Pre_UpBackReferenceIdeal m →
    θ_run (Cert.UpBackReferenceIdeal.defs (F := Ideal)) (onTc (τ := Cert.UpBackReferenceIdeal.τ) (Cert.UpBackReferenceIdeal.main (F := Ideal))) ⟨m, fun _ => 0, g⟩ (fun r => (∀ c : Dev Cert.UpBackReferenceIdeal.nD,
      r.2.mem ((c.tc : Thread Cert.UpBackReferenceIdeal.nD Cert.UpBackReferenceIdeal.τ).loc Cert.UpBackReferenceIdeal.main_arg0) = m ((c.tc : Thread Cert.UpBackReferenceIdeal.nD Cert.UpBackReferenceIdeal.τ).loc Cert.UpBackReferenceIdeal.main_arg0)
      ∧ r.2.mem ((c.tc : Thread Cert.UpBackReferenceIdeal.nD Cert.UpBackReferenceIdeal.τ).loc Cert.UpBackReferenceIdeal.main_arg1) = m ((c.tc : Thread Cert.UpBackReferenceIdeal.nD Cert.UpBackReferenceIdeal.τ).loc Cert.UpBackReferenceIdeal.main_arg1)
      ∧ r.2.mem ((c.tc : Thread Cert.UpBackReferenceIdeal.nD Cert.UpBackReferenceIdeal.τ).loc Cert.UpBackReferenceIdeal.main_arg2) = m ((c.tc : Thread Cert.UpBackReferenceIdeal.nD Cert.UpBackReferenceIdeal.τ).loc Cert.UpBackReferenceIdeal.main_arg2))
      ∧ r.2.sem = fun _ => 0)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1)
      ∧ r.2.mem ((c.tc : Thread Cert.InBack.nD Cert.InBack.τ).loc Cert.InBack.main_arg2) = m ((c.tc : Thread Cert.InBack.nD Cert.InBack.τ).loc Cert.InBack.main_arg2))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2))
      ∧ r.2.sem = fun _ => 0)

def quiescent_InBackReferenceIdeal [hInBackReferenceIdeal : Cert.InBackReferenceIdeal.Facts] : Prop :=
  ∀ (m : (ℓ : Loc Cert.InBackReferenceIdeal.nD Cert.InBackReferenceIdeal.τ Cert.InBackReferenceIdeal.sig) → Buf (Elt Ideal) ℓ) (g : Dev Cert.InBackReferenceIdeal.nD → PrngReg), Pre_InBackReferenceIdeal m →
    θ_run (Cert.InBackReferenceIdeal.defs (F := Ideal)) (onTc (τ := Cert.InBackReferenceIdeal.τ) (Cert.InBackReferenceIdeal.main (F := Ideal))) ⟨m, fun _ => 0, g⟩ (fun r => (∀ c : Dev Cert.InBackReferenceIdeal.nD,
      r.2.mem ((c.tc : Thread Cert.InBackReferenceIdeal.nD Cert.InBackReferenceIdeal.τ).loc Cert.InBackReferenceIdeal.main_arg0) = m ((c.tc : Thread Cert.InBackReferenceIdeal.nD Cert.InBackReferenceIdeal.τ).loc Cert.InBackReferenceIdeal.main_arg0)
      ∧ r.2.mem ((c.tc : Thread Cert.InBackReferenceIdeal.nD Cert.InBackReferenceIdeal.τ).loc Cert.InBackReferenceIdeal.main_arg1) = m ((c.tc : Thread Cert.InBackReferenceIdeal.nD Cert.InBackReferenceIdeal.τ).loc Cert.InBackReferenceIdeal.main_arg1)
      ∧ r.2.mem ((c.tc : Thread Cert.InBackReferenceIdeal.nD Cert.InBackReferenceIdeal.τ).loc Cert.InBackReferenceIdeal.main_arg2) = m ((c.tc : Thread Cert.InBackReferenceIdeal.nD Cert.InBackReferenceIdeal.τ).loc Cert.InBackReferenceIdeal.main_arg2))
      ∧ r.2.sem = fun _ => 0)

def quiescent_GluIn [hGluIn : Cert.GluIn.Facts] : Prop :=
  ∀ (m : (ℓ : Loc Cert.GluIn.nD Cert.GluIn.τ Cert.GluIn.sig) → Buf (Elt Bits) ℓ) (g : Dev Cert.GluIn.nD → PrngReg), Pre_GluIn m →
    θ_run (Cert.GluIn.defs (F := Bits)) (onTc (τ := Cert.GluIn.τ) (Cert.GluIn.main (F := Bits))) ⟨m, fun _ => 0, g⟩ (fun r => (∀ c : Dev Cert.GluIn.nD,
      r.2.mem ((c.tc : Thread Cert.GluIn.nD Cert.GluIn.τ).loc Cert.GluIn.main_arg0) = m ((c.tc : Thread Cert.GluIn.nD Cert.GluIn.τ).loc Cert.GluIn.main_arg0)
      ∧ r.2.mem ((c.tc : Thread Cert.GluIn.nD Cert.GluIn.τ).loc Cert.GluIn.main_arg1) = m ((c.tc : Thread Cert.GluIn.nD Cert.GluIn.τ).loc Cert.GluIn.main_arg1))
      ∧ r.2.sem = fun _ => 0)

def quiescent_GluInIdeal [hGluInIdeal : Cert.GluInIdeal.Facts] : Prop :=
  ∀ (m : (ℓ : Loc Cert.GluInIdeal.nD Cert.GluInIdeal.τ Cert.GluInIdeal.sig) → Buf (Elt Ideal) ℓ) (g : Dev Cert.GluInIdeal.nD → PrngReg), Pre_GluInIdeal m →
    θ_run (Cert.GluInIdeal.defs (F := Ideal)) (onTc (τ := Cert.GluInIdeal.τ) (Cert.GluInIdeal.main (F := Ideal))) ⟨m, fun _ => 0, g⟩ (fun r => (∀ c : Dev Cert.GluInIdeal.nD,
      r.2.mem ((c.tc : Thread Cert.GluInIdeal.nD Cert.GluInIdeal.τ).loc Cert.GluInIdeal.main_arg0) = m ((c.tc : Thread Cert.GluInIdeal.nD Cert.GluInIdeal.τ).loc Cert.GluInIdeal.main_arg0)
      ∧ r.2.mem ((c.tc : Thread Cert.GluInIdeal.nD Cert.GluInIdeal.τ).loc Cert.GluInIdeal.main_arg1) = m ((c.tc : Thread Cert.GluInIdeal.nD Cert.GluInIdeal.τ).loc Cert.GluInIdeal.main_arg1))
      ∧ r.2.sem = fun _ => 0)

def quiescent_GluInReferenceIdeal [hGluInReferenceIdeal : Cert.GluInReferenceIdeal.Facts] : Prop :=
  ∀ (m : (ℓ : Loc Cert.GluInReferenceIdeal.nD Cert.GluInReferenceIdeal.τ Cert.GluInReferenceIdeal.sig) → Buf (Elt Ideal) ℓ) (g : Dev Cert.GluInReferenceIdeal.nD → PrngReg), Pre_GluInReferenceIdeal m →
    θ_run (Cert.GluInReferenceIdeal.defs (F := Ideal)) (onTc (τ := Cert.GluInReferenceIdeal.τ) (Cert.GluInReferenceIdeal.main (F := Ideal))) ⟨m, fun _ => 0, g⟩ (fun r => (∀ c : Dev Cert.GluInReferenceIdeal.nD,
      r.2.mem ((c.tc : Thread Cert.GluInReferenceIdeal.nD Cert.GluInReferenceIdeal.τ).loc Cert.GluInReferenceIdeal.main_arg0) = m ((c.tc : Thread Cert.GluInReferenceIdeal.nD Cert.GluInReferenceIdeal.τ).loc Cert.GluInReferenceIdeal.main_arg0)
      ∧ r.2.mem ((c.tc : Thread Cert.GluInReferenceIdeal.nD Cert.GluInReferenceIdeal.τ).loc Cert.GluInReferenceIdeal.main_arg1) = m ((c.tc : Thread Cert.GluInReferenceIdeal.nD Cert.GluInReferenceIdeal.τ).loc Cert.GluInReferenceIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_SsmOutReferenceIdeal [hSsmOutReferenceIdeal : Cert.SsmOutReferenceIdeal.Facts] : Prop :=
  ∀ (m : (ℓ : Loc Cert.SsmOutReferenceIdeal.nD Cert.SsmOutReferenceIdeal.τ Cert.SsmOutReferenceIdeal.sig) → Buf (Elt Ideal) ℓ) (g : Dev Cert.SsmOutReferenceIdeal.nD → PrngReg), Pre_SsmOutReferenceIdeal m →
    θ_run (Cert.SsmOutReferenceIdeal.defs (F := Ideal)) (onTc (τ := Cert.SsmOutReferenceIdeal.τ) (Cert.SsmOutReferenceIdeal.main (F := Ideal))) ⟨m, fun _ => 0, g⟩ (fun r => (∀ c : Dev Cert.SsmOutReferenceIdeal.nD,
      r.2.mem ((c.tc : Thread Cert.SsmOutReferenceIdeal.nD Cert.SsmOutReferenceIdeal.τ).loc Cert.SsmOutReferenceIdeal.main_arg0) = m ((c.tc : Thread Cert.SsmOutReferenceIdeal.nD Cert.SsmOutReferenceIdeal.τ).loc Cert.SsmOutReferenceIdeal.main_arg0)
      ∧ r.2.mem ((c.tc : Thread Cert.SsmOutReferenceIdeal.nD Cert.SsmOutReferenceIdeal.τ).loc Cert.SsmOutReferenceIdeal.main_arg1) = m ((c.tc : Thread Cert.SsmOutReferenceIdeal.nD Cert.SsmOutReferenceIdeal.τ).loc Cert.SsmOutReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_SsmOutBack [hSsmOutBack : Cert.SsmOutBack.Facts] : Prop :=
  ∀ (m : (ℓ : Loc Cert.SsmOutBack.nD Cert.SsmOutBack.τ Cert.SsmOutBack.sig) → Buf (Elt Bits) ℓ) (g : Dev Cert.SsmOutBack.nD → PrngReg), Pre_SsmOutBack m →
    θ_run (Cert.SsmOutBack.defs (F := Bits)) (onTc (τ := Cert.SsmOutBack.τ) (Cert.SsmOutBack.main (F := Bits))) ⟨m, fun _ => 0, g⟩ (fun r => (∀ c : Dev Cert.SsmOutBack.nD,
      r.2.mem ((c.tc : Thread Cert.SsmOutBack.nD Cert.SsmOutBack.τ).loc Cert.SsmOutBack.main_arg0) = m ((c.tc : Thread Cert.SsmOutBack.nD Cert.SsmOutBack.τ).loc Cert.SsmOutBack.main_arg0)
      ∧ r.2.mem ((c.tc : Thread Cert.SsmOutBack.nD Cert.SsmOutBack.τ).loc Cert.SsmOutBack.main_arg1) = m ((c.tc : Thread Cert.SsmOutBack.nD Cert.SsmOutBack.τ).loc Cert.SsmOutBack.main_arg1))
      ∧ r.2.sem = fun _ => 0)

def quiescent_SsmOutBackIdeal [hSsmOutBackIdeal : Cert.SsmOutBackIdeal.Facts] : Prop :=
  ∀ (m : (ℓ : Loc Cert.SsmOutBackIdeal.nD Cert.SsmOutBackIdeal.τ Cert.SsmOutBackIdeal.sig) → Buf (Elt Ideal) ℓ) (g : Dev Cert.SsmOutBackIdeal.nD → PrngReg), Pre_SsmOutBackIdeal m →
    θ_run (Cert.SsmOutBackIdeal.defs (F := Ideal)) (onTc (τ := Cert.SsmOutBackIdeal.τ) (Cert.SsmOutBackIdeal.main (F := Ideal))) ⟨m, fun _ => 0, g⟩ (fun r => (∀ c : Dev Cert.SsmOutBackIdeal.nD,
      r.2.mem ((c.tc : Thread Cert.SsmOutBackIdeal.nD Cert.SsmOutBackIdeal.τ).loc Cert.SsmOutBackIdeal.main_arg0) = m ((c.tc : Thread Cert.SsmOutBackIdeal.nD Cert.SsmOutBackIdeal.τ).loc Cert.SsmOutBackIdeal.main_arg0)
      ∧ r.2.mem ((c.tc : Thread Cert.SsmOutBackIdeal.nD Cert.SsmOutBackIdeal.τ).loc Cert.SsmOutBackIdeal.main_arg1) = m ((c.tc : Thread Cert.SsmOutBackIdeal.nD Cert.SsmOutBackIdeal.τ).loc Cert.SsmOutBackIdeal.main_arg1))
      ∧ r.2.sem = fun _ => 0)

def quiescent_SsmOutBackReferenceIdeal [hSsmOutBackReferenceIdeal : Cert.SsmOutBackReferenceIdeal.Facts] : Prop :=
  ∀ (m : (ℓ : Loc Cert.SsmOutBackReferenceIdeal.nD Cert.SsmOutBackReferenceIdeal.τ Cert.SsmOutBackReferenceIdeal.sig) → Buf (Elt Ideal) ℓ) (g : Dev Cert.SsmOutBackReferenceIdeal.nD → PrngReg), Pre_SsmOutBackReferenceIdeal m →
    θ_run (Cert.SsmOutBackReferenceIdeal.defs (F := Ideal)) (onTc (τ := Cert.SsmOutBackReferenceIdeal.τ) (Cert.SsmOutBackReferenceIdeal.main (F := Ideal))) ⟨m, fun _ => 0, g⟩ (fun r => (∀ c : Dev Cert.SsmOutBackReferenceIdeal.nD,
      r.2.mem ((c.tc : Thread Cert.SsmOutBackReferenceIdeal.nD Cert.SsmOutBackReferenceIdeal.τ).loc Cert.SsmOutBackReferenceIdeal.main_arg0) = m ((c.tc : Thread Cert.SsmOutBackReferenceIdeal.nD Cert.SsmOutBackReferenceIdeal.τ).loc Cert.SsmOutBackReferenceIdeal.main_arg0)
      ∧ r.2.mem ((c.tc : Thread Cert.SsmOutBackReferenceIdeal.nD Cert.SsmOutBackReferenceIdeal.τ).loc Cert.SsmOutBackReferenceIdeal.main_arg1) = m ((c.tc : Thread Cert.SsmOutBackReferenceIdeal.nD Cert.SsmOutBackReferenceIdeal.τ).loc Cert.SsmOutBackReferenceIdeal.main_arg1))
      ∧ r.2.sem = fun _ => 0)

def quiescent_MemOutBack [hMemOutBack : Cert.MemOutBack.Facts] : Prop :=
  ∀ (m : (ℓ : Loc Cert.MemOutBack.nD Cert.MemOutBack.τ Cert.MemOutBack.sig) → Buf (Elt Bits) ℓ) (g : Dev Cert.MemOutBack.nD → PrngReg), Pre_MemOutBack m →
    θ_run (Cert.MemOutBack.defs (F := Bits)) (onTc (τ := Cert.MemOutBack.τ) (Cert.MemOutBack.main (F := Bits))) ⟨m, fun _ => 0, g⟩ (fun r => (∀ c : Dev Cert.MemOutBack.nD,
      r.2.mem ((c.tc : Thread Cert.MemOutBack.nD Cert.MemOutBack.τ).loc Cert.MemOutBack.main_arg0) = m ((c.tc : Thread Cert.MemOutBack.nD Cert.MemOutBack.τ).loc Cert.MemOutBack.main_arg0)
      ∧ r.2.mem ((c.tc : Thread Cert.MemOutBack.nD Cert.MemOutBack.τ).loc Cert.MemOutBack.main_arg1) = m ((c.tc : Thread Cert.MemOutBack.nD Cert.MemOutBack.τ).loc Cert.MemOutBack.main_arg1))
      ∧ r.2.sem = fun _ => 0)

def quiescent_MemOutBackIdeal [hMemOutBackIdeal : Cert.MemOutBackIdeal.Facts] : Prop :=
  ∀ (m : (ℓ : Loc Cert.MemOutBackIdeal.nD Cert.MemOutBackIdeal.τ Cert.MemOutBackIdeal.sig) → Buf (Elt Ideal) ℓ) (g : Dev Cert.MemOutBackIdeal.nD → PrngReg), Pre_MemOutBackIdeal m →
    θ_run (Cert.MemOutBackIdeal.defs (F := Ideal)) (onTc (τ := Cert.MemOutBackIdeal.τ) (Cert.MemOutBackIdeal.main (F := Ideal))) ⟨m, fun _ => 0, g⟩ (fun r => (∀ c : Dev Cert.MemOutBackIdeal.nD,
      r.2.mem ((c.tc : Thread Cert.MemOutBackIdeal.nD Cert.MemOutBackIdeal.τ).loc Cert.MemOutBackIdeal.main_arg0) = m ((c.tc : Thread Cert.MemOutBackIdeal.nD Cert.MemOutBackIdeal.τ).loc Cert.MemOutBackIdeal.main_arg0)
      ∧ r.2.mem ((c.tc : Thread Cert.MemOutBackIdeal.nD Cert.MemOutBackIdeal.τ).loc Cert.MemOutBackIdeal.main_arg1) = m ((c.tc : Thread Cert.MemOutBackIdeal.nD Cert.MemOutBackIdeal.τ).loc Cert.MemOutBackIdeal.main_arg1))
      ∧ r.2.sem = fun _ => 0)

def quiescent_MemOutBackReferenceIdeal [hMemOutBackReferenceIdeal : Cert.MemOutBackReferenceIdeal.Facts] : Prop :=
  ∀ (m : (ℓ : Loc Cert.MemOutBackReferenceIdeal.nD Cert.MemOutBackReferenceIdeal.τ Cert.MemOutBackReferenceIdeal.sig) → Buf (Elt Ideal) ℓ) (g : Dev Cert.MemOutBackReferenceIdeal.nD → PrngReg), Pre_MemOutBackReferenceIdeal m →
    θ_run (Cert.MemOutBackReferenceIdeal.defs (F := Ideal)) (onTc (τ := Cert.MemOutBackReferenceIdeal.τ) (Cert.MemOutBackReferenceIdeal.main (F := Ideal))) ⟨m, fun _ => 0, g⟩ (fun r => (∀ c : Dev Cert.MemOutBackReferenceIdeal.nD,
      r.2.mem ((c.tc : Thread Cert.MemOutBackReferenceIdeal.nD Cert.MemOutBackReferenceIdeal.τ).loc Cert.MemOutBackReferenceIdeal.main_arg0) = m ((c.tc : Thread Cert.MemOutBackReferenceIdeal.nD Cert.MemOutBackReferenceIdeal.τ).loc Cert.MemOutBackReferenceIdeal.main_arg0)
      ∧ r.2.mem ((c.tc : Thread Cert.MemOutBackReferenceIdeal.nD Cert.MemOutBackReferenceIdeal.τ).loc Cert.MemOutBackReferenceIdeal.main_arg1) = m ((c.tc : Thread Cert.MemOutBackReferenceIdeal.nD Cert.MemOutBackReferenceIdeal.τ).loc Cert.MemOutBackReferenceIdeal.main_arg1))
      ∧ r.2.sem = fun _ => 0)

def quiescent_GluInBack [hGluInBack : Cert.GluInBack.Facts] : Prop :=
  ∀ (m : (ℓ : Loc Cert.GluInBack.nD Cert.GluInBack.τ Cert.GluInBack.sig) → Buf (Elt Bits) ℓ) (g : Dev Cert.GluInBack.nD → PrngReg), Pre_GluInBack m →
    θ_run (Cert.GluInBack.defs (F := Bits)) (onTc (τ := Cert.GluInBack.τ) (Cert.GluInBack.main (F := Bits))) ⟨m, fun _ => 0, g⟩ (fun r => (∀ c : Dev Cert.GluInBack.nD,
      r.2.mem ((c.tc : Thread Cert.GluInBack.nD Cert.GluInBack.τ).loc Cert.GluInBack.main_arg0) = m ((c.tc : Thread Cert.GluInBack.nD Cert.GluInBack.τ).loc Cert.GluInBack.main_arg0)
      ∧ r.2.mem ((c.tc : Thread Cert.GluInBack.nD Cert.GluInBack.τ).loc Cert.GluInBack.main_arg1) = m ((c.tc : Thread Cert.GluInBack.nD Cert.GluInBack.τ).loc Cert.GluInBack.main_arg1))
      ∧ r.2.sem = fun _ => 0)

def quiescent_GluInBackIdeal [hGluInBackIdeal : Cert.GluInBackIdeal.Facts] : Prop :=
  ∀ (m : (ℓ : Loc Cert.GluInBackIdeal.nD Cert.GluInBackIdeal.τ Cert.GluInBackIdeal.sig) → Buf (Elt Ideal) ℓ) (g : Dev Cert.GluInBackIdeal.nD → PrngReg), Pre_GluInBackIdeal m →
    θ_run (Cert.GluInBackIdeal.defs (F := Ideal)) (onTc (τ := Cert.GluInBackIdeal.τ) (Cert.GluInBackIdeal.main (F := Ideal))) ⟨m, fun _ => 0, g⟩ (fun r => (∀ c : Dev Cert.GluInBackIdeal.nD,
      r.2.mem ((c.tc : Thread Cert.GluInBackIdeal.nD Cert.GluInBackIdeal.τ).loc Cert.GluInBackIdeal.main_arg0) = m ((c.tc : Thread Cert.GluInBackIdeal.nD Cert.GluInBackIdeal.τ).loc Cert.GluInBackIdeal.main_arg0)
      ∧ r.2.mem ((c.tc : Thread Cert.GluInBackIdeal.nD Cert.GluInBackIdeal.τ).loc Cert.GluInBackIdeal.main_arg1) = m ((c.tc : Thread Cert.GluInBackIdeal.nD Cert.GluInBackIdeal.τ).loc Cert.GluInBackIdeal.main_arg1))
      ∧ r.2.sem = fun _ => 0)

def quiescent_GluInBackReferenceIdeal [hGluInBackReferenceIdeal : Cert.GluInBackReferenceIdeal.Facts] : Prop :=
  ∀ (m : (ℓ : Loc Cert.GluInBackReferenceIdeal.nD Cert.GluInBackReferenceIdeal.τ Cert.GluInBackReferenceIdeal.sig) → Buf (Elt Ideal) ℓ) (g : Dev Cert.GluInBackReferenceIdeal.nD → PrngReg), Pre_GluInBackReferenceIdeal m →
    θ_run (Cert.GluInBackReferenceIdeal.defs (F := Ideal)) (onTc (τ := Cert.GluInBackReferenceIdeal.τ) (Cert.GluInBackReferenceIdeal.main (F := Ideal))) ⟨m, fun _ => 0, g⟩ (fun r => (∀ c : Dev Cert.GluInBackReferenceIdeal.nD,
      r.2.mem ((c.tc : Thread Cert.GluInBackReferenceIdeal.nD Cert.GluInBackReferenceIdeal.τ).loc Cert.GluInBackReferenceIdeal.main_arg0) = m ((c.tc : Thread Cert.GluInBackReferenceIdeal.nD Cert.GluInBackReferenceIdeal.τ).loc Cert.GluInBackReferenceIdeal.main_arg0)
      ∧ r.2.mem ((c.tc : Thread Cert.GluInBackReferenceIdeal.nD Cert.GluInBackReferenceIdeal.τ).loc Cert.GluInBackReferenceIdeal.main_arg1) = m ((c.tc : Thread Cert.GluInBackReferenceIdeal.nD Cert.GluInBackReferenceIdeal.τ).loc Cert.GluInBackReferenceIdeal.main_arg1))
      ∧ r.2.sem = fun _ => 0)

def quiescent_SsmOutGrad [hSsmOutGrad : Cert.SsmOutGrad.Facts] : Prop :=
  ∀ (m : (ℓ : Loc Cert.SsmOutGrad.nD Cert.SsmOutGrad.τ Cert.SsmOutGrad.sig) → Buf (Elt Bits) ℓ) (g : Dev Cert.SsmOutGrad.nD → PrngReg), Pre_SsmOutGrad m →
    θ_run (Cert.SsmOutGrad.defs (F := Bits)) (onTc (τ := Cert.SsmOutGrad.τ) (Cert.SsmOutGrad.main (F := Bits))) ⟨m, fun _ => 0, g⟩ (fun r => (∀ c : Dev Cert.SsmOutGrad.nD,
      r.2.mem ((c.tc : Thread Cert.SsmOutGrad.nD Cert.SsmOutGrad.τ).loc Cert.SsmOutGrad.main_arg0) = m ((c.tc : Thread Cert.SsmOutGrad.nD Cert.SsmOutGrad.τ).loc Cert.SsmOutGrad.main_arg0)
      ∧ r.2.mem ((c.tc : Thread Cert.SsmOutGrad.nD Cert.SsmOutGrad.τ).loc Cert.SsmOutGrad.main_arg1) = m ((c.tc : Thread Cert.SsmOutGrad.nD Cert.SsmOutGrad.τ).loc Cert.SsmOutGrad.main_arg1))
      ∧ r.2.sem = fun _ => 0)

def quiescent_SsmOutGradIdeal [hSsmOutGradIdeal : Cert.SsmOutGradIdeal.Facts] : Prop :=
  ∀ (m : (ℓ : Loc Cert.SsmOutGradIdeal.nD Cert.SsmOutGradIdeal.τ Cert.SsmOutGradIdeal.sig) → Buf (Elt Ideal) ℓ) (g : Dev Cert.SsmOutGradIdeal.nD → PrngReg), Pre_SsmOutGradIdeal m →
    θ_run (Cert.SsmOutGradIdeal.defs (F := Ideal)) (onTc (τ := Cert.SsmOutGradIdeal.τ) (Cert.SsmOutGradIdeal.main (F := Ideal))) ⟨m, fun _ => 0, g⟩ (fun r => (∀ c : Dev Cert.SsmOutGradIdeal.nD,
      r.2.mem ((c.tc : Thread Cert.SsmOutGradIdeal.nD Cert.SsmOutGradIdeal.τ).loc Cert.SsmOutGradIdeal.main_arg0) = m ((c.tc : Thread Cert.SsmOutGradIdeal.nD Cert.SsmOutGradIdeal.τ).loc Cert.SsmOutGradIdeal.main_arg0)
      ∧ r.2.mem ((c.tc : Thread Cert.SsmOutGradIdeal.nD Cert.SsmOutGradIdeal.τ).loc Cert.SsmOutGradIdeal.main_arg1) = m ((c.tc : Thread Cert.SsmOutGradIdeal.nD Cert.SsmOutGradIdeal.τ).loc Cert.SsmOutGradIdeal.main_arg1))
      ∧ r.2.sem = fun _ => 0)

def quiescent_SsmOutGradReferenceIdeal [hSsmOutGradReferenceIdeal : Cert.SsmOutGradReferenceIdeal.Facts] : Prop :=
  ∀ (m : (ℓ : Loc Cert.SsmOutGradReferenceIdeal.nD Cert.SsmOutGradReferenceIdeal.τ Cert.SsmOutGradReferenceIdeal.sig) → Buf (Elt Ideal) ℓ) (g : Dev Cert.SsmOutGradReferenceIdeal.nD → PrngReg), Pre_SsmOutGradReferenceIdeal m →
    θ_run (Cert.SsmOutGradReferenceIdeal.defs (F := Ideal)) (onTc (τ := Cert.SsmOutGradReferenceIdeal.τ) (Cert.SsmOutGradReferenceIdeal.main (F := Ideal))) ⟨m, fun _ => 0, g⟩ (fun r => (∀ c : Dev Cert.SsmOutGradReferenceIdeal.nD,
      r.2.mem ((c.tc : Thread Cert.SsmOutGradReferenceIdeal.nD Cert.SsmOutGradReferenceIdeal.τ).loc Cert.SsmOutGradReferenceIdeal.main_arg0) = m ((c.tc : Thread Cert.SsmOutGradReferenceIdeal.nD Cert.SsmOutGradReferenceIdeal.τ).loc Cert.SsmOutGradReferenceIdeal.main_arg0)
      ∧ r.2.mem ((c.tc : Thread Cert.SsmOutGradReferenceIdeal.nD Cert.SsmOutGradReferenceIdeal.τ).loc Cert.SsmOutGradReferenceIdeal.main_arg1) = m ((c.tc : Thread Cert.SsmOutGradReferenceIdeal.nD Cert.SsmOutGradReferenceIdeal.τ).loc Cert.SsmOutGradReferenceIdeal.main_arg1))
      ∧ r.2.sem = fun _ => 0)

def quiescent_GluInGrad [hGluInGrad : Cert.GluInGrad.Facts] : Prop :=
  ∀ (m : (ℓ : Loc Cert.GluInGrad.nD Cert.GluInGrad.τ Cert.GluInGrad.sig) → Buf (Elt Bits) ℓ) (g : Dev Cert.GluInGrad.nD → PrngReg), Pre_GluInGrad m →
    θ_run (Cert.GluInGrad.defs (F := Bits)) (onTc (τ := Cert.GluInGrad.τ) (Cert.GluInGrad.main (F := Bits))) ⟨m, fun _ => 0, g⟩ (fun r => (∀ c : Dev Cert.GluInGrad.nD,
      r.2.mem ((c.tc : Thread Cert.GluInGrad.nD Cert.GluInGrad.τ).loc Cert.GluInGrad.main_arg0) = m ((c.tc : Thread Cert.GluInGrad.nD Cert.GluInGrad.τ).loc Cert.GluInGrad.main_arg0)
      ∧ r.2.mem ((c.tc : Thread Cert.GluInGrad.nD Cert.GluInGrad.τ).loc Cert.GluInGrad.main_arg1) = m ((c.tc : Thread Cert.GluInGrad.nD Cert.GluInGrad.τ).loc Cert.GluInGrad.main_arg1))
      ∧ r.2.sem = fun _ => 0)

def quiescent_GluInGradIdeal [hGluInGradIdeal : Cert.GluInGradIdeal.Facts] : Prop :=
  ∀ (m : (ℓ : Loc Cert.GluInGradIdeal.nD Cert.GluInGradIdeal.τ Cert.GluInGradIdeal.sig) → Buf (Elt Ideal) ℓ) (g : Dev Cert.GluInGradIdeal.nD → PrngReg), Pre_GluInGradIdeal m →
    θ_run (Cert.GluInGradIdeal.defs (F := Ideal)) (onTc (τ := Cert.GluInGradIdeal.τ) (Cert.GluInGradIdeal.main (F := Ideal))) ⟨m, fun _ => 0, g⟩ (fun r => (∀ c : Dev Cert.GluInGradIdeal.nD,
      r.2.mem ((c.tc : Thread Cert.GluInGradIdeal.nD Cert.GluInGradIdeal.τ).loc Cert.GluInGradIdeal.main_arg0) = m ((c.tc : Thread Cert.GluInGradIdeal.nD Cert.GluInGradIdeal.τ).loc Cert.GluInGradIdeal.main_arg0)
      ∧ r.2.mem ((c.tc : Thread Cert.GluInGradIdeal.nD Cert.GluInGradIdeal.τ).loc Cert.GluInGradIdeal.main_arg1) = m ((c.tc : Thread Cert.GluInGradIdeal.nD Cert.GluInGradIdeal.τ).loc Cert.GluInGradIdeal.main_arg1))
      ∧ r.2.sem = fun _ => 0)

def quiescent_GluInGradReferenceIdeal [hGluInGradReferenceIdeal : Cert.GluInGradReferenceIdeal.Facts] : Prop :=
  ∀ (m : (ℓ : Loc Cert.GluInGradReferenceIdeal.nD Cert.GluInGradReferenceIdeal.τ Cert.GluInGradReferenceIdeal.sig) → Buf (Elt Ideal) ℓ) (g : Dev Cert.GluInGradReferenceIdeal.nD → PrngReg), Pre_GluInGradReferenceIdeal m →
    θ_run (Cert.GluInGradReferenceIdeal.defs (F := Ideal)) (onTc (τ := Cert.GluInGradReferenceIdeal.τ) (Cert.GluInGradReferenceIdeal.main (F := Ideal))) ⟨m, fun _ => 0, g⟩ (fun r => (∀ c : Dev Cert.GluInGradReferenceIdeal.nD,
      r.2.mem ((c.tc : Thread Cert.GluInGradReferenceIdeal.nD Cert.GluInGradReferenceIdeal.τ).loc Cert.GluInGradReferenceIdeal.main_arg0) = m ((c.tc : Thread Cert.GluInGradReferenceIdeal.nD Cert.GluInGradReferenceIdeal.τ).loc Cert.GluInGradReferenceIdeal.main_arg0)
      ∧ r.2.mem ((c.tc : Thread Cert.GluInGradReferenceIdeal.nD Cert.GluInGradReferenceIdeal.τ).loc Cert.GluInGradReferenceIdeal.main_arg1) = m ((c.tc : Thread Cert.GluInGradReferenceIdeal.nD Cert.GluInGradReferenceIdeal.τ).loc Cert.GluInGradReferenceIdeal.main_arg1))
      ∧ r.2.sem = fun _ => 0)

def quiescent_BGrad [hBGrad : Cert.BGrad.Facts] : Prop :=
  ∀ (m : (ℓ : Loc Cert.BGrad.nD Cert.BGrad.τ Cert.BGrad.sig) → Buf (Elt Bits) ℓ) (g : Dev Cert.BGrad.nD → PrngReg), Pre_BGrad m →
    θ_run (Cert.BGrad.defs (F := Bits)) (onTc (τ := Cert.BGrad.τ) (Cert.BGrad.main (F := Bits))) ⟨m, fun _ => 0, g⟩ (fun r => (∀ c : Dev Cert.BGrad.nD,
      r.2.mem ((c.tc : Thread Cert.BGrad.nD Cert.BGrad.τ).loc Cert.BGrad.main_arg0) = m ((c.tc : Thread Cert.BGrad.nD Cert.BGrad.τ).loc Cert.BGrad.main_arg0)
      ∧ r.2.mem ((c.tc : Thread Cert.BGrad.nD Cert.BGrad.τ).loc Cert.BGrad.main_arg1) = m ((c.tc : Thread Cert.BGrad.nD Cert.BGrad.τ).loc Cert.BGrad.main_arg1))
      ∧ r.2.sem = fun _ => 0)

def quiescent_BGradIdeal [hBGradIdeal : Cert.BGradIdeal.Facts] : Prop :=
  ∀ (m : (ℓ : Loc Cert.BGradIdeal.nD Cert.BGradIdeal.τ Cert.BGradIdeal.sig) → Buf (Elt Ideal) ℓ) (g : Dev Cert.BGradIdeal.nD → PrngReg), Pre_BGradIdeal m →
    θ_run (Cert.BGradIdeal.defs (F := Ideal)) (onTc (τ := Cert.BGradIdeal.τ) (Cert.BGradIdeal.main (F := Ideal))) ⟨m, fun _ => 0, g⟩ (fun r => (∀ c : Dev Cert.BGradIdeal.nD,
      r.2.mem ((c.tc : Thread Cert.BGradIdeal.nD Cert.BGradIdeal.τ).loc Cert.BGradIdeal.main_arg0) = m ((c.tc : Thread Cert.BGradIdeal.nD Cert.BGradIdeal.τ).loc Cert.BGradIdeal.main_arg0)
      ∧ r.2.mem ((c.tc : Thread Cert.BGradIdeal.nD Cert.BGradIdeal.τ).loc Cert.BGradIdeal.main_arg1) = m ((c.tc : Thread Cert.BGradIdeal.nD Cert.BGradIdeal.τ).loc Cert.BGradIdeal.main_arg1))
      ∧ r.2.sem = fun _ => 0)

def quiescent_BGradReferenceIdeal [hBGradReferenceIdeal : Cert.BGradReferenceIdeal.Facts] : Prop :=
  ∀ (m : (ℓ : Loc Cert.BGradReferenceIdeal.nD Cert.BGradReferenceIdeal.τ Cert.BGradReferenceIdeal.sig) → Buf (Elt Ideal) ℓ) (g : Dev Cert.BGradReferenceIdeal.nD → PrngReg), Pre_BGradReferenceIdeal m →
    θ_run (Cert.BGradReferenceIdeal.defs (F := Ideal)) (onTc (τ := Cert.BGradReferenceIdeal.τ) (Cert.BGradReferenceIdeal.main (F := Ideal))) ⟨m, fun _ => 0, g⟩ (fun r => (∀ c : Dev Cert.BGradReferenceIdeal.nD,
      r.2.mem ((c.tc : Thread Cert.BGradReferenceIdeal.nD Cert.BGradReferenceIdeal.τ).loc Cert.BGradReferenceIdeal.main_arg0) = m ((c.tc : Thread Cert.BGradReferenceIdeal.nD Cert.BGradReferenceIdeal.τ).loc Cert.BGradReferenceIdeal.main_arg0)
      ∧ r.2.mem ((c.tc : Thread Cert.BGradReferenceIdeal.nD Cert.BGradReferenceIdeal.τ).loc Cert.BGradReferenceIdeal.main_arg1) = m ((c.tc : Thread Cert.BGradReferenceIdeal.nD Cert.BGradReferenceIdeal.τ).loc Cert.BGradReferenceIdeal.main_arg1))
      ∧ r.2.sem = fun _ => 0)

def quiescent_CGrad [hCGrad : Cert.CGrad.Facts] : Prop :=
  ∀ (m : (ℓ : Loc Cert.CGrad.nD Cert.CGrad.τ Cert.CGrad.sig) → Buf (Elt Bits) ℓ) (g : Dev Cert.CGrad.nD → PrngReg), Pre_CGrad m →
    θ_run (Cert.CGrad.defs (F := Bits)) (onTc (τ := Cert.CGrad.τ) (Cert.CGrad.main (F := Bits))) ⟨m, fun _ => 0, g⟩ (fun r => (∀ c : Dev Cert.CGrad.nD,
      r.2.mem ((c.tc : Thread Cert.CGrad.nD Cert.CGrad.τ).loc Cert.CGrad.main_arg0) = m ((c.tc : Thread Cert.CGrad.nD Cert.CGrad.τ).loc Cert.CGrad.main_arg0)
      ∧ r.2.mem ((c.tc : Thread Cert.CGrad.nD Cert.CGrad.τ).loc Cert.CGrad.main_arg1) = m ((c.tc : Thread Cert.CGrad.nD Cert.CGrad.τ).loc Cert.CGrad.main_arg1))
      ∧ r.2.sem = fun _ => 0)

def quiescent_CGradIdeal [hCGradIdeal : Cert.CGradIdeal.Facts] : Prop :=
  ∀ (m : (ℓ : Loc Cert.CGradIdeal.nD Cert.CGradIdeal.τ Cert.CGradIdeal.sig) → Buf (Elt Ideal) ℓ) (g : Dev Cert.CGradIdeal.nD → PrngReg), Pre_CGradIdeal m →
    θ_run (Cert.CGradIdeal.defs (F := Ideal)) (onTc (τ := Cert.CGradIdeal.τ) (Cert.CGradIdeal.main (F := Ideal))) ⟨m, fun _ => 0, g⟩ (fun r => (∀ c : Dev Cert.CGradIdeal.nD,
      r.2.mem ((c.tc : Thread Cert.CGradIdeal.nD Cert.CGradIdeal.τ).loc Cert.CGradIdeal.main_arg0) = m ((c.tc : Thread Cert.CGradIdeal.nD Cert.CGradIdeal.τ).loc Cert.CGradIdeal.main_arg0)
      ∧ r.2.mem ((c.tc : Thread Cert.CGradIdeal.nD Cert.CGradIdeal.τ).loc Cert.CGradIdeal.main_arg1) = m ((c.tc : Thread Cert.CGradIdeal.nD Cert.CGradIdeal.τ).loc Cert.CGradIdeal.main_arg1))
      ∧ r.2.sem = fun _ => 0)

def quiescent_CGradReferenceIdeal [hCGradReferenceIdeal : Cert.CGradReferenceIdeal.Facts] : Prop :=
  ∀ (m : (ℓ : Loc Cert.CGradReferenceIdeal.nD Cert.CGradReferenceIdeal.τ Cert.CGradReferenceIdeal.sig) → Buf (Elt Ideal) ℓ) (g : Dev Cert.CGradReferenceIdeal.nD → PrngReg), Pre_CGradReferenceIdeal m →
    θ_run (Cert.CGradReferenceIdeal.defs (F := Ideal)) (onTc (τ := Cert.CGradReferenceIdeal.τ) (Cert.CGradReferenceIdeal.main (F := Ideal))) ⟨m, fun _ => 0, g⟩ (fun r => (∀ c : Dev Cert.CGradReferenceIdeal.nD,
      r.2.mem ((c.tc : Thread Cert.CGradReferenceIdeal.nD Cert.CGradReferenceIdeal.τ).loc Cert.CGradReferenceIdeal.main_arg0) = m ((c.tc : Thread Cert.CGradReferenceIdeal.nD Cert.CGradReferenceIdeal.τ).loc Cert.CGradReferenceIdeal.main_arg0)
      ∧ r.2.mem ((c.tc : Thread Cert.CGradReferenceIdeal.nD Cert.CGradReferenceIdeal.τ).loc Cert.CGradReferenceIdeal.main_arg1) = m ((c.tc : Thread Cert.CGradReferenceIdeal.nD Cert.CGradReferenceIdeal.τ).loc Cert.CGradReferenceIdeal.main_arg1))
      ∧ r.2.sem = fun _ => 0)

def quiescent_MemKvGrad [hMemKvGrad : Cert.MemKvGrad.Facts] : Prop :=
  ∀ (m : (ℓ : Loc Cert.MemKvGrad.nD Cert.MemKvGrad.τ Cert.MemKvGrad.sig) → Buf (Elt Bits) ℓ) (g : Dev Cert.MemKvGrad.nD → PrngReg), Pre_MemKvGrad m →
    θ_run (Cert.MemKvGrad.defs (F := Bits)) (onTc (τ := Cert.MemKvGrad.τ) (Cert.MemKvGrad.main (F := Bits))) ⟨m, fun _ => 0, g⟩ (fun r => (∀ c : Dev Cert.MemKvGrad.nD,
      r.2.mem ((c.tc : Thread Cert.MemKvGrad.nD Cert.MemKvGrad.τ).loc Cert.MemKvGrad.main_arg0) = m ((c.tc : Thread Cert.MemKvGrad.nD Cert.MemKvGrad.τ).loc Cert.MemKvGrad.main_arg0)
      ∧ r.2.mem ((c.tc : Thread Cert.MemKvGrad.nD Cert.MemKvGrad.τ).loc Cert.MemKvGrad.main_arg1) = m ((c.tc : Thread Cert.MemKvGrad.nD Cert.MemKvGrad.τ).loc Cert.MemKvGrad.main_arg1))
      ∧ r.2.sem = fun _ => 0)

def quiescent_MemKvGradIdeal [hMemKvGradIdeal : Cert.MemKvGradIdeal.Facts] : Prop :=
  ∀ (m : (ℓ : Loc Cert.MemKvGradIdeal.nD Cert.MemKvGradIdeal.τ Cert.MemKvGradIdeal.sig) → Buf (Elt Ideal) ℓ) (g : Dev Cert.MemKvGradIdeal.nD → PrngReg), Pre_MemKvGradIdeal m →
    θ_run (Cert.MemKvGradIdeal.defs (F := Ideal)) (onTc (τ := Cert.MemKvGradIdeal.τ) (Cert.MemKvGradIdeal.main (F := Ideal))) ⟨m, fun _ => 0, g⟩ (fun r => (∀ c : Dev Cert.MemKvGradIdeal.nD,
      r.2.mem ((c.tc : Thread Cert.MemKvGradIdeal.nD Cert.MemKvGradIdeal.τ).loc Cert.MemKvGradIdeal.main_arg0) = m ((c.tc : Thread Cert.MemKvGradIdeal.nD Cert.MemKvGradIdeal.τ).loc Cert.MemKvGradIdeal.main_arg0)
      ∧ r.2.mem ((c.tc : Thread Cert.MemKvGradIdeal.nD Cert.MemKvGradIdeal.τ).loc Cert.MemKvGradIdeal.main_arg1) = m ((c.tc : Thread Cert.MemKvGradIdeal.nD Cert.MemKvGradIdeal.τ).loc Cert.MemKvGradIdeal.main_arg1))
      ∧ r.2.sem = fun _ => 0)

def quiescent_MemKvGradReferenceIdeal [hMemKvGradReferenceIdeal : Cert.MemKvGradReferenceIdeal.Facts] : Prop :=
  ∀ (m : (ℓ : Loc Cert.MemKvGradReferenceIdeal.nD Cert.MemKvGradReferenceIdeal.τ Cert.MemKvGradReferenceIdeal.sig) → Buf (Elt Ideal) ℓ) (g : Dev Cert.MemKvGradReferenceIdeal.nD → PrngReg), Pre_MemKvGradReferenceIdeal m →
    θ_run (Cert.MemKvGradReferenceIdeal.defs (F := Ideal)) (onTc (τ := Cert.MemKvGradReferenceIdeal.τ) (Cert.MemKvGradReferenceIdeal.main (F := Ideal))) ⟨m, fun _ => 0, g⟩ (fun r => (∀ c : Dev Cert.MemKvGradReferenceIdeal.nD,
      r.2.mem ((c.tc : Thread Cert.MemKvGradReferenceIdeal.nD Cert.MemKvGradReferenceIdeal.τ).loc Cert.MemKvGradReferenceIdeal.main_arg0) = m ((c.tc : Thread Cert.MemKvGradReferenceIdeal.nD Cert.MemKvGradReferenceIdeal.τ).loc Cert.MemKvGradReferenceIdeal.main_arg0)
      ∧ r.2.mem ((c.tc : Thread Cert.MemKvGradReferenceIdeal.nD Cert.MemKvGradReferenceIdeal.τ).loc Cert.MemKvGradReferenceIdeal.main_arg1) = m ((c.tc : Thread Cert.MemKvGradReferenceIdeal.nD Cert.MemKvGradReferenceIdeal.τ).loc Cert.MemKvGradReferenceIdeal.main_arg1))
      ∧ r.2.sem = fun _ => 0)

def quiescent_MergeBack [hMergeBack : Cert.MergeBack.Facts] : Prop :=
  ∀ (m : (ℓ : Loc Cert.MergeBack.nD Cert.MergeBack.τ Cert.MergeBack.sig) → Buf (Elt Bits) ℓ) (g : Dev Cert.MergeBack.nD → PrngReg), Pre_MergeBack m →
    θ_run (Cert.MergeBack.defs (F := Bits)) (onTc (τ := Cert.MergeBack.τ) (Cert.MergeBack.main (F := Bits))) ⟨m, fun _ => 0, g⟩ (fun r => (∀ c : Dev Cert.MergeBack.nD,
      r.2.mem ((c.tc : Thread Cert.MergeBack.nD Cert.MergeBack.τ).loc Cert.MergeBack.main_arg0) = m ((c.tc : Thread Cert.MergeBack.nD Cert.MergeBack.τ).loc Cert.MergeBack.main_arg0)
      ∧ r.2.mem ((c.tc : Thread Cert.MergeBack.nD Cert.MergeBack.τ).loc Cert.MergeBack.main_arg1) = m ((c.tc : Thread Cert.MergeBack.nD Cert.MergeBack.τ).loc Cert.MergeBack.main_arg1)
      ∧ r.2.mem ((c.tc : Thread Cert.MergeBack.nD Cert.MergeBack.τ).loc Cert.MergeBack.main_arg2) = m ((c.tc : Thread Cert.MergeBack.nD Cert.MergeBack.τ).loc Cert.MergeBack.main_arg2)
      ∧ r.2.mem ((c.tc : Thread Cert.MergeBack.nD Cert.MergeBack.τ).loc Cert.MergeBack.main_arg3) = m ((c.tc : Thread Cert.MergeBack.nD Cert.MergeBack.τ).loc Cert.MergeBack.main_arg3)
      ∧ r.2.mem ((c.tc : Thread Cert.MergeBack.nD Cert.MergeBack.τ).loc Cert.MergeBack.main_arg4) = m ((c.tc : Thread Cert.MergeBack.nD Cert.MergeBack.τ).loc Cert.MergeBack.main_arg4))
      ∧ r.2.sem = fun _ => 0)

def quiescent_MergeBackIdeal [hMergeBackIdeal : Cert.MergeBackIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg), Pre_MergeBackIdeal m →
    θ_run (Cert.MergeBackIdeal.defs (F := Ideal)) (onTc (τ := Cert.MergeBackIdeal.τ) (Cert.MergeBackIdeal.main (F := Ideal))) ⟨m, fun _ => 0, g⟩ (fun r => (∀ c : Dev Cert.MergeBackIdeal.nD,
      r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
      ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
      ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
      ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
      ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4))
      ∧ r.2.sem = fun _ => 0)

def quiescent_MergeBackReferenceIdeal [hMergeBackReferenceIdeal : Cert.MergeBackReferenceIdeal.Facts] : Prop :=
  ∀ (m : (ℓ : Loc Cert.MergeBackReferenceIdeal.nD Cert.MergeBackReferenceIdeal.τ Cert.MergeBackReferenceIdeal.sig) → Buf (Elt Ideal) ℓ) (g : Dev Cert.MergeBackReferenceIdeal.nD → PrngReg), Pre_MergeBackReferenceIdeal m →
    θ_run (Cert.MergeBackReferenceIdeal.defs (F := Ideal)) (onTc (τ := Cert.MergeBackReferenceIdeal.τ) (Cert.MergeBackReferenceIdeal.main (F := Ideal))) ⟨m, fun _ => 0, g⟩ (fun r => (∀ c : Dev Cert.MergeBackReferenceIdeal.nD,
      r.2.mem ((c.tc : Thread Cert.MergeBackReferenceIdeal.nD Cert.MergeBackReferenceIdeal.τ).loc Cert.MergeBackReferenceIdeal.main_arg0) = m ((c.tc : Thread Cert.MergeBackReferenceIdeal.nD Cert.MergeBackReferenceIdeal.τ).loc Cert.MergeBackReferenceIdeal.main_arg0)
      ∧ r.2.mem ((c.tc : Thread Cert.MergeBackReferenceIdeal.nD Cert.MergeBackReferenceIdeal.τ).loc Cert.MergeBackReferenceIdeal.main_arg1) = m ((c.tc : Thread Cert.MergeBackReferenceIdeal.nD Cert.MergeBackReferenceIdeal.τ).loc Cert.MergeBackReferenceIdeal.main_arg1)
      ∧ r.2.mem ((c.tc : Thread Cert.MergeBackReferenceIdeal.nD Cert.MergeBackReferenceIdeal.τ).loc Cert.MergeBackReferenceIdeal.main_arg2) = m ((c.tc : Thread Cert.MergeBackReferenceIdeal.nD Cert.MergeBackReferenceIdeal.τ).loc Cert.MergeBackReferenceIdeal.main_arg2)
      ∧ r.2.mem ((c.tc : Thread Cert.MergeBackReferenceIdeal.nD Cert.MergeBackReferenceIdeal.τ).loc Cert.MergeBackReferenceIdeal.main_arg3) = m ((c.tc : Thread Cert.MergeBackReferenceIdeal.nD Cert.MergeBackReferenceIdeal.τ).loc Cert.MergeBackReferenceIdeal.main_arg3)
      ∧ r.2.mem ((c.tc : Thread Cert.MergeBackReferenceIdeal.nD Cert.MergeBackReferenceIdeal.τ).loc Cert.MergeBackReferenceIdeal.main_arg4) = m ((c.tc : Thread Cert.MergeBackReferenceIdeal.nD Cert.MergeBackReferenceIdeal.τ).loc Cert.MergeBackReferenceIdeal.main_arg4))
      ∧ r.2.sem = fun _ => 0)

def quiescent_GluBack [hGluBack : Cert.GluBack.Facts] : Prop :=
  ∀ (m : (ℓ : Loc Cert.GluBack.nD Cert.GluBack.τ Cert.GluBack.sig) → Buf (Elt Bits) ℓ) (g : Dev Cert.GluBack.nD → PrngReg), Pre_GluBack m →
    θ_run (Cert.GluBack.defs (F := Bits)) (onTc (τ := Cert.GluBack.τ) (Cert.GluBack.main (F := Bits))) ⟨m, fun _ => 0, g⟩ (fun r => (∀ c : Dev Cert.GluBack.nD,
      r.2.mem ((c.tc : Thread Cert.GluBack.nD Cert.GluBack.τ).loc Cert.GluBack.main_arg0) = m ((c.tc : Thread Cert.GluBack.nD Cert.GluBack.τ).loc Cert.GluBack.main_arg0)
      ∧ r.2.mem ((c.tc : Thread Cert.GluBack.nD Cert.GluBack.τ).loc Cert.GluBack.main_arg1) = m ((c.tc : Thread Cert.GluBack.nD Cert.GluBack.τ).loc Cert.GluBack.main_arg1))
      ∧ r.2.sem = fun _ => 0)

def quiescent_GluBackIdeal [hGluBackIdeal : Cert.GluBackIdeal.Facts] : Prop :=
  ∀ (m : (ℓ : Loc Cert.GluBackIdeal.nD Cert.GluBackIdeal.τ Cert.GluBackIdeal.sig) → Buf (Elt Ideal) ℓ) (g : Dev Cert.GluBackIdeal.nD → PrngReg), Pre_GluBackIdeal m →
    θ_run (Cert.GluBackIdeal.defs (F := Ideal)) (onTc (τ := Cert.GluBackIdeal.τ) (Cert.GluBackIdeal.main (F := Ideal))) ⟨m, fun _ => 0, g⟩ (fun r => (∀ c : Dev Cert.GluBackIdeal.nD,
      r.2.mem ((c.tc : Thread Cert.GluBackIdeal.nD Cert.GluBackIdeal.τ).loc Cert.GluBackIdeal.main_arg0) = m ((c.tc : Thread Cert.GluBackIdeal.nD Cert.GluBackIdeal.τ).loc Cert.GluBackIdeal.main_arg0)
      ∧ r.2.mem ((c.tc : Thread Cert.GluBackIdeal.nD Cert.GluBackIdeal.τ).loc Cert.GluBackIdeal.main_arg1) = m ((c.tc : Thread Cert.GluBackIdeal.nD Cert.GluBackIdeal.τ).loc Cert.GluBackIdeal.main_arg1))
      ∧ r.2.sem = fun _ => 0)

def quiescent_GluBackReferenceIdeal [hGluBackReferenceIdeal : Cert.GluBackReferenceIdeal.Facts] : Prop :=
  ∀ (m : (ℓ : Loc Cert.GluBackReferenceIdeal.nD Cert.GluBackReferenceIdeal.τ Cert.GluBackReferenceIdeal.sig) → Buf (Elt Ideal) ℓ) (g : Dev Cert.GluBackReferenceIdeal.nD → PrngReg), Pre_GluBackReferenceIdeal m →
    θ_run (Cert.GluBackReferenceIdeal.defs (F := Ideal)) (onTc (τ := Cert.GluBackReferenceIdeal.τ) (Cert.GluBackReferenceIdeal.main (F := Ideal))) ⟨m, fun _ => 0, g⟩ (fun r => (∀ c : Dev Cert.GluBackReferenceIdeal.nD,
      r.2.mem ((c.tc : Thread Cert.GluBackReferenceIdeal.nD Cert.GluBackReferenceIdeal.τ).loc Cert.GluBackReferenceIdeal.main_arg0) = m ((c.tc : Thread Cert.GluBackReferenceIdeal.nD Cert.GluBackReferenceIdeal.τ).loc Cert.GluBackReferenceIdeal.main_arg0)
      ∧ r.2.mem ((c.tc : Thread Cert.GluBackReferenceIdeal.nD Cert.GluBackReferenceIdeal.τ).loc Cert.GluBackReferenceIdeal.main_arg1) = m ((c.tc : Thread Cert.GluBackReferenceIdeal.nD Cert.GluBackReferenceIdeal.τ).loc Cert.GluBackReferenceIdeal.main_arg1))
      ∧ r.2.sem = fun _ => 0)

def quiescent_SwigluBack [hSwigluBack : Cert.SwigluBack.Facts] : Prop :=
  ∀ (m : (ℓ : Loc Cert.SwigluBack.nD Cert.SwigluBack.τ Cert.SwigluBack.sig) → Buf (Elt Bits) ℓ) (g : Dev Cert.SwigluBack.nD → PrngReg), Pre_SwigluBack m →
    θ_run (Cert.SwigluBack.defs (F := Bits)) (onTc (τ := Cert.SwigluBack.τ) (Cert.SwigluBack.main (F := Bits))) ⟨m, fun _ => 0, g⟩ (fun r => (∀ c : Dev Cert.SwigluBack.nD,
      r.2.mem ((c.tc : Thread Cert.SwigluBack.nD Cert.SwigluBack.τ).loc Cert.SwigluBack.main_arg0) = m ((c.tc : Thread Cert.SwigluBack.nD Cert.SwigluBack.τ).loc Cert.SwigluBack.main_arg0)
      ∧ r.2.mem ((c.tc : Thread Cert.SwigluBack.nD Cert.SwigluBack.τ).loc Cert.SwigluBack.main_arg1) = m ((c.tc : Thread Cert.SwigluBack.nD Cert.SwigluBack.τ).loc Cert.SwigluBack.main_arg1))
      ∧ r.2.sem = fun _ => 0)

def quiescent_SwigluBackIdeal [hSwigluBackIdeal : Cert.SwigluBackIdeal.Facts] : Prop :=
  ∀ (m : (ℓ : Loc Cert.SwigluBackIdeal.nD Cert.SwigluBackIdeal.τ Cert.SwigluBackIdeal.sig) → Buf (Elt Ideal) ℓ) (g : Dev Cert.SwigluBackIdeal.nD → PrngReg), Pre_SwigluBackIdeal m →
    θ_run (Cert.SwigluBackIdeal.defs (F := Ideal)) (onTc (τ := Cert.SwigluBackIdeal.τ) (Cert.SwigluBackIdeal.main (F := Ideal))) ⟨m, fun _ => 0, g⟩ (fun r => (∀ c : Dev Cert.SwigluBackIdeal.nD,
      r.2.mem ((c.tc : Thread Cert.SwigluBackIdeal.nD Cert.SwigluBackIdeal.τ).loc Cert.SwigluBackIdeal.main_arg0) = m ((c.tc : Thread Cert.SwigluBackIdeal.nD Cert.SwigluBackIdeal.τ).loc Cert.SwigluBackIdeal.main_arg0)
      ∧ r.2.mem ((c.tc : Thread Cert.SwigluBackIdeal.nD Cert.SwigluBackIdeal.τ).loc Cert.SwigluBackIdeal.main_arg1) = m ((c.tc : Thread Cert.SwigluBackIdeal.nD Cert.SwigluBackIdeal.τ).loc Cert.SwigluBackIdeal.main_arg1))
      ∧ r.2.sem = fun _ => 0)

def quiescent_SwigluBackIdeal_pre_swiglu_finite [hSwigluBackIdeal : Cert.SwigluBackIdeal.Facts] [hPre_swiglu_finite : Cert.Pre_swiglu_finite.Facts] : Prop :=
  ∀ (m : (ℓ : Loc Cert.SwigluBackIdeal.nD Cert.SwigluBackIdeal.τ Cert.SwigluBackIdeal.sig) → Buf (Elt Ideal) ℓ) (g : Dev Cert.SwigluBackIdeal.nD → PrngReg), Pre_SwigluBackIdeal_swiglu_finite m →
    θ_run (Cert.SwigluBackIdeal.defs (F := Ideal)) (onTc (τ := Cert.SwigluBackIdeal.τ) (Cert.SwigluBackIdeal.main (F := Ideal))) ⟨m, fun _ => 0, g⟩ (fun r => (∀ c : Dev Cert.SwigluBackIdeal.nD,
      r.2.mem ((c.tc : Thread Cert.SwigluBackIdeal.nD Cert.SwigluBackIdeal.τ).loc Cert.SwigluBackIdeal.main_arg0) = m ((c.tc : Thread Cert.SwigluBackIdeal.nD Cert.SwigluBackIdeal.τ).loc Cert.SwigluBackIdeal.main_arg0)
      ∧ r.2.mem ((c.tc : Thread Cert.SwigluBackIdeal.nD Cert.SwigluBackIdeal.τ).loc Cert.SwigluBackIdeal.main_arg1) = m ((c.tc : Thread Cert.SwigluBackIdeal.nD Cert.SwigluBackIdeal.τ).loc Cert.SwigluBackIdeal.main_arg1))
      ∧ r.2.sem = fun _ => 0)

def quiescent_SwigluBackReferenceIdeal [hSwigluBackReferenceIdeal : Cert.SwigluBackReferenceIdeal.Facts] : Prop :=
  ∀ (m : (ℓ : Loc Cert.SwigluBackReferenceIdeal.nD Cert.SwigluBackReferenceIdeal.τ Cert.SwigluBackReferenceIdeal.sig) → Buf (Elt Ideal) ℓ) (g : Dev Cert.SwigluBackReferenceIdeal.nD → PrngReg), Pre_SwigluBackReferenceIdeal m →
    θ_run (Cert.SwigluBackReferenceIdeal.defs (F := Ideal)) (onTc (τ := Cert.SwigluBackReferenceIdeal.τ) (Cert.SwigluBackReferenceIdeal.main (F := Ideal))) ⟨m, fun _ => 0, g⟩ (fun r => (∀ c : Dev Cert.SwigluBackReferenceIdeal.nD,
      r.2.mem ((c.tc : Thread Cert.SwigluBackReferenceIdeal.nD Cert.SwigluBackReferenceIdeal.τ).loc Cert.SwigluBackReferenceIdeal.main_arg0) = m ((c.tc : Thread Cert.SwigluBackReferenceIdeal.nD Cert.SwigluBackReferenceIdeal.τ).loc Cert.SwigluBackReferenceIdeal.main_arg0)
      ∧ r.2.mem ((c.tc : Thread Cert.SwigluBackReferenceIdeal.nD Cert.SwigluBackReferenceIdeal.τ).loc Cert.SwigluBackReferenceIdeal.main_arg1) = m ((c.tc : Thread Cert.SwigluBackReferenceIdeal.nD Cert.SwigluBackReferenceIdeal.τ).loc Cert.SwigluBackReferenceIdeal.main_arg1))
      ∧ r.2.sem = fun _ => 0)

def quiescent_SwigluBackReferenceIdeal_pre_swiglu_finite [hSwigluBackReferenceIdeal : Cert.SwigluBackReferenceIdeal.Facts] [hPre_swiglu_finite : Cert.Pre_swiglu_finite.Facts] : Prop :=
  ∀ (m : (ℓ : Loc Cert.SwigluBackReferenceIdeal.nD Cert.SwigluBackReferenceIdeal.τ Cert.SwigluBackReferenceIdeal.sig) → Buf (Elt Ideal) ℓ) (g : Dev Cert.SwigluBackReferenceIdeal.nD → PrngReg), Pre_SwigluBackReferenceIdeal_swiglu_finite m →
    θ_run (Cert.SwigluBackReferenceIdeal.defs (F := Ideal)) (onTc (τ := Cert.SwigluBackReferenceIdeal.τ) (Cert.SwigluBackReferenceIdeal.main (F := Ideal))) ⟨m, fun _ => 0, g⟩ (fun r => (∀ c : Dev Cert.SwigluBackReferenceIdeal.nD,
      r.2.mem ((c.tc : Thread Cert.SwigluBackReferenceIdeal.nD Cert.SwigluBackReferenceIdeal.τ).loc Cert.SwigluBackReferenceIdeal.main_arg0) = m ((c.tc : Thread Cert.SwigluBackReferenceIdeal.nD Cert.SwigluBackReferenceIdeal.τ).loc Cert.SwigluBackReferenceIdeal.main_arg0)
      ∧ r.2.mem ((c.tc : Thread Cert.SwigluBackReferenceIdeal.nD Cert.SwigluBackReferenceIdeal.τ).loc Cert.SwigluBackReferenceIdeal.main_arg1) = m ((c.tc : Thread Cert.SwigluBackReferenceIdeal.nD Cert.SwigluBackReferenceIdeal.τ).loc Cert.SwigluBackReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInReferenceIdeal [hUpdateInReferenceIdeal : Cert.UpdateInReferenceIdeal.Facts] : Prop :=
  ∀ (m : (ℓ : Loc Cert.UpdateInReferenceIdeal.nD Cert.UpdateInReferenceIdeal.τ Cert.UpdateInReferenceIdeal.sig) → Buf (Elt Ideal) ℓ) (g : Dev Cert.UpdateInReferenceIdeal.nD → PrngReg), Pre_UpdateInReferenceIdeal m →
    θ_run (Cert.UpdateInReferenceIdeal.defs (F := Ideal)) (onTc (τ := Cert.UpdateInReferenceIdeal.τ) (Cert.UpdateInReferenceIdeal.main (F := Ideal))) ⟨m, fun _ => 0, g⟩ (fun r => (∀ c : Dev Cert.UpdateInReferenceIdeal.nD,
      r.2.mem ((c.tc : Thread Cert.UpdateInReferenceIdeal.nD Cert.UpdateInReferenceIdeal.τ).loc Cert.UpdateInReferenceIdeal.main_arg0) = m ((c.tc : Thread Cert.UpdateInReferenceIdeal.nD Cert.UpdateInReferenceIdeal.τ).loc Cert.UpdateInReferenceIdeal.main_arg0)
      ∧ r.2.mem ((c.tc : Thread Cert.UpdateInReferenceIdeal.nD Cert.UpdateInReferenceIdeal.τ).loc Cert.UpdateInReferenceIdeal.main_arg1) = m ((c.tc : Thread Cert.UpdateInReferenceIdeal.nD Cert.UpdateInReferenceIdeal.τ).loc Cert.UpdateInReferenceIdeal.main_arg1)
      ∧ r.2.mem ((c.tc : Thread Cert.UpdateInReferenceIdeal.nD Cert.UpdateInReferenceIdeal.τ).loc Cert.UpdateInReferenceIdeal.main_arg2) = m ((c.tc : Thread Cert.UpdateInReferenceIdeal.nD Cert.UpdateInReferenceIdeal.τ).loc Cert.UpdateInReferenceIdeal.main_arg2)
      ∧ r.2.mem ((c.tc : Thread Cert.UpdateInReferenceIdeal.nD Cert.UpdateInReferenceIdeal.τ).loc Cert.UpdateInReferenceIdeal.main_arg3) = m ((c.tc : Thread Cert.UpdateInReferenceIdeal.nD Cert.UpdateInReferenceIdeal.τ).loc Cert.UpdateInReferenceIdeal.main_arg3))
      ∧ r.2.sem = fun _ => 0)

def quiescent_UpdateSbOut [hUpdateSbOut : Cert.UpdateSbOut.Facts] : Prop :=
  ∀ (m : (ℓ : Loc Cert.UpdateSbOut.nD Cert.UpdateSbOut.τ Cert.UpdateSbOut.sig) → Buf (Elt Bits) ℓ) (g : Dev Cert.UpdateSbOut.nD → PrngReg), Pre_UpdateSbOut m →
    θ_run (Cert.UpdateSbOut.defs (F := Bits)) (onTc (τ := Cert.UpdateSbOut.τ) (Cert.UpdateSbOut.main (F := Bits))) ⟨m, fun _ => 0, g⟩ (fun r => (∀ c : Dev Cert.UpdateSbOut.nD,
      r.2.mem ((c.tc : Thread Cert.UpdateSbOut.nD Cert.UpdateSbOut.τ).loc Cert.UpdateSbOut.main_arg0) = m ((c.tc : Thread Cert.UpdateSbOut.nD Cert.UpdateSbOut.τ).loc Cert.UpdateSbOut.main_arg0)
      ∧ r.2.mem ((c.tc : Thread Cert.UpdateSbOut.nD Cert.UpdateSbOut.τ).loc Cert.UpdateSbOut.main_arg1) = m ((c.tc : Thread Cert.UpdateSbOut.nD Cert.UpdateSbOut.τ).loc Cert.UpdateSbOut.main_arg1)
      ∧ r.2.mem ((c.tc : Thread Cert.UpdateSbOut.nD Cert.UpdateSbOut.τ).loc Cert.UpdateSbOut.main_arg2) = m ((c.tc : Thread Cert.UpdateSbOut.nD Cert.UpdateSbOut.τ).loc Cert.UpdateSbOut.main_arg2)
      ∧ r.2.mem ((c.tc : Thread Cert.UpdateSbOut.nD Cert.UpdateSbOut.τ).loc Cert.UpdateSbOut.main_arg3) = m ((c.tc : Thread Cert.UpdateSbOut.nD Cert.UpdateSbOut.τ).loc Cert.UpdateSbOut.main_arg3))
      ∧ r.2.sem = fun _ => 0)

def quiescent_UpdateSbOutIdeal [hUpdateSbOutIdeal : Cert.UpdateSbOutIdeal.Facts] : Prop :=
  ∀ (m : (ℓ : Loc Cert.UpdateSbOutIdeal.nD Cert.UpdateSbOutIdeal.τ Cert.UpdateSbOutIdeal.sig) → Buf (Elt Ideal) ℓ) (g : Dev Cert.UpdateSbOutIdeal.nD → PrngReg), Pre_UpdateSbOutIdeal m →
    θ_run (Cert.UpdateSbOutIdeal.defs (F := Ideal)) (onTc (τ := Cert.UpdateSbOutIdeal.τ) (Cert.UpdateSbOutIdeal.main (F := Ideal))) ⟨m, fun _ => 0, g⟩ (fun r => (∀ c : Dev Cert.UpdateSbOutIdeal.nD,
      r.2.mem ((c.tc : Thread Cert.UpdateSbOutIdeal.nD Cert.UpdateSbOutIdeal.τ).loc Cert.UpdateSbOutIdeal.main_arg0) = m ((c.tc : Thread Cert.UpdateSbOutIdeal.nD Cert.UpdateSbOutIdeal.τ).loc Cert.UpdateSbOutIdeal.main_arg0)
      ∧ r.2.mem ((c.tc : Thread Cert.UpdateSbOutIdeal.nD Cert.UpdateSbOutIdeal.τ).loc Cert.UpdateSbOutIdeal.main_arg1) = m ((c.tc : Thread Cert.UpdateSbOutIdeal.nD Cert.UpdateSbOutIdeal.τ).loc Cert.UpdateSbOutIdeal.main_arg1)
      ∧ r.2.mem ((c.tc : Thread Cert.UpdateSbOutIdeal.nD Cert.UpdateSbOutIdeal.τ).loc Cert.UpdateSbOutIdeal.main_arg2) = m ((c.tc : Thread Cert.UpdateSbOutIdeal.nD Cert.UpdateSbOutIdeal.τ).loc Cert.UpdateSbOutIdeal.main_arg2)
      ∧ r.2.mem ((c.tc : Thread Cert.UpdateSbOutIdeal.nD Cert.UpdateSbOutIdeal.τ).loc Cert.UpdateSbOutIdeal.main_arg3) = m ((c.tc : Thread Cert.UpdateSbOutIdeal.nD Cert.UpdateSbOutIdeal.τ).loc Cert.UpdateSbOutIdeal.main_arg3))
      ∧ r.2.sem = fun _ => 0)

def quiescent_UpdateSbOutReferenceIdeal [hUpdateSbOutReferenceIdeal : Cert.UpdateSbOutReferenceIdeal.Facts] : Prop :=
  ∀ (m : (ℓ : Loc Cert.UpdateSbOutReferenceIdeal.nD Cert.UpdateSbOutReferenceIdeal.τ Cert.UpdateSbOutReferenceIdeal.sig) → Buf (Elt Ideal) ℓ) (g : Dev Cert.UpdateSbOutReferenceIdeal.nD → PrngReg), Pre_UpdateSbOutReferenceIdeal m →
    θ_run (Cert.UpdateSbOutReferenceIdeal.defs (F := Ideal)) (onTc (τ := Cert.UpdateSbOutReferenceIdeal.τ) (Cert.UpdateSbOutReferenceIdeal.main (F := Ideal))) ⟨m, fun _ => 0, g⟩ (fun r => (∀ c : Dev Cert.UpdateSbOutReferenceIdeal.nD,
      r.2.mem ((c.tc : Thread Cert.UpdateSbOutReferenceIdeal.nD Cert.UpdateSbOutReferenceIdeal.τ).loc Cert.UpdateSbOutReferenceIdeal.main_arg0) = m ((c.tc : Thread Cert.UpdateSbOutReferenceIdeal.nD Cert.UpdateSbOutReferenceIdeal.τ).loc Cert.UpdateSbOutReferenceIdeal.main_arg0)
      ∧ r.2.mem ((c.tc : Thread Cert.UpdateSbOutReferenceIdeal.nD Cert.UpdateSbOutReferenceIdeal.τ).loc Cert.UpdateSbOutReferenceIdeal.main_arg1) = m ((c.tc : Thread Cert.UpdateSbOutReferenceIdeal.nD Cert.UpdateSbOutReferenceIdeal.τ).loc Cert.UpdateSbOutReferenceIdeal.main_arg1)
      ∧ r.2.mem ((c.tc : Thread Cert.UpdateSbOutReferenceIdeal.nD Cert.UpdateSbOutReferenceIdeal.τ).loc Cert.UpdateSbOutReferenceIdeal.main_arg2) = m ((c.tc : Thread Cert.UpdateSbOutReferenceIdeal.nD Cert.UpdateSbOutReferenceIdeal.τ).loc Cert.UpdateSbOutReferenceIdeal.main_arg2)
      ∧ r.2.mem ((c.tc : Thread Cert.UpdateSbOutReferenceIdeal.nD Cert.UpdateSbOutReferenceIdeal.τ).loc Cert.UpdateSbOutReferenceIdeal.main_arg3) = m ((c.tc : Thread Cert.UpdateSbOutReferenceIdeal.nD Cert.UpdateSbOutReferenceIdeal.τ).loc Cert.UpdateSbOutReferenceIdeal.main_arg3))
      ∧ r.2.sem = fun _ => 0)

def quiescent_UpdateGlu [hUpdateGlu : Cert.UpdateGlu.Facts] : Prop :=
  ∀ (m : (ℓ : Loc Cert.UpdateGlu.nD Cert.UpdateGlu.τ Cert.UpdateGlu.sig) → Buf (Elt Bits) ℓ) (g : Dev Cert.UpdateGlu.nD → PrngReg), Pre_UpdateGlu m →
    θ_run (Cert.UpdateGlu.defs (F := Bits)) (onTc (τ := Cert.UpdateGlu.τ) (Cert.UpdateGlu.main (F := Bits))) ⟨m, fun _ => 0, g⟩ (fun r => (∀ c : Dev Cert.UpdateGlu.nD,
      r.2.mem ((c.tc : Thread Cert.UpdateGlu.nD Cert.UpdateGlu.τ).loc Cert.UpdateGlu.main_arg0) = m ((c.tc : Thread Cert.UpdateGlu.nD Cert.UpdateGlu.τ).loc Cert.UpdateGlu.main_arg0)
      ∧ r.2.mem ((c.tc : Thread Cert.UpdateGlu.nD Cert.UpdateGlu.τ).loc Cert.UpdateGlu.main_arg1) = m ((c.tc : Thread Cert.UpdateGlu.nD Cert.UpdateGlu.τ).loc Cert.UpdateGlu.main_arg1)
      ∧ r.2.mem ((c.tc : Thread Cert.UpdateGlu.nD Cert.UpdateGlu.τ).loc Cert.UpdateGlu.main_arg2) = m ((c.tc : Thread Cert.UpdateGlu.nD Cert.UpdateGlu.τ).loc Cert.UpdateGlu.main_arg2)
      ∧ r.2.mem ((c.tc : Thread Cert.UpdateGlu.nD Cert.UpdateGlu.τ).loc Cert.UpdateGlu.main_arg3) = m ((c.tc : Thread Cert.UpdateGlu.nD Cert.UpdateGlu.τ).loc Cert.UpdateGlu.main_arg3))
      ∧ r.2.sem = fun _ => 0)

def quiescent_UpdateGluIdeal [hUpdateGluIdeal : Cert.UpdateGluIdeal.Facts] : Prop :=
  ∀ (m : (ℓ : Loc Cert.UpdateGluIdeal.nD Cert.UpdateGluIdeal.τ Cert.UpdateGluIdeal.sig) → Buf (Elt Ideal) ℓ) (g : Dev Cert.UpdateGluIdeal.nD → PrngReg), Pre_UpdateGluIdeal m →
    θ_run (Cert.UpdateGluIdeal.defs (F := Ideal)) (onTc (τ := Cert.UpdateGluIdeal.τ) (Cert.UpdateGluIdeal.main (F := Ideal))) ⟨m, fun _ => 0, g⟩ (fun r => (∀ c : Dev Cert.UpdateGluIdeal.nD,
      r.2.mem ((c.tc : Thread Cert.UpdateGluIdeal.nD Cert.UpdateGluIdeal.τ).loc Cert.UpdateGluIdeal.main_arg0) = m ((c.tc : Thread Cert.UpdateGluIdeal.nD Cert.UpdateGluIdeal.τ).loc Cert.UpdateGluIdeal.main_arg0)
      ∧ r.2.mem ((c.tc : Thread Cert.UpdateGluIdeal.nD Cert.UpdateGluIdeal.τ).loc Cert.UpdateGluIdeal.main_arg1) = m ((c.tc : Thread Cert.UpdateGluIdeal.nD Cert.UpdateGluIdeal.τ).loc Cert.UpdateGluIdeal.main_arg1)
      ∧ r.2.mem ((c.tc : Thread Cert.UpdateGluIdeal.nD Cert.UpdateGluIdeal.τ).loc Cert.UpdateGluIdeal.main_arg2) = m ((c.tc : Thread Cert.UpdateGluIdeal.nD Cert.UpdateGluIdeal.τ).loc Cert.UpdateGluIdeal.main_arg2)
      ∧ r.2.mem ((c.tc : Thread Cert.UpdateGluIdeal.nD Cert.UpdateGluIdeal.τ).loc Cert.UpdateGluIdeal.main_arg3) = m ((c.tc : Thread Cert.UpdateGluIdeal.nD Cert.UpdateGluIdeal.τ).loc Cert.UpdateGluIdeal.main_arg3))
      ∧ r.2.sem = fun _ => 0)

def quiescent_UpdateGluReferenceIdeal [hUpdateGluReferenceIdeal : Cert.UpdateGluReferenceIdeal.Facts] : Prop :=
  ∀ (m : (ℓ : Loc Cert.UpdateGluReferenceIdeal.nD Cert.UpdateGluReferenceIdeal.τ Cert.UpdateGluReferenceIdeal.sig) → Buf (Elt Ideal) ℓ) (g : Dev Cert.UpdateGluReferenceIdeal.nD → PrngReg), Pre_UpdateGluReferenceIdeal m →
    θ_run (Cert.UpdateGluReferenceIdeal.defs (F := Ideal)) (onTc (τ := Cert.UpdateGluReferenceIdeal.τ) (Cert.UpdateGluReferenceIdeal.main (F := Ideal))) ⟨m, fun _ => 0, g⟩ (fun r => (∀ c : Dev Cert.UpdateGluReferenceIdeal.nD,
      r.2.mem ((c.tc : Thread Cert.UpdateGluReferenceIdeal.nD Cert.UpdateGluReferenceIdeal.τ).loc Cert.UpdateGluReferenceIdeal.main_arg0) = m ((c.tc : Thread Cert.UpdateGluReferenceIdeal.nD Cert.UpdateGluReferenceIdeal.τ).loc Cert.UpdateGluReferenceIdeal.main_arg0)
      ∧ r.2.mem ((c.tc : Thread Cert.UpdateGluReferenceIdeal.nD Cert.UpdateGluReferenceIdeal.τ).loc Cert.UpdateGluReferenceIdeal.main_arg1) = m ((c.tc : Thread Cert.UpdateGluReferenceIdeal.nD Cert.UpdateGluReferenceIdeal.τ).loc Cert.UpdateGluReferenceIdeal.main_arg1)
      ∧ r.2.mem ((c.tc : Thread Cert.UpdateGluReferenceIdeal.nD Cert.UpdateGluReferenceIdeal.τ).loc Cert.UpdateGluReferenceIdeal.main_arg2) = m ((c.tc : Thread Cert.UpdateGluReferenceIdeal.nD Cert.UpdateGluReferenceIdeal.τ).loc Cert.UpdateGluReferenceIdeal.main_arg2)
      ∧ r.2.mem ((c.tc : Thread Cert.UpdateGluReferenceIdeal.nD Cert.UpdateGluReferenceIdeal.τ).loc Cert.UpdateGluReferenceIdeal.main_arg3) = m ((c.tc : Thread Cert.UpdateGluReferenceIdeal.nD Cert.UpdateGluReferenceIdeal.τ).loc Cert.UpdateGluReferenceIdeal.main_arg3))
      ∧ r.2.sem = fun _ => 0)

def quiescent_UpdateSsmOut [hUpdateSsmOut : Cert.UpdateSsmOut.Facts] : Prop :=
  ∀ (m : (ℓ : Loc Cert.UpdateSsmOut.nD Cert.UpdateSsmOut.τ Cert.UpdateSsmOut.sig) → Buf (Elt Bits) ℓ) (g : Dev Cert.UpdateSsmOut.nD → PrngReg), Pre_UpdateSsmOut m →
    θ_run (Cert.UpdateSsmOut.defs (F := Bits)) (onTc (τ := Cert.UpdateSsmOut.τ) (Cert.UpdateSsmOut.main (F := Bits))) ⟨m, fun _ => 0, g⟩ (fun r => (∀ c : Dev Cert.UpdateSsmOut.nD,
      r.2.mem ((c.tc : Thread Cert.UpdateSsmOut.nD Cert.UpdateSsmOut.τ).loc Cert.UpdateSsmOut.main_arg0) = m ((c.tc : Thread Cert.UpdateSsmOut.nD Cert.UpdateSsmOut.τ).loc Cert.UpdateSsmOut.main_arg0)
      ∧ r.2.mem ((c.tc : Thread Cert.UpdateSsmOut.nD Cert.UpdateSsmOut.τ).loc Cert.UpdateSsmOut.main_arg1) = m ((c.tc : Thread Cert.UpdateSsmOut.nD Cert.UpdateSsmOut.τ).loc Cert.UpdateSsmOut.main_arg1)
      ∧ r.2.mem ((c.tc : Thread Cert.UpdateSsmOut.nD Cert.UpdateSsmOut.τ).loc Cert.UpdateSsmOut.main_arg2) = m ((c.tc : Thread Cert.UpdateSsmOut.nD Cert.UpdateSsmOut.τ).loc Cert.UpdateSsmOut.main_arg2)
      ∧ r.2.mem ((c.tc : Thread Cert.UpdateSsmOut.nD Cert.UpdateSsmOut.τ).loc Cert.UpdateSsmOut.main_arg3) = m ((c.tc : Thread Cert.UpdateSsmOut.nD Cert.UpdateSsmOut.τ).loc Cert.UpdateSsmOut.main_arg3))
      ∧ r.2.sem = fun _ => 0)

def quiescent_UpdateSsmOutIdeal [hUpdateSsmOutIdeal : Cert.UpdateSsmOutIdeal.Facts] : Prop :=
  ∀ (m : (ℓ : Loc Cert.UpdateSsmOutIdeal.nD Cert.UpdateSsmOutIdeal.τ Cert.UpdateSsmOutIdeal.sig) → Buf (Elt Ideal) ℓ) (g : Dev Cert.UpdateSsmOutIdeal.nD → PrngReg), Pre_UpdateSsmOutIdeal m →
    θ_run (Cert.UpdateSsmOutIdeal.defs (F := Ideal)) (onTc (τ := Cert.UpdateSsmOutIdeal.τ) (Cert.UpdateSsmOutIdeal.main (F := Ideal))) ⟨m, fun _ => 0, g⟩ (fun r => (∀ c : Dev Cert.UpdateSsmOutIdeal.nD,
      r.2.mem ((c.tc : Thread Cert.UpdateSsmOutIdeal.nD Cert.UpdateSsmOutIdeal.τ).loc Cert.UpdateSsmOutIdeal.main_arg0) = m ((c.tc : Thread Cert.UpdateSsmOutIdeal.nD Cert.UpdateSsmOutIdeal.τ).loc Cert.UpdateSsmOutIdeal.main_arg0)
      ∧ r.2.mem ((c.tc : Thread Cert.UpdateSsmOutIdeal.nD Cert.UpdateSsmOutIdeal.τ).loc Cert.UpdateSsmOutIdeal.main_arg1) = m ((c.tc : Thread Cert.UpdateSsmOutIdeal.nD Cert.UpdateSsmOutIdeal.τ).loc Cert.UpdateSsmOutIdeal.main_arg1)
      ∧ r.2.mem ((c.tc : Thread Cert.UpdateSsmOutIdeal.nD Cert.UpdateSsmOutIdeal.τ).loc Cert.UpdateSsmOutIdeal.main_arg2) = m ((c.tc : Thread Cert.UpdateSsmOutIdeal.nD Cert.UpdateSsmOutIdeal.τ).loc Cert.UpdateSsmOutIdeal.main_arg2)
      ∧ r.2.mem ((c.tc : Thread Cert.UpdateSsmOutIdeal.nD Cert.UpdateSsmOutIdeal.τ).loc Cert.UpdateSsmOutIdeal.main_arg3) = m ((c.tc : Thread Cert.UpdateSsmOutIdeal.nD Cert.UpdateSsmOutIdeal.τ).loc Cert.UpdateSsmOutIdeal.main_arg3))
      ∧ r.2.sem = fun _ => 0)

def quiescent_UpdateSsmOutReferenceIdeal [hUpdateSsmOutReferenceIdeal : Cert.UpdateSsmOutReferenceIdeal.Facts] : Prop :=
  ∀ (m : (ℓ : Loc Cert.UpdateSsmOutReferenceIdeal.nD Cert.UpdateSsmOutReferenceIdeal.τ Cert.UpdateSsmOutReferenceIdeal.sig) → Buf (Elt Ideal) ℓ) (g : Dev Cert.UpdateSsmOutReferenceIdeal.nD → PrngReg), Pre_UpdateSsmOutReferenceIdeal m →
    θ_run (Cert.UpdateSsmOutReferenceIdeal.defs (F := Ideal)) (onTc (τ := Cert.UpdateSsmOutReferenceIdeal.τ) (Cert.UpdateSsmOutReferenceIdeal.main (F := Ideal))) ⟨m, fun _ => 0, g⟩ (fun r => (∀ c : Dev Cert.UpdateSsmOutReferenceIdeal.nD,
      r.2.mem ((c.tc : Thread Cert.UpdateSsmOutReferenceIdeal.nD Cert.UpdateSsmOutReferenceIdeal.τ).loc Cert.UpdateSsmOutReferenceIdeal.main_arg0) = m ((c.tc : Thread Cert.UpdateSsmOutReferenceIdeal.nD Cert.UpdateSsmOutReferenceIdeal.τ).loc Cert.UpdateSsmOutReferenceIdeal.main_arg0)
      ∧ r.2.mem ((c.tc : Thread Cert.UpdateSsmOutReferenceIdeal.nD Cert.UpdateSsmOutReferenceIdeal.τ).loc Cert.UpdateSsmOutReferenceIdeal.main_arg1) = m ((c.tc : Thread Cert.UpdateSsmOutReferenceIdeal.nD Cert.UpdateSsmOutReferenceIdeal.τ).loc Cert.UpdateSsmOutReferenceIdeal.main_arg1)
      ∧ r.2.mem ((c.tc : Thread Cert.UpdateSsmOutReferenceIdeal.nD Cert.UpdateSsmOutReferenceIdeal.τ).loc Cert.UpdateSsmOutReferenceIdeal.main_arg2) = m ((c.tc : Thread Cert.UpdateSsmOutReferenceIdeal.nD Cert.UpdateSsmOutReferenceIdeal.τ).loc Cert.UpdateSsmOutReferenceIdeal.main_arg2)
      ∧ r.2.mem ((c.tc : Thread Cert.UpdateSsmOutReferenceIdeal.nD Cert.UpdateSsmOutReferenceIdeal.τ).loc Cert.UpdateSsmOutReferenceIdeal.main_arg3) = m ((c.tc : Thread Cert.UpdateSsmOutReferenceIdeal.nD Cert.UpdateSsmOutReferenceIdeal.τ).loc Cert.UpdateSsmOutReferenceIdeal.main_arg3))
      ∧ r.2.sem = fun _ => 0)

def quiescent_UpdateMemKv [hUpdateMemKv : Cert.UpdateMemKv.Facts] : Prop :=
  ∀ (m : (ℓ : Loc Cert.UpdateMemKv.nD Cert.UpdateMemKv.τ Cert.UpdateMemKv.sig) → Buf (Elt Bits) ℓ) (g : Dev Cert.UpdateMemKv.nD → PrngReg), Pre_UpdateMemKv m →
    θ_run (Cert.UpdateMemKv.defs (F := Bits)) (onTc (τ := Cert.UpdateMemKv.τ) (Cert.UpdateMemKv.main (F := Bits))) ⟨m, fun _ => 0, g⟩ (fun r => (∀ c : Dev Cert.UpdateMemKv.nD,
      r.2.mem ((c.tc : Thread Cert.UpdateMemKv.nD Cert.UpdateMemKv.τ).loc Cert.UpdateMemKv.main_arg0) = m ((c.tc : Thread Cert.UpdateMemKv.nD Cert.UpdateMemKv.τ).loc Cert.UpdateMemKv.main_arg0)
      ∧ r.2.mem ((c.tc : Thread Cert.UpdateMemKv.nD Cert.UpdateMemKv.τ).loc Cert.UpdateMemKv.main_arg1) = m ((c.tc : Thread Cert.UpdateMemKv.nD Cert.UpdateMemKv.τ).loc Cert.UpdateMemKv.main_arg1)
      ∧ r.2.mem ((c.tc : Thread Cert.UpdateMemKv.nD Cert.UpdateMemKv.τ).loc Cert.UpdateMemKv.main_arg2) = m ((c.tc : Thread Cert.UpdateMemKv.nD Cert.UpdateMemKv.τ).loc Cert.UpdateMemKv.main_arg2)
      ∧ r.2.mem ((c.tc : Thread Cert.UpdateMemKv.nD Cert.UpdateMemKv.τ).loc Cert.UpdateMemKv.main_arg3) = m ((c.tc : Thread Cert.UpdateMemKv.nD Cert.UpdateMemKv.τ).loc Cert.UpdateMemKv.main_arg3))
      ∧ r.2.sem = fun _ => 0)

def quiescent_UpdateMemKvIdeal [hUpdateMemKvIdeal : Cert.UpdateMemKvIdeal.Facts] : Prop :=
  ∀ (m : (ℓ : Loc Cert.UpdateMemKvIdeal.nD Cert.UpdateMemKvIdeal.τ Cert.UpdateMemKvIdeal.sig) → Buf (Elt Ideal) ℓ) (g : Dev Cert.UpdateMemKvIdeal.nD → PrngReg), Pre_UpdateMemKvIdeal m →
    θ_run (Cert.UpdateMemKvIdeal.defs (F := Ideal)) (onTc (τ := Cert.UpdateMemKvIdeal.τ) (Cert.UpdateMemKvIdeal.main (F := Ideal))) ⟨m, fun _ => 0, g⟩ (fun r => (∀ c : Dev Cert.UpdateMemKvIdeal.nD,
      r.2.mem ((c.tc : Thread Cert.UpdateMemKvIdeal.nD Cert.UpdateMemKvIdeal.τ).loc Cert.UpdateMemKvIdeal.main_arg0) = m ((c.tc : Thread Cert.UpdateMemKvIdeal.nD Cert.UpdateMemKvIdeal.τ).loc Cert.UpdateMemKvIdeal.main_arg0)
      ∧ r.2.mem ((c.tc : Thread Cert.UpdateMemKvIdeal.nD Cert.UpdateMemKvIdeal.τ).loc Cert.UpdateMemKvIdeal.main_arg1) = m ((c.tc : Thread Cert.UpdateMemKvIdeal.nD Cert.UpdateMemKvIdeal.τ).loc Cert.UpdateMemKvIdeal.main_arg1)
      ∧ r.2.mem ((c.tc : Thread Cert.UpdateMemKvIdeal.nD Cert.UpdateMemKvIdeal.τ).loc Cert.UpdateMemKvIdeal.main_arg2) = m ((c.tc : Thread Cert.UpdateMemKvIdeal.nD Cert.UpdateMemKvIdeal.τ).loc Cert.UpdateMemKvIdeal.main_arg2)
      ∧ r.2.mem ((c.tc : Thread Cert.UpdateMemKvIdeal.nD Cert.UpdateMemKvIdeal.τ).loc Cert.UpdateMemKvIdeal.main_arg3) = m ((c.tc : Thread Cert.UpdateMemKvIdeal.nD Cert.UpdateMemKvIdeal.τ).loc Cert.UpdateMemKvIdeal.main_arg3))
      ∧ r.2.sem = fun _ => 0)

def quiescent_UpdateMemKvReferenceIdeal [hUpdateMemKvReferenceIdeal : Cert.UpdateMemKvReferenceIdeal.Facts] : Prop :=
  ∀ (m : (ℓ : Loc Cert.UpdateMemKvReferenceIdeal.nD Cert.UpdateMemKvReferenceIdeal.τ Cert.UpdateMemKvReferenceIdeal.sig) → Buf (Elt Ideal) ℓ) (g : Dev Cert.UpdateMemKvReferenceIdeal.nD → PrngReg), Pre_UpdateMemKvReferenceIdeal m →
    θ_run (Cert.UpdateMemKvReferenceIdeal.defs (F := Ideal)) (onTc (τ := Cert.UpdateMemKvReferenceIdeal.τ) (Cert.UpdateMemKvReferenceIdeal.main (F := Ideal))) ⟨m, fun _ => 0, g⟩ (fun r => (∀ c : Dev Cert.UpdateMemKvReferenceIdeal.nD,
      r.2.mem ((c.tc : Thread Cert.UpdateMemKvReferenceIdeal.nD Cert.UpdateMemKvReferenceIdeal.τ).loc Cert.UpdateMemKvReferenceIdeal.main_arg0) = m ((c.tc : Thread Cert.UpdateMemKvReferenceIdeal.nD Cert.UpdateMemKvReferenceIdeal.τ).loc Cert.UpdateMemKvReferenceIdeal.main_arg0)
      ∧ r.2.mem ((c.tc : Thread Cert.UpdateMemKvReferenceIdeal.nD Cert.UpdateMemKvReferenceIdeal.τ).loc Cert.UpdateMemKvReferenceIdeal.main_arg1) = m ((c.tc : Thread Cert.UpdateMemKvReferenceIdeal.nD Cert.UpdateMemKvReferenceIdeal.τ).loc Cert.UpdateMemKvReferenceIdeal.main_arg1)
      ∧ r.2.mem ((c.tc : Thread Cert.UpdateMemKvReferenceIdeal.nD Cert.UpdateMemKvReferenceIdeal.τ).loc Cert.UpdateMemKvReferenceIdeal.main_arg2) = m ((c.tc : Thread Cert.UpdateMemKvReferenceIdeal.nD Cert.UpdateMemKvReferenceIdeal.τ).loc Cert.UpdateMemKvReferenceIdeal.main_arg2)
      ∧ r.2.mem ((c.tc : Thread Cert.UpdateMemKvReferenceIdeal.nD Cert.UpdateMemKvReferenceIdeal.τ).loc Cert.UpdateMemKvReferenceIdeal.main_arg3) = m ((c.tc : Thread Cert.UpdateMemKvReferenceIdeal.nD Cert.UpdateMemKvReferenceIdeal.τ).loc Cert.UpdateMemKvReferenceIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3))
      ∧ r.2.sem = fun _ => 0)

def quiescent_UpdateUp [hUpdateUp : Cert.UpdateUp.Facts] : Prop :=
  ∀ (m : (ℓ : Loc Cert.UpdateUp.nD Cert.UpdateUp.τ Cert.UpdateUp.sig) → Buf (Elt Bits) ℓ) (g : Dev Cert.UpdateUp.nD → PrngReg), Pre_UpdateUp m →
    θ_run (Cert.UpdateUp.defs (F := Bits)) (onTc (τ := Cert.UpdateUp.τ) (Cert.UpdateUp.main (F := Bits))) ⟨m, fun _ => 0, g⟩ (fun r => (∀ c : Dev Cert.UpdateUp.nD,
      r.2.mem ((c.tc : Thread Cert.UpdateUp.nD Cert.UpdateUp.τ).loc Cert.UpdateUp.main_arg0) = m ((c.tc : Thread Cert.UpdateUp.nD Cert.UpdateUp.τ).loc Cert.UpdateUp.main_arg0)
      ∧ r.2.mem ((c.tc : Thread Cert.UpdateUp.nD Cert.UpdateUp.τ).loc Cert.UpdateUp.main_arg1) = m ((c.tc : Thread Cert.UpdateUp.nD Cert.UpdateUp.τ).loc Cert.UpdateUp.main_arg1)
      ∧ r.2.mem ((c.tc : Thread Cert.UpdateUp.nD Cert.UpdateUp.τ).loc Cert.UpdateUp.main_arg2) = m ((c.tc : Thread Cert.UpdateUp.nD Cert.UpdateUp.τ).loc Cert.UpdateUp.main_arg2)
      ∧ r.2.mem ((c.tc : Thread Cert.UpdateUp.nD Cert.UpdateUp.τ).loc Cert.UpdateUp.main_arg3) = m ((c.tc : Thread Cert.UpdateUp.nD Cert.UpdateUp.τ).loc Cert.UpdateUp.main_arg3))
      ∧ r.2.sem = fun _ => 0)

def quiescent_UpdateUpIdeal [hUpdateUpIdeal : Cert.UpdateUpIdeal.Facts] : Prop :=
  ∀ (m : (ℓ : Loc Cert.UpdateUpIdeal.nD Cert.UpdateUpIdeal.τ Cert.UpdateUpIdeal.sig) → Buf (Elt Ideal) ℓ) (g : Dev Cert.UpdateUpIdeal.nD → PrngReg), Pre_UpdateUpIdeal m →
    θ_run (Cert.UpdateUpIdeal.defs (F := Ideal)) (onTc (τ := Cert.UpdateUpIdeal.τ) (Cert.UpdateUpIdeal.main (F := Ideal))) ⟨m, fun _ => 0, g⟩ (fun r => (∀ c : Dev Cert.UpdateUpIdeal.nD,
      r.2.mem ((c.tc : Thread Cert.UpdateUpIdeal.nD Cert.UpdateUpIdeal.τ).loc Cert.UpdateUpIdeal.main_arg0) = m ((c.tc : Thread Cert.UpdateUpIdeal.nD Cert.UpdateUpIdeal.τ).loc Cert.UpdateUpIdeal.main_arg0)
      ∧ r.2.mem ((c.tc : Thread Cert.UpdateUpIdeal.nD Cert.UpdateUpIdeal.τ).loc Cert.UpdateUpIdeal.main_arg1) = m ((c.tc : Thread Cert.UpdateUpIdeal.nD Cert.UpdateUpIdeal.τ).loc Cert.UpdateUpIdeal.main_arg1)
      ∧ r.2.mem ((c.tc : Thread Cert.UpdateUpIdeal.nD Cert.UpdateUpIdeal.τ).loc Cert.UpdateUpIdeal.main_arg2) = m ((c.tc : Thread Cert.UpdateUpIdeal.nD Cert.UpdateUpIdeal.τ).loc Cert.UpdateUpIdeal.main_arg2)
      ∧ r.2.mem ((c.tc : Thread Cert.UpdateUpIdeal.nD Cert.UpdateUpIdeal.τ).loc Cert.UpdateUpIdeal.main_arg3) = m ((c.tc : Thread Cert.UpdateUpIdeal.nD Cert.UpdateUpIdeal.τ).loc Cert.UpdateUpIdeal.main_arg3))
      ∧ r.2.sem = fun _ => 0)

def quiescent_UpdateUpReferenceIdeal [hUpdateUpReferenceIdeal : Cert.UpdateUpReferenceIdeal.Facts] : Prop :=
  ∀ (m : (ℓ : Loc Cert.UpdateUpReferenceIdeal.nD Cert.UpdateUpReferenceIdeal.τ Cert.UpdateUpReferenceIdeal.sig) → Buf (Elt Ideal) ℓ) (g : Dev Cert.UpdateUpReferenceIdeal.nD → PrngReg), Pre_UpdateUpReferenceIdeal m →
    θ_run (Cert.UpdateUpReferenceIdeal.defs (F := Ideal)) (onTc (τ := Cert.UpdateUpReferenceIdeal.τ) (Cert.UpdateUpReferenceIdeal.main (F := Ideal))) ⟨m, fun _ => 0, g⟩ (fun r => (∀ c : Dev Cert.UpdateUpReferenceIdeal.nD,
      r.2.mem ((c.tc : Thread Cert.UpdateUpReferenceIdeal.nD Cert.UpdateUpReferenceIdeal.τ).loc Cert.UpdateUpReferenceIdeal.main_arg0) = m ((c.tc : Thread Cert.UpdateUpReferenceIdeal.nD Cert.UpdateUpReferenceIdeal.τ).loc Cert.UpdateUpReferenceIdeal.main_arg0)
      ∧ r.2.mem ((c.tc : Thread Cert.UpdateUpReferenceIdeal.nD Cert.UpdateUpReferenceIdeal.τ).loc Cert.UpdateUpReferenceIdeal.main_arg1) = m ((c.tc : Thread Cert.UpdateUpReferenceIdeal.nD Cert.UpdateUpReferenceIdeal.τ).loc Cert.UpdateUpReferenceIdeal.main_arg1)
      ∧ r.2.mem ((c.tc : Thread Cert.UpdateUpReferenceIdeal.nD Cert.UpdateUpReferenceIdeal.τ).loc Cert.UpdateUpReferenceIdeal.main_arg2) = m ((c.tc : Thread Cert.UpdateUpReferenceIdeal.nD Cert.UpdateUpReferenceIdeal.τ).loc Cert.UpdateUpReferenceIdeal.main_arg2)
      ∧ r.2.mem ((c.tc : Thread Cert.UpdateUpReferenceIdeal.nD Cert.UpdateUpReferenceIdeal.τ).loc Cert.UpdateUpReferenceIdeal.main_arg3) = m ((c.tc : Thread Cert.UpdateUpReferenceIdeal.nD Cert.UpdateUpReferenceIdeal.τ).loc Cert.UpdateUpReferenceIdeal.main_arg3))
      ∧ r.2.sem = fun _ => 0)

def quiescent_UpdateDown [hUpdateDown : Cert.UpdateDown.Facts] : Prop :=
  ∀ (m : (ℓ : Loc Cert.UpdateDown.nD Cert.UpdateDown.τ Cert.UpdateDown.sig) → Buf (Elt Bits) ℓ) (g : Dev Cert.UpdateDown.nD → PrngReg), Pre_UpdateDown m →
    θ_run (Cert.UpdateDown.defs (F := Bits)) (onTc (τ := Cert.UpdateDown.τ) (Cert.UpdateDown.main (F := Bits))) ⟨m, fun _ => 0, g⟩ (fun r => (∀ c : Dev Cert.UpdateDown.nD,
      r.2.mem ((c.tc : Thread Cert.UpdateDown.nD Cert.UpdateDown.τ).loc Cert.UpdateDown.main_arg0) = m ((c.tc : Thread Cert.UpdateDown.nD Cert.UpdateDown.τ).loc Cert.UpdateDown.main_arg0)
      ∧ r.2.mem ((c.tc : Thread Cert.UpdateDown.nD Cert.UpdateDown.τ).loc Cert.UpdateDown.main_arg1) = m ((c.tc : Thread Cert.UpdateDown.nD Cert.UpdateDown.τ).loc Cert.UpdateDown.main_arg1)
      ∧ r.2.mem ((c.tc : Thread Cert.UpdateDown.nD Cert.UpdateDown.τ).loc Cert.UpdateDown.main_arg2) = m ((c.tc : Thread Cert.UpdateDown.nD Cert.UpdateDown.τ).loc Cert.UpdateDown.main_arg2)
      ∧ r.2.mem ((c.tc : Thread Cert.UpdateDown.nD Cert.UpdateDown.τ).loc Cert.UpdateDown.main_arg3) = m ((c.tc : Thread Cert.UpdateDown.nD Cert.UpdateDown.τ).loc Cert.UpdateDown.main_arg3))
      ∧ r.2.sem = fun _ => 0)

def quiescent_UpdateDownIdeal [hUpdateDownIdeal : Cert.UpdateDownIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg), Pre_UpdateDownIdeal m →
    θ_run (Cert.UpdateDownIdeal.defs (F := Ideal)) (onTc (τ := Cert.UpdateDownIdeal.τ) (Cert.UpdateDownIdeal.main (F := Ideal))) ⟨m, fun _ => 0, g⟩ (fun r => (∀ c : Dev Cert.UpdateDownIdeal.nD,
      r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
      ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
      ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
      ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ r.2.sem = fun _ => 0)

def quiescent_UpdateDownReferenceIdeal [hUpdateDownReferenceIdeal : Cert.UpdateDownReferenceIdeal.Facts] : Prop :=
  ∀ (m : (ℓ : Loc Cert.UpdateDownReferenceIdeal.nD Cert.UpdateDownReferenceIdeal.τ Cert.UpdateDownReferenceIdeal.sig) → Buf (Elt Ideal) ℓ) (g : Dev Cert.UpdateDownReferenceIdeal.nD → PrngReg), Pre_UpdateDownReferenceIdeal m →
    θ_run (Cert.UpdateDownReferenceIdeal.defs (F := Ideal)) (onTc (τ := Cert.UpdateDownReferenceIdeal.τ) (Cert.UpdateDownReferenceIdeal.main (F := Ideal))) ⟨m, fun _ => 0, g⟩ (fun r => (∀ c : Dev Cert.UpdateDownReferenceIdeal.nD,
      r.2.mem ((c.tc : Thread Cert.UpdateDownReferenceIdeal.nD Cert.UpdateDownReferenceIdeal.τ).loc Cert.UpdateDownReferenceIdeal.main_arg0) = m ((c.tc : Thread Cert.UpdateDownReferenceIdeal.nD Cert.UpdateDownReferenceIdeal.τ).loc Cert.UpdateDownReferenceIdeal.main_arg0)
      ∧ r.2.mem ((c.tc : Thread Cert.UpdateDownReferenceIdeal.nD Cert.UpdateDownReferenceIdeal.τ).loc Cert.UpdateDownReferenceIdeal.main_arg1) = m ((c.tc : Thread Cert.UpdateDownReferenceIdeal.nD Cert.UpdateDownReferenceIdeal.τ).loc Cert.UpdateDownReferenceIdeal.main_arg1)
      ∧ r.2.mem ((c.tc : Thread Cert.UpdateDownReferenceIdeal.nD Cert.UpdateDownReferenceIdeal.τ).loc Cert.UpdateDownReferenceIdeal.main_arg2) = m ((c.tc : Thread Cert.UpdateDownReferenceIdeal.nD Cert.UpdateDownReferenceIdeal.τ).loc Cert.UpdateDownReferenceIdeal.main_arg2)
      ∧ r.2.mem ((c.tc : Thread Cert.UpdateDownReferenceIdeal.nD Cert.UpdateDownReferenceIdeal.τ).loc Cert.UpdateDownReferenceIdeal.main_arg3) = m ((c.tc : Thread Cert.UpdateDownReferenceIdeal.nD Cert.UpdateDownReferenceIdeal.τ).loc Cert.UpdateDownReferenceIdeal.main_arg3))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_forward_finite [hSbFwdIdeal : Cert.SbFwdIdeal.Facts] [hPre_forward_finite : Cert.Pre_forward_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_forward_finite m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdReferenceIdeal [hSbFwdReferenceIdeal : Cert.SbFwdReferenceIdeal.Facts] : Prop :=
  ∀ (m : (ℓ : Loc Cert.SbFwdReferenceIdeal.nD Cert.SbFwdReferenceIdeal.τ Cert.SbFwdReferenceIdeal.sig) → Buf (Elt Ideal) ℓ) (g : Dev Cert.SbFwdReferenceIdeal.nD → PrngReg), Pre_SbFwdReferenceIdeal m →
    θ_run (Cert.SbFwdReferenceIdeal.defs (F := Ideal)) (onTc (τ := Cert.SbFwdReferenceIdeal.τ) (Cert.SbFwdReferenceIdeal.main (F := Ideal))) ⟨m, fun _ => 0, g⟩ (fun r => (∀ c : Dev Cert.SbFwdReferenceIdeal.nD,
      r.2.mem ((c.tc : Thread Cert.SbFwdReferenceIdeal.nD Cert.SbFwdReferenceIdeal.τ).loc Cert.SbFwdReferenceIdeal.main_arg0) = m ((c.tc : Thread Cert.SbFwdReferenceIdeal.nD Cert.SbFwdReferenceIdeal.τ).loc Cert.SbFwdReferenceIdeal.main_arg0))
      ∧ r.2.sem = fun _ => 0)

def quiescent_SbFwdReferenceIdeal_pre_forward_finite [hSbFwdReferenceIdeal : Cert.SbFwdReferenceIdeal.Facts] [hPre_forward_finite : Cert.Pre_forward_finite.Facts] : Prop :=
  ∀ (m : (ℓ : Loc Cert.SbFwdReferenceIdeal.nD Cert.SbFwdReferenceIdeal.τ Cert.SbFwdReferenceIdeal.sig) → Buf (Elt Ideal) ℓ) (g : Dev Cert.SbFwdReferenceIdeal.nD → PrngReg), Pre_SbFwdReferenceIdeal_forward_finite m →
    θ_run (Cert.SbFwdReferenceIdeal.defs (F := Ideal)) (onTc (τ := Cert.SbFwdReferenceIdeal.τ) (Cert.SbFwdReferenceIdeal.main (F := Ideal))) ⟨m, fun _ => 0, g⟩ (fun r => (∀ c : Dev Cert.SbFwdReferenceIdeal.nD,
      r.2.mem ((c.tc : Thread Cert.SbFwdReferenceIdeal.nD Cert.SbFwdReferenceIdeal.τ).loc Cert.SbFwdReferenceIdeal.main_arg0) = m ((c.tc : Thread Cert.SbFwdReferenceIdeal.nD Cert.SbFwdReferenceIdeal.τ).loc Cert.SbFwdReferenceIdeal.main_arg0))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v7) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v7) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v5) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v5) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_SbOutGrad_SbOutGradIdeal : Prop :=
  True

def algebraic_SbOutGradIdeal_SbOutGradReferenceIdeal [hSbOutGradIdeal : Cert.SbOutGradIdeal.Facts] [hSbOutGradReferenceIdeal : Cert.SbOutGradReferenceIdeal.Facts] : Prop :=
  ∀ (m : (ℓ : Loc Cert.SbOutGradIdeal.nD Cert.SbOutGradIdeal.τ Cert.SbOutGradIdeal.sig) → Buf (Elt Ideal) ℓ) (g : Dev Cert.SbOutGradIdeal.nD → PrngReg)
    (m' : (ℓ : Loc Cert.SbOutGradReferenceIdeal.nD Cert.SbOutGradReferenceIdeal.τ Cert.SbOutGradReferenceIdeal.sig) → Buf (Elt Ideal) ℓ) (g' : Dev Cert.SbOutGradReferenceIdeal.nD → PrngReg), Pre_SbOutGradIdeal m →
    (∀ c : Dev Cert.SbOutGradIdeal.nD,
      m' ((c.tc : Thread Cert.SbOutGradReferenceIdeal.nD Cert.SbOutGradReferenceIdeal.τ).loc Cert.SbOutGradReferenceIdeal.main_arg0) = m ((c.tc : Thread Cert.SbOutGradIdeal.nD Cert.SbOutGradIdeal.τ).loc Cert.SbOutGradIdeal.main_arg0)
      ∧ m' ((c.tc : Thread Cert.SbOutGradReferenceIdeal.nD Cert.SbOutGradReferenceIdeal.τ).loc Cert.SbOutGradReferenceIdeal.main_arg1) = m ((c.tc : Thread Cert.SbOutGradIdeal.nD Cert.SbOutGradIdeal.τ).loc Cert.SbOutGradIdeal.main_arg1)) →
    ∃ (v0 : (c : Dev Cert.SbOutGradIdeal.nD) → Buf (Elt Ideal) ((c.tc : Thread Cert.SbOutGradIdeal.nD Cert.SbOutGradIdeal.τ).loc Cert.SbOutGradIdeal.main_v0)),
      θ_run (Cert.SbOutGradIdeal.defs (F := Ideal)) (onTc (τ := Cert.SbOutGradIdeal.τ) (Cert.SbOutGradIdeal.main (F := Ideal))) ⟨m, fun _ => 0, g⟩ (fun r => ∀ c : Dev Cert.SbOutGradIdeal.nD,
          r.2.mem ((c.tc : Thread Cert.SbOutGradIdeal.nD Cert.SbOutGradIdeal.τ).loc Cert.SbOutGradIdeal.main_v0) = v0 c
          ∧ r.2.mem ((c.tc : Thread Cert.SbOutGradIdeal.nD Cert.SbOutGradIdeal.τ).loc Cert.SbOutGradIdeal.main_arg0) = m ((c.tc : Thread Cert.SbOutGradIdeal.nD Cert.SbOutGradIdeal.τ).loc Cert.SbOutGradIdeal.main_arg0)
          ∧ r.2.mem ((c.tc : Thread Cert.SbOutGradIdeal.nD Cert.SbOutGradIdeal.τ).loc Cert.SbOutGradIdeal.main_arg1) = m ((c.tc : Thread Cert.SbOutGradIdeal.nD Cert.SbOutGradIdeal.τ).loc Cert.SbOutGradIdeal.main_arg1))
      ∧ θ_run (Cert.SbOutGradReferenceIdeal.defs (F := Ideal)) (onTc (τ := Cert.SbOutGradReferenceIdeal.τ) (Cert.SbOutGradReferenceIdeal.main (F := Ideal))) ⟨m', fun _ => 0, g'⟩ (fun r => ∀ c : Dev Cert.SbOutGradReferenceIdeal.nD,
          r.2.mem ((c.tc : Thread Cert.SbOutGradReferenceIdeal.nD Cert.SbOutGradReferenceIdeal.τ).loc Cert.SbOutGradReferenceIdeal.main_v7) = v0 c
          ∧ r.2.mem ((c.tc : Thread Cert.SbOutGradReferenceIdeal.nD Cert.SbOutGradReferenceIdeal.τ).loc Cert.SbOutGradReferenceIdeal.main_arg0) = m' ((c.tc : Thread Cert.SbOutGradReferenceIdeal.nD Cert.SbOutGradReferenceIdeal.τ).loc Cert.SbOutGradReferenceIdeal.main_arg0)
          ∧ r.2.mem ((c.tc : Thread Cert.SbOutGradReferenceIdeal.nD Cert.SbOutGradReferenceIdeal.τ).loc Cert.SbOutGradReferenceIdeal.main_arg1) = m' ((c.tc : Thread Cert.SbOutGradReferenceIdeal.nD Cert.SbOutGradReferenceIdeal.τ).loc Cert.SbOutGradReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_ProjIn_ProjInIdeal : Prop :=
  True

def algebraic_ProjInIdeal_ProjInReferenceIdeal [hProjInIdeal : Cert.ProjInIdeal.Facts] [hProjInReferenceIdeal : Cert.ProjInReferenceIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInReferenceIdeal.nD Cert.ProjInReferenceIdeal.τ Cert.ProjInReferenceIdeal.sig) → Buf (Elt Ideal) ℓ) (g' : Dev Cert.ProjInReferenceIdeal.nD → PrngReg), Pre_ProjInIdeal m →
    (∀ c : Dev Cert.ProjInIdeal.nD,
      m' ((c.tc : Thread Cert.ProjInReferenceIdeal.nD Cert.ProjInReferenceIdeal.τ).loc Cert.ProjInReferenceIdeal.main_arg0) = m ((c.tc : Thread Cert.ProjInIdeal.nD Cert.ProjInIdeal.τ).loc Cert.ProjInIdeal.main_arg0)
      ∧ m' ((c.tc : Thread Cert.ProjInReferenceIdeal.nD Cert.ProjInReferenceIdeal.τ).loc Cert.ProjInReferenceIdeal.main_arg1) = m ((c.tc : Thread Cert.ProjInIdeal.nD Cert.ProjInIdeal.τ).loc Cert.ProjInIdeal.main_arg1)
      ∧ m' ((c.tc : Thread Cert.ProjInReferenceIdeal.nD Cert.ProjInReferenceIdeal.τ).loc Cert.ProjInReferenceIdeal.main_arg2) = m ((c.tc : Thread Cert.ProjInIdeal.nD Cert.ProjInIdeal.τ).loc Cert.ProjInIdeal.main_arg2)) →
    ∃ (v0 : (c : Dev Cert.ProjInIdeal.nD) → Buf (Elt Ideal) ((c.tc : Thread Cert.ProjInIdeal.nD Cert.ProjInIdeal.τ).loc Cert.ProjInIdeal.main_v1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v1) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ θ_run (Cert.ProjInReferenceIdeal.defs (F := Ideal)) (onTc (τ := Cert.ProjInReferenceIdeal.τ) (Cert.ProjInReferenceIdeal.main (F := Ideal))) ⟨m', fun _ => 0, g'⟩ (fun r => ∀ c : Dev Cert.ProjInReferenceIdeal.nD,
          r.2.mem ((c.tc : Thread Cert.ProjInReferenceIdeal.nD Cert.ProjInReferenceIdeal.τ).loc Cert.ProjInReferenceIdeal.main_v7) = v0 c
          ∧ r.2.mem ((c.tc : Thread Cert.ProjInReferenceIdeal.nD Cert.ProjInReferenceIdeal.τ).loc Cert.ProjInReferenceIdeal.main_arg0) = m' ((c.tc : Thread Cert.ProjInReferenceIdeal.nD Cert.ProjInReferenceIdeal.τ).loc Cert.ProjInReferenceIdeal.main_arg0)
          ∧ r.2.mem ((c.tc : Thread Cert.ProjInReferenceIdeal.nD Cert.ProjInReferenceIdeal.τ).loc Cert.ProjInReferenceIdeal.main_arg1) = m' ((c.tc : Thread Cert.ProjInReferenceIdeal.nD Cert.ProjInReferenceIdeal.τ).loc Cert.ProjInReferenceIdeal.main_arg1)
          ∧ r.2.mem ((c.tc : Thread Cert.ProjInReferenceIdeal.nD Cert.ProjInReferenceIdeal.τ).loc Cert.ProjInReferenceIdeal.main_arg2) = m' ((c.tc : Thread Cert.ProjInReferenceIdeal.nD Cert.ProjInReferenceIdeal.τ).loc Cert.ProjInReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_SbOut_SbOutIdeal : Prop :=
  True

def algebraic_SbOutIdeal_SbOutReferenceIdeal [hSbOutIdeal : Cert.SbOutIdeal.Facts] [hSbOutReferenceIdeal : Cert.SbOutReferenceIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.SbOutReferenceIdeal.nD Cert.SbOutReferenceIdeal.τ Cert.SbOutReferenceIdeal.sig) → Buf (Elt Ideal) ℓ) (g' : Dev Cert.SbOutReferenceIdeal.nD → PrngReg), Pre_SbOutIdeal m →
    (∀ c : Dev Cert.SbOutIdeal.nD,
      m' ((c.tc : Thread Cert.SbOutReferenceIdeal.nD Cert.SbOutReferenceIdeal.τ).loc Cert.SbOutReferenceIdeal.main_arg0) = m ((c.tc : Thread Cert.SbOutIdeal.nD Cert.SbOutIdeal.τ).loc Cert.SbOutIdeal.main_arg0)
      ∧ m' ((c.tc : Thread Cert.SbOutReferenceIdeal.nD Cert.SbOutReferenceIdeal.τ).loc Cert.SbOutReferenceIdeal.main_arg1) = m ((c.tc : Thread Cert.SbOutIdeal.nD Cert.SbOutIdeal.τ).loc Cert.SbOutIdeal.main_arg1)) →
    ∃ (v0 : (c : Dev Cert.SbOutIdeal.nD) → Buf (Elt Ideal) ((c.tc : Thread Cert.SbOutIdeal.nD Cert.SbOutIdeal.τ).loc Cert.SbOutIdeal.main_v0)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v0) = v0 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1))
      ∧ θ_run (Cert.SbOutReferenceIdeal.defs (F := Ideal)) (onTc (τ := Cert.SbOutReferenceIdeal.τ) (Cert.SbOutReferenceIdeal.main (F := Ideal))) ⟨m', fun _ => 0, g'⟩ (fun r => ∀ c : Dev Cert.SbOutReferenceIdeal.nD,
          r.2.mem ((c.tc : Thread Cert.SbOutReferenceIdeal.nD Cert.SbOutReferenceIdeal.τ).loc Cert.SbOutReferenceIdeal.main_v4) = v0 c
          ∧ r.2.mem ((c.tc : Thread Cert.SbOutReferenceIdeal.nD Cert.SbOutReferenceIdeal.τ).loc Cert.SbOutReferenceIdeal.main_arg0) = m' ((c.tc : Thread Cert.SbOutReferenceIdeal.nD Cert.SbOutReferenceIdeal.τ).loc Cert.SbOutReferenceIdeal.main_arg0)
          ∧ r.2.mem ((c.tc : Thread Cert.SbOutReferenceIdeal.nD Cert.SbOutReferenceIdeal.τ).loc Cert.SbOutReferenceIdeal.main_arg1) = m' ((c.tc : Thread Cert.SbOutReferenceIdeal.nD Cert.SbOutReferenceIdeal.τ).loc Cert.SbOutReferenceIdeal.main_arg1))

def preserves_DownBack_DownBackIdeal : Prop :=
  True

def algebraic_DownBackIdeal_DownBackReferenceIdeal [hDownBackIdeal : Cert.DownBackIdeal.Facts] [hDownBackReferenceIdeal : Cert.DownBackReferenceIdeal.Facts] : Prop :=
  ∀ (m : (ℓ : Loc Cert.DownBackIdeal.nD Cert.DownBackIdeal.τ Cert.DownBackIdeal.sig) → Buf (Elt Ideal) ℓ) (g : Dev Cert.DownBackIdeal.nD → PrngReg)
    (m' : (ℓ : Loc Cert.DownBackReferenceIdeal.nD Cert.DownBackReferenceIdeal.τ Cert.DownBackReferenceIdeal.sig) → Buf (Elt Ideal) ℓ) (g' : Dev Cert.DownBackReferenceIdeal.nD → PrngReg), Pre_DownBackIdeal m →
    (∀ c : Dev Cert.DownBackIdeal.nD,
      m' ((c.tc : Thread Cert.DownBackReferenceIdeal.nD Cert.DownBackReferenceIdeal.τ).loc Cert.DownBackReferenceIdeal.main_arg0) = m ((c.tc : Thread Cert.DownBackIdeal.nD Cert.DownBackIdeal.τ).loc Cert.DownBackIdeal.main_arg0)
      ∧ m' ((c.tc : Thread Cert.DownBackReferenceIdeal.nD Cert.DownBackReferenceIdeal.τ).loc Cert.DownBackReferenceIdeal.main_arg1) = m ((c.tc : Thread Cert.DownBackIdeal.nD Cert.DownBackIdeal.τ).loc Cert.DownBackIdeal.main_arg1)) →
    ∃ (v0 : (c : Dev Cert.DownBackIdeal.nD) → Buf (Elt Ideal) ((c.tc : Thread Cert.DownBackIdeal.nD Cert.DownBackIdeal.τ).loc Cert.DownBackIdeal.main_v1)),
      θ_run (Cert.DownBackIdeal.defs (F := Ideal)) (onTc (τ := Cert.DownBackIdeal.τ) (Cert.DownBackIdeal.main (F := Ideal))) ⟨m, fun _ => 0, g⟩ (fun r => ∀ c : Dev Cert.DownBackIdeal.nD,
          r.2.mem ((c.tc : Thread Cert.DownBackIdeal.nD Cert.DownBackIdeal.τ).loc Cert.DownBackIdeal.main_v1) = v0 c
          ∧ r.2.mem ((c.tc : Thread Cert.DownBackIdeal.nD Cert.DownBackIdeal.τ).loc Cert.DownBackIdeal.main_arg0) = m ((c.tc : Thread Cert.DownBackIdeal.nD Cert.DownBackIdeal.τ).loc Cert.DownBackIdeal.main_arg0)
          ∧ r.2.mem ((c.tc : Thread Cert.DownBackIdeal.nD Cert.DownBackIdeal.τ).loc Cert.DownBackIdeal.main_arg1) = m ((c.tc : Thread Cert.DownBackIdeal.nD Cert.DownBackIdeal.τ).loc Cert.DownBackIdeal.main_arg1))
      ∧ θ_run (Cert.DownBackReferenceIdeal.defs (F := Ideal)) (onTc (τ := Cert.DownBackReferenceIdeal.τ) (Cert.DownBackReferenceIdeal.main (F := Ideal))) ⟨m', fun _ => 0, g'⟩ (fun r => ∀ c : Dev Cert.DownBackReferenceIdeal.nD,
          r.2.mem ((c.tc : Thread Cert.DownBackReferenceIdeal.nD Cert.DownBackReferenceIdeal.τ).loc Cert.DownBackReferenceIdeal.main_v5) = v0 c
          ∧ r.2.mem ((c.tc : Thread Cert.DownBackReferenceIdeal.nD Cert.DownBackReferenceIdeal.τ).loc Cert.DownBackReferenceIdeal.main_arg0) = m' ((c.tc : Thread Cert.DownBackReferenceIdeal.nD Cert.DownBackReferenceIdeal.τ).loc Cert.DownBackReferenceIdeal.main_arg0)
          ∧ r.2.mem ((c.tc : Thread Cert.DownBackReferenceIdeal.nD Cert.DownBackReferenceIdeal.τ).loc Cert.DownBackReferenceIdeal.main_arg1) = m' ((c.tc : Thread Cert.DownBackReferenceIdeal.nD Cert.DownBackReferenceIdeal.τ).loc Cert.DownBackReferenceIdeal.main_arg1))

def preserves_OutBack_OutBackIdeal : Prop :=
  True

def algebraic_OutBackIdeal_OutBackReferenceIdeal [hOutBackIdeal : Cert.OutBackIdeal.Facts] [hOutBackReferenceIdeal : Cert.OutBackReferenceIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackReferenceIdeal.nD Cert.OutBackReferenceIdeal.τ Cert.OutBackReferenceIdeal.sig) → Buf (Elt Ideal) ℓ) (g' : Dev Cert.OutBackReferenceIdeal.nD → PrngReg), Pre_OutBackIdeal m →
    (∀ c : Dev Cert.OutBackIdeal.nD,
      m' ((c.tc : Thread Cert.OutBackReferenceIdeal.nD Cert.OutBackReferenceIdeal.τ).loc Cert.OutBackReferenceIdeal.main_arg0) = m ((c.tc : Thread Cert.OutBackIdeal.nD Cert.OutBackIdeal.τ).loc Cert.OutBackIdeal.main_arg0)
      ∧ m' ((c.tc : Thread Cert.OutBackReferenceIdeal.nD Cert.OutBackReferenceIdeal.τ).loc Cert.OutBackReferenceIdeal.main_arg1) = m ((c.tc : Thread Cert.OutBackIdeal.nD Cert.OutBackIdeal.τ).loc Cert.OutBackIdeal.main_arg1)) →
    ∃ (v0 : (c : Dev Cert.OutBackIdeal.nD) → Buf (Elt Ideal) ((c.tc : Thread Cert.OutBackIdeal.nD Cert.OutBackIdeal.τ).loc Cert.OutBackIdeal.main_v1)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v1) = v0 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ θ_run (Cert.OutBackReferenceIdeal.defs (F := Ideal)) (onTc (τ := Cert.OutBackReferenceIdeal.τ) (Cert.OutBackReferenceIdeal.main (F := Ideal))) ⟨m', fun _ => 0, g'⟩ (fun r => ∀ c : Dev Cert.OutBackReferenceIdeal.nD,
          r.2.mem ((c.tc : Thread Cert.OutBackReferenceIdeal.nD Cert.OutBackReferenceIdeal.τ).loc Cert.OutBackReferenceIdeal.main_v5) = v0 c
          ∧ r.2.mem ((c.tc : Thread Cert.OutBackReferenceIdeal.nD Cert.OutBackReferenceIdeal.τ).loc Cert.OutBackReferenceIdeal.main_arg0) = m' ((c.tc : Thread Cert.OutBackReferenceIdeal.nD Cert.OutBackReferenceIdeal.τ).loc Cert.OutBackReferenceIdeal.main_arg0)
          ∧ r.2.mem ((c.tc : Thread Cert.OutBackReferenceIdeal.nD Cert.OutBackReferenceIdeal.τ).loc Cert.OutBackReferenceIdeal.main_arg1) = m' ((c.tc : Thread Cert.OutBackReferenceIdeal.nD Cert.OutBackReferenceIdeal.τ).loc Cert.OutBackReferenceIdeal.main_arg1))

def preserves_SbOutBack_SbOutBackIdeal : Prop :=
  True

def algebraic_SbOutBackIdeal_SbOutBackReferenceIdeal [hSbOutBackIdeal : Cert.SbOutBackIdeal.Facts] [hSbOutBackReferenceIdeal : Cert.SbOutBackReferenceIdeal.Facts] : Prop :=
  ∀ (m : (ℓ : Loc Cert.SbOutBackIdeal.nD Cert.SbOutBackIdeal.τ Cert.SbOutBackIdeal.sig) → Buf (Elt Ideal) ℓ) (g : Dev Cert.SbOutBackIdeal.nD → PrngReg)
    (m' : (ℓ : Loc Cert.SbOutBackReferenceIdeal.nD Cert.SbOutBackReferenceIdeal.τ Cert.SbOutBackReferenceIdeal.sig) → Buf (Elt Ideal) ℓ) (g' : Dev Cert.SbOutBackReferenceIdeal.nD → PrngReg), Pre_SbOutBackIdeal m →
    (∀ c : Dev Cert.SbOutBackIdeal.nD,
      m' ((c.tc : Thread Cert.SbOutBackReferenceIdeal.nD Cert.SbOutBackReferenceIdeal.τ).loc Cert.SbOutBackReferenceIdeal.main_arg0) = m ((c.tc : Thread Cert.SbOutBackIdeal.nD Cert.SbOutBackIdeal.τ).loc Cert.SbOutBackIdeal.main_arg0)
      ∧ m' ((c.tc : Thread Cert.SbOutBackReferenceIdeal.nD Cert.SbOutBackReferenceIdeal.τ).loc Cert.SbOutBackReferenceIdeal.main_arg1) = m ((c.tc : Thread Cert.SbOutBackIdeal.nD Cert.SbOutBackIdeal.τ).loc Cert.SbOutBackIdeal.main_arg1)) →
    ∃ (v0 : (c : Dev Cert.SbOutBackIdeal.nD) → Buf (Elt Ideal) ((c.tc : Thread Cert.SbOutBackIdeal.nD Cert.SbOutBackIdeal.τ).loc Cert.SbOutBackIdeal.main_v0)),
      θ_run (Cert.SbOutBackIdeal.defs (F := Ideal)) (onTc (τ := Cert.SbOutBackIdeal.τ) (Cert.SbOutBackIdeal.main (F := Ideal))) ⟨m, fun _ => 0, g⟩ (fun r => ∀ c : Dev Cert.SbOutBackIdeal.nD,
          r.2.mem ((c.tc : Thread Cert.SbOutBackIdeal.nD Cert.SbOutBackIdeal.τ).loc Cert.SbOutBackIdeal.main_v0) = v0 c
          ∧ r.2.mem ((c.tc : Thread Cert.SbOutBackIdeal.nD Cert.SbOutBackIdeal.τ).loc Cert.SbOutBackIdeal.main_arg0) = m ((c.tc : Thread Cert.SbOutBackIdeal.nD Cert.SbOutBackIdeal.τ).loc Cert.SbOutBackIdeal.main_arg0)
          ∧ r.2.mem ((c.tc : Thread Cert.SbOutBackIdeal.nD Cert.SbOutBackIdeal.τ).loc Cert.SbOutBackIdeal.main_arg1) = m ((c.tc : Thread Cert.SbOutBackIdeal.nD Cert.SbOutBackIdeal.τ).loc Cert.SbOutBackIdeal.main_arg1))
      ∧ θ_run (Cert.SbOutBackReferenceIdeal.defs (F := Ideal)) (onTc (τ := Cert.SbOutBackReferenceIdeal.τ) (Cert.SbOutBackReferenceIdeal.main (F := Ideal))) ⟨m', fun _ => 0, g'⟩ (fun r => ∀ c : Dev Cert.SbOutBackReferenceIdeal.nD,
          r.2.mem ((c.tc : Thread Cert.SbOutBackReferenceIdeal.nD Cert.SbOutBackReferenceIdeal.τ).loc Cert.SbOutBackReferenceIdeal.main_v7) = v0 c
          ∧ r.2.mem ((c.tc : Thread Cert.SbOutBackReferenceIdeal.nD Cert.SbOutBackReferenceIdeal.τ).loc Cert.SbOutBackReferenceIdeal.main_arg0) = m' ((c.tc : Thread Cert.SbOutBackReferenceIdeal.nD Cert.SbOutBackReferenceIdeal.τ).loc Cert.SbOutBackReferenceIdeal.main_arg0)
          ∧ r.2.mem ((c.tc : Thread Cert.SbOutBackReferenceIdeal.nD Cert.SbOutBackReferenceIdeal.τ).loc Cert.SbOutBackReferenceIdeal.main_arg1) = m' ((c.tc : Thread Cert.SbOutBackReferenceIdeal.nD Cert.SbOutBackReferenceIdeal.τ).loc Cert.SbOutBackReferenceIdeal.main_arg1))

def preserves_UpBack_UpBackIdeal : Prop :=
  True

def algebraic_UpBackIdeal_UpBackReferenceIdeal [hUpBackIdeal : Cert.UpBackIdeal.Facts] [hUpBackReferenceIdeal : Cert.UpBackReferenceIdeal.Facts] : Prop :=
  ∀ (m : (ℓ : Loc Cert.UpBackIdeal.nD Cert.UpBackIdeal.τ Cert.UpBackIdeal.sig) → Buf (Elt Ideal) ℓ) (g : Dev Cert.UpBackIdeal.nD → PrngReg)
    (m' : (ℓ : Loc Cert.UpBackReferenceIdeal.nD Cert.UpBackReferenceIdeal.τ Cert.UpBackReferenceIdeal.sig) → Buf (Elt Ideal) ℓ) (g' : Dev Cert.UpBackReferenceIdeal.nD → PrngReg), Pre_UpBackIdeal m →
    (∀ c : Dev Cert.UpBackIdeal.nD,
      m' ((c.tc : Thread Cert.UpBackReferenceIdeal.nD Cert.UpBackReferenceIdeal.τ).loc Cert.UpBackReferenceIdeal.main_arg0) = m ((c.tc : Thread Cert.UpBackIdeal.nD Cert.UpBackIdeal.τ).loc Cert.UpBackIdeal.main_arg0)
      ∧ m' ((c.tc : Thread Cert.UpBackReferenceIdeal.nD Cert.UpBackReferenceIdeal.τ).loc Cert.UpBackReferenceIdeal.main_arg1) = m ((c.tc : Thread Cert.UpBackIdeal.nD Cert.UpBackIdeal.τ).loc Cert.UpBackIdeal.main_arg1)
      ∧ m' ((c.tc : Thread Cert.UpBackReferenceIdeal.nD Cert.UpBackReferenceIdeal.τ).loc Cert.UpBackReferenceIdeal.main_arg2) = m ((c.tc : Thread Cert.UpBackIdeal.nD Cert.UpBackIdeal.τ).loc Cert.UpBackIdeal.main_arg2)) →
    ∃ (v0 : (c : Dev Cert.UpBackIdeal.nD) → Buf (Elt Ideal) ((c.tc : Thread Cert.UpBackIdeal.nD Cert.UpBackIdeal.τ).loc Cert.UpBackIdeal.main_v0)),
      θ_run (Cert.UpBackIdeal.defs (F := Ideal)) (onTc (τ := Cert.UpBackIdeal.τ) (Cert.UpBackIdeal.main (F := Ideal))) ⟨m, fun _ => 0, g⟩ (fun r => ∀ c : Dev Cert.UpBackIdeal.nD,
          r.2.mem ((c.tc : Thread Cert.UpBackIdeal.nD Cert.UpBackIdeal.τ).loc Cert.UpBackIdeal.main_v0) = v0 c
          ∧ r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
          ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
          ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2))
      ∧ θ_run (Cert.UpBackReferenceIdeal.defs (F := Ideal)) (onTc (τ := Cert.UpBackReferenceIdeal.τ) (Cert.UpBackReferenceIdeal.main (F := Ideal))) ⟨m', fun _ => 0, g'⟩ (fun r => ∀ c : Dev Cert.UpBackReferenceIdeal.nD,
          r.2.mem ((c.tc : Thread Cert.UpBackReferenceIdeal.nD Cert.UpBackReferenceIdeal.τ).loc Cert.UpBackReferenceIdeal.main_v11) = v0 c
          ∧ r.2.mem ((c.tc : Thread Cert.UpBackReferenceIdeal.nD Cert.UpBackReferenceIdeal.τ).loc Cert.UpBackReferenceIdeal.main_arg0) = m' ((c.tc : Thread Cert.UpBackReferenceIdeal.nD Cert.UpBackReferenceIdeal.τ).loc Cert.UpBackReferenceIdeal.main_arg0)
          ∧ r.2.mem ((c.tc : Thread Cert.UpBackReferenceIdeal.nD Cert.UpBackReferenceIdeal.τ).loc Cert.UpBackReferenceIdeal.main_arg1) = m' ((c.tc : Thread Cert.UpBackReferenceIdeal.nD Cert.UpBackReferenceIdeal.τ).loc Cert.UpBackReferenceIdeal.main_arg1)
          ∧ r.2.mem ((c.tc : Thread Cert.UpBackReferenceIdeal.nD Cert.UpBackReferenceIdeal.τ).loc Cert.UpBackReferenceIdeal.main_arg2) = m' ((c.tc : Thread Cert.UpBackReferenceIdeal.nD Cert.UpBackReferenceIdeal.τ).loc Cert.UpBackReferenceIdeal.main_arg2))

def preserves_InBack_InBackIdeal : Prop :=
  True

def algebraic_InBackIdeal_InBackReferenceIdeal [hInBackIdeal : Cert.InBackIdeal.Facts] [hInBackReferenceIdeal : Cert.InBackReferenceIdeal.Facts] : Prop :=
  ∀ (m : (ℓ : Loc Cert.InBackIdeal.nD Cert.InBackIdeal.τ Cert.InBackIdeal.sig) → Buf (Elt Ideal) ℓ) (g : Dev Cert.InBackIdeal.nD → PrngReg)
    (m' : (ℓ : Loc Cert.InBackReferenceIdeal.nD Cert.InBackReferenceIdeal.τ Cert.InBackReferenceIdeal.sig) → Buf (Elt Ideal) ℓ) (g' : Dev Cert.InBackReferenceIdeal.nD → PrngReg), Pre_InBackIdeal m →
    (∀ c : Dev Cert.InBackIdeal.nD,
      m' ((c.tc : Thread Cert.InBackReferenceIdeal.nD Cert.InBackReferenceIdeal.τ).loc Cert.InBackReferenceIdeal.main_arg0) = m ((c.tc : Thread Cert.InBackIdeal.nD Cert.InBackIdeal.τ).loc Cert.InBackIdeal.main_arg0)
      ∧ m' ((c.tc : Thread Cert.InBackReferenceIdeal.nD Cert.InBackReferenceIdeal.τ).loc Cert.InBackReferenceIdeal.main_arg1) = m ((c.tc : Thread Cert.InBackIdeal.nD Cert.InBackIdeal.τ).loc Cert.InBackIdeal.main_arg1)
      ∧ m' ((c.tc : Thread Cert.InBackReferenceIdeal.nD Cert.InBackReferenceIdeal.τ).loc Cert.InBackReferenceIdeal.main_arg2) = m ((c.tc : Thread Cert.InBackIdeal.nD Cert.InBackIdeal.τ).loc Cert.InBackIdeal.main_arg2)) →
    ∃ (v0 : (c : Dev Cert.InBackIdeal.nD) → Buf (Elt Ideal) ((c.tc : Thread Cert.InBackIdeal.nD Cert.InBackIdeal.τ).loc Cert.InBackIdeal.main_v0)),
      θ_run (Cert.InBackIdeal.defs (F := Ideal)) (onTc (τ := Cert.InBackIdeal.τ) (Cert.InBackIdeal.main (F := Ideal))) ⟨m, fun _ => 0, g⟩ (fun r => ∀ c : Dev Cert.InBackIdeal.nD,
          r.2.mem ((c.tc : Thread Cert.InBackIdeal.nD Cert.InBackIdeal.τ).loc Cert.InBackIdeal.main_v0) = v0 c
          ∧ r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
          ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
          ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2))
      ∧ θ_run (Cert.InBackReferenceIdeal.defs (F := Ideal)) (onTc (τ := Cert.InBackReferenceIdeal.τ) (Cert.InBackReferenceIdeal.main (F := Ideal))) ⟨m', fun _ => 0, g'⟩ (fun r => ∀ c : Dev Cert.InBackReferenceIdeal.nD,
          r.2.mem ((c.tc : Thread Cert.InBackReferenceIdeal.nD Cert.InBackReferenceIdeal.τ).loc Cert.InBackReferenceIdeal.main_v11) = v0 c
          ∧ r.2.mem ((c.tc : Thread Cert.InBackReferenceIdeal.nD Cert.InBackReferenceIdeal.τ).loc Cert.InBackReferenceIdeal.main_arg0) = m' ((c.tc : Thread Cert.InBackReferenceIdeal.nD Cert.InBackReferenceIdeal.τ).loc Cert.InBackReferenceIdeal.main_arg0)
          ∧ r.2.mem ((c.tc : Thread Cert.InBackReferenceIdeal.nD Cert.InBackReferenceIdeal.τ).loc Cert.InBackReferenceIdeal.main_arg1) = m' ((c.tc : Thread Cert.InBackReferenceIdeal.nD Cert.InBackReferenceIdeal.τ).loc Cert.InBackReferenceIdeal.main_arg1)
          ∧ r.2.mem ((c.tc : Thread Cert.InBackReferenceIdeal.nD Cert.InBackReferenceIdeal.τ).loc Cert.InBackReferenceIdeal.main_arg2) = m' ((c.tc : Thread Cert.InBackReferenceIdeal.nD Cert.InBackReferenceIdeal.τ).loc Cert.InBackReferenceIdeal.main_arg2))

def preserves_GluIn_GluInIdeal : Prop :=
  True

def algebraic_GluInIdeal_GluInReferenceIdeal [hGluInIdeal : Cert.GluInIdeal.Facts] [hGluInReferenceIdeal : Cert.GluInReferenceIdeal.Facts] : Prop :=
  ∀ (m : (ℓ : Loc Cert.GluInIdeal.nD Cert.GluInIdeal.τ Cert.GluInIdeal.sig) → Buf (Elt Ideal) ℓ) (g : Dev Cert.GluInIdeal.nD → PrngReg)
    (m' : (ℓ : Loc Cert.GluInReferenceIdeal.nD Cert.GluInReferenceIdeal.τ Cert.GluInReferenceIdeal.sig) → Buf (Elt Ideal) ℓ) (g' : Dev Cert.GluInReferenceIdeal.nD → PrngReg), Pre_GluInIdeal m →
    (∀ c : Dev Cert.GluInIdeal.nD,
      m' ((c.tc : Thread Cert.GluInReferenceIdeal.nD Cert.GluInReferenceIdeal.τ).loc Cert.GluInReferenceIdeal.main_arg0) = m ((c.tc : Thread Cert.GluInIdeal.nD Cert.GluInIdeal.τ).loc Cert.GluInIdeal.main_arg0)
      ∧ m' ((c.tc : Thread Cert.GluInReferenceIdeal.nD Cert.GluInReferenceIdeal.τ).loc Cert.GluInReferenceIdeal.main_arg1) = m ((c.tc : Thread Cert.GluInIdeal.nD Cert.GluInIdeal.τ).loc Cert.GluInIdeal.main_arg1)) →
    ∃ (v0 : (c : Dev Cert.GluInIdeal.nD) → Buf (Elt Ideal) ((c.tc : Thread Cert.GluInIdeal.nD Cert.GluInIdeal.τ).loc Cert.GluInIdeal.main_v0)),
      θ_run (Cert.GluInIdeal.defs (F := Ideal)) (onTc (τ := Cert.GluInIdeal.τ) (Cert.GluInIdeal.main (F := Ideal))) ⟨m, fun _ => 0, g⟩ (fun r => ∀ c : Dev Cert.GluInIdeal.nD,
          r.2.mem ((c.tc : Thread Cert.GluInIdeal.nD Cert.GluInIdeal.τ).loc Cert.GluInIdeal.main_v0) = v0 c
          ∧ r.2.mem ((c.tc : Thread Cert.GluInIdeal.nD Cert.GluInIdeal.τ).loc Cert.GluInIdeal.main_arg0) = m ((c.tc : Thread Cert.GluInIdeal.nD Cert.GluInIdeal.τ).loc Cert.GluInIdeal.main_arg0)
          ∧ r.2.mem ((c.tc : Thread Cert.GluInIdeal.nD Cert.GluInIdeal.τ).loc Cert.GluInIdeal.main_arg1) = m ((c.tc : Thread Cert.GluInIdeal.nD Cert.GluInIdeal.τ).loc Cert.GluInIdeal.main_arg1))
      ∧ θ_run (Cert.GluInReferenceIdeal.defs (F := Ideal)) (onTc (τ := Cert.GluInReferenceIdeal.τ) (Cert.GluInReferenceIdeal.main (F := Ideal))) ⟨m', fun _ => 0, g'⟩ (fun r => ∀ c : Dev Cert.GluInReferenceIdeal.nD,
          r.2.mem ((c.tc : Thread Cert.GluInReferenceIdeal.nD Cert.GluInReferenceIdeal.τ).loc Cert.GluInReferenceIdeal.main_v4) = v0 c
          ∧ r.2.mem ((c.tc : Thread Cert.GluInReferenceIdeal.nD Cert.GluInReferenceIdeal.τ).loc Cert.GluInReferenceIdeal.main_arg0) = m' ((c.tc : Thread Cert.GluInReferenceIdeal.nD Cert.GluInReferenceIdeal.τ).loc Cert.GluInReferenceIdeal.main_arg0)
          ∧ r.2.mem ((c.tc : Thread Cert.GluInReferenceIdeal.nD Cert.GluInReferenceIdeal.τ).loc Cert.GluInReferenceIdeal.main_arg1) = m' ((c.tc : Thread Cert.GluInReferenceIdeal.nD Cert.GluInReferenceIdeal.τ).loc Cert.GluInReferenceIdeal.main_arg1))

def preserves_SsmOut_SsmOutIdeal : Prop :=
  True

def algebraic_SsmOutIdeal_SsmOutReferenceIdeal [hSsmOutIdeal : Cert.SsmOutIdeal.Facts] [hSsmOutReferenceIdeal : Cert.SsmOutReferenceIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutReferenceIdeal.nD Cert.SsmOutReferenceIdeal.τ Cert.SsmOutReferenceIdeal.sig) → Buf (Elt Ideal) ℓ) (g' : Dev Cert.SsmOutReferenceIdeal.nD → PrngReg), Pre_SsmOutIdeal m →
    (∀ c : Dev Cert.SsmOutIdeal.nD,
      m' ((c.tc : Thread Cert.SsmOutReferenceIdeal.nD Cert.SsmOutReferenceIdeal.τ).loc Cert.SsmOutReferenceIdeal.main_arg0) = m ((c.tc : Thread Cert.SsmOutIdeal.nD Cert.SsmOutIdeal.τ).loc Cert.SsmOutIdeal.main_arg0)
      ∧ m' ((c.tc : Thread Cert.SsmOutReferenceIdeal.nD Cert.SsmOutReferenceIdeal.τ).loc Cert.SsmOutReferenceIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.SsmOutReferenceIdeal.defs (F := Ideal)) (onTc (τ := Cert.SsmOutReferenceIdeal.τ) (Cert.SsmOutReferenceIdeal.main (F := Ideal))) ⟨m', fun _ => 0, g'⟩ (fun r => ∀ c : Dev Cert.SsmOutReferenceIdeal.nD,
          r.2.mem ((c.tc : Thread Cert.SsmOutReferenceIdeal.nD Cert.SsmOutReferenceIdeal.τ).loc Cert.SsmOutReferenceIdeal.main_v4) = v0 c
          ∧ r.2.mem ((c.tc : Thread Cert.SsmOutReferenceIdeal.nD Cert.SsmOutReferenceIdeal.τ).loc Cert.SsmOutReferenceIdeal.main_arg0) = m' ((c.tc : Thread Cert.SsmOutReferenceIdeal.nD Cert.SsmOutReferenceIdeal.τ).loc Cert.SsmOutReferenceIdeal.main_arg0)
          ∧ r.2.mem ((c.tc : Thread Cert.SsmOutReferenceIdeal.nD Cert.SsmOutReferenceIdeal.τ).loc Cert.SsmOutReferenceIdeal.main_arg1) = m' ((c.tc : Thread Cert.SsmOutReferenceIdeal.nD Cert.SsmOutReferenceIdeal.τ).loc Cert.SsmOutReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v2) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_SsmOutBack_SsmOutBackIdeal : Prop :=
  True

def algebraic_SsmOutBackIdeal_SsmOutBackReferenceIdeal [hSsmOutBackIdeal : Cert.SsmOutBackIdeal.Facts] [hSsmOutBackReferenceIdeal : Cert.SsmOutBackReferenceIdeal.Facts] : Prop :=
  ∀ (m : (ℓ : Loc Cert.SsmOutBackIdeal.nD Cert.SsmOutBackIdeal.τ Cert.SsmOutBackIdeal.sig) → Buf (Elt Ideal) ℓ) (g : Dev Cert.SsmOutBackIdeal.nD → PrngReg)
    (m' : (ℓ : Loc Cert.SsmOutBackReferenceIdeal.nD Cert.SsmOutBackReferenceIdeal.τ Cert.SsmOutBackReferenceIdeal.sig) → Buf (Elt Ideal) ℓ) (g' : Dev Cert.SsmOutBackReferenceIdeal.nD → PrngReg), Pre_SsmOutBackIdeal m →
    (∀ c : Dev Cert.SsmOutBackIdeal.nD,
      m' ((c.tc : Thread Cert.SsmOutBackReferenceIdeal.nD Cert.SsmOutBackReferenceIdeal.τ).loc Cert.SsmOutBackReferenceIdeal.main_arg0) = m ((c.tc : Thread Cert.SsmOutBackIdeal.nD Cert.SsmOutBackIdeal.τ).loc Cert.SsmOutBackIdeal.main_arg0)
      ∧ m' ((c.tc : Thread Cert.SsmOutBackReferenceIdeal.nD Cert.SsmOutBackReferenceIdeal.τ).loc Cert.SsmOutBackReferenceIdeal.main_arg1) = m ((c.tc : Thread Cert.SsmOutBackIdeal.nD Cert.SsmOutBackIdeal.τ).loc Cert.SsmOutBackIdeal.main_arg1)) →
    ∃ (v0 : (c : Dev Cert.SsmOutBackIdeal.nD) → Buf (Elt Ideal) ((c.tc : Thread Cert.SsmOutBackIdeal.nD Cert.SsmOutBackIdeal.τ).loc Cert.SsmOutBackIdeal.main_v0)),
      θ_run (Cert.SsmOutBackIdeal.defs (F := Ideal)) (onTc (τ := Cert.SsmOutBackIdeal.τ) (Cert.SsmOutBackIdeal.main (F := Ideal))) ⟨m, fun _ => 0, g⟩ (fun r => ∀ c : Dev Cert.SsmOutBackIdeal.nD,
          r.2.mem ((c.tc : Thread Cert.SsmOutBackIdeal.nD Cert.SsmOutBackIdeal.τ).loc Cert.SsmOutBackIdeal.main_v0) = v0 c
          ∧ r.2.mem ((c.tc : Thread Cert.SsmOutBackIdeal.nD Cert.SsmOutBackIdeal.τ).loc Cert.SsmOutBackIdeal.main_arg0) = m ((c.tc : Thread Cert.SsmOutBackIdeal.nD Cert.SsmOutBackIdeal.τ).loc Cert.SsmOutBackIdeal.main_arg0)
          ∧ r.2.mem ((c.tc : Thread Cert.SsmOutBackIdeal.nD Cert.SsmOutBackIdeal.τ).loc Cert.SsmOutBackIdeal.main_arg1) = m ((c.tc : Thread Cert.SsmOutBackIdeal.nD Cert.SsmOutBackIdeal.τ).loc Cert.SsmOutBackIdeal.main_arg1))
      ∧ θ_run (Cert.SsmOutBackReferenceIdeal.defs (F := Ideal)) (onTc (τ := Cert.SsmOutBackReferenceIdeal.τ) (Cert.SsmOutBackReferenceIdeal.main (F := Ideal))) ⟨m', fun _ => 0, g'⟩ (fun r => ∀ c : Dev Cert.SsmOutBackReferenceIdeal.nD,
          r.2.mem ((c.tc : Thread Cert.SsmOutBackReferenceIdeal.nD Cert.SsmOutBackReferenceIdeal.τ).loc Cert.SsmOutBackReferenceIdeal.main_v6) = v0 c
          ∧ r.2.mem ((c.tc : Thread Cert.SsmOutBackReferenceIdeal.nD Cert.SsmOutBackReferenceIdeal.τ).loc Cert.SsmOutBackReferenceIdeal.main_arg0) = m' ((c.tc : Thread Cert.SsmOutBackReferenceIdeal.nD Cert.SsmOutBackReferenceIdeal.τ).loc Cert.SsmOutBackReferenceIdeal.main_arg0)
          ∧ r.2.mem ((c.tc : Thread Cert.SsmOutBackReferenceIdeal.nD Cert.SsmOutBackReferenceIdeal.τ).loc Cert.SsmOutBackReferenceIdeal.main_arg1) = m' ((c.tc : Thread Cert.SsmOutBackReferenceIdeal.nD Cert.SsmOutBackReferenceIdeal.τ).loc Cert.SsmOutBackReferenceIdeal.main_arg1))

def preserves_MemOutBack_MemOutBackIdeal : Prop :=
  True

def algebraic_MemOutBackIdeal_MemOutBackReferenceIdeal [hMemOutBackIdeal : Cert.MemOutBackIdeal.Facts] [hMemOutBackReferenceIdeal : Cert.MemOutBackReferenceIdeal.Facts] : Prop :=
  ∀ (m : (ℓ : Loc Cert.MemOutBackIdeal.nD Cert.MemOutBackIdeal.τ Cert.MemOutBackIdeal.sig) → Buf (Elt Ideal) ℓ) (g : Dev Cert.MemOutBackIdeal.nD → PrngReg)
    (m' : (ℓ : Loc Cert.MemOutBackReferenceIdeal.nD Cert.MemOutBackReferenceIdeal.τ Cert.MemOutBackReferenceIdeal.sig) → Buf (Elt Ideal) ℓ) (g' : Dev Cert.MemOutBackReferenceIdeal.nD → PrngReg), Pre_MemOutBackIdeal m →
    (∀ c : Dev Cert.MemOutBackIdeal.nD,
      m' ((c.tc : Thread Cert.MemOutBackReferenceIdeal.nD Cert.MemOutBackReferenceIdeal.τ).loc Cert.MemOutBackReferenceIdeal.main_arg0) = m ((c.tc : Thread Cert.MemOutBackIdeal.nD Cert.MemOutBackIdeal.τ).loc Cert.MemOutBackIdeal.main_arg0)
      ∧ m' ((c.tc : Thread Cert.MemOutBackReferenceIdeal.nD Cert.MemOutBackReferenceIdeal.τ).loc Cert.MemOutBackReferenceIdeal.main_arg1) = m ((c.tc : Thread Cert.MemOutBackIdeal.nD Cert.MemOutBackIdeal.τ).loc Cert.MemOutBackIdeal.main_arg1)) →
    ∃ (v0 : (c : Dev Cert.MemOutBackIdeal.nD) → Buf (Elt Ideal) ((c.tc : Thread Cert.MemOutBackIdeal.nD Cert.MemOutBackIdeal.τ).loc Cert.MemOutBackIdeal.main_v0)),
      θ_run (Cert.MemOutBackIdeal.defs (F := Ideal)) (onTc (τ := Cert.MemOutBackIdeal.τ) (Cert.MemOutBackIdeal.main (F := Ideal))) ⟨m, fun _ => 0, g⟩ (fun r => ∀ c : Dev Cert.MemOutBackIdeal.nD,
          r.2.mem ((c.tc : Thread Cert.MemOutBackIdeal.nD Cert.MemOutBackIdeal.τ).loc Cert.MemOutBackIdeal.main_v0) = v0 c
          ∧ r.2.mem ((c.tc : Thread Cert.MemOutBackIdeal.nD Cert.MemOutBackIdeal.τ).loc Cert.MemOutBackIdeal.main_arg0) = m ((c.tc : Thread Cert.MemOutBackIdeal.nD Cert.MemOutBackIdeal.τ).loc Cert.MemOutBackIdeal.main_arg0)
          ∧ r.2.mem ((c.tc : Thread Cert.MemOutBackIdeal.nD Cert.MemOutBackIdeal.τ).loc Cert.MemOutBackIdeal.main_arg1) = m ((c.tc : Thread Cert.MemOutBackIdeal.nD Cert.MemOutBackIdeal.τ).loc Cert.MemOutBackIdeal.main_arg1))
      ∧ θ_run (Cert.MemOutBackReferenceIdeal.defs (F := Ideal)) (onTc (τ := Cert.MemOutBackReferenceIdeal.τ) (Cert.MemOutBackReferenceIdeal.main (F := Ideal))) ⟨m', fun _ => 0, g'⟩ (fun r => ∀ c : Dev Cert.MemOutBackReferenceIdeal.nD,
          r.2.mem ((c.tc : Thread Cert.MemOutBackReferenceIdeal.nD Cert.MemOutBackReferenceIdeal.τ).loc Cert.MemOutBackReferenceIdeal.main_v7) = v0 c
          ∧ r.2.mem ((c.tc : Thread Cert.MemOutBackReferenceIdeal.nD Cert.MemOutBackReferenceIdeal.τ).loc Cert.MemOutBackReferenceIdeal.main_arg0) = m' ((c.tc : Thread Cert.MemOutBackReferenceIdeal.nD Cert.MemOutBackReferenceIdeal.τ).loc Cert.MemOutBackReferenceIdeal.main_arg0)
          ∧ r.2.mem ((c.tc : Thread Cert.MemOutBackReferenceIdeal.nD Cert.MemOutBackReferenceIdeal.τ).loc Cert.MemOutBackReferenceIdeal.main_arg1) = m' ((c.tc : Thread Cert.MemOutBackReferenceIdeal.nD Cert.MemOutBackReferenceIdeal.τ).loc Cert.MemOutBackReferenceIdeal.main_arg1))

def preserves_GluInBack_GluInBackIdeal : Prop :=
  True

def algebraic_GluInBackIdeal_GluInBackReferenceIdeal [hGluInBackIdeal : Cert.GluInBackIdeal.Facts] [hGluInBackReferenceIdeal : Cert.GluInBackReferenceIdeal.Facts] : Prop :=
  ∀ (m : (ℓ : Loc Cert.GluInBackIdeal.nD Cert.GluInBackIdeal.τ Cert.GluInBackIdeal.sig) → Buf (Elt Ideal) ℓ) (g : Dev Cert.GluInBackIdeal.nD → PrngReg)
    (m' : (ℓ : Loc Cert.GluInBackReferenceIdeal.nD Cert.GluInBackReferenceIdeal.τ Cert.GluInBackReferenceIdeal.sig) → Buf (Elt Ideal) ℓ) (g' : Dev Cert.GluInBackReferenceIdeal.nD → PrngReg), Pre_GluInBackIdeal m →
    (∀ c : Dev Cert.GluInBackIdeal.nD,
      m' ((c.tc : Thread Cert.GluInBackReferenceIdeal.nD Cert.GluInBackReferenceIdeal.τ).loc Cert.GluInBackReferenceIdeal.main_arg0) = m ((c.tc : Thread Cert.GluInBackIdeal.nD Cert.GluInBackIdeal.τ).loc Cert.GluInBackIdeal.main_arg0)
      ∧ m' ((c.tc : Thread Cert.GluInBackReferenceIdeal.nD Cert.GluInBackReferenceIdeal.τ).loc Cert.GluInBackReferenceIdeal.main_arg1) = m ((c.tc : Thread Cert.GluInBackIdeal.nD Cert.GluInBackIdeal.τ).loc Cert.GluInBackIdeal.main_arg1)) →
    ∃ (v0 : (c : Dev Cert.GluInBackIdeal.nD) → Buf (Elt Ideal) ((c.tc : Thread Cert.GluInBackIdeal.nD Cert.GluInBackIdeal.τ).loc Cert.GluInBackIdeal.main_v0)),
      θ_run (Cert.GluInBackIdeal.defs (F := Ideal)) (onTc (τ := Cert.GluInBackIdeal.τ) (Cert.GluInBackIdeal.main (F := Ideal))) ⟨m, fun _ => 0, g⟩ (fun r => ∀ c : Dev Cert.GluInBackIdeal.nD,
          r.2.mem ((c.tc : Thread Cert.GluInBackIdeal.nD Cert.GluInBackIdeal.τ).loc Cert.GluInBackIdeal.main_v0) = v0 c
          ∧ r.2.mem ((c.tc : Thread Cert.GluInBackIdeal.nD Cert.GluInBackIdeal.τ).loc Cert.GluInBackIdeal.main_arg0) = m ((c.tc : Thread Cert.GluInBackIdeal.nD Cert.GluInBackIdeal.τ).loc Cert.GluInBackIdeal.main_arg0)
          ∧ r.2.mem ((c.tc : Thread Cert.GluInBackIdeal.nD Cert.GluInBackIdeal.τ).loc Cert.GluInBackIdeal.main_arg1) = m ((c.tc : Thread Cert.GluInBackIdeal.nD Cert.GluInBackIdeal.τ).loc Cert.GluInBackIdeal.main_arg1))
      ∧ θ_run (Cert.GluInBackReferenceIdeal.defs (F := Ideal)) (onTc (τ := Cert.GluInBackReferenceIdeal.τ) (Cert.GluInBackReferenceIdeal.main (F := Ideal))) ⟨m', fun _ => 0, g'⟩ (fun r => ∀ c : Dev Cert.GluInBackReferenceIdeal.nD,
          r.2.mem ((c.tc : Thread Cert.GluInBackReferenceIdeal.nD Cert.GluInBackReferenceIdeal.τ).loc Cert.GluInBackReferenceIdeal.main_v6) = v0 c
          ∧ r.2.mem ((c.tc : Thread Cert.GluInBackReferenceIdeal.nD Cert.GluInBackReferenceIdeal.τ).loc Cert.GluInBackReferenceIdeal.main_arg0) = m' ((c.tc : Thread Cert.GluInBackReferenceIdeal.nD Cert.GluInBackReferenceIdeal.τ).loc Cert.GluInBackReferenceIdeal.main_arg0)
          ∧ r.2.mem ((c.tc : Thread Cert.GluInBackReferenceIdeal.nD Cert.GluInBackReferenceIdeal.τ).loc Cert.GluInBackReferenceIdeal.main_arg1) = m' ((c.tc : Thread Cert.GluInBackReferenceIdeal.nD Cert.GluInBackReferenceIdeal.τ).loc Cert.GluInBackReferenceIdeal.main_arg1))

def preserves_SsmOutGrad_SsmOutGradIdeal : Prop :=
  True

def algebraic_SsmOutGradIdeal_SsmOutGradReferenceIdeal [hSsmOutGradIdeal : Cert.SsmOutGradIdeal.Facts] [hSsmOutGradReferenceIdeal : Cert.SsmOutGradReferenceIdeal.Facts] : Prop :=
  ∀ (m : (ℓ : Loc Cert.SsmOutGradIdeal.nD Cert.SsmOutGradIdeal.τ Cert.SsmOutGradIdeal.sig) → Buf (Elt Ideal) ℓ) (g : Dev Cert.SsmOutGradIdeal.nD → PrngReg)
    (m' : (ℓ : Loc Cert.SsmOutGradReferenceIdeal.nD Cert.SsmOutGradReferenceIdeal.τ Cert.SsmOutGradReferenceIdeal.sig) → Buf (Elt Ideal) ℓ) (g' : Dev Cert.SsmOutGradReferenceIdeal.nD → PrngReg), Pre_SsmOutGradIdeal m →
    (∀ c : Dev Cert.SsmOutGradIdeal.nD,
      m' ((c.tc : Thread Cert.SsmOutGradReferenceIdeal.nD Cert.SsmOutGradReferenceIdeal.τ).loc Cert.SsmOutGradReferenceIdeal.main_arg0) = m ((c.tc : Thread Cert.SsmOutGradIdeal.nD Cert.SsmOutGradIdeal.τ).loc Cert.SsmOutGradIdeal.main_arg0)
      ∧ m' ((c.tc : Thread Cert.SsmOutGradReferenceIdeal.nD Cert.SsmOutGradReferenceIdeal.τ).loc Cert.SsmOutGradReferenceIdeal.main_arg1) = m ((c.tc : Thread Cert.SsmOutGradIdeal.nD Cert.SsmOutGradIdeal.τ).loc Cert.SsmOutGradIdeal.main_arg1)) →
    ∃ (v0 : (c : Dev Cert.SsmOutGradIdeal.nD) → Buf (Elt Ideal) ((c.tc : Thread Cert.SsmOutGradIdeal.nD Cert.SsmOutGradIdeal.τ).loc Cert.SsmOutGradIdeal.main_v0)),
      θ_run (Cert.SsmOutGradIdeal.defs (F := Ideal)) (onTc (τ := Cert.SsmOutGradIdeal.τ) (Cert.SsmOutGradIdeal.main (F := Ideal))) ⟨m, fun _ => 0, g⟩ (fun r => ∀ c : Dev Cert.SsmOutGradIdeal.nD,
          r.2.mem ((c.tc : Thread Cert.SsmOutGradIdeal.nD Cert.SsmOutGradIdeal.τ).loc Cert.SsmOutGradIdeal.main_v0) = v0 c
          ∧ r.2.mem ((c.tc : Thread Cert.SsmOutGradIdeal.nD Cert.SsmOutGradIdeal.τ).loc Cert.SsmOutGradIdeal.main_arg0) = m ((c.tc : Thread Cert.SsmOutGradIdeal.nD Cert.SsmOutGradIdeal.τ).loc Cert.SsmOutGradIdeal.main_arg0)
          ∧ r.2.mem ((c.tc : Thread Cert.SsmOutGradIdeal.nD Cert.SsmOutGradIdeal.τ).loc Cert.SsmOutGradIdeal.main_arg1) = m ((c.tc : Thread Cert.SsmOutGradIdeal.nD Cert.SsmOutGradIdeal.τ).loc Cert.SsmOutGradIdeal.main_arg1))
      ∧ θ_run (Cert.SsmOutGradReferenceIdeal.defs (F := Ideal)) (onTc (τ := Cert.SsmOutGradReferenceIdeal.τ) (Cert.SsmOutGradReferenceIdeal.main (F := Ideal))) ⟨m', fun _ => 0, g'⟩ (fun r => ∀ c : Dev Cert.SsmOutGradReferenceIdeal.nD,
          r.2.mem ((c.tc : Thread Cert.SsmOutGradReferenceIdeal.nD Cert.SsmOutGradReferenceIdeal.τ).loc Cert.SsmOutGradReferenceIdeal.main_v7) = v0 c
          ∧ r.2.mem ((c.tc : Thread Cert.SsmOutGradReferenceIdeal.nD Cert.SsmOutGradReferenceIdeal.τ).loc Cert.SsmOutGradReferenceIdeal.main_arg0) = m' ((c.tc : Thread Cert.SsmOutGradReferenceIdeal.nD Cert.SsmOutGradReferenceIdeal.τ).loc Cert.SsmOutGradReferenceIdeal.main_arg0)
          ∧ r.2.mem ((c.tc : Thread Cert.SsmOutGradReferenceIdeal.nD Cert.SsmOutGradReferenceIdeal.τ).loc Cert.SsmOutGradReferenceIdeal.main_arg1) = m' ((c.tc : Thread Cert.SsmOutGradReferenceIdeal.nD Cert.SsmOutGradReferenceIdeal.τ).loc Cert.SsmOutGradReferenceIdeal.main_arg1))

def preserves_GluInGrad_GluInGradIdeal : Prop :=
  True

def algebraic_GluInGradIdeal_GluInGradReferenceIdeal [hGluInGradIdeal : Cert.GluInGradIdeal.Facts] [hGluInGradReferenceIdeal : Cert.GluInGradReferenceIdeal.Facts] : Prop :=
  ∀ (m : (ℓ : Loc Cert.GluInGradIdeal.nD Cert.GluInGradIdeal.τ Cert.GluInGradIdeal.sig) → Buf (Elt Ideal) ℓ) (g : Dev Cert.GluInGradIdeal.nD → PrngReg)
    (m' : (ℓ : Loc Cert.GluInGradReferenceIdeal.nD Cert.GluInGradReferenceIdeal.τ Cert.GluInGradReferenceIdeal.sig) → Buf (Elt Ideal) ℓ) (g' : Dev Cert.GluInGradReferenceIdeal.nD → PrngReg), Pre_GluInGradIdeal m →
    (∀ c : Dev Cert.GluInGradIdeal.nD,
      m' ((c.tc : Thread Cert.GluInGradReferenceIdeal.nD Cert.GluInGradReferenceIdeal.τ).loc Cert.GluInGradReferenceIdeal.main_arg0) = m ((c.tc : Thread Cert.GluInGradIdeal.nD Cert.GluInGradIdeal.τ).loc Cert.GluInGradIdeal.main_arg0)
      ∧ m' ((c.tc : Thread Cert.GluInGradReferenceIdeal.nD Cert.GluInGradReferenceIdeal.τ).loc Cert.GluInGradReferenceIdeal.main_arg1) = m ((c.tc : Thread Cert.GluInGradIdeal.nD Cert.GluInGradIdeal.τ).loc Cert.GluInGradIdeal.main_arg1)) →
    ∃ (v0 : (c : Dev Cert.GluInGradIdeal.nD) → Buf (Elt Ideal) ((c.tc : Thread Cert.GluInGradIdeal.nD Cert.GluInGradIdeal.τ).loc Cert.GluInGradIdeal.main_v0)),
      θ_run (Cert.GluInGradIdeal.defs (F := Ideal)) (onTc (τ := Cert.GluInGradIdeal.τ) (Cert.GluInGradIdeal.main (F := Ideal))) ⟨m, fun _ => 0, g⟩ (fun r => ∀ c : Dev Cert.GluInGradIdeal.nD,
          r.2.mem ((c.tc : Thread Cert.GluInGradIdeal.nD Cert.GluInGradIdeal.τ).loc Cert.GluInGradIdeal.main_v0) = v0 c
          ∧ r.2.mem ((c.tc : Thread Cert.GluInGradIdeal.nD Cert.GluInGradIdeal.τ).loc Cert.GluInGradIdeal.main_arg0) = m ((c.tc : Thread Cert.GluInGradIdeal.nD Cert.GluInGradIdeal.τ).loc Cert.GluInGradIdeal.main_arg0)
          ∧ r.2.mem ((c.tc : Thread Cert.GluInGradIdeal.nD Cert.GluInGradIdeal.τ).loc Cert.GluInGradIdeal.main_arg1) = m ((c.tc : Thread Cert.GluInGradIdeal.nD Cert.GluInGradIdeal.τ).loc Cert.GluInGradIdeal.main_arg1))
      ∧ θ_run (Cert.GluInGradReferenceIdeal.defs (F := Ideal)) (onTc (τ := Cert.GluInGradReferenceIdeal.τ) (Cert.GluInGradReferenceIdeal.main (F := Ideal))) ⟨m', fun _ => 0, g'⟩ (fun r => ∀ c : Dev Cert.GluInGradReferenceIdeal.nD,
          r.2.mem ((c.tc : Thread Cert.GluInGradReferenceIdeal.nD Cert.GluInGradReferenceIdeal.τ).loc Cert.GluInGradReferenceIdeal.main_v7) = v0 c
          ∧ r.2.mem ((c.tc : Thread Cert.GluInGradReferenceIdeal.nD Cert.GluInGradReferenceIdeal.τ).loc Cert.GluInGradReferenceIdeal.main_arg0) = m' ((c.tc : Thread Cert.GluInGradReferenceIdeal.nD Cert.GluInGradReferenceIdeal.τ).loc Cert.GluInGradReferenceIdeal.main_arg0)
          ∧ r.2.mem ((c.tc : Thread Cert.GluInGradReferenceIdeal.nD Cert.GluInGradReferenceIdeal.τ).loc Cert.GluInGradReferenceIdeal.main_arg1) = m' ((c.tc : Thread Cert.GluInGradReferenceIdeal.nD Cert.GluInGradReferenceIdeal.τ).loc Cert.GluInGradReferenceIdeal.main_arg1))

def preserves_BGrad_BGradIdeal : Prop :=
  True

def algebraic_BGradIdeal_BGradReferenceIdeal [hBGradIdeal : Cert.BGradIdeal.Facts] [hBGradReferenceIdeal : Cert.BGradReferenceIdeal.Facts] : Prop :=
  ∀ (m : (ℓ : Loc Cert.BGradIdeal.nD Cert.BGradIdeal.τ Cert.BGradIdeal.sig) → Buf (Elt Ideal) ℓ) (g : Dev Cert.BGradIdeal.nD → PrngReg)
    (m' : (ℓ : Loc Cert.BGradReferenceIdeal.nD Cert.BGradReferenceIdeal.τ Cert.BGradReferenceIdeal.sig) → Buf (Elt Ideal) ℓ) (g' : Dev Cert.BGradReferenceIdeal.nD → PrngReg), Pre_BGradIdeal m →
    (∀ c : Dev Cert.BGradIdeal.nD,
      m' ((c.tc : Thread Cert.BGradReferenceIdeal.nD Cert.BGradReferenceIdeal.τ).loc Cert.BGradReferenceIdeal.main_arg0) = m ((c.tc : Thread Cert.BGradIdeal.nD Cert.BGradIdeal.τ).loc Cert.BGradIdeal.main_arg0)
      ∧ m' ((c.tc : Thread Cert.BGradReferenceIdeal.nD Cert.BGradReferenceIdeal.τ).loc Cert.BGradReferenceIdeal.main_arg1) = m ((c.tc : Thread Cert.BGradIdeal.nD Cert.BGradIdeal.τ).loc Cert.BGradIdeal.main_arg1)) →
    ∃ (v0 : (c : Dev Cert.BGradIdeal.nD) → Buf (Elt Ideal) ((c.tc : Thread Cert.BGradIdeal.nD Cert.BGradIdeal.τ).loc Cert.BGradIdeal.main_v0)),
      θ_run (Cert.BGradIdeal.defs (F := Ideal)) (onTc (τ := Cert.BGradIdeal.τ) (Cert.BGradIdeal.main (F := Ideal))) ⟨m, fun _ => 0, g⟩ (fun r => ∀ c : Dev Cert.BGradIdeal.nD,
          r.2.mem ((c.tc : Thread Cert.BGradIdeal.nD Cert.BGradIdeal.τ).loc Cert.BGradIdeal.main_v0) = v0 c
          ∧ r.2.mem ((c.tc : Thread Cert.BGradIdeal.nD Cert.BGradIdeal.τ).loc Cert.BGradIdeal.main_arg0) = m ((c.tc : Thread Cert.BGradIdeal.nD Cert.BGradIdeal.τ).loc Cert.BGradIdeal.main_arg0)
          ∧ r.2.mem ((c.tc : Thread Cert.BGradIdeal.nD Cert.BGradIdeal.τ).loc Cert.BGradIdeal.main_arg1) = m ((c.tc : Thread Cert.BGradIdeal.nD Cert.BGradIdeal.τ).loc Cert.BGradIdeal.main_arg1))
      ∧ θ_run (Cert.BGradReferenceIdeal.defs (F := Ideal)) (onTc (τ := Cert.BGradReferenceIdeal.τ) (Cert.BGradReferenceIdeal.main (F := Ideal))) ⟨m', fun _ => 0, g'⟩ (fun r => ∀ c : Dev Cert.BGradReferenceIdeal.nD,
          r.2.mem ((c.tc : Thread Cert.BGradReferenceIdeal.nD Cert.BGradReferenceIdeal.τ).loc Cert.BGradReferenceIdeal.main_v3) = v0 c
          ∧ r.2.mem ((c.tc : Thread Cert.BGradReferenceIdeal.nD Cert.BGradReferenceIdeal.τ).loc Cert.BGradReferenceIdeal.main_arg0) = m' ((c.tc : Thread Cert.BGradReferenceIdeal.nD Cert.BGradReferenceIdeal.τ).loc Cert.BGradReferenceIdeal.main_arg0)
          ∧ r.2.mem ((c.tc : Thread Cert.BGradReferenceIdeal.nD Cert.BGradReferenceIdeal.τ).loc Cert.BGradReferenceIdeal.main_arg1) = m' ((c.tc : Thread Cert.BGradReferenceIdeal.nD Cert.BGradReferenceIdeal.τ).loc Cert.BGradReferenceIdeal.main_arg1))

def preserves_CGrad_CGradIdeal : Prop :=
  True

def algebraic_CGradIdeal_CGradReferenceIdeal [hCGradIdeal : Cert.CGradIdeal.Facts] [hCGradReferenceIdeal : Cert.CGradReferenceIdeal.Facts] : Prop :=
  ∀ (m : (ℓ : Loc Cert.CGradIdeal.nD Cert.CGradIdeal.τ Cert.CGradIdeal.sig) → Buf (Elt Ideal) ℓ) (g : Dev Cert.CGradIdeal.nD → PrngReg)
    (m' : (ℓ : Loc Cert.CGradReferenceIdeal.nD Cert.CGradReferenceIdeal.τ Cert.CGradReferenceIdeal.sig) → Buf (Elt Ideal) ℓ) (g' : Dev Cert.CGradReferenceIdeal.nD → PrngReg), Pre_CGradIdeal m →
    (∀ c : Dev Cert.CGradIdeal.nD,
      m' ((c.tc : Thread Cert.CGradReferenceIdeal.nD Cert.CGradReferenceIdeal.τ).loc Cert.CGradReferenceIdeal.main_arg0) = m ((c.tc : Thread Cert.CGradIdeal.nD Cert.CGradIdeal.τ).loc Cert.CGradIdeal.main_arg0)
      ∧ m' ((c.tc : Thread Cert.CGradReferenceIdeal.nD Cert.CGradReferenceIdeal.τ).loc Cert.CGradReferenceIdeal.main_arg1) = m ((c.tc : Thread Cert.CGradIdeal.nD Cert.CGradIdeal.τ).loc Cert.CGradIdeal.main_arg1)) →
    ∃ (v0 : (c : Dev Cert.CGradIdeal.nD) → Buf (Elt Ideal) ((c.tc : Thread Cert.CGradIdeal.nD Cert.CGradIdeal.τ).loc Cert.CGradIdeal.main_v0)),
      θ_run (Cert.CGradIdeal.defs (F := Ideal)) (onTc (τ := Cert.CGradIdeal.τ) (Cert.CGradIdeal.main (F := Ideal))) ⟨m, fun _ => 0, g⟩ (fun r => ∀ c : Dev Cert.CGradIdeal.nD,
          r.2.mem ((c.tc : Thread Cert.CGradIdeal.nD Cert.CGradIdeal.τ).loc Cert.CGradIdeal.main_v0) = v0 c
          ∧ r.2.mem ((c.tc : Thread Cert.CGradIdeal.nD Cert.CGradIdeal.τ).loc Cert.CGradIdeal.main_arg0) = m ((c.tc : Thread Cert.CGradIdeal.nD Cert.CGradIdeal.τ).loc Cert.CGradIdeal.main_arg0)
          ∧ r.2.mem ((c.tc : Thread Cert.CGradIdeal.nD Cert.CGradIdeal.τ).loc Cert.CGradIdeal.main_arg1) = m ((c.tc : Thread Cert.CGradIdeal.nD Cert.CGradIdeal.τ).loc Cert.CGradIdeal.main_arg1))
      ∧ θ_run (Cert.CGradReferenceIdeal.defs (F := Ideal)) (onTc (τ := Cert.CGradReferenceIdeal.τ) (Cert.CGradReferenceIdeal.main (F := Ideal))) ⟨m', fun _ => 0, g'⟩ (fun r => ∀ c : Dev Cert.CGradReferenceIdeal.nD,
          r.2.mem ((c.tc : Thread Cert.CGradReferenceIdeal.nD Cert.CGradReferenceIdeal.τ).loc Cert.CGradReferenceIdeal.main_v3) = v0 c
          ∧ r.2.mem ((c.tc : Thread Cert.CGradReferenceIdeal.nD Cert.CGradReferenceIdeal.τ).loc Cert.CGradReferenceIdeal.main_arg0) = m' ((c.tc : Thread Cert.CGradReferenceIdeal.nD Cert.CGradReferenceIdeal.τ).loc Cert.CGradReferenceIdeal.main_arg0)
          ∧ r.2.mem ((c.tc : Thread Cert.CGradReferenceIdeal.nD Cert.CGradReferenceIdeal.τ).loc Cert.CGradReferenceIdeal.main_arg1) = m' ((c.tc : Thread Cert.CGradReferenceIdeal.nD Cert.CGradReferenceIdeal.τ).loc Cert.CGradReferenceIdeal.main_arg1))

def preserves_MemKvGrad_MemKvGradIdeal : Prop :=
  True

def algebraic_MemKvGradIdeal_MemKvGradReferenceIdeal [hMemKvGradIdeal : Cert.MemKvGradIdeal.Facts] [hMemKvGradReferenceIdeal : Cert.MemKvGradReferenceIdeal.Facts] : Prop :=
  ∀ (m : (ℓ : Loc Cert.MemKvGradIdeal.nD Cert.MemKvGradIdeal.τ Cert.MemKvGradIdeal.sig) → Buf (Elt Ideal) ℓ) (g : Dev Cert.MemKvGradIdeal.nD → PrngReg)
    (m' : (ℓ : Loc Cert.MemKvGradReferenceIdeal.nD Cert.MemKvGradReferenceIdeal.τ Cert.MemKvGradReferenceIdeal.sig) → Buf (Elt Ideal) ℓ) (g' : Dev Cert.MemKvGradReferenceIdeal.nD → PrngReg), Pre_MemKvGradIdeal m →
    (∀ c : Dev Cert.MemKvGradIdeal.nD,
      m' ((c.tc : Thread Cert.MemKvGradReferenceIdeal.nD Cert.MemKvGradReferenceIdeal.τ).loc Cert.MemKvGradReferenceIdeal.main_arg0) = m ((c.tc : Thread Cert.MemKvGradIdeal.nD Cert.MemKvGradIdeal.τ).loc Cert.MemKvGradIdeal.main_arg0)
      ∧ m' ((c.tc : Thread Cert.MemKvGradReferenceIdeal.nD Cert.MemKvGradReferenceIdeal.τ).loc Cert.MemKvGradReferenceIdeal.main_arg1) = m ((c.tc : Thread Cert.MemKvGradIdeal.nD Cert.MemKvGradIdeal.τ).loc Cert.MemKvGradIdeal.main_arg1)) →
    ∃ (v0 : (c : Dev Cert.MemKvGradIdeal.nD) → Buf (Elt Ideal) ((c.tc : Thread Cert.MemKvGradIdeal.nD Cert.MemKvGradIdeal.τ).loc Cert.MemKvGradIdeal.main_v0)),
      θ_run (Cert.MemKvGradIdeal.defs (F := Ideal)) (onTc (τ := Cert.MemKvGradIdeal.τ) (Cert.MemKvGradIdeal.main (F := Ideal))) ⟨m, fun _ => 0, g⟩ (fun r => ∀ c : Dev Cert.MemKvGradIdeal.nD,
          r.2.mem ((c.tc : Thread Cert.MemKvGradIdeal.nD Cert.MemKvGradIdeal.τ).loc Cert.MemKvGradIdeal.main_v0) = v0 c
          ∧ r.2.mem ((c.tc : Thread Cert.MemKvGradIdeal.nD Cert.MemKvGradIdeal.τ).loc Cert.MemKvGradIdeal.main_arg0) = m ((c.tc : Thread Cert.MemKvGradIdeal.nD Cert.MemKvGradIdeal.τ).loc Cert.MemKvGradIdeal.main_arg0)
          ∧ r.2.mem ((c.tc : Thread Cert.MemKvGradIdeal.nD Cert.MemKvGradIdeal.τ).loc Cert.MemKvGradIdeal.main_arg1) = m ((c.tc : Thread Cert.MemKvGradIdeal.nD Cert.MemKvGradIdeal.τ).loc Cert.MemKvGradIdeal.main_arg1))
      ∧ θ_run (Cert.MemKvGradReferenceIdeal.defs (F := Ideal)) (onTc (τ := Cert.MemKvGradReferenceIdeal.τ) (Cert.MemKvGradReferenceIdeal.main (F := Ideal))) ⟨m', fun _ => 0, g'⟩ (fun r => ∀ c : Dev Cert.MemKvGradReferenceIdeal.nD,
          r.2.mem ((c.tc : Thread Cert.MemKvGradReferenceIdeal.nD Cert.MemKvGradReferenceIdeal.τ).loc Cert.MemKvGradReferenceIdeal.main_v3) = v0 c
          ∧ r.2.mem ((c.tc : Thread Cert.MemKvGradReferenceIdeal.nD Cert.MemKvGradReferenceIdeal.τ).loc Cert.MemKvGradReferenceIdeal.main_arg0) = m' ((c.tc : Thread Cert.MemKvGradReferenceIdeal.nD Cert.MemKvGradReferenceIdeal.τ).loc Cert.MemKvGradReferenceIdeal.main_arg0)
          ∧ r.2.mem ((c.tc : Thread Cert.MemKvGradReferenceIdeal.nD Cert.MemKvGradReferenceIdeal.τ).loc Cert.MemKvGradReferenceIdeal.main_arg1) = m' ((c.tc : Thread Cert.MemKvGradReferenceIdeal.nD Cert.MemKvGradReferenceIdeal.τ).loc Cert.MemKvGradReferenceIdeal.main_arg1))

def preserves_MergeBack_MergeBackIdeal : Prop :=
  True

def algebraic_MergeBackIdeal_MergeBackReferenceIdeal [hMergeBackIdeal : Cert.MergeBackIdeal.Facts] [hMergeBackReferenceIdeal : Cert.MergeBackReferenceIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg)
    (m' : (ℓ : Loc Cert.MergeBackReferenceIdeal.nD Cert.MergeBackReferenceIdeal.τ Cert.MergeBackReferenceIdeal.sig) → Buf (Elt Ideal) ℓ) (g' : Dev Cert.MergeBackReferenceIdeal.nD → PrngReg), Pre_MergeBackIdeal m →
    (∀ c : Dev Cert.MergeBackIdeal.nD,
      m' ((c.tc : Thread Cert.MergeBackReferenceIdeal.nD Cert.MergeBackReferenceIdeal.τ).loc Cert.MergeBackReferenceIdeal.main_arg0) = m ((c.tc : Thread Cert.MergeBackIdeal.nD Cert.MergeBackIdeal.τ).loc Cert.MergeBackIdeal.main_arg0)
      ∧ m' ((c.tc : Thread Cert.MergeBackReferenceIdeal.nD Cert.MergeBackReferenceIdeal.τ).loc Cert.MergeBackReferenceIdeal.main_arg1) = m ((c.tc : Thread Cert.MergeBackIdeal.nD Cert.MergeBackIdeal.τ).loc Cert.MergeBackIdeal.main_arg1)
      ∧ m' ((c.tc : Thread Cert.MergeBackReferenceIdeal.nD Cert.MergeBackReferenceIdeal.τ).loc Cert.MergeBackReferenceIdeal.main_arg2) = m ((c.tc : Thread Cert.MergeBackIdeal.nD Cert.MergeBackIdeal.τ).loc Cert.MergeBackIdeal.main_arg2)
      ∧ m' ((c.tc : Thread Cert.MergeBackReferenceIdeal.nD Cert.MergeBackReferenceIdeal.τ).loc Cert.MergeBackReferenceIdeal.main_arg3) = m ((c.tc : Thread Cert.MergeBackIdeal.nD Cert.MergeBackIdeal.τ).loc Cert.MergeBackIdeal.main_arg3)
      ∧ m' ((c.tc : Thread Cert.MergeBackReferenceIdeal.nD Cert.MergeBackReferenceIdeal.τ).loc Cert.MergeBackReferenceIdeal.main_arg4) = m ((c.tc : Thread Cert.MergeBackIdeal.nD Cert.MergeBackIdeal.τ).loc Cert.MergeBackIdeal.main_arg4)) →
    ∃ (v0 : (c : Dev Cert.MergeBackIdeal.nD) → Buf (Elt Ideal) ((c.tc : Thread Cert.MergeBackIdeal.nD Cert.MergeBackIdeal.τ).loc Cert.MergeBackIdeal.main_v0_0)) (v1 : (c : Dev Cert.MergeBackIdeal.nD) → Buf (Elt Ideal) ((c.tc : Thread Cert.MergeBackIdeal.nD Cert.MergeBackIdeal.τ).loc Cert.MergeBackIdeal.main_v0_1)) (v2 : (c : Dev Cert.MergeBackIdeal.nD) → Buf (Elt Ideal) ((c.tc : Thread Cert.MergeBackIdeal.nD Cert.MergeBackIdeal.τ).loc Cert.MergeBackIdeal.main_v0_2)) (v3 : (c : Dev Cert.MergeBackIdeal.nD) → Buf (Elt Ideal) ((c.tc : Thread Cert.MergeBackIdeal.nD Cert.MergeBackIdeal.τ).loc Cert.MergeBackIdeal.main_v0_3)) (v4 : (c : Dev Cert.MergeBackIdeal.nD) → Buf (Elt Ideal) ((c.tc : Thread Cert.MergeBackIdeal.nD Cert.MergeBackIdeal.τ).loc Cert.MergeBackIdeal.main_v0_4)) (v5 : (c : Dev Cert.MergeBackIdeal.nD) → Buf (Elt Ideal) ((c.tc : Thread Cert.MergeBackIdeal.nD Cert.MergeBackIdeal.τ).loc Cert.MergeBackIdeal.main_v0_5)),
      θ_run (Cert.MergeBackIdeal.defs (F := Ideal)) (onTc (τ := Cert.MergeBackIdeal.τ) (Cert.MergeBackIdeal.main (F := Ideal))) ⟨m, fun _ => 0, g⟩ (fun r => ∀ c : Dev Cert.MergeBackIdeal.nD,
          r.2.mem ((c.tc : Thread Cert.MergeBackIdeal.nD Cert.MergeBackIdeal.τ).loc Cert.MergeBackIdeal.main_v0_0) = v0 c
          ∧ r.2.mem ((c.tc : Thread Cert.MergeBackIdeal.nD Cert.MergeBackIdeal.τ).loc Cert.MergeBackIdeal.main_v0_1) = v1 c
          ∧ r.2.mem ((c.tc : Thread Cert.MergeBackIdeal.nD Cert.MergeBackIdeal.τ).loc Cert.MergeBackIdeal.main_v0_2) = v2 c
          ∧ r.2.mem ((c.tc : Thread Cert.MergeBackIdeal.nD Cert.MergeBackIdeal.τ).loc Cert.MergeBackIdeal.main_v0_3) = v3 c
          ∧ r.2.mem ((c.tc : Thread Cert.MergeBackIdeal.nD Cert.MergeBackIdeal.τ).loc Cert.MergeBackIdeal.main_v0_4) = v4 c
          ∧ r.2.mem ((c.tc : Thread Cert.MergeBackIdeal.nD Cert.MergeBackIdeal.τ).loc Cert.MergeBackIdeal.main_v0_5) = v5 c
          ∧ r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
          ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
          ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
          ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
          ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4))
      ∧ θ_run (Cert.MergeBackReferenceIdeal.defs (F := Ideal)) (onTc (τ := Cert.MergeBackReferenceIdeal.τ) (Cert.MergeBackReferenceIdeal.main (F := Ideal))) ⟨m', fun _ => 0, g'⟩ (fun r => ∀ c : Dev Cert.MergeBackReferenceIdeal.nD,
          r.2.mem ((c.tc : Thread Cert.MergeBackReferenceIdeal.nD Cert.MergeBackReferenceIdeal.τ).loc Cert.MergeBackReferenceIdeal.main_v46) = v0 c
          ∧ r.2.mem ((c.tc : Thread Cert.MergeBackReferenceIdeal.nD Cert.MergeBackReferenceIdeal.τ).loc Cert.MergeBackReferenceIdeal.main_v47) = v1 c
          ∧ r.2.mem ((c.tc : Thread Cert.MergeBackReferenceIdeal.nD Cert.MergeBackReferenceIdeal.τ).loc Cert.MergeBackReferenceIdeal.main_v48) = v2 c
          ∧ r.2.mem ((c.tc : Thread Cert.MergeBackReferenceIdeal.nD Cert.MergeBackReferenceIdeal.τ).loc Cert.MergeBackReferenceIdeal.main_v45) = v3 c
          ∧ r.2.mem ((c.tc : Thread Cert.MergeBackReferenceIdeal.nD Cert.MergeBackReferenceIdeal.τ).loc Cert.MergeBackReferenceIdeal.main_v42) = v4 c
          ∧ r.2.mem ((c.tc : Thread Cert.MergeBackReferenceIdeal.nD Cert.MergeBackReferenceIdeal.τ).loc Cert.MergeBackReferenceIdeal.main_v39) = v5 c
          ∧ r.2.mem ((c.tc : Thread Cert.MergeBackReferenceIdeal.nD Cert.MergeBackReferenceIdeal.τ).loc Cert.MergeBackReferenceIdeal.main_arg0) = m' ((c.tc : Thread Cert.MergeBackReferenceIdeal.nD Cert.MergeBackReferenceIdeal.τ).loc Cert.MergeBackReferenceIdeal.main_arg0)
          ∧ r.2.mem ((c.tc : Thread Cert.MergeBackReferenceIdeal.nD Cert.MergeBackReferenceIdeal.τ).loc Cert.MergeBackReferenceIdeal.main_arg1) = m' ((c.tc : Thread Cert.MergeBackReferenceIdeal.nD Cert.MergeBackReferenceIdeal.τ).loc Cert.MergeBackReferenceIdeal.main_arg1)
          ∧ r.2.mem ((c.tc : Thread Cert.MergeBackReferenceIdeal.nD Cert.MergeBackReferenceIdeal.τ).loc Cert.MergeBackReferenceIdeal.main_arg2) = m' ((c.tc : Thread Cert.MergeBackReferenceIdeal.nD Cert.MergeBackReferenceIdeal.τ).loc Cert.MergeBackReferenceIdeal.main_arg2)
          ∧ r.2.mem ((c.tc : Thread Cert.MergeBackReferenceIdeal.nD Cert.MergeBackReferenceIdeal.τ).loc Cert.MergeBackReferenceIdeal.main_arg3) = m' ((c.tc : Thread Cert.MergeBackReferenceIdeal.nD Cert.MergeBackReferenceIdeal.τ).loc Cert.MergeBackReferenceIdeal.main_arg3)
          ∧ r.2.mem ((c.tc : Thread Cert.MergeBackReferenceIdeal.nD Cert.MergeBackReferenceIdeal.τ).loc Cert.MergeBackReferenceIdeal.main_arg4) = m' ((c.tc : Thread Cert.MergeBackReferenceIdeal.nD Cert.MergeBackReferenceIdeal.τ).loc Cert.MergeBackReferenceIdeal.main_arg4))

def preserves_GluBack_GluBackIdeal : Prop :=
  True

def algebraic_GluBackIdeal_GluBackReferenceIdeal [hGluBackIdeal : Cert.GluBackIdeal.Facts] [hGluBackReferenceIdeal : Cert.GluBackReferenceIdeal.Facts] : Prop :=
  ∀ (m : (ℓ : Loc Cert.GluBackIdeal.nD Cert.GluBackIdeal.τ Cert.GluBackIdeal.sig) → Buf (Elt Ideal) ℓ) (g : Dev Cert.GluBackIdeal.nD → PrngReg)
    (m' : (ℓ : Loc Cert.GluBackReferenceIdeal.nD Cert.GluBackReferenceIdeal.τ Cert.GluBackReferenceIdeal.sig) → Buf (Elt Ideal) ℓ) (g' : Dev Cert.GluBackReferenceIdeal.nD → PrngReg), Pre_GluBackIdeal m →
    (∀ c : Dev Cert.GluBackIdeal.nD,
      m' ((c.tc : Thread Cert.GluBackReferenceIdeal.nD Cert.GluBackReferenceIdeal.τ).loc Cert.GluBackReferenceIdeal.main_arg0) = m ((c.tc : Thread Cert.GluBackIdeal.nD Cert.GluBackIdeal.τ).loc Cert.GluBackIdeal.main_arg0)
      ∧ m' ((c.tc : Thread Cert.GluBackReferenceIdeal.nD Cert.GluBackReferenceIdeal.τ).loc Cert.GluBackReferenceIdeal.main_arg1) = m ((c.tc : Thread Cert.GluBackIdeal.nD Cert.GluBackIdeal.τ).loc Cert.GluBackIdeal.main_arg1)) →
    ∃ (v0 : (c : Dev Cert.GluBackIdeal.nD) → Buf (Elt Ideal) ((c.tc : Thread Cert.GluBackIdeal.nD Cert.GluBackIdeal.τ).loc Cert.GluBackIdeal.main_v0)),
      θ_run (Cert.GluBackIdeal.defs (F := Ideal)) (onTc (τ := Cert.GluBackIdeal.τ) (Cert.GluBackIdeal.main (F := Ideal))) ⟨m, fun _ => 0, g⟩ (fun r => ∀ c : Dev Cert.GluBackIdeal.nD,
          r.2.mem ((c.tc : Thread Cert.GluBackIdeal.nD Cert.GluBackIdeal.τ).loc Cert.GluBackIdeal.main_v0) = v0 c
          ∧ r.2.mem ((c.tc : Thread Cert.GluBackIdeal.nD Cert.GluBackIdeal.τ).loc Cert.GluBackIdeal.main_arg0) = m ((c.tc : Thread Cert.GluBackIdeal.nD Cert.GluBackIdeal.τ).loc Cert.GluBackIdeal.main_arg0)
          ∧ r.2.mem ((c.tc : Thread Cert.GluBackIdeal.nD Cert.GluBackIdeal.τ).loc Cert.GluBackIdeal.main_arg1) = m ((c.tc : Thread Cert.GluBackIdeal.nD Cert.GluBackIdeal.τ).loc Cert.GluBackIdeal.main_arg1))
      ∧ θ_run (Cert.GluBackReferenceIdeal.defs (F := Ideal)) (onTc (τ := Cert.GluBackReferenceIdeal.τ) (Cert.GluBackReferenceIdeal.main (F := Ideal))) ⟨m', fun _ => 0, g'⟩ (fun r => ∀ c : Dev Cert.GluBackReferenceIdeal.nD,
          r.2.mem ((c.tc : Thread Cert.GluBackReferenceIdeal.nD Cert.GluBackReferenceIdeal.τ).loc Cert.GluBackReferenceIdeal.main_v16) = v0 c
          ∧ r.2.mem ((c.tc : Thread Cert.GluBackReferenceIdeal.nD Cert.GluBackReferenceIdeal.τ).loc Cert.GluBackReferenceIdeal.main_arg0) = m' ((c.tc : Thread Cert.GluBackReferenceIdeal.nD Cert.GluBackReferenceIdeal.τ).loc Cert.GluBackReferenceIdeal.main_arg0)
          ∧ r.2.mem ((c.tc : Thread Cert.GluBackReferenceIdeal.nD Cert.GluBackReferenceIdeal.τ).loc Cert.GluBackReferenceIdeal.main_arg1) = m' ((c.tc : Thread Cert.GluBackReferenceIdeal.nD Cert.GluBackReferenceIdeal.τ).loc Cert.GluBackReferenceIdeal.main_arg1))

def preserves_SwigluBack_SwigluBackIdeal : Prop :=
  True

def algebraic_SwigluBackIdeal_SwigluBackReferenceIdeal_pre_swiglu_finite [hSwigluBackIdeal : Cert.SwigluBackIdeal.Facts] [hSwigluBackReferenceIdeal : Cert.SwigluBackReferenceIdeal.Facts] [hPre_swiglu_finite : Cert.Pre_swiglu_finite.Facts] : Prop :=
  ∀ (m : (ℓ : Loc Cert.SwigluBackIdeal.nD Cert.SwigluBackIdeal.τ Cert.SwigluBackIdeal.sig) → Buf (Elt Ideal) ℓ) (g : Dev Cert.SwigluBackIdeal.nD → PrngReg)
    (m' : (ℓ : Loc Cert.SwigluBackReferenceIdeal.nD Cert.SwigluBackReferenceIdeal.τ Cert.SwigluBackReferenceIdeal.sig) → Buf (Elt Ideal) ℓ) (g' : Dev Cert.SwigluBackReferenceIdeal.nD → PrngReg), Pre_SwigluBackIdeal_swiglu_finite m →
    (∀ c : Dev Cert.SwigluBackIdeal.nD,
      m' ((c.tc : Thread Cert.SwigluBackReferenceIdeal.nD Cert.SwigluBackReferenceIdeal.τ).loc Cert.SwigluBackReferenceIdeal.main_arg0) = m ((c.tc : Thread Cert.SwigluBackIdeal.nD Cert.SwigluBackIdeal.τ).loc Cert.SwigluBackIdeal.main_arg0)
      ∧ m' ((c.tc : Thread Cert.SwigluBackReferenceIdeal.nD Cert.SwigluBackReferenceIdeal.τ).loc Cert.SwigluBackReferenceIdeal.main_arg1) = m ((c.tc : Thread Cert.SwigluBackIdeal.nD Cert.SwigluBackIdeal.τ).loc Cert.SwigluBackIdeal.main_arg1)) →
    ∃ (v0 : (c : Dev Cert.SwigluBackIdeal.nD) → Buf (Elt Ideal) ((c.tc : Thread Cert.SwigluBackIdeal.nD Cert.SwigluBackIdeal.τ).loc Cert.SwigluBackIdeal.main_v0)),
      θ_run (Cert.SwigluBackIdeal.defs (F := Ideal)) (onTc (τ := Cert.SwigluBackIdeal.τ) (Cert.SwigluBackIdeal.main (F := Ideal))) ⟨m, fun _ => 0, g⟩ (fun r => ∀ c : Dev Cert.SwigluBackIdeal.nD,
          r.2.mem ((c.tc : Thread Cert.SwigluBackIdeal.nD Cert.SwigluBackIdeal.τ).loc Cert.SwigluBackIdeal.main_v0) = v0 c
          ∧ r.2.mem ((c.tc : Thread Cert.SwigluBackIdeal.nD Cert.SwigluBackIdeal.τ).loc Cert.SwigluBackIdeal.main_arg0) = m ((c.tc : Thread Cert.SwigluBackIdeal.nD Cert.SwigluBackIdeal.τ).loc Cert.SwigluBackIdeal.main_arg0)
          ∧ r.2.mem ((c.tc : Thread Cert.SwigluBackIdeal.nD Cert.SwigluBackIdeal.τ).loc Cert.SwigluBackIdeal.main_arg1) = m ((c.tc : Thread Cert.SwigluBackIdeal.nD Cert.SwigluBackIdeal.τ).loc Cert.SwigluBackIdeal.main_arg1))
      ∧ θ_run (Cert.SwigluBackReferenceIdeal.defs (F := Ideal)) (onTc (τ := Cert.SwigluBackReferenceIdeal.τ) (Cert.SwigluBackReferenceIdeal.main (F := Ideal))) ⟨m', fun _ => 0, g'⟩ (fun r => ∀ c : Dev Cert.SwigluBackReferenceIdeal.nD,
          r.2.mem ((c.tc : Thread Cert.SwigluBackReferenceIdeal.nD Cert.SwigluBackReferenceIdeal.τ).loc Cert.SwigluBackReferenceIdeal.main_v8) = v0 c
          ∧ r.2.mem ((c.tc : Thread Cert.SwigluBackReferenceIdeal.nD Cert.SwigluBackReferenceIdeal.τ).loc Cert.SwigluBackReferenceIdeal.main_arg0) = m' ((c.tc : Thread Cert.SwigluBackReferenceIdeal.nD Cert.SwigluBackReferenceIdeal.τ).loc Cert.SwigluBackReferenceIdeal.main_arg0)
          ∧ r.2.mem ((c.tc : Thread Cert.SwigluBackReferenceIdeal.nD Cert.SwigluBackReferenceIdeal.τ).loc Cert.SwigluBackReferenceIdeal.main_arg1) = m' ((c.tc : Thread Cert.SwigluBackReferenceIdeal.nD Cert.SwigluBackReferenceIdeal.τ).loc Cert.SwigluBackReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v9) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v4) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v14) = v0 c
          ∧ r.2.mem ((c.tc : Thread Cert.LossHeadReferenceIdeal.nD Cert.LossHeadReferenceIdeal.τ).loc Cert.LossHeadReferenceIdeal.main_v15) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)) (v3 : (c : Dev Cert.NormIdeal.nD) → Buf (Elt Ideal) ((c.tc : Thread Cert.NormIdeal.nD Cert.NormIdeal.τ).loc Cert.NormIdeal.main_v2_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_v2_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v43) = v0 c
          ∧ r.2.mem ((c.tc : Thread Cert.NormReferenceIdeal.nD Cert.NormReferenceIdeal.τ).loc Cert.NormReferenceIdeal.main_v44) = v1 c
          ∧ r.2.mem ((c.tc : Thread Cert.NormReferenceIdeal.nD Cert.NormReferenceIdeal.τ).loc Cert.NormReferenceIdeal.main_v48) = v2 c
          ∧ r.2.mem ((c.tc : Thread Cert.NormReferenceIdeal.nD Cert.NormReferenceIdeal.τ).loc Cert.NormReferenceIdeal.main_v16) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_UpdateIn_UpdateInIdeal : Prop :=
  True

def algebraic_UpdateInIdeal_UpdateInReferenceIdeal [hUpdateInIdeal : Cert.UpdateInIdeal.Facts] [hUpdateInReferenceIdeal : Cert.UpdateInReferenceIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg), Pre_UpdateInIdeal m →
    (∀ c : Dev Cert.UpdateInIdeal.nD,
      m' ((c.tc : Thread Cert.UpdateInReferenceIdeal.nD Cert.UpdateInReferenceIdeal.τ).loc Cert.UpdateInReferenceIdeal.main_arg0) = m ((c.tc : Thread Cert.UpdateInIdeal.nD Cert.UpdateInIdeal.τ).loc Cert.UpdateInIdeal.main_arg0)
      ∧ m' ((c.tc : Thread Cert.UpdateInReferenceIdeal.nD Cert.UpdateInReferenceIdeal.τ).loc Cert.UpdateInReferenceIdeal.main_arg1) = m ((c.tc : Thread Cert.UpdateInIdeal.nD Cert.UpdateInIdeal.τ).loc Cert.UpdateInIdeal.main_arg1)
      ∧ m' ((c.tc : Thread Cert.UpdateInReferenceIdeal.nD Cert.UpdateInReferenceIdeal.τ).loc Cert.UpdateInReferenceIdeal.main_arg2) = m ((c.tc : Thread Cert.UpdateInIdeal.nD Cert.UpdateInIdeal.τ).loc Cert.UpdateInIdeal.main_arg2)
      ∧ m' ((c.tc : Thread Cert.UpdateInReferenceIdeal.nD Cert.UpdateInReferenceIdeal.τ).loc Cert.UpdateInReferenceIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v4_0)) (v1 : (c : Dev Cert.UpdateInIdeal.nD) → Buf (Elt Ideal) ((c.tc : Thread Cert.UpdateInIdeal.nD Cert.UpdateInIdeal.τ).loc Cert.UpdateInIdeal.main_v4_1)) (v2 : (c : Dev Cert.UpdateInIdeal.nD) → Buf (Elt Ideal) ((c.tc : Thread Cert.UpdateInIdeal.nD Cert.UpdateInIdeal.τ).loc Cert.UpdateInIdeal.main_v4_2)) (v3 : (c : Dev Cert.UpdateInIdeal.nD) → Buf (Elt Ideal) ((c.tc : Thread Cert.UpdateInIdeal.nD Cert.UpdateInIdeal.τ).loc Cert.UpdateInIdeal.main_v4_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v4_0) = v0 c
          ∧ r.2.mem ((c.tc : Thread Cert.UpdateInIdeal.nD Cert.UpdateInIdeal.τ).loc Cert.UpdateInIdeal.main_v4_1) = v1 c
          ∧ r.2.mem ((c.tc : Thread Cert.UpdateInIdeal.nD Cert.UpdateInIdeal.τ).loc Cert.UpdateInIdeal.main_v4_2) = v2 c
          ∧ r.2.mem ((c.tc : Thread Cert.UpdateInIdeal.nD Cert.UpdateInIdeal.τ).loc Cert.UpdateInIdeal.main_v4_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v24) = v0 c
          ∧ r.2.mem ((c.tc : Thread Cert.UpdateInReferenceIdeal.nD Cert.UpdateInReferenceIdeal.τ).loc Cert.UpdateInReferenceIdeal.main_v25) = v1 c
          ∧ r.2.mem ((c.tc : Thread Cert.UpdateInReferenceIdeal.nD Cert.UpdateInReferenceIdeal.τ).loc Cert.UpdateInReferenceIdeal.main_v26) = v2 c
          ∧ r.2.mem ((c.tc : Thread Cert.UpdateInReferenceIdeal.nD Cert.UpdateInReferenceIdeal.τ).loc Cert.UpdateInReferenceIdeal.main_v27) = v3 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3))

def preserves_UpdateSbOut_UpdateSbOutIdeal : Prop :=
  True

def algebraic_UpdateSbOutIdeal_UpdateSbOutReferenceIdeal [hUpdateSbOutIdeal : Cert.UpdateSbOutIdeal.Facts] [hUpdateSbOutReferenceIdeal : Cert.UpdateSbOutReferenceIdeal.Facts] : Prop :=
  ∀ (m : (ℓ : Loc Cert.UpdateSbOutIdeal.nD Cert.UpdateSbOutIdeal.τ Cert.UpdateSbOutIdeal.sig) → Buf (Elt Ideal) ℓ) (g : Dev Cert.UpdateSbOutIdeal.nD → PrngReg)
    (m' : (ℓ : Loc Cert.UpdateSbOutReferenceIdeal.nD Cert.UpdateSbOutReferenceIdeal.τ Cert.UpdateSbOutReferenceIdeal.sig) → Buf (Elt Ideal) ℓ) (g' : Dev Cert.UpdateSbOutReferenceIdeal.nD → PrngReg), Pre_UpdateSbOutIdeal m →
    (∀ c : Dev Cert.UpdateSbOutIdeal.nD,
      m' ((c.tc : Thread Cert.UpdateSbOutReferenceIdeal.nD Cert.UpdateSbOutReferenceIdeal.τ).loc Cert.UpdateSbOutReferenceIdeal.main_arg0) = m ((c.tc : Thread Cert.UpdateSbOutIdeal.nD Cert.UpdateSbOutIdeal.τ).loc Cert.UpdateSbOutIdeal.main_arg0)
      ∧ m' ((c.tc : Thread Cert.UpdateSbOutReferenceIdeal.nD Cert.UpdateSbOutReferenceIdeal.τ).loc Cert.UpdateSbOutReferenceIdeal.main_arg1) = m ((c.tc : Thread Cert.UpdateSbOutIdeal.nD Cert.UpdateSbOutIdeal.τ).loc Cert.UpdateSbOutIdeal.main_arg1)
      ∧ m' ((c.tc : Thread Cert.UpdateSbOutReferenceIdeal.nD Cert.UpdateSbOutReferenceIdeal.τ).loc Cert.UpdateSbOutReferenceIdeal.main_arg2) = m ((c.tc : Thread Cert.UpdateSbOutIdeal.nD Cert.UpdateSbOutIdeal.τ).loc Cert.UpdateSbOutIdeal.main_arg2)
      ∧ m' ((c.tc : Thread Cert.UpdateSbOutReferenceIdeal.nD Cert.UpdateSbOutReferenceIdeal.τ).loc Cert.UpdateSbOutReferenceIdeal.main_arg3) = m ((c.tc : Thread Cert.UpdateSbOutIdeal.nD Cert.UpdateSbOutIdeal.τ).loc Cert.UpdateSbOutIdeal.main_arg3)) →
    ∃ (v0 : (c : Dev Cert.UpdateSbOutIdeal.nD) → Buf (Elt Ideal) ((c.tc : Thread Cert.UpdateSbOutIdeal.nD Cert.UpdateSbOutIdeal.τ).loc Cert.UpdateSbOutIdeal.main_v4_0)) (v1 : (c : Dev Cert.UpdateSbOutIdeal.nD) → Buf (Elt Ideal) ((c.tc : Thread Cert.UpdateSbOutIdeal.nD Cert.UpdateSbOutIdeal.τ).loc Cert.UpdateSbOutIdeal.main_v4_1)) (v2 : (c : Dev Cert.UpdateSbOutIdeal.nD) → Buf (Elt Ideal) ((c.tc : Thread Cert.UpdateSbOutIdeal.nD Cert.UpdateSbOutIdeal.τ).loc Cert.UpdateSbOutIdeal.main_v4_2)) (v3 : (c : Dev Cert.UpdateSbOutIdeal.nD) → Buf (Elt Ideal) ((c.tc : Thread Cert.UpdateSbOutIdeal.nD Cert.UpdateSbOutIdeal.τ).loc Cert.UpdateSbOutIdeal.main_v4_3)),
      θ_run (Cert.UpdateSbOutIdeal.defs (F := Ideal)) (onTc (τ := Cert.UpdateSbOutIdeal.τ) (Cert.UpdateSbOutIdeal.main (F := Ideal))) ⟨m, fun _ => 0, g⟩ (fun r => ∀ c : Dev Cert.UpdateSbOutIdeal.nD,
          r.2.mem ((c.tc : Thread Cert.UpdateSbOutIdeal.nD Cert.UpdateSbOutIdeal.τ).loc Cert.UpdateSbOutIdeal.main_v4_0) = v0 c
          ∧ r.2.mem ((c.tc : Thread Cert.UpdateSbOutIdeal.nD Cert.UpdateSbOutIdeal.τ).loc Cert.UpdateSbOutIdeal.main_v4_1) = v1 c
          ∧ r.2.mem ((c.tc : Thread Cert.UpdateSbOutIdeal.nD Cert.UpdateSbOutIdeal.τ).loc Cert.UpdateSbOutIdeal.main_v4_2) = v2 c
          ∧ r.2.mem ((c.tc : Thread Cert.UpdateSbOutIdeal.nD Cert.UpdateSbOutIdeal.τ).loc Cert.UpdateSbOutIdeal.main_v4_3) = v3 c
          ∧ r.2.mem ((c.tc : Thread Cert.UpdateSbOutIdeal.nD Cert.UpdateSbOutIdeal.τ).loc Cert.UpdateSbOutIdeal.main_arg0) = m ((c.tc : Thread Cert.UpdateSbOutIdeal.nD Cert.UpdateSbOutIdeal.τ).loc Cert.UpdateSbOutIdeal.main_arg0)
          ∧ r.2.mem ((c.tc : Thread Cert.UpdateSbOutIdeal.nD Cert.UpdateSbOutIdeal.τ).loc Cert.UpdateSbOutIdeal.main_arg1) = m ((c.tc : Thread Cert.UpdateSbOutIdeal.nD Cert.UpdateSbOutIdeal.τ).loc Cert.UpdateSbOutIdeal.main_arg1)
          ∧ r.2.mem ((c.tc : Thread Cert.UpdateSbOutIdeal.nD Cert.UpdateSbOutIdeal.τ).loc Cert.UpdateSbOutIdeal.main_arg2) = m ((c.tc : Thread Cert.UpdateSbOutIdeal.nD Cert.UpdateSbOutIdeal.τ).loc Cert.UpdateSbOutIdeal.main_arg2)
          ∧ r.2.mem ((c.tc : Thread Cert.UpdateSbOutIdeal.nD Cert.UpdateSbOutIdeal.τ).loc Cert.UpdateSbOutIdeal.main_arg3) = m ((c.tc : Thread Cert.UpdateSbOutIdeal.nD Cert.UpdateSbOutIdeal.τ).loc Cert.UpdateSbOutIdeal.main_arg3))
      ∧ θ_run (Cert.UpdateSbOutReferenceIdeal.defs (F := Ideal)) (onTc (τ := Cert.UpdateSbOutReferenceIdeal.τ) (Cert.UpdateSbOutReferenceIdeal.main (F := Ideal))) ⟨m', fun _ => 0, g'⟩ (fun r => ∀ c : Dev Cert.UpdateSbOutReferenceIdeal.nD,
          r.2.mem ((c.tc : Thread Cert.UpdateSbOutReferenceIdeal.nD Cert.UpdateSbOutReferenceIdeal.τ).loc Cert.UpdateSbOutReferenceIdeal.main_v24) = v0 c
          ∧ r.2.mem ((c.tc : Thread Cert.UpdateSbOutReferenceIdeal.nD Cert.UpdateSbOutReferenceIdeal.τ).loc Cert.UpdateSbOutReferenceIdeal.main_v25) = v1 c
          ∧ r.2.mem ((c.tc : Thread Cert.UpdateSbOutReferenceIdeal.nD Cert.UpdateSbOutReferenceIdeal.τ).loc Cert.UpdateSbOutReferenceIdeal.main_v26) = v2 c
          ∧ r.2.mem ((c.tc : Thread Cert.UpdateSbOutReferenceIdeal.nD Cert.UpdateSbOutReferenceIdeal.τ).loc Cert.UpdateSbOutReferenceIdeal.main_v27) = v3 c
          ∧ r.2.mem ((c.tc : Thread Cert.UpdateSbOutReferenceIdeal.nD Cert.UpdateSbOutReferenceIdeal.τ).loc Cert.UpdateSbOutReferenceIdeal.main_arg0) = m' ((c.tc : Thread Cert.UpdateSbOutReferenceIdeal.nD Cert.UpdateSbOutReferenceIdeal.τ).loc Cert.UpdateSbOutReferenceIdeal.main_arg0)
          ∧ r.2.mem ((c.tc : Thread Cert.UpdateSbOutReferenceIdeal.nD Cert.UpdateSbOutReferenceIdeal.τ).loc Cert.UpdateSbOutReferenceIdeal.main_arg1) = m' ((c.tc : Thread Cert.UpdateSbOutReferenceIdeal.nD Cert.UpdateSbOutReferenceIdeal.τ).loc Cert.UpdateSbOutReferenceIdeal.main_arg1)
          ∧ r.2.mem ((c.tc : Thread Cert.UpdateSbOutReferenceIdeal.nD Cert.UpdateSbOutReferenceIdeal.τ).loc Cert.UpdateSbOutReferenceIdeal.main_arg2) = m' ((c.tc : Thread Cert.UpdateSbOutReferenceIdeal.nD Cert.UpdateSbOutReferenceIdeal.τ).loc Cert.UpdateSbOutReferenceIdeal.main_arg2)
          ∧ r.2.mem ((c.tc : Thread Cert.UpdateSbOutReferenceIdeal.nD Cert.UpdateSbOutReferenceIdeal.τ).loc Cert.UpdateSbOutReferenceIdeal.main_arg3) = m' ((c.tc : Thread Cert.UpdateSbOutReferenceIdeal.nD Cert.UpdateSbOutReferenceIdeal.τ).loc Cert.UpdateSbOutReferenceIdeal.main_arg3))

def preserves_UpdateGlu_UpdateGluIdeal : Prop :=
  True

def algebraic_UpdateGluIdeal_UpdateGluReferenceIdeal [hUpdateGluIdeal : Cert.UpdateGluIdeal.Facts] [hUpdateGluReferenceIdeal : Cert.UpdateGluReferenceIdeal.Facts] : Prop :=
  ∀ (m : (ℓ : Loc Cert.UpdateGluIdeal.nD Cert.UpdateGluIdeal.τ Cert.UpdateGluIdeal.sig) → Buf (Elt Ideal) ℓ) (g : Dev Cert.UpdateGluIdeal.nD → PrngReg)
    (m' : (ℓ : Loc Cert.UpdateGluReferenceIdeal.nD Cert.UpdateGluReferenceIdeal.τ Cert.UpdateGluReferenceIdeal.sig) → Buf (Elt Ideal) ℓ) (g' : Dev Cert.UpdateGluReferenceIdeal.nD → PrngReg), Pre_UpdateGluIdeal m →
    (∀ c : Dev Cert.UpdateGluIdeal.nD,
      m' ((c.tc : Thread Cert.UpdateGluReferenceIdeal.nD Cert.UpdateGluReferenceIdeal.τ).loc Cert.UpdateGluReferenceIdeal.main_arg0) = m ((c.tc : Thread Cert.UpdateGluIdeal.nD Cert.UpdateGluIdeal.τ).loc Cert.UpdateGluIdeal.main_arg0)
      ∧ m' ((c.tc : Thread Cert.UpdateGluReferenceIdeal.nD Cert.UpdateGluReferenceIdeal.τ).loc Cert.UpdateGluReferenceIdeal.main_arg1) = m ((c.tc : Thread Cert.UpdateGluIdeal.nD Cert.UpdateGluIdeal.τ).loc Cert.UpdateGluIdeal.main_arg1)
      ∧ m' ((c.tc : Thread Cert.UpdateGluReferenceIdeal.nD Cert.UpdateGluReferenceIdeal.τ).loc Cert.UpdateGluReferenceIdeal.main_arg2) = m ((c.tc : Thread Cert.UpdateGluIdeal.nD Cert.UpdateGluIdeal.τ).loc Cert.UpdateGluIdeal.main_arg2)
      ∧ m' ((c.tc : Thread Cert.UpdateGluReferenceIdeal.nD Cert.UpdateGluReferenceIdeal.τ).loc Cert.UpdateGluReferenceIdeal.main_arg3) = m ((c.tc : Thread Cert.UpdateGluIdeal.nD Cert.UpdateGluIdeal.τ).loc Cert.UpdateGluIdeal.main_arg3)) →
    ∃ (v0 : (c : Dev Cert.UpdateGluIdeal.nD) → Buf (Elt Ideal) ((c.tc : Thread Cert.UpdateGluIdeal.nD Cert.UpdateGluIdeal.τ).loc Cert.UpdateGluIdeal.main_v4_0)) (v1 : (c : Dev Cert.UpdateGluIdeal.nD) → Buf (Elt Ideal) ((c.tc : Thread Cert.UpdateGluIdeal.nD Cert.UpdateGluIdeal.τ).loc Cert.UpdateGluIdeal.main_v4_1)) (v2 : (c : Dev Cert.UpdateGluIdeal.nD) → Buf (Elt Ideal) ((c.tc : Thread Cert.UpdateGluIdeal.nD Cert.UpdateGluIdeal.τ).loc Cert.UpdateGluIdeal.main_v4_2)) (v3 : (c : Dev Cert.UpdateGluIdeal.nD) → Buf (Elt Ideal) ((c.tc : Thread Cert.UpdateGluIdeal.nD Cert.UpdateGluIdeal.τ).loc Cert.UpdateGluIdeal.main_v4_3)),
      θ_run (Cert.UpdateGluIdeal.defs (F := Ideal)) (onTc (τ := Cert.UpdateGluIdeal.τ) (Cert.UpdateGluIdeal.main (F := Ideal))) ⟨m, fun _ => 0, g⟩ (fun r => ∀ c : Dev Cert.UpdateGluIdeal.nD,
          r.2.mem ((c.tc : Thread Cert.UpdateGluIdeal.nD Cert.UpdateGluIdeal.τ).loc Cert.UpdateGluIdeal.main_v4_0) = v0 c
          ∧ r.2.mem ((c.tc : Thread Cert.UpdateGluIdeal.nD Cert.UpdateGluIdeal.τ).loc Cert.UpdateGluIdeal.main_v4_1) = v1 c
          ∧ r.2.mem ((c.tc : Thread Cert.UpdateGluIdeal.nD Cert.UpdateGluIdeal.τ).loc Cert.UpdateGluIdeal.main_v4_2) = v2 c
          ∧ r.2.mem ((c.tc : Thread Cert.UpdateGluIdeal.nD Cert.UpdateGluIdeal.τ).loc Cert.UpdateGluIdeal.main_v4_3) = v3 c
          ∧ r.2.mem ((c.tc : Thread Cert.UpdateGluIdeal.nD Cert.UpdateGluIdeal.τ).loc Cert.UpdateGluIdeal.main_arg0) = m ((c.tc : Thread Cert.UpdateGluIdeal.nD Cert.UpdateGluIdeal.τ).loc Cert.UpdateGluIdeal.main_arg0)
          ∧ r.2.mem ((c.tc : Thread Cert.UpdateGluIdeal.nD Cert.UpdateGluIdeal.τ).loc Cert.UpdateGluIdeal.main_arg1) = m ((c.tc : Thread Cert.UpdateGluIdeal.nD Cert.UpdateGluIdeal.τ).loc Cert.UpdateGluIdeal.main_arg1)
          ∧ r.2.mem ((c.tc : Thread Cert.UpdateGluIdeal.nD Cert.UpdateGluIdeal.τ).loc Cert.UpdateGluIdeal.main_arg2) = m ((c.tc : Thread Cert.UpdateGluIdeal.nD Cert.UpdateGluIdeal.τ).loc Cert.UpdateGluIdeal.main_arg2)
          ∧ r.2.mem ((c.tc : Thread Cert.UpdateGluIdeal.nD Cert.UpdateGluIdeal.τ).loc Cert.UpdateGluIdeal.main_arg3) = m ((c.tc : Thread Cert.UpdateGluIdeal.nD Cert.UpdateGluIdeal.τ).loc Cert.UpdateGluIdeal.main_arg3))
      ∧ θ_run (Cert.UpdateGluReferenceIdeal.defs (F := Ideal)) (onTc (τ := Cert.UpdateGluReferenceIdeal.τ) (Cert.UpdateGluReferenceIdeal.main (F := Ideal))) ⟨m', fun _ => 0, g'⟩ (fun r => ∀ c : Dev Cert.UpdateGluReferenceIdeal.nD,
          r.2.mem ((c.tc : Thread Cert.UpdateGluReferenceIdeal.nD Cert.UpdateGluReferenceIdeal.τ).loc Cert.UpdateGluReferenceIdeal.main_v24) = v0 c
          ∧ r.2.mem ((c.tc : Thread Cert.UpdateGluReferenceIdeal.nD Cert.UpdateGluReferenceIdeal.τ).loc Cert.UpdateGluReferenceIdeal.main_v25) = v1 c
          ∧ r.2.mem ((c.tc : Thread Cert.UpdateGluReferenceIdeal.nD Cert.UpdateGluReferenceIdeal.τ).loc Cert.UpdateGluReferenceIdeal.main_v26) = v2 c
          ∧ r.2.mem ((c.tc : Thread Cert.UpdateGluReferenceIdeal.nD Cert.UpdateGluReferenceIdeal.τ).loc Cert.UpdateGluReferenceIdeal.main_v27) = v3 c
          ∧ r.2.mem ((c.tc : Thread Cert.UpdateGluReferenceIdeal.nD Cert.UpdateGluReferenceIdeal.τ).loc Cert.UpdateGluReferenceIdeal.main_arg0) = m' ((c.tc : Thread Cert.UpdateGluReferenceIdeal.nD Cert.UpdateGluReferenceIdeal.τ).loc Cert.UpdateGluReferenceIdeal.main_arg0)
          ∧ r.2.mem ((c.tc : Thread Cert.UpdateGluReferenceIdeal.nD Cert.UpdateGluReferenceIdeal.τ).loc Cert.UpdateGluReferenceIdeal.main_arg1) = m' ((c.tc : Thread Cert.UpdateGluReferenceIdeal.nD Cert.UpdateGluReferenceIdeal.τ).loc Cert.UpdateGluReferenceIdeal.main_arg1)
          ∧ r.2.mem ((c.tc : Thread Cert.UpdateGluReferenceIdeal.nD Cert.UpdateGluReferenceIdeal.τ).loc Cert.UpdateGluReferenceIdeal.main_arg2) = m' ((c.tc : Thread Cert.UpdateGluReferenceIdeal.nD Cert.UpdateGluReferenceIdeal.τ).loc Cert.UpdateGluReferenceIdeal.main_arg2)
          ∧ r.2.mem ((c.tc : Thread Cert.UpdateGluReferenceIdeal.nD Cert.UpdateGluReferenceIdeal.τ).loc Cert.UpdateGluReferenceIdeal.main_arg3) = m' ((c.tc : Thread Cert.UpdateGluReferenceIdeal.nD Cert.UpdateGluReferenceIdeal.τ).loc Cert.UpdateGluReferenceIdeal.main_arg3))

def preserves_UpdateSsmOut_UpdateSsmOutIdeal : Prop :=
  True

def algebraic_UpdateSsmOutIdeal_UpdateSsmOutReferenceIdeal [hUpdateSsmOutIdeal : Cert.UpdateSsmOutIdeal.Facts] [hUpdateSsmOutReferenceIdeal : Cert.UpdateSsmOutReferenceIdeal.Facts] : Prop :=
  ∀ (m : (ℓ : Loc Cert.UpdateSsmOutIdeal.nD Cert.UpdateSsmOutIdeal.τ Cert.UpdateSsmOutIdeal.sig) → Buf (Elt Ideal) ℓ) (g : Dev Cert.UpdateSsmOutIdeal.nD → PrngReg)
    (m' : (ℓ : Loc Cert.UpdateSsmOutReferenceIdeal.nD Cert.UpdateSsmOutReferenceIdeal.τ Cert.UpdateSsmOutReferenceIdeal.sig) → Buf (Elt Ideal) ℓ) (g' : Dev Cert.UpdateSsmOutReferenceIdeal.nD → PrngReg), Pre_UpdateSsmOutIdeal m →
    (∀ c : Dev Cert.UpdateSsmOutIdeal.nD,
      m' ((c.tc : Thread Cert.UpdateSsmOutReferenceIdeal.nD Cert.UpdateSsmOutReferenceIdeal.τ).loc Cert.UpdateSsmOutReferenceIdeal.main_arg0) = m ((c.tc : Thread Cert.UpdateSsmOutIdeal.nD Cert.UpdateSsmOutIdeal.τ).loc Cert.UpdateSsmOutIdeal.main_arg0)
      ∧ m' ((c.tc : Thread Cert.UpdateSsmOutReferenceIdeal.nD Cert.UpdateSsmOutReferenceIdeal.τ).loc Cert.UpdateSsmOutReferenceIdeal.main_arg1) = m ((c.tc : Thread Cert.UpdateSsmOutIdeal.nD Cert.UpdateSsmOutIdeal.τ).loc Cert.UpdateSsmOutIdeal.main_arg1)
      ∧ m' ((c.tc : Thread Cert.UpdateSsmOutReferenceIdeal.nD Cert.UpdateSsmOutReferenceIdeal.τ).loc Cert.UpdateSsmOutReferenceIdeal.main_arg2) = m ((c.tc : Thread Cert.UpdateSsmOutIdeal.nD Cert.UpdateSsmOutIdeal.τ).loc Cert.UpdateSsmOutIdeal.main_arg2)
      ∧ m' ((c.tc : Thread Cert.UpdateSsmOutReferenceIdeal.nD Cert.UpdateSsmOutReferenceIdeal.τ).loc Cert.UpdateSsmOutReferenceIdeal.main_arg3) = m ((c.tc : Thread Cert.UpdateSsmOutIdeal.nD Cert.UpdateSsmOutIdeal.τ).loc Cert.UpdateSsmOutIdeal.main_arg3)) →
    ∃ (v0 : (c : Dev Cert.UpdateSsmOutIdeal.nD) → Buf (Elt Ideal) ((c.tc : Thread Cert.UpdateSsmOutIdeal.nD Cert.UpdateSsmOutIdeal.τ).loc Cert.UpdateSsmOutIdeal.main_v4_0)) (v1 : (c : Dev Cert.UpdateSsmOutIdeal.nD) → Buf (Elt Ideal) ((c.tc : Thread Cert.UpdateSsmOutIdeal.nD Cert.UpdateSsmOutIdeal.τ).loc Cert.UpdateSsmOutIdeal.main_v4_1)) (v2 : (c : Dev Cert.UpdateSsmOutIdeal.nD) → Buf (Elt Ideal) ((c.tc : Thread Cert.UpdateSsmOutIdeal.nD Cert.UpdateSsmOutIdeal.τ).loc Cert.UpdateSsmOutIdeal.main_v4_2)) (v3 : (c : Dev Cert.UpdateSsmOutIdeal.nD) → Buf (Elt Ideal) ((c.tc : Thread Cert.UpdateSsmOutIdeal.nD Cert.UpdateSsmOutIdeal.τ).loc Cert.UpdateSsmOutIdeal.main_v4_3)),
      θ_run (Cert.UpdateSsmOutIdeal.defs (F := Ideal)) (onTc (τ := Cert.UpdateSsmOutIdeal.τ) (Cert.UpdateSsmOutIdeal.main (F := Ideal))) ⟨m, fun _ => 0, g⟩ (fun r => ∀ c : Dev Cert.UpdateSsmOutIdeal.nD,
          r.2.mem ((c.tc : Thread Cert.UpdateSsmOutIdeal.nD Cert.UpdateSsmOutIdeal.τ).loc Cert.UpdateSsmOutIdeal.main_v4_0) = v0 c
          ∧ r.2.mem ((c.tc : Thread Cert.UpdateSsmOutIdeal.nD Cert.UpdateSsmOutIdeal.τ).loc Cert.UpdateSsmOutIdeal.main_v4_1) = v1 c
          ∧ r.2.mem ((c.tc : Thread Cert.UpdateSsmOutIdeal.nD Cert.UpdateSsmOutIdeal.τ).loc Cert.UpdateSsmOutIdeal.main_v4_2) = v2 c
          ∧ r.2.mem ((c.tc : Thread Cert.UpdateSsmOutIdeal.nD Cert.UpdateSsmOutIdeal.τ).loc Cert.UpdateSsmOutIdeal.main_v4_3) = v3 c
          ∧ r.2.mem ((c.tc : Thread Cert.UpdateSsmOutIdeal.nD Cert.UpdateSsmOutIdeal.τ).loc Cert.UpdateSsmOutIdeal.main_arg0) = m ((c.tc : Thread Cert.UpdateSsmOutIdeal.nD Cert.UpdateSsmOutIdeal.τ).loc Cert.UpdateSsmOutIdeal.main_arg0)
          ∧ r.2.mem ((c.tc : Thread Cert.UpdateSsmOutIdeal.nD Cert.UpdateSsmOutIdeal.τ).loc Cert.UpdateSsmOutIdeal.main_arg1) = m ((c.tc : Thread Cert.UpdateSsmOutIdeal.nD Cert.UpdateSsmOutIdeal.τ).loc Cert.UpdateSsmOutIdeal.main_arg1)
          ∧ r.2.mem ((c.tc : Thread Cert.UpdateSsmOutIdeal.nD Cert.UpdateSsmOutIdeal.τ).loc Cert.UpdateSsmOutIdeal.main_arg2) = m ((c.tc : Thread Cert.UpdateSsmOutIdeal.nD Cert.UpdateSsmOutIdeal.τ).loc Cert.UpdateSsmOutIdeal.main_arg2)
          ∧ r.2.mem ((c.tc : Thread Cert.UpdateSsmOutIdeal.nD Cert.UpdateSsmOutIdeal.τ).loc Cert.UpdateSsmOutIdeal.main_arg3) = m ((c.tc : Thread Cert.UpdateSsmOutIdeal.nD Cert.UpdateSsmOutIdeal.τ).loc Cert.UpdateSsmOutIdeal.main_arg3))
      ∧ θ_run (Cert.UpdateSsmOutReferenceIdeal.defs (F := Ideal)) (onTc (τ := Cert.UpdateSsmOutReferenceIdeal.τ) (Cert.UpdateSsmOutReferenceIdeal.main (F := Ideal))) ⟨m', fun _ => 0, g'⟩ (fun r => ∀ c : Dev Cert.UpdateSsmOutReferenceIdeal.nD,
          r.2.mem ((c.tc : Thread Cert.UpdateSsmOutReferenceIdeal.nD Cert.UpdateSsmOutReferenceIdeal.τ).loc Cert.UpdateSsmOutReferenceIdeal.main_v24) = v0 c
          ∧ r.2.mem ((c.tc : Thread Cert.UpdateSsmOutReferenceIdeal.nD Cert.UpdateSsmOutReferenceIdeal.τ).loc Cert.UpdateSsmOutReferenceIdeal.main_v25) = v1 c
          ∧ r.2.mem ((c.tc : Thread Cert.UpdateSsmOutReferenceIdeal.nD Cert.UpdateSsmOutReferenceIdeal.τ).loc Cert.UpdateSsmOutReferenceIdeal.main_v26) = v2 c
          ∧ r.2.mem ((c.tc : Thread Cert.UpdateSsmOutReferenceIdeal.nD Cert.UpdateSsmOutReferenceIdeal.τ).loc Cert.UpdateSsmOutReferenceIdeal.main_v27) = v3 c
          ∧ r.2.mem ((c.tc : Thread Cert.UpdateSsmOutReferenceIdeal.nD Cert.UpdateSsmOutReferenceIdeal.τ).loc Cert.UpdateSsmOutReferenceIdeal.main_arg0) = m' ((c.tc : Thread Cert.UpdateSsmOutReferenceIdeal.nD Cert.UpdateSsmOutReferenceIdeal.τ).loc Cert.UpdateSsmOutReferenceIdeal.main_arg0)
          ∧ r.2.mem ((c.tc : Thread Cert.UpdateSsmOutReferenceIdeal.nD Cert.UpdateSsmOutReferenceIdeal.τ).loc Cert.UpdateSsmOutReferenceIdeal.main_arg1) = m' ((c.tc : Thread Cert.UpdateSsmOutReferenceIdeal.nD Cert.UpdateSsmOutReferenceIdeal.τ).loc Cert.UpdateSsmOutReferenceIdeal.main_arg1)
          ∧ r.2.mem ((c.tc : Thread Cert.UpdateSsmOutReferenceIdeal.nD Cert.UpdateSsmOutReferenceIdeal.τ).loc Cert.UpdateSsmOutReferenceIdeal.main_arg2) = m' ((c.tc : Thread Cert.UpdateSsmOutReferenceIdeal.nD Cert.UpdateSsmOutReferenceIdeal.τ).loc Cert.UpdateSsmOutReferenceIdeal.main_arg2)
          ∧ r.2.mem ((c.tc : Thread Cert.UpdateSsmOutReferenceIdeal.nD Cert.UpdateSsmOutReferenceIdeal.τ).loc Cert.UpdateSsmOutReferenceIdeal.main_arg3) = m' ((c.tc : Thread Cert.UpdateSsmOutReferenceIdeal.nD Cert.UpdateSsmOutReferenceIdeal.τ).loc Cert.UpdateSsmOutReferenceIdeal.main_arg3))

def preserves_UpdateMemKv_UpdateMemKvIdeal : Prop :=
  True

def algebraic_UpdateMemKvIdeal_UpdateMemKvReferenceIdeal [hUpdateMemKvIdeal : Cert.UpdateMemKvIdeal.Facts] [hUpdateMemKvReferenceIdeal : Cert.UpdateMemKvReferenceIdeal.Facts] : Prop :=
  ∀ (m : (ℓ : Loc Cert.UpdateMemKvIdeal.nD Cert.UpdateMemKvIdeal.τ Cert.UpdateMemKvIdeal.sig) → Buf (Elt Ideal) ℓ) (g : Dev Cert.UpdateMemKvIdeal.nD → PrngReg)
    (m' : (ℓ : Loc Cert.UpdateMemKvReferenceIdeal.nD Cert.UpdateMemKvReferenceIdeal.τ Cert.UpdateMemKvReferenceIdeal.sig) → Buf (Elt Ideal) ℓ) (g' : Dev Cert.UpdateMemKvReferenceIdeal.nD → PrngReg), Pre_UpdateMemKvIdeal m →
    (∀ c : Dev Cert.UpdateMemKvIdeal.nD,
      m' ((c.tc : Thread Cert.UpdateMemKvReferenceIdeal.nD Cert.UpdateMemKvReferenceIdeal.τ).loc Cert.UpdateMemKvReferenceIdeal.main_arg0) = m ((c.tc : Thread Cert.UpdateMemKvIdeal.nD Cert.UpdateMemKvIdeal.τ).loc Cert.UpdateMemKvIdeal.main_arg0)
      ∧ m' ((c.tc : Thread Cert.UpdateMemKvReferenceIdeal.nD Cert.UpdateMemKvReferenceIdeal.τ).loc Cert.UpdateMemKvReferenceIdeal.main_arg1) = m ((c.tc : Thread Cert.UpdateMemKvIdeal.nD Cert.UpdateMemKvIdeal.τ).loc Cert.UpdateMemKvIdeal.main_arg1)
      ∧ m' ((c.tc : Thread Cert.UpdateMemKvReferenceIdeal.nD Cert.UpdateMemKvReferenceIdeal.τ).loc Cert.UpdateMemKvReferenceIdeal.main_arg2) = m ((c.tc : Thread Cert.UpdateMemKvIdeal.nD Cert.UpdateMemKvIdeal.τ).loc Cert.UpdateMemKvIdeal.main_arg2)
      ∧ m' ((c.tc : Thread Cert.UpdateMemKvReferenceIdeal.nD Cert.UpdateMemKvReferenceIdeal.τ).loc Cert.UpdateMemKvReferenceIdeal.main_arg3) = m ((c.tc : Thread Cert.UpdateMemKvIdeal.nD Cert.UpdateMemKvIdeal.τ).loc Cert.UpdateMemKvIdeal.main_arg3)) →
    ∃ (v0 : (c : Dev Cert.UpdateMemKvIdeal.nD) → Buf (Elt Ideal) ((c.tc : Thread Cert.UpdateMemKvIdeal.nD Cert.UpdateMemKvIdeal.τ).loc Cert.UpdateMemKvIdeal.main_v4_0)) (v1 : (c : Dev Cert.UpdateMemKvIdeal.nD) → Buf (Elt Ideal) ((c.tc : Thread Cert.UpdateMemKvIdeal.nD Cert.UpdateMemKvIdeal.τ).loc Cert.UpdateMemKvIdeal.main_v4_1)) (v2 : (c : Dev Cert.UpdateMemKvIdeal.nD) → Buf (Elt Ideal) ((c.tc : Thread Cert.UpdateMemKvIdeal.nD Cert.UpdateMemKvIdeal.τ).loc Cert.UpdateMemKvIdeal.main_v4_2)) (v3 : (c : Dev Cert.UpdateMemKvIdeal.nD) → Buf (Elt Ideal) ((c.tc : Thread Cert.UpdateMemKvIdeal.nD Cert.UpdateMemKvIdeal.τ).loc Cert.UpdateMemKvIdeal.main_v4_3)),
      θ_run (Cert.UpdateMemKvIdeal.defs (F := Ideal)) (onTc (τ := Cert.UpdateMemKvIdeal.τ) (Cert.UpdateMemKvIdeal.main (F := Ideal))) ⟨m, fun _ => 0, g⟩ (fun r => ∀ c : Dev Cert.UpdateMemKvIdeal.nD,
          r.2.mem ((c.tc : Thread Cert.UpdateMemKvIdeal.nD Cert.UpdateMemKvIdeal.τ).loc Cert.UpdateMemKvIdeal.main_v4_0) = v0 c
          ∧ r.2.mem ((c.tc : Thread Cert.UpdateMemKvIdeal.nD Cert.UpdateMemKvIdeal.τ).loc Cert.UpdateMemKvIdeal.main_v4_1) = v1 c
          ∧ r.2.mem ((c.tc : Thread Cert.UpdateMemKvIdeal.nD Cert.UpdateMemKvIdeal.τ).loc Cert.UpdateMemKvIdeal.main_v4_2) = v2 c
          ∧ r.2.mem ((c.tc : Thread Cert.UpdateMemKvIdeal.nD Cert.UpdateMemKvIdeal.τ).loc Cert.UpdateMemKvIdeal.main_v4_3) = v3 c
          ∧ r.2.mem ((c.tc : Thread Cert.UpdateMemKvIdeal.nD Cert.UpdateMemKvIdeal.τ).loc Cert.UpdateMemKvIdeal.main_arg0) = m ((c.tc : Thread Cert.UpdateMemKvIdeal.nD Cert.UpdateMemKvIdeal.τ).loc Cert.UpdateMemKvIdeal.main_arg0)
          ∧ r.2.mem ((c.tc : Thread Cert.UpdateMemKvIdeal.nD Cert.UpdateMemKvIdeal.τ).loc Cert.UpdateMemKvIdeal.main_arg1) = m ((c.tc : Thread Cert.UpdateMemKvIdeal.nD Cert.UpdateMemKvIdeal.τ).loc Cert.UpdateMemKvIdeal.main_arg1)
          ∧ r.2.mem ((c.tc : Thread Cert.UpdateMemKvIdeal.nD Cert.UpdateMemKvIdeal.τ).loc Cert.UpdateMemKvIdeal.main_arg2) = m ((c.tc : Thread Cert.UpdateMemKvIdeal.nD Cert.UpdateMemKvIdeal.τ).loc Cert.UpdateMemKvIdeal.main_arg2)
          ∧ r.2.mem ((c.tc : Thread Cert.UpdateMemKvIdeal.nD Cert.UpdateMemKvIdeal.τ).loc Cert.UpdateMemKvIdeal.main_arg3) = m ((c.tc : Thread Cert.UpdateMemKvIdeal.nD Cert.UpdateMemKvIdeal.τ).loc Cert.UpdateMemKvIdeal.main_arg3))
      ∧ θ_run (Cert.UpdateMemKvReferenceIdeal.defs (F := Ideal)) (onTc (τ := Cert.UpdateMemKvReferenceIdeal.τ) (Cert.UpdateMemKvReferenceIdeal.main (F := Ideal))) ⟨m', fun _ => 0, g'⟩ (fun r => ∀ c : Dev Cert.UpdateMemKvReferenceIdeal.nD,
          r.2.mem ((c.tc : Thread Cert.UpdateMemKvReferenceIdeal.nD Cert.UpdateMemKvReferenceIdeal.τ).loc Cert.UpdateMemKvReferenceIdeal.main_v24) = v0 c
          ∧ r.2.mem ((c.tc : Thread Cert.UpdateMemKvReferenceIdeal.nD Cert.UpdateMemKvReferenceIdeal.τ).loc Cert.UpdateMemKvReferenceIdeal.main_v25) = v1 c
          ∧ r.2.mem ((c.tc : Thread Cert.UpdateMemKvReferenceIdeal.nD Cert.UpdateMemKvReferenceIdeal.τ).loc Cert.UpdateMemKvReferenceIdeal.main_v26) = v2 c
          ∧ r.2.mem ((c.tc : Thread Cert.UpdateMemKvReferenceIdeal.nD Cert.UpdateMemKvReferenceIdeal.τ).loc Cert.UpdateMemKvReferenceIdeal.main_v27) = v3 c
          ∧ r.2.mem ((c.tc : Thread Cert.UpdateMemKvReferenceIdeal.nD Cert.UpdateMemKvReferenceIdeal.τ).loc Cert.UpdateMemKvReferenceIdeal.main_arg0) = m' ((c.tc : Thread Cert.UpdateMemKvReferenceIdeal.nD Cert.UpdateMemKvReferenceIdeal.τ).loc Cert.UpdateMemKvReferenceIdeal.main_arg0)
          ∧ r.2.mem ((c.tc : Thread Cert.UpdateMemKvReferenceIdeal.nD Cert.UpdateMemKvReferenceIdeal.τ).loc Cert.UpdateMemKvReferenceIdeal.main_arg1) = m' ((c.tc : Thread Cert.UpdateMemKvReferenceIdeal.nD Cert.UpdateMemKvReferenceIdeal.τ).loc Cert.UpdateMemKvReferenceIdeal.main_arg1)
          ∧ r.2.mem ((c.tc : Thread Cert.UpdateMemKvReferenceIdeal.nD Cert.UpdateMemKvReferenceIdeal.τ).loc Cert.UpdateMemKvReferenceIdeal.main_arg2) = m' ((c.tc : Thread Cert.UpdateMemKvReferenceIdeal.nD Cert.UpdateMemKvReferenceIdeal.τ).loc Cert.UpdateMemKvReferenceIdeal.main_arg2)
          ∧ r.2.mem ((c.tc : Thread Cert.UpdateMemKvReferenceIdeal.nD Cert.UpdateMemKvReferenceIdeal.τ).loc Cert.UpdateMemKvReferenceIdeal.main_arg3) = m' ((c.tc : Thread Cert.UpdateMemKvReferenceIdeal.nD Cert.UpdateMemKvReferenceIdeal.τ).loc Cert.UpdateMemKvReferenceIdeal.main_arg3))

def preserves_UpdateOut_UpdateOutIdeal : Prop :=
  True

def algebraic_UpdateOutIdeal_UpdateOutReferenceIdeal [hUpdateOutIdeal : Cert.UpdateOutIdeal.Facts] [hUpdateOutReferenceIdeal : Cert.UpdateOutReferenceIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutIdeal m →
    (∀ c : Dev Cert.UpdateOutIdeal.nD,
      m' ((c.tc : Thread Cert.UpdateOutReferenceIdeal.nD Cert.UpdateOutReferenceIdeal.τ).loc Cert.UpdateOutReferenceIdeal.main_arg0) = m ((c.tc : Thread Cert.UpdateOutIdeal.nD Cert.UpdateOutIdeal.τ).loc Cert.UpdateOutIdeal.main_arg0)
      ∧ m' ((c.tc : Thread Cert.UpdateOutReferenceIdeal.nD Cert.UpdateOutReferenceIdeal.τ).loc Cert.UpdateOutReferenceIdeal.main_arg1) = m ((c.tc : Thread Cert.UpdateOutIdeal.nD Cert.UpdateOutIdeal.τ).loc Cert.UpdateOutIdeal.main_arg1)
      ∧ m' ((c.tc : Thread Cert.UpdateOutReferenceIdeal.nD Cert.UpdateOutReferenceIdeal.τ).loc Cert.UpdateOutReferenceIdeal.main_arg2) = m ((c.tc : Thread Cert.UpdateOutIdeal.nD Cert.UpdateOutIdeal.τ).loc Cert.UpdateOutIdeal.main_arg2)
      ∧ m' ((c.tc : Thread Cert.UpdateOutReferenceIdeal.nD Cert.UpdateOutReferenceIdeal.τ).loc Cert.UpdateOutReferenceIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v4_0)) (v1 : (c : Dev Cert.UpdateOutIdeal.nD) → Buf (Elt Ideal) ((c.tc : Thread Cert.UpdateOutIdeal.nD Cert.UpdateOutIdeal.τ).loc Cert.UpdateOutIdeal.main_v4_1)) (v2 : (c : Dev Cert.UpdateOutIdeal.nD) → Buf (Elt Ideal) ((c.tc : Thread Cert.UpdateOutIdeal.nD Cert.UpdateOutIdeal.τ).loc Cert.UpdateOutIdeal.main_v4_2)) (v3 : (c : Dev Cert.UpdateOutIdeal.nD) → Buf (Elt Ideal) ((c.tc : Thread Cert.UpdateOutIdeal.nD Cert.UpdateOutIdeal.τ).loc Cert.UpdateOutIdeal.main_v4_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v4_0) = v0 c
          ∧ r.2.mem ((c.tc : Thread Cert.UpdateOutIdeal.nD Cert.UpdateOutIdeal.τ).loc Cert.UpdateOutIdeal.main_v4_1) = v1 c
          ∧ r.2.mem ((c.tc : Thread Cert.UpdateOutIdeal.nD Cert.UpdateOutIdeal.τ).loc Cert.UpdateOutIdeal.main_v4_2) = v2 c
          ∧ r.2.mem ((c.tc : Thread Cert.UpdateOutIdeal.nD Cert.UpdateOutIdeal.τ).loc Cert.UpdateOutIdeal.main_v4_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v24) = v0 c
          ∧ r.2.mem ((c.tc : Thread Cert.UpdateOutReferenceIdeal.nD Cert.UpdateOutReferenceIdeal.τ).loc Cert.UpdateOutReferenceIdeal.main_v25) = v1 c
          ∧ r.2.mem ((c.tc : Thread Cert.UpdateOutReferenceIdeal.nD Cert.UpdateOutReferenceIdeal.τ).loc Cert.UpdateOutReferenceIdeal.main_v26) = v2 c
          ∧ r.2.mem ((c.tc : Thread Cert.UpdateOutReferenceIdeal.nD Cert.UpdateOutReferenceIdeal.τ).loc Cert.UpdateOutReferenceIdeal.main_v27) = v3 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3))

def preserves_UpdateUp_UpdateUpIdeal : Prop :=
  True

def algebraic_UpdateUpIdeal_UpdateUpReferenceIdeal [hUpdateUpIdeal : Cert.UpdateUpIdeal.Facts] [hUpdateUpReferenceIdeal : Cert.UpdateUpReferenceIdeal.Facts] : Prop :=
  ∀ (m : (ℓ : Loc Cert.UpdateUpIdeal.nD Cert.UpdateUpIdeal.τ Cert.UpdateUpIdeal.sig) → Buf (Elt Ideal) ℓ) (g : Dev Cert.UpdateUpIdeal.nD → PrngReg)
    (m' : (ℓ : Loc Cert.UpdateUpReferenceIdeal.nD Cert.UpdateUpReferenceIdeal.τ Cert.UpdateUpReferenceIdeal.sig) → Buf (Elt Ideal) ℓ) (g' : Dev Cert.UpdateUpReferenceIdeal.nD → PrngReg), Pre_UpdateUpIdeal m →
    (∀ c : Dev Cert.UpdateUpIdeal.nD,
      m' ((c.tc : Thread Cert.UpdateUpReferenceIdeal.nD Cert.UpdateUpReferenceIdeal.τ).loc Cert.UpdateUpReferenceIdeal.main_arg0) = m ((c.tc : Thread Cert.UpdateUpIdeal.nD Cert.UpdateUpIdeal.τ).loc Cert.UpdateUpIdeal.main_arg0)
      ∧ m' ((c.tc : Thread Cert.UpdateUpReferenceIdeal.nD Cert.UpdateUpReferenceIdeal.τ).loc Cert.UpdateUpReferenceIdeal.main_arg1) = m ((c.tc : Thread Cert.UpdateUpIdeal.nD Cert.UpdateUpIdeal.τ).loc Cert.UpdateUpIdeal.main_arg1)
      ∧ m' ((c.tc : Thread Cert.UpdateUpReferenceIdeal.nD Cert.UpdateUpReferenceIdeal.τ).loc Cert.UpdateUpReferenceIdeal.main_arg2) = m ((c.tc : Thread Cert.UpdateUpIdeal.nD Cert.UpdateUpIdeal.τ).loc Cert.UpdateUpIdeal.main_arg2)
      ∧ m' ((c.tc : Thread Cert.UpdateUpReferenceIdeal.nD Cert.UpdateUpReferenceIdeal.τ).loc Cert.UpdateUpReferenceIdeal.main_arg3) = m ((c.tc : Thread Cert.UpdateUpIdeal.nD Cert.UpdateUpIdeal.τ).loc Cert.UpdateUpIdeal.main_arg3)) →
    ∃ (v0 : (c : Dev Cert.UpdateUpIdeal.nD) → Buf (Elt Ideal) ((c.tc : Thread Cert.UpdateUpIdeal.nD Cert.UpdateUpIdeal.τ).loc Cert.UpdateUpIdeal.main_v4_0)) (v1 : (c : Dev Cert.UpdateUpIdeal.nD) → Buf (Elt Ideal) ((c.tc : Thread Cert.UpdateUpIdeal.nD Cert.UpdateUpIdeal.τ).loc Cert.UpdateUpIdeal.main_v4_1)) (v2 : (c : Dev Cert.UpdateUpIdeal.nD) → Buf (Elt Ideal) ((c.tc : Thread Cert.UpdateUpIdeal.nD Cert.UpdateUpIdeal.τ).loc Cert.UpdateUpIdeal.main_v4_2)) (v3 : (c : Dev Cert.UpdateUpIdeal.nD) → Buf (Elt Ideal) ((c.tc : Thread Cert.UpdateUpIdeal.nD Cert.UpdateUpIdeal.τ).loc Cert.UpdateUpIdeal.main_v4_3)),
      θ_run (Cert.UpdateUpIdeal.defs (F := Ideal)) (onTc (τ := Cert.UpdateUpIdeal.τ) (Cert.UpdateUpIdeal.main (F := Ideal))) ⟨m, fun _ => 0, g⟩ (fun r => ∀ c : Dev Cert.UpdateUpIdeal.nD,
          r.2.mem ((c.tc : Thread Cert.UpdateUpIdeal.nD Cert.UpdateUpIdeal.τ).loc Cert.UpdateUpIdeal.main_v4_0) = v0 c
          ∧ r.2.mem ((c.tc : Thread Cert.UpdateUpIdeal.nD Cert.UpdateUpIdeal.τ).loc Cert.UpdateUpIdeal.main_v4_1) = v1 c
          ∧ r.2.mem ((c.tc : Thread Cert.UpdateUpIdeal.nD Cert.UpdateUpIdeal.τ).loc Cert.UpdateUpIdeal.main_v4_2) = v2 c
          ∧ r.2.mem ((c.tc : Thread Cert.UpdateUpIdeal.nD Cert.UpdateUpIdeal.τ).loc Cert.UpdateUpIdeal.main_v4_3) = v3 c
          ∧ r.2.mem ((c.tc : Thread Cert.UpdateUpIdeal.nD Cert.UpdateUpIdeal.τ).loc Cert.UpdateUpIdeal.main_arg0) = m ((c.tc : Thread Cert.UpdateUpIdeal.nD Cert.UpdateUpIdeal.τ).loc Cert.UpdateUpIdeal.main_arg0)
          ∧ r.2.mem ((c.tc : Thread Cert.UpdateUpIdeal.nD Cert.UpdateUpIdeal.τ).loc Cert.UpdateUpIdeal.main_arg1) = m ((c.tc : Thread Cert.UpdateUpIdeal.nD Cert.UpdateUpIdeal.τ).loc Cert.UpdateUpIdeal.main_arg1)
          ∧ r.2.mem ((c.tc : Thread Cert.UpdateUpIdeal.nD Cert.UpdateUpIdeal.τ).loc Cert.UpdateUpIdeal.main_arg2) = m ((c.tc : Thread Cert.UpdateUpIdeal.nD Cert.UpdateUpIdeal.τ).loc Cert.UpdateUpIdeal.main_arg2)
          ∧ r.2.mem ((c.tc : Thread Cert.UpdateUpIdeal.nD Cert.UpdateUpIdeal.τ).loc Cert.UpdateUpIdeal.main_arg3) = m ((c.tc : Thread Cert.UpdateUpIdeal.nD Cert.UpdateUpIdeal.τ).loc Cert.UpdateUpIdeal.main_arg3))
      ∧ θ_run (Cert.UpdateUpReferenceIdeal.defs (F := Ideal)) (onTc (τ := Cert.UpdateUpReferenceIdeal.τ) (Cert.UpdateUpReferenceIdeal.main (F := Ideal))) ⟨m', fun _ => 0, g'⟩ (fun r => ∀ c : Dev Cert.UpdateUpReferenceIdeal.nD,
          r.2.mem ((c.tc : Thread Cert.UpdateUpReferenceIdeal.nD Cert.UpdateUpReferenceIdeal.τ).loc Cert.UpdateUpReferenceIdeal.main_v24) = v0 c
          ∧ r.2.mem ((c.tc : Thread Cert.UpdateUpReferenceIdeal.nD Cert.UpdateUpReferenceIdeal.τ).loc Cert.UpdateUpReferenceIdeal.main_v25) = v1 c
          ∧ r.2.mem ((c.tc : Thread Cert.UpdateUpReferenceIdeal.nD Cert.UpdateUpReferenceIdeal.τ).loc Cert.UpdateUpReferenceIdeal.main_v26) = v2 c
          ∧ r.2.mem ((c.tc : Thread Cert.UpdateUpReferenceIdeal.nD Cert.UpdateUpReferenceIdeal.τ).loc Cert.UpdateUpReferenceIdeal.main_v27) = v3 c
          ∧ r.2.mem ((c.tc : Thread Cert.UpdateUpReferenceIdeal.nD Cert.UpdateUpReferenceIdeal.τ).loc Cert.UpdateUpReferenceIdeal.main_arg0) = m' ((c.tc : Thread Cert.UpdateUpReferenceIdeal.nD Cert.UpdateUpReferenceIdeal.τ).loc Cert.UpdateUpReferenceIdeal.main_arg0)
          ∧ r.2.mem ((c.tc : Thread Cert.UpdateUpReferenceIdeal.nD Cert.UpdateUpReferenceIdeal.τ).loc Cert.UpdateUpReferenceIdeal.main_arg1) = m' ((c.tc : Thread Cert.UpdateUpReferenceIdeal.nD Cert.UpdateUpReferenceIdeal.τ).loc Cert.UpdateUpReferenceIdeal.main_arg1)
          ∧ r.2.mem ((c.tc : Thread Cert.UpdateUpReferenceIdeal.nD Cert.UpdateUpReferenceIdeal.τ).loc Cert.UpdateUpReferenceIdeal.main_arg2) = m' ((c.tc : Thread Cert.UpdateUpReferenceIdeal.nD Cert.UpdateUpReferenceIdeal.τ).loc Cert.UpdateUpReferenceIdeal.main_arg2)
          ∧ r.2.mem ((c.tc : Thread Cert.UpdateUpReferenceIdeal.nD Cert.UpdateUpReferenceIdeal.τ).loc Cert.UpdateUpReferenceIdeal.main_arg3) = m' ((c.tc : Thread Cert.UpdateUpReferenceIdeal.nD Cert.UpdateUpReferenceIdeal.τ).loc Cert.UpdateUpReferenceIdeal.main_arg3))

def preserves_UpdateDown_UpdateDownIdeal : Prop :=
  True

def algebraic_UpdateDownIdeal_UpdateDownReferenceIdeal [hUpdateDownIdeal : Cert.UpdateDownIdeal.Facts] [hUpdateDownReferenceIdeal : Cert.UpdateDownReferenceIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg)
    (m' : (ℓ : Loc Cert.UpdateDownReferenceIdeal.nD Cert.UpdateDownReferenceIdeal.τ Cert.UpdateDownReferenceIdeal.sig) → Buf (Elt Ideal) ℓ) (g' : Dev Cert.UpdateDownReferenceIdeal.nD → PrngReg), Pre_UpdateDownIdeal m →
    (∀ c : Dev Cert.UpdateDownIdeal.nD,
      m' ((c.tc : Thread Cert.UpdateDownReferenceIdeal.nD Cert.UpdateDownReferenceIdeal.τ).loc Cert.UpdateDownReferenceIdeal.main_arg0) = m ((c.tc : Thread Cert.UpdateDownIdeal.nD Cert.UpdateDownIdeal.τ).loc Cert.UpdateDownIdeal.main_arg0)
      ∧ m' ((c.tc : Thread Cert.UpdateDownReferenceIdeal.nD Cert.UpdateDownReferenceIdeal.τ).loc Cert.UpdateDownReferenceIdeal.main_arg1) = m ((c.tc : Thread Cert.UpdateDownIdeal.nD Cert.UpdateDownIdeal.τ).loc Cert.UpdateDownIdeal.main_arg1)
      ∧ m' ((c.tc : Thread Cert.UpdateDownReferenceIdeal.nD Cert.UpdateDownReferenceIdeal.τ).loc Cert.UpdateDownReferenceIdeal.main_arg2) = m ((c.tc : Thread Cert.UpdateDownIdeal.nD Cert.UpdateDownIdeal.τ).loc Cert.UpdateDownIdeal.main_arg2)
      ∧ m' ((c.tc : Thread Cert.UpdateDownReferenceIdeal.nD Cert.UpdateDownReferenceIdeal.τ).loc Cert.UpdateDownReferenceIdeal.main_arg3) = m ((c.tc : Thread Cert.UpdateDownIdeal.nD Cert.UpdateDownIdeal.τ).loc Cert.UpdateDownIdeal.main_arg3)) →
    ∃ (v0 : (c : Dev Cert.UpdateDownIdeal.nD) → Buf (Elt Ideal) ((c.tc : Thread Cert.UpdateDownIdeal.nD Cert.UpdateDownIdeal.τ).loc Cert.UpdateDownIdeal.main_v4_0)) (v1 : (c : Dev Cert.UpdateDownIdeal.nD) → Buf (Elt Ideal) ((c.tc : Thread Cert.UpdateDownIdeal.nD Cert.UpdateDownIdeal.τ).loc Cert.UpdateDownIdeal.main_v4_1)) (v2 : (c : Dev Cert.UpdateDownIdeal.nD) → Buf (Elt Ideal) ((c.tc : Thread Cert.UpdateDownIdeal.nD Cert.UpdateDownIdeal.τ).loc Cert.UpdateDownIdeal.main_v4_2)) (v3 : (c : Dev Cert.UpdateDownIdeal.nD) → Buf (Elt Ideal) ((c.tc : Thread Cert.UpdateDownIdeal.nD Cert.UpdateDownIdeal.τ).loc Cert.UpdateDownIdeal.main_v4_3)),
      θ_run (Cert.UpdateDownIdeal.defs (F := Ideal)) (onTc (τ := Cert.UpdateDownIdeal.τ) (Cert.UpdateDownIdeal.main (F := Ideal))) ⟨m, fun _ => 0, g⟩ (fun r => ∀ c : Dev Cert.UpdateDownIdeal.nD,
          r.2.mem ((c.tc : Thread Cert.UpdateDownIdeal.nD Cert.UpdateDownIdeal.τ).loc Cert.UpdateDownIdeal.main_v4_0) = v0 c
          ∧ r.2.mem ((c.tc : Thread Cert.UpdateDownIdeal.nD Cert.UpdateDownIdeal.τ).loc Cert.UpdateDownIdeal.main_v4_1) = v1 c
          ∧ r.2.mem ((c.tc : Thread Cert.UpdateDownIdeal.nD Cert.UpdateDownIdeal.τ).loc Cert.UpdateDownIdeal.main_v4_2) = v2 c
          ∧ r.2.mem ((c.tc : Thread Cert.UpdateDownIdeal.nD Cert.UpdateDownIdeal.τ).loc Cert.UpdateDownIdeal.main_v4_3) = v3 c
          ∧ r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
          ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
          ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
          ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ θ_run (Cert.UpdateDownReferenceIdeal.defs (F := Ideal)) (onTc (τ := Cert.UpdateDownReferenceIdeal.τ) (Cert.UpdateDownReferenceIdeal.main (F := Ideal))) ⟨m', fun _ => 0, g'⟩ (fun r => ∀ c : Dev Cert.UpdateDownReferenceIdeal.nD,
          r.2.mem ((c.tc : Thread Cert.UpdateDownReferenceIdeal.nD Cert.UpdateDownReferenceIdeal.τ).loc Cert.UpdateDownReferenceIdeal.main_v24) = v0 c
          ∧ r.2.mem ((c.tc : Thread Cert.UpdateDownReferenceIdeal.nD Cert.UpdateDownReferenceIdeal.τ).loc Cert.UpdateDownReferenceIdeal.main_v25) = v1 c
          ∧ r.2.mem ((c.tc : Thread Cert.UpdateDownReferenceIdeal.nD Cert.UpdateDownReferenceIdeal.τ).loc Cert.UpdateDownReferenceIdeal.main_v26) = v2 c
          ∧ r.2.mem ((c.tc : Thread Cert.UpdateDownReferenceIdeal.nD Cert.UpdateDownReferenceIdeal.τ).loc Cert.UpdateDownReferenceIdeal.main_v27) = v3 c
          ∧ r.2.mem ((c.tc : Thread Cert.UpdateDownReferenceIdeal.nD Cert.UpdateDownReferenceIdeal.τ).loc Cert.UpdateDownReferenceIdeal.main_arg0) = m' ((c.tc : Thread Cert.UpdateDownReferenceIdeal.nD Cert.UpdateDownReferenceIdeal.τ).loc Cert.UpdateDownReferenceIdeal.main_arg0)
          ∧ r.2.mem ((c.tc : Thread Cert.UpdateDownReferenceIdeal.nD Cert.UpdateDownReferenceIdeal.τ).loc Cert.UpdateDownReferenceIdeal.main_arg1) = m' ((c.tc : Thread Cert.UpdateDownReferenceIdeal.nD Cert.UpdateDownReferenceIdeal.τ).loc Cert.UpdateDownReferenceIdeal.main_arg1)
          ∧ r.2.mem ((c.tc : Thread Cert.UpdateDownReferenceIdeal.nD Cert.UpdateDownReferenceIdeal.τ).loc Cert.UpdateDownReferenceIdeal.main_arg2) = m' ((c.tc : Thread Cert.UpdateDownReferenceIdeal.nD Cert.UpdateDownReferenceIdeal.τ).loc Cert.UpdateDownReferenceIdeal.main_arg2)
          ∧ r.2.mem ((c.tc : Thread Cert.UpdateDownReferenceIdeal.nD Cert.UpdateDownReferenceIdeal.τ).loc Cert.UpdateDownReferenceIdeal.main_arg3) = m' ((c.tc : Thread Cert.UpdateDownReferenceIdeal.nD Cert.UpdateDownReferenceIdeal.τ).loc Cert.UpdateDownReferenceIdeal.main_arg3))

def preserves_SbFwd_SbFwdIdeal : Prop :=
  True

def algebraic_SbFwdIdeal_SbFwdReferenceIdeal_pre_forward_finite [hSbFwdIdeal : Cert.SbFwdIdeal.Facts] [hSbFwdReferenceIdeal : Cert.SbFwdReferenceIdeal.Facts] [hPre_forward_finite : Cert.Pre_forward_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdReferenceIdeal.nD Cert.SbFwdReferenceIdeal.τ Cert.SbFwdReferenceIdeal.sig) → Buf (Elt Ideal) ℓ) (g' : Dev Cert.SbFwdReferenceIdeal.nD → PrngReg), Pre_SbFwdIdeal_forward_finite m →
    (∀ c : Dev Cert.SbFwdIdeal.nD,
      m' ((c.tc : Thread Cert.SbFwdReferenceIdeal.nD Cert.SbFwdReferenceIdeal.τ).loc Cert.SbFwdReferenceIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v0_0)) (v1 : (c : Dev Cert.SbFwdIdeal.nD) → Buf (Elt Ideal) ((c.tc : Thread Cert.SbFwdIdeal.nD Cert.SbFwdIdeal.τ).loc Cert.SbFwdIdeal.main_v0_1)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0_0) = v0 c
          ∧ r.2.mem ((c.tc : Thread Cert.SbFwdIdeal.nD Cert.SbFwdIdeal.τ).loc Cert.SbFwdIdeal.main_v0_1) = v1 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.SbFwdReferenceIdeal.defs (F := Ideal)) (onTc (τ := Cert.SbFwdReferenceIdeal.τ) (Cert.SbFwdReferenceIdeal.main (F := Ideal))) ⟨m', fun _ => 0, g'⟩ (fun r => ∀ c : Dev Cert.SbFwdReferenceIdeal.nD,
          r.2.mem ((c.tc : Thread Cert.SbFwdReferenceIdeal.nD Cert.SbFwdReferenceIdeal.τ).loc Cert.SbFwdReferenceIdeal.main_v28) = v0 c
          ∧ r.2.mem ((c.tc : Thread Cert.SbFwdReferenceIdeal.nD Cert.SbFwdReferenceIdeal.τ).loc Cert.SbFwdReferenceIdeal.main_v47) = v1 c
          ∧ r.2.mem ((c.tc : Thread Cert.SbFwdReferenceIdeal.nD Cert.SbFwdReferenceIdeal.τ).loc Cert.SbFwdReferenceIdeal.main_arg0) = m' ((c.tc : Thread Cert.SbFwdReferenceIdeal.nD Cert.SbFwdReferenceIdeal.τ).loc Cert.SbFwdReferenceIdeal.main_arg0))

def preserves_MemFwd_MemFwdIdeal : Prop :=
  True

def algebraic_MemFwdIdeal_MemFwdReferenceIdeal [hMemFwdIdeal : Cert.MemFwdIdeal.Facts] [hMemFwdReferenceIdeal : Cert.MemFwdReferenceIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdIdeal m →
    (∀ c : Dev Cert.MemFwdIdeal.nD,
      m' ((c.tc : Thread Cert.MemFwdReferenceIdeal.nD Cert.MemFwdReferenceIdeal.τ).loc Cert.MemFwdReferenceIdeal.main_arg0) = m ((c.tc : Thread Cert.MemFwdIdeal.nD Cert.MemFwdIdeal.τ).loc Cert.MemFwdIdeal.main_arg0)
      ∧ m' ((c.tc : Thread Cert.MemFwdReferenceIdeal.nD Cert.MemFwdReferenceIdeal.τ).loc Cert.MemFwdReferenceIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v23) = v0 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1))

def Claim : Prop :=
  ∃ (hKernel : Cert.Kernel.Facts) (hKernelIdeal : Cert.KernelIdeal.Facts) (hReferenceIdeal : Cert.ReferenceIdeal.Facts) (hUpGrad : Cert.UpGrad.Facts) (hUpGradIdeal : Cert.UpGradIdeal.Facts) (hUpGradReferenceIdeal : Cert.UpGradReferenceIdeal.Facts) (hInGrad : Cert.InGrad.Facts) (hInGradIdeal : Cert.InGradIdeal.Facts) (hInGradReferenceIdeal : Cert.InGradReferenceIdeal.Facts) (hDownGrad : Cert.DownGrad.Facts) (hDownGradIdeal : Cert.DownGradIdeal.Facts) (hDownGradReferenceIdeal : Cert.DownGradReferenceIdeal.Facts) (hOutGrad : Cert.OutGrad.Facts) (hOutGradIdeal : Cert.OutGradIdeal.Facts) (hOutGradReferenceIdeal : Cert.OutGradReferenceIdeal.Facts) (hSbOutGrad : Cert.SbOutGrad.Facts) (hSbOutGradIdeal : Cert.SbOutGradIdeal.Facts) (hSbOutGradReferenceIdeal : Cert.SbOutGradReferenceIdeal.Facts) (hUp : Cert.Up.Facts) (hUpIdeal : Cert.UpIdeal.Facts) (hUpReferenceIdeal : Cert.UpReferenceIdeal.Facts) (hProjIn : Cert.ProjIn.Facts) (hProjInIdeal : Cert.ProjInIdeal.Facts) (hProjInReferenceIdeal : Cert.ProjInReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hSbOut : Cert.SbOut.Facts) (hSbOutIdeal : Cert.SbOutIdeal.Facts) (hSbOutReferenceIdeal : Cert.SbOutReferenceIdeal.Facts) (hDownBack : Cert.DownBack.Facts) (hDownBackIdeal : Cert.DownBackIdeal.Facts) (hDownBackReferenceIdeal : Cert.DownBackReferenceIdeal.Facts) (hOutBack : Cert.OutBack.Facts) (hOutBackIdeal : Cert.OutBackIdeal.Facts) (hOutBackReferenceIdeal : Cert.OutBackReferenceIdeal.Facts) (hSbOutBack : Cert.SbOutBack.Facts) (hSbOutBackIdeal : Cert.SbOutBackIdeal.Facts) (hSbOutBackReferenceIdeal : Cert.SbOutBackReferenceIdeal.Facts) (hUpBack : Cert.UpBack.Facts) (hUpBackIdeal : Cert.UpBackIdeal.Facts) (hUpBackReferenceIdeal : Cert.UpBackReferenceIdeal.Facts) (hInBack : Cert.InBack.Facts) (hInBackIdeal : Cert.InBackIdeal.Facts) (hInBackReferenceIdeal : Cert.InBackReferenceIdeal.Facts) (hGluIn : Cert.GluIn.Facts) (hGluInIdeal : Cert.GluInIdeal.Facts) (hGluInReferenceIdeal : Cert.GluInReferenceIdeal.Facts) (hSsmOut : Cert.SsmOut.Facts) (hSsmOutIdeal : Cert.SsmOutIdeal.Facts) (hSsmOutReferenceIdeal : Cert.SsmOutReferenceIdeal.Facts) (hMemKv : Cert.MemKv.Facts) (hMemKvIdeal : Cert.MemKvIdeal.Facts) (hMemKvReferenceIdeal : Cert.MemKvReferenceIdeal.Facts) (hSsmOutBack : Cert.SsmOutBack.Facts) (hSsmOutBackIdeal : Cert.SsmOutBackIdeal.Facts) (hSsmOutBackReferenceIdeal : Cert.SsmOutBackReferenceIdeal.Facts) (hMemOutBack : Cert.MemOutBack.Facts) (hMemOutBackIdeal : Cert.MemOutBackIdeal.Facts) (hMemOutBackReferenceIdeal : Cert.MemOutBackReferenceIdeal.Facts) (hGluInBack : Cert.GluInBack.Facts) (hGluInBackIdeal : Cert.GluInBackIdeal.Facts) (hGluInBackReferenceIdeal : Cert.GluInBackReferenceIdeal.Facts) (hSsmOutGrad : Cert.SsmOutGrad.Facts) (hSsmOutGradIdeal : Cert.SsmOutGradIdeal.Facts) (hSsmOutGradReferenceIdeal : Cert.SsmOutGradReferenceIdeal.Facts) (hGluInGrad : Cert.GluInGrad.Facts) (hGluInGradIdeal : Cert.GluInGradIdeal.Facts) (hGluInGradReferenceIdeal : Cert.GluInGradReferenceIdeal.Facts) (hBGrad : Cert.BGrad.Facts) (hBGradIdeal : Cert.BGradIdeal.Facts) (hBGradReferenceIdeal : Cert.BGradReferenceIdeal.Facts) (hCGrad : Cert.CGrad.Facts) (hCGradIdeal : Cert.CGradIdeal.Facts) (hCGradReferenceIdeal : Cert.CGradReferenceIdeal.Facts) (hMemKvGrad : Cert.MemKvGrad.Facts) (hMemKvGradIdeal : Cert.MemKvGradIdeal.Facts) (hMemKvGradReferenceIdeal : Cert.MemKvGradReferenceIdeal.Facts) (hMergeBack : Cert.MergeBack.Facts) (hMergeBackIdeal : Cert.MergeBackIdeal.Facts) (hMergeBackReferenceIdeal : Cert.MergeBackReferenceIdeal.Facts) (hGluBack : Cert.GluBack.Facts) (hGluBackIdeal : Cert.GluBackIdeal.Facts) (hGluBackReferenceIdeal : Cert.GluBackReferenceIdeal.Facts) (hSwigluBack : Cert.SwigluBack.Facts) (hSwigluBackIdeal : Cert.SwigluBackIdeal.Facts) (hSwigluBackReferenceIdeal : Cert.SwigluBackReferenceIdeal.Facts) (hMerge : Cert.Merge.Facts) (hMergeIdeal : Cert.MergeIdeal.Facts) (hMergeReferenceIdeal : Cert.MergeReferenceIdeal.Facts) (hGlu : Cert.Glu.Facts) (hGluIdeal : Cert.GluIdeal.Facts) (hGluReferenceIdeal : Cert.GluReferenceIdeal.Facts) (hSwiglu : Cert.Swiglu.Facts) (hSwigluIdeal : Cert.SwigluIdeal.Facts) (hSwigluReferenceIdeal : Cert.SwigluReferenceIdeal.Facts) (hLossHead : Cert.LossHead.Facts) (hLossHeadIdeal : Cert.LossHeadIdeal.Facts) (hLossHeadReferenceIdeal : Cert.LossHeadReferenceIdeal.Facts) (hNorm : Cert.Norm.Facts) (hNormIdeal : Cert.NormIdeal.Facts) (hNormReferenceIdeal : Cert.NormReferenceIdeal.Facts) (hUpdateIn : Cert.UpdateIn.Facts) (hUpdateInIdeal : Cert.UpdateInIdeal.Facts) (hUpdateInReferenceIdeal : Cert.UpdateInReferenceIdeal.Facts) (hUpdateSbOut : Cert.UpdateSbOut.Facts) (hUpdateSbOutIdeal : Cert.UpdateSbOutIdeal.Facts) (hUpdateSbOutReferenceIdeal : Cert.UpdateSbOutReferenceIdeal.Facts) (hUpdateGlu : Cert.UpdateGlu.Facts) (hUpdateGluIdeal : Cert.UpdateGluIdeal.Facts) (hUpdateGluReferenceIdeal : Cert.UpdateGluReferenceIdeal.Facts) (hUpdateSsmOut : Cert.UpdateSsmOut.Facts) (hUpdateSsmOutIdeal : Cert.UpdateSsmOutIdeal.Facts) (hUpdateSsmOutReferenceIdeal : Cert.UpdateSsmOutReferenceIdeal.Facts) (hUpdateMemKv : Cert.UpdateMemKv.Facts) (hUpdateMemKvIdeal : Cert.UpdateMemKvIdeal.Facts) (hUpdateMemKvReferenceIdeal : Cert.UpdateMemKvReferenceIdeal.Facts) (hUpdateOut : Cert.UpdateOut.Facts) (hUpdateOutIdeal : Cert.UpdateOutIdeal.Facts) (hUpdateOutReferenceIdeal : Cert.UpdateOutReferenceIdeal.Facts) (hUpdateUp : Cert.UpdateUp.Facts) (hUpdateUpIdeal : Cert.UpdateUpIdeal.Facts) (hUpdateUpReferenceIdeal : Cert.UpdateUpReferenceIdeal.Facts) (hUpdateDown : Cert.UpdateDown.Facts) (hUpdateDownIdeal : Cert.UpdateDownIdeal.Facts) (hUpdateDownReferenceIdeal : Cert.UpdateDownReferenceIdeal.Facts) (hSbFwd : Cert.SbFwd.Facts) (hSbFwdIdeal : Cert.SbFwdIdeal.Facts) (hSbFwdReferenceIdeal : Cert.SbFwdReferenceIdeal.Facts) (hMemFwd : Cert.MemFwd.Facts) (hMemFwdIdeal : Cert.MemFwdIdeal.Facts) (hMemFwdReferenceIdeal : Cert.MemFwdReferenceIdeal.Facts) (hPre_finite : Cert.Pre_finite.Facts) (hPre_swiglu_finite : Cert.Pre_swiglu_finite.Facts) (hPre_forward_finite : Cert.Pre_forward_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_SbOutGrad (hSbOutGrad := hSbOutGrad)
    ∧ quiescent_SbOutGradIdeal (hSbOutGradIdeal := hSbOutGradIdeal)
    ∧ quiescent_SbOutGradReferenceIdeal (hSbOutGradReferenceIdeal := hSbOutGradReferenceIdeal)
    ∧ quiescent_Up (hUp := hUp)
    ∧ quiescent_UpIdeal (hUpIdeal := hUpIdeal)
    ∧ quiescent_UpReferenceIdeal (hUpReferenceIdeal := hUpReferenceIdeal)
    ∧ quiescent_ProjIn (hProjIn := hProjIn)
    ∧ quiescent_ProjInIdeal (hProjInIdeal := hProjInIdeal)
    ∧ quiescent_ProjInReferenceIdeal (hProjInReferenceIdeal := hProjInReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_SbOut (hSbOut := hSbOut)
    ∧ quiescent_SbOutIdeal (hSbOutIdeal := hSbOutIdeal)
    ∧ quiescent_SbOutReferenceIdeal (hSbOutReferenceIdeal := hSbOutReferenceIdeal)
    ∧ quiescent_DownBack (hDownBack := hDownBack)
    ∧ quiescent_DownBackIdeal (hDownBackIdeal := hDownBackIdeal)
    ∧ quiescent_DownBackReferenceIdeal (hDownBackReferenceIdeal := hDownBackReferenceIdeal)
    ∧ quiescent_OutBack (hOutBack := hOutBack)
    ∧ quiescent_OutBackIdeal (hOutBackIdeal := hOutBackIdeal)
    ∧ quiescent_OutBackReferenceIdeal (hOutBackReferenceIdeal := hOutBackReferenceIdeal)
    ∧ quiescent_SbOutBack (hSbOutBack := hSbOutBack)
    ∧ quiescent_SbOutBackIdeal (hSbOutBackIdeal := hSbOutBackIdeal)
    ∧ quiescent_SbOutBackReferenceIdeal (hSbOutBackReferenceIdeal := hSbOutBackReferenceIdeal)
    ∧ quiescent_UpBack (hUpBack := hUpBack)
    ∧ quiescent_UpBackIdeal (hUpBackIdeal := hUpBackIdeal)
    ∧ quiescent_UpBackReferenceIdeal (hUpBackReferenceIdeal := hUpBackReferenceIdeal)
    ∧ quiescent_InBack (hInBack := hInBack)
    ∧ quiescent_InBackIdeal (hInBackIdeal := hInBackIdeal)
    ∧ quiescent_InBackReferenceIdeal (hInBackReferenceIdeal := hInBackReferenceIdeal)
    ∧ quiescent_GluIn (hGluIn := hGluIn)
    ∧ quiescent_GluInIdeal (hGluInIdeal := hGluInIdeal)
    ∧ quiescent_GluInReferenceIdeal (hGluInReferenceIdeal := hGluInReferenceIdeal)
    ∧ quiescent_SsmOut (hSsmOut := hSsmOut)
    ∧ quiescent_SsmOutIdeal (hSsmOutIdeal := hSsmOutIdeal)
    ∧ quiescent_SsmOutReferenceIdeal (hSsmOutReferenceIdeal := hSsmOutReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_SsmOutBack (hSsmOutBack := hSsmOutBack)
    ∧ quiescent_SsmOutBackIdeal (hSsmOutBackIdeal := hSsmOutBackIdeal)
    ∧ quiescent_SsmOutBackReferenceIdeal (hSsmOutBackReferenceIdeal := hSsmOutBackReferenceIdeal)
    ∧ quiescent_MemOutBack (hMemOutBack := hMemOutBack)
    ∧ quiescent_MemOutBackIdeal (hMemOutBackIdeal := hMemOutBackIdeal)
    ∧ quiescent_MemOutBackReferenceIdeal (hMemOutBackReferenceIdeal := hMemOutBackReferenceIdeal)
    ∧ quiescent_GluInBack (hGluInBack := hGluInBack)
    ∧ quiescent_GluInBackIdeal (hGluInBackIdeal := hGluInBackIdeal)
    ∧ quiescent_GluInBackReferenceIdeal (hGluInBackReferenceIdeal := hGluInBackReferenceIdeal)
    ∧ quiescent_SsmOutGrad (hSsmOutGrad := hSsmOutGrad)
    ∧ quiescent_SsmOutGradIdeal (hSsmOutGradIdeal := hSsmOutGradIdeal)
    ∧ quiescent_SsmOutGradReferenceIdeal (hSsmOutGradReferenceIdeal := hSsmOutGradReferenceIdeal)
    ∧ quiescent_GluInGrad (hGluInGrad := hGluInGrad)
    ∧ quiescent_GluInGradIdeal (hGluInGradIdeal := hGluInGradIdeal)
    ∧ quiescent_GluInGradReferenceIdeal (hGluInGradReferenceIdeal := hGluInGradReferenceIdeal)
    ∧ quiescent_BGrad (hBGrad := hBGrad)
    ∧ quiescent_BGradIdeal (hBGradIdeal := hBGradIdeal)
    ∧ quiescent_BGradReferenceIdeal (hBGradReferenceIdeal := hBGradReferenceIdeal)
    ∧ quiescent_CGrad (hCGrad := hCGrad)
    ∧ quiescent_CGradIdeal (hCGradIdeal := hCGradIdeal)
    ∧ quiescent_CGradReferenceIdeal (hCGradReferenceIdeal := hCGradReferenceIdeal)
    ∧ quiescent_MemKvGrad (hMemKvGrad := hMemKvGrad)
    ∧ quiescent_MemKvGradIdeal (hMemKvGradIdeal := hMemKvGradIdeal)
    ∧ quiescent_MemKvGradReferenceIdeal (hMemKvGradReferenceIdeal := hMemKvGradReferenceIdeal)
    ∧ quiescent_MergeBack (hMergeBack := hMergeBack)
    ∧ quiescent_MergeBackIdeal (hMergeBackIdeal := hMergeBackIdeal)
    ∧ quiescent_MergeBackReferenceIdeal (hMergeBackReferenceIdeal := hMergeBackReferenceIdeal)
    ∧ quiescent_GluBack (hGluBack := hGluBack)
    ∧ quiescent_GluBackIdeal (hGluBackIdeal := hGluBackIdeal)
    ∧ quiescent_GluBackReferenceIdeal (hGluBackReferenceIdeal := hGluBackReferenceIdeal)
    ∧ quiescent_SwigluBack (hSwigluBack := hSwigluBack)
    ∧ quiescent_SwigluBackIdeal (hSwigluBackIdeal := hSwigluBackIdeal)
    ∧ quiescent_SwigluBackIdeal_pre_swiglu_finite (hSwigluBackIdeal := hSwigluBackIdeal) (hPre_swiglu_finite := hPre_swiglu_finite)
    ∧ quiescent_SwigluBackReferenceIdeal (hSwigluBackReferenceIdeal := hSwigluBackReferenceIdeal)
    ∧ quiescent_SwigluBackReferenceIdeal_pre_swiglu_finite (hSwigluBackReferenceIdeal := hSwigluBackReferenceIdeal) (hPre_swiglu_finite := hPre_swiglu_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_UpdateIn (hUpdateIn := hUpdateIn)
    ∧ quiescent_UpdateInIdeal (hUpdateInIdeal := hUpdateInIdeal)
    ∧ quiescent_UpdateInReferenceIdeal (hUpdateInReferenceIdeal := hUpdateInReferenceIdeal)
    ∧ quiescent_UpdateSbOut (hUpdateSbOut := hUpdateSbOut)
    ∧ quiescent_UpdateSbOutIdeal (hUpdateSbOutIdeal := hUpdateSbOutIdeal)
    ∧ quiescent_UpdateSbOutReferenceIdeal (hUpdateSbOutReferenceIdeal := hUpdateSbOutReferenceIdeal)
    ∧ quiescent_UpdateGlu (hUpdateGlu := hUpdateGlu)
    ∧ quiescent_UpdateGluIdeal (hUpdateGluIdeal := hUpdateGluIdeal)
    ∧ quiescent_UpdateGluReferenceIdeal (hUpdateGluReferenceIdeal := hUpdateGluReferenceIdeal)
    ∧ quiescent_UpdateSsmOut (hUpdateSsmOut := hUpdateSsmOut)
    ∧ quiescent_UpdateSsmOutIdeal (hUpdateSsmOutIdeal := hUpdateSsmOutIdeal)
    ∧ quiescent_UpdateSsmOutReferenceIdeal (hUpdateSsmOutReferenceIdeal := hUpdateSsmOutReferenceIdeal)
    ∧ quiescent_UpdateMemKv (hUpdateMemKv := hUpdateMemKv)
    ∧ quiescent_UpdateMemKvIdeal (hUpdateMemKvIdeal := hUpdateMemKvIdeal)
    ∧ quiescent_UpdateMemKvReferenceIdeal (hUpdateMemKvReferenceIdeal := hUpdateMemKvReferenceIdeal)
    ∧ quiescent_UpdateOut (hUpdateOut := hUpdateOut)
    ∧ quiescent_UpdateOutIdeal (hUpdateOutIdeal := hUpdateOutIdeal)
    ∧ quiescent_UpdateOutReferenceIdeal (hUpdateOutReferenceIdeal := hUpdateOutReferenceIdeal)
    ∧ quiescent_UpdateUp (hUpdateUp := hUpdateUp)
    ∧ quiescent_UpdateUpIdeal (hUpdateUpIdeal := hUpdateUpIdeal)
    ∧ quiescent_UpdateUpReferenceIdeal (hUpdateUpReferenceIdeal := hUpdateUpReferenceIdeal)
    ∧ quiescent_UpdateDown (hUpdateDown := hUpdateDown)
    ∧ quiescent_UpdateDownIdeal (hUpdateDownIdeal := hUpdateDownIdeal)
    ∧ quiescent_UpdateDownReferenceIdeal (hUpdateDownReferenceIdeal := hUpdateDownReferenceIdeal)
    ∧ quiescent_SbFwd (hSbFwd := hSbFwd)
    ∧ quiescent_SbFwdIdeal (hSbFwdIdeal := hSbFwdIdeal)
    ∧ quiescent_SbFwdIdeal_pre_forward_finite (hSbFwdIdeal := hSbFwdIdeal) (hPre_forward_finite := hPre_forward_finite)
    ∧ quiescent_SbFwdReferenceIdeal (hSbFwdReferenceIdeal := hSbFwdReferenceIdeal)
    ∧ quiescent_SbFwdReferenceIdeal_pre_forward_finite (hSbFwdReferenceIdeal := hSbFwdReferenceIdeal) (hPre_forward_finite := hPre_forward_finite)
    ∧ quiescent_MemFwd (hMemFwd := hMemFwd)
    ∧ quiescent_MemFwdIdeal (hMemFwdIdeal := hMemFwdIdeal)
    ∧ quiescent_MemFwdReferenceIdeal (hMemFwdReferenceIdeal := hMemFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpGrad_UpGradIdeal
    ∧ algebraic_UpGradIdeal_UpGradReferenceIdeal (hUpGradIdeal := hUpGradIdeal) (hUpGradReferenceIdeal := hUpGradReferenceIdeal)
    ∧ preserves_InGrad_InGradIdeal
    ∧ algebraic_InGradIdeal_InGradReferenceIdeal (hInGradIdeal := hInGradIdeal) (hInGradReferenceIdeal := hInGradReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_SbOutGrad_SbOutGradIdeal
    ∧ algebraic_SbOutGradIdeal_SbOutGradReferenceIdeal (hSbOutGradIdeal := hSbOutGradIdeal) (hSbOutGradReferenceIdeal := hSbOutGradReferenceIdeal)
    ∧ preserves_Up_UpIdeal
    ∧ algebraic_UpIdeal_UpReferenceIdeal (hUpIdeal := hUpIdeal) (hUpReferenceIdeal := hUpReferenceIdeal)
    ∧ preserves_ProjIn_ProjInIdeal
    ∧ algebraic_ProjInIdeal_ProjInReferenceIdeal (hProjInIdeal := hProjInIdeal) (hProjInReferenceIdeal := hProjInReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_SbOut_SbOutIdeal
    ∧ algebraic_SbOutIdeal_SbOutReferenceIdeal (hSbOutIdeal := hSbOutIdeal) (hSbOutReferenceIdeal := hSbOutReferenceIdeal)
    ∧ preserves_DownBack_DownBackIdeal
    ∧ algebraic_DownBackIdeal_DownBackReferenceIdeal (hDownBackIdeal := hDownBackIdeal) (hDownBackReferenceIdeal := hDownBackReferenceIdeal)
    ∧ preserves_OutBack_OutBackIdeal
    ∧ algebraic_OutBackIdeal_OutBackReferenceIdeal (hOutBackIdeal := hOutBackIdeal) (hOutBackReferenceIdeal := hOutBackReferenceIdeal)
    ∧ preserves_SbOutBack_SbOutBackIdeal
    ∧ algebraic_SbOutBackIdeal_SbOutBackReferenceIdeal (hSbOutBackIdeal := hSbOutBackIdeal) (hSbOutBackReferenceIdeal := hSbOutBackReferenceIdeal)
    ∧ preserves_UpBack_UpBackIdeal
    ∧ algebraic_UpBackIdeal_UpBackReferenceIdeal (hUpBackIdeal := hUpBackIdeal) (hUpBackReferenceIdeal := hUpBackReferenceIdeal)
    ∧ preserves_InBack_InBackIdeal
    ∧ algebraic_InBackIdeal_InBackReferenceIdeal (hInBackIdeal := hInBackIdeal) (hInBackReferenceIdeal := hInBackReferenceIdeal)
    ∧ preserves_GluIn_GluInIdeal
    ∧ algebraic_GluInIdeal_GluInReferenceIdeal (hGluInIdeal := hGluInIdeal) (hGluInReferenceIdeal := hGluInReferenceIdeal)
    ∧ preserves_SsmOut_SsmOutIdeal
    ∧ algebraic_SsmOutIdeal_SsmOutReferenceIdeal (hSsmOutIdeal := hSsmOutIdeal) (hSsmOutReferenceIdeal := hSsmOutReferenceIdeal)
    ∧ preserves_MemKv_MemKvIdeal
    ∧ algebraic_MemKvIdeal_MemKvReferenceIdeal (hMemKvIdeal := hMemKvIdeal) (hMemKvReferenceIdeal := hMemKvReferenceIdeal)
    ∧ preserves_SsmOutBack_SsmOutBackIdeal
    ∧ algebraic_SsmOutBackIdeal_SsmOutBackReferenceIdeal (hSsmOutBackIdeal := hSsmOutBackIdeal) (hSsmOutBackReferenceIdeal := hSsmOutBackReferenceIdeal)
    ∧ preserves_MemOutBack_MemOutBackIdeal
    ∧ algebraic_MemOutBackIdeal_MemOutBackReferenceIdeal (hMemOutBackIdeal := hMemOutBackIdeal) (hMemOutBackReferenceIdeal := hMemOutBackReferenceIdeal)
    ∧ preserves_GluInBack_GluInBackIdeal
    ∧ algebraic_GluInBackIdeal_GluInBackReferenceIdeal (hGluInBackIdeal := hGluInBackIdeal) (hGluInBackReferenceIdeal := hGluInBackReferenceIdeal)
    ∧ preserves_SsmOutGrad_SsmOutGradIdeal
    ∧ algebraic_SsmOutGradIdeal_SsmOutGradReferenceIdeal (hSsmOutGradIdeal := hSsmOutGradIdeal) (hSsmOutGradReferenceIdeal := hSsmOutGradReferenceIdeal)
    ∧ preserves_GluInGrad_GluInGradIdeal
    ∧ algebraic_GluInGradIdeal_GluInGradReferenceIdeal (hGluInGradIdeal := hGluInGradIdeal) (hGluInGradReferenceIdeal := hGluInGradReferenceIdeal)
    ∧ preserves_BGrad_BGradIdeal
    ∧ algebraic_BGradIdeal_BGradReferenceIdeal (hBGradIdeal := hBGradIdeal) (hBGradReferenceIdeal := hBGradReferenceIdeal)
    ∧ preserves_CGrad_CGradIdeal
    ∧ algebraic_CGradIdeal_CGradReferenceIdeal (hCGradIdeal := hCGradIdeal) (hCGradReferenceIdeal := hCGradReferenceIdeal)
    ∧ preserves_MemKvGrad_MemKvGradIdeal
    ∧ algebraic_MemKvGradIdeal_MemKvGradReferenceIdeal (hMemKvGradIdeal := hMemKvGradIdeal) (hMemKvGradReferenceIdeal := hMemKvGradReferenceIdeal)
    ∧ preserves_MergeBack_MergeBackIdeal
    ∧ algebraic_MergeBackIdeal_MergeBackReferenceIdeal (hMergeBackIdeal := hMergeBackIdeal) (hMergeBackReferenceIdeal := hMergeBackReferenceIdeal)
    ∧ preserves_GluBack_GluBackIdeal
    ∧ algebraic_GluBackIdeal_GluBackReferenceIdeal (hGluBackIdeal := hGluBackIdeal) (hGluBackReferenceIdeal := hGluBackReferenceIdeal)
    ∧ preserves_SwigluBack_SwigluBackIdeal
    ∧ algebraic_SwigluBackIdeal_SwigluBackReferenceIdeal_pre_swiglu_finite (hSwigluBackIdeal := hSwigluBackIdeal) (hSwigluBackReferenceIdeal := hSwigluBackReferenceIdeal) (hPre_swiglu_finite := hPre_swiglu_finite)
    ∧ preserves_Merge_MergeIdeal
    ∧ algebraic_MergeIdeal_MergeReferenceIdeal (hMergeIdeal := hMergeIdeal) (hMergeReferenceIdeal := hMergeReferenceIdeal)
    ∧ preserves_Glu_GluIdeal
    ∧ algebraic_GluIdeal_GluReferenceIdeal (hGluIdeal := hGluIdeal) (hGluReferenceIdeal := hGluReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_Norm_NormIdeal
    ∧ algebraic_NormIdeal_NormReferenceIdeal (hNormIdeal := hNormIdeal) (hNormReferenceIdeal := hNormReferenceIdeal)
    ∧ preserves_UpdateIn_UpdateInIdeal
    ∧ algebraic_UpdateInIdeal_UpdateInReferenceIdeal (hUpdateInIdeal := hUpdateInIdeal) (hUpdateInReferenceIdeal := hUpdateInReferenceIdeal)
    ∧ preserves_UpdateSbOut_UpdateSbOutIdeal
    ∧ algebraic_UpdateSbOutIdeal_UpdateSbOutReferenceIdeal (hUpdateSbOutIdeal := hUpdateSbOutIdeal) (hUpdateSbOutReferenceIdeal := hUpdateSbOutReferenceIdeal)
    ∧ preserves_UpdateGlu_UpdateGluIdeal
    ∧ algebraic_UpdateGluIdeal_UpdateGluReferenceIdeal (hUpdateGluIdeal := hUpdateGluIdeal) (hUpdateGluReferenceIdeal := hUpdateGluReferenceIdeal)
    ∧ preserves_UpdateSsmOut_UpdateSsmOutIdeal
    ∧ algebraic_UpdateSsmOutIdeal_UpdateSsmOutReferenceIdeal (hUpdateSsmOutIdeal := hUpdateSsmOutIdeal) (hUpdateSsmOutReferenceIdeal := hUpdateSsmOutReferenceIdeal)
    ∧ preserves_UpdateMemKv_UpdateMemKvIdeal
    ∧ algebraic_UpdateMemKvIdeal_UpdateMemKvReferenceIdeal (hUpdateMemKvIdeal := hUpdateMemKvIdeal) (hUpdateMemKvReferenceIdeal := hUpdateMemKvReferenceIdeal)
    ∧ preserves_UpdateOut_UpdateOutIdeal
    ∧ algebraic_UpdateOutIdeal_UpdateOutReferenceIdeal (hUpdateOutIdeal := hUpdateOutIdeal) (hUpdateOutReferenceIdeal := hUpdateOutReferenceIdeal)
    ∧ preserves_UpdateUp_UpdateUpIdeal
    ∧ algebraic_UpdateUpIdeal_UpdateUpReferenceIdeal (hUpdateUpIdeal := hUpdateUpIdeal) (hUpdateUpReferenceIdeal := hUpdateUpReferenceIdeal)
    ∧ preserves_UpdateDown_UpdateDownIdeal
    ∧ algebraic_UpdateDownIdeal_UpdateDownReferenceIdeal (hUpdateDownIdeal := hUpdateDownIdeal) (hUpdateDownReferenceIdeal := hUpdateDownReferenceIdeal)
    ∧ preserves_SbFwd_SbFwdIdeal
    ∧ algebraic_SbFwdIdeal_SbFwdReferenceIdeal_pre_forward_finite (hSbFwdIdeal := hSbFwdIdeal) (hSbFwdReferenceIdeal := hSbFwdReferenceIdeal) (hPre_forward_finite := hPre_forward_finite)
    ∧ preserves_MemFwd_MemFwdIdeal
    ∧ algebraic_MemFwdIdeal_MemFwdReferenceIdeal (hMemFwdIdeal := hMemFwdIdeal) (hMemFwdReferenceIdeal := hMemFwdReferenceIdeal)
-- ==== Pre_finite.lean ====
abbrev S4096x10240 : Shape := ⟨2, ![4096, 10240]⟩
abbrev S4096x1024 : Shape := ⟨2, ![4096, 1024]⟩
abbrev S4096x3072 : Shape := ⟨2, ![4096, 3072]⟩
abbrev S_ : Shape := ⟨0, ![]⟩

class Facts : Prop where
  slices_S4096x10240_S4096x3072_0_0 : S4096x10240.Slices ![0, 0] S4096x3072
  bcast_S_S4096x3072 : S_.BroadcastsInDim S4096x3072 (![] : Fin 0 → Fin S4096x3072.rank)
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x10240 .f32) (main_arg1 : FVec F S4096x1024 .bf16) : IVec S4096x3072 1 × IVec S4096x1024 1 :=
  let main_v0 : FVec F S4096x3072 .f32 := (extractStridedSlice S4096x3072 ![0, 0] · slices_S4096x10240_S4096x3072_0_0) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  (main_v3, main_v7)
-- ==== Pre_forward_finite.lean ====
abbrev S4096x10240 : Shape := ⟨2, ![4096, 10240]⟩
abbrev S4096x2048 : Shape := ⟨2, ![4096, 2048]⟩
abbrev S_ : Shape := ⟨0, ![]⟩

class Facts : Prop where
  slices_S4096x10240_S4096x2048_0_0 : S4096x10240.Slices ![0, 0] S4096x2048
  bcast_S_S4096x2048 : S_.BroadcastsInDim S4096x2048 (![] : Fin 0 → Fin S4096x2048.rank)

variable [Facts]

def fn {F : FTy → Type} [FloatOps F] (main_arg0 : FVec F S4096x10240 .f32) : IVec S4096x2048 1 :=
  let main_v0 : FVec F S4096x2048 .f32 := (extractStridedSlice S4096x2048 ![0, 0] · slices_S4096x10240_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  main_v3
-- ==== Pre_swiglu_finite.lean ====
abbrev S4096x5632 : Shape := ⟨2, ![4096, 5632]⟩
abbrev S4096x11264 : Shape := ⟨2, ![4096, 11264]⟩
abbrev S_ : Shape := ⟨0, ![]⟩

class Facts : Prop where
  bcast_S_S4096x5632 : S_.BroadcastsInDim S4096x5632 (![] : Fin 0 → Fin S4096x5632.rank)
  bcast_S_S4096x11264 : S_.BroadcastsInDim S4096x11264 (![] : Fin 0 → Fin S4096x11264.rank)

variable [Facts]

def fn {F : FTy → Type} [FloatOps F] (main_arg0 : FVec F S4096x5632 .f32) (main_arg1 : FVec F S4096x11264 .f32) : IVec S4096x5632 1 × IVec S4096x11264 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S4096x11264 .f32 := Host.absf main_arg1
  let main_cst_0 : FVec F S_ .f32 := constant S_ .f32 0x7F800000#32
  let main_v4 : FVec F S4096x11264 .f32 := broadcastInDim S4096x11264 ![] bcast_S_S4096x11264 main_cst_0
  let main_v5 : IVec S4096x11264 1 := cmpf .olt main_v3 main_v4
  (main_v2, main_v5)
-- ==== Kernel.lean ====
abbrev S4096x10240 : Shape := ⟨2, ![4096, 10240]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S512x128 : Shape := ⟨2, ![512, 128]⟩
abbrev S4096x128 : Shape := ⟨2, ![4096, 128]⟩
abbrev S1x512x1 : Shape := ⟨3, ![1, 512, 1]⟩
abbrev S512x1 : Shape := ⟨2, ![512, 1]⟩
abbrev S256x128 : Shape := ⟨2, ![256, 128]⟩
abbrev S512x512 : Shape := ⟨2, ![512, 512]⟩
abbrev S512x256 : Shape := ⟨2, ![512, 256]⟩
abbrev S512 : Shape := ⟨1, ![512]⟩

abbrev nBuf : Space → Nat
  | .hbm => 45
  | .vmem => 16
  | .smem => 0
  | _ => 0

abbrev bufTy : (tb : Table) → Fin (tcTables nBuf tb) → BufTy
  | .hbm, ⟨0, _⟩ => ⟨S4096x10240, .f32⟩
  | .hbm, ⟨1, _⟩ => ⟨S4096x1024, .bf16⟩
  | .hbm, ⟨2, _⟩ => ⟨S4096x1024, .f32⟩
  | .hbm, ⟨3, _⟩ => ⟨S4096x8x128, .f32⟩
  | .hbm, ⟨4, _⟩ => ⟨S4096x1024, .f32⟩
  | .hbm, ⟨5, _⟩ => ⟨S4096x8x128, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S_, .f32⟩
  | .hbm, ⟨36, _⟩ => ⟨S8x4096x4096, .i1⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S512x128, .f32⟩
  | .local _ .vmem, ⟨11, _⟩ => ⟨S512x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_v19_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_17 : BitVec 32 := 0#32
  let arg1 : BitVec 32 := BitVec.ofNat 32 (i 1).val
  let c512_i32 : BitVec 32 := 512#32
  let v30 : BitVec 32 := Scalar.muli arg1 c512_i32
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c512_i32_10 : BitVec 32 := 512#32
  let c0_i32_13 : BitVec 32 := 0#32
  let v37 : BitVec 1 := Scalar.cmpi .sgt c512_i32_10 c0_i32_13
  let v38 : BitVec 32 := Scalar.extui v37
  let c0_i32_14 : BitVec 32 := 0#32
  let v39 : BitVec 1 := Scalar.cmpi .slt c512_i32_10 c0_i32_14
  let v40 : BitVec 32 := Scalar.extui v39
  let v41 : BitVec 32 := Scalar.subi v38 v40
  let v42 : BitVec 1 := Scalar.cmpi .ne v36 v41
  let v43 : BitVec 32 := Scalar.remsi v30 c512_i32_10
  let c0_i32_15 : BitVec 32 := 0#32
  let v44 : BitVec 1 := Scalar.cmpi .ne v43 c0_i32_15
  let v45 : BitVec 1 := Scalar.andi v42 v44
  let v31 : BitVec 32 := Scalar.divsi v30 c512_i32_10
  let c1_i32 : BitVec 32 := 1#32
  let v46 : BitVec 32 := Scalar.subi v31 c1_i32
  let v47 : BitVec 32 := Scalar.select v45 v46 v31
  let v50 : BitVec 32 := Scalar.subi v47 c0_i32_17
  let c1_i32_18 : BitVec 32 := 1#32
  let v52 : BitVec 32 := Scalar.divsi v50 c1_i32_18
  let v53 : BitVec 32 := Scalar.muli v52 c1_i32_18
  let v54 : BitVec 32 := Scalar.addi c0_i32_17 v53
  let c1_i32_19 : BitVec 32 := 1#32
  ⟨c0_i32_17, v54, c1_i32_19⟩
def k0_mult1 (i : grid0.Coords) (k0_t1 : Fin (k0_t1_loop i).trips) : BitVec 32 :=
  let c0_i32_17 : BitVec 32 := 0#32
  let c1_i32_19 : BitVec 32 := 1#32
  let arg10 : BitVec 32 := Scf.iv c0_i32_17 c1_i32_19 k0_t1
  let c512_i32_63 : BitVec 32 := 512#32
  let v221 : BitVec 32 := Scalar.muli arg10 c512_i32_63
  v221
def k0_off1 (i : grid0.Coords) (k0_t1 : Fin (k0_t1_loop i).trips) : Fin 2 → Nat :=
  let c0_i32_17 : BitVec 32 := 0#32
  let c1_i32_19 : BitVec 32 := 1#32
  let arg10 : BitVec 32 := Scf.iv c0_i32_17 c1_i32_19 k0_t1
  let c512_i32_63 : BitVec 32 := 512#32
  let v221 : BitVec 32 := Scalar.muli arg10 c512_i32_63
  let v222 : BitVec 32 := v221
  let v223 : Index := Scalar.indexCast v222
  let c0_64 : Index := 0#32
  ![v223.toNat, 0]
@[reducible] def k0_t2_loop (i : grid0.Coords) : Scf.Loop 32 :=
  let c0_i32_17 : BitVec 32 := 0#32
  let arg1 : BitVec 32 := BitVec.ofNat 32 (i 1).val
  let c512_i32 : BitVec 32 := 512#32
  let v30 : BitVec 32 := Scalar.muli arg1 c512_i32
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c512_i32_10 : BitVec 32 := 512#32
  let c0_i32_13 : BitVec 32 := 0#32
  let v37 : BitVec 1 := Scalar.cmpi .sgt c512_i32_10 c0_i32_13
  let v38 : BitVec 32 := Scalar.extui v37
  let c0_i32_14 : BitVec 32 := 0#32
  let v39 : BitVec 1 := Scalar.cmpi .slt c512_i32_10 c0_i32_14
  let v40 : BitVec 32 := Scalar.extui v39
  let v41 : BitVec 32 := Scalar.subi v38 v40
  let v42 : BitVec 1 := Scalar.cmpi .ne v36 v41
  let v43 : BitVec 32 := Scalar.remsi v30 c512_i32_10
  let c0_i32_15 : BitVec 32 := 0#32
  let v44 : BitVec 1 := Scalar.cmpi .ne v43 c0_i32_15
  let v45 : BitVec 1 := Scalar.andi v42 v44
  let v31 : BitVec 32 := Scalar.divsi v30 c512_i32_10
  let c1_i32 : BitVec 32 := 1#32
  let v46 : BitVec 32 := Scalar.subi v31 c1_i32
  let v47 : BitVec 32 := Scalar.select v45 v46 v31
  let v50 : BitVec 32 := Scalar.subi v47 c0_i32_17
  let c1_i32_18 : BitVec 32 := 1#32
  let v52 : BitVec 32 := Scalar.divsi v50 c1_i32_18
  let v53 : BitVec 32 := Scalar.muli v52 c1_i32_18
  let v54 : BitVec 32 := Scalar.addi c0_i32_17 v53
  let v51 : BitVec 32 := Scalar.addi c0_i32_17 v50
  let c1_i32_20 : BitVec 32 := 1#32
  ⟨v54, v51, c1_i32_20⟩
def k0_mult2 (i : grid0.Coords) (k0_t2 : Fin (k0_t2_loop i).trips) : BitVec 32 :=
  let c0_i32_17 : BitVec 32 := 0#32
  let arg1 : BitVec 32 := BitVec.ofNat 32 (i 1).val
  let c512_i32 : BitVec 32 := 512#32
  let v30 : BitVec 32 := Scalar.muli arg1 c512_i32
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c512_i32_10 : BitVec 32 := 512#32
  let c0_i32_13 : BitVec 32 := 0#32
  let v37 : BitVec 1 := Scalar.cmpi .sgt c512_i32_10 c0_i32_13
  let v38 : BitVec 32 := Scalar.extui v37
  let c0_i32_14 : BitVec 32 := 0#32
  let v39 : BitVec 1 := Scalar.cmpi .slt c512_i32_10 c0_i32_14
  let v40 : BitVec 32 := Scalar.extui v39
  let v41 : BitVec 32 := Scalar.subi v38 v40
  let v42 : BitVec 1 := Scalar.cmpi .ne v36 v41
  let v43 : BitVec 32 := Scalar.remsi v30 c512_i32_10
  let c0_i32_15 : BitVec 32 := 0#32
  let v44 : BitVec 1 := Scalar.cmpi .ne v43 c0_i32_15
  let v45 : BitVec 1 := Scalar.andi v42 v44
  let v31 : BitVec 32 := Scalar.divsi v30 c512_i32_10
  let c1_i32 : BitVec 32 := 1#32
  let v46 : BitVec 32 := Scalar.subi v31 c1_i32
  let v47 : BitVec 32 := Scalar.select v45 v46 v31
  let v50 : BitVec 32 := Scalar.subi v47 c0_i32_17
  let c1_i32_18 : BitVec 32 := 1#32
  let v52 : BitVec 32 := Scalar.divsi v50 c1_i32_18
  let v53 : BitVec 32 := Scalar.muli v52 c1_i32_18
  let v54 : BitVec 32 := Scalar.addi c0_i32_17 v53
  let c1_i32_20 : BitVec 32 := 1#32
  let arg10 : BitVec 32 := Scf.iv v54 c1_i32_20 k0_t2
  let c512_i32_63 : BitVec 32 := 512#32
  let v221 : BitVec 32 := Scalar.muli arg10 c512_i32_63
  v221
def k0_off2 (i : grid0.Coords) (k0_t2 : Fin (k0_t2_loop i).trips) : Fin 2 → Nat :=
  let c0_i32_17 : BitVec 32 := 0#32
  let arg1 : BitVec 32 := BitVec.ofNat 32 (i 1).val
  let c512_i32 : BitVec 32 := 512#32
  let v30 : BitVec 32 := Scalar.muli arg1 c512_i32
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c512_i32_10 : BitVec 32 := 512#32
  let c0_i32_13 : BitVec 32 := 0#32
  let v37 : BitVec 1 := Scalar.cmpi .sgt c512_i32_10 c0_i32_13
  let v38 : BitVec 32 := Scalar.extui v37
  let c0_i32_14 : BitVec 32 := 0#32
  let v39 : BitVec 1 := Scalar.cmpi .slt c512_i32_10 c0_i32_14
  let v40 : BitVec 32 := Scalar.extui v39
  let v41 : BitVec 32 := Scalar.subi v38 v40
  let v42 : BitVec 1 := Scalar.cmpi .ne v36 v41
  let v43 : BitVec 32 := Scalar.remsi v30 c512_i32_10
  let c0_i32_15 : BitVec 32 := 0#32
  let v44 : BitVec 1 := Scalar.cmpi .ne v43 c0_i32_15
  let v45 : BitVec 1 := Scalar.andi v42 v44
  let v31 : BitVec 32 := Scalar.divsi v30 c512_i32_10
  let c1_i32 : BitVec 32 := 1#32
  let v46 : BitVec 32 := Scalar.subi v31 c1_i32
  let v47 : BitVec 32 := Scalar.select v45 v46 v31
  let v50 : BitVec 32 := Scalar.subi v47 c0_i32_17
  let c1_i32_18 : BitVec 32 := 1#32
  let v52 : BitVec 32 := Scalar.divsi v50 c1_i32_18
  let v53 : BitVec 32 := Scalar.muli v52 c1_i32_18
  let v54 : BitVec 32 := Scalar.addi c0_i32_17 v53
  let c1_i32_20 : BitVec 32 := 1#32
  let arg10 : BitVec 32 := Scf.iv v54 c1_i32_20 k0_t2
  let c512_i32_63 : BitVec 32 := 512#32
  let v221 : BitVec 32 := Scalar.muli arg10 c512_i32_63
  let v222 : BitVec 32 := v221
  let v223 : Index := Scalar.indexCast v222
  let c0_64 : Index := 0#32
  ![v223.toNat, 0]
def k0_mult3 (i : grid0.Coords) : BitVec 32 :=
  let arg1 : BitVec 32 := BitVec.ofNat 32 (i 1).val
  let c512_i32 : BitVec 32 := 512#32
  let v30 : BitVec 32 := Scalar.muli arg1 c512_i32
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c512_i32_10 : BitVec 32 := 512#32
  let c0_i32_13 : BitVec 32 := 0#32
  let v37 : BitVec 1 := Scalar.cmpi .sgt c512_i32_10 c0_i32_13
  let v38 : BitVec 32 := Scalar.extui v37
  let c0_i32_14 : BitVec 32 := 0#32
  let v39 : BitVec 1 := Scalar.cmpi .slt c512_i32_10 c0_i32_14
  let v40 : BitVec 32 := Scalar.extui v39
  let v41 : BitVec 32 := Scalar.subi v38 v40
  let v42 : BitVec 1 := Scalar.cmpi .ne v36 v41
  let v43 : BitVec 32 := Scalar.remsi v30 c512_i32_10
  let c0_i32_15 : BitVec 32 := 0#32
  let v44 : BitVec 1 := Scalar.cmpi .ne v43 c0_i32_15
  let v45 : BitVec 1 := Scalar.andi v42 v44
  let v31 : BitVec 32 := Scalar.divsi v30 c512_i32_10
  let c1_i32 : BitVec 32 := 1#32
  let v46 : BitVec 32 := Scalar.subi v31 c1_i32
  let v47 : BitVec 32 := Scalar.select v45 v46 v31
  let c0_i32_21 : BitVec 32 := 0#32
  let v57 : BitVec 32 := Scalar.addi v47 c0_i32_21
  let c512_i32_22 : BitVec 32 := 512#32
  let v58 : BitVec 32 := Scalar.muli v57 c512_i32_22
  v58
def k0_off3 (i : grid0.Coords) : Fin 2 → Nat :=
  let arg1 : BitVec 32 := BitVec.ofNat 32 (i 1).val
  let c512_i32 : BitVec 32 := 512#32
  let v30 : BitVec 32 := Scalar.muli arg1 c512_i32
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c512_i32_10 : BitVec 32 := 512#32
  let c0_i32_13 : BitVec 32 := 0#32
  let v37 : BitVec 1 := Scalar.cmpi .sgt c512_i32_10 c0_i32_13
  let v38 : BitVec 32 := Scalar.extui v37
  let c0_i32_14 : BitVec 32 := 0#32
  let v39 : BitVec 1 := Scalar.cmpi .slt c512_i32_10 c0_i32_14
  let v40 : BitVec 32 := Scalar.extui v39
  let v41 : BitVec 32 := Scalar.subi v38 v40
  let v42 : BitVec 1 := Scalar.cmpi .ne v36 v41
  let v43 : BitVec 32 := Scalar.remsi v30 c512_i32_10
  let c0_i32_15 : BitVec 32 := 0#32
  let v44 : BitVec 1 := Scalar.cmpi .ne v43 c0_i32_15
  let v45 : BitVec 1 := Scalar.andi v42 v44
  let v31 : BitVec 32 := Scalar.divsi v30 c512_i32_10
  let c1_i32 : BitVec 32 := 1#32
  let v46 : BitVec 32 := Scalar.subi v31 c1_i32
  let v47 : BitVec 32 := Scalar.select v45 v46 v31
  let c0_i32_21 : BitVec 32 := 0#32
  let v57 : BitVec 32 := Scalar.addi v47 c0_i32_21
  let c512_i32_22 : BitVec 32 := 512#32
  let v58 : BitVec 32 := Scalar.muli v57 c512_i32_22
  let v59 : BitVec 32 := v58
  let v60 : Index := Scalar.indexCast v59
  let c0_23 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x10240 : Shape := ⟨2, ![4096, 10240]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 175
  | .vmem => 0
  | .smem => 0
  | _ => 0

abbrev hbmTy0_0 (i : Nat) : BufTy := match i % 128 with
  | 0 => ⟨S4096x10240, .f32⟩
  | 1 => ⟨S4096x1024, .bf16⟩
  | 2 => ⟨S4096x1024, .f32⟩
  | 3 => ⟨S4096x1024, .f32⟩
  | 4 => ⟨S4096x1024, .f32⟩
  | 5 => ⟨S4096x8x128, .f32⟩
  | 6 => ⟨S4096x8x128, .f32⟩
  | 7 => ⟨S4096x8x128, .f32⟩
  | 8 => ⟨S8x4096x4096, .f32⟩
  | 9 => ⟨S_, .f32⟩
  | 10 => ⟨S8x4096x4096, .f32⟩
  | 11 => ⟨S8x4096x4096, .f32⟩
  | 12 => ⟨S4096, .i32⟩
  | 13 => ⟨S1x4096, .i32⟩
  | 14 => ⟨S4096, .i32⟩
  | 15 => ⟨S4096x1, .i32⟩
  | 16 => ⟨S4096x4096, .i32⟩
  | 17 => ⟨S4096x4096, .i32⟩
  | 18 => ⟨S4096x4096, .i1⟩
  | 19 => ⟨S8x4096x4096, .f32⟩
  | 20 => ⟨S8x4096x4096, .f32⟩
  | 21 => ⟨S_, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .i1⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S_, .f32⟩
  | 36 => ⟨S8x4096x4096, .f32⟩
  | 37 => ⟨S8x4096x4096, .i1⟩
  | 38 => ⟨S_, .f32⟩
  | 39 => ⟨S8x4096x4096, .f32⟩
  | 40 => ⟨S8x4096x4096, .f32⟩
  | 41 => ⟨S_, .f32⟩
  | 42 => ⟨S8x4096x4096, .f32⟩
  | 43 => ⟨S8x4096x4096, .i1⟩
  | 44 => ⟨S_, .f32⟩
  | 45 => ⟨S8x4096x4096, .f32⟩
  | 46 => ⟨S8x4096x4096, .f32⟩
  | 47 => ⟨S8x4096x4096, .f32⟩
  | 48 => ⟨S8x4096x4096, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S8x4096x4096, .f32⟩
  | 57 => ⟨S8x4096x4096, .i1⟩
  | 58 => ⟨S_, .f32⟩
  | 59 => ⟨S8x4096x4096, .f32⟩
  | 60 => ⟨S8x4096x4096, .f32⟩
  | 61 => ⟨S8x4096x4096, .f32⟩
  | 62 => ⟨S8x4096x4096, .f32⟩
  | 63 => ⟨S8x4096x4096, .f32⟩
  | 64 => ⟨S_, .f32⟩
  | 65 => ⟨S8x4096x4096, .f32⟩
  | 66 => ⟨S8x4096x4096, .f32⟩
  | 67 => ⟨S8x4096x4096, .f32⟩
  | 68 => ⟨S_, .f32⟩
  | 69 => ⟨S_, .f32⟩
  | 70 => ⟨S8x4096x4096, .i1⟩
  | 71 => ⟨S8x4096x4096, .f32⟩
  | 72 => ⟨S8x4096x4096, .f32⟩
  | 73 => ⟨S_, .f32⟩
  | 74 => ⟨S8x4096x4096, .f32⟩
  | 75 => ⟨S_, .f32⟩
  | 76 => ⟨S_, .f32⟩
  | 77 => ⟨S8x4096x4096, .f32⟩
  | 78 => ⟨S8x4096x4096, .f32⟩
  | 79 => ⟨S8x4096x4096, .f32⟩
  | 80 => ⟨S_, .f32⟩
  | 81 => ⟨S8x4096x4096, .f32⟩
  | 82 => ⟨S8x4096x4096, .f32⟩
  | 83 => ⟨S8x4096x4096, .f32⟩
  | 84 => ⟨S8x4096x4096, .f32⟩
  | 85 => ⟨S8x4096x4096, .i1⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S_, .f32⟩
  | 95 => ⟨S8x4096x4096, .f32⟩
  | 96 => ⟨S8x4096x4096, .i1⟩
  | 97 => ⟨S_, .f32⟩
  | 98 => ⟨S8x4096x4096, .f32⟩
  | 99 => ⟨S8x4096x4096, .f32⟩
  | 100 => ⟨S_, .f32⟩
  | 101 => ⟨S8x4096x4096, .f32⟩
  | 102 => ⟨S8x4096x4096, .i1⟩
  | 103 => ⟨S_, .f32⟩
  | 104 => ⟨S8x4096x4096, .f32⟩
  | 105 => ⟨S8x4096x4096, .f32⟩
  | 106 => ⟨S8x4096x4096, .f32⟩
  | 107 => ⟨S8x4096x4096, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S8x4096x4096, .f32⟩
  | 116 => ⟨S8x4096x4096, .i1⟩
  | 117 => ⟨S_, .f32⟩
  | 118 => ⟨S8x4096x4096, .f32⟩
  | 119 => ⟨S8x4096x4096, .f32⟩
  | 120 => ⟨S8x4096x4096, .f32⟩
  | 121 => ⟨S8x4096x4096, .f32⟩
  | 122 => ⟨S8x4096x4096, .f32⟩
  | 123 => ⟨S_, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x10240, .f32⟩

abbrev hbmTy0_1 (i : Nat) : BufTy := match i % 128 with
  | 0 => ⟨S_, .f32⟩
  | 1 => ⟨S_, .f32⟩
  | 2 => ⟨S8x4096x4096, .i1⟩
  | 3 => ⟨S8x4096x4096, .f32⟩
  | 4 => ⟨S8x4096x4096, .f32⟩
  | 5 => ⟨S_, .f32⟩
  | 6 => ⟨S8x4096x4096, .f32⟩
  | 7 => ⟨S8x4096x4096, .f32⟩
  | 8 => ⟨S8x128x4096, .f32⟩
  | 9 => ⟨S4096x8x128, .f32⟩
  | 10 => ⟨S4096x1024, .f32⟩
  | 11 => ⟨S4096x1024, .f32⟩
  | 12 => ⟨S4096x8x128, .f32⟩
  | 13 => ⟨S8x128x4096, .f32⟩
  | 14 => ⟨S8x4096x4096, .f32⟩
  | 15 => ⟨S8x128x4096, .f32⟩
  | 16 => ⟨S4096x8x128, .f32⟩
  | 17 => ⟨S8x4096x4096, .f32⟩
  | 18 => ⟨S_, .f32⟩
  | 19 => ⟨S8x4096x4096, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .f32⟩
  | 25 => ⟨S_, .f32⟩
  | 26 => ⟨S_, .f32⟩
  | 27 => ⟨S8x4096x4096, .f32⟩
  | 28 => ⟨S8x4096x4096, .f32⟩
  | 29 => ⟨S_, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S_, .f32⟩
  | 38 => ⟨S8x4096x4096, .f32⟩
  | 39 => ⟨S8x4096x4096, .f32⟩
  | 40 => ⟨S8x4096x128, .f32⟩
  | 41 => ⟨S4096x8x128, .f32⟩
  | 42 => ⟨S8x4096x128, .f32⟩
  | 43 => ⟨S4096x8x128, .f32⟩
  | 44 => ⟨S4096x1024, .f32⟩
  | 45 => ⟨S4096x1024, .f32⟩
  | 46 => ⟨S4096x1024, .f32⟩
  | _ => ⟨S4096x10240, .f32⟩

abbrev hbmTy (i : Nat) : BufTy := match i / 128 with
  | 0 => hbmTy0_0 i
  | 1 => hbmTy0_1 i
  | _ => ⟨S4096x10240, .f32⟩

abbrev bufTy : (tb : Table) → Fin (tcTables nBuf tb) → BufTy
  | .hbm, ⟨i, _⟩ => hbmTy i
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== UpGrad.lean ====
abbrev S4096x2048 : Shape := ⟨2, ![4096, 2048]⟩
abbrev S4096x11264 : Shape := ⟨2, ![4096, 11264]⟩
abbrev S4x2048x2816 : Shape := ⟨3, ![4, 2048, 2816]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2048x2816, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradReferenceIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x4x2816, .f32⟩
  | .hbm, ⟨10, _⟩ => ⟨S4x2048x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InGrad.lean ====
abbrev S4096x2048 : Shape := ⟨2, ![4096, 2048]⟩
abbrev S4096x10240 : Shape := ⟨2, ![4096, 10240]⟩
abbrev S4x2048x2560 : Shape := ⟨3, ![4, 2048, 2560]⟩
abbrev S4096x512 : Shape := ⟨2, ![4096, 512]⟩
abbrev S4096x1280 : Shape := ⟨2, ![4096, 1280]⟩
abbrev S1x512x1280 : Shape := ⟨3, ![1, 512, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x10240, .bf16⟩
  | .hbm, ⟨2, _⟩ => ⟨S4x2048x2560, .f32⟩
  | .local _ .vmem, ⟨0, _⟩ => ⟨S4096x512, .bf16⟩
  | .local _ .vmem, ⟨1, _⟩ => ⟨S4096x512, .bf16⟩
  | .local _ .vmem, ⟨2, _⟩ => ⟨S4096x1280, .bf16⟩
  | .local _ .vmem, ⟨3, _⟩ => ⟨S4096x1280, .bf16⟩
  | .local _ .vmem, ⟨4, _⟩ => ⟨S1x512x1280, .f32⟩
  | .local _ .vmem, ⟨5, _⟩ => ⟨S1x512x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradReferenceIdeal.lean ====
abbrev S4096x2048 : Shape := ⟨2, ![4096, 2048]⟩
abbrev S4096x10240 : Shape := ⟨2, ![4096, 10240]⟩
abbrev S_ : Shape := ⟨0, ![]⟩
abbrev S2048x10240 : Shape := ⟨2, ![2048, 10240]⟩
abbrev S10240x2048 : Shape := ⟨2, ![10240, 2048]⟩
abbrev S2048x4x2560 : Shape := ⟨3, ![2048, 4, 2560]⟩
abbrev S4x2048x2560 : Shape := ⟨3, ![4, 2048, 2560]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10240, .bf16⟩
  | .hbm, ⟨2, _⟩ => ⟨S_, .f32⟩
  | .hbm, ⟨3, _⟩ => ⟨S2048x10240, .f32⟩
  | .hbm, ⟨4, _⟩ => ⟨S4096x2048, .f32⟩
  | .hbm, ⟨5, _⟩ => ⟨S4096x10240, .f32⟩
  | .hbm, ⟨6, _⟩ => ⟨S4096x10240, .f32⟩
  | .hbm, ⟨7, _⟩ => ⟨S10240x2048, .f32⟩
  | .hbm, ⟨8, _⟩ => ⟨S2048x10240, .f32⟩
  | .hbm, ⟨9, _⟩ => ⟨S2048x4x2560, .f32⟩
  | .hbm, ⟨10, _⟩ => ⟨S4x2048x2560, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownGrad.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SbOutGrad.lean ====
abbrev S4096x1024 : Shape := ⟨2, ![4096, 1024]⟩
abbrev S4096x2048 : Shape := ⟨2, ![4096, 2048]⟩
abbrev S4x1024x512 : Shape := ⟨3, ![4, 1024, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .f32⟩
  | .local _ .vmem, ⟨5, _⟩ => ⟨S1x512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutGradReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4x2048x2816, .f32⟩
  | .hbm, ⟨3, _⟩ => ⟨S2048x4x2816, .f32⟩
  | .hbm, ⟨4, _⟩ => ⟨S2048x11264, .f32⟩
  | .hbm, ⟨5, _⟩ => ⟨S4096x2048, .f32⟩
  | .hbm, ⟨6, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjIn.lean ====
abbrev S4096x2048 : Shape := ⟨2, ![4096, 2048]⟩
abbrev S4x2048x2560 : Shape := ⟨3, ![4, 2048, 2560]⟩
abbrev S10240 : Shape := ⟨1, ![10240]⟩
abbrev S1x10240 : Shape := ⟨2, ![1, 10240]⟩
abbrev S4096x10240 : Shape := ⟨2, ![4096, 10240]⟩
abbrev S1024x2048 : Shape := ⟨2, ![1024, 2048]⟩
abbrev S1x2048x1280 : Shape := ⟨3, ![1, 2048, 1280]⟩
abbrev S1x1280 : Shape := ⟨2, ![1, 1280]⟩
abbrev S1024x1280 : Shape := ⟨2, ![1024, 1280]⟩
abbrev S2048x1280 : Shape := ⟨2, ![2048, 1280]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x2560, .bf16⟩
  | .hbm, ⟨2, _⟩ => ⟨S10240, .f32⟩
  | .hbm, ⟨3, _⟩ => ⟨S1x10240, .f32⟩
  | .hbm, ⟨4, _⟩ => ⟨S4096x10240, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1x1280, .f32⟩
  | .local _ .vmem, ⟨5, _⟩ => ⟨S1x1280, .f32⟩
  | .local _ .vmem, ⟨6, _⟩ => ⟨S1024x1280, .f32⟩
  | .local _ .vmem, ⟨7, _⟩ => ⟨S1024x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjInReferenceIdeal.lean ====
abbrev S4096x2048 : Shape := ⟨2, ![4096, 2048]⟩
abbrev S4x2048x2560 : Shape := ⟨3, ![4, 2048, 2560]⟩
abbrev S10240 : Shape := ⟨1, ![10240]⟩
abbrev S2048x4x2560 : Shape := ⟨3, ![2048, 4, 2560]⟩
abbrev S2048x10240 : Shape := ⟨2, ![2048, 10240]⟩
abbrev S4096x10240 : Shape := ⟨2, ![4096, 10240]⟩
abbrev S1x10240 : Shape := ⟨2, ![1, 10240]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2560, .bf16⟩
  | .hbm, ⟨2, _⟩ => ⟨S10240, .f32⟩
  | .hbm, ⟨3, _⟩ => ⟨S4x2048x2560, .f32⟩
  | .hbm, ⟨4, _⟩ => ⟨S2048x4x2560, .f32⟩
  | .hbm, ⟨5, _⟩ => ⟨S2048x10240, .f32⟩
  | .hbm, ⟨6, _⟩ => ⟨S4096x2048, .f32⟩
  | .hbm, ⟨7, _⟩ => ⟨S4096x10240, .f32⟩
  | .hbm, ⟨8, _⟩ => ⟨S1x10240, .f32⟩
  | .hbm, ⟨9, _⟩ => ⟨S4096x10240, .f32⟩
  | .hbm, ⟨10, _⟩ => ⟨S4096x10240, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S4096x5632 : Shape := ⟨2, ![4096, 5632]⟩
abbrev S4x1408x2048 : Shape := ⟨3, ![4, 1408, 2048]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S5632x2048, .bf16⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x5632 : Shape := ⟨2, ![4096, 5632]⟩
abbrev S4x1408x2048 : Shape := ⟨3, ![4, 1408, 2048]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4x1408x2048, .f32⟩
  | .hbm, ⟨3, _⟩ => ⟨S5632x2048, .f32⟩
  | .hbm, ⟨4, _⟩ => ⟨S4096x5632, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x2048 : Shape := ⟨2, ![4096, 2048]⟩
abbrev S4x512x2048 : Shape := ⟨3, ![4, 512, 2048]⟩
abbrev S2048x2048 : Shape := ⟨2, ![2048, 2048]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S4096x2048 : Shape := ⟨2, ![4096, 2048]⟩
abbrev S4x512x2048 : Shape := ⟨3, ![4, 512, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4x512x2048, .f32⟩
  | .hbm, ⟨3, _⟩ => ⟨S2048x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SbOut.lean ====
abbrev S4096x1024 : Shape := ⟨2, ![4096, 1024]⟩
abbrev S4x1024x512 : Shape := ⟨3, ![4, 1024, 512]⟩
abbrev S4096x2048 : Shape := ⟨2, ![4096, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutReferenceIdeal.lean ====
abbrev S4096x1024 : Shape := ⟨2, ![4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4x1024x512, .f32⟩
  | .hbm, ⟨3, _⟩ => ⟨S1024x4x512, .f32⟩
  | .hbm, ⟨4, _⟩ => ⟨S1024x2048, .f32⟩
  | .hbm, ⟨5, _⟩ => ⟨S4096x1024, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownBack.lean ====
abbrev S4096x2048 : Shape := ⟨2, ![4096, 2048]⟩
abbrev S4x1408x2048 : Shape := ⟨3, ![4, 1408, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1408x2048, .bf16⟩
  | .hbm, ⟨2, _⟩ => ⟨S5632x2048, .bf16⟩
  | .hbm, ⟨3, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBackReferenceIdeal.lean ====
abbrev S4096x2048 : Shape := ⟨2, ![4096, 2048]⟩
abbrev S4x1408x2048 : Shape := ⟨3, ![4, 1408, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1408x2048, .bf16⟩
  | .hbm, ⟨2, _⟩ => ⟨S4x1408x2048, .f32⟩
  | .hbm, ⟨3, _⟩ => ⟨S5632x2048, .f32⟩
  | .hbm, ⟨4, _⟩ => ⟨S_, .f32⟩
  | .hbm, ⟨5, _⟩ => ⟨S4096x5632, .f32⟩
  | .hbm, ⟨6, _⟩ => ⟨S4096x2048, .f32⟩
  | .hbm, ⟨7, _⟩ => ⟨S4096x2048, .f32⟩
  | .hbm, ⟨8, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBack.lean ====
abbrev S4096x2048 : Shape := ⟨2, ![4096, 2048]⟩
abbrev S4x512x2048 : Shape := ⟨3, ![4, 512, 2048]⟩
abbrev S2048x2048 : Shape := ⟨2, ![2048, 2048]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBackReferenceIdeal.lean ====
abbrev S4096x2048 : Shape := ⟨2, ![4096, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4x512x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SbOutBack.lean ====
abbrev S4096x2048 : Shape := ⟨2, ![4096, 2048]⟩
abbrev S4x1024x512 : Shape := ⟨3, ![4, 1024, 512]⟩
abbrev S4096x1024 : Shape := ⟨2, ![4096, 1024]⟩
abbrev S1024x1024 : Shape := ⟨2, ![1024, 1024]⟩
abbrev S2x512x512 : Shape := ⟨3, ![2, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x512x512, .bf16⟩
  | .local _ .vmem, ⟨3, _⟩ => ⟨S2x512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutBackReferenceIdeal.lean ====
abbrev S4096x2048 : Shape := ⟨2, ![4096, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4x1024x512, .f32⟩
  | .hbm, ⟨3, _⟩ => ⟨S1024x4x512, .f32⟩
  | .hbm, ⟨4, _⟩ => ⟨S1024x2048, .f32⟩
  | .hbm, ⟨5, _⟩ => ⟨S_, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x1024, .f32⟩
  | .hbm, ⟨10, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpBack.lean ====
abbrev S4096x11264 : Shape := ⟨2, ![4096, 11264]⟩
abbrev S4x2048x2816 : Shape := ⟨3, ![4, 2048, 2816]⟩
abbrev S4096x2048 : Shape := ⟨2, ![4096, 2048]⟩
abbrev S1024x5632 : Shape := ⟨2, ![1024, 5632]⟩
abbrev S2x512x2816 : Shape := ⟨3, ![2, 512, 2816]⟩
abbrev S1024x512 : Shape := ⟨2, ![1024, 512]⟩
abbrev S1024x2816 : Shape := ⟨2, ![1024, 2816]⟩
abbrev S1x512x2816 : Shape := ⟨3, ![1, 512, 2816]⟩
abbrev S512x2816 : Shape := ⟨2, ![512, 2816]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S2x512x2816, .bf16⟩
  | .local _ .vmem, ⟨3, _⟩ => ⟨S2x512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpBackReferenceIdeal.lean ====
abbrev S4096x11264 : Shape := ⟨2, ![4096, 11264]⟩
abbrev S4x2048x2816 : Shape := ⟨3, ![4, 2048, 2816]⟩
abbrev S4096x2048 : Shape := ⟨2, ![4096, 2048]⟩
abbrev S2048x4x2816 : Shape := ⟨3, ![2048, 4, 2816]⟩
abbrev S2048x11264 : Shape := ⟨2, ![2048, 11264]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S_, .f32⟩
  | .hbm, ⟨7, _⟩ => ⟨S4096x2048, .f32⟩
  | .hbm, ⟨8, _⟩ => ⟨S4096x11264, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x11264, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== InBack.lean ====
abbrev S4096x10240 : Shape := ⟨2, ![4096, 10240]⟩
abbrev S4x2048x2560 : Shape := ⟨3, ![4, 2048, 2560]⟩
abbrev S4096x2048 : Shape := ⟨2, ![4096, 2048]⟩
abbrev S1024x5120 : Shape := ⟨2, ![1024, 5120]⟩
abbrev S2x512x2560 : Shape := ⟨3, ![2, 512, 2560]⟩
abbrev S1024x512 : Shape := ⟨2, ![1024, 512]⟩
abbrev S1024x2560 : Shape := ⟨2, ![1024, 2560]⟩
abbrev S1x512x2560 : Shape := ⟨3, ![1, 512, 2560]⟩
abbrev S512x2560 : Shape := ⟨2, ![512, 2560]⟩

abbrev nBuf : Space → Nat
  | .hbm => 4
  | .vmem => 9
  | .smem => 0
  | _ => 0

abbrev bufTy : (tb : Table) → Fin (tcTables nBuf tb) → BufTy
  | .hbm, ⟨0, _⟩ => ⟨S4096x10240, .bf16⟩
  | .hbm, ⟨1, _⟩ => ⟨S4x2048x2560, .bf16⟩
  | .hbm, ⟨2, _⟩ => ⟨S4096x2048, .f32⟩
  | .hbm, ⟨3, _⟩ => ⟨S4096x2048, .f32⟩
  | .local _ .vmem, ⟨0, _⟩ => ⟨S1024x5120, .bf16⟩
  | .local _ .vmem, ⟨1, _⟩ => ⟨S1024x5120, .bf16⟩
  | .local _ .vmem, ⟨2, _⟩ => ⟨S2x512x2560, .bf16⟩
  | .local _ .vmem, ⟨3, _⟩ => ⟨S2x512x2560, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBackReferenceIdeal.lean ====
abbrev S4096x10240 : Shape := ⟨2, ![4096, 10240]⟩
abbrev S4x2048x2560 : Shape := ⟨3, ![4, 2048, 2560]⟩
abbrev S4096x2048 : Shape := ⟨2, ![4096, 2048]⟩
abbrev S2048x4x2560 : Shape := ⟨3, ![2048, 4, 2560]⟩
abbrev S2048x10240 : Shape := ⟨2, ![2048, 10240]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4x2048x2560, .bf16⟩
  | .hbm, ⟨2, _⟩ => ⟨S4096x2048, .f32⟩
  | .hbm, ⟨3, _⟩ => ⟨S4x2048x2560, .f32⟩
  | .hbm, ⟨4, _⟩ => ⟨S2048x4x2560, .f32⟩
  | .hbm, ⟨5, _⟩ => ⟨S2048x10240, .f32⟩
  | .hbm, ⟨6, _⟩ => ⟨S_, .f32⟩
  | .hbm, ⟨7, _⟩ => ⟨S4096x2048, .f32⟩
  | .hbm, ⟨8, _⟩ => ⟨S4096x10240, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x10240, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== GluIn.lean ====
abbrev S4096x512 : Shape := ⟨2, ![4096, 512]⟩
abbrev S4x512x256 : Shape := ⟨3, ![4, 512, 256]⟩
abbrev S4096x1024 : Shape := ⟨2, ![4096, 1024]⟩
abbrev S1024x512 : Shape := ⟨2, ![1024, 512]⟩
abbrev S1x512x256 : Shape := ⟨3, ![1, 512, 256]⟩
abbrev S1024x256 : Shape := ⟨2, ![1024, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1024x256, .f32⟩
  | .local _ .vmem, ⟨5, _⟩ => ⟨S1024x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluInReferenceIdeal.lean ====
abbrev S4096x512 : Shape := ⟨2, ![4096, 512]⟩
abbrev S4x512x256 : Shape := ⟨3, ![4, 512, 256]⟩
abbrev S512x4x256 : Shape := ⟨3, ![512, 4, 256]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4x512x256, .f32⟩
  | .hbm, ⟨3, _⟩ => ⟨S512x4x256, .f32⟩
  | .hbm, ⟨4, _⟩ => ⟨S512x1024, .f32⟩
  | .hbm, ⟨5, _⟩ => ⟨S4096x512, .f32⟩
  | .hbm, ⟨6, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmOut.lean ====
abbrev S4096x512 : Shape := ⟨2, ![4096, 512]⟩
abbrev S4x512x512 : Shape := ⟨3, ![4, 512, 512]⟩
abbrev S4096x2048 : Shape := ⟨2, ![4096, 2048]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4x512x512, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutReferenceIdeal.lean ====
abbrev S4096x512 : Shape := ⟨2, ![4096, 512]⟩
abbrev S4x512x512 : Shape := ⟨3, ![4, 512, 512]⟩
abbrev S512x4x512 : Shape := ⟨3, ![512, 4, 512]⟩
abbrev S512x2048 : Shape := ⟨2, ![512, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x512, .bf16⟩
  | .hbm, ⟨2, _⟩ => ⟨S4x512x512, .f32⟩
  | .hbm, ⟨3, _⟩ => ⟨S512x4x512, .f32⟩
  | .hbm, ⟨4, _⟩ => ⟨S512x2048, .f32⟩
  | .hbm, ⟨5, _⟩ => ⟨S4096x512, .f32⟩
  | .hbm, ⟨6, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MemKv.lean ====
abbrev S256x2048 : Shape := ⟨2, ![256, 2048]⟩
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S4x512x1024, .bf16⟩
  | .hbm, ⟨2, _⟩ => ⟨S2048x1024, .bf16⟩
  | .hbm, ⟨3, _⟩ => ⟨S256x1024, .f32⟩
  | .local _ .vmem, ⟨0, _⟩ => ⟨S256x2048, .f32⟩
  | .local _ .vmem, ⟨1, _⟩ => ⟨S2048x1024, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvReferenceIdeal.lean ====
abbrev S256x2048 : Shape := ⟨2, ![256, 2048]⟩
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x512x1024, .bf16⟩
  | .hbm, ⟨2, _⟩ => ⟨S4x512x1024, .f32⟩
  | .hbm, ⟨3, _⟩ => ⟨S2048x1024, .f32⟩
  | .hbm, ⟨4, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmOutBack.lean ====
abbrev S4096x2048 : Shape := ⟨2, ![4096, 2048]⟩
abbrev S4x512x512 : Shape := ⟨3, ![4, 512, 512]⟩
abbrev S4096x512 : Shape := ⟨2, ![4096, 512]⟩
abbrev S1024x1024 : Shape := ⟨2, ![1024, 1024]⟩
abbrev S2x512x512 : Shape := ⟨3, ![2, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S2x512x512, .bf16⟩
  | .local _ .vmem, ⟨3, _⟩ => ⟨S2x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutBackReferenceIdeal.lean ====
abbrev S4096x2048 : Shape := ⟨2, ![4096, 2048]⟩
abbrev S4x512x512 : Shape := ⟨3, ![4, 512, 512]⟩
abbrev S512x4x512 : Shape := ⟨3, ![512, 4, 512]⟩
abbrev S512x2048 : Shape := ⟨2, ![512, 2048]⟩
abbrev S_ : Shape := ⟨0, ![]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S4x512x512, .f32⟩
  | .hbm, ⟨3, _⟩ => ⟨S512x4x512, .f32⟩
  | .hbm, ⟨4, _⟩ => ⟨S512x2048, .f32⟩
  | .hbm, ⟨5, _⟩ => ⟨S_, .f32⟩
  | .hbm, ⟨6, _⟩ => ⟨S4096x512, .f32⟩
  | .hbm, ⟨7, _⟩ => ⟨S4096x2048, .f32⟩
  | .hbm, ⟨8, _⟩ => ⟨S4096x2048, .f32⟩
  | .hbm, ⟨9, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemOutBack.lean ====
abbrev S4096x2048 : Shape := ⟨2, ![4096, 2048]⟩
abbrev S4x512x512 : Shape := ⟨3, ![4, 512, 512]⟩
abbrev S4096x512 : Shape := ⟨2, ![4096, 512]⟩
abbrev S1024x1024 : Shape := ⟨2, ![1024, 1024]⟩
abbrev S2x512x512 : Shape := ⟨3, ![2, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S2x512x512, .bf16⟩
  | .local _ .vmem, ⟨3, _⟩ => ⟨S2x512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemOutBackReferenceIdeal.lean ====
abbrev S4096x2048 : Shape := ⟨2, ![4096, 2048]⟩
abbrev S4x512x512 : Shape := ⟨3, ![4, 512, 512]⟩
abbrev S512x4x512 : Shape := ⟨3, ![512, 4, 512]⟩
abbrev S512x2048 : Shape := ⟨2, ![512, 2048]⟩
abbrev S_ : Shape := ⟨0, ![]⟩
abbrev S4096x512 : Shape := ⟨2, ![4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S4x512x512, .f32⟩
  | .hbm, ⟨3, _⟩ => ⟨S512x4x512, .f32⟩
  | .hbm, ⟨4, _⟩ => ⟨S512x2048, .f32⟩
  | .hbm, ⟨5, _⟩ => ⟨S_, .f32⟩
  | .hbm, ⟨6, _⟩ => ⟨S4096x512, .f32⟩
  | .hbm, ⟨7, _⟩ => ⟨S4096x2048, .f32⟩
  | .hbm, ⟨8, _⟩ => ⟨S4096x2048, .f32⟩
  | .hbm, ⟨9, _⟩ => ⟨S4096x512, .f32⟩
  | .hbm, ⟨10, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GluInBack.lean ====
abbrev S4096x1024 : Shape := ⟨2, ![4096, 1024]⟩
abbrev S4x512x256 : Shape := ⟨3, ![4, 512, 256]⟩
abbrev S4096x512 : Shape := ⟨2, ![4096, 512]⟩
abbrev S1024x512 : Shape := ⟨2, ![1024, 512]⟩
abbrev S2x512x256 : Shape := ⟨3, ![2, 512, 256]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x512x256, .bf16⟩
  | .hbm, ⟨2, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S2x512x256, .bf16⟩
  | .local _ .vmem, ⟨3, _⟩ => ⟨S2x512x256, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluInBackReferenceIdeal.lean ====
abbrev S4096x1024 : Shape := ⟨2, ![4096, 1024]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x512x256, .bf16⟩
  | .hbm, ⟨2, _⟩ => ⟨S4x512x256, .f32⟩
  | .hbm, ⟨3, _⟩ => ⟨S512x4x256, .f32⟩
  | .hbm, ⟨4, _⟩ => ⟨S512x1024, .f32⟩
  | .hbm, ⟨5, _⟩ => ⟨S_, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmOutGrad.lean ====
abbrev S4096x512 : Shape := ⟨2, ![4096, 512]⟩
abbrev S4096x2048 : Shape := ⟨2, ![4096, 2048]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4x512x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S1x512x512, .f32⟩
  | .local _ .vmem, ⟨4, _⟩ => ⟨S1x512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutGradReferenceIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩
abbrev S512x4x512 : Shape := ⟨3, ![512, 4, 512]⟩
abbrev S4x512x512 : Shape := ⟨3, ![4, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x4x512, .f32⟩
  | .hbm, ⟨10, _⟩ => ⟨S4x512x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GluInGrad.lean ====
abbrev S4096x512 : Shape := ⟨2, ![4096, 512]⟩
abbrev S4096x1024 : Shape := ⟨2, ![4096, 1024]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .f32⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .f32⟩
  | .local _ .vmem, ⟨4, _⟩ => ⟨S1x512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluInGradReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BGrad.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BGradReferenceIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CGrad.lean ====
abbrev S4096x2048 : Shape := ⟨2, ![4096, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CGradReferenceIdeal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S_, .f32⟩
  | .hbm, ⟨3, _⟩ => ⟨S2048x512, .f32⟩
  | .hbm, ⟨4, _⟩ => ⟨S4096x512, .f32⟩
  | .hbm, ⟨5, _⟩ => ⟨S512x2048, .f32⟩
  | .hbm, ⟨6, _⟩ => ⟨S2048x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemKvGrad.lean ====
abbrev S256x2048 : Shape := ⟨2, ![256, 2048]⟩
abbrev S256x1024 : Shape := ⟨2, ![256, 1024]⟩
abbrev S2048x1024 : Shape := ⟨2, ![2048, 1024]⟩
abbrev S256x512 : Shape := ⟨2, ![256, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S2048x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S512x1024, .f32⟩
  | .local _ .vmem, ⟨4, _⟩ => ⟨S512x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvGradReferenceIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x1024, .f32⟩
  | .hbm, ⟨5, _⟩ => ⟨S1024x2048, .f32⟩
  | .hbm, ⟨6, _⟩ => ⟨S2048x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeBack.lean ====
abbrev S4096x2048 : Shape := ⟨2, ![4096, 2048]⟩
abbrev S4096x10240 : Shape := ⟨2, ![4096, 10240]⟩
abbrev S256x2048 : Shape := ⟨2, ![256, 2048]⟩

abbrev nBuf : Space → Nat
  | .hbm => 11
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x10240, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeBackReferenceIdeal.lean ====
abbrev S4096x2048 : Shape := ⟨2, ![4096, 2048]⟩
abbrev S4096x10240 : Shape := ⟨2, ![4096, 10240]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x10240, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | .hbm, ⟨61, _⟩ => ⟨S4096x2048, .bf16⟩
  | .hbm, ⟨62, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== GluBack.lean ====
abbrev S4096x512 : Shape := ⟨2, ![4096, 512]⟩
abbrev S4096x1024 : Shape := ⟨2, ![4096, 1024]⟩
abbrev S512x512 : Shape := ⟨2, ![512, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluBackReferenceIdeal.lean ====
abbrev S4096x512 : Shape := ⟨2, ![4096, 512]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x1024, .f32⟩
  | .hbm, ⟨21, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== SwigluBack.lean ====
abbrev S4096x5632 : Shape := ⟨2, ![4096, 5632]⟩
abbrev S4096x11264 : Shape := ⟨2, ![4096, 11264]⟩
abbrev S128x5632 : Shape := ⟨2, ![128, 5632]⟩
abbrev S128x11264 : Shape := ⟨2, ![128, 11264]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x11264, .f32⟩
  | .hbm, ⟨2, _⟩ => ⟨S4096x11264, .bf16⟩
  | .local _ .vmem, ⟨0, _⟩ => ⟨S128x5632, .f32⟩
  | .local _ .vmem, ⟨1, _⟩ => ⟨S128x5632, .f32⟩
  | .local _ .vmem, ⟨2, _⟩ => ⟨S128x11264, .f32⟩
  | .local _ .vmem, ⟨3, _⟩ => ⟨S128x11264, .f32⟩
  | .local _ .vmem, ⟨4, _⟩ => ⟨S128x11264, .bf16⟩
  | .local _ .vmem, ⟨5, _⟩ => ⟨S128x11264, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11264 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluBackReferenceIdeal.lean ====
abbrev S4096x5632 : Shape := ⟨2, ![4096, 5632]⟩
abbrev S4096x11264 : Shape := ⟨2, ![4096, 11264]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x11264, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x11264, .f32⟩
  | .hbm, ⟨25, _⟩ => ⟨S4096x11264, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Merge.lean ====
abbrev S4096x10240 : Shape := ⟨2, ![4096, 10240]⟩
abbrev S4096x2048 : Shape := ⟨2, ![4096, 2048]⟩
abbrev S256x2048 : Shape := ⟨2, ![256, 2048]⟩

abbrev nBuf : Space → Nat
  | .hbm => 5
  | .vmem => 14
  | .smem => 0
  | _ => 0

abbrev bufTy : (tb : Table) → Fin (tcTables nBuf tb) → BufTy
  | .hbm, ⟨0, _⟩ => ⟨S4096x10240, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S4096x10240 : Shape := ⟨2, ![4096, 10240]⟩
abbrev S4096x2048 : Shape := ⟨2, ![4096, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x10240, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Glu.lean ====
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GluReferenceIdeal.lean ====
abbrev S4096x1024 : Shape := ⟨2, ![4096, 1024]⟩
abbrev S4096x512 : Shape := ⟨2, ![4096, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Swiglu.lean ====
abbrev S4096x11264 : Shape := ⟨2, ![4096, 11264]⟩
abbrev S4096x5632 : Shape := ⟨2, ![4096, 5632]⟩
abbrev S128x11264 : Shape := ⟨2, ![128, 11264]⟩
abbrev S128x5632 : Shape := ⟨2, ![128, 5632]⟩

abbrev nBuf : Space → Nat
  | .hbm => 2
  | .vmem => 4
  | .smem => 0
  | _ => 0

abbrev bufTy : (tb : Table) → Fin (tcTables nBuf tb) → BufTy
  | .hbm, ⟨0, _⟩ => ⟨S4096x11264, .f32⟩
  | .hbm, ⟨1, _⟩ => ⟨S4096x5632, .bf16⟩
  | .local _ .vmem, ⟨0, _⟩ => ⟨S128x11264, .f32⟩
  | .local _ .vmem, ⟨1, _⟩ => ⟨S128x11264, .f32⟩
  | .local _ .vmem, ⟨2, _⟩ => ⟨S128x5632, .bf16⟩
  | .local _ .vmem, ⟨3, _⟩ => ⟨S128x5632, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwigluReferenceIdeal.lean ====
abbrev S4096x11264 : Shape := ⟨2, ![4096, 11264]⟩
abbrev S4096x5632 : Shape := ⟨2, ![4096, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S_, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== LossHead.lean ====
abbrev S4096x2048 : Shape := ⟨2, ![4096, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadReferenceIdeal.lean ====
abbrev S4096x2048 : Shape := ⟨2, ![4096, 2048]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== UpdateIn.lean ====
abbrev S4x2048x2560 : Shape := ⟨3, ![4, 2048, 2560]⟩
abbrev S8192x2560 : Shape := ⟨2, ![8192, 2560]⟩
abbrev S128x2560 : Shape := ⟨2, ![128, 2560]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2560, .f32⟩
  | .hbm, ⟨1, _⟩ => ⟨S4x2048x2560, .f32⟩
  | .hbm, ⟨2, _⟩ => ⟨S4x2048x2560, .f32⟩
  | .hbm, ⟨3, _⟩ => ⟨S4x2048x2560, .f32⟩
  | .hbm, ⟨4, _⟩ => ⟨S8192x2560, .f32⟩
  | .hbm, ⟨5, _⟩ => ⟨S8192x2560, .f32⟩
  | .hbm, ⟨6, _⟩ => ⟨S8192x2560, .f32⟩
  | .hbm, ⟨7, _⟩ => ⟨S8192x2560, .f32⟩
  | .hbm, ⟨8, _⟩ => ⟨S8192x2560, .f32⟩
  | .hbm, ⟨9, _⟩ => ⟨S8192x2560, .f32⟩
  | .hbm, ⟨10, _⟩ => ⟨S8192x2560, .f32⟩
  | .hbm, ⟨11, _⟩ => ⟨S8192x2560, .f32⟩
  | .local _ .vmem, ⟨0, _⟩ => ⟨S128x2560, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S128x2560, .f32⟩
  | .local _ .vmem, ⟨7, _⟩ => ⟨S128x2560, .f32⟩
  | .local _ .vmem, ⟨8, _⟩ => ⟨S128x2560, .f32⟩
  | .local _ .vmem, ⟨9, _⟩ => ⟨S128x2560, .f32⟩
  | .local _ .vmem, ⟨10, _⟩ => ⟨S128x2560, .f32⟩
  | .local _ .vmem, ⟨11, _⟩ => ⟨S128x2560, .f32⟩
  | .local _ .vmem, ⟨12, _⟩ => ⟨S128x2560, .f32⟩
  | .local _ .vmem, ⟨13, _⟩ => ⟨S128x2560, .f32⟩
  | .local _ .vmem, ⟨14, _⟩ => ⟨S128x2560, .f32⟩
  | .local _ .vmem, ⟨15, _⟩ => ⟨S128x2560, .f32⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateInIdeal.lean ====
abbrev S4x2048x2560 : Shape := ⟨3, ![4, 2048, 2560]⟩
abbrev S8192x2560 : Shape := ⟨2, ![8192, 2560]⟩
abbrev S128x2560 : Shape := ⟨2, ![128, 2560]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2560, .f32⟩
  | .hbm, ⟨1, _⟩ => ⟨S4x2048x2560, .f32⟩
  | .hbm, ⟨2, _⟩ => ⟨S4x2048x2560, .f32⟩
  | .hbm, ⟨3, _⟩ => ⟨S4x2048x2560, .f32⟩
  | .hbm, ⟨4, _⟩ => ⟨S8192x2560, .f32⟩
  | .hbm, ⟨5, _⟩ => ⟨S8192x2560, .f32⟩
  | .hbm, ⟨6, _⟩ => ⟨S8192x2560, .f32⟩
  | .hbm, ⟨7, _⟩ => ⟨S8192x2560, .f32⟩
  | .hbm, ⟨8, _⟩ => ⟨S8192x2560, .f32⟩
  | .hbm, ⟨9, _⟩ => ⟨S8192x2560, .f32⟩
  | .hbm, ⟨10, _⟩ => ⟨S8192x2560, .f32⟩
  | .hbm, ⟨11, _⟩ => ⟨S8192x2560, .f32⟩
  | .local _ .vmem, ⟨0, _⟩ => ⟨S128x2560, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S128x2560, .f32⟩
  | .local _ .vmem, ⟨7, _⟩ => ⟨S128x2560, .f32⟩
  | .local _ .vmem, ⟨8, _⟩ => ⟨S128x2560, .f32⟩
  | .local _ .vmem, ⟨9, _⟩ => ⟨S128x2560, .f32⟩
  | .local _ .vmem, ⟨10, _⟩ => ⟨S128x2560, .f32⟩
  | .local _ .vmem, ⟨11, _⟩ => ⟨S128x2560, .f32⟩
  | .local _ .vmem, ⟨12, _⟩ => ⟨S128x2560, .f32⟩
  | .local _ .vmem, ⟨13, _⟩ => ⟨S128x2560, .f32⟩
  | .local _ .vmem, ⟨14, _⟩ => ⟨S128x2560, .f32⟩
  | .local _ .vmem, ⟨15, _⟩ => ⟨S128x2560, .f32⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateInReferenceIdeal.lean ====
abbrev S4x2048x2560 : Shape := ⟨3, ![4, 2048, 2560]⟩
abbrev S_ : Shape := ⟨0, ![]⟩
abbrev S8192x2560 : Shape := ⟨2, ![8192, 2560]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2560, .f32⟩
  | .hbm, ⟨1, _⟩ => ⟨S4x2048x2560, .f32⟩
  | .hbm, ⟨2, _⟩ => ⟨S4x2048x2560, .f32⟩
  | .hbm, ⟨3, _⟩ => ⟨S4x2048x2560, .f32⟩
  | .hbm, ⟨4, _⟩ => ⟨S_, .f32⟩
  | .hbm, ⟨5, _⟩ => ⟨S4x2048x2560, .f32⟩
  | .hbm, ⟨6, _⟩ => ⟨S4x2048x2560, .f32⟩
  | .hbm, ⟨7, _⟩ => ⟨S_, .f32⟩
  | .hbm, ⟨8, _⟩ => ⟨S4x2048x2560, .f32⟩
  | .hbm, ⟨9, _⟩ => ⟨S4x2048x2560, .f32⟩
  | .hbm, ⟨10, _⟩ => ⟨S4x2048x2560, .f32⟩
  | .hbm, ⟨11, _⟩ => ⟨S_, .f32⟩
  | .hbm, ⟨12, _⟩ => ⟨S4x2048x2560, .f32⟩
  | .hbm, ⟨13, _⟩ => ⟨S4x2048x2560, .f32⟩
  | .hbm, ⟨14, _⟩ => ⟨S4x2048x2560, .f32⟩
  | .hbm, ⟨15, _⟩ => ⟨S_, .f32⟩
  | .hbm, ⟨16, _⟩ => ⟨S4x2048x2560, .f32⟩
  | .hbm, ⟨17, _⟩ => ⟨S4x2048x2560, .f32⟩
  | .hbm, ⟨18, _⟩ => ⟨S4x2048x2560, .f32⟩
  | .hbm, ⟨19, _⟩ => ⟨S_, .f32⟩
  | .hbm, ⟨20, _⟩ => ⟨S4x2048x2560, .f32⟩
  | .hbm, ⟨21, _⟩ => ⟨S4x2048x2560, .f32⟩
  | .hbm, ⟨22, _⟩ => ⟨S_, .f32⟩
  | .hbm, ⟨23, _⟩ => ⟨S4x2048x2560, .f32⟩
  | .hbm, ⟨24, _⟩ => ⟨S4x2048x2560, .f32⟩
  | .hbm, ⟨25, _⟩ => ⟨S4x2048x2560, .f32⟩
  | .hbm, ⟨26, _⟩ => ⟨S_, .f32⟩
  | .hbm, ⟨27, _⟩ => ⟨S4x2048x2560, .f32⟩
  | .hbm, ⟨28, _⟩ => ⟨S4x2048x2560, .f32⟩
  | .hbm, ⟨29, _⟩ => ⟨S4x2048x2560, .f32⟩
  | .hbm, ⟨30, _⟩ => ⟨S_, .f32⟩
  | .hbm, ⟨31, _⟩ => ⟨S4x2048x2560, .f32⟩
  | .hbm, ⟨32, _⟩ => ⟨S4x2048x2560, .f32⟩
  | .hbm, ⟨33, _⟩ => ⟨S4x2048x2560, .f32⟩
  | .hbm, ⟨34, _⟩ => ⟨S_, .f32⟩
  | .hbm, ⟨35, _⟩ => ⟨S4x2048x2560, .f32⟩
  | .hbm, ⟨36, _⟩ => ⟨S4x2048x2560, .f32⟩
  | .hbm, ⟨37, _⟩ => ⟨S8192x2560, .f32⟩
  | .hbm, ⟨38, _⟩ => ⟨S8192x2560, .f32⟩
  | .hbm, ⟨39, _⟩ => ⟨S8192x2560, .f32⟩
  | .hbm, ⟨40, _⟩ => ⟨S8192x2560, .f32⟩
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== UpdateSbOut.lean ====
abbrev S4x1024x512 : Shape := ⟨3, ![4, 1024, 512]⟩
abbrev S4096x512 : Shape := ⟨2, ![4096, 512]⟩
abbrev S1024x512 : Shape := ⟨2, ![1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateSbOutIdeal.lean ====
abbrev S4x1024x512 : Shape := ⟨3, ![4, 1024, 512]⟩
abbrev S4096x512 : Shape := ⟨2, ![4096, 512]⟩
abbrev S1024x512 : Shape := ⟨2, ![1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateSbOutReferenceIdeal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== UpdateGlu.lean ====
abbrev S4x512x256 : Shape := ⟨3, ![4, 512, 256]⟩
abbrev S2048x256 : Shape := ⟨2, ![2048, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateGluIdeal.lean ====
abbrev S4x512x256 : Shape := ⟨3, ![4, 512, 256]⟩
abbrev S2048x256 : Shape := ⟨2, ![2048, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateGluReferenceIdeal.lean ====
abbrev S4x512x256 : Shape := ⟨3, ![4, 512, 256]⟩
abbrev S_ : Shape := ⟨0, ![]⟩
abbrev S2048x256 : Shape := ⟨2, ![2048, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== UpdateSsmOut.lean ====
abbrev S4x512x512 : Shape := ⟨3, ![4, 512, 512]⟩
abbrev S2048x512 : Shape := ⟨2, ![2048, 512]⟩
abbrev S1024x512 : Shape := ⟨2, ![1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateSsmOutIdeal.lean ====
abbrev S4x512x512 : Shape := ⟨3, ![4, 512, 512]⟩
abbrev S2048x512 : Shape := ⟨2, ![2048, 512]⟩
abbrev S1024x512 : Shape := ⟨2, ![1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateSsmOutReferenceIdeal.lean ====
abbrev S4x512x512 : Shape := ⟨3, ![4, 512, 512]⟩
abbrev S_ : Shape := ⟨0, ![]⟩
abbrev S2048x512 : Shape := ⟨2, ![2048, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S_, .f32⟩
  | .hbm, ⟨5, _⟩ => ⟨S4x512x512, .f32⟩
  | .hbm, ⟨6, _⟩ => ⟨S4x512x512, .f32⟩
  | .hbm, ⟨7, _⟩ => ⟨S_, .f32⟩
  | .hbm, ⟨8, _⟩ => ⟨S4x512x512, .f32⟩
  | .hbm, ⟨9, _⟩ => ⟨S4x512x512, .f32⟩
  | .hbm, ⟨10, _⟩ => ⟨S4x512x512, .f32⟩
  | .hbm, ⟨11, _⟩ => ⟨S_, .f32⟩
  | .hbm, ⟨12, _⟩ => ⟨S4x512x512, .f32⟩
  | .hbm, ⟨13, _⟩ => ⟨S4x512x512, .f32⟩
  | .hbm, ⟨14, _⟩ => ⟨S4x512x512, .f32⟩
  | .hbm, ⟨15, _⟩ => ⟨S_, .f32⟩
  | .hbm, ⟨16, _⟩ => ⟨S4x512x512, .f32⟩
  | .hbm, ⟨17, _⟩ => ⟨S4x512x512, .f32⟩
  | .hbm, ⟨18, _⟩ => ⟨S4x512x512, .f32⟩
  | .hbm, ⟨19, _⟩ => ⟨S_, .f32⟩
  | .hbm, ⟨20, _⟩ => ⟨S4x512x512, .f32⟩
  | .hbm, ⟨21, _⟩ => ⟨S4x512x512, .f32⟩
  | .hbm, ⟨22, _⟩ => ⟨S_, .f32⟩
  | .hbm, ⟨23, _⟩ => ⟨S4x512x512, .f32⟩
  | .hbm, ⟨24, _⟩ => ⟨S4x512x512, .f32⟩
  | .hbm, ⟨25, _⟩ => ⟨S4x512x512, .f32⟩
  | .hbm, ⟨26, _⟩ => ⟨S_, .f32⟩
  | .hbm, ⟨27, _⟩ => ⟨S4x512x512, .f32⟩
  | .hbm, ⟨28, _⟩ => ⟨S4x512x512, .f32⟩
  | .hbm, ⟨29, _⟩ => ⟨S4x512x512, .f32⟩
  | .hbm, ⟨30, _⟩ => ⟨S_, .f32⟩
  | .hbm, ⟨31, _⟩ => ⟨S4x512x512, .f32⟩
  | .hbm, ⟨32, _⟩ => ⟨S4x512x512, .f32⟩
  | .hbm, ⟨33, _⟩ => ⟨S4x512x512, .f32⟩
  | .hbm, ⟨34, _⟩ => ⟨S_, .f32⟩
  | .hbm, ⟨35, _⟩ => ⟨S4x512x512, .f32⟩
  | .hbm, ⟨36, _⟩ => ⟨S4x512x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== UpdateMemKv.lean ====
abbrev S4x512x1024 : Shape := ⟨3, ![4, 512, 1024]⟩
abbrev S2048x1024 : Shape := ⟨2, ![2048, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateMemKvIdeal.lean ====
abbrev S4x512x1024 : Shape := ⟨3, ![4, 512, 1024]⟩
abbrev S2048x1024 : Shape := ⟨2, ![2048, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateMemKvReferenceIdeal.lean ====
abbrev S4x512x1024 : Shape := ⟨3, ![4, 512, 1024]⟩
abbrev S_ : Shape := ⟨0, ![]⟩
abbrev S2048x1024 : Shape := ⟨2, ![2048, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== UpdateOut.lean ====
abbrev S4x512x2048 : Shape := ⟨3, ![4, 512, 2048]⟩
abbrev S2048x2048 : Shape := ⟨2, ![2048, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateOutIdeal.lean ====
abbrev S4x512x2048 : Shape := ⟨3, ![4, 512, 2048]⟩
abbrev S2048x2048 : Shape := ⟨2, ![2048, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateOutReferenceIdeal.lean ====
abbrev S4x512x2048 : Shape := ⟨3, ![4, 512, 2048]⟩
abbrev S_ : Shape := ⟨0, ![]⟩
abbrev S2048x2048 : Shape := ⟨2, ![2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== UpdateUp.lean ====
abbrev S4x2048x2816 : Shape := ⟨3, ![4, 2048, 2816]⟩
abbrev S8192x2816 : Shape := ⟨2, ![8192, 2816]⟩
abbrev S128x2816 : Shape := ⟨2, ![128, 2816]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateUpIdeal.lean ====
abbrev S4x2048x2816 : Shape := ⟨3, ![4, 2048, 2816]⟩
abbrev S8192x2816 : Shape := ⟨2, ![8192, 2816]⟩
abbrev S128x2816 : Shape := ⟨2, ![128, 2816]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateUpReferenceIdeal.lean ====
abbrev S4x2048x2816 : Shape := ⟨3, ![4, 2048, 2816]⟩
abbrev S_ : Shape := ⟨0, ![]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S_, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S4x2048x2816, .f32⟩
  | .hbm, ⟨11, _⟩ => ⟨S_, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S_, .f32⟩
  | .hbm, ⟨20, _⟩ => ⟨S4x2048x2816, .f32⟩
  | .hbm, ⟨21, _⟩ => ⟨S4x2048x2816, .f32⟩
  | .hbm, ⟨22, _⟩ => ⟨S_, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S_, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S_, .f32⟩
  | .hbm, ⟨35, _⟩ => ⟨S4x2048x2816, .f32⟩
  | .hbm, ⟨36, _⟩ => ⟨S4x2048x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== UpdateDown.lean ====
abbrev S4x1408x2048 : Shape := ⟨3, ![4, 1408, 2048]⟩
abbrev S5632x2048 : Shape := ⟨2, ![5632, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S5632x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateDownReferenceIdeal.lean ====
abbrev S4x1408x2048 : Shape := ⟨3, ![4, 1408, 2048]⟩
abbrev S_ : Shape := ⟨0, ![]⟩
abbrev S5632x2048 : Shape := ⟨2, ![5632, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S_, .f32⟩
  | .hbm, ⟨5, _⟩ => ⟨S4x1408x2048, .f32⟩
  | .hbm, ⟨6, _⟩ => ⟨S4x1408x2048, .f32⟩
  | .hbm, ⟨7, _⟩ => ⟨S_, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S_, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S_, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S4x1408x2048, .f32⟩
  | .hbm, ⟨34, _⟩ => ⟨S_, .f32⟩
  | .hbm, ⟨35, _⟩ => ⟨S4x1408x2048, .f32⟩
  | .hbm, ⟨36, _⟩ => ⟨S4x1408x2048, .f32⟩
  | .hbm, ⟨37, _⟩ => ⟨S5632x2048, .f32⟩
  | .hbm, ⟨38, _⟩ => ⟨S5632x2048, .f32⟩
  | .hbm, ⟨39, _⟩ => ⟨S5632x2048, .f32⟩
  | .hbm, ⟨40, _⟩ => ⟨S5632x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== SbFwd.lean ====
abbrev S4096x10240 : Shape := ⟨2, ![4096, 10240]⟩
abbrev S4096x1024 : Shape := ⟨2, ![4096, 1024]⟩
abbrev S8x4096x1 : Shape := ⟨3, ![8, 4096, 1]⟩
abbrev S512x128 : Shape := ⟨2, ![512, 128]⟩
abbrev S4096x128 : Shape := ⟨2, ![4096, 128]⟩
abbrev S1x512x1 : Shape := ⟨3, ![1, 512, 1]⟩
abbrev S1024x512 : Shape := ⟨2, ![1024, 512]⟩
abbrev S512x1 : Shape := ⟨2, ![512, 1]⟩
abbrev S512x512 : Shape := ⟨2, ![512, 512]⟩
abbrev S512x1024 : Shape := ⟨2, ![512, 1024]⟩
abbrev S512 : Shape := ⟨1, ![512]⟩

abbrev nBuf : Space → Nat
  | .hbm => 3
  | .vmem => 10
  | .smem => 0
  | _ => 0

abbrev bufTy : (tb : Table) → Fin (tcTables nBuf tb) → BufTy
  | .hbm, ⟨0, _⟩ => ⟨S4096x10240, .f32⟩
  | .hbm, ⟨1, _⟩ => ⟨S4096x1024, .bf16⟩
  | .hbm, ⟨2, _⟩ => ⟨S8x4096x1, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32_2 : BitVec 32 := 512#32
  let v13 : BitVec 32 := Scalar.muli arg1 c512_i32_2
  let c0_i32 : BitVec 32 := 0#32
  let v15 : BitVec 1 := Scalar.cmpi .sgt v13 c0_i32
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c512_i32_3 : BitVec 32 := 512#32
  let c0_i32_5 : BitVec 32 := 0#32
  let v20 : BitVec 1 := Scalar.cmpi .sgt c512_i32_3 c0_i32_5
  let v21 : BitVec 32 := Scalar.extui v20
  let c0_i32_6 : BitVec 32 := 0#32
  let v22 : BitVec 1 := Scalar.cmpi .slt c512_i32_3 c0_i32_6
  let v23 : BitVec 32 := Scalar.extui v22
  let v24 : BitVec 32 := Scalar.subi v21 v23
  let v25 : BitVec 1 := Scalar.cmpi .ne v19 v24
  let v26 : BitVec 32 := Scalar.remsi v13 c512_i32_3
  let c0_i32_7 : BitVec 32 := 0#32
  let v27 : BitVec 1 := Scalar.cmpi .ne v26 c0_i32_7
  let v28 : BitVec 1 := Scalar.andi v25 v27
  let v14 : BitVec 32 := Scalar.divsi v13 c512_i32_3
  let c1_i32 : BitVec 32 := 1#32
  let v29 : BitVec 32 := Scalar.subi v14 c1_i32
  let v30 : BitVec 32 := Scalar.select v28 v29 v14
  let c0_i32_9 : BitVec 32 := 0#32
  let v33 : BitVec 32 := Scalar.addi v30 c0_i32_9
  let c512_i32_10 : BitVec 32 := 512#32
  let v34 : BitVec 32 := Scalar.muli v33 c512_i32_10
  v34
def k0_off1 (i : grid0.Coords) : Fin 2 → Nat :=
  let arg1 : BitVec 32 := BitVec.ofNat 32 (i 1).val
  let c512_i32_2 : BitVec 32 := 512#32
  let v13 : BitVec 32 := Scalar.muli arg1 c512_i32_2
  let c0_i32 : BitVec 32 := 0#32
  let v15 : BitVec 1 := Scalar.cmpi .sgt v13 c0_i32
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c512_i32_3 : BitVec 32 := 512#32
  let c0_i32_5 : BitVec 32 := 0#32
  let v20 : BitVec 1 := Scalar.cmpi .sgt c512_i32_3 c0_i32_5
  let v21 : BitVec 32 := Scalar.extui v20
  let c0_i32_6 : BitVec 32 := 0#32
  let v22 : BitVec 1 := Scalar.cmpi .slt c512_i32_3 c0_i32_6
  let v23 : BitVec 32 := Scalar.extui v22
  let v24 : BitVec 32 := Scalar.subi v21 v23
  let v25 : BitVec 1 := Scalar.cmpi .ne v19 v24
  let v26 : BitVec 32 := Scalar.remsi v13 c512_i32_3
  let c0_i32_7 : BitVec 32 := 0#32
  let v27 : BitVec 1 := Scalar.cmpi .ne v26 c0_i32_7
  let v28 : BitVec 1 := Scalar.andi v25 v27
  let v14 : BitVec 32 := Scalar.divsi v13 c512_i32_3
  let c1_i32 : BitVec 32 := 1#32
  let v29 : BitVec 32 := Scalar.subi v14 c1_i32
  let v30 : BitVec 32 := Scalar.select v28 v29 v14
  let c0_i32_9 : BitVec 32 := 0#32
  let v33 : BitVec 32 := Scalar.addi v30 c0_i32_9
  let c512_i32_10 : BitVec 32 := 512#32
  let v34 : BitVec 32 := Scalar.muli v33 c512_i32_10
  let v35 : BitVec 32 := v34
  let v36 : Index := Scalar.indexCast v35
  let c0_11 : Index := 0#32
  ![v36.toNat, 0]
@[reducible] def k0_t1_loop (i : grid0.Coords) : Scf.Loop 32 :=
  let c0_i32_27 : BitVec 32 := 0#32
  let arg1 : BitVec 32 := BitVec.ofNat 32 (i 1).val
  let c512_i32_2 : BitVec 32 := 512#32
  let v13 : BitVec 32 := Scalar.muli arg1 c512_i32_2
  let c0_i32 : BitVec 32 := 0#32
  let v15 : BitVec 1 := Scalar.cmpi .sgt v13 c0_i32
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c512_i32_3 : BitVec 32 := 512#32
  let c0_i32_5 : BitVec 32 := 0#32
  let v20 : BitVec 1 := Scalar.cmpi .sgt c512_i32_3 c0_i32_5
  let v21 : BitVec 32 := Scalar.extui v20
  let c0_i32_6 : BitVec 32 := 0#32
  let v22 : BitVec 1 := Scalar.cmpi .slt c512_i32_3 c0_i32_6
  let v23 : BitVec 32 := Scalar.extui v22
  let v24 : BitVec 32 := Scalar.subi v21 v23
  let v25 : BitVec 1 := Scalar.cmpi .ne v19 v24
  let v26 : BitVec 32 := Scalar.remsi v13 c512_i32_3
  let c0_i32_7 : BitVec 32 := 0#32
  let v27 : BitVec 1 := Scalar.cmpi .ne v26 c0_i32_7
  let v28 : BitVec 1 := Scalar.andi v25 v27
  let v14 : BitVec 32 := Scalar.divsi v13 c512_i32_3
  let c1_i32 : BitVec 32 := 1#32
  let v29 : BitVec 32 := Scalar.subi v14 c1_i32
  let v30 : BitVec 32 := Scalar.select v28 v29 v14
  let v89 : BitVec 32 := Scalar.subi v30 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let c1_i32_29 : BitVec 32 := 1#32
  ⟨c0_i32_27, v93, c1_i32_29⟩
def k0_mult2 (i : grid0.Coords) (k0_t1 : Fin (k0_t1_loop i).trips) : BitVec 32 :=
  let arg1 : BitVec 32 := BitVec.ofNat 32 (i 1).val
  let c512_i32_2 : BitVec 32 := 512#32
  let v13 : BitVec 32 := Scalar.muli arg1 c512_i32_2
  let c0_i32 : BitVec 32 := 0#32
  let v15 : BitVec 1 := Scalar.cmpi .sgt v13 c0_i32
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c512_i32_3 : BitVec 32 := 512#32
  let c0_i32_5 : BitVec 32 := 0#32
  let v20 : BitVec 1 := Scalar.cmpi .sgt c512_i32_3 c0_i32_5
  let v21 : BitVec 32 := Scalar.extui v20
  let c0_i32_6 : BitVec 32 := 0#32
  let v22 : BitVec 1 := Scalar.cmpi .slt c512_i32_3 c0_i32_6
  let v23 : BitVec 32 := Scalar.extui v22
  let v24 : BitVec 32 := Scalar.subi v21 v23
  let v25 : BitVec 1 := Scalar.cmpi .ne v19 v24
  let v26 : BitVec 32 := Scalar.remsi v13 c512_i32_3
  let c0_i32_7 : BitVec 32 := 0#32
  let v27 : BitVec 1 := Scalar.cmpi .ne v26 c0_i32_7
  let v28 : BitVec 1 := Scalar.andi v25 v27
  let v14 : BitVec 32 := Scalar.divsi v13 c512_i32_3
  let c1_i32 : BitVec 32 := 1#32
  let v29 : BitVec 32 := Scalar.subi v14 c1_i32
  let v30 : BitVec 32 := Scalar.select v28 v29 v14
  let c1_i32_36 : BitVec 32 := 1#32
  let v101 : BitVec 32 := Scalar.subi v30 c1_i32_36
  let c0_i32_27 : BitVec 32 := 0#32
  let c1_i32_29 : BitVec 32 := 1#32
  let arg7 : BitVec 32 := Scf.iv c0_i32_27 c1_i32_29 k0_t1
  let v102 : BitVec 32 := Scalar.subi v101 arg7
  let c512_i32_37 : BitVec 32 := 512#32
  let v103 : BitVec 32 := Scalar.muli v102 c512_i32_37
  v103
def k0_off2 (i : grid0.Coords) (k0_t1 : Fin (k0_t1_loop i).trips) : Fin 2 → Nat :=
  let arg1 : BitVec 32 := BitVec.ofNat 32 (i 1).val
  let c512_i32_2 : BitVec 32 := 512#32
  let v13 : BitVec 32 := Scalar.muli arg1 c512_i32_2
  let c0_i32 : BitVec 32 := 0#32
  let v15 : BitVec 1 := Scalar.cmpi .sgt v13 c0_i32
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c512_i32_3 : BitVec 32 := 512#32
  let c0_i32_5 : BitVec 32 := 0#32
  let v20 : BitVec 1 := Scalar.cmpi .sgt c512_i32_3 c0_i32_5
  let v21 : BitVec 32 := Scalar.extui v20
  let c0_i32_6 : BitVec 32 := 0#32
  let v22 : BitVec 1 := Scalar.cmpi .slt c512_i32_3 c0_i32_6
  let v23 : BitVec 32 := Scalar.extui v22
  let v24 : BitVec 32 := Scalar.subi v21 v23
  let v25 : BitVec 1 := Scalar.cmpi .ne v19 v24
  let v26 : BitVec 32 := Scalar.remsi v13 c512_i32_3
  let c0_i32_7 : BitVec 32 := 0#32
  let v27 : BitVec 1 := Scalar.cmpi .ne v26 c0_i32_7
  let v28 : BitVec 1 := Scalar.andi v25 v27
  let v14 : BitVec 32 := Scalar.divsi v13 c512_i32_3
  let c1_i32 : BitVec 32 := 1#32
  let v29 : BitVec 32 := Scalar.subi v14 c1_i32
  let v30 : BitVec 32 := Scalar.select v28 v29 v14
  let c1_i32_36 : BitVec 32 := 1#32
  let v101 : BitVec 32 := Scalar.subi v30 c1_i32_36
  let c0_i32_27 : BitVec 32 := 0#32
  let c1_i32_29 : BitVec 32 := 1#32
  let arg7 : BitVec 32 := Scf.iv c0_i32_27 c1_i32_29 k0_t1
  let v102 : BitVec 32 := Scalar.subi v101 arg7
  let c512_i32_37 : BitVec 32 := 512#32
  let v103 : BitVec 32 := Scalar.muli v102 c512_i32_37
  let v104 : BitVec 32 := v103
  let v105 : Index := Scalar.indexCast v104
  let c0_38 : Index := 0#32
  ![v105.toNat, 0]
@[reducible] def k0_t2_loop (i : grid0.Coords) : Scf.Loop 32 :=
  let c0_i32_27 : BitVec 32 := 0#32
  let arg1 : BitVec 32 := BitVec.ofNat 32 (i 1).val
  let c512_i32_2 : BitVec 32 := 512#32
  let v13 : BitVec 32 := Scalar.muli arg1 c512_i32_2
  let c0_i32 : BitVec 32 := 0#32
  let v15 : BitVec 1 := Scalar.cmpi .sgt v13 c0_i32
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c512_i32_3 : BitVec 32 := 512#32
  let c0_i32_5 : BitVec 32 := 0#32
  let v20 : BitVec 1 := Scalar.cmpi .sgt c512_i32_3 c0_i32_5
  let v21 : BitVec 32 := Scalar.extui v20
  let c0_i32_6 : BitVec 32 := 0#32
  let v22 : BitVec 1 := Scalar.cmpi .slt c512_i32_3 c0_i32_6
  let v23 : BitVec 32 := Scalar.extui v22
  let v24 : BitVec 32 := Scalar.subi v21 v23
  let v25 : BitVec 1 := Scalar.cmpi .ne v19 v24
  let v26 : BitVec 32 := Scalar.remsi v13 c512_i32_3
  let c0_i32_7 : BitVec 32 := 0#32
  let v27 : BitVec 1 := Scalar.cmpi .ne v26 c0_i32_7
  let v28 : BitVec 1 := Scalar.andi v25 v27
  let v14 : BitVec 32 := Scalar.divsi v13 c512_i32_3
  let c1_i32 : BitVec 32 := 1#32
  let v29 : BitVec 32 := Scalar.subi v14 c1_i32
  let v30 : BitVec 32 := Scalar.select v28 v29 v14
  let v89 : BitVec 32 := Scalar.subi v30 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let v90 : BitVec 32 := Scalar.addi c0_i32_27 v89
  let c1_i32_30 : BitVec 32 := 1#32
  ⟨v93, v90, c1_i32_30⟩
def k0_mult3 (i : grid0.Coords) (k0_t2 : Fin (k0_t2_loop i).trips) : BitVec 32 :=
  let arg1 : BitVec 32 := BitVec.ofNat 32 (i 1).val
  let c512_i32_2 : BitVec 32 := 512#32
  let v13 : BitVec 32 := Scalar.muli arg1 c512_i32_2
  let c0_i32 : BitVec 32 := 0#32
  let v15 : BitVec 1 := Scalar.cmpi .sgt v13 c0_i32
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c512_i32_3 : BitVec 32 := 512#32
  let c0_i32_5 : BitVec 32 := 0#32
  let v20 : BitVec 1 := Scalar.cmpi .sgt c512_i32_3 c0_i32_5
  let v21 : BitVec 32 := Scalar.extui v20
  let c0_i32_6 : BitVec 32 := 0#32
  let v22 : BitVec 1 := Scalar.cmpi .slt c512_i32_3 c0_i32_6
  let v23 : BitVec 32 := Scalar.extui v22
  let v24 : BitVec 32 := Scalar.subi v21 v23
  let v25 : BitVec 1 := Scalar.cmpi .ne v19 v24
  let v26 : BitVec 32 := Scalar.remsi v13 c512_i32_3
  let c0_i32_7 : BitVec 32 := 0#32
  let v27 : BitVec 1 := Scalar.cmpi .ne v26 c0_i32_7
  let v28 : BitVec 1 := Scalar.andi v25 v27
  let v14 : BitVec 32 := Scalar.divsi v13 c512_i32_3
  let c1_i32 : BitVec 32 := 1#32
  let v29 : BitVec 32 := Scalar.subi v14 c1_i32
  let v30 : BitVec 32 := Scalar.select v28 v29 v14
  let c1_i32_36 : BitVec 32 := 1#32
  let v101 : BitVec 32 := Scalar.subi v30 c1_i32_36
  let c0_i32_27 : BitVec 32 := 0#32
  let v89 : BitVec 32 := Scalar.subi v30 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let c1_i32_30 : BitVec 32 := 1#32
  let arg7 : BitVec 32 := Scf.iv v93 c1_i32_30 k0_t2
  let v102 : BitVec 32 := Scalar.subi v101 arg7
  let c512_i32_37 : BitVec 32 := 512#32
  let v103 : BitVec 32 := Scalar.muli v102 c512_i32_37
  v103
def k0_off3 (i : grid0.Coords) (k0_t2 : Fin (k0_t2_loop i).trips) : Fin 2 → Nat :=
  let arg1 : BitVec 32 := BitVec.ofNat 32 (i 1).val
  let c512_i32_2 : BitVec 32 := 512#32
  let v13 : BitVec 32 := Scalar.muli arg1 c512_i32_2
  let c0_i32 : BitVec 32 := 0#32
  let v15 : BitVec 1 := Scalar.cmpi .sgt v13 c0_i32
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c512_i32_3 : BitVec 32 := 512#32
  let c0_i32_5 : BitVec 32 := 0#32
  let v20 : BitVec 1 := Scalar.cmpi .sgt c512_i32_3 c0_i32_5
  let v21 : BitVec 32 := Scalar.extui v20
  let c0_i32_6 : BitVec 32 := 0#32
  let v22 : BitVec 1 := Scalar.cmpi .slt c512_i32_3 c0_i32_6
  let v23 : BitVec 32 := Scalar.extui v22
  let v24 : BitVec 32 := Scalar.subi v21 v23
  let v25 : BitVec 1 := Scalar.cmpi .ne v19 v24
  let v26 : BitVec 32 := Scalar.remsi v13 c512_i32_3
  let c0_i32_7 : BitVec 32 := 0#32
  let v27 : BitVec 1 := Scalar.cmpi .ne v26 c0_i32_7
  let v28 : BitVec 1 := Scalar.andi v25 v27
  let v14 : BitVec 32 := Scalar.divsi v13 c512_i32_3
  let c1_i32 : BitVec 32 := 1#32
  let v29 : BitVec 32 := Scalar.subi v14 c1_i32
  let v30 : BitVec 32 := Scalar.select v28 v29 v14
  let c1_i32_36 : BitVec 32 := 1#32
  let v101 : BitVec 32 := Scalar.subi v30 c1_i32_36
  let c0_i32_27 : BitVec 32 := 0#32
  let v89 : BitVec 32 := Scalar.subi v30 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let c1_i32_30 : BitVec 32 := 1#32
  let arg7 : BitVec 32 := Scf.iv v93 c1_i32_30 k0_t2
  let v102 : BitVec 32 := Scalar.subi v101 arg7
  let c512_i32_37 : BitVec 32 := 512#32
  let v103 : BitVec 32 := Scalar.muli v102 c512_i32_37
  let v104 : BitVec 32 := v103
  let v105 : Index := Scalar.indexCast v104
  let c0_38 : Index := 0#32
  ![v105.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbFwdReferenceIdeal.lean ====
abbrev S4096x10240 : Shape := ⟨2, ![4096, 10240]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096 : Shape := ⟨2, ![8, 4096]⟩
abbrev S8x4096x1 : Shape := ⟨3, ![8, 4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x10240, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S4096x8x128, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S1x4096, .i32⟩
  | .hbm, ⟨13, _⟩ => ⟨S4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S_, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .i1⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S_, .f32⟩
  | .hbm, ⟨63, _⟩ => ⟨S8x4096x4096, .i1⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x128x4096, .f32⟩
  | .hbm, ⟨68, _⟩ => ⟨S4096x8x128, .f32⟩
  | .hbm, ⟨69, _⟩ => ⟨S4096x1024, .f32⟩
  | .hbm, ⟨70, _⟩ => ⟨S4096x1024, .bf16⟩
  | .hbm, ⟨71, _⟩ => ⟨S4096x1024, .f32⟩
  | .hbm, ⟨72, _⟩ => ⟨S4096x8x128, .f32⟩
  | .hbm, ⟨73, _⟩ => ⟨S4096x1024, .f32⟩
  | .hbm, ⟨74, _⟩ => ⟨S4096x8x128, .f32⟩
  | .hbm, ⟨75, _⟩ => ⟨S8x4096x4096, .f32⟩
  | .hbm, ⟨76, _⟩ => ⟨S_, .f32⟩
  | .hbm, ⟨77, _⟩ => ⟨S8x4096x4096, .f32⟩
  | .hbm, ⟨78, _⟩ => ⟨S8x4096x4096, .f32⟩
  | .hbm, ⟨79, _⟩ => ⟨S4096, .i32⟩
  | .hbm, ⟨80, _⟩ => ⟨S1x4096, .i32⟩
  | .hbm, ⟨81, _⟩ => ⟨S4096, .i32⟩
  | .hbm, ⟨82, _⟩ => ⟨S4096x1, .i32⟩
  | .hbm, ⟨83, _⟩ => ⟨S4096x4096, .i32⟩
  | .hbm, ⟨84, _⟩ => ⟨S4096x4096, .i32⟩
  | .hbm, ⟨85, _⟩ => ⟨S4096x4096, .i1⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S8x4096x4096, .i1⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S8x4096x4096, .f32⟩
  | .hbm, ⟨98, _⟩ => ⟨S8x4096x4096, .f32⟩
  | .hbm, ⟨99, _⟩ => ⟨S8x4096x4096, .f32⟩
  | .hbm, ⟨100, _⟩ => ⟨S8x4096x4096, .f32⟩
  | .hbm, ⟨101, _⟩ => ⟨S8x4096x4096, .f32⟩
  | .hbm, ⟨102, _⟩ => ⟨S8x4096x4096, .f32⟩
  | .hbm, ⟨103, _⟩ => ⟨S_, .f32⟩
  | .hbm, ⟨104, _⟩ => ⟨S_, .f32⟩
  | .hbm, ⟨105, _⟩ => ⟨S8x4096x4096, .i1⟩
  | .hbm, ⟨106, _⟩ => ⟨S8x4096x4096, .f32⟩
  | .hbm, ⟨107, _⟩ => ⟨S8x4096x4096, .f32⟩
  | .hbm, ⟨108, _⟩ => ⟨S_, .f32⟩
  | .hbm, ⟨109, _⟩ => ⟨S8x4096, .f32⟩
  | .hbm, ⟨110, _⟩ => ⟨S8x4096x1, .f32⟩
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_2 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_call5_v0 : Ref sig .tc := ⟨.hbm, 87, rfl⟩
abbrev main_call5_call0_cst : Ref sig .tc := ⟨.hbm, 88, rfl⟩
abbrev main_call5_call0_v0 : Ref sig .tc := ⟨.hbm, 89, rfl⟩
abbrev main_call5_call0_v1 : Ref sig .tc := ⟨.hbm, 90, rfl⟩
abbrev main_call5_call0_v2 : Ref sig .tc := ⟨.hbm, 91, rfl⟩
abbrev main_call5_call0_v3 : Ref sig .tc := ⟨.hbm, 92, rfl⟩
abbrev main_call5_call0_v4 : Ref sig .tc := ⟨.hbm, 93, rfl⟩
abbrev main_call5_call0_v5 : Ref sig .tc := ⟨.hbm, 94, rfl⟩
abbrev main_call5_call0_v6 : Ref sig .tc := ⟨.hbm, 95, rfl⟩
abbrev main_call5_call0_v7 : Ref sig .tc := ⟨.hbm, 96, rfl⟩
abbrev main_call5_call0_v8 : Ref sig .tc := ⟨.hbm, 97, rfl⟩
abbrev main_call5_call0_v9 : Ref sig .tc := ⟨.hbm, 98, rfl⟩
abbrev main_call5_call0_v10 : Ref sig .tc := ⟨.hbm, 99, rfl⟩
abbrev main_call5_call0_v11 : Ref sig .tc := ⟨.hbm, 100, rfl⟩
abbrev main_call5_v1 : Ref sig .tc := ⟨.hbm, 101, rfl⟩
abbrev main_v44 : Ref sig .tc := ⟨.hbm, 102, rfl⟩
abbrev main_cst_3 : Ref sig .tc := ⟨.hbm, 103, rfl⟩
abbrev main_call6_v0 : Ref sig .tc := ⟨.hbm, 104, rfl⟩
abbrev main_call6_v1 : Ref sig .tc := ⟨.hbm, 105, rfl⟩
abbrev main_call6_v2 : Ref sig .tc := ⟨.hbm, 106, rfl⟩
abbrev main_v45 : Ref sig .tc := ⟨.hbm, 107, rfl⟩
abbrev main_cst_4 : Ref sig .tc := ⟨.hbm, 108, rfl⟩
abbrev main_v46 : Ref sig .tc := ⟨.hbm, 109, rfl⟩
abbrev main_v47 : Ref sig .tc := ⟨.hbm, 110, rfl⟩

abbrev nD : Nat := 1
abbrev τ : Topo := Topo.v7x

variable {F : FTy → Type} [FloatOps F]
-- ==== MemFwd.lean ====
abbrev S4096x10240 : Shape := ⟨2, ![4096, 10240]⟩
abbrev S256x1024 : Shape := ⟨2, ![256, 1024]⟩
abbrev S4096x512 : Shape := ⟨2, ![4096, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x10240, .f32⟩
  | .hbm, ⟨1, _⟩ => ⟨S256x1024, .f32⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .bf16⟩
  | .local _ .vmem, ⟨4, _⟩ => ⟨S512x512, .bf16⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemFwdReferenceIdeal.lean ====
abbrev S4096x10240 : Shape := ⟨2, ![4096, 10240]⟩
abbrev S256x1024 : Shape := ⟨2, ![256, 1024]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x10240, .f32⟩
  | .hbm, ⟨1, _⟩ => ⟨S256x1024, .f32⟩
  | .hbm, ⟨2, _⟩ => ⟨S4096x512, .f32⟩
  | .hbm, ⟨3, _⟩ => ⟨S4096x4x128, .f32⟩
  | .hbm, ⟨4, _⟩ => ⟨S256x512, .f32⟩
  | .hbm, ⟨5, _⟩ => ⟨S256x512, .f32⟩
  | .hbm, ⟨6, _⟩ => ⟨S256x4x128, .f32⟩
  | .hbm, ⟨7, _⟩ => ⟨S256x4x128, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x256, .f32⟩
  | .hbm, ⟨25, _⟩ => ⟨S4x4096x256, .f32⟩
  | .hbm, ⟨26, _⟩ => ⟨S4x128x4096, .f32⟩
  | .hbm, ⟨27, _⟩ => ⟨S4096x4x128, .f32⟩
  | .hbm, ⟨28, _⟩ => ⟨S4096x512, .f32⟩
  | .hbm, ⟨29, _⟩ => ⟨S4096x512, .bf16⟩
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.SB.Tile.lean ====
/- Tiles of real numbers, and what each vector operation of the kernel makes of them. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.SB

/-- The array of two axes whose element (r, c) is the real number `f r c`. -/
def tile {n m : ℕ} {φ : FTy} (f : ℕ → ℕ → ℝ) : FVec Ideal ⟨2, ![n, m]⟩ φ :=
  fun i => ((f (i 0).val (i 1).val : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers over `Fin n`, as the sum over the first `n` naturals. -/
theorem sum_fin {n : ℕ} (f : ℕ → ℝ) : (∑ k : Fin n, ((f k.val : ℝ) : EReal)) = ((∑ k ∈ Finset.range n, f k : ℝ) : EReal) := by
  rw [Finset.sum_range, coe_sum]

section Ops

variable {n m : ℕ} {φ ψ : FTy} (f g : ℕ → ℕ → ℝ)

theorem tile_at (r : Fin n) (l : Fin m) : (tile f : FVec Ideal ⟨2, ![n, m]⟩ φ) (ix2 r l) = ((f r.val l.val : ℝ) : EReal) := rfl

theorem addf_tile : addf (tile f : FVec Ideal ⟨2, ![n, m]⟩ φ) (tile g) = tile fun t s => f t s + g t s :=
  funext fun _ => (EReal.coe_add _ _).symm

theorem subf_tile : subf (tile f : FVec Ideal ⟨2, ![n, m]⟩ φ) (tile g) = tile fun t s => f t s - g t s :=
  funext fun _ => (EReal.coe_sub _ _).symm

theorem mulf_tile : mulf (tile f : FVec Ideal ⟨2, ![n, m]⟩ φ) (tile g) = tile fun t s => f t s * g t s :=
  funext fun _ => (EReal.coe_mul _ _).symm

theorem minimumf_tile : minimumf (tile f : FVec Ideal ⟨2, ![n, m]⟩ φ) (tile g) = tile fun t s => min (f t s) (g t s) :=
  funext fun _ => (EReal.coe_strictMono.monotone.map_min).symm

theorem absf_tile : absf (tile f : FVec Ideal ⟨2, ![n, m]⟩ φ) = tile fun t s => |f t s| :=
  funext fun _ => ((EReal.coe_strictMono.monotone.map_max (a := _) (b := -_)).trans
    (congrArg _ (EReal.coe_neg _))).symm

theorem exp_tile : exp (tile f : FVec Ideal ⟨2, ![n, m]⟩ φ) = tile fun t s => Real.exp (f t s) :=
  funext fun _ => rfl

theorem log_tile (h : ∀ t s, 0 < f t s) : log (tile f : FVec Ideal ⟨2, ![n, m]⟩ φ) = tile fun t s => Real.log (f t s) :=
  funext fun i => (if_neg (not_le.2 (h (i 0).val (i 1).val)))

theorem truncf_tile (h : FTy.bits ψ < FTy.bits φ) : truncf ψ (tile f : FVec Ideal ⟨2, ![n, m]⟩ φ) h = tile f :=
  rfl

theorem extf_tile (h : FTy.bits φ < FTy.bits ψ) : extf ψ (tile f : FVec Ideal ⟨2, ![n, m]⟩ φ) h = tile f :=
  rfl

theorem zero_tile : broadcast (⟨2, ![n, m]⟩ : Shape) (Scalar.ofBits (F := Ideal) .f32 0x00000000#32) = tile fun _ _ => 0 := by
  funext i; pointwise [tile]; rfl

theorem one_tile : broadcast (⟨2, ![n, m]⟩ : Shape) (Scalar.ofBits (F := Ideal) .f32 0x3F800000#32) = tile fun _ _ => 1 := by
  funext i; pointwise [tile]; rfl

theorem select_tile (c : IVec ⟨2, ![n, m]⟩ 1) (M : ℕ → ℕ → Prop) [DecidableRel M]
    (hc : ∀ (r : Fin n) (l : Fin m), c (ix2 r l) = if M r.val l.val then 1#1 else 0#1) :
    select c (tile f : FVec Ideal ⟨2, ![n, m]⟩ φ) (tile g) = tile fun t s => if M t s then f t s else g t s := by
  funext i
  have hi := hc (i 0) (i 1)
  rw [← eq_ix2 i] at hi
  show Scalar.select (c i) _ _ = _
  rw [hi]
  unfold tile
  by_cases h : M (i 0).val (i 1).val
  · simp only [if_pos h]; rfl
  · simp only [if_neg h]; rfl

end Ops

end Cert.SB

end
-- ==== Proof.SB.Block.lean ====
/- One block of the kernel's inner loop as a function of whole vectors, and its value on tiles of real numbers. -/
module

public import proofs.«01_k».proof.Proof.SB.Tile
public import Idealize.ShloMosaic.Lib.WordCmp

@[expose] public section

set_option maxRecDepth 16384

noncomputable section

open Idealize.ShloMosaic Idealize.ShloMosaic.TcCoe Idealize.SL.Sem

namespace Cert.SB

open Cert.KernelIdeal Cert.KernelIdeal.Gen

/-- The scale of the logits, the real number the kernel's constant names. -/
def sc : ℝ := (Ideal.ofBits .f32 0x3DB504F3#32).toReal

theorem ofBits_sc : Ideal.ofBits .f32 0x3DB504F3#32 = (sc : EReal) := by
  have h : ∃ r : ℝ, Ideal.ofBits .f32 0x3DB504F3#32 = (r : EReal) := by
    refine ⟨11863283 * ((2 ^ 27 : ℝ))⁻¹, ?_⟩
    simp [Ideal.ofBits, Ideal.ieee]
  obtain ⟨r, hr⟩ := h
  rw [sc, hr, EReal.toReal_coe]

theorem sc_tile {n m : ℕ} : broadcast (⟨2, ![n, m]⟩ : Shape) (Scalar.ofBits (F := Ideal) .f32 0x3DB504F3#32) = tile fun _ _ => sc := by
  funext i; exact ofBits_sc

variable (f g h : ℕ → ℕ → ℝ)

theorem matmul_qk : matmul dot_S512x128_S512x128_S512x512_1_1_0_0_n_n none (tile f : FVec Ideal S512x128 .bf16)
    (tile g : FVec Ideal S512x128 .bf16) (constant S512x512 .f32 0x00000000#32)
    = tile fun t s => ∑ d ∈ Finset.range 128, f t d * g s d := by
  funext i; idx_vars i; pointwise
  simp only [tile_at, ← EReal.coe_mul, zero_add]
  exact sum_fin fun d => f i0.val d * g i1.val d

theorem matmul_dk : matmul dot_S512x512_S512x128_S512x128_1_0_0_1_n_n none (tile f : FVec Ideal S512x512 .bf16)
    (tile g : FVec Ideal S512x128 .bf16) (constant S512x128 .f32 0x00000000#32)
    = tile fun t d => ∑ s ∈ Finset.range 512, f t s * g s d := by
  funext i; idx_vars i; pointwise
  simp only [tile_at, ← EReal.coe_mul, zero_add]
  exact sum_fin fun d => f i0.val d * g d i1.val

theorem matmul_tn : matmul dot_S512x512_S512x128_S512x128_0_0_1_1_n_n none (tile f : FVec Ideal S512x512 .bf16)
    (tile g : FVec Ideal S512x128 .bf16) (constant S512x128 .f32 0x00000000#32)
    = tile fun s d => ∑ t ∈ Finset.range 512, f t s * g t d := by
  funext i; idx_vars i; pointwise
  simp only [tile_at, ← EReal.coe_mul, zero_add]
  exact sum_fin fun t => f t i0.val * g t i1.val

theorem bc_128 (h) : broadcastTo S512x128 (tile f : FVec Ideal S512x1 .f32) h = tile fun t _ => f t 0 := by
  funext i; idx_vars i; pointwise [tile_at]

theorem bc_512 (h) : broadcastTo S512x512 (tile f : FVec Ideal S512x1 .f32) h = tile fun t _ => f t 0 := by
  funext i; idx_vars i; pointwise [tile_at]

theorem slice_tile (o : ℕ) (h) : extractStridedSlice S512x128 ![0, o] (tile f : FVec Ideal S512x512 .f32) h
    = tile fun t s => f t (o + s) := by
  funext i; idx_vars i; pointwise [tile_at]

/-- The sum of each row of 128 elements, as a column. -/
def rsum (x : FVec Ideal S512x128 .f32) : FVec Ideal S512x1 .f32 :=
  shapeCast S512x1 (multiReduction .add [1] S512 x 0x00000000#32 reduces_S512x128_S512 (.inl rfl) rfl) shapeCasts_S512_S512x1

theorem rsum_tile : rsum (tile f) = tile fun t _ => ∑ s ∈ Finset.range 128, f t s := by
  funext i; idx_vars i; pointwise [rsum]
  simp only [tile_at]
  exact sum_fin fun s => f i0.val s

/-- The sum of each row of 512 elements, as a column. -/
def rsum' (x : FVec Ideal S512x512 .f32) : FVec Ideal S512x1 .f32 :=
  shapeCast S512x1 (multiReduction .add [1] S512 x 0x00000000#32 reduces_S512x512_S512 (.inl rfl) rfl) shapeCasts_S512_S512x1

theorem rsum'_tile : rsum' (tile f) = tile fun t _ => ∑ s ∈ Finset.range 512, f t s := by
  funext i; idx_vars i; pointwise [rsum']
  simp only [tile_at]
  exact sum_fin fun s => f i0.val s

/-- 128 columns multiplied by a 0/1 matrix, the columns given as a high and a low part. -/
def grp (u : FVec Ideal S256x128 .bf16) (x : FVec Ideal S512x128 .f32) : FVec Ideal S512x128 .f32 :=
  matmul dot_S512x256_S256x128_S512x128_1_0_0_1_n_n none
    (concatenate S512x256 1 [⟨S512x128, truncf .bf16 x bitsLt_bf16_f32⟩,
      ⟨S512x128, truncf .bf16 (subf x (extf .f32 (truncf .bf16 x bitsLt_bf16_f32) bitsLt_bf16_f32)) bitsLt_bf16_f32⟩]
      concatenates_S512x128_S512x128_S512x256_d1) u (constant S512x128 .f32 0x00000000#32)

/-- The 0/1 matrix of a relation, written twice, one above the other. -/
def U (R : ℕ → ℕ → Prop) [DecidableRel R] : ℕ → ℕ → ℝ := fun j s => if R (j % 128) s then 1 else 0

theorem grp_tile (R : ℕ → ℕ → Prop) [DecidableRel R] : grp (tile (U R)) (tile f)
    = tile fun t s => ∑ j ∈ (Finset.range 128).filter (fun j => R j s), f t j := by
  funext i; idx_vars i; pointwise [grp]
  simp only [tile_at, ← EReal.coe_mul, ← EReal.coe_sub, sub_self, zero_mul, EReal.coe_zero, Finset.sum_const_zero, add_zero]
  rw [sum_fin fun j => f i0.val j * U R j i1.val, Finset.sum_filter]
  refine congrArg _ (Finset.sum_congr rfl fun j hj => ?_)
  have hj : j % 128 = j := Nat.mod_eq_of_lt (Finset.mem_range.1 hj)
  simp [U, hj]

theorem word_row (a : ℕ) (ha : a < 256) : Scalar.select (IntOp.cmpi .sge (BitVec.ofNat 32 a) 128#32)
    (IntOp.subi (BitVec.ofNat 32 a) 128#32) (BitVec.ofNat 32 a) = BitVec.ofNat 32 (a % 128) := by
  by_cases h : 128 ≤ a
  · have e : IntOp.subi (BitVec.ofNat 32 a) 128#32 = BitVec.ofNat 32 (a % 128) := by
      show BitVec.ofNat 32 a - BitVec.ofNat 32 128 = _
      rw [BitVec.ofNat_sub_ofNat_of_le a 128 (by norm_num) h]
      congr 1; omega
    rw [e]
    word_cmp
    rw [if_pos h]
  · rw [Nat.mod_eq_of_lt (not_le.1 h)]
    word_cmp
    rw [if_neg h]

theorem word_real (p : Prop) [Decidable p] : FloatOps.sitofp (F := Ideal) FTy.f32 (BitVec.setWidth 32 (BitVec.ofBool (decide p)))
    = (((if p then 1 else 0 : ℝ)) : EReal) := by
  show (((BitVec.setWidth 32 (BitVec.ofBool (decide p))).toInt : ℝ) : EReal) = _
  by_cases h : p
  · rw [decide_eq_true h, if_pos h]
    rw [show (BitVec.setWidth 32 (BitVec.ofBool true)).toInt = 1 by decide]; simp
  · rw [decide_eq_false h, if_neg h]
    rw [show (BitVec.setWidth 32 (BitVec.ofBool false)).toInt = 0 by decide]; simp

theorem pay57_eq : k0_pay57 (F := Ideal) = tile (U fun j s => j ≤ s) := by
  funext i; idx_vars i; pointwise [k0_pay57]
  rw [word_row _ i0.isLt]
  have := Nat.mod_lt i0.val (show 128 > 0 by norm_num)
  simp (disch := word_cmp_side) only [hlo_ix]
  exact word_real _

theorem pay58_eq : k0_pay58 (F := Ideal) = tile (U fun j s => j < s) := by
  funext i; idx_vars i; pointwise [k0_pay58]
  rw [word_row _ i0.isLt]
  have := Nat.mod_lt i0.val (show 128 > 0 by norm_num)
  simp (disch := word_cmp_side) only [hlo_ix]
  exact word_real _

/-- The prefix sums of the rows of 512 elements, 128 columns at a time. -/
def pref (u : FVec Ideal S256x128 .bf16) (x : FVec Ideal S512x512 .f32) : FVec Ideal S512x512 .f32 :=
  concatenate S512x512 1
    [⟨S512x128, grp u (extractStridedSlice S512x128 ![0, 0] x slices_S512x512_o0_0_S512x128)⟩,
     ⟨S512x128, addf (grp u (extractStridedSlice S512x128 ![0, 128] x slices_S512x512_o0_128_S512x128))
        (broadcastTo S512x128 (rsum (extractStridedSlice S512x128 ![0, 0] x slices_S512x512_o0_0_S512x128)) broadcasts_S512x1_S512x128)⟩,
     ⟨S512x128, addf (grp u (extractStridedSlice S512x128 ![0, 256] x slices_S512x512_o0_256_S512x128))
        (broadcastTo S512x128 (addf (rsum (extractStridedSlice S512x128 ![0, 0] x slices_S512x512_o0_0_S512x128))
          (rsum (extractStridedSlice S512x128 ![0, 128] x slices_S512x512_o0_128_S512x128))) broadcasts_S512x1_S512x128)⟩,
     ⟨S512x128, addf (grp u (extractStridedSlice S512x128 ![0, 384] x slices_S512x512_o0_384_S512x128))
        (broadcastTo S512x128 (addf (addf (rsum (extractStridedSlice S512x128 ![0, 0] x slices_S512x512_o0_0_S512x128))
          (rsum (extractStridedSlice S512x128 ![0, 128] x slices_S512x512_o0_128_S512x128)))
          (rsum (extractStridedSlice S512x128 ![0, 256] x slices_S512x512_o0_256_S512x128))) broadcasts_S512x1_S512x128)⟩]
    concatenates_S512x128_S512x128_S512x128_S512x128_S512x512_d1

theorem sum_shift (f : ℕ → ℝ) (o n : ℕ) (P : ℕ → Prop) [DecidablePred P] (Q : ℕ → Prop) [DecidablePred Q]
    (h : ∀ j, Q (o + j) ↔ P j) :
    ∑ j ∈ (Finset.range (o + n)).filter Q, f j
      = ∑ j ∈ (Finset.range o).filter Q, f j + ∑ j ∈ (Finset.range n).filter P, f (o + j) := by
  simp only [Finset.sum_filter]
  rw [Finset.sum_range_add]
  refine congrArg _ (Finset.sum_congr rfl fun j _ => ?_)
  by_cases hp : P j
  · rw [if_pos hp, if_pos ((h j).2 hp)]
  · rw [if_neg hp, if_neg (fun hq => hp ((h j).1 hq))]

theorem pref_tile (e : ℕ) (he : e ≤ 1) : pref (tile (U fun j s => j < s + e)) (tile f)
    = tile fun t s => ∑ j ∈ Finset.range (s + e), f t j := by
  have key : ∀ (t g s : ℕ), s < 128 → ∑ j ∈ Finset.range (128 * g + s + e), f t j
      = ∑ j ∈ Finset.range 128 with j < s + e, f t (128 * g + j) + ∑ j ∈ Finset.range (128 * g), f t j := by
    intro t g s hs
    rw [add_assoc, Finset.sum_range_add, add_comm]
    refine congrArg (· + _) (Finset.sum_congr ?_ fun _ _ => rfl)
    ext j; simp only [Finset.mem_filter, Finset.mem_range]; omega
  have r1 : ∀ t, ∑ j ∈ Finset.range 128, f t (0 + j) = ∑ j ∈ Finset.range 128, f t j := by simp
  have r2 : ∀ t, ∑ j ∈ Finset.range 256, f t j = ∑ j ∈ Finset.range 128, f t j + ∑ j ∈ Finset.range 128, f t (128 + j) :=
    fun t => Finset.sum_range_add (f t) 128 128
  have r3 : ∀ t, ∑ j ∈ Finset.range 384, f t j = ∑ j ∈ Finset.range 256, f t j + ∑ j ∈ Finset.range 128, f t (256 + j) :=
    fun t => Finset.sum_range_add (f t) 256 128
  unfold pref
  rw [slice_tile f 0, slice_tile f 128, slice_tile f 256, slice_tile f 384]
  repeat rw [rsum_tile]
  repeat rw [grp_tile]
  repeat rw [addf_tile]
  repeat rw [bc_128]
  repeat rw [addf_tile]
  funext i; idx_vars i; pointwise [tile_at]
  have h1 := i1.isLt
  have k0 := key i0.val 0
  have k1 := key i0.val 1
  have k2 := key i0.val 2
  have k3 := key i0.val 3
  norm_num at k0 k1 k2 k3
  by_cases c1 : i1.val < 128
  · simp only [dif_pos c1, if_pos c1, tile_at, zero_add]
    rw [k0 _ c1]
  · by_cases c2 : i1.val - 128 < 128
    · simp only [dif_neg c1, if_neg c1, dif_pos c2, if_pos c2, tile_at, r1]
      rw [← k1 _ c2]
      congr 3; omega
    · by_cases c3 : i1.val - 128 - 128 < 128
      · simp only [dif_neg c1, if_neg c1, dif_neg c2, if_neg c2, dif_pos c3, if_pos c3, tile_at, r1]
        rw [← r2, ← k2 _ c3]
        congr 3; omega
      · have c4 : i1.val - 128 - 128 - 128 < 128 := by omega
        simp only [dif_neg c1, if_neg c1, dif_neg c2, if_neg c2, dif_neg c3, if_neg c3, tile_at, r1]
        rw [← r2, ← r3, ← k3 _ c4]
        congr 3; omega

theorem pay57_tile : k0_pay57 (F := Ideal) = tile (U fun j s => j < s + 1) := by
  rw [pay57_eq]
  congr 1
  funext j s
  simp [U, Nat.lt_succ_iff]

theorem pay58_tile : k0_pay58 (F := Ideal) = tile (U fun j s => j < s + 0) := pay58_eq

/-! ## The block as a function of whole vectors -/

/-- The block's logits. -/
def zV (q k : FVec Ideal S512x128 .bf16) : FVec Ideal S512x512 .f32 :=
  mulf (matmul dot_S512x128_S512x128_S512x512_1_1_0_0_n_n none q k (constant S512x512 .f32 0x00000000#32))
    (broadcast S512x512 (Scalar.ofBits .f32 0x3DB504F3#32))

/-- log (1 + exp (-|z|)). -/
def softV (z : FVec Ideal S512x512 .f32) : FVec Ideal S512x512 .f32 :=
  log (addf (broadcast S512x512 (Scalar.ofBits .f32 0x3F800000#32))
    (exp (subf (broadcast S512x512 (Scalar.ofBits .f32 0x00000000#32)) (absf z))))

/-- The logarithm of the logistic function at the logits. -/
def lsV (z : FVec Ideal S512x512 .f32) : FVec Ideal S512x512 .f32 :=
  subf (minimumf z (broadcast S512x512 (Scalar.ofBits .f32 0x00000000#32))) (softV z)

/-- The logarithm of the logistic function at the negated logits. -/
def l1V (z : FVec Ideal S512x512 .f32) : FVec Ideal S512x512 .f32 :=
  subf (minimumf (subf (broadcast S512x512 (Scalar.ofBits .f32 0x00000000#32)) z)
    (broadcast S512x512 (Scalar.ofBits .f32 0x00000000#32))) (softV z)

/-- The weights: exp of ls plus what the total leaves after the prefix. -/
def wV (u : FVec Ideal S256x128 .bf16) (ls l1 : FVec Ideal S512x512 .f32) (c : FVec Ideal S512x1 .f32) : FVec Ideal S512x512 .f32 :=
  exp (addf ls (subf (broadcastTo S512x512 c broadcasts_S512x1_S512x512) (pref u l1)))

/-- The weights times their gradients. -/
def eV (dO v : FVec Ideal S512x128 .bf16) (w : FVec Ideal S512x512 .f32) : FVec Ideal S512x512 .f32 :=
  mulf w (matmul dot_S512x128_S512x128_S512x512_1_1_0_0_n_n none dO v (constant S512x512 .f32 0x00000000#32))

/-- The gradient of the logits before the scale. -/
def dzV (u : FVec Ideal S256x128 .bf16) (ls e : FVec Ideal S512x512 .f32) (ce : FVec Ideal S512x1 .f32) : FVec Ideal S512x512 .f32 :=
  mulf (subf (mulf e (subf (broadcast S512x512 (Scalar.ofBits .f32 0x3F800000#32)) (exp ls)))
      (mulf (exp ls) (addf (broadcastTo S512x512 ce broadcasts_S512x1_S512x512) (pref u e))))
    (broadcast S512x512 (Scalar.ofBits .f32 0x3DB504F3#32))

/-- A row block of the gradient of q, given the previous sum. -/
def dqV (prev : FVec Ideal S512x128 .f32) (dz : FVec Ideal S512x512 .f32) (k : FVec Ideal S512x128 .bf16) : FVec Ideal S512x128 .f32 :=
  addf prev (matmul dot_S512x512_S512x128_S512x128_1_0_0_1_n_n none (truncf .bf16 dz bitsLt_bf16_f32) k
    (constant S512x128 .f32 0x00000000#32))

/-- A row block of the gradient of k or v, given the previous sum. -/
def tnV (prev : FVec Ideal S512x128 .f32) (x : FVec Ideal S512x512 .f32) (q : FVec Ideal S512x128 .bf16) : FVec Ideal S512x128 .f32 :=
  addf prev (matmul dot_S512x512_S512x128_S512x128_0_0_1_1_n_n none (truncf .bf16 x bitsLt_bf16_f32) q
    (constant S512x128 .f32 0x00000000#32))

/-- Zero where the mask is off. -/
def mskV (m : IVec S512x512 1) (x : FVec Ideal S512x512 .f32) : FVec Ideal S512x512 .f32 :=
  select m x (broadcast S512x512 (Scalar.ofBits .f32 0x00000000#32))

/-! ## The block on real numbers -/

/-- log (logistic z). -/
def lsR (z : ℝ) : ℝ := min z 0 - Real.log (1 + Real.exp (-|z|))

/-- log (logistic (-z)). -/
def l1R (z : ℝ) : ℝ := min (-z) 0 - Real.log (1 + Real.exp (-|z|))

/-- The inner product of row t of `f` and row s of `g`. -/
def dot (f g : ℕ → ℕ → ℝ) : ℕ → ℕ → ℝ := fun t s => ∑ d ∈ Finset.range 128, f t d * g s d

theorem zV_tile : zV (tile f) (tile g) = tile fun t s => dot f g t s * sc := by
  unfold zV; rw [matmul_qk, sc_tile, mulf_tile]; rfl

theorem softV_tile : softV (tile f) = tile fun t s => Real.log (1 + Real.exp (-|f t s|)) := by
  unfold softV
  rw [absf_tile, zero_tile, subf_tile, exp_tile, one_tile, addf_tile, log_tile]
  · simp only [zero_sub]
  · intro t s; positivity

theorem lsV_tile : lsV (tile f) = tile fun t s => lsR (f t s) := by
  unfold lsV; rw [softV_tile, zero_tile, minimumf_tile, subf_tile]; rfl

theorem l1V_tile : l1V (tile f) = tile fun t s => l1R (f t s) := by
  unfold l1V; rw [softV_tile, zero_tile, subf_tile, minimumf_tile, subf_tile]
  simp only [zero_sub]; rfl

theorem wV_tile : wV k0_pay57 (tile f) (tile g) (tile h)
    = tile fun t s => Real.exp (f t s + (h t 0 - ∑ j ∈ Finset.range (s + 1), g t j)) := by
  unfold wV; rw [pay57_tile, pref_tile _ 1 le_rfl, bc_512, subf_tile, addf_tile, exp_tile]

theorem eV_tile : eV (tile f) (tile g) (tile h) = tile fun t s => h t s * dot f g t s := by
  unfold eV; rw [matmul_qk, mulf_tile]; rfl

theorem dzV_tile : dzV k0_pay58 (tile f) (tile g) (tile h)
    = tile fun t s => (g t s * (1 - Real.exp (f t s)) - Real.exp (f t s) * (h t 0 + ∑ j ∈ Finset.range s, g t j)) * sc := by
  unfold dzV
  rw [pay58_tile, pref_tile _ 0 (by norm_num), bc_512, exp_tile, one_tile, sc_tile]
  simp only [addf_tile, subf_tile, mulf_tile, add_zero]

theorem dqV_tile : dqV (tile f) (tile g) (tile h) = tile fun t d => f t d + ∑ s ∈ Finset.range 512, g t s * h s d := by
  unfold dqV; rw [truncf_tile, matmul_dk, addf_tile]

theorem tnV_tile : tnV (tile f) (tile g) (tile h) = tile fun s d => f s d + ∑ t ∈ Finset.range 512, g t s * h t d := by
  unfold tnV; rw [truncf_tile, matmul_tn, addf_tile]

theorem mskV_tile (c : IVec S512x512 1) (M : ℕ → ℕ → Prop) [DecidableRel M]
    (hc : ∀ (r : Fin 512) (l : Fin 512), c (ix2 r l) = if M r.val l.val then 1#1 else 0#1) :
    mskV c (tile f) = tile fun t s => if M t s then f t s else 0 := by
  unfold mskV; rw [zero_tile, select_tile _ _ c M hc]

end Cert.SB

end
-- ==== Proof.SB.Trip.lean ====
/- What one trip of the kernel's loop computes, as functions of whole vectors. -/
module

public import proofs.«01_k».proof.Proof.Gen.KernelIdeal.Frame
public import proofs.«01_k».proof.Proof.SB.Block

@[expose] public section

set_option maxRecDepth 16384

noncomputable section

open Idealize.ShloMosaic Idealize.ShloMosaic.TcCoe Idealize.SL.Sem

namespace Cert.SB

open Cert.KernelIdeal Cert.KernelIdeal.Gen

variable (𝒱 : Variants) (c : Dev nD) (bd : Option 𝒱.V) (i : grid0.Coords)
  (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole)
  (arg1 : BitVec 32) (v4 : FVec Ideal S512x128 .bf16) (v5 : Vec Ideal S512x128 .bf16) (v7 : FVec Ideal S512x1 .f32)
  (v18 v29 : FVec Ideal S256x128 .bf16) (v30 c512 v31 v36 v38 : BitVec 32)
  (X3 : BufTy.Contents (Elt Ideal) arg3.view.ty) (X4 : BufTy.Contents (Elt Ideal) arg4.view.ty)
  (k : Fin (k0_t1_loop i).trips) (acc : FVec Ideal S512x1 .f32 × FVec Ideal S512x1 .f32 × FVec Ideal S512x128 .f32)
  (f8 : BufTy.Contents (Elt Ideal) arg8.view.ty) (f9 : BufTy.Contents (Elt Ideal) arg9.view.ty)

/-- Trip `k`'s rows of a buffer of 4096 rows. -/
abbrev rows1 (a : Memref sig .tc .vmem S4096x128 .f32) (X : BufTy.Contents (Elt Ideal) a.view.ty) : FVec Ideal S512x128 .f32 :=
  View.readAt (Elt Ideal) a.view (Rect.unit (s := S4096x128) (k0_off1 i k) S512x128.size (k0_off1_inb i k)).toLoadRect X

/-- The trip's logits, weights, weights times gradients, and gradient of the logits. -/
abbrev zT := zV v4 (truncf .bf16 (rows1 i k arg3 X3) bitsLt_bf16_f32)
abbrev wT := wV v18 (lsV (zT i arg3 v4 X3 k)) (l1V (zT i arg3 v4 X3 k)) (subf v7 acc.1)
abbrev eT := eV v5 (truncf .bf16 (rows1 i k arg4 X4) bitsLt_bf16_f32) (wT i arg3 v4 v7 v18 X3 k acc)
abbrev dzT := dzV v29 (lsV (zT i arg3 v4 X3 k)) (eT i arg3 arg4 v4 v5 v7 v18 X3 X4 k acc) acc.2.1

theorem trip_yield : (trip_k0_t1 (F := Ideal) 𝒱 c bd i arg2 harg2 arg3 harg3 arg4 harg4 arg5 harg5 arg6 harg6 arg7 harg7 arg8 harg8 arg9 harg9 arg1 v4 v5 v7 v18 v29 v30 c512 v31 v36 v38 X3 X4 k).1 acc f8 f9
    = (addf acc.1 (rsum' (l1V (zT i arg3 v4 X3 k))), addf acc.2.1 (rsum' (eT i arg3 arg4 v4 v5 v7 v18 X3 X4 k acc)),
       dqV acc.2.2 (dzT i arg3 arg4 v4 v5 v7 v18 v29 X3 X4 k acc) (truncf .bf16 (rows1 i k arg3 X3) bitsLt_bf16_f32)) := by
  unfold trip_k0_t1
  dsimp only
  sl_unfold_words
  rfl

theorem trip_dk : (trip_k0_t1 (F := Ideal) 𝒱 c bd i arg2 harg2 arg3 harg3 arg4 harg4 arg5 harg5 arg6 harg6 arg7 harg7 arg8 harg8 arg9 harg9 arg1 v4 v5 v7 v18 v29 v30 c512 v31 v36 v38 X3 X4 k).2.1 acc f8 f9
    = [⟨Rect.unit (s := S4096x128) (k0_off1 i k) S512x128.size (k0_off1_inb i k),
        tnV (shapeCast S512x128 (rows1 i k arg8 f8) shapeCasts_S512x128_S512x128) (dzT i arg3 arg4 v4 v5 v7 v18 v29 X3 X4 k acc) v4⟩] := by
  unfold trip_k0_t1
  dsimp only
  sl_unfold_words
  rfl

theorem trip_dv : (trip_k0_t1 (F := Ideal) 𝒱 c bd i arg2 harg2 arg3 harg3 arg4 harg4 arg5 harg5 arg6 harg6 arg7 harg7 arg8 harg8 arg9 harg9 arg1 v4 v5 v7 v18 v29 v30 c512 v31 v36 v38 X3 X4 k).2.2.1 acc f8 f9
    = [⟨Rect.unit (s := S4096x128) (k0_off1 i k) S512x128.size (k0_off1_inb i k),
        tnV (shapeCast S512x128 (rows1 i k arg9 f9) shapeCasts_S512x128_S512x128) (wT i arg3 v4 v7 v18 X3 k acc) v5⟩] := by
  unfold trip_k0_t1
  dsimp only
  sl_unfold_words
  rfl

end Cert.SB

end
-- ==== Proof.SB.Diag.lean ====
/- The diagonal block of the kernel, as functions of whole vectors. -/
module

public import proofs.«01_k».proof.Proof.SB.Block

@[expose] public section

set_option maxRecDepth 16384

noncomputable section

open Idealize.ShloMosaic Idealize.ShloMosaic.TcCoe Idealize.SL.Sem

namespace Cert.SB

open Cert.KernelIdeal Cert.KernelIdeal.Gen

variable (q dO : FVec Ideal S512x128 .bf16) (c : FVec Ideal S512x1 .f32) (m : IVec S512x512 1) (kr vr prev : FVec Ideal S512x128 .f32)
  (cl ce : FVec Ideal S512x1 .f32) (dq : FVec Ideal S512x128 .f32)

/-- The diagonal block's logits, weights, weights times gradients, and gradient of the logits: masked by `m`. -/
abbrev zD := zV q (truncf .bf16 kr bitsLt_bf16_f32)
abbrev wD := mskV m (wV k0_pay57 (lsV (zD q kr)) (mskV m (l1V (zD q kr))) (subf c cl))
abbrev eD := eV dO (truncf .bf16 vr bitsLt_bf16_f32) (wD q c m kr cl)
abbrev dzD := mskV m (dzV k0_pay58 (lsV (zD q kr)) (eD q dO c m kr vr cl) ce)

theorem w_diag : k0_pay86 k0_pay57 m (k0_pay73 (k0_pay70 q kr) (k0_pay71 q kr)) (k0_pay75 c cl)
      (k0_pay77 k0_pay57 m (k0_pay70 q kr) (k0_pay71 q kr)) (k0_pay80 k0_pay57 m (k0_pay70 q kr) (k0_pay71 q kr))
      (k0_pay83 k0_pay57 m (k0_pay70 q kr) (k0_pay71 q kr)) (k0_pay84 m (k0_pay70 q kr) (k0_pay71 q kr)) (k0_pay85 m (k0_pay70 q kr) (k0_pay71 q kr))
    = wD q c m kr cl := rfl

section
variable (ls : FVec Ideal S512x512 .f32) (cc : FVec Ideal S512x1 .f32) (v102 v113 v125 : FVec Ideal S512x128 .f32) (v128 : FVec Ideal S512x1 .f32) (v129 : FVec Ideal S512x128 .f32)

theorem e_diag : k0_pay87 dO k0_pay57 (k0_pay68 vr) m ls cc v102 v113 v125 v128 v129
    = eV dO (truncf .bf16 vr bitsLt_bf16_f32) (k0_pay86 k0_pay57 m ls cc v102 v113 v125 v128 v129) := rfl

theorem dz_diag : k0_pay98 k0_pay58 ce m ls (k0_pay87 dO k0_pay57 (k0_pay68 vr) m ls cc v102 v113 v125 v128 v129)
      (k0_pay89 dO k0_pay57 k0_pay58 (k0_pay68 vr) m ls cc v102 v113 v125 v128 v129)
      (k0_pay92 dO k0_pay57 k0_pay58 (k0_pay68 vr) m ls cc v102 v113 v125 v128 v129)
      (k0_pay95 dO k0_pay57 k0_pay58 (k0_pay68 vr) m ls cc v102 v113 v125 v128 v129)
      (k0_pay96 dO k0_pay57 (k0_pay68 vr) m ls cc v102 v113 v125 v128 v129)
      (k0_pay97 dO k0_pay57 (k0_pay68 vr) m ls cc v102 v113 v125 v128 v129)
    = truncf .bf16 (mskV m (dzV k0_pay58 ls (k0_pay87 dO k0_pay57 (k0_pay68 vr) m ls cc v102 v113 v125 v128 v129) ce)) bitsLt_bf16_f32 := rfl
end

theorem ls_diag : k0_pay73 (k0_pay70 q kr) (k0_pay71 q kr) = lsV (zD q kr) := rfl

/-- The pieces the diagonal block's operations hand on, from the values they read. -/
abbrev lsP := k0_pay73 (F := Ideal) (k0_pay70 q kr) (k0_pay71 q kr)
abbrev cP := k0_pay75 (F := Ideal) c cl
abbrev p102 := k0_pay77 (F := Ideal) k0_pay57 m (k0_pay70 q kr) (k0_pay71 q kr)
abbrev p113 := k0_pay80 (F := Ideal) k0_pay57 m (k0_pay70 q kr) (k0_pay71 q kr)
abbrev p125 := k0_pay83 (F := Ideal) k0_pay57 m (k0_pay70 q kr) (k0_pay71 q kr)
abbrev p128 := k0_pay84 (F := Ideal) m (k0_pay70 q kr) (k0_pay71 q kr)
abbrev p129 := k0_pay85 (F := Ideal) m (k0_pay70 q kr) (k0_pay71 q kr)

theorem dzD_eq : k0_pay98 k0_pay58 ce m (lsP q kr) (k0_pay87 dO k0_pay57 (k0_pay68 vr) m (lsP q kr) (cP c cl) (p102 q m kr) (p113 q m kr) (p125 q m kr) (p128 q m kr) (p129 q m kr))
      (k0_pay89 dO k0_pay57 k0_pay58 (k0_pay68 vr) m (lsP q kr) (cP c cl) (p102 q m kr) (p113 q m kr) (p125 q m kr) (p128 q m kr) (p129 q m kr))
      (k0_pay92 dO k0_pay57 k0_pay58 (k0_pay68 vr) m (lsP q kr) (cP c cl) (p102 q m kr) (p113 q m kr) (p125 q m kr) (p128 q m kr) (p129 q m kr))
      (k0_pay95 dO k0_pay57 k0_pay58 (k0_pay68 vr) m (lsP q kr) (cP c cl) (p102 q m kr) (p113 q m kr) (p125 q m kr) (p128 q m kr) (p129 q m kr))
      (k0_pay96 dO k0_pay57 (k0_pay68 vr) m (lsP q kr) (cP c cl) (p102 q m kr) (p113 q m kr) (p125 q m kr) (p128 q m kr) (p129 q m kr))
      (k0_pay97 dO k0_pay57 (k0_pay68 vr) m (lsP q kr) (cP c cl) (p102 q m kr) (p113 q m kr) (p125 q m kr) (p128 q m kr) (p129 q m kr))
    = truncf .bf16 (dzD q dO c m kr vr cl ce) bitsLt_bf16_f32 := by
  rw [dz_diag, e_diag, w_diag]; rfl

end Cert.SB

end
-- ==== Proof.SB.Run.lean ====
/- What one grid point of the kernel writes, as functions of whole vectors. -/
module

public import proofs.«01_k».proof.Proof.SB.Trip
public import proofs.«01_k».proof.Proof.SB.Diag

@[expose] public section

set_option maxRecDepth 16384

noncomputable section

open Idealize.ShloMosaic Idealize.ShloMosaic.TcCoe Idealize.SL.Sem

namespace Cert.SB

open Cert.KernelIdeal Cert.KernelIdeal.Gen

/-- A second loop without trips leaves its state as it was. -/
theorem second_nil (𝒱 : Variants) (c : Dev nD) (bd : Option 𝒱.V) (i : grid0.Coords)
  (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole)
  (arg1 : BitVec 32) (v4 : FVec Ideal S512x128 .bf16) (v5 : Vec Ideal S512x128 .bf16) (v7 : FVec Ideal S512x1 .f32)
  (v18 v29 : FVec Ideal S256x128 .bf16) (v30 c512 v31 v36 v38 v54 : BitVec 32)
  (X3 : BufTy.Contents (Elt Ideal) arg3.view.ty) (X4 : BufTy.Contents (Elt Ideal) arg4.view.ty)
  (G8 : BufTy.Contents (Elt Ideal) arg8.view.ty) (G9 : BufTy.Contents (Elt Ideal) arg9.view.ty)
  (init : FVec Ideal S512x1 .f32 × FVec Ideal S512x1 .f32 × FVec Ideal S512x128 .f32) (n : ℕ) (hn : n = 0) :
  st_k0_t2 (F := Ideal) 𝒱 c bd i arg2 harg2 arg3 harg3 arg4 harg4 arg5 harg5 arg6 harg6 arg7 harg7 arg8 harg8 arg9 harg9 arg1 v4 v5 v7 v18 v29 v30 c512 v31 v36 v38 v54 X3 X4 G8 G9 init n = (init, [], []) := by
  subst hn; rfl

variable (c : Dev nD) (i : grid0.Coords)
  (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole)
  (x0 : Vec Ideal S512x128 .f32) (x1 x2 : Vec Ideal S4096x128 .f32) (x3 : Vec Ideal S512x128 .bf16) (x4 : Vec Ideal S1x512x1 .f32)
  (xo6 xo7 : Vec Ideal S4096x128 .f32)

/-- The point's block of q, of the cotangent, and of the rows' totals, as loaded. -/
abbrev q0 : FVec Ideal S512x128 .bf16 := k0_pay55 (View.readAt (Elt Ideal) arg2.view (Rect.unit (s := S512x128) ![0, 0] S512x128.size inb_S512x128_S512x128_0_0).toLoadRect (harg2.unread x0))
abbrev do0 : FVec Ideal S512x128 .bf16 := View.readAt (Elt Ideal) arg5.view (Rect.unit (s := S512x128) ![0, 0] S512x128.size inb_S512x128_S512x128_0_0).toLoadRect (harg5.unread x3)
abbrev c0 : FVec Ideal S512x1 .f32 := k0_pay56 (View.readAt (Elt Ideal) arg6.view (Rect.unit (s := S1x512x1) ![0, 0, 0] S1x512x1.size inb_S1x512x1_S1x512x1_0_0_0).toLoadRect (harg6.unread x4))

/-- The rows of the diagonal block. -/
abbrev rows3 (a : Memref sig .tc .vmem S4096x128 .f32) (X : BufTy.Contents (Elt Ideal) a.view.ty) : FVec Ideal S512x128 .f32 :=
  View.readAt (Elt Ideal) a.view (Rect.unit (s := S4096x128) (k0_off3 i) S512x128.size (k0_off3_inb i)).toLoadRect X

/-- The mask of the diagonal block. -/
abbrev msk3 : IVec S512x512 1 := kernelRun0_B.sl.r_8 i

/-- The state at the end of the unmasked loop. -/
def TB := st_k0_t1 (F := Ideal) Variants.none c none i arg2 harg2 arg3 harg3 arg4 harg4 arg5 harg5 arg6 harg6 arg7 harg7 arg8 harg8 arg9 harg9 (BitVec.ofNat 32 (i 1).val) (kernelRun0_B.sl.r c arg2 harg2 x0) (kernelRun0_B.sl.r_1 c arg5 harg5 x3) (kernelRun0_B.sl.r_2 c arg6 harg6 x4) k0_pay57 k0_pay58 (kernelRun0_B.sl.v30 i) 512#32 (kernelRun0_B.sl.v31 i) (kernelRun0_B.sl.v36 i) 1#32 (harg3.unread x1) (harg4.unread x2) (harg8.unread xo6) (harg9.unread xo7) (k0_pay59, k0_pay59, k0_pay60) (k0_t1_loop i).trips

/-- The state at the end of the second loop. -/
def T2B := st_k0_t2 (F := Ideal) Variants.none c none i arg2 harg2 arg3 harg3 arg4 harg4 arg5 harg5 arg6 harg6 arg7 harg7 arg8 harg8 arg9 harg9 (BitVec.ofNat 32 (i 1).val) (kernelRun0_B.sl.r c arg2 harg2 x0) (kernelRun0_B.sl.r_1 c arg5 harg5 x3) (kernelRun0_B.sl.r_2 c arg6 harg6 x4) k0_pay57 k0_pay58 (kernelRun0_B.sl.v30 i) 512#32 (kernelRun0_B.sl.v31 i) (kernelRun0_B.sl.v36 i) 1#32 (kernelRun0_B.sl.v54 i) (harg3.unread x1) (harg4.unread x2) (arg8.view.writes (Elt Ideal) (harg8.unread xo6) ((TB c i arg2 harg2 arg3 harg3 arg4 harg4 arg5 harg5 arg6 harg6 arg7 harg7 arg8 harg8 arg9 harg9 x0 x1 x2 x3 x4 xo6 xo7).2.1)) (arg9.view.writes (Elt Ideal) (harg9.unread xo7) ((TB c i arg2 harg2 arg3 harg3 arg4 harg4 arg5 harg5 arg6 harg6 arg7 harg7 arg8 harg8 arg9 harg9 x0 x1 x2 x3 x4 xo6 xo7).2.2)) (TB c i arg2 harg2 arg3 harg3 arg4 harg4 arg5 harg5 arg6 harg6 arg7 harg7 arg8 harg8 arg9 harg9 x0 x1 x2 x3 x4 xo6 xo7).1 (k0_t2_loop i).trips

theorem T2B_eq : T2B c i arg2 harg2 arg3 harg3 arg4 harg4 arg5 harg5 arg6 harg6 arg7 harg7 arg8 harg8 arg9 harg9 x0 x1 x2 x3 x4 xo6 xo7 = ((TB c i arg2 harg2 arg3 harg3 arg4 harg4 arg5 harg5 arg6 harg6 arg7 harg7 arg8 harg8 arg9 harg9 x0 x1 x2 x3 x4 xo6 xo7).1, [], []) := by
  unfold T2B
  exact second_nil _ _ _ _ _ _ _ _ _ _ _ _ _ _ _ _ _ _ _ _ _ _ _ _ _ _ _ _ _ _ _ _ _ _ _ _ _ _ (Nat.le_zero.1 (k0_t2_abs i).2.1)

theorem r3B : kernelRun0_B.sl.r_3 (F := Ideal) c i arg2 harg2 arg3 harg3 arg4 harg4 arg5 harg5 arg6 harg6 arg7 harg7 arg8 harg8 arg9 harg9 x0 x1 x2 x3 x4 xo6 xo7 = (TB c i arg2 harg2 arg3 harg3 arg4 harg4 arg5 harg5 arg6 harg6 arg7 harg7 arg8 harg8 arg9 harg9 x0 x1 x2 x3 x4 xo6 xo7).1.1 := by
  show (T2B c i arg2 harg2 arg3 harg3 arg4 harg4 arg5 harg5 arg6 harg6 arg7 harg7 arg8 harg8 arg9 harg9 x0 x1 x2 x3 x4 xo6 xo7).1.1 = _
  rw [T2B_eq]

theorem r4B : kernelRun0_B.sl.r_4 (F := Ideal) c i arg2 harg2 arg3 harg3 arg4 harg4 arg5 harg5 arg6 harg6 arg7 harg7 arg8 harg8 arg9 harg9 x0 x1 x2 x3 x4 xo6 xo7 = (TB c i arg2 harg2 arg3 harg3 arg4 harg4 arg5 harg5 arg6 harg6 arg7 harg7 arg8 harg8 arg9 harg9 x0 x1 x2 x3 x4 xo6 xo7).1.2.1 := by
  show (T2B c i arg2 harg2 arg3 harg3 arg4 harg4 arg5 harg5 arg6 harg6 arg7 harg7 arg8 harg8 arg9 harg9 x0 x1 x2 x3 x4 xo6 xo7).1.2.1 = _
  rw [T2B_eq]

theorem r5B : kernelRun0_B.sl.r_5 (F := Ideal) c i arg2 harg2 arg3 harg3 arg4 harg4 arg5 harg5 arg6 harg6 arg7 harg7 arg8 harg8 arg9 harg9 x0 x1 x2 x3 x4 xo6 xo7 = (TB c i arg2 harg2 arg3 harg3 arg4 harg4 arg5 harg5 arg6 harg6 arg7 harg7 arg8 harg8 arg9 harg9 x0 x1 x2 x3 x4 xo6 xo7).1.2.2 := by
  show (T2B c i arg2 harg2 arg3 harg3 arg4 harg4 arg5 harg5 arg6 harg6 arg7 harg7 arg8 harg8 arg9 harg9 x0 x1 x2 x3 x4 xo6 xo7).1.2.2 = _
  rw [T2B_eq]

theorem v206B : kernelRun0_B.sl.v206 (F := Ideal) c i arg2 harg2 arg3 harg3 arg4 harg4 arg5 harg5 arg6 harg6 arg7 harg7 arg8 harg8 arg9 harg9 x0 x1 x2 x3 x4 xo6 xo7 = rows3 i arg8 (arg8.view.writes (Elt Ideal) (harg8.unread xo6) ((TB c i arg2 harg2 arg3 harg3 arg4 harg4 arg5 harg5 arg6 harg6 arg7 harg7 arg8 harg8 arg9 harg9 x0 x1 x2 x3 x4 xo6 xo7).2.1)) := by
  show rows3 i arg8 (arg8.view.writes (Elt Ideal) (harg8.unread xo6) ((T2B c i arg2 harg2 arg3 harg3 arg4 harg4 arg5 harg5 arg6 harg6 arg7 harg7 arg8 harg8 arg9 harg9 x0 x1 x2 x3 x4 xo6 xo7).2.1 ++ ((TB c i arg2 harg2 arg3 harg3 arg4 harg4 arg5 harg5 arg6 harg6 arg7 harg7 arg8 harg8 arg9 harg9 x0 x1 x2 x3 x4 xo6 xo7).2.1))) = _
  rw [T2B_eq, List.nil_append]

theorem v213B : kernelRun0_B.sl.v213 (F := Ideal) c i arg2 harg2 arg3 harg3 arg4 harg4 arg5 harg5 arg6 harg6 arg7 harg7 arg8 harg8 arg9 harg9 x0 x1 x2 x3 x4 xo6 xo7 = rows3 i arg9 (arg9.view.writes (Elt Ideal) (harg9.unread xo7) ((TB c i arg2 harg2 arg3 harg3 arg4 harg4 arg5 harg5 arg6 harg6 arg7 harg7 arg8 harg8 arg9 harg9 x0 x1 x2 x3 x4 xo6 xo7).2.2)) := by
  show rows3 i arg9 (arg9.view.writes (Elt Ideal) (harg9.unread xo7) ((T2B c i arg2 harg2 arg3 harg3 arg4 harg4 arg5 harg5 arg6 harg6 arg7 harg7 arg8 harg8 arg9 harg9 x0 x1 x2 x3 x4 xo6 xo7).2.2 ++ ((TB c i arg2 harg2 arg3 harg3 arg4 harg4 arg5 harg5 arg6 harg6 arg7 harg7 arg8 harg8 arg9 harg9 x0 x1 x2 x3 x4 xo6 xo7).2.2))) = _
  rw [T2B_eq, List.nil_append]

theorem dkB (hc0 : ¬cond0_0 i) : (kernelRun0_B (F := Ideal) c i arg2 harg2 arg3 harg3 arg4 harg4 arg5 harg5 arg6 harg6 arg7 harg7 arg8 harg8 arg9 harg9 hc0 x0 x1 x2 x3 x4 xo6 xo7).2.1
    = ⟨Rect.unit (s := S4096x128) (k0_off3 i) S512x128.size (k0_off3_inb i), tnV (shapeCast S512x128 (rows3 i arg8 (arg8.view.writes (Elt Ideal) (harg8.unread xo6) ((TB c i arg2 harg2 arg3 harg3 arg4 harg4 arg5 harg5 arg6 harg6 arg7 harg7 arg8 harg8 arg9 harg9 x0 x1 x2 x3 x4 xo6 xo7).2.1))) shapeCasts_S512x128_S512x128) (dzD (q0 arg2 harg2 x0) (do0 arg5 harg5 x3) (c0 arg6 harg6 x4) (msk3 i) (rows3 i arg3 (harg3.unread x1)) (rows3 i arg4 (harg4.unread x2)) (TB c i arg2 harg2 arg3 harg3 arg4 harg4 arg5 harg5 arg6 harg6 arg7 harg7 arg8 harg8 arg9 harg9 x0 x1 x2 x3 x4 xo6 xo7).1.1 (TB c i arg2 harg2 arg3 harg3 arg4 harg4 arg5 harg5 arg6 harg6 arg7 harg7 arg8 harg8 arg9 harg9 x0 x1 x2 x3 x4 xo6 xo7).1.2.1) (q0 arg2 harg2 x0)⟩ :: ((TB c i arg2 harg2 arg3 harg3 arg4 harg4 arg5 harg5 arg6 harg6 arg7 harg7 arg8 harg8 arg9 harg9 x0 x1 x2 x3 x4 xo6 xo7).2.1) := by
  have h : (kernelRun0_B (F := Ideal) c i arg2 harg2 arg3 harg3 arg4 harg4 arg5 harg5 arg6 harg6 arg7 harg7 arg8 harg8 arg9 harg9 hc0 x0 x1 x2 x3 x4 xo6 xo7).2.1 = ⟨Rect.unit (s := S4096x128) (k0_off3 i) S512x128.size (k0_off3_inb i), k0_pay100 (kernelRun0_B.sl.r c arg2 harg2 x0) k0_pay58 (kernelRun0_B.sl.r_4 c i arg2 harg2 arg3 harg3 arg4 harg4 arg5 harg5 arg6 harg6 arg7 harg7 arg8 harg8 arg9 harg9 x0 x1 x2 x3 x4 xo6 xo7) (kernelRun0_B.sl.r_8 i) (kernelRun0_B.sl.r_11 c i arg2 harg2 arg3 harg3 x0 x1) (kernelRun0_B.sl.r_19 c i arg2 harg2 arg3 harg3 arg4 harg4 arg5 harg5 arg6 harg6 arg7 harg7 arg8 harg8 arg9 harg9 x0 x1 x2 x3 x4 xo6 xo7) (kernelRun0_B.sl.r_20 c i arg2 harg2 arg3 harg3 arg4 harg4 arg5 harg5 arg6 harg6 arg7 harg7 arg8 harg8 arg9 harg9 x0 x1 x2 x3 x4 xo6 xo7) (kernelRun0_B.sl.r_21 c i arg2 harg2 arg3 harg3 arg4 harg4 arg5 harg5 arg6 harg6 arg7 harg7 arg8 harg8 arg9 harg9 x0 x1 x2 x3 x4 xo6 xo7) (kernelRun0_B.sl.r_22 c i arg2 harg2 arg3 harg3 arg4 harg4 arg5 harg5 arg6 harg6 arg7 harg7 arg8 harg8 arg9 harg9 x0 x1 x2 x3 x4 xo6 xo7) (kernelRun0_B.sl.r_23 c i arg2 harg2 arg3 harg3 arg4 harg4 arg5 harg5 arg6 harg6 arg7 harg7 arg8 harg8 arg9 harg9 x0 x1 x2 x3 x4 xo6 xo7) (kernelRun0_B.sl.r_24 c i arg2 harg2 arg3 harg3 arg4 harg4 arg5 harg5 arg6 harg6 arg7 harg7 arg8 harg8 arg9 harg9 x0 x1 x2 x3 x4 xo6 xo7) (kernelRun0_B.sl.v206 c i arg2 harg2 arg3 harg3 arg4 harg4 arg5 harg5 arg6 harg6 arg7 harg7 arg8 harg8 arg9 harg9 x0 x1 x2 x3 x4 xo6 xo7)⟩
      :: ((T2B c i arg2 harg2 arg3 harg3 arg4 harg4 arg5 harg5 arg6 harg6 arg7 harg7 arg8 harg8 arg9 harg9 x0 x1 x2 x3 x4 xo6 xo7).2.1 ++ ((TB c i arg2 harg2 arg3 harg3 arg4 harg4 arg5 harg5 arg6 harg6 arg7 harg7 arg8 harg8 arg9 harg9 x0 x1 x2 x3 x4 xo6 xo7).2.1)) := by
    unfold kernelRun0_B; rfl
  rw [h, T2B_eq, List.nil_append, v206B, r4B]
  refine congrArg (fun p => (⟨_, p⟩ : View.Piece (Elt Ideal) S4096x128 .f32) :: _) ?_
  delta kernelRun0_B.sl.r_24 kernelRun0_B.sl.r_23 kernelRun0_B.sl.r_22 kernelRun0_B.sl.r_21 kernelRun0_B.sl.r_20 kernelRun0_B.sl.r_19 kernelRun0_B.sl.r_18 kernelRun0_B.sl.r_17 kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_2 kernelRun0_B.sl.r_1 kernelRun0_B.sl.r kernelRun0_B.sl.v206 kernelRun0_B.sl.v213
  rw [r3B]
  exact congrArg (fun p => addf (shapeCast S512x128 (rows3 i arg8 (arg8.view.writes (Elt Ideal) (harg8.unread xo6) ((TB c i arg2 harg2 arg3 harg3 arg4 harg4 arg5 harg5 arg6 harg6 arg7 harg7 arg8 harg8 arg9 harg9 x0 x1 x2 x3 x4 xo6 xo7).2.1))) shapeCasts_S512x128_S512x128) (matmul dot_S512x512_S512x128_S512x128_0_0_1_1_n_n none p (q0 arg2 harg2 x0) (constant S512x128 .f32 0x00000000#32)))
    (dzD_eq (q0 arg2 harg2 x0) (do0 arg5 harg5 x3) (c0 arg6 harg6 x4) (msk3 i) (rows3 i arg3 (harg3.unread x1)) (rows3 i arg4 (harg4.unread x2)) (TB c i arg2 harg2 arg3 harg3 arg4 harg4 arg5 harg5 arg6 harg6 arg7 harg7 arg8 harg8 arg9 harg9 x0 x1 x2 x3 x4 xo6 xo7).1.1 (TB c i arg2 harg2 arg3 harg3 arg4 harg4 arg5 harg5 arg6 harg6 arg7 harg7 arg8 harg8 arg9 harg9 x0 x1 x2 x3 x4 xo6 xo7).1.2.1)

theorem dvB (hc0 : ¬cond0_0 i) : (kernelRun0_B (F := Ideal) c i arg2 harg2 arg3 harg3 arg4 harg4 arg5 harg5 arg6 harg6 arg7 harg7 arg8 harg8 arg9 harg9 hc0 x0 x1 x2 x3 x4 xo6 xo7).2.2.1
    = ⟨Rect.unit (s := S4096x128) (k0_off3 i) S512x128.size (k0_off3_inb i), tnV (shapeCast S512x128 (rows3 i arg9 (arg9.view.writes (Elt Ideal) (harg9.unread xo7) ((TB c i arg2 harg2 arg3 harg3 arg4 harg4 arg5 harg5 arg6 harg6 arg7 harg7 arg8 harg8 arg9 harg9 x0 x1 x2 x3 x4 xo6 xo7).2.2))) shapeCasts_S512x128_S512x128) (wD (q0 arg2 harg2 x0) (c0 arg6 harg6 x4) (msk3 i) (rows3 i arg3 (harg3.unread x1)) (TB c i arg2 harg2 arg3 harg3 arg4 harg4 arg5 harg5 arg6 harg6 arg7 harg7 arg8 harg8 arg9 harg9 x0 x1 x2 x3 x4 xo6 xo7).1.1) (do0 arg5 harg5 x3)⟩ :: ((TB c i arg2 harg2 arg3 harg3 arg4 harg4 arg5 harg5 arg6 harg6 arg7 harg7 arg8 harg8 arg9 harg9 x0 x1 x2 x3 x4 xo6 xo7).2.2) := by
  have h : (kernelRun0_B (F := Ideal) c i arg2 harg2 arg3 harg3 arg4 harg4 arg5 harg5 arg6 harg6 arg7 harg7 arg8 harg8 arg9 harg9 hc0 x0 x1 x2 x3 x4 xo6 xo7).2.2.1 = ⟨Rect.unit (s := S4096x128) (k0_off3 i) S512x128.size (k0_off3_inb i), k0_pay101 (kernelRun0_B.sl.r_1 c arg5 harg5 x3) (kernelRun0_B.sl.r_18 c i arg2 harg2 arg3 harg3 arg4 harg4 arg5 harg5 arg6 harg6 arg7 harg7 arg8 harg8 arg9 harg9 x0 x1 x2 x3 x4 xo6 xo7) (kernelRun0_B.sl.v213 c i arg2 harg2 arg3 harg3 arg4 harg4 arg5 harg5 arg6 harg6 arg7 harg7 arg8 harg8 arg9 harg9 x0 x1 x2 x3 x4 xo6 xo7)⟩
      :: ((T2B c i arg2 harg2 arg3 harg3 arg4 harg4 arg5 harg5 arg6 harg6 arg7 harg7 arg8 harg8 arg9 harg9 x0 x1 x2 x3 x4 xo6 xo7).2.2 ++ ((TB c i arg2 harg2 arg3 harg3 arg4 harg4 arg5 harg5 arg6 harg6 arg7 harg7 arg8 harg8 arg9 harg9 x0 x1 x2 x3 x4 xo6 xo7).2.2)) := by
    unfold kernelRun0_B; rfl
  rw [h, T2B_eq, List.nil_append, v213B]
  refine congrArg (fun p => (⟨_, p⟩ : View.Piece (Elt Ideal) S4096x128 .f32) :: _) ?_
  delta kernelRun0_B.sl.r_24 kernelRun0_B.sl.r_23 kernelRun0_B.sl.r_22 kernelRun0_B.sl.r_21 kernelRun0_B.sl.r_20 kernelRun0_B.sl.r_19 kernelRun0_B.sl.r_18 kernelRun0_B.sl.r_17 kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_2 kernelRun0_B.sl.r_1 kernelRun0_B.sl.r kernelRun0_B.sl.v206 kernelRun0_B.sl.v213
  rw [r3B]
  exact congrArg (fun p => tnV (shapeCast S512x128 (rows3 i arg9 (arg9.view.writes (Elt Ideal) (harg9.unread xo7) ((TB c i arg2 harg2 arg3 harg3 arg4 harg4 arg5 harg5 arg6 harg6 arg7 harg7 arg8 harg8 arg9 harg9 x0 x1 x2 x3 x4 xo6 xo7).2.2))) shapeCasts_S512x128_S512x128) p (do0 arg5 harg5 x3))
    (w_diag (q0 arg2 harg2 x0) (c0 arg6 harg6 x4) (msk3 i) (rows3 i arg3 (harg3.unread x1)) (TB c i arg2 harg2 arg3 harg3 arg4 harg4 arg5 harg5 arg6 harg6 arg7 harg7 arg8 harg8 arg9 harg9 x0 x1 x2 x3 x4 xo6 xo7).1.1)

theorem dqB (hc0 : ¬cond0_0 i) : (kernelRun0_B (F := Ideal) c i arg2 harg2 arg3 harg3 arg4 harg4 arg5 harg5 arg6 harg6 arg7 harg7 arg8 harg8 arg9 harg9 hc0 x0 x1 x2 x3 x4 xo6 xo7).1
    = [⟨Rect.unit (s := S512x128) ![0, 0] S512x128.size inb_S512x128_S512x128_0_0, dqV (TB c i arg2 harg2 arg3 harg3 arg4 harg4 arg5 harg5 arg6 harg6 arg7 harg7 arg8 harg8 arg9 harg9 x0 x1 x2 x3 x4 xo6 xo7).1.2.2 (dzD (q0 arg2 harg2 x0) (do0 arg5 harg5 x3) (c0 arg6 harg6 x4) (msk3 i) (rows3 i arg3 (harg3.unread x1)) (rows3 i arg4 (harg4.unread x2)) (TB c i arg2 harg2 arg3 harg3 arg4 harg4 arg5 harg5 arg6 harg6 arg7 harg7 arg8 harg8 arg9 harg9 x0 x1 x2 x3 x4 xo6 xo7).1.1 (TB c i arg2 harg2 arg3 harg3 arg4 harg4 arg5 harg5 arg6 harg6 arg7 harg7 arg8 harg8 arg9 harg9 x0 x1 x2 x3 x4 xo6 xo7).1.2.1) (truncf .bf16 (rows3 i arg3 (harg3.unread x1)) bitsLt_bf16_f32)⟩] := by
  have h : (kernelRun0_B (F := Ideal) c i arg2 harg2 arg3 harg3 arg4 harg4 arg5 harg5 arg6 harg6 arg7 harg7 arg8 harg8 arg9 harg9 hc0 x0 x1 x2 x3 x4 xo6 xo7).1 = [⟨Rect.unit (s := S512x128) ![0, 0] S512x128.size inb_S512x128_S512x128_0_0, k0_pay99 k0_pay58 (kernelRun0_B.sl.r_4 c i arg2 harg2 arg3 harg3 arg4 harg4 arg5 harg5 arg6 harg6 arg7 harg7 arg8 harg8 arg9 harg9 x0 x1 x2 x3 x4 xo6 xo7) (kernelRun0_B.sl.r_5 c i arg2 harg2 arg3 harg3 arg4 harg4 arg5 harg5 arg6 harg6 arg7 harg7 arg8 harg8 arg9 harg9 x0 x1 x2 x3 x4 xo6 xo7) (kernelRun0_B.sl.r_6 i arg3 harg3 x1) (kernelRun0_B.sl.r_8 i) (kernelRun0_B.sl.r_11 c i arg2 harg2 arg3 harg3 x0 x1) (kernelRun0_B.sl.r_19 c i arg2 harg2 arg3 harg3 arg4 harg4 arg5 harg5 arg6 harg6 arg7 harg7 arg8 harg8 arg9 harg9 x0 x1 x2 x3 x4 xo6 xo7) (kernelRun0_B.sl.r_20 c i arg2 harg2 arg3 harg3 arg4 harg4 arg5 harg5 arg6 harg6 arg7 harg7 arg8 harg8 arg9 harg9 x0 x1 x2 x3 x4 xo6 xo7) (kernelRun0_B.sl.r_21 c i arg2 harg2 arg3 harg3 arg4 harg4 arg5 harg5 arg6 harg6 arg7 harg7 arg8 harg8 arg9 harg9 x0 x1 x2 x3 x4 xo6 xo7) (kernelRun0_B.sl.r_22 c i arg2 harg2 arg3 harg3 arg4 harg4 arg5 harg5 arg6 harg6 arg7 harg7 arg8 harg8 arg9 harg9 x0 x1 x2 x3 x4 xo6 xo7) (kernelRun0_B.sl.r_23 c i arg2 harg2 arg3 harg3 arg4 harg4 arg5 harg5 arg6 harg6 arg7 harg7 arg8 harg8 arg9 harg9 x0 x1 x2 x3 x4 xo6 xo7) (kernelRun0_B.sl.r_24 c i arg2 harg2 arg3 harg3 arg4 harg4 arg5 harg5 arg6 harg6 arg7 harg7 arg8 harg8 arg9 harg9 x0 x1 x2 x3 x4 xo6 xo7)⟩] := by
    unfold kernelRun0_B; rfl
  rw [h, r4B, r5B]
  refine congrArg (fun p => [(⟨_, p⟩ : View.Piece (Elt Ideal) S512x128 .f32)]) ?_
  delta kernelRun0_B.sl.r_24 kernelRun0_B.sl.r_23 kernelRun0_B.sl.r_22 kernelRun0_B.sl.r_21 kernelRun0_B.sl.r_20 kernelRun0_B.sl.r_19 kernelRun0_B.sl.r_18 kernelRun0_B.sl.r_17 kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_2 kernelRun0_B.sl.r_1 kernelRun0_B.sl.r kernelRun0_B.sl.v206 kernelRun0_B.sl.v213
  rw [r3B]
  exact congrArg (fun p => addf (TB c i arg2 harg2 arg3 harg3 arg4 harg4 arg5 harg5 arg6 harg6 arg7 harg7 arg8 harg8 arg9 harg9 x0 x1 x2 x3 x4 xo6 xo7).1.2.2 (matmul dot_S512x512_S512x128_S512x128_1_0_0_1_n_n none p (truncf .bf16 (rows3 i arg3 (harg3.unread x1)) bitsLt_bf16_f32) (constant S512x128 .f32 0x00000000#32)))
    (dzD_eq (q0 arg2 harg2 x0) (do0 arg5 harg5 x3) (c0 arg6 harg6 x4) (msk3 i) (rows3 i arg3 (harg3.unread x1)) (rows3 i arg4 (harg4.unread x2)) (TB c i arg2 harg2 arg3 harg3 arg4 harg4 arg5 harg5 arg6 harg6 arg7 harg7 arg8 harg8 arg9 harg9 x0 x1 x2 x3 x4 xo6 xo7).1.1 (TB c i arg2 harg2 arg3 harg3 arg4 harg4 arg5 harg5 arg6 harg6 arg7 harg7 arg8 harg8 arg9 harg9 x0 x1 x2 x3 x4 xo6 xo7).1.2.1)

end Cert.SB

end
-- ==== Proof.SB.RunA.lean ====
/- What one grid point of the kernel writes, as functions of whole vectors, at the first block of rows. -/
module

public import proofs.«01_k».proof.Proof.SB.Run

@[expose] public section

set_option maxRecDepth 16384

noncomputable section

open Idealize.ShloMosaic Idealize.ShloMosaic.TcCoe Idealize.SL.Sem

namespace Cert.SB

open Cert.KernelIdeal Cert.KernelIdeal.Gen

variable (c : Dev nD) (i : grid0.Coords)
  (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole)
  (x0 : Vec Ideal S512x128 .f32) (x1 x2 : Vec Ideal S4096x128 .f32) (x3 : Vec Ideal S512x128 .bf16) (x4 : Vec Ideal S1x512x1 .f32)

/-- The state at the end of the unmasked loop. -/
def TA := st_k0_t1 (F := Ideal) Variants.none c none i arg2 harg2 arg3 harg3 arg4 harg4 arg5 harg5 arg6 harg6 arg7 harg7 arg8 harg8 arg9 harg9 (BitVec.ofNat 32 (i 1).val) (kernelRun0_A.sl.r c arg2 harg2 x0) (kernelRun0_A.sl.r_1 c arg5 harg5 x3) (kernelRun0_A.sl.r_2 c arg6 harg6 x4) k0_pay57 k0_pay58 (kernelRun0_A.sl.v30 i) 512#32 (kernelRun0_A.sl.v31 i) (kernelRun0_A.sl.v36 i) 1#32 (harg3.unread x1) (harg4.unread x2) (arg8.view.writes (Elt Ideal) arg8.view.junk kernelRun0_A.sl.H6_1) (arg9.view.writes (Elt Ideal) arg9.view.junk kernelRun0_A.sl.H7_1) (k0_pay59, k0_pay59, k0_pay60) (k0_t1_loop i).trips

/-- The state at the end of the second loop. -/
def T2A := st_k0_t2 (F := Ideal) Variants.none c none i arg2 harg2 arg3 harg3 arg4 harg4 arg5 harg5 arg6 harg6 arg7 harg7 arg8 harg8 arg9 harg9 (BitVec.ofNat 32 (i 1).val) (kernelRun0_A.sl.r c arg2 harg2 x0) (kernelRun0_A.sl.r_1 c arg5 harg5 x3) (kernelRun0_A.sl.r_2 c arg6 harg6 x4) k0_pay57 k0_pay58 (kernelRun0_A.sl.v30 i) 512#32 (kernelRun0_A.sl.v31 i) (kernelRun0_A.sl.v36 i) 1#32 (kernelRun0_A.sl.v54 i) (harg3.unread x1) (harg4.unread x2) (arg8.view.writes (Elt Ideal) arg8.view.junk ((TA c i arg2 harg2 arg3 harg3 arg4 harg4 arg5 harg5 arg6 harg6 arg7 harg7 arg8 harg8 arg9 harg9 x0 x1 x2 x3 x4).2.1 ++ kernelRun0_A.sl.H6_1)) (arg9.view.writes (Elt Ideal) arg9.view.junk ((TA c i arg2 harg2 arg3 harg3 arg4 harg4 arg5 harg5 arg6 harg6 arg7 harg7 arg8 harg8 arg9 harg9 x0 x1 x2 x3 x4).2.2 ++ kernelRun0_A.sl.H7_1)) (TA c i arg2 harg2 arg3 harg3 arg4 harg4 arg5 harg5 arg6 harg6 arg7 harg7 arg8 harg8 arg9 harg9 x0 x1 x2 x3 x4).1 (k0_t2_loop i).trips

theorem T2A_eq : T2A c i arg2 harg2 arg3 harg3 arg4 harg4 arg5 harg5 arg6 harg6 arg7 harg7 arg8 harg8 arg9 harg9 x0 x1 x2 x3 x4 = ((TA c i arg2 harg2 arg3 harg3 arg4 harg4 arg5 harg5 arg6 harg6 arg7 harg7 arg8 harg8 arg9 harg9 x0 x1 x2 x3 x4).1, [], []) := by
  unfold T2A
  exact second_nil _ _ _ _ _ _ _ _ _ _ _ _ _ _ _ _ _ _ _ _ _ _ _ _ _ _ _ _ _ _ _ _ _ _ _ _ _ _ (Nat.le_zero.1 (k0_t2_abs i).2.1)

theorem r3A : kernelRun0_A.sl.r_3 (F := Ideal) c i arg2 harg2 arg3 harg3 arg4 harg4 arg5 harg5 arg6 harg6 arg7 harg7 arg8 harg8 arg9 harg9 x0 x1 x2 x3 x4 = (TA c i arg2 harg2 arg3 harg3 arg4 harg4 arg5 harg5 arg6 harg6 arg7 harg7 arg8 harg8 arg9 harg9 x0 x1 x2 x3 x4).1.1 := by
  show (T2A c i arg2 harg2 arg3 harg3 arg4 harg4 arg5 harg5 arg6 harg6 arg7 harg7 arg8 harg8 arg9 harg9 x0 x1 x2 x3 x4).1.1 = _
  rw [T2A_eq]

theorem r4A : kernelRun0_A.sl.r_4 (F := Ideal) c i arg2 harg2 arg3 harg3 arg4 harg4 arg5 harg5 arg6 harg6 arg7 harg7 arg8 harg8 arg9 harg9 x0 x1 x2 x3 x4 = (TA c i arg2 harg2 arg3 harg3 arg4 harg4 arg5 harg5 arg6 harg6 arg7 harg7 arg8 harg8 arg9 harg9 x0 x1 x2 x3 x4).1.2.1 := by
  show (T2A c i arg2 harg2 arg3 harg3 arg4 harg4 arg5 harg5 arg6 harg6 arg7 harg7 arg8 harg8 arg9 harg9 x0 x1 x2 x3 x4).1.2.1 = _
  rw [T2A_eq]

theorem r5A : kernelRun0_A.sl.r_5 (F := Ideal) c i arg2 harg2 arg3 harg3 arg4 harg4 arg5 harg5 arg6 harg6 arg7 harg7 arg8 harg8 arg9 harg9 x0 x1 x2 x3 x4 = (TA c i arg2 harg2 arg3 harg3 arg4 harg4 arg5 harg5 arg6 harg6 arg7 harg7 arg8 harg8 arg9 harg9 x0 x1 x2 x3 x4).1.2.2 := by
  show (T2A c i arg2 harg2 arg3 harg3 arg4 harg4 arg5 harg5 arg6 harg6 arg7 harg7 arg8 harg8 arg9 harg9 x0 x1 x2 x3 x4).1.2.2 = _
  rw [T2A_eq]

theorem v206A : kernelRun0_A.sl.v206 (F := Ideal) c i arg2 harg2 arg3 harg3 arg4 harg4 arg5 harg5 arg6 harg6 arg7 harg7 arg8 harg8 arg9 harg9 x0 x1 x2 x3 x4 = rows3 i arg8 (arg8.view.writes (Elt Ideal) arg8.view.junk ((TA c i arg2 harg2 arg3 harg3 arg4 harg4 arg5 harg5 arg6 harg6 arg7 harg7 arg8 harg8 arg9 harg9 x0 x1 x2 x3 x4).2.1 ++ kernelRun0_A.sl.H6_1)) := by
  show rows3 i arg8 (arg8.view.writes (Elt Ideal) arg8.view.junk ((T2A c i arg2 harg2 arg3 harg3 arg4 harg4 arg5 harg5 arg6 harg6 arg7 harg7 arg8 harg8 arg9 harg9 x0 x1 x2 x3 x4).2.1 ++ ((TA c i arg2 harg2 arg3 harg3 arg4 harg4 arg5 harg5 arg6 harg6 arg7 harg7 arg8 harg8 arg9 harg9 x0 x1 x2 x3 x4).2.1 ++ kernelRun0_A.sl.H6_1))) = _
  rw [T2A_eq, List.nil_append]

theorem v213A : kernelRun0_A.sl.v213 (F := Ideal) c i arg2 harg2 arg3 harg3 arg4 harg4 arg5 harg5 arg6 harg6 arg7 harg7 arg8 harg8 arg9 harg9 x0 x1 x2 x3 x4 = rows3 i arg9 (arg9.view.writes (Elt Ideal) arg9.view.junk ((TA c i arg2 harg2 arg3 harg3 arg4 harg4 arg5 harg5 arg6 harg6 arg7 harg7 arg8 harg8 arg9 harg9 x0 x1 x2 x3 x4).2.2 ++ kernelRun0_A.sl.H7_1)) := by
  show rows3 i arg9 (arg9.view.writes (Elt Ideal) arg9.view.junk ((T2A c i arg2 harg2 arg3 harg3 arg4 harg4 arg5 harg5 arg6 harg6 arg7 harg7 arg8 harg8 arg9 harg9 x0 x1 x2 x3 x4).2.2 ++ ((TA c i arg2 harg2 arg3 harg3 arg4 harg4 arg5 harg5 arg6 harg6 arg7 harg7 arg8 harg8 arg9 harg9 x0 x1 x2 x3 x4).2.2 ++ kernelRun0_A.sl.H7_1))) = _
  rw [T2A_eq, List.nil_append]

theorem dkA (hc0 : cond0_0 i) : (kernelRun0_A (F := Ideal) c i arg2 harg2 arg3 harg3 arg4 harg4 arg5 harg5 arg6 harg6 arg7 harg7 arg8 harg8 arg9 harg9 hc0 x0 x1 x2 x3 x4).2.1
    = ⟨Rect.unit (s := S4096x128) (k0_off3 i) S512x128.size (k0_off3_inb i), tnV (shapeCast S512x128 (rows3 i arg8 (arg8.view.writes (Elt Ideal) arg8.view.junk ((TA c i arg2 harg2 arg3 harg3 arg4 harg4 arg5 harg5 arg6 harg6 arg7 harg7 arg8 harg8 arg9 harg9 x0 x1 x2 x3 x4).2.1 ++ kernelRun0_A.sl.H6_1))) shapeCasts_S512x128_S512x128) (dzD (q0 arg2 harg2 x0) (do0 arg5 harg5 x3) (c0 arg6 harg6 x4) (msk3 i) (rows3 i arg3 (harg3.unread x1)) (rows3 i arg4 (harg4.unread x2)) (TA c i arg2 harg2 arg3 harg3 arg4 harg4 arg5 harg5 arg6 harg6 arg7 harg7 arg8 harg8 arg9 harg9 x0 x1 x2 x3 x4).1.1 (TA c i arg2 harg2 arg3 harg3 arg4 harg4 arg5 harg5 arg6 harg6 arg7 harg7 arg8 harg8 arg9 harg9 x0 x1 x2 x3 x4).1.2.1) (q0 arg2 harg2 x0)⟩ :: ((TA c i arg2 harg2 arg3 harg3 arg4 harg4 arg5 harg5 arg6 harg6 arg7 harg7 arg8 harg8 arg9 harg9 x0 x1 x2 x3 x4).2.1 ++ kernelRun0_A.sl.H6_1) := by
  have h : (kernelRun0_A (F := Ideal) c i arg2 harg2 arg3 harg3 arg4 harg4 arg5 harg5 arg6 harg6 arg7 harg7 arg8 harg8 arg9 harg9 hc0 x0 x1 x2 x3 x4).2.1 = ⟨Rect.unit (s := S4096x128) (k0_off3 i) S512x128.size (k0_off3_inb i), k0_pay100 (kernelRun0_A.sl.r c arg2 harg2 x0) k0_pay58 (kernelRun0_A.sl.r_4 c i arg2 harg2 arg3 harg3 arg4 harg4 arg5 harg5 arg6 harg6 arg7 harg7 arg8 harg8 arg9 harg9 x0 x1 x2 x3 x4) (kernelRun0_A.sl.r_8 i) (kernelRun0_A.sl.r_11 c i arg2 harg2 arg3 harg3 x0 x1) (kernelRun0_A.sl.r_19 c i arg2 harg2 arg3 harg3 arg4 harg4 arg5 harg5 arg6 harg6 arg7 harg7 arg8 harg8 arg9 harg9 x0 x1 x2 x3 x4) (kernelRun0_A.sl.r_20 c i arg2 harg2 arg3 harg3 arg4 harg4 arg5 harg5 arg6 harg6 arg7 harg7 arg8 harg8 arg9 harg9 x0 x1 x2 x3 x4) (kernelRun0_A.sl.r_21 c i arg2 harg2 arg3 harg3 arg4 harg4 arg5 harg5 arg6 harg6 arg7 harg7 arg8 harg8 arg9 harg9 x0 x1 x2 x3 x4) (kernelRun0_A.sl.r_22 c i arg2 harg2 arg3 harg3 arg4 harg4 arg5 harg5 arg6 harg6 arg7 harg7 arg8 harg8 arg9 harg9 x0 x1 x2 x3 x4) (kernelRun0_A.sl.r_23 c i arg2 harg2 arg3 harg3 arg4 harg4 arg5 harg5 arg6 harg6 arg7 harg7 arg8 harg8 arg9 harg9 x0 x1 x2 x3 x4) (kernelRun0_A.sl.r_24 c i arg2 harg2 arg3 harg3 arg4 harg4 arg5 harg5 arg6 harg6 arg7 harg7 arg8 harg8 arg9 harg9 x0 x1 x2 x3 x4) (kernelRun0_A.sl.v206 c i arg2 harg2 arg3 harg3 arg4 harg4 arg5 harg5 arg6 harg6 arg7 harg7 arg8 harg8 arg9 harg9 x0 x1 x2 x3 x4)⟩
      :: ((T2A c i arg2 harg2 arg3 harg3 arg4 harg4 arg5 harg5 arg6 harg6 arg7 harg7 arg8 harg8 arg9 harg9 x0 x1 x2 x3 x4).2.1 ++ ((TA c i arg2 harg2 arg3 harg3 arg4 harg4 arg5 harg5 arg6 harg6 arg7 harg7 arg8 harg8 arg9 harg9 x0 x1 x2 x3 x4).2.1 ++ kernelRun0_A.sl.H6_1)) := by
    unfold kernelRun0_A; rfl
  rw [h, T2A_eq, List.nil_append, v206A, r4A]
  refine congrArg (fun p => (⟨_, p⟩ : View.Piece (Elt Ideal) S4096x128 .f32) :: _) ?_
  delta kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_2 kernelRun0_A.sl.r_1 kernelRun0_A.sl.r kernelRun0_A.sl.v206 kernelRun0_A.sl.v213
  rw [r3A]
  exact congrArg (fun p => addf (shapeCast S512x128 (rows3 i arg8 (arg8.view.writes (Elt Ideal) arg8.view.junk ((TA c i arg2 harg2 arg3 harg3 arg4 harg4 arg5 harg5 arg6 harg6 arg7 harg7 arg8 harg8 arg9 harg9 x0 x1 x2 x3 x4).2.1 ++ kernelRun0_A.sl.H6_1))) shapeCasts_S512x128_S512x128) (matmul dot_S512x512_S512x128_S512x128_0_0_1_1_n_n none p (q0 arg2 harg2 x0) (constant S512x128 .f32 0x00000000#32)))
    (dzD_eq (q0 arg2 harg2 x0) (do0 arg5 harg5 x3) (c0 arg6 harg6 x4) (msk3 i) (rows3 i arg3 (harg3.unread x1)) (rows3 i arg4 (harg4.unread x2)) (TA c i arg2 harg2 arg3 harg3 arg4 harg4 arg5 harg5 arg6 harg6 arg7 harg7 arg8 harg8 arg9 harg9 x0 x1 x2 x3 x4).1.1 (TA c i arg2 harg2 arg3 harg3 arg4 harg4 arg5 harg5 arg6 harg6 arg7 harg7 arg8 harg8 arg9 harg9 x0 x1 x2 x3 x4).1.2.1)

theorem dvA (hc0 : cond0_0 i) : (kernelRun0_A (F := Ideal) c i arg2 harg2 arg3 harg3 arg4 harg4 arg5 harg5 arg6 harg6 arg7 harg7 arg8 harg8 arg9 harg9 hc0 x0 x1 x2 x3 x4).2.2.1
    = ⟨Rect.unit (s := S4096x128) (k0_off3 i) S512x128.size (k0_off3_inb i), tnV (shapeCast S512x128 (rows3 i arg9 (arg9.view.writes (Elt Ideal) arg9.view.junk ((TA c i arg2 harg2 arg3 harg3 arg4 harg4 arg5 harg5 arg6 harg6 arg7 harg7 arg8 harg8 arg9 harg9 x0 x1 x2 x3 x4).2.2 ++ kernelRun0_A.sl.H7_1))) shapeCasts_S512x128_S512x128) (wD (q0 arg2 harg2 x0) (c0 arg6 harg6 x4) (msk3 i) (rows3 i arg3 (harg3.unread x1)) (TA c i arg2 harg2 arg3 harg3 arg4 harg4 arg5 harg5 arg6 harg6 arg7 harg7 arg8 harg8 arg9 harg9 x0 x1 x2 x3 x4).1.1) (do0 arg5 harg5 x3)⟩ :: ((TA c i arg2 harg2 arg3 harg3 arg4 harg4 arg5 harg5 arg6 harg6 arg7 harg7 arg8 harg8 arg9 harg9 x0 x1 x2 x3 x4).2.2 ++ kernelRun0_A.sl.H7_1) := by
  have h : (kernelRun0_A (F := Ideal) c i arg2 harg2 arg3 harg3 arg4 harg4 arg5 harg5 arg6 harg6 arg7 harg7 arg8 harg8 arg9 harg9 hc0 x0 x1 x2 x3 x4).2.2.1 = ⟨Rect.unit (s := S4096x128) (k0_off3 i) S512x128.size (k0_off3_inb i), k0_pay101 (kernelRun0_A.sl.r_1 c arg5 harg5 x3) (kernelRun0_A.sl.r_18 c i arg2 harg2 arg3 harg3 arg4 harg4 arg5 harg5 arg6 harg6 arg7 harg7 arg8 harg8 arg9 harg9 x0 x1 x2 x3 x4) (kernelRun0_A.sl.v213 c i arg2 harg2 arg3 harg3 arg4 harg4 arg5 harg5 arg6 harg6 arg7 harg7 arg8 harg8 arg9 harg9 x0 x1 x2 x3 x4)⟩
      :: ((T2A c i arg2 harg2 arg3 harg3 arg4 harg4 arg5 harg5 arg6 harg6 arg7 harg7 arg8 harg8 arg9 harg9 x0 x1 x2 x3 x4).2.2 ++ ((TA c i arg2 harg2 arg3 harg3 arg4 harg4 arg5 harg5 arg6 harg6 arg7 harg7 arg8 harg8 arg9 harg9 x0 x1 x2 x3 x4).2.2 ++ kernelRun0_A.sl.H7_1)) := by
    unfold kernelRun0_A; rfl
  rw [h, T2A_eq, List.nil_append, v213A]
  refine congrArg (fun p => (⟨_, p⟩ : View.Piece (Elt Ideal) S4096x128 .f32) :: _) ?_
  delta kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_2 kernelRun0_A.sl.r_1 kernelRun0_A.sl.r kernelRun0_A.sl.v206 kernelRun0_A.sl.v213
  rw [r3A]
  exact congrArg (fun p => tnV (shapeCast S512x128 (rows3 i arg9 (arg9.view.writes (Elt Ideal) arg9.view.junk ((TA c i arg2 harg2 arg3 harg3 arg4 harg4 arg5 harg5 arg6 harg6 arg7 harg7 arg8 harg8 arg9 harg9 x0 x1 x2 x3 x4).2.2 ++ kernelRun0_A.sl.H7_1))) shapeCasts_S512x128_S512x128) p (do0 arg5 harg5 x3))
    (w_diag (q0 arg2 harg2 x0) (c0 arg6 harg6 x4) (msk3 i) (rows3 i arg3 (harg3.unread x1)) (TA c i arg2 harg2 arg3 harg3 arg4 harg4 arg5 harg5 arg6 harg6 arg7 harg7 arg8 harg8 arg9 harg9 x0 x1 x2 x3 x4).1.1)

theorem dqA (hc0 : cond0_0 i) : (kernelRun0_A (F := Ideal) c i arg2 harg2 arg3 harg3 arg4 harg4 arg5 harg5 arg6 harg6 arg7 harg7 arg8 harg8 arg9 harg9 hc0 x0 x1 x2 x3 x4).1
    = [⟨Rect.unit (s := S512x128) ![0, 0] S512x128.size inb_S512x128_S512x128_0_0, dqV (TA c i arg2 harg2 arg3 harg3 arg4 harg4 arg5 harg5 arg6 harg6 arg7 harg7 arg8 harg8 arg9 harg9 x0 x1 x2 x3 x4).1.2.2 (dzD (q0 arg2 harg2 x0) (do0 arg5 harg5 x3) (c0 arg6 harg6 x4) (msk3 i) (rows3 i arg3 (harg3.unread x1)) (rows3 i arg4 (harg4.unread x2)) (TA c i arg2 harg2 arg3 harg3 arg4 harg4 arg5 harg5 arg6 harg6 arg7 harg7 arg8 harg8 arg9 harg9 x0 x1 x2 x3 x4).1.1 (TA c i arg2 harg2 arg3 harg3 arg4 harg4 arg5 harg5 arg6 harg6 arg7 harg7 arg8 harg8 arg9 harg9 x0 x1 x2 x3 x4).1.2.1) (truncf .bf16 (rows3 i arg3 (harg3.unread x1)) bitsLt_bf16_f32)⟩] := by
  have h : (kernelRun0_A (F := Ideal) c i arg2 harg2 arg3 harg3 arg4 harg4 arg5 harg5 arg6 harg6 arg7 harg7 arg8 harg8 arg9 harg9 hc0 x0 x1 x2 x3 x4).1 = [⟨Rect.unit (s := S512x128) ![0, 0] S512x128.size inb_S512x128_S512x128_0_0, k0_pay99 k0_pay58 (kernelRun0_A.sl.r_4 c i arg2 harg2 arg3 harg3 arg4 harg4 arg5 harg5 arg6 harg6 arg7 harg7 arg8 harg8 arg9 harg9 x0 x1 x2 x3 x4) (kernelRun0_A.sl.r_5 c i arg2 harg2 arg3 harg3 arg4 harg4 arg5 harg5 arg6 harg6 arg7 harg7 arg8 harg8 arg9 harg9 x0 x1 x2 x3 x4) (kernelRun0_A.sl.r_6 i arg3 harg3 x1) (kernelRun0_A.sl.r_8 i) (kernelRun0_A.sl.r_11 c i arg2 harg2 arg3 harg3 x0 x1) (kernelRun0_A.sl.r_19 c i arg2 harg2 arg3 harg3 arg4 harg4 arg5 harg5 arg6 harg6 arg7 harg7 arg8 harg8 arg9 harg9 x0 x1 x2 x3 x4) (kernelRun0_A.sl.r_20 c i arg2 harg2 arg3 harg3 arg4 harg4 arg5 harg5 arg6 harg6 arg7 harg7 arg8 harg8 arg9 harg9 x0 x1 x2 x3 x4) (kernelRun0_A.sl.r_21 c i arg2 harg2 arg3 harg3 arg4 harg4 arg5 harg5 arg6 harg6 arg7 harg7 arg8 harg8 arg9 harg9 x0 x1 x2 x3 x4) (kernelRun0_A.sl.r_22 c i arg2 harg2 arg3 harg3 arg4 harg4 arg5 harg5 arg6 harg6 arg7 harg7 arg8 harg8 arg9 harg9 x0 x1 x2 x3 x4) (kernelRun0_A.sl.r_23 c i arg2 harg2 arg3 harg3 arg4 harg4 arg5 harg5 arg6 harg6 arg7 harg7 arg8 harg8 arg9 harg9 x0 x1 x2 x3 x4) (kernelRun0_A.sl.r_24 c i arg2 harg2 arg3 harg3 arg4 harg4 arg5 harg5 arg6 harg6 arg7 harg7 arg8 harg8 arg9 harg9 x0 x1 x2 x3 x4)⟩] := by
    unfold kernelRun0_A; rfl
  rw [h, r4A, r5A]
  refine congrArg (fun p => [(⟨_, p⟩ : View.Piece (Elt Ideal) S512x128 .f32)]) ?_
  delta kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_2 kernelRun0_A.sl.r_1 kernelRun0_A.sl.r kernelRun0_A.sl.v206 kernelRun0_A.sl.v213
  rw [r3A]
  exact congrArg (fun p => addf (TA c i arg2 harg2 arg3 harg3 arg4 harg4 arg5 harg5 arg6 harg6 arg7 harg7 arg8 harg8 arg9 harg9 x0 x1 x2 x3 x4).1.2.2 (matmul dot_S512x512_S512x128_S512x128_1_0_0_1_n_n none p (truncf .bf16 (rows3 i arg3 (harg3.unread x1)) bitsLt_bf16_f32) (constant S512x128 .f32 0x00000000#32)))
    (dzD_eq (q0 arg2 harg2 x0) (do0 arg5 harg5 x3) (c0 arg6 harg6 x4) (msk3 i) (rows3 i arg3 (harg3.unread x1)) (rows3 i arg4 (harg4.unread x2)) (TA c i arg2 harg2 arg3 harg3 arg4 harg4 arg5 harg5 arg6 harg6 arg7 harg7 arg8 harg8 arg9 harg9 x0 x1 x2 x3 x4).1.1 (TA c i arg2 harg2 arg3 harg3 arg4 harg4 arg5 harg5 arg6 harg6 arg7 harg7 arg8 harg8 arg9 harg9 x0 x1 x2 x3 x4).1.2.1)

end Cert.SB

end
-- ==== Proof.SB.Math.lean ====
/- The backward pass of the stick-breaking attention of one head over the real numbers, and one block of it on tiles. -/
module

public import proofs.«01_k».proof.Proof.SB.Diag

@[expose] public section

set_option maxRecDepth 16384

noncomputable section

open Idealize.ShloMosaic Idealize.ShloMosaic.TcCoe Idealize.SL.Sem

namespace Cert.SB

open Cert.KernelIdeal Cert.KernelIdeal.Gen

/-! ## One head

Row `t` of `q` attends to the rows `s < t` of `k` and `v`; `o` is the cotangent of the result and `C t` the row's
total of the logarithms of one minus the gates. -/

/-- The logits. -/
def zG (q k : ℕ → ℕ → ℝ) : ℕ → ℕ → ℝ := fun t s => dot q k t s * sc

/-- The logarithm of one minus the gate, zero unless `s < t`. -/
def aG (q k : ℕ → ℕ → ℝ) : ℕ → ℕ → ℝ := fun t s => if s < t then l1R (zG q k t s) else 0

/-- The attention's weights. -/
def wG (q k : ℕ → ℕ → ℝ) (C : ℕ → ℝ) : ℕ → ℕ → ℝ := fun t s =>
  if s < t then Real.exp (lsR (zG q k t s) + (C t - ∑ j ∈ Finset.range (s + 1), aG q k t j)) else 0

/-- The weights times their gradients. -/
def eG (q k v o : ℕ → ℕ → ℝ) (C : ℕ → ℝ) : ℕ → ℕ → ℝ := fun t s => wG q k C t s * dot o v t s

/-- The gradient of the product of q and k. -/
def dzG (q k v o : ℕ → ℕ → ℝ) (C : ℕ → ℝ) : ℕ → ℕ → ℝ := fun t s =>
  if s < t then (eG q k v o C t s * (1 - Real.exp (lsR (zG q k t s)))
    - Real.exp (lsR (zG q k t s)) * ∑ j ∈ Finset.range s, eG q k v o C t j) * sc else 0

theorem tile_congr {n m : ℕ} {φ : FTy} {f g : ℕ → ℕ → ℝ} (h : ∀ r < n, ∀ l < m, f r l = g r l) :
    (tile f : FVec Ideal ⟨2, ![n, m]⟩ φ) = tile g :=
  funext fun i => congrArg _ (h _ (i 0).isLt _ (i 1).isLt)

/-! ## One block: row block `b`, column block `k` -/

section Block

variable (q kk v o : ℕ → ℕ → ℝ) (C : ℕ → ℝ) (b k : ℕ)

/-- Block (b, k) of an array. -/
abbrev blk {n m : ℕ} {φ : FTy} (f : ℕ → ℕ → ℝ) : FVec Ideal ⟨2, ![n, m]⟩ φ := tile fun r l => f (512 * b + r) (512 * k + l)

/-- Rows of block `b`. -/
abbrev rws {n m : ℕ} {φ : FTy} (f : ℕ → ℕ → ℝ) : FVec Ideal ⟨2, ![n, m]⟩ φ := tile fun r l => f (512 * b + r) l

/-- The sums of the first `512 k` columns of the rows of block `b`. -/
abbrev part {n m : ℕ} {φ : FTy} (f : ℕ → ℕ → ℝ) : FVec Ideal ⟨2, ![n, m]⟩ φ :=
  tile fun r _ => ∑ j ∈ Finset.range (512 * k), f (512 * b + r) j

theorem z_blk : zV (rws b q) (rws k kk) = blk b k (zG q kk) := zV_tile _ _

theorem l1_blk (h : k < b) : l1V (blk b k (zG q kk)) = blk b k (aG q kk) := by
  rw [l1V_tile]
  refine tile_congr fun r hr l hl => ?_
  rw [aG, if_pos (by omega)]

variable (m : IVec S512x512 1)
  (hm : ∀ (r : Fin 512) (l : Fin 512), m (ix2 r l) = if 512 * k + l.val < 512 * b + r.val then 1#1 else 0#1)

include hm

theorem l1_msk : mskV m (l1V (blk b k (zG q kk))) = blk b k (aG q kk) := by
  rw [l1V_tile, mskV_tile _ m (fun r l => 512 * k + l < 512 * b + r) hm]
  rfl

omit hm in
theorem w_sum : wV k0_pay57 (lsV (blk b k (zG q kk))) (blk b k (aG q kk)) (subf (tile fun r _ => C (512 * b + r)) (part b k (aG q kk)))
    = blk b k fun t s => Real.exp (lsR (zG q kk t s) + (C t - ∑ j ∈ Finset.range (s + 1), aG q kk t j)) := by
  rw [lsV_tile, subf_tile, wV_tile]
  refine tile_congr fun r hr l hl => ?_
  dsimp only
  rw [add_assoc (512 * k), Finset.sum_range_add (aG q kk (512 * b + r)) (512 * k) (l + 1), sub_sub]

omit hm in
theorem w_blk (h : k < b) : wV k0_pay57 (lsV (blk b k (zG q kk))) (blk b k (aG q kk)) (subf (tile fun r _ => C (512 * b + r)) (part b k (aG q kk)))
    = blk b k (wG q kk C) := by
  rw [w_sum]
  refine tile_congr fun r hr l hl => ?_
  rw [wG, if_pos (by omega)]

theorem w_msk : mskV m (wV k0_pay57 (lsV (blk b k (zG q kk))) (blk b k (aG q kk)) (subf (tile fun r _ => C (512 * b + r)) (part b k (aG q kk))))
    = blk b k (wG q kk C) := by
  rw [w_sum, mskV_tile _ m (fun r l => 512 * k + l < 512 * b + r) hm]
  rfl

omit hm in
theorem e_blk : eV (rws b o) (rws k v) (blk b k (wG q kk C)) = blk b k (eG q kk v o C) := eV_tile _ _ _

omit hm in
theorem dz_sum : dzV k0_pay58 (lsV (blk b k (zG q kk))) (blk b k (eG q kk v o C)) (part b k (eG q kk v o C))
    = blk b k fun t s => (eG q kk v o C t s * (1 - Real.exp (lsR (zG q kk t s)))
        - Real.exp (lsR (zG q kk t s)) * ∑ j ∈ Finset.range s, eG q kk v o C t j) * sc := by
  rw [lsV_tile, dzV_tile]
  refine tile_congr fun r hr l hl => ?_
  dsimp only
  rw [Finset.sum_range_add]

omit hm in
theorem dz_blk (h : k < b) : dzV k0_pay58 (lsV (blk b k (zG q kk))) (blk b k (eG q kk v o C)) (part b k (eG q kk v o C))
    = blk b k (dzG q kk v o C) := by
  rw [dz_sum]
  refine tile_congr fun r hr l hl => ?_
  rw [dzG, if_pos (by omega)]

theorem dz_msk : mskV m (dzV k0_pay58 (lsV (blk b k (zG q kk))) (blk b k (eG q kk v o C)) (part b k (eG q kk v o C)))
    = blk b k (dzG q kk v o C) := by
  rw [dz_sum, mskV_tile _ m (fun r l => 512 * k + l < 512 * b + r) hm]
  rfl

omit hm in
theorem part_add (f : ℕ → ℕ → ℝ) : addf (part b k f) (rsum' (blk b k f)) = part b (k + 1) f := by
  rw [rsum'_tile, addf_tile]
  refine tile_congr fun r hr l hl => ?_
  rw [mul_add, mul_one, Finset.sum_range_add]

/-- A product's sum over the first `512 k` rows. -/
abbrev pprod {n m : ℕ} {φ : FTy} (f g : ℕ → ℕ → ℝ) : FVec Ideal ⟨2, ![n, m]⟩ φ :=
  tile fun r d => ∑ s ∈ Finset.range (512 * k), f (512 * b + r) s * g s d

omit hm in
theorem dq_add (f : ℕ → ℕ → ℝ) : dqV (pprod b k f kk) (blk b k f) (rws k kk) = pprod b (k + 1) f kk := by
  rw [dqV_tile]
  refine tile_congr fun r hr l hl => ?_
  rw [mul_add, mul_one, Finset.sum_range_add]

omit hm in
theorem tn_add (f g h : ℕ → ℕ → ℝ) : tnV (rws k h) (blk b k f) (rws b g)
    = rws k fun s d => h s d + ∑ t ∈ Finset.range 512, f (512 * b + t) s * g (512 * b + t) d := tnV_tile _ _ _

end Block

end Cert.SB

end
-- ==== Proof.SB.Loop.lean ====
/- What the kernel's buffers hold after each trip of its loop, and after the diagonal block. -/
module

public import proofs.«01_k».proof.Proof.SB.RunA
public import proofs.«01_k».proof.Proof.SB.Math
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.SB

open Cert.KernelIdeal Cert.KernelIdeal.Gen

/-! ## Buffers that hold tiles -/

theorem read_rows {n m : ℕ} (a : Memref sig .tc .vmem ⟨2, ![n, m]⟩ .f32) (X : BufTy.Contents (Elt Ideal) a.view.ty) (f : ℕ → ℕ → ℝ)
    (hX : a.view.read (Elt Ideal) X = tile (φ := .f32) f) {size : Fin 2 → ℕ} {off : Fin 2 → ℕ} {o : ℕ} (hoff : off = ![o, 0])
    (inb : ∀ x : Fin 2, off x + size x ≤ (⟨2, ![n, m]⟩ : Shape).size x) (y : (⟨2, size⟩ : Shape).Idx) :
    View.readAt (Elt Ideal) a.view (Rect.unit (s := ⟨2, ![n, m]⟩) off size inb).toLoadRect X y
      = (((f (o + (y 0).val) (y 1).val : ℝ) : EReal)) := by
  subst hoff
  have h := View.readAt_eq_ld (Val := Elt Ideal) a.view X (Rect.unit (s := ⟨2, ![n, m]⟩) ![o, 0] size inb)
  refine (congrFun h y).trans ?_
  show a.view.read (Elt Ideal) X ((Rect.unit (s := ⟨2, ![n, m]⟩) ![o, 0] size inb).idx y) = _
  rw [hX]
  show ((f _ _ : ℝ) : EReal) = _
  congr 2
  · show o + 1 * (y 0).val = _; rw [Nat.one_mul]
  · show 0 + 1 * (y 1).val = _; rw [Nat.one_mul, Nat.zero_add]

theorem read_rows_tile (a : Memref sig .tc .vmem S4096x128 .f32) (X : BufTy.Contents (Elt Ideal) a.view.ty) (f : ℕ → ℕ → ℝ)
    (hX : a.view.read (Elt Ideal) X = tile (φ := .f32) f) {off : Fin 2 → ℕ} {k : ℕ} (hoff : off = ![512 * k, 0])
    (inb : ∀ x : Fin 2, off x + S512x128.size x ≤ S4096x128.size x) :
    View.readAt (Elt Ideal) a.view (Rect.unit (s := S4096x128) off S512x128.size inb).toLoadRect X = rws (φ := .f32) k f :=
  funext fun y => read_rows a X f hX hoff inb y

theorem read_put (a : Memref sig .tc .vmem S4096x128 .f32) (G : BufTy.Contents (Elt Ideal) a.view.ty)
    (L : List (View.Piece (Elt Ideal) S4096x128 .f32)) (g h : ℕ → ℕ → ℝ)
    (hG : a.view.read (Elt Ideal) (a.view.writes (Elt Ideal) G L) = tile (φ := .f32) g) {off : Fin 2 → ℕ} {k : ℕ} (hoff : off = ![512 * k, 0])
    (inb : ∀ x : Fin 2, off x + S512x128.size x ≤ S4096x128.size x) :
    a.view.read (Elt Ideal) (a.view.writes (Elt Ideal) G
        (⟨Rect.unit (s := S4096x128) off S512x128.size inb, (rws k h : FVec Ideal S512x128 .f32)⟩ :: L))
      = tile (φ := .f32) fun x d => if 512 * k ≤ x ∧ x < 512 * k + 512 then h x d else g x d := by
  funext y
  refine (View.read_writes_cons_rows (Val := Elt Ideal) a.view G inb _ L y hoff (W := 512) rfl rfl).trans ?_
  show _ = ((if _ then _ else _ : ℝ) : EReal)
  by_cases hy : 512 * k ≤ (y 0).val ∧ (y 0).val < 512 * k + 512
  · rw [dif_pos hy, if_pos hy]
    show ((h (512 * k + ((y 0).val - 512 * k)) ((y 1).val - 0) : ℝ) : EReal) = _
    rw [Nat.add_sub_of_le hy.1, Nat.sub_zero]
  · rw [dif_neg hy, if_neg hy, hG]
    rfl

theorem cast_self (x : FVec Ideal S512x128 .f32) : shapeCast S512x128 x shapeCasts_S512x128_S512x128 = x := by
  funext i; idx_vars i; pointwise

/-- `p` with the products of row block `b` added in the first `512 k` rows. -/
def upd (b k : ℕ) (f g p : ℕ → ℕ → ℝ) : ℕ → ℕ → ℝ := fun x d =>
  if x < 512 * k then p x d + ∑ t ∈ Finset.range 512, f (512 * b + t) x * g (512 * b + t) d else p x d

theorem upd_zero (b : ℕ) (f g p : ℕ → ℕ → ℝ) : upd b 0 f g p = p := by
  funext x d; simp [upd]

theorem upd_succ (b k : ℕ) (f g p : ℕ → ℕ → ℝ) (x d : ℕ) :
    (if 512 * k ≤ x ∧ x < 512 * k + 512 then upd b k f g p x d + ∑ t ∈ Finset.range 512, f (512 * b + t) x * g (512 * b + t) d
      else upd b k f g p x d) = upd b (k + 1) f g p x d := by
  unfold upd
  by_cases h : 512 * k ≤ x ∧ x < 512 * k + 512
  · rw [if_pos h, if_neg (by omega), if_pos (by omega)]
  · rw [if_neg h]
    by_cases h' : x < 512 * k
    · rw [if_pos h', if_pos (by omega)]
    · rw [if_neg h', if_neg (by omega)]

/-- A block's products stored over the rows they were added to. -/
theorem put_upd (a : Memref sig .tc .vmem S4096x128 .f32) (G : BufTy.Contents (Elt Ideal) a.view.ty)
    (L : List (View.Piece (Elt Ideal) S4096x128 .f32)) (b k : ℕ) (f g p : ℕ → ℕ → ℝ)
    (hG : a.view.read (Elt Ideal) (a.view.writes (Elt Ideal) G L) = tile (φ := .f32) (upd b k f g p)) {off : Fin 2 → ℕ} (hoff : off = ![512 * k, 0])
    (inb : ∀ x : Fin 2, off x + S512x128.size x ≤ S4096x128.size x) :
    a.view.read (Elt Ideal) (a.view.writes (Elt Ideal) G
        (⟨Rect.unit (s := S4096x128) off S512x128.size inb,
          tnV (shapeCast S512x128 (View.readAt (Elt Ideal) a.view (Rect.unit (s := S4096x128) off S512x128.size inb).toLoadRect
            (a.view.writes (Elt Ideal) G L)) shapeCasts_S512x128_S512x128) (blk b k f) (rws b g)⟩ :: L))
      = tile (φ := .f32) (upd b (k + 1) f g p) := by
  rw [cast_self, read_rows_tile a _ _ hG hoff inb, tn_add, read_put a G L _ _ hG hoff inb]
  exact tile_congr fun x _ d _ => upd_succ b k f g p x d

/-! ## The loop -/

theorem trips_eq : ∀ i : grid0.Coords, (k0_t1_loop i).trips = (i 1).val := by decide +kernel

section Loop

variable (𝒱 : Variants) (c : Dev nD) (bd : Option 𝒱.V) (i : grid0.Coords)
  (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole)
  (arg1 : BitVec 32) (v4 : FVec Ideal S512x128 .bf16) (v5 : Vec Ideal S512x128 .bf16) (v7 : FVec Ideal S512x1 .f32)
  (v30 c512 v31 v36 v38 : BitVec 32)
  (X3 : BufTy.Contents (Elt Ideal) arg3.view.ty) (X4 : BufTy.Contents (Elt Ideal) arg4.view.ty)
  (G8 : BufTy.Contents (Elt Ideal) arg8.view.ty) (G9 : BufTy.Contents (Elt Ideal) arg9.view.ty)
  (q kk v o p8 p9 : ℕ → ℕ → ℝ) (C : ℕ → ℝ)
  (hq : v4 = rws (i 1).val q) (ho : v5 = (rws (i 1).val o : FVec Ideal S512x128 .bf16)) (hc : v7 = tile fun r _ => C (512 * (i 1).val + r))
  (h3 : arg3.view.read (Elt Ideal) X3 = tile (φ := .f32) kk) (h4 : arg4.view.read (Elt Ideal) X4 = tile (φ := .f32) v)
  (h8 : arg8.view.read (Elt Ideal) G8 = tile (φ := .f32) p8) (h9 : arg9.view.read (Elt Ideal) G9 = tile (φ := .f32) p9)

include hq ho hc h3 h4 h8 h9

/-- After `k` trips: the carried sums run over the first `512 k` columns, and the first `512 k` rows of the gradients
of k and v have received this row block's products. -/
theorem loop_inv (k : ℕ) (hk : k ≤ (i 1).val) (s) (hs : s = st_k0_t1 (F := Ideal) 𝒱 c bd i arg2 harg2 arg3 harg3 arg4 harg4 arg5 harg5 arg6 harg6 arg7 harg7 arg8 harg8 arg9 harg9 arg1 v4 v5 v7 k0_pay57 k0_pay58 v30 c512 v31 v36 v38 X3 X4 G8 G9 (k0_pay59, k0_pay59, k0_pay60) k) :
    s.1 = (part (i 1).val k (aG q kk), part (i 1).val k (eG q kk v o C), pprod (i 1).val k (dzG q kk v o C) kk)
    ∧ arg8.view.read (Elt Ideal) (arg8.view.writes (Elt Ideal) G8 s.2.1) = tile (φ := .f32) (upd (i 1).val k (dzG q kk v o C) q p8)
    ∧ arg9.view.read (Elt Ideal) (arg9.view.writes (Elt Ideal) G9 s.2.2) = tile (φ := .f32) (upd (i 1).val k (wG q kk C) o p9) := by
  induction k generalizing s with
  | zero =>
    subst hs
    refine ⟨?_, by rw [upd_zero]; exact h8, by rw [upd_zero]; exact h9⟩
    show (k0_pay59, k0_pay59, k0_pay60) = _
    have e1 : k0_pay59 (F := Ideal) = tile fun _ _ => 0 := zero_tile
    have e2 : k0_pay60 (F := Ideal) = tile fun _ _ => 0 := zero_tile
    rw [e1, e2]
    unfold part pprod
    simp only [Nat.mul_zero, Finset.range_zero, Finset.sum_empty]
  | succ k ih =>
    obtain ⟨a1, a8, a9⟩ := ih (by omega) _ rfl
    have hlt : k < (k0_t1_loop i).trips := by rw [trips_eq]; omega
    have hkb : k < (i 1).val := by omega
    have hst := st_k0_t1_succ (F := Ideal) 𝒱 c bd i arg2 harg2 arg3 harg3 arg4 harg4 arg5 harg5 arg6 harg6 arg7 harg7 arg8 harg8 arg9 harg9 arg1 v4 v5 v7 k0_pay57 k0_pay58 v30 c512 v31 v36 v38 X3 X4 G8 G9 (k0_pay59, k0_pay59, k0_pay60) ⟨k, hlt⟩
    rw [hs, hst]
    dsimp only
    generalize hp : st_k0_t1 (F := Ideal) 𝒱 c bd i arg2 harg2 arg3 harg3 arg4 harg4 arg5 harg5 arg6 harg6 arg7 harg7 arg8 harg8 arg9 harg9 arg1 v4 v5 v7 k0_pay57 k0_pay58 v30 c512 v31 v36 v38 X3 X4 G8 G9 (k0_pay59, k0_pay59, k0_pay60) k = p at a1 a8 a9 ⊢
    have r3 : rows1 i ⟨k, hlt⟩ arg3 X3 = rws k kk := read_rows_tile arg3 X3 kk h3 (k0_off1_eq i ⟨k, hlt⟩) _
    have r4 : rows1 i ⟨k, hlt⟩ arg4 X4 = rws k v := read_rows_tile arg4 X4 v h4 (k0_off1_eq i ⟨k, hlt⟩) _
    have hz : zT i arg3 v4 X3 ⟨k, hlt⟩ = blk (i 1).val k (zG q kk) := by
      unfold zT; rw [r3, hq]; exact z_blk q kk _ _
    have hw : wT i arg3 v4 v7 k0_pay57 X3 ⟨k, hlt⟩ p.1 = blk (i 1).val k (wG q kk C) := by
      unfold wT; rw [hz, l1_blk q kk _ _ hkb, a1, hc]; exact w_blk q kk C _ _ hkb
    have he : eT i arg3 arg4 v4 v5 v7 k0_pay57 X3 X4 ⟨k, hlt⟩ p.1 = blk (i 1).val k (eG q kk v o C) := by
      unfold eT; rw [hw, r4, ho]; exact e_blk q kk v o C _ _
    have hdz : dzT i arg3 arg4 v4 v5 v7 k0_pay57 k0_pay58 X3 X4 ⟨k, hlt⟩ p.1 = blk (i 1).val k (dzG q kk v o C) := by
      unfold dzT; rw [he, hz, a1]; exact dz_blk q kk v o C _ _ hkb
    refine ⟨?_, ?_, ?_⟩
    · unfold tripR_k0_t1
      rw [trip_yield, hz, he, hdz, l1_blk q kk _ _ hkb, r3, a1]
      exact congrArg₂ _ (part_add _ _ _) (congrArg₂ _ (part_add _ _ _) (dq_add kk _ _ _))
    · rw [trip_dk, hdz, hq]
      exact put_upd arg8 G8 _ _ k _ _ _ a8 (k0_off1_eq i ⟨k, hlt⟩) _
    · rw [trip_dv, hw, ho]
      exact put_upd arg9 G9 _ _ k _ _ _ a9 (k0_off1_eq i ⟨k, hlt⟩) _

/-- After the last trip. -/
theorem loop_fin (n : ℕ) (hn : n = (i 1).val) :
    (st_k0_t1 (F := Ideal) 𝒱 c bd i arg2 harg2 arg3 harg3 arg4 harg4 arg5 harg5 arg6 harg6 arg7 harg7 arg8 harg8 arg9 harg9 arg1 v4 v5 v7 k0_pay57 k0_pay58 v30 c512 v31 v36 v38 X3 X4 G8 G9 (k0_pay59, k0_pay59, k0_pay60) n).1
      = (part (i 1).val (i 1).val (aG q kk), part (i 1).val (i 1).val (eG q kk v o C), pprod (i 1).val (i 1).val (dzG q kk v o C) kk)
    ∧ arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg1 v4 v5 v7 k0_pay57 k0_pay58 v30 c512 v31 v36 v38 X3 X4 G8 G9 (k0_pay59, k0_pay59, k0_pay60) n).2.1)
      = tile (φ := .f32) (upd (i 1).val (i 1).val (dzG q kk v o C) q p8)
    ∧ arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg1 v4 v5 v7 k0_pay57 k0_pay58 v30 c512 v31 v36 v38 X3 X4 G8 G9 (k0_pay59, k0_pay59, k0_pay60) n).2.2)
      = tile (φ := .f32) (upd (i 1).val (i 1).val (wG q kk C) o p9) := by
  subst hn
  exact loop_inv 𝒱 c bd i arg2 harg2 arg3 harg3 arg4 harg4 arg5 harg5 arg6 harg6 arg7 harg7 arg8 harg8 arg9 harg9 arg1 v4 v5 v7 v30 c512 v31 v36 v38 X3 X4 G8 G9 q kk v o p8 p9 C hq ho hc h3 h4 h8 h9 (i 1).val le_rfl _ rfl

end Loop

end Cert.SB

end
-- ==== Proof.SB.Point.lean ====
/- What one grid point leaves in the kernel's three output blocks, as formulas over the reals. -/
module

public import proofs.«01_k».proof.Proof.SB.Loop
public import Idealize.ShloMosaic.Lib.WordCmp

@[expose] public section

set_option maxRecDepth 16384

noncomputable section

open Idealize.ShloMosaic Idealize.ShloMosaic.TcCoe Idealize.SL.Sem

namespace Cert.SB

open Cert.KernelIdeal Cert.KernelIdeal.Gen

/-! ## The mask of the diagonal block -/

/-- The words of the diagonal block's corner: both offsets are 512 times the row block. -/
theorem corner : ∀ b : Fin 8,
    Scalar.muli (BitVec.ofNat 32 b.val) 512#32 = BitVec.ofNat 32 (512 * b.val) := by decide +kernel

theorem corner' : ∀ i : grid0.Coords, Scalar.muli (kernelRun0_B.sl.v57 i) 512#32 = BitVec.ofNat 32 (512 * (i 1).val) := by
  decide +kernel

theorem row_lt (i : grid0.Coords) : (i 1).val < 8 := (i 1).isLt

theorem msk_of (a b : BitVec 32) (n : ℕ) (hn : n < 8) (ha : a = BitVec.ofNat 32 (512 * n)) (hb : b = BitVec.ofNat 32 (512 * n)) (r l : Fin 512) :
    cmpi .slt (addi (broadcast S512x512 a) (iota .tc S512x512 32 [1] iota_S512x512_d1_w32))
      (addi (broadcast S512x512 b) (iota .tc S512x512 32 [0] iota_S512x512_d0_w32)) (ix2 r l)
      = if 512 * n + l.val < 512 * n + r.val then 1#1 else 0#1 := by
  subst ha hb
  have e : cmpi .slt (addi (broadcast S512x512 (BitVec.ofNat 32 (512 * n))) (iota .tc S512x512 32 [1] iota_S512x512_d1_w32))
      (addi (broadcast S512x512 (BitVec.ofNat 32 (512 * n))) (iota .tc S512x512 32 [0] iota_S512x512_d0_w32)) (ix2 r l)
      = IntOp.cmpi .slt (BitVec.ofNat 32 (512 * n) + BitVec.ofNat 32 l.val) (BitVec.ofNat 32 (512 * n) + BitVec.ofNat 32 r.val) := by
    pointwise
    rfl
  rw [e]
  rw [← BitVec.ofNat_add, ← BitVec.ofNat_add]
  have h := r.isLt
  have h' := l.isLt
  by_cases hlt : 512 * n + l.val < 512 * n + r.val
  · rw [if_pos hlt]
    exact (WordCmp.cmpi_slt_ofNat_eq_one_iff (by omega) (by omega)).2 hlt
  · rw [if_neg hlt]
    exact (WordCmp.cmpi_slt_ofNat_eq_zero_iff (by omega) (by omega)).2 (by omega)

theorem msk_eq (i : grid0.Coords) (r l : Fin 512) :
    msk3 i (ix2 r l) = if 512 * (i 1).val + l.val < 512 * (i 1).val + r.val then 1#1 else 0#1 :=
  msk_of _ _ (i 1).val (row_lt i) (corner' i) (corner ⟨(i 1).val, row_lt i⟩) r l

/-! ## The blocks a point reads -/

section

variable (i : grid0.Coords) (q kk v o p8 p9 : ℕ → ℕ → ℝ) (C : ℕ → ℝ)

theorem q0_tile (a : Memref sig .tc .vmem S512x128 .f32) (h : a.IsWhole) (f : ℕ → ℕ → ℝ) : q0 a h (tile (φ := .f32) f) = tile (φ := .bf16) f :=
  funext fun y => (read_rows a _ f (h.read_unread _) (o := 0) rfl inb_S512x128_S512x128_0_0 y).trans (by
    show ((f (0 + (y 0).val) (y 1).val : ℝ) : EReal) = ((f (y 0).val (y 1).val : ℝ) : EReal); rw [Nat.zero_add])

theorem do0_tile (a : Memref sig .tc .vmem S512x128 .bf16) (h : a.IsWhole) (f : ℕ → ℕ → ℝ) : do0 a h (tile (φ := .bf16) f) = tile (φ := .bf16) f := by
  funext y
  have e := View.readAt_eq_ld (Val := Elt Ideal) a.view (h.unread (tile (φ := .bf16) f)) (Rect.unit (s := S512x128) ![0, 0] S512x128.size inb_S512x128_S512x128_0_0)
  refine (congrFun e y).trans ?_
  show a.view.read (Elt Ideal) (h.unread (tile (φ := .bf16) f)) ((Rect.unit (s := S512x128) ![0, 0] S512x128.size inb_S512x128_S512x128_0_0).idx y) = _
  rw [h.read_unread]
  show ((f (0 + 1 * (y 0).val) (0 + 1 * (y 1).val) : ℝ) : EReal) = ((f (y 0).val (y 1).val : ℝ) : EReal)
  rw [Nat.one_mul, Nat.one_mul, Nat.zero_add, Nat.zero_add]

theorem c0_tile (a : Memref sig .tc .vmem S1x512x1 .f32) (h : a.IsWhole) (f : ℕ → ℝ) :
    c0 a h (fun y => ((f (y 1).val : ℝ) : EReal)) = tile fun r _ => f r := by
  have e : View.readAt (Elt Ideal) a.view (Rect.unit (s := S1x512x1) ![0, 0, 0] S1x512x1.size inb_S1x512x1_S1x512x1_0_0_0).toLoadRect
      (h.unread (fun y => ((f (y 1).val : ℝ) : EReal))) = fun y => ((f (y 1).val : ℝ) : EReal) := by
    funext y
    have e := View.readAt_eq_ld (Val := Elt Ideal) a.view (h.unread (fun y => ((f (y 1).val : ℝ) : EReal))) (Rect.unit (s := S1x512x1) ![0, 0, 0] S1x512x1.size inb_S1x512x1_S1x512x1_0_0_0)
    refine (congrFun e y).trans ?_
    show a.view.read (Elt Ideal) (h.unread (fun y => ((f (y 1).val : ℝ) : EReal))) ((Rect.unit (s := S1x512x1) ![0, 0, 0] S1x512x1.size inb_S1x512x1_S1x512x1_0_0_0).idx y) = _
    rw [h.read_unread]
    show ((f (0 + 1 * (y 1).val) : ℝ) : EReal) = ((f (y 1).val : ℝ) : EReal)
    rw [Nat.one_mul, Nat.zero_add]
  unfold c0
  rw [e]
  funext y; idx_vars y
  pointwise [k0_pay56]
  rfl

/-! ## The diagonal block -/

theorem wD_eq : wD (rws (i 1).val q) (tile fun r _ => C (512 * (i 1).val + r)) (msk3 i) (rws (i 1).val kk) (part (i 1).val (i 1).val (aG q kk))
    = blk (i 1).val (i 1).val (wG q kk C) := by
  unfold wD zD
  have z : zV (rws (i 1).val q) (truncf .bf16 (rws (φ := .f32) (i 1).val kk) bitsLt_bf16_f32) = blk (i 1).val (i 1).val (zG q kk) := z_blk q kk _ _
  rw [z, l1_msk q kk _ _ (msk3 i) (msk_eq i)]
  exact w_msk q kk C _ _ (msk3 i) (msk_eq i)

theorem dzD_tile : dzD (rws (i 1).val q) (rws (i 1).val o) (tile fun r _ => C (512 * (i 1).val + r)) (msk3 i) (rws (i 1).val kk) (rws (i 1).val v)
      (part (i 1).val (i 1).val (aG q kk)) (part (i 1).val (i 1).val (eG q kk v o C))
    = blk (i 1).val (i 1).val (dzG q kk v o C) := by
  unfold dzD eD
  rw [wD_eq]
  have e : eV (rws (i 1).val o) (truncf .bf16 (rws (φ := .f32) (i 1).val v) bitsLt_bf16_f32) (blk (i 1).val (i 1).val (wG q kk C))
      = blk (i 1).val (i 1).val (eG q kk v o C) := e_blk q kk v o C _ _
  have z : zD (rws (i 1).val q) (rws (i 1).val kk) = blk (i 1).val (i 1).val (zG q kk) := z_blk q kk _ _
  rw [e, z]
  exact dz_msk q kk v o C _ _ (msk3 i) (msk_eq i)

/-- The gradients of a row block's products, added in every row: past the diagonal they are zero. -/
theorem upd_all (b : ℕ) (f g p : ℕ → ℕ → ℝ) (hf : ∀ t s, t ≤ s → f t s = 0) (x d : ℕ) :
    upd b (b + 1) f g p x d = p x d + ∑ t ∈ Finset.range 512, f (512 * b + t) x * g (512 * b + t) d := by
  unfold upd
  by_cases h : x < 512 * (b + 1)
  · rw [if_pos h]
  · rw [if_neg h, Finset.sum_eq_zero, add_zero]
    intro t ht
    rw [Finset.mem_range] at ht
    rw [hf _ _ (by omega), zero_mul]

theorem dzG_zero (t s : ℕ) (h : t ≤ s) : dzG q kk v o C t s = 0 := if_neg (by omega)
theorem wG_zero (t s : ℕ) (h : t ≤ s) : wG q kk C t s = 0 := if_neg (by omega)

end

/-! ## The three outputs -/

section Out

variable (c : Dev nD) (i : grid0.Coords)
  (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole)
  (q kk v o p8 p9 : ℕ → ℕ → ℝ) (C : ℕ → ℝ)

abbrev x4f (i : grid0.Coords) (C : ℕ → ℝ) : Vec Ideal S1x512x1 .f32 := fun y => ((C (512 * (i 1).val + (y 1).val) : ℝ) : EReal)

theorem loopB :
    (TB c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) (tile (φ := .f32) p8) (tile (φ := .f32) p9)).1 = (part (i 1).val (i 1).val (aG q kk), part (i 1).val (i 1).val (eG q kk v o C), pprod (i 1).val (i 1).val (dzG q kk v o C) kk)
    ∧ arg8.view.read (Elt Ideal) (arg8.view.writes (Elt Ideal) (harg8.unread (tile (φ := .f32) p8)) (TB c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) (tile (φ := .f32) p8) (tile (φ := .f32) p9)).2.1) = tile (φ := .f32) (upd (i 1).val (i 1).val (dzG q kk v o C) q p8)
    ∧ arg9.view.read (Elt Ideal) (arg9.view.writes (Elt Ideal) (harg9.unread (tile (φ := .f32) p9)) (TB c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) (tile (φ := .f32) p8) (tile (φ := .f32) p9)).2.2) = tile (φ := .f32) (upd (i 1).val (i 1).val (wG q kk C) o p9) := by
  unfold TB
  exact loop_fin Variants.none c none i arg2 harg2 arg3 harg3 arg4 harg4 arg5 harg5 arg6 harg6 arg7 harg7 arg8 harg8 arg9 harg9 _ _ _ _ _ _ _ _ _ _ _ (harg8.unread (tile (φ := .f32) p8)) (harg9.unread (tile (φ := .f32) p9)) q kk v o p8 p9 C
    (q0_tile arg2 harg2 _) (do0_tile arg5 harg5 _) (c0_tile arg6 harg6 (fun r => C (512 * (i 1).val + r))) (harg3.read_unread _) (harg4.read_unread _) (harg8.read_unread _) (harg9.read_unread _) _ (trips_eq i)

theorem dqB_eq (hc0 : ¬cond0_0 i) : out0_B_5 c i arg2 harg2 arg3 harg3 arg4 harg4 arg5 harg5 arg6 harg6 arg7 harg7 arg8 harg8 arg9 harg9 hc0 (rws (φ := .f32) (i 1).val q) (tile (φ := .f32) kk) (tile (φ := .f32) v) (rws (φ := .bf16) (i 1).val o) (x4f i C) (tile (φ := .f32) p8) (tile (φ := .f32) p9) = pprod (φ := .f32) (i 1).val ((i 1).val + 1) (dzG q kk v o C) kk := by
  unfold out0_B_5
  rw [dqB c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) (tile (φ := .f32) p8) (tile (φ := .f32) p9) hc0]
  refine (View.read_writes_full (Val := Elt Ideal) VO0_5 _ inb_S512x128_S512x128_0_0 _ []).trans ?_
  rw [(loopB c i arg2 harg2 arg3 harg3 arg4 harg4 arg5 harg5 arg6 harg6 arg7 harg7 arg8 harg8 arg9 harg9 q kk v o p8 p9 C).1, q0_tile, do0_tile, c0_tile arg6 harg6 (fun r => C (512 * (i 1).val + r)),
    show rows3 i arg3 (harg3.unread (tile (φ := .f32) kk)) = rws (i 1).val kk from read_rows_tile arg3 _ kk (harg3.read_unread _) (k0_off3_eq i) _,
    show rows3 i arg4 (harg4.unread (tile (φ := .f32) v)) = rws (i 1).val v from read_rows_tile arg4 _ v (harg4.read_unread _) (k0_off3_eq i) _,
    dzD_tile]
  exact dq_add kk _ _ _

theorem dkB_eq (hc0 : ¬cond0_0 i) : out0_B_6 c i arg2 harg2 arg3 harg3 arg4 harg4 arg5 harg5 arg6 harg6 arg7 harg7 arg8 harg8 arg9 harg9 hc0 (rws (φ := .f32) (i 1).val q) (tile (φ := .f32) kk) (tile (φ := .f32) v) (rws (φ := .bf16) (i 1).val o) (x4f i C) (tile (φ := .f32) p8) (tile (φ := .f32) p9)
    = tile (φ := .f32) fun x d => p8 x d + ∑ t ∈ Finset.range 512, dzG q kk v o C (512 * (i 1).val + t) x * q (512 * (i 1).val + t) d := by
  unfold out0_B_6
  rw [dkB c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) (tile (φ := .f32) p8) (tile (φ := .f32) p9) hc0]
  rw [q0_tile, do0_tile, c0_tile arg6 harg6 (fun r => C (512 * (i 1).val + r)), (loopB c i arg2 harg2 arg3 harg3 arg4 harg4 arg5 harg5 arg6 harg6 arg7 harg7 arg8 harg8 arg9 harg9 q kk v o p8 p9 C).1,
    show rows3 i arg3 (harg3.unread (tile (φ := .f32) kk)) = rws (i 1).val kk from read_rows_tile arg3 _ kk (harg3.read_unread _) (k0_off3_eq i) _,
    show rows3 i arg4 (harg4.unread (tile (φ := .f32) v)) = rws (i 1).val v from read_rows_tile arg4 _ v (harg4.read_unread _) (k0_off3_eq i) _,
    dzD_tile]
  refine (put_upd arg8 _ _ (i 1).val (i 1).val (dzG q kk v o C) q p8 (loopB c i arg2 harg2 arg3 harg3 arg4 harg4 arg5 harg5 arg6 harg6 arg7 harg7 arg8 harg8 arg9 harg9 q kk v o p8 p9 C).2.1 (k0_off3_eq i) _).trans ?_
  exact tile_congr fun x _ d _ => upd_all _ _ _ _ (dzG_zero q kk v o C) x d

theorem dvB_eq (hc0 : ¬cond0_0 i) : out0_B_7 c i arg2 harg2 arg3 harg3 arg4 harg4 arg5 harg5 arg6 harg6 arg7 harg7 arg8 harg8 arg9 harg9 hc0 (rws (φ := .f32) (i 1).val q) (tile (φ := .f32) kk) (tile (φ := .f32) v) (rws (φ := .bf16) (i 1).val o) (x4f i C) (tile (φ := .f32) p8) (tile (φ := .f32) p9)
    = tile (φ := .f32) fun x d => p9 x d + ∑ t ∈ Finset.range 512, wG q kk C (512 * (i 1).val + t) x * o (512 * (i 1).val + t) d := by
  unfold out0_B_7
  rw [dvB c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) (tile (φ := .f32) p8) (tile (φ := .f32) p9) hc0]
  rw [q0_tile, do0_tile, c0_tile arg6 harg6 (fun r => C (512 * (i 1).val + r)), (loopB c i arg2 harg2 arg3 harg3 arg4 harg4 arg5 harg5 arg6 harg6 arg7 harg7 arg8 harg8 arg9 harg9 q kk v o p8 p9 C).1,
    show rows3 i arg3 (harg3.unread (tile (φ := .f32) kk)) = rws (i 1).val kk from read_rows_tile arg3 _ kk (harg3.read_unread _) (k0_off3_eq i) _,
    wD_eq]
  refine (put_upd arg9 _ _ (i 1).val (i 1).val (wG q kk C) o p9 (loopB c i arg2 harg2 arg3 harg3 arg4 harg4 arg5 harg5 arg6 harg6 arg7 harg7 arg8 harg8 arg9 harg9 q kk v o p8 p9 C).2.2 (k0_off3_eq i) _).trans ?_
  exact tile_congr fun x _ d _ => upd_all _ _ _ _ (wG_zero q kk C) x d

theorem base8 (a : Memref sig .tc .vmem S4096x128 .f32) :
    a.view.read (Elt Ideal) (a.view.writes (Elt Ideal) a.view.junk (kernelRun0_A.sl.H6_1 (F := Ideal))) = tile (φ := .f32) (fun _ _ => 0) := by
  unfold kernelRun0_A.sl.H6_1
  have e : k0_pay53 (F := Ideal) = tile fun _ _ => 0 := zero_tile
  exact (View.read_writes_full (Val := Elt Ideal) a.view _ inb_S4096x128_S4096x128_0_0 (k0_pay53 (F := Ideal)) []).trans e

theorem base9 (a : Memref sig .tc .vmem S4096x128 .f32) :
    a.view.read (Elt Ideal) (a.view.writes (Elt Ideal) a.view.junk (kernelRun0_A.sl.H7_1 (F := Ideal))) = tile (φ := .f32) (fun _ _ => 0) := by
  unfold kernelRun0_A.sl.H7_1
  have e : k0_pay54 (F := Ideal) = tile fun _ _ => 0 := zero_tile
  exact (View.read_writes_full (Val := Elt Ideal) a.view _ inb_S4096x128_S4096x128_0_0 (k0_pay54 (F := Ideal)) []).trans e

theorem loopA :
    (TA c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C)).1 = (part (i 1).val (i 1).val (aG q kk), part (i 1).val (i 1).val (eG q kk v o C), pprod (i 1).val (i 1).val (dzG q kk v o C) kk)
    ∧ arg8.view.read (Elt Ideal) (arg8.view.writes (Elt Ideal) (arg8.view.writes (Elt Ideal) arg8.view.junk kernelRun0_A.sl.H6_1) (TA c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C)).2.1) = tile (φ := .f32) (upd (i 1).val (i 1).val (dzG q kk v o C) q (fun _ _ => 0))
    ∧ arg9.view.read (Elt Ideal) (arg9.view.writes (Elt Ideal) (arg9.view.writes (Elt Ideal) arg9.view.junk kernelRun0_A.sl.H7_1) (TA c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C)).2.2) = tile (φ := .f32) (upd (i 1).val (i 1).val (wG q kk C) o (fun _ _ => 0)) := by
  unfold TA
  exact loop_fin Variants.none c none i arg2 harg2 arg3 harg3 arg4 harg4 arg5 harg5 arg6 harg6 arg7 harg7 arg8 harg8 arg9 harg9 _ _ _ _ _ _ _ _ _ _ _ (arg8.view.writes (Elt Ideal) arg8.view.junk kernelRun0_A.sl.H6_1) (arg9.view.writes (Elt Ideal) arg9.view.junk kernelRun0_A.sl.H7_1) q kk v o (fun _ _ => 0) (fun _ _ => 0) C
    (q0_tile arg2 harg2 _) (do0_tile arg5 harg5 _) (c0_tile arg6 harg6 (fun r => C (512 * (i 1).val + r))) (harg3.read_unread _) (harg4.read_unread _) (base8 arg8) (base9 arg9) _ (trips_eq i)

theorem dqA_eq (hc0 : cond0_0 i) : out0_A_5 c i arg2 harg2 arg3 harg3 arg4 harg4 arg5 harg5 arg6 harg6 arg7 harg7 arg8 harg8 arg9 harg9 hc0 (rws (φ := .f32) (i 1).val q) (tile (φ := .f32) kk) (tile (φ := .f32) v) (rws (φ := .bf16) (i 1).val o) (x4f i C) = pprod (φ := .f32) (i 1).val ((i 1).val + 1) (dzG q kk v o C) kk := by
  unfold out0_A_5
  rw [dqA c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) hc0]
  refine (View.read_writes_full (Val := Elt Ideal) VO0_5 _ inb_S512x128_S512x128_0_0 _ []).trans ?_
  rw [(loopA c i arg2 harg2 arg3 harg3 arg4 harg4 arg5 harg5 arg6 harg6 arg7 harg7 arg8 harg8 arg9 harg9 q kk v o C).1, q0_tile, do0_tile, c0_tile arg6 harg6 (fun r => C (512 * (i 1).val + r)),
    show rows3 i arg3 (harg3.unread (tile (φ := .f32) kk)) = rws (i 1).val kk from read_rows_tile arg3 _ kk (harg3.read_unread _) (k0_off3_eq i) _,
    show rows3 i arg4 (harg4.unread (tile (φ := .f32) v)) = rws (i 1).val v from read_rows_tile arg4 _ v (harg4.read_unread _) (k0_off3_eq i) _,
    dzD_tile]
  exact dq_add kk _ _ _

theorem dkA_eq (hc0 : cond0_0 i) : out0_A_6 c i arg2 harg2 arg3 harg3 arg4 harg4 arg5 harg5 arg6 harg6 arg7 harg7 arg8 harg8 arg9 harg9 hc0 (rws (φ := .f32) (i 1).val q) (tile (φ := .f32) kk) (tile (φ := .f32) v) (rws (φ := .bf16) (i 1).val o) (x4f i C)
    = tile (φ := .f32) fun x d => (fun _ _ => 0) x d + ∑ t ∈ Finset.range 512, dzG q kk v o C (512 * (i 1).val + t) x * q (512 * (i 1).val + t) d := by
  unfold out0_A_6
  rw [View.read_writes_of_cover VO0_6 VO0_6.junk arg8.view arg8.view.junk _ (cover0_A_6 c i arg2 harg2 arg3 harg3 arg4 harg4 arg5 harg5 arg6 harg6 arg7 harg7 arg8 harg8 arg9 harg9 hc0 (rws (φ := .f32) (i 1).val q) (tile (φ := .f32) kk) (tile (φ := .f32) v) (rws (φ := .bf16) (i 1).val o) (x4f i C))]
  rw [dkA c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) hc0]
  rw [← List.cons_append, View.writes_append, View.writes_append]
  rw [q0_tile, do0_tile, c0_tile arg6 harg6 (fun r => C (512 * (i 1).val + r)), (loopA c i arg2 harg2 arg3 harg3 arg4 harg4 arg5 harg5 arg6 harg6 arg7 harg7 arg8 harg8 arg9 harg9 q kk v o C).1,
    show rows3 i arg3 (harg3.unread (tile (φ := .f32) kk)) = rws (i 1).val kk from read_rows_tile arg3 _ kk (harg3.read_unread _) (k0_off3_eq i) _,
    show rows3 i arg4 (harg4.unread (tile (φ := .f32) v)) = rws (i 1).val v from read_rows_tile arg4 _ v (harg4.read_unread _) (k0_off3_eq i) _,
    dzD_tile]
  refine (put_upd arg8 _ _ (i 1).val (i 1).val (dzG q kk v o C) q (fun _ _ => 0) (loopA c i arg2 harg2 arg3 harg3 arg4 harg4 arg5 harg5 arg6 harg6 arg7 harg7 arg8 harg8 arg9 harg9 q kk v o C).2.1 (k0_off3_eq i) _).trans ?_
  exact tile_congr fun x _ d _ => upd_all _ _ _ _ (dzG_zero q kk v o C) x d

theorem dvA_eq (hc0 : cond0_0 i) : out0_A_7 c i arg2 harg2 arg3 harg3 arg4 harg4 arg5 harg5 arg6 harg6 arg7 harg7 arg8 harg8 arg9 harg9 hc0 (rws (φ := .f32) (i 1).val q) (tile (φ := .f32) kk) (tile (φ := .f32) v) (rws (φ := .bf16) (i 1).val o) (x4f i C)
    = tile (φ := .f32) fun x d => (fun _ _ => 0) x d + ∑ t ∈ Finset.range 512, wG q kk C (512 * (i 1).val + t) x * o (512 * (i 1).val + t) d := by
  unfold out0_A_7
  rw [View.read_writes_of_cover VO0_7 VO0_7.junk arg9.view arg9.view.junk _ (cover0_A_7 c i arg2 harg2 arg3 harg3 arg4 harg4 arg5 harg5 arg6 harg6 arg7 harg7 arg8 harg8 arg9 harg9 hc0 (rws (φ := .f32) (i 1).val q) (tile (φ := .f32) kk) (tile (φ := .f32) v) (rws (φ := .bf16) (i 1).val o) (x4f i C))]
  rw [dvA c i arg2 harg2 arg3 harg3 arg4 harg4 arg5 harg5 arg6 harg6 arg7 harg7 arg8 harg8 arg9 harg9 (rws (φ := .f32) (i 1).val q) (tile (φ := .f32) kk) (tile (φ := .f32) v) (rws (φ := .bf16) (i 1).val o) (x4f i C) hc0]
  rw [← List.cons_append, View.writes_append, View.writes_append]
  rw [q0_tile, do0_tile, c0_tile arg6 harg6 (fun r => C (512 * (i 1).val + r)), (loopA c i arg2 harg2 arg3 harg3 arg4 harg4 arg5 harg5 arg6 harg6 arg7 harg7 arg8 harg8 arg9 harg9 q kk v o C).1,
    show rows3 i arg3 (harg3.unread (tile (φ := .f32) kk)) = rws (i 1).val kk from read_rows_tile arg3 _ kk (harg3.read_unread _) (k0_off3_eq i) _,
    wD_eq]
  refine (put_upd arg9 _ _ (i 1).val (i 1).val (wG q kk C) o (fun _ _ => 0) (loopA c i arg2 harg2 arg3 harg3 arg4 harg4 arg5 harg5 arg6 harg6 arg7 harg7 arg8 harg8 arg9 harg9 q kk v o C).2.2 (k0_off3_eq i) _).trans ?_
  exact tile_congr fun x _ d _ => upd_all _ _ _ _ (wG_zero q kk C) x d

end Out

end Cert.SB

end
-- ==== Proof.SB.Final.lean ====
/- The kernel's three result arrays as formulas over the reals. -/
module

public import proofs.«01_k».proof.Proof.SB.Point
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.SB

open Cert.KernelIdeal Cert.KernelIdeal.Gen

/-- The real numbers of a matrix, at natural coordinates; zero outside it. -/
def at2 {n m : ℕ} {φ : FTy} (X : FVec Ideal ⟨2, ![n, m]⟩ φ) (t d : ℕ) : ℝ :=
  if h : t < n ∧ d < m then (show EReal from X (ix2 ⟨t, h.1⟩ ⟨d, h.2⟩)).toReal else 0

/-- Head `h` of q, k and v, and of the cotangent. -/
def qH (X : FVec Ideal S4096x10240 .f32) (h t d : ℕ) : ℝ := at2 X t (128 * h + d)
def kH (X : FVec Ideal S4096x10240 .f32) (h t d : ℕ) : ℝ := at2 X t (1024 + 128 * h + d)
def vH (X : FVec Ideal S4096x10240 .f32) (h t d : ℕ) : ℝ := at2 X t (2048 + 128 * h + d)
def oH (O : FVec Ideal S4096x1024 .bf16) (h t d : ℕ) : ℝ := at2 O t (128 * h + d)

/-- The total of a row's logarithms of the logistic function at the negated logits. -/
def cH (X : FVec Ideal S4096x10240 .f32) (h t : ℕ) : ℝ := ∑ s ∈ Finset.range 4096, aG (qH X h) (kH X h) t s

/-- The weights and the gradients of the logits of head `h`. -/
def wH (X : FVec Ideal S4096x10240 .f32) (h : ℕ) : ℕ → ℕ → ℝ := wG (qH X h) (kH X h) (cH X h)
def dzH (X : FVec Ideal S4096x10240 .f32) (O : FVec Ideal S4096x1024 .bf16) (h : ℕ) : ℕ → ℕ → ℝ :=
  dzG (qH X h) (kH X h) (vH X h) (oH O h) (cH X h)

/-- The gradients of q, k and v. -/
def dqR (X : FVec Ideal S4096x10240 .f32) (O : FVec Ideal S4096x1024 .bf16) (t x : ℕ) : ℝ :=
  ∑ s ∈ Finset.range 4096, dzH X O (x / 128) t s * kH X (x / 128) s (x % 128)
def dkR (X : FVec Ideal S4096x10240 .f32) (O : FVec Ideal S4096x1024 .bf16) (s x : ℕ) : ℝ :=
  ∑ t ∈ Finset.range 4096, dzH X O (x / 128) t s * qH X (x / 128) t (x % 128)
def dvR (X : FVec Ideal S4096x10240 .f32) (O : FVec Ideal S4096x1024 .bf16) (s x : ℕ) : ℝ :=
  ∑ t ∈ Finset.range 4096, wH X (x / 128) t s * oH O (x / 128) t (x % 128)

/-- Every element of the columns q, k and v is a real number. -/
def FinX (X : FVec Ideal S4096x10240 .f32) : Prop := ∀ (t : Fin 4096) (d : Fin 10240), d.val < 3072 → X (ix2 t d) = ((at2 X t.val d.val : ℝ) : EReal)

/-- Every element of the columns q and k is a real number. -/
def FinQK (X : FVec Ideal S4096x10240 .f32) : Prop := ∀ (t : Fin 4096) (d : Fin 10240), d.val < 2048 → X (ix2 t d) = ((at2 X t.val d.val : ℝ) : EReal)

theorem FinX.qk {X : FVec Ideal S4096x10240 .f32} (h : FinX X) : FinQK X := fun t d hd => h t d (by omega)

/-- Every element of the cotangent is a real number. -/
def FinO (O : FVec Ideal S4096x1024 .bf16) : Prop := ∀ (t : Fin 4096) (d : Fin 1024), O (ix2 t d) = ((at2 O t.val d.val : ℝ) : EReal)

variable (m : (ℓ : Loc nD τ sig) → Buf (Elt Ideal) ℓ) (c : Dev nD)

abbrev argX : FVec Ideal S4096x10240 .f32 := m ((c : Thread nD τ).loc main_arg0)
abbrev argO : FVec Ideal S4096x1024 .bf16 := m ((c : Thread nD τ).loc main_arg1)

theorem idx : ∀ t : Fin cfg0.N, win0_0.index t = ![t.val % 8, t.val / 8] ∧ win0_1.index t = ![0, 8 + t.val / 8] ∧ win0_2.index t = ![0, 16 + t.val / 8]
    ∧ win0_3.index t = ![t.val % 8, t.val / 8] ∧ win0_4.index t = ![t.val / 8, t.val % 8, 0]
    ∧ win0_5.index t = ![t.val % 8, t.val / 8] ∧ win0_6.index t = ![0, t.val / 8] ∧ win0_7.index t = ![0, t.val / 8] :=
  (by decide +kernel : ∀ t : Fin grid0.N, _)

theorem row_eq : ∀ t : Fin cfg0.N, ((grid0.coords t) 1).val = t.val % 8 := (by decide +kernel : ∀ t : Fin grid0.N, _)

theorem lt64 (t : Fin cfg0.N) : t.val < 64 := lt_of_lt_of_eq t.isLt (show cfg0.N = 64 from N_0)

section

variable (hX : FinX (argX m c)) (hO : FinO (argO m c))
include hX

theorem iblk0 (t : Fin cfg0.N) : (iblk m c 0 t : FVec Ideal S512x128 .f32) = rws (φ := .f32) ((grid0.coords t) 1).val (qH (argX m c) (t.val / 8)) := by
  rw [row_eq]
  funext y
  have ht := lt64 t
  have h0 : (y 0).val < 512 := (y 0).isLt
  have h1 : (y 1).val < 128 := (y 1).isLt
  have e : iblk m c 0 t y = argX m c (ix2 ⟨512 * (t.val % 8) + (y 0).val, by omega⟩ ⟨128 * (t.val / 8) + (y 1).val, by omega⟩) := by
    blk_ext [iblk, V, idx t]
  exact e.trans (hX _ _ (by show 128 * (t.val / 8) + (y 1).val < 3072; omega))

theorem iblk1 (t : Fin cfg0.N) : (iblk m c 1 t : FVec Ideal S4096x128 .f32) = tile (φ := .f32) (kH (argX m c) (t.val / 8)) := by
  funext y
  have ht := lt64 t
  have h0 : (y 0).val < 4096 := (y 0).isLt
  have h1 : (y 1).val < 128 := (y 1).isLt
  have e : iblk m c 1 t y = argX m c (ix2 ⟨(y 0).val, by omega⟩ ⟨1024 + 128 * (t.val / 8) + (y 1).val, by omega⟩) := by
    blk_ext [iblk, V, idx t]
  exact e.trans (hX _ _ (by show 1024 + 128 * (t.val / 8) + (y 1).val < 3072; omega))

theorem iblk2 (t : Fin cfg0.N) : (iblk m c 2 t : FVec Ideal S4096x128 .f32) = tile (φ := .f32) (vH (argX m c) (t.val / 8)) := by
  funext y
  have ht := lt64 t
  have h0 : (y 0).val < 4096 := (y 0).isLt
  have h1 : (y 1).val < 128 := (y 1).isLt
  have e : iblk m c 2 t y = argX m c (ix2 ⟨(y 0).val, by omega⟩ ⟨2048 + 128 * (t.val / 8) + (y 1).val, by omega⟩) := by
    blk_ext [iblk, V, idx t]
  exact e.trans (hX _ _ (by show 2048 + 128 * (t.val / 8) + (y 1).val < 3072; omega))

omit hX
include hO

theorem iblk3 (t : Fin cfg0.N) : (iblk m c 3 t : FVec Ideal S512x128 .bf16) = rws (φ := .bf16) ((grid0.coords t) 1).val (oH (argO m c) (t.val / 8)) := by
  rw [row_eq]
  funext y
  have ht := lt64 t
  have h0 : (y 0).val < 512 := (y 0).isLt
  have h1 : (y 1).val < 128 := (y 1).isLt
  have e : iblk m c 3 t y = argO m c (ix2 ⟨512 * (t.val % 8) + (y 0).val, by omega⟩ ⟨128 * (t.val / 8) + (y 1).val, by omega⟩) := by
    blk_ext [iblk, V, idx t]
  exact e.trans (hO _ _)

omit hO

variable (hC : V m c main_v18 = (fun y : S8x4096x1.Idx => ((cH (argX m c) (y 0).val (y 1).val : ℝ) : EReal)))
include hC

theorem iblk4 (t : Fin cfg0.N) : (iblk m c 4 t : FVec Ideal S1x512x1 .f32) = x4f (grid0.coords t) (cH (argX m c) (t.val / 8)) := by
  funext y
  have ht := lt64 t
  have h0 : (y 0).val < 1 := (y 0).isLt
  have h1 : (y 1).val < 512 := (y 1).isLt
  show V m c main_v18 (((cfg0.win 4).blk t).view.emb y) = _
  rw [hC]
  have e0 : ((((cfg0.win 4).blk t).view.emb y) 0).val = t.val / 8 := by blk_simp [idx t] <;> omega
  have e1 : ((((cfg0.win 4).blk t).view.emb y) 1).val = 512 * (t.val % 8) + (y 1).val := by blk_simp [idx t] <;> omega
  show ((cH (argX m c) _ _ : ℝ) : EReal) = ((cH (argX m c) (t.val / 8) (512 * ((grid0.coords t) 1).val + (y 1).val) : ℝ) : EReal)
  rw [e0, e1, row_eq]

/-! ## What the staging buffers hold after each point -/

include hX hO

theorem stepA (t : Fin cfg0.N) (h0 : t.val % 8 = 0) :
    (outsAt0 m c t.val t.isLt).1 = pprod (φ := .f32) ((grid0.coords t) 1).val (((grid0.coords t) 1).val + 1) (dzH (argX m c) (argO m c) (t.val / 8)) (kH (argX m c) (t.val / 8))
    ∧ (outsAt0 m c t.val t.isLt).2.1 = tile (φ := .f32) (fun x d => 0 + ∑ r ∈ Finset.range 512, dzH (argX m c) (argO m c) (t.val / 8) (512 * ((grid0.coords t) 1).val + r) x * qH (argX m c) (t.val / 8) (512 * ((grid0.coords t) 1).val + r) d)
    ∧ (outsAt0 m c t.val t.isLt).2.2 = tile (φ := .f32) (fun x d => 0 + ∑ r ∈ Finset.range 512, wH (argX m c) (t.val / 8) (512 * ((grid0.coords t) 1).val + r) x * oH (argO m c) (t.val / 8) (512 * ((grid0.coords t) 1).val + r) d) := by
  rw [outsAt0_A m c t h0]
  dsimp only
  rw [iblk0 m c hX, iblk1 m c hX, iblk2 m c hX, iblk3 m c hO, iblk4 m c hC]
  exact ⟨dqA_eq .., dkA_eq .., dvA_eq ..⟩

theorem stepB (t : Fin cfg0.N) (h0 : ¬t.val % 8 = 0) (p8 p9 : ℕ → ℕ → ℝ)
    (h8 : (outsAt0 m c (t.val - 1) (Nat.lt_of_le_of_lt (Nat.sub_le _ _) t.isLt)).2.1 = tile (φ := .f32) p8)
    (h9 : (outsAt0 m c (t.val - 1) (Nat.lt_of_le_of_lt (Nat.sub_le _ _) t.isLt)).2.2 = tile (φ := .f32) p9) :
    (outsAt0 m c t.val t.isLt).1 = pprod (φ := .f32) ((grid0.coords t) 1).val (((grid0.coords t) 1).val + 1) (dzH (argX m c) (argO m c) (t.val / 8)) (kH (argX m c) (t.val / 8))
    ∧ (outsAt0 m c t.val t.isLt).2.1 = tile (φ := .f32) (fun x d => p8 x d + ∑ r ∈ Finset.range 512, dzH (argX m c) (argO m c) (t.val / 8) (512 * ((grid0.coords t) 1).val + r) x * qH (argX m c) (t.val / 8) (512 * ((grid0.coords t) 1).val + r) d)
    ∧ (outsAt0 m c t.val t.isLt).2.2 = tile (φ := .f32) (fun x d => p9 x d + ∑ r ∈ Finset.range 512, wH (argX m c) (t.val / 8) (512 * ((grid0.coords t) 1).val + r) x * oH (argO m c) (t.val / 8) (512 * ((grid0.coords t) 1).val + r) d) := by
  rw [outsAt0_B m c t h0]
  dsimp only
  rw [h8, h9, iblk0 m c hX, iblk1 m c hX, iblk2 m c hX, iblk3 m c hO, iblk4 m c hC]
  exact ⟨dqB_eq .., dkB_eq .., dvB_eq ..⟩

/-- After the point of head `h` and row block `b`: the gradient of q's row block, and the gradients of k and v summed over
the row blocks so far. -/
theorem acc (h b : ℕ) (hb : b < 8) (n : ℕ) (hn : n < cfg0.N) (e : n = 8 * h + b) :
    (outsAt0 m c n hn).1 = pprod (φ := .f32) b (b + 1) (dzH (argX m c) (argO m c) h) (kH (argX m c) h)
    ∧ (outsAt0 m c n hn).2.1 = tile (φ := .f32) (fun x d => ∑ t ∈ Finset.range (512 * (b + 1)), dzH (argX m c) (argO m c) h t x * qH (argX m c) h t d)
    ∧ (outsAt0 m c n hn).2.2 = tile (φ := .f32) (fun x d => ∑ t ∈ Finset.range (512 * (b + 1)), wH (argX m c) h t x * oH (argO m c) h t d) := by
  have hr : ((grid0.coords (⟨n, hn⟩ : Fin cfg0.N)) 1).val = b := (row_eq ⟨n, hn⟩).trans (by show n % 8 = b; omega)
  have hd : n / 8 = h := by omega
  induction b generalizing n with
  | zero =>
    obtain ⟨i5, i6, i7⟩ := stepA m c hX hO hC ⟨n, hn⟩ (by show n % 8 = 0; omega)
    dsimp only at i5 i6 i7
    rw [hr, hd] at i5 i6 i7
    refine ⟨i5, i6.trans ?_, i7.trans ?_⟩ <;> exact tile_congr fun x _ d _ => by simp only [Nat.mul_zero, Nat.zero_add, Nat.mul_one, zero_add]
  | succ b ih =>
    have hr' : ((grid0.coords (⟨n - 1, by omega⟩ : Fin cfg0.N)) 1).val = b := (row_eq ⟨n - 1, by omega⟩).trans (by show (n - 1) % 8 = b; omega)
    obtain ⟨-, j6, j7⟩ := ih (by omega) (n - 1) (by omega) (by omega) hr' (by omega)
    obtain ⟨i5, i6, i7⟩ := stepB m c hX hO hC ⟨n, hn⟩ (by show ¬ n % 8 = 0; omega) _ _ j6 j7
    dsimp only at i5 i6 i7
    rw [hr, hd] at i5 i6 i7
    refine ⟨i5, i6.trans ?_, i7.trans ?_⟩ <;> exact tile_congr fun x _ d _ => by rw [Nat.mul_add 512 (b + 1) 1, Finset.sum_range_add]

/-! ## The result arrays -/

omit hX hO hC in
theorem sum_tail (f : ℕ → ℝ) (n N : ℕ) (h : n ≤ N) (h0 : ∀ s, n ≤ s → f s = 0) : ∑ s ∈ Finset.range n, f s = ∑ s ∈ Finset.range N, f s :=
  Finset.sum_subset (fun s hs => Finset.mem_range.2 (lt_of_lt_of_le (Finset.mem_range.1 hs) h))
    fun s _ hs => h0 s (not_lt.1 fun hl => hs (Finset.mem_range.2 hl))

theorem final5 : (dats m 0 c).arrAt 5 cfg0.N = (fun y : S4096x1024.Idx => ((dqR (argX m c) (argO m c) (y 0).val (y 1).val : ℝ) : EReal)) := by
  refine (dats m 0 c).arrAt_eq_of_covers 5 _ (by decide +kernel) fun t hf y => ?_
  have ht := lt64 t
  have h0 : (y 0).val < 512 := (y 0).isLt
  have h1 : (y 1).val < 128 := (y 1).isLt
  have e0 : ((((cfg0.win 5).blk t).view.emb y) 0).val = 512 * (t.val % 8) + (y 0).val := by blk_simp [idx t] <;> omega
  have e1 : ((((cfg0.win 5).blk t).view.emb y) 1).val = 128 * (t.val / 8) + (y 1).val := by blk_simp [idx t] <;> omega
  have e2 : (128 * (t.val / 8) + (y 1).val) / 128 = t.val / 8 := by omega
  have e3 : (128 * (t.val / 8) + (y 1).val) % 128 = (y 1).val := by omega
  show _ = ((dqR (argX m c) (argO m c) ((((cfg0.win 5).blk t).view.emb y) 0).val ((((cfg0.win 5).blk t).view.emb y) 1).val : ℝ) : EReal)
  rw [e0, e1]
  blk_simp
  rw [after0_5, (acc m c hX hO hC (t.val / 8) (t.val % 8) (by omega) t.val t.isLt (by omega)).1]
  unfold dqR
  rw [e2, e3]
  refine congrArg (fun r : ℝ => (r : EReal)) (sum_tail _ _ _ (by omega) fun s hs => ?_)
  unfold dzH
  rw [dzG_zero _ _ _ _ _ _ _ (by omega), zero_mul]

theorem final6 : (dats m 0 c).arrAt 6 cfg0.N = (fun y : S4096x1024.Idx => ((dkR (argX m c) (argO m c) (y 0).val (y 1).val : ℝ) : EReal)) := by
  refine (dats m 0 c).arrAt_eq_of_covers 6 _ (by decide +kernel) fun t hf y => ?_
  have ht := lt64 t
  have h7 : t.val % 8 = 7 := (flush0_6 t).mp hf
  have h0 : (y 0).val < 4096 := (y 0).isLt
  have h1 : (y 1).val < 128 := (y 1).isLt
  have e0 : ((((cfg0.win 6).blk t).view.emb y) 0).val = (y 0).val := by blk_simp [idx t] <;> omega
  have e1 : ((((cfg0.win 6).blk t).view.emb y) 1).val = 128 * (t.val / 8) + (y 1).val := by blk_simp [idx t] <;> omega
  have e2 : (128 * (t.val / 8) + (y 1).val) / 128 = t.val / 8 := by omega
  have e3 : (128 * (t.val / 8) + (y 1).val) % 128 = (y 1).val := by omega
  show _ = ((dkR (argX m c) (argO m c) ((((cfg0.win 6).blk t).view.emb y) 0).val ((((cfg0.win 6).blk t).view.emb y) 1).val : ℝ) : EReal)
  rw [e0, e1]
  blk_simp
  rw [after0_6, (acc m c hX hO hC (t.val / 8) 7 (by omega) t.val t.isLt (by omega)).2.1]
  unfold dkR
  rw [e2, e3]
  rfl

theorem final7 : (dats m 0 c).arrAt 7 cfg0.N = (fun y : S4096x1024.Idx => ((dvR (argX m c) (argO m c) (y 0).val (y 1).val : ℝ) : EReal)) := by
  refine (dats m 0 c).arrAt_eq_of_covers 7 _ (by decide +kernel) fun t hf y => ?_
  have ht := lt64 t
  have h7 : t.val % 8 = 7 := (flush0_7 t).mp hf
  have h0 : (y 0).val < 4096 := (y 0).isLt
  have h1 : (y 1).val < 128 := (y 1).isLt
  have e0 : ((((cfg0.win 7).blk t).view.emb y) 0).val = (y 0).val := by blk_simp [idx t] <;> omega
  have e1 : ((((cfg0.win 7).blk t).view.emb y) 1).val = 128 * (t.val / 8) + (y 1).val := by blk_simp [idx t] <;> omega
  have e2 : (128 * (t.val / 8) + (y 1).val) / 128 = t.val / 8 := by omega
  have e3 : (128 * (t.val / 8) + (y 1).val) % 128 = (y 1).val := by omega
  show _ = ((dvR (argX m c) (argO m c) ((((cfg0.win 7).blk t).view.emb y) 0).val ((((cfg0.win 7).blk t).view.emb y) 1).val : ℝ) : EReal)
  rw [e0, e1]
  blk_simp
  rw [after0_7, (acc m c hX hO hC (t.val / 8) 7 (by omega) t.val t.isLt (by omega)).2.2]
  unfold dvR
  rw [e2, e3]
  rfl

end

end Cert.SB

end
-- ==== Proof.SB.Cube.lean ====
/- Arrays of three axes that hold real numbers, what the host's operations make of them, and running sums along the last axis. -/
module

public import proofs.«01_k».proof.Proof.SB.Block

@[expose] public section

set_option maxRecDepth 16384

noncomputable section

open Idealize.ShloMosaic Idealize.ShloMosaic.TcCoe Idealize.SL.Sem

namespace Cert.SB

/-- The array of three axes whose element (h, r, c) is the real number `f h r c`. -/
def cube {a b n : ℕ} {φ : FTy} (f : ℕ → ℕ → ℕ → ℝ) : FVec Ideal ⟨3, ![a, b, n]⟩ φ :=
  fun i => ((f (i 0).val (i 1).val (i 2).val : ℝ) : EReal)

theorem cube_congr {a b n : ℕ} {φ : FTy} {f g : ℕ → ℕ → ℕ → ℝ} (e : ∀ h < a, ∀ r < b, ∀ l < n, f h r l = g h r l) :
    (cube f : FVec Ideal ⟨3, ![a, b, n]⟩ φ) = cube g :=
  funext fun i => congrArg _ (e _ (i 0).isLt _ (i 1).isLt _ (i 2).isLt)

section Ops

variable {a b n : ℕ} {φ ψ : FTy} (f g : ℕ → ℕ → ℕ → ℝ)

theorem addf_cube : addf (cube f : FVec Ideal ⟨3, ![a, b, n]⟩ φ) (cube g) = cube fun h t s => f h t s + g h t s :=
  funext fun _ => (EReal.coe_add _ _).symm

theorem subf_cube : subf (cube f : FVec Ideal ⟨3, ![a, b, n]⟩ φ) (cube g) = cube fun h t s => f h t s - g h t s :=
  funext fun _ => (EReal.coe_sub _ _).symm

theorem mulf_cube : mulf (cube f : FVec Ideal ⟨3, ![a, b, n]⟩ φ) (cube g) = cube fun h t s => f h t s * g h t s :=
  funext fun _ => (EReal.coe_mul _ _).symm

theorem maximumf_cube : maximumf (cube f : FVec Ideal ⟨3, ![a, b, n]⟩ φ) (cube g) = cube fun h t s => max (f h t s) (g h t s) :=
  funext fun _ => (EReal.coe_strictMono.monotone.map_max).symm

theorem negf_cube : Host.negf (cube f : FVec Ideal ⟨3, ![a, b, n]⟩ φ) = cube fun h t s => -f h t s :=
  funext fun _ => (EReal.coe_neg _).symm

theorem absf_cube : Host.absf (cube f : FVec Ideal ⟨3, ![a, b, n]⟩ φ) = cube fun h t s => |f h t s| :=
  funext fun _ => ((EReal.coe_strictMono.monotone.map_max (a := _) (b := -_)).trans
    (congrArg _ (EReal.coe_neg _))).symm

theorem exp_cube : Host.exp (cube f : FVec Ideal ⟨3, ![a, b, n]⟩ φ) = cube fun h t s => Real.exp (f h t s) :=
  funext fun _ => rfl

theorem log1p_cube (h0 : ∀ h t s, 0 ≤ f h t s) : Host.log1p (cube f : FVec Ideal ⟨3, ![a, b, n]⟩ φ) = cube fun h t s => Real.log (1 + f h t s) := by
  funext i
  have e : (1 : EReal) + ((f (i 0).val (i 1).val (i 2).val : ℝ) : EReal) = ((1 + f (i 0).val (i 1).val (i 2).val : ℝ) : EReal) := by
    rw [EReal.coe_add]; rfl
  show Ideal.log (1 + ((f (i 0).val (i 1).val (i 2).val : ℝ) : EReal)) = _
  rw [e]
  exact if_neg (not_le.2 (by have := h0 (i 0).val (i 1).val (i 2).val; linarith))

theorem select_cube (c : IVec ⟨3, ![a, b, n]⟩ 1) (x y : FVec Ideal ⟨3, ![a, b, n]⟩ φ) (M : ℕ → ℕ → ℕ → Prop) [∀ h t s, Decidable (M h t s)]
    (hc : ∀ (h : Fin a) (r : Fin b) (l : Fin n), c (ix3 h r l) = if M h.val r.val l.val then 1#1 else 0#1)
    (hx : ∀ (h : Fin a) (r : Fin b) (l : Fin n), M h.val r.val l.val → x (ix3 h r l) = ((f h.val r.val l.val : ℝ) : EReal))
    (hy : ∀ (h : Fin a) (r : Fin b) (l : Fin n), ¬M h.val r.val l.val → y (ix3 h r l) = ((g h.val r.val l.val : ℝ) : EReal)) :
    select c x y = cube fun h t s => if M h t s then f h t s else g h t s := by
  funext i
  have hi := hc (i 0) (i 1) (i 2)
  have hxi := hx (i 0) (i 1) (i 2)
  have hyi := hy (i 0) (i 1) (i 2)
  rw [← eq_ix3 i] at hi hxi hyi
  show Scalar.select (c i) _ _ = _
  rw [hi]
  unfold cube
  by_cases h : M (i 0).val (i 1).val (i 2).val
  · simp only [if_pos h]; exact hxi h
  · simp only [if_neg h]; exact hyi h

/-- The same for two arrays of real numbers. -/
theorem select_cubes (c : IVec ⟨3, ![a, b, n]⟩ 1) (M : ℕ → ℕ → ℕ → Prop) [∀ h t s, Decidable (M h t s)]
    (hc : ∀ (h : Fin a) (r : Fin b) (l : Fin n), c (ix3 h r l) = if M h.val r.val l.val then 1#1 else 0#1) :
    select c (cube f : FVec Ideal ⟨3, ![a, b, n]⟩ φ) (cube g) = cube fun h t s => if M h t s then f h t s else g h t s :=
  select_cube f g c _ _ M hc (fun _ _ _ _ => rfl) fun _ _ _ _ => rfl

end Ops

/-! ## Running sums along the last axis -/

theorem foldl_add {ι : Type} (l : List ι) (F : ι → EReal) (v : EReal) : l.foldl (fun r n => r + F n) v = v + (l.map F).sum := by
  induction l generalizing v with
  | nil => simp
  | cons x l ih => rw [List.foldl_cons, ih, List.map_cons, List.sum_cons, add_assoc]

/-- A fold of additions over the positions of a window, as a sum over the window's indices. -/
theorem fold_window (W : Shape) (F : W.Idx → EReal) (v : EReal) :
    (List.finRange W.numel).foldl (fun r n => r + F (W.rowMajor.symm n)) v = v + ∑ i : W.Idx, F i := by
  rw [foldl_add _ (fun n => F (W.rowMajor.symm n)), ← List.ofFn_eq_map, List.sum_ofFn, Equiv.sum_comp W.rowMajor.symm F]

/-- A window's sum at an index, as a sum over the window's indices. -/
theorem window_sum {s t u : Shape} {φ : FTy} (window strides lo hi : Fin s.rank → Nat) (x : FVec Ideal s φ) (init : FVec Ideal u φ)
    (h : s.ReduceWindows window strides lo hi t) (hu : 0 < u.numel) (j : t.Idx) :
    Host.reduceWindowAdd window strides lo hi x init h hu j
      = (show EReal from init (Shape.Idx.first hu)) + ∑ i : (⟨s.rank, window⟩ : Shape).Idx,
          if hin : ∀ y : Fin s.rank, lo y ≤ (j (y.cast h.1.symm)).val * strides y + (i y).val ∧ (j (y.cast h.1.symm)).val * strides y + (i y).val - lo y < s.size y
          then (show EReal from x fun y => ⟨(j (y.cast h.1.symm)).val * strides y + (i y).val - lo y, (hin y).2⟩) else (show EReal from init (Shape.Idx.first hu)) := by
  show Host.reduceWindow (fun p q : EReal => p + q) window strides lo hi (x : s.Idx → EReal) (fun _ : (⟨0, ![]⟩ : Shape).Idx => (show EReal from init (Shape.Idx.first hu))) h (by decide) j = _
  unfold Host.reduceWindow
  dsimp only
  have e := fold_window ⟨s.rank, window⟩ (fun i =>
    if hin : ∀ y : Fin s.rank, lo y ≤ (j (y.cast h.1.symm)).val * strides y + (i y).val ∧ (j (y.cast h.1.symm)).val * strides y + (i y).val - lo y < s.size y
    then (show EReal from x fun y => ⟨(j (y.cast h.1.symm)).val * strides y + (i y).val - lo y, (hin y).2⟩) else (show EReal from init (Shape.Idx.first hu))) (show EReal from init (Shape.Idx.first hu))
  dsimp only at e
  refine Eq.trans ?_ e
  congr 1
  funext r n
  congr

variable {a b n n1 : ℕ} {φ : FTy} (f : ℕ → ℕ → ℕ → ℝ) (init : FVec Ideal ⟨0, ![]⟩ φ) (hi : ∀ i, init i = (0 : EReal))

include hi

theorem cumsum_up (hn : n1 + 1 = n)
    (h : (⟨3, ![a, b, n]⟩ : Shape).ReduceWindows (![1, 1, n] : Fin 3 → Nat) ![1, 1, 1] ![0, 0, n1] ![0, 0, 0] ⟨3, ![a, b, n]⟩) (hu : 0 < (⟨0, ![]⟩ : Shape).numel) :
    Host.reduceWindowAdd ![1, 1, n] ![1, 1, 1] ![0, 0, n1] ![0, 0, 0] (cube f : FVec Ideal ⟨3, ![a, b, n]⟩ φ) init h hu
      = cube fun h t s => ∑ k ∈ Finset.range n, if n1 ≤ s + k then f h t (s + k - n1) else 0 := by
  subst hn
  funext j
  have hj2 : (j 2).val < n1 + 1 := (j 2).isLt
  have hj0 : (j 0).val < a := (j 0).isLt
  have hj1 : (j 1).val < b := (j 1).isLt
  have hv := hi (Shape.Idx.first hu)
  refine (window_sum _ _ _ _ _ _ h hu j).trans ?_
  rw [hv]
  refine (zero_add _).trans ?_
  rw [ sum_idx3, Fin.sum_univ_one, Fin.sum_univ_one]
  unfold cube
  rw [← sum_fin]
  refine Finset.sum_congr rfl fun k _ => ?_
  have hk := k.isLt
  by_cases hc : n1 ≤ (j 2).val + k.val
  · rw [if_pos hc, dif_pos]
    · refine congrArg (fun r : ℝ => (r : EReal)) ?_
      show f ((j 0).val * 1 + 0 - 0) ((j 1).val * 1 + 0 - 0) ((j 2).val * 1 + k.val - n1) = _
      simp only [Nat.mul_one, Nat.add_zero, Nat.sub_zero]
    · intro x
      match x with
      | ⟨0, _⟩ => exact ⟨Nat.zero_le _, by show (j 0).val * 1 + 0 - 0 < a; omega⟩
      | ⟨1, _⟩ => exact ⟨Nat.zero_le _, by show (j 1).val * 1 + 0 - 0 < b; omega⟩
      | ⟨2, _⟩ => exact ⟨by show n1 ≤ (j 2).val * 1 + k.val; omega, by show (j 2).val * 1 + k.val - n1 < n1 + 1; omega⟩
  · rw [if_neg hc, dif_neg]
    · rfl
    · intro hin
      have h2 := (hin 2).1
      change n1 ≤ (j 2).val * 1 + k.val at h2
      omega

theorem cumsum_down (hn : n1 + 1 = n)
    (h : (⟨3, ![a, b, n]⟩ : Shape).ReduceWindows (![1, 1, n] : Fin 3 → Nat) ![1, 1, 1] ![0, 0, 0] ![0, 0, n1] ⟨3, ![a, b, n]⟩) (hu : 0 < (⟨0, ![]⟩ : Shape).numel) :
    Host.reduceWindowAdd ![1, 1, n] ![1, 1, 1] ![0, 0, 0] ![0, 0, n1] (cube f : FVec Ideal ⟨3, ![a, b, n]⟩ φ) init h hu
      = cube fun h t s => ∑ k ∈ Finset.range n, if s + k < n then f h t (s + k) else 0 := by
  subst hn
  funext j
  have hj2 : (j 2).val < n1 + 1 := (j 2).isLt
  have hj0 : (j 0).val < a := (j 0).isLt
  have hj1 : (j 1).val < b := (j 1).isLt
  have hv := hi (Shape.Idx.first hu)
  refine (window_sum _ _ _ _ _ _ h hu j).trans ?_
  rw [hv]
  refine (zero_add _).trans ?_
  rw [ sum_idx3, Fin.sum_univ_one, Fin.sum_univ_one]
  unfold cube
  rw [← sum_fin]
  refine Finset.sum_congr rfl fun k _ => ?_
  have hk := k.isLt
  by_cases hc : (j 2).val + k.val < n1 + 1
  · rw [if_pos hc, dif_pos]
    · refine congrArg (fun r : ℝ => (r : EReal)) ?_
      show f ((j 0).val * 1 + 0 - 0) ((j 1).val * 1 + 0 - 0) ((j 2).val * 1 + k.val - 0) = _
      simp only [Nat.mul_one, Nat.add_zero, Nat.sub_zero]
    · intro x
      match x with
      | ⟨0, _⟩ => exact ⟨Nat.zero_le _, by show (j 0).val * 1 + 0 - 0 < a; omega⟩
      | ⟨1, _⟩ => exact ⟨Nat.zero_le _, by show (j 1).val * 1 + 0 - 0 < b; omega⟩
      | ⟨2, _⟩ => exact ⟨Nat.zero_le _, by show (j 2).val * 1 + k.val - 0 < n1 + 1; omega⟩
  · rw [if_neg hc, dif_neg]
    · rfl
    · intro hin
      have h2 := (hin 2).2
      change (j 2).val * 1 + k.val - 0 < n1 + 1 at h2
      omega

end Cert.SB

end
-- ==== Proof.SB.Host.lean ====
/- The reference's intermediate arrays: their definitions, and their values on arrays of real numbers. -/
module

public import proofs.«01_k».proof.Proof.SB.Cube
public import proofs.«01_k».proof.Proof.Gen.ReferenceIdeal

@[expose] public section

set_option maxRecDepth 16384

noncomputable section

open Idealize.ShloMosaic Idealize.ShloMosaic.TcCoe Idealize.SL.Sem

namespace Cert.SB

/-! ## The logistic function and its logarithm -/

theorem lsR_eq (z : ℝ) : lsR z = -Real.log (1 + Real.exp (-z)) := by
  unfold lsR
  rcases le_total 0 z with h | h
  · rw [min_eq_right h, abs_of_nonneg h, zero_sub]
  · rw [min_eq_left h, abs_of_nonpos h, neg_neg]
    have e : 1 + Real.exp (-z) = Real.exp (-z) * (1 + Real.exp z) := by
      rw [mul_add, mul_one, ← Real.exp_add, neg_add_cancel, Real.exp_zero, add_comm]
    rw [e, Real.log_mul (Real.exp_pos _).ne' (by positivity), Real.log_exp]
    ring

theorem exp_lsR (z : ℝ) : Real.exp (lsR z) = (1 + Real.exp (-z))⁻¹ := by
  rw [lsR_eq, Real.exp_neg, Real.exp_log (by positivity)]

/-- The derivative of log (logistic z), as it is computed. -/
theorem dls_pos (z : ℝ) : Real.exp (-z + lsR z) = 1 - Real.exp (lsR z) := by
  rw [Real.exp_add, exp_lsR]
  have h : 1 + Real.exp (-z) ≠ 0 := by positivity
  field_simp
  ring

theorem dls_neg (z : ℝ) : Real.exp (z + lsR (-z)) = Real.exp (lsR z) := by
  rw [Real.exp_add, exp_lsR, exp_lsR, neg_neg]
  have e : Real.exp (-z) = (Real.exp z)⁻¹ := Real.exp_neg z
  have h : Real.exp z ≠ 0 := (Real.exp_pos z).ne'
  have h1 : 1 + Real.exp z ≠ 0 := by positivity
  have h2 : 1 + (Real.exp z)⁻¹ ≠ 0 := by positivity
  rw [e]
  field_simp
  ring

theorem lsR_neg (z : ℝ) : lsR (-z) = l1R z := by unfold lsR l1R; rw [abs_neg]

theorem neg_max_zero (z : ℝ) : -max (-z) 0 = min z 0 := by
  rcases le_total 0 z with h | h
  · rw [min_eq_right h, max_eq_right (by linarith), neg_zero]
  · rw [min_eq_left h, max_eq_left (by linarith), neg_neg]

/-! ## Two literals -/

theorem inf_eq : (Ideal.ofBits .f32 0x7F800000#32 : EReal) = ⊤ := by
  simp [Ideal.ofBits, Ideal.ieee]

theorem ninf_eq : (Ideal.ofBits .f32 0xFF800000#32 : EReal) = ⊥ := by
  simp [Ideal.ofBits, Ideal.ieee]

/-! ## The arrays -/

open Cert.ReferenceIdeal Cert.ReferenceIdeal.Gen

abbrev A3 := FVec Ideal S8x4096x4096 .f32

/-- An array that holds one literal. -/
def fill (w : BitVec 32) : A3 := broadcastInDim S8x4096x4096 ![] bcast_S_S8x4096x4096 (constant S_ .f32 w)

/-- log (1 + exp u). -/
def softF (u : A3) : A3 :=
  select (cmpf .une (subf u (fill 0x00000000#32)) (subf u (fill 0x00000000#32))) (addf u (fill 0x00000000#32))
    (addf (maximumf u (fill 0x00000000#32)) (Host.log1p (Host.exp (Host.negf (Host.absf (subf u (fill 0x00000000#32)))))))

/-- log (logistic u). -/
def lsF (u : A3) : A3 := Host.negf (softF (Host.negf u))

/-- The derivative of log (logistic u). -/
def dlsF (u : A3) : A3 :=
  Host.exp (subf (select (cmpf .oeq (Host.negf u) (fill 0x7F800000#32)) (fill 0x00000000#32) (Host.negf u))
    (select (cmpf .oeq (softF (Host.negf u)) (fill 0x7F800000#32)) (fill 0x00000000#32) (softF (Host.negf u))))

/-- The mask of the columns before the row. -/
def maskF : IVec S8x4096x4096 1 :=
  broadcastInDim S8x4096x4096 ![1, 2] bcast_S4096x4096_S8x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The logits. -/
def logitF (q k : FVec Ideal S4096x8x128 .f32) : A3 :=
  mulf (Host.dotGeneral dot_S4096x8x128_S4096x8x128_S8x4096x4096_2_2_0_0_1_1 none q k) (fill 0x3DB504F3#32)

/-- The masked logarithms of the logistic function at the negated logits. -/
def loseF (z : A3) : A3 := select maskF (lsF (Host.negf z)) (fill 0x00000000#32)

/-- The running sum from the row's end, and from its beginning. -/
def downF (x : A3) : A3 :=
  Host.reduceWindowAdd ![1, 1, 4096] ![1, 1, 1] ![0, 0, 0] ![0, 0, 4095] x (broadcastInDim S_ ![] bcast_S_S_ (constant S_ .f32 0x00000000#32) : FVec Ideal S_ .f32)
    reduceWindows_S8x4096x4096_S8x4096x4096_w1s1p0_0_w1s1p0_0_w4096s1p0_4095 h_S_
def upF (x : A3) : A3 :=
  Host.reduceWindowAdd ![1, 1, 4096] ![1, 1, 1] ![0, 0, 4095] ![0, 0, 0] x (broadcastInDim S_ ![] bcast_S_S_ (constant S_ .f32 0x00000000#32) : FVec Ideal S_ .f32)
    reduceWindows_S8x4096x4096_S8x4096x4096_w1s1p0_0_w1s1p0_0_w4096s1p4095_0 h_S_

/-- The weights. -/
def weightF (z : A3) : A3 :=
  Host.exp (select maskF (addf (lsF z) (subf (downF (loseF z)) (loseF z))) (fill 0xFF800000#32))

/-- The masked gradient of the weights' logarithms. -/
def gradF (z : A3) (o : FVec Ideal S8x128x4096 .f32) (v : FVec Ideal S4096x8x128 .f32) : A3 :=
  select maskF (mulf (Host.dotGeneral dot_S8x128x4096_S4096x8x128_S8x4096x4096_1_2_2_0_0_1 none o v) (weightF z)) (fill 0x00000000#32)

/-- The gradient of the product of q and k, from the logits and the gradient of the weights' logarithms. -/
def dzF (z g : A3) : A3 :=
  mulf (addf (Host.negf (mulf (Host.negf g) (dlsF z)))
    (Host.negf (Host.negf (mulf (Host.negf (select maskF (addf (Host.negf g) (upF g)) (fill 0x00000000#32))) (dlsF (Host.negf z))))))
    (fill 0x3DB504F3#32)

/-! ## Their values -/

variable (f g : ℕ → ℕ → ℕ → ℝ)

theorem fill_zero : fill 0x00000000#32 = cube fun _ _ _ => 0 := by
  funext i; pointwise [fill, cube]; rfl

theorem fill_sc : fill 0x3DB504F3#32 = cube fun _ _ _ => sc := by
  funext i; exact ofBits_sc

theorem softF_cube : softF (cube f) = cube fun h t s => max (f h t s) 0 + Real.log (1 + Real.exp (-|f h t s|)) := by
  unfold softF
  rw [fill_zero, subf_cube, addf_cube, maximumf_cube, absf_cube, negf_cube, exp_cube, log1p_cube _ (fun _ _ _ => (Real.exp_pos _).le), addf_cube,
    select_cubes _ _ _ (fun _ _ _ => False) (fun h r l => ?_)]
  · simp only [if_false, sub_zero]
  · pointwise [Ideal.cmp]
    simp

theorem lsF_cube : lsF (cube f) = cube fun h t s => lsR (f h t s) := by
  unfold lsF
  rw [negf_cube, softF_cube, negf_cube]
  refine cube_congr fun h _ t _ s _ => ?_
  unfold lsR
  rw [abs_neg, neg_add, neg_max_zero, sub_eq_add_neg]

theorem dlsF_cube : dlsF (cube f) = cube fun h t s => Real.exp (-f h t s + lsR (f h t s)) := by
  have hf : ∀ u : ℕ → ℕ → ℕ → ℝ, select (cmpf .oeq (cube u : A3) (fill 0x7F800000#32)) (fill 0x00000000#32) (cube u) = cube u := fun u => by
    refine (select_cube (fun _ _ _ => 0) u _ _ _ (fun _ _ _ => False) (fun h r l => ?_) (fun h r l h => h.elim) (fun h r l _ => rfl)).trans ?_
    · pointwise [Ideal.cmp, fill, inf_eq, cube]
      simp
    · simp only [if_false]
  unfold dlsF
  rw [negf_cube, hf, softF_cube, hf, subf_cube, exp_cube]
  refine cube_congr fun h _ t _ s _ => congrArg Real.exp ?_
  unfold lsR
  rw [abs_neg, sub_eq_add_neg, neg_add, neg_max_zero, ← sub_eq_add_neg]

theorem maskF_at (h : Fin 8) (t : Fin 4096) (s : Fin 4096) : maskF (ix3 h t s) = if s.val < t.val then 1#1 else 0#1 := by
  have e : maskF (ix3 h t s) = IntOp.cmpi .slt (BitVec.ofNat 32 s.val) (BitVec.ofNat 32 t.val) := by pointwise [maskF]
  rw [e]
  by_cases hl : s.val < t.val
  · rw [if_pos hl, (WordCmp.cmpi_slt_ofNat_eq_one_iff (by omega) (by omega)).2 hl]
  · rw [if_neg hl, (WordCmp.cmpi_slt_ofNat_eq_zero_iff (by omega) (by omega)).2 (by omega)]

theorem loseF_cube : loseF (cube f) = cube fun h t s => if s < t then l1R (f h t s) else 0 := by
  unfold loseF
  rw [negf_cube, lsF_cube, fill_zero, select_cubes _ _ _ (fun h t s => s < t) maskF_at]
  simp only [lsR_neg]

theorem init_zero : ∀ i, (broadcastInDim S_ ![] bcast_S_S_ (constant S_ .f32 0x00000000#32) : FVec Ideal S_ .f32) i = (0 : EReal) := fun i => by
  pointwise

theorem downF_cube : downF (cube f) = cube fun h t s => (∑ j ∈ Finset.range 4096, f h t j) - ∑ j ∈ Finset.range s, f h t j := by
  unfold downF
  rw [cumsum_down f _ init_zero (n1 := 4095) rfl]
  refine cube_congr fun h _ t _ s hs => ?_
  have e := Finset.sum_range_add (fun j => f h t j) s (4096 - s)
  have e1 : ∑ k ∈ Finset.range 4096, (if s + k < 4096 then f h t (s + k) else 0) = ∑ k ∈ Finset.range (4096 - s), f h t (s + k) := by
    rw [← Finset.sum_filter]
    refine Finset.sum_congr (Finset.ext fun k => ?_) fun _ _ => rfl
    rw [Finset.mem_filter, Finset.mem_range, Finset.mem_range]; omega
  rw [e1]
  have e2 : s + (4096 - s) = 4096 := by omega
  rw [e2] at e
  linarith

theorem upF_cube : upF (cube f) = cube fun h t s => ∑ j ∈ Finset.range (s + 1), f h t j := by
  unfold upF
  rw [cumsum_up f _ init_zero (n1 := 4095) rfl]
  refine cube_congr fun h _ t _ s hs => ?_
  rw [← Finset.sum_filter]
  refine Finset.sum_nbij' (fun k => s + k - 4095) (fun j => 4095 + j - s) ?_ ?_ ?_ ?_ ?_
  · intro k hk; rw [Finset.mem_filter, Finset.mem_range] at hk; rw [Finset.mem_range]; omega
  · intro j hj; rw [Finset.mem_range] at hj; rw [Finset.mem_filter, Finset.mem_range]; omega
  · intro k hk; rw [Finset.mem_filter, Finset.mem_range] at hk; omega
  · intro j hj; rw [Finset.mem_range] at hj; omega
  · intro k hk; rfl

theorem weightF_cube : weightF (cube f) = cube fun h t s => if s < t then
    Real.exp (lsR (f h t s) + ((∑ j ∈ Finset.range 4096, if j < t then l1R (f h t j) else 0) - ∑ j ∈ Finset.range (s + 1), if j < t then l1R (f h t j) else 0)) else 0 := by
  unfold weightF
  rw [lsF_cube, loseF_cube, downF_cube, subf_cube, addf_cube]
  funext i
  have hm := maskF_at (i 0) (i 1) (i 2)
  rw [← eq_ix3 i] at hm
  show Ideal.exp (Scalar.select (maskF i) _ _) = _
  rw [hm]
  unfold cube
  by_cases h : (i 2).val < (i 1).val
  · simp only [if_pos h]
    show ((Real.exp _ : ℝ) : EReal) = _
    refine congrArg (fun r : ℝ => (r : EReal)) (congrArg Real.exp ?_)
    rw [Finset.sum_range_succ _ (i 2).val, if_pos h, sub_sub]
  · simp only [if_neg h]
    show Ideal.exp (Ideal.ofBits .f32 0xFF800000#32) = _
    rw [ninf_eq]
    rfl

theorem dzF_cube (hg : ∀ h t s, ¬s < t → g h t s = 0) : dzF (cube f) (cube g) = cube fun h t s => if s < t then
    (g h t s * (1 - Real.exp (lsR (f h t s))) - Real.exp (lsR (f h t s)) * ∑ j ∈ Finset.range s, g h t j) * sc else 0 := by
  unfold dzF
  rw [negf_cube, upF_cube, addf_cube, fill_zero, select_cubes _ _ _ (fun h t s => s < t) maskF_at]
  simp only [negf_cube, dlsF_cube, fill_sc, mulf_cube, addf_cube]
  refine cube_congr fun h _ t _ s _ => ?_
  rw [dls_pos, neg_neg (f h t s), dls_neg]
  by_cases hl : s < t
  · rw [if_pos hl, if_pos hl, Finset.sum_range_succ]; ring
  · rw [if_neg hl, if_neg hl, hg h t s hl]; ring

end Cert.SB

end
-- ==== Proof.SB.Ref.lean ====
/- The reference's three results as the formulas over the reals that the kernel's results are. -/
module

public import proofs.«01_k».proof.Proof.SB.Final
public import proofs.«01_k».proof.Proof.SB.Host
public import proofs.«01_k».proof.Proof.Gen.ReferenceIdeal.Run

@[expose] public section

set_option maxRecDepth 16384

noncomputable section

open Idealize.ShloMosaic Idealize.ShloMosaic.TcCoe Idealize.SL.Sem

namespace Cert.SB

open Cert.ReferenceIdeal Cert.ReferenceIdeal.Gen

section Products

variable (f g : ℕ → ℕ → ℕ → ℝ)

theorem dot_qk : Host.dotGeneral dot_S4096x8x128_S4096x8x128_S8x4096x4096_2_2_0_0_1_1 none (cube f : FVec Ideal S4096x8x128 .f32) (cube g : FVec Ideal S4096x8x128 .f32)
    = (cube (fun h t s => ∑ d ∈ Finset.range 128, f t h d * g s h d) : A3) := by
  funext i
  pointwise [cube]
  rw [← sum_fin]
  exact Finset.sum_congr rfl fun k _ => (EReal.coe_mul _ _).symm

theorem dot_ov : Host.dotGeneral dot_S8x128x4096_S4096x8x128_S8x4096x4096_1_2_2_0_0_1 none (cube f : FVec Ideal S8x128x4096 .f32) (cube g : FVec Ideal S4096x8x128 .f32)
    = (cube (fun h t s => ∑ d ∈ Finset.range 128, f h d t * g s h d) : A3) := by
  funext i
  pointwise [cube]
  rw [← sum_fin]
  exact Finset.sum_congr rfl fun k _ => (EReal.coe_mul _ _).symm

theorem dot_ow : Host.dotGeneral dot_S8x128x4096_S8x4096x4096_S8x128x4096_2_1_1_2_0_0 none (cube f : FVec Ideal S8x128x4096 .f32) (cube g : A3)
    = (cube (fun h d s => ∑ t ∈ Finset.range 4096, f h d t * g h t s) : FVec Ideal S8x128x4096 .f32) := by
  funext i
  pointwise [cube]
  rw [← sum_fin]
  exact Finset.sum_congr rfl fun k _ => (EReal.coe_mul _ _).symm

theorem dot_zq : Host.dotGeneral dot_S8x4096x4096_S4096x8x128_S8x4096x128_1_0_2_2_0_1 none (cube f : A3) (cube g : FVec Ideal S4096x8x128 .f32)
    = (cube (fun h s d => ∑ t ∈ Finset.range 4096, f h t s * g t h d) : FVec Ideal S8x4096x128 .f32) := by
  funext i
  pointwise [cube]
  rw [← sum_fin]
  exact Finset.sum_congr rfl fun k _ => (EReal.coe_mul _ _).symm

theorem dot_zk : Host.dotGeneral dot_S8x4096x4096_S4096x8x128_S8x4096x128_2_0_1_2_0_1 none (cube f : A3) (cube g : FVec Ideal S4096x8x128 .f32)
    = (cube (fun h t d => ∑ s ∈ Finset.range 4096, f h t s * g s h d) : FVec Ideal S8x4096x128 .f32) := by
  funext i
  pointwise [cube]
  rw [← sum_fin]
  exact Finset.sum_congr rfl fun k _ => (EReal.coe_mul _ _).symm

theorem tr_201 : transpose S4096x8x128 [2, 0, 1] (cube f : FVec Ideal S8x128x4096 .f32) transposes_S8x128x4096_S4096x8x128_2_0_1
    = (cube (fun t h d => f h d t) : FVec Ideal S4096x8x128 .f32) := by
  funext i; pointwise [cube]

theorem tr_102 : transpose S4096x8x128 [1, 0, 2] (cube f : FVec Ideal S8x4096x128 .f32) transposes_S8x4096x128_S4096x8x128_1_0_2
    = (cube (fun t h d => f h t d) : FVec Ideal S4096x8x128 .f32) := by
  funext i; pointwise [cube]

theorem tr_120 : transpose S8x128x4096 [1, 2, 0] (cube f : FVec Ideal S4096x8x128 .f32) transposes_S4096x8x128_S8x128x4096_1_2_0
    = (cube (fun h d t => f t h d) : FVec Ideal S8x128x4096 .f32) := by
  funext i; pointwise [cube]

theorem flat : shapeCast S4096x1024 (cube f : FVec Ideal S4096x8x128 .f32) shapeCasts_S4096x8x128_S4096x1024
    = fun y : S4096x1024.Idx => ((f (y 0).val ((y 1).val / 128) ((y 1).val % 128) : ℝ) : EReal) := by
  funext i; pointwise [cube]

end Products

/-! ## The reference's terms -/

def qF (X : FVec Ideal S4096x10240 .f32) : FVec Ideal S4096x8x128 .f32 :=
  shapeCast _ (extractStridedSlice S4096x1024 ![0, 0] X slices_S4096x10240_S4096x1024_0_0) shapeCasts_S4096x1024_S4096x8x128
def kF (X : FVec Ideal S4096x10240 .f32) : FVec Ideal S4096x8x128 .f32 :=
  shapeCast _ (extractStridedSlice S4096x1024 ![0, 1024] X slices_S4096x10240_S4096x1024_0_1024) shapeCasts_S4096x1024_S4096x8x128
def vF (X : FVec Ideal S4096x10240 .f32) : FVec Ideal S4096x8x128 .f32 :=
  shapeCast _ (extractStridedSlice S4096x1024 ![0, 2048] X slices_S4096x10240_S4096x1024_0_2048) shapeCasts_S4096x1024_S4096x8x128
def oF (O : FVec Ideal S4096x1024 .bf16) : FVec Ideal S8x128x4096 .f32 :=
  transpose S8x128x4096 [1, 2, 0] (shapeCast _ (extf .f32 O bitsLt_bf16_f32) shapeCasts_S4096x1024_S4096x8x128) transposes_S4096x8x128_S8x128x4096_1_2_0

/-- The logits and the gradient of the product of q and k, of the arguments. -/
def zF (X : FVec Ideal S4096x10240 .f32) : A3 := logitF (qF X) (kF X)
def gF (X : FVec Ideal S4096x10240 .f32) (O : FVec Ideal S4096x1024 .bf16) : A3 := dzF (zF X) (gradF (zF X) (oF O) (vF X))

variable (X : FVec Ideal S4096x10240 .f32) (O : FVec Ideal S4096x1024 .bf16)

section

variable (hQ : FinQK X) (hX : FinX X) (hO : FinO O)

section

include hQ

theorem qF_cube : qF X = cube fun t h d => qH X h t d := by
  funext i
  idx_vars i
  pointwise [qF]
  exact (hQ _ _ (by show i1.val * 128 + i2.val < 2048; omega)).trans (by unfold cube qH; simp only [ix3_0, ix3_1, ix3_2, Nat.mul_comm])

theorem kF_cube : kF X = cube fun t h d => kH X h t d := by
  funext i
  idx_vars i
  pointwise [kF]
  exact (hQ _ _ (by show 1024 + (i1.val * 128 + i2.val) < 2048; omega)).trans (by unfold cube kH; simp only [ix3_0, ix3_1, ix3_2, Nat.mul_comm, Nat.add_assoc])

end

include hX

theorem vF_cube : vF X = cube fun t h d => vH X h t d := by
  funext i
  idx_vars i
  pointwise [vF]
  exact (hX _ _ (by show 2048 + (i1.val * 128 + i2.val) < 3072; omega)).trans (by unfold cube vH; simp only [ix3_0, ix3_1, ix3_2, Nat.mul_comm, Nat.add_assoc])

omit hX
include hO in
theorem oF_cube : oF O = cube fun h d t => oH O h t d := by
  funext i
  idx_vars i
  pointwise [oF]
  exact (hO _ _).trans (by unfold cube oH; simp only [ix3_0, ix3_1, ix3_2, Nat.mul_comm])

omit hX

section

include hQ

theorem zF_cube : zF X = cube fun h t s => zG (qH X h) (kH X h) t s := by
  unfold zF logitF
  rw [qF_cube X hQ, kF_cube X hQ, dot_qk, fill_sc, mulf_cube]
  rfl

/-- The row totals that the kernel's host line computes. -/
theorem loseF_zF : loseF (zF X) = cube fun h t s => aG (qH X h) (kH X h) t s := by
  rw [zF_cube X hQ, loseF_cube]
  rfl

theorem weightF_zF : weightF (zF X) = cube fun h t s => wH X h t s := by
  rw [zF_cube X hQ, weightF_cube]
  rfl

end

include hX hO

theorem gradF_zF : gradF (zF X) (oF O) (vF X) = cube fun h t s => eG (qH X h) (kH X h) (vH X h) (oH O h) (cH X h) t s := by
  unfold gradF
  rw [weightF_zF X hX.qk, oF_cube O hO, vF_cube X hX, dot_ov, mulf_cube, fill_zero, select_cubes _ _ _ (fun h t s => s < t) maskF_at]
  refine cube_congr fun h _ t _ s _ => ?_
  by_cases hl : s < t
  · rw [if_pos hl]; exact mul_comm _ _
  · rw [if_neg hl]; unfold eG; rw [wG_zero _ _ _ _ _ (by omega), zero_mul]

theorem gF_cube : gF X O = cube fun h t s => dzH X O h t s := by
  unfold gF
  rw [gradF_zF X O hX hO, zF_cube X hX.qk, dzF_cube]
  · rfl
  · intro h t s hl; unfold eG; rw [wG_zero _ _ _ _ _ (by omega), zero_mul]

end

variable (m : (ℓ : Loc nD τ sig) → Buf (Elt Ideal) ℓ) (c : Dev nD)

abbrev refX : FVec Ideal S4096x10240 .f32 := m ((c.tc : Thread nD τ).loc main_arg0)
abbrev refO : FVec Ideal S4096x1024 .bf16 := m ((c.tc : Thread nD τ).loc main_arg1)

theorem out0_eq : Cert.ReferenceIdeal.Value.res_out0 m c
    = shapeCast S4096x1024 (transpose S4096x8x128 [1, 0, 2] (Host.dotGeneral (φ₁ := .f32) (φ₂ := .f32) dot_S8x4096x4096_S4096x8x128_S8x4096x128_2_0_1_2_0_1 none (gF (refX m c) (refO m c)) (kF (refX m c)))
        transposes_S8x4096x128_S4096x8x128_1_0_2) shapeCasts_S4096x8x128_S4096x1024 := by
  unfold Cert.ReferenceIdeal.Value.res_out0 Cert.ReferenceIdeal.Value.res_main_v52
  rfl

theorem out1_eq : Cert.ReferenceIdeal.Value.res_out1 m c
    = shapeCast S4096x1024 (transpose S4096x8x128 [1, 0, 2] (Host.dotGeneral dot_S8x4096x4096_S4096x8x128_S8x4096x128_1_0_2_2_0_1 none (gF (refX m c) (refO m c)) (qF (refX m c)))
        transposes_S8x4096x128_S4096x8x128_1_0_2) shapeCasts_S4096x8x128_S4096x1024 := by
  unfold Cert.ReferenceIdeal.Value.res_out1 Cert.ReferenceIdeal.Value.res_main_v51
  rfl

theorem out2_eq : Cert.ReferenceIdeal.Value.res_out2 m c
    = shapeCast S4096x1024 (transpose S4096x8x128 [2, 0, 1] (Host.dotGeneral dot_S8x128x4096_S8x4096x4096_S8x128x4096_2_1_1_2_0_0 none (oF (refO m c)) (weightF (zF (refX m c))))
        transposes_S8x128x4096_S4096x8x128_2_0_1) shapeCasts_S4096x8x128_S4096x1024 := by
  unfold Cert.ReferenceIdeal.Value.res_out2 Cert.ReferenceIdeal.Value.res_main_v50
  rfl

variable (hX : FinX (refX m c)) (hO : FinO (refO m c))

include hX hO

theorem ref_dq : Cert.ReferenceIdeal.Value.res_out0 m c = fun y : S4096x1024.Idx => ((dqR (refX m c) (refO m c) (y 0).val (y 1).val : ℝ) : EReal) := by
  rw [out0_eq, gF_cube _ _ hX hO, kF_cube _ hX.qk, dot_zk, tr_102, flat]
  rfl

theorem ref_dk : Cert.ReferenceIdeal.Value.res_out1 m c = fun y : S4096x1024.Idx => ((dkR (refX m c) (refO m c) (y 0).val (y 1).val : ℝ) : EReal) := by
  rw [out1_eq, gF_cube _ _ hX hO, qF_cube _ hX.qk, dot_zq, tr_102, flat]
  rfl

theorem ref_dv : Cert.ReferenceIdeal.Value.res_out2 m c = fun y : S4096x1024.Idx => ((dvR (refX m c) (refO m c) (y 0).val (y 1).val : ℝ) : EReal) := by
  rw [out2_eq, weightF_zF _ hX.qk, oF_cube _ hO, dot_ow, tr_201, flat]
  funext y
  refine congrArg (fun r : ℝ => (r : EReal)) (Finset.sum_congr rfl fun t _ => mul_comm _ _)

end Cert.SB

end
-- ==== Proof.SB.Entry.lean ====
/- The row totals that the kernel's host line computes, over the reals. -/
module

public import proofs.«01_k».proof.Proof.SB.Ref
public import Idealize.ShloMosaic.Lib.Claim

@[expose] public section

set_option maxRecDepth 16384

noncomputable section

open Idealize.ShloMosaic Idealize.ShloMosaic.TcCoe Idealize.SL.Sem

namespace Cert.SB

open Cert.KernelIdeal Cert.KernelIdeal.Gen

variable (m : (ℓ : Loc nD τ sig) → Buf (Elt Ideal) ℓ) (c : Dev nD) (hX : FinX (argX m c))

include hX

theorem rowTotals : V m c main_v18 = (fun y : S8x4096x1.Idx => ((cH (argX m c) (y 0).val (y 1).val : ℝ) : EReal)) := by
  have e : V m c main_v18 = broadcastInDim S8x4096x1 ![0, 1] bcast_S8x4096_S8x4096x1_0_1
      (Host.reduceAdd (loseF (zF (argX m c))) (constant S_ .f32 0x00000000#32 : FVec Ideal S_ .f32) reducesTo_S8x4096x4096_S8x4096_d2 h_S_ : FVec Ideal S8x4096 .f32) := by
    entry_read
    rfl
  rw [e, loseF_zF _ hX.qk]
  funext y
  pointwise [cube]
  exact sum_fin (n := 4096) fun s => aG (qH (argX m c) (y 0).val) (kH (argX m c) (y 0).val) (y 1).val s

end Cert.SB

end
-- ==== Proof.Between.Scalar.lean ====
/- The scalar functions of the calls between the products. -/
module

public import Idealize.ShloMosaic.Lib.Pointwise

@[expose] public section

noncomputable section

open Idealize.ShloMosaic

namespace Cert.Between

/-- The gate times its cotangent. -/
def gated (d l : EReal) : EReal := d * Ideal.logistic l

/-- The gate's logit's cotangent: `d` comes from above, `a` is what the gate multiplies. -/
def slope (d a l : EReal) : EReal := d * a * Ideal.logistic l * (1 - Ideal.logistic l)

/-- Three gated arrays added. -/
def merged (l₀ a₀ l₁ a₁ l₂ a₂ : EReal) : EReal :=
  Ideal.logistic l₀ * a₀ + Ideal.logistic l₁ * a₁ + Ideal.logistic l₂ * a₂

/-- `u` through the gate of `g`, times `g`. -/
def swished (g u : EReal) : EReal := g * Ideal.logistic g * u

/-- The cotangent of `u` in `swished`. -/
def swishedUp (d g : EReal) : EReal := d * g * Ideal.logistic g

/-- The cotangent of `g` in `swished`. -/
def swishedGate (d g u : EReal) : EReal := d * u * Ideal.logistic g * (1 + g * (1 - Ideal.logistic g))

/-- An extended real whose absolute value is below infinity is a real number. -/
theorem real_of_abs_lt (x : EReal) (h : Ideal.cmp .olt (max x (-x)) ⊤ = 1#1) : x = ((x.toReal : ℝ) : EReal) := by
  have hl : max x (-x) < ⊤ := by
    by_contra hn
    have : Ideal.cmp .olt (max x (-x)) ⊤ = 0#1 := by simp only [Ideal.cmp, hn, decide_false]; rfl
    rw [this] at h
    exact absurd h (by decide)
  induction x with
  | bot => exact absurd hl (by simp)
  | top => exact absurd hl (by simp)
  | coe r => rfl

theorem inf_eq : (Ideal.ofBits .f32 0x7F800000#32 : EReal) = ⊤ := by
  simp [Ideal.ofBits, Ideal.ieee]

/-- Between real numbers the cotangent of `g` is the sum of its two paths. -/
theorem swishedGate_eq {d g u : EReal} (hd : d = ((d.toReal : ℝ) : EReal)) (hg : g = ((g.toReal : ℝ) : EReal)) (hu : u = ((u.toReal : ℝ) : EReal)) :
    swishedGate d g u = d * u * Ideal.logistic g + g * (d * u) * (Ideal.logistic g * (1 - Ideal.logistic g)) := by
  rw [hd, hg, hu]
  unfold swishedGate
  simp only [Ideal.logistic_coe]
  norm_cast
  ring

/-- The first moment's next value, from the gradient and its last value. -/
def moment₁ (g m : EReal) : EReal :=
  (Scalar.ofBits .f32 0x3F666666#32 : Ideal .f32) * m + (Scalar.ofBits .f32 0x3DCCCCCD#32 : Ideal .f32) * g

/-- The second moment's next value. -/
def moment₂ (g v : EReal) : EReal :=
  (Scalar.ofBits .f32 0x3F7FBE77#32 : Ideal .f32) * v + (Scalar.ofBits .f32 0x3A83126F#32 : Ideal .f32) * (g * g)

/-- The weight's step. -/
def step (w g m v : EReal) : EReal :=
  (Scalar.ofBits .f32 0xBA83126F#32 : Ideal .f32)
    * (Ideal.div (Ideal.div (moment₁ g m) (Scalar.ofBits .f32 0x3F26BD02#32 : Ideal .f32))
        (Ideal.sqrt (Ideal.div (moment₂ g v) (Scalar.ofBits .f32 0x3C231ACC#32 : Ideal .f32)) + (Scalar.ofBits .f32 0x322BCC77#32 : Ideal .f32))
      + (Scalar.ofBits .f32 0x3C23D70A#32 : Ideal .f32) * w)

theorem congr3 {a b c a' b' c' : EReal} (f : EReal → EReal → EReal → EReal) (ha : a = a') (hb : b = b') (hc : c = c') :
    f a b c = f a' b' c' := ha ▸ hb ▸ hc ▸ rfl

theorem congr4 {a b c d a' b' c' d' : EReal} (f : EReal → EReal → EReal → EReal → EReal) (ha : a = a') (hb : b = b') (hc : c = c')
    (hd : d = d') : f a b c d = f a' b' c' d' := ha ▸ hb ▸ hc ▸ hd ▸ rfl

theorem congr6 {a b c d e g a' b' c' d' e' g' : EReal} (f : EReal → EReal → EReal → EReal → EReal → EReal → EReal)
    (ha : a = a') (hb : b = b') (hc : c = c') (hd : d = d') (he : e = e') (hg : g = g') :
    f a b c d e g = f a' b' c' d' e' g' := ha ▸ hb ▸ hc ▸ hd ▸ he ▸ hg ▸ rfl

end Cert.Between

end
-- ==== Proof.SB.Claim.lean ====
/- From the precondition to real inputs, and from the two runs to equal results. -/
module

public import proofs.«01_k».proof.Defs
public import proofs.«01_k».proof.Proof.SB.Entry
public import proofs.«01_k».proof.Proof.Between.Scalar

@[expose] public section

set_option maxRecDepth 16384

noncomputable section

open Idealize.ShloMosaic Idealize.ShloMosaic.TcCoe Idealize.SL.Sem

namespace Cert.SB

/-- The shape relations of the precondition. -/
theorem pre_facts : Cert.Pre_finite.Facts where
  slices_S4096x10240_S4096x3072_0_0 := by decide
  bcast_S_S4096x3072 := by decide
  bitsLt_bf16_f32 := by decide
  bcast_S_S4096x1024 := by decide

theorem at2_eq {n m : ℕ} {φ : FTy} (X : FVec Ideal ⟨2, ![n, m]⟩ φ) (t : Fin n) (d : Fin m) :
    at2 X t.val d.val = (show EReal from X (ix2 t d)).toReal := by
  unfold at2
  rw [dif_pos ⟨t.isLt, d.isLt⟩]

section

variable (X : FVec Ideal ⟨2, ![4096, 10240]⟩ .f32) (O : FVec Ideal ⟨2, ![4096, 1024]⟩ .bf16)

theorem finX_of_pre (h : (@Cert.Pre_finite.fn pre_facts Ideal _ X O).1 = fun _ => 1#1) : FinX X := by
  intro t d hd
  have e := congrFun h (ix2 t ⟨d.val, hd⟩)
  pointwise [Cert.Pre_finite.fn, inf_eq] at e
  rw [at2_eq]
  exact Between.real_of_abs_lt _ e

theorem finO_of_pre (h : (@Cert.Pre_finite.fn pre_facts Ideal _ X O).2 = fun _ => 1#1) : FinO O := by
  intro t d
  have e := congrFun h (ix2 t d)
  pointwise [Cert.Pre_finite.fn, inf_eq] at e
  rw [at2_eq]
  exact Between.real_of_abs_lt _ e

end

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hX : FinX (argX m c)) (hO : FinO (argO m c)) (eX : refX m' c = argX m c) (eO : refO m' c = argO m c)

include hX hO eX eO

theorem same_dq : Cert.ReferenceIdeal.Value.res_main_v52 m' c = (Cert.KernelIdeal.Gen.dats m 0 c).arrAt 5 Cert.KernelIdeal.cfg0.N := by
  refine (ref_dq m' c (eX ▸ hX) (eO ▸ hO)).trans ?_
  rw [eX, eO]
  exact (final5 m c hX hO (rowTotals m c hX)).symm

theorem same_dk : Cert.ReferenceIdeal.Value.res_main_v51 m' c = (Cert.KernelIdeal.Gen.dats m 0 c).arrAt 6 Cert.KernelIdeal.cfg0.N := by
  refine (ref_dk m' c (eX ▸ hX) (eO ▸ hO)).trans ?_
  rw [eX, eO]
  exact (final6 m c hX hO (rowTotals m c hX)).symm

theorem same_dv : Cert.ReferenceIdeal.Value.res_main_v50 m' c = (Cert.KernelIdeal.Gen.dats m 0 c).arrAt 7 Cert.KernelIdeal.cfg0.N := by
  refine (ref_dv m' c (eX ▸ hX) (eO ▸ hO)).trans ?_
  rw [eX, eO]
  exact (final7 m c hX hO (rowTotals m c hX)).symm

end

/-- The idealised kernel and the reference end with equal gradients of q, k and v. -/
theorem algebraic : @Cert.algebraic_KernelIdeal_ReferenceIdeal_pre_finite Cert.KernelIdeal.Gen.facts Cert.ReferenceIdeal.Gen.facts pre_facts := by
  pair_intro
  · run_from Cert.KernelIdeal.Value.run_blocks m g
  · refine (θ_run _ _ _).mono (fun r h c => ?_) (Cert.ReferenceIdeal.Value.run (F := Ideal) m' g')
    have hX := finX_of_pre _ _ (hpre c).1
    have hO := finO_of_pre _ _ (hpre c).2
    obtain ⟨h0, h1, h2, h3, h4⟩ := h c
    exact ⟨h0.trans (same_dq m m' c hX hO (hagree c).1 (hagree c).2), h1.trans (same_dk m m' c hX hO (hagree c).1 (hagree c).2),
      h2.trans (same_dv m m' c hX hO (hagree c).1 (hagree c).2), h3, h4⟩

end Cert.SB

end
-- ==== Proof.Products.UpGrad.lean ====
/- The gradient of the gate and up projections' weights: the kernel's blocks and the reference are the same sums over the rows. -/
module

public import proofs.«01_k».proof.Proof.Gen.UpGradIdeal.Value
public import proofs.«01_k».proof.Proof.Gen.UpGradReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.UpGradIdeal

open Cert.UpGradIdeal.Gen

/-- The sum over the rows of the products of column `y 1` and of column `y 2` of column group `y 0`. -/
def G (X : FVec Ideal S4096x2048 .bf16) (Y : FVec Ideal S4096x11264 .bf16) : FVec Ideal S4x2048x2816 .f32 := fun y =>
  ∑ s : Fin 4096, X (ix2 s (y 1)) * Y (ix2 s ⟨2816 * (y 0).val + (y 2).val, by
    have h0 : (y 0).val < 4 := (y 0).isLt
    have h2 : (y 2).val < 2816 := (y 2).isLt
    omega⟩)

theorem pay_at (x : FVec Ideal S4096x512 .bf16) (y : FVec Ideal S4096x1408 .bf16) (i : S1x512x1408.Idx) :
    k0_pay1 (F := Ideal) x y i = ∑ s : Fin 4096, (show EReal from x (ix2 s (i 1))) * (show EReal from y (ix2 s (i 2))) := by
  pointwise [k0_pay1]

variable (m : (ℓ : Loc nD τ sig) → Buf (Elt Ideal) ℓ) (c : Dev nD)

abbrev argX : FVec Ideal S4096x2048 .bf16 := m ((c : Thread nD τ).loc main_arg0)
abbrev argY : FVec Ideal S4096x11264 .bf16 := m ((c : Thread nD τ).loc main_arg1)

theorem idx : ∀ t : Fin cfg0.N, win0_0.index t = ![0, t.val % 4] ∧ win0_1.index t = ![0, t.val / 4] ∧ win0_2.index t = ![t.val / 4 / 2, t.val % 4, t.val / 4 % 2] :=
  (by decide +kernel : ∀ t : Fin grid0.N, _)

theorem point_lt (t : Fin cfg0.N) : t.val < 32 := lt_of_lt_of_eq t.isLt (show cfg0.N = 32 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1 := (y 0).isLt
  have h1 : (y 1).val < 512 := (y 1).isLt
  have h2 : (y 2).val < 1408 := (y 2).isLt
  have e0 : ((((cfg0.win 2).blk t).view.emb y) 0).val = t.val / 4 / 2 := by blk_simp [idx t] <;> omega
  have e1 : ((((cfg0.win 2).blk t).view.emb y) 1).val = 512 * (t.val % 4) + (y 1).val := by blk_simp [idx t] <;> omega
  have e2 : ((((cfg0.win 2).blk t).view.emb y) 2).val = 1408 * (t.val / 4 % 2) + (y 2).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e1, h1]
  · rw [View.ld_unit_zero (by decide)]
    blk_ext [iblk, V, idx t, e0, e2, h2] <;> omega

end Cert.UpGradIdeal

namespace Cert.UpGradReferenceIdeal

open Cert.UpGradReferenceIdeal.Gen

/-- The reference's result is the same sums. -/
theorem ref_eq (X : FVec Ideal S4096x2048 .bf16) (Y : FVec Ideal S4096x11264 .bf16) :
    transpose S4x2048x2816 [1, 0, 2] (shapeCast S2048x4x2816 (transpose S2048x11264 [1, 0] (Host.dotGeneral dot_S4096x11264_S4096x2048_S11264x2048_0_0_1_1_n_n none (extf .f32 Y bitsLt_bf16_f32) (extf .f32 X bitsLt_bf16_f32)) transposes_S11264x2048_S2048x11264_1_0) shapeCasts_S2048x11264_S2048x4x2816) transposes_S2048x4x2816_S4x2048x2816_1_0_2
      = Cert.UpGradIdeal.G X Y := by
  funext y
  idx_vars y
  pointwise [Cert.UpGradIdeal.G]
  exact Finset.sum_congr rfl fun s _ => (mul_comm _ _).trans (Ideal.mul_congr rfl (congrArg Y (by idx_ext)))

end Cert.UpGradReferenceIdeal

end
-- ==== Proof.Products.InGrad.lean ====
/- The gradient of the input projection's weights: the kernel's blocks and the reference are the same sums over the rows. -/
module

public import proofs.«01_k».proof.Proof.Gen.InGradIdeal.Value
public import proofs.«01_k».proof.Proof.Gen.InGradReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InGradIdeal

open Cert.InGradIdeal.Gen

/-- The sum over the rows of the products of column `y 1` and of column `y 2` of column group `y 0`. -/
def G (X : FVec Ideal S4096x2048 .bf16) (Y : FVec Ideal S4096x10240 .bf16) : FVec Ideal S4x2048x2560 .f32 := fun y =>
  ∑ s : Fin 4096, X (ix2 s (y 1)) * Y (ix2 s ⟨2560 * (y 0).val + (y 2).val, by
    have h0 : (y 0).val < 4 := (y 0).isLt
    have h2 : (y 2).val < 2560 := (y 2).isLt
    omega⟩)

theorem pay_at (x : FVec Ideal S4096x512 .bf16) (y : FVec Ideal S4096x1280 .bf16) (i : S1x512x1280.Idx) :
    k0_pay1 (F := Ideal) x y i = ∑ s : Fin 4096, (show EReal from x (ix2 s (i 1))) * (show EReal from y (ix2 s (i 2))) := by
  pointwise [k0_pay1]

variable (m : (ℓ : Loc nD τ sig) → Buf (Elt Ideal) ℓ) (c : Dev nD)

abbrev argX : FVec Ideal S4096x2048 .bf16 := m ((c : Thread nD τ).loc main_arg0)
abbrev argY : FVec Ideal S4096x10240 .bf16 := m ((c : Thread nD τ).loc main_arg1)

theorem idx : ∀ t : Fin cfg0.N, win0_0.index t = ![0, t.val % 4] ∧ win0_1.index t = ![0, t.val / 4] ∧ win0_2.index t = ![t.val / 4 / 2, t.val % 4, t.val / 4 % 2] :=
  (by decide +kernel : ∀ t : Fin grid0.N, _)

theorem point_lt (t : Fin cfg0.N) : t.val < 32 := lt_of_lt_of_eq t.isLt (show cfg0.N = 32 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1 := (y 0).isLt
  have h1 : (y 1).val < 512 := (y 1).isLt
  have h2 : (y 2).val < 1280 := (y 2).isLt
  have e0 : ((((cfg0.win 2).blk t).view.emb y) 0).val = t.val / 4 / 2 := by blk_simp [idx t] <;> omega
  have e1 : ((((cfg0.win 2).blk t).view.emb y) 1).val = 512 * (t.val % 4) + (y 1).val := by blk_simp [idx t] <;> omega
  have e2 : ((((cfg0.win 2).blk t).view.emb y) 2).val = 1280 * (t.val / 4 % 2) + (y 2).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e1, h1]
  · rw [View.ld_unit_zero (by decide)]
    blk_ext [iblk, V, idx t, e0, e2, h2] <;> omega

end Cert.InGradIdeal

namespace Cert.InGradReferenceIdeal

open Cert.InGradReferenceIdeal.Gen

/-- The reference's result is the same sums. -/
theorem ref_eq (X : FVec Ideal S4096x2048 .bf16) (Y : FVec Ideal S4096x10240 .bf16) :
    transpose S4x2048x2560 [1, 0, 2] (shapeCast S2048x4x2560 (transpose S2048x10240 [1, 0] (Host.dotGeneral dot_S4096x10240_S4096x2048_S10240x2048_0_0_1_1_n_n none (extf .f32 Y bitsLt_bf16_f32) (extf .f32 X bitsLt_bf16_f32)) transposes_S10240x2048_S2048x10240_1_0) shapeCasts_S2048x10240_S2048x4x2560) transposes_S2048x4x2560_S4x2048x2560_1_0_2
      = Cert.InGradIdeal.G X Y := by
  funext y
  idx_vars y
  pointwise [Cert.InGradIdeal.G]
  exact Finset.sum_congr rfl fun s _ => (mul_comm _ _).trans (Ideal.mul_congr rfl (congrArg Y (by idx_ext)))

end Cert.InGradReferenceIdeal

end
-- ==== Proof.Products.DownGrad.lean ====
/- The gradient of the down projection's weights: the kernel's blocks and the reference are the same sums over the rows. -/
module

public import proofs.«01_k».proof.Proof.Gen.DownGradIdeal.Value
public import proofs.«01_k».proof.Proof.Gen.DownGradReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.DownGradIdeal

open Cert.DownGradIdeal.Gen

/-- The sum over the rows of the products of column `y 0` and of column `y 1`. -/
def G (X : FVec Ideal S4096x5632 .bf16) (Y : FVec Ideal S4096x2048 .bf16) : FVec Ideal S5632x2048 .f32 := fun y =>
  ∑ s : Fin 4096, X (ix2 s (y 0)) * Y (ix2 s (y 1))

theorem pay_at (x : FVec Ideal S4096x512 .bf16) (y : FVec Ideal S4096x1024 .bf16) (i : S512x1024.Idx) :
    k0_pay1 (F := Ideal) x y i = ∑ s : Fin 4096, (show EReal from x (ix2 s (i 0))) * (show EReal from y (ix2 s (i 1))) := by
  pointwise [k0_pay1]

variable (m : (ℓ : Loc nD τ sig) → Buf (Elt Ideal) ℓ) (c : Dev nD)

abbrev argX : FVec Ideal S4096x5632 .bf16 := m ((c : Thread nD τ).loc main_arg0)
abbrev argY : FVec Ideal S4096x2048 .bf16 := m ((c : Thread nD τ).loc main_arg1)

theorem idx : ∀ t : Fin cfg0.N, win0_0.index t = ![0, t.val % 11] ∧ win0_1.index t = ![0, t.val / 11] ∧ win0_2.index t = ![t.val % 11, t.val / 11] :=
  (by decide +kernel : ∀ t : Fin grid0.N, _)

theorem point_lt (t : Fin cfg0.N) : t.val < 22 := lt_of_lt_of_eq t.isLt (show cfg0.N = 22 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 512 := (y 0).isLt
  have h1 : (y 1).val < 1024 := (y 1).isLt
  have e0 : ((((cfg0.win 2).blk t).view.emb y) 0).val = 512 * (t.val % 11) + (y 0).val := by blk_simp [idx t] <;> omega
  have e1 : ((((cfg0.win 2).blk t).view.emb y) 1).val = 1024 * (t.val / 11) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    blk_ext [iblk, V, idx t, e1, h1] <;> omega

end Cert.DownGradIdeal

namespace Cert.DownGradReferenceIdeal

open Cert.DownGradReferenceIdeal.Gen

/-- The reference's result is the same sums. -/
theorem ref_eq (X : FVec Ideal S4096x5632 .bf16) (Y : FVec Ideal S4096x2048 .bf16) :
    transpose S5632x2048 [1, 0] (Host.dotGeneral dot_S4096x2048_S4096x5632_S2048x5632_0_0_1_1_n_n none (extf .f32 Y bitsLt_bf16_f32) (extf .f32 X bitsLt_bf16_f32)) transposes_S2048x5632_S5632x2048_1_0
      = Cert.DownGradIdeal.G X Y := by
  funext y
  idx_vars y
  pointwise [Cert.DownGradIdeal.G]
  exact Finset.sum_congr rfl fun s _ => (mul_comm _ _).trans (Ideal.mul_congr rfl rfl)

end Cert.DownGradReferenceIdeal

end
-- ==== Proof.Products.OutGrad.lean ====
/- The gradient of the output projection's weights: the kernel's blocks and the reference are the same sums over the rows. -/
module

public import proofs.«01_k».proof.Proof.Gen.OutGradIdeal.Value
public import proofs.«01_k».proof.Proof.Gen.OutGradReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.OutGradIdeal

open Cert.OutGradIdeal.Gen

/-- The sum over the rows of the products of column `y 0` and of column `y 1`. -/
def G (X : FVec Ideal S4096x2048 .bf16) (Y : FVec Ideal S4096x2048 .bf16) : FVec Ideal S2048x2048 .f32 := fun y =>
  ∑ s : Fin 4096, X (ix2 s (y 0)) * Y (ix2 s (y 1))

theorem pay_at (x : FVec Ideal S4096x512 .bf16) (y : FVec Ideal S4096x1024 .bf16) (i : S512x1024.Idx) :
    k0_pay1 (F := Ideal) x y i = ∑ s : Fin 4096, (show EReal from x (ix2 s (i 0))) * (show EReal from y (ix2 s (i 1))) := by
  pointwise [k0_pay1]

variable (m : (ℓ : Loc nD τ sig) → Buf (Elt Ideal) ℓ) (c : Dev nD)

abbrev argX : FVec Ideal S4096x2048 .bf16 := m ((c : Thread nD τ).loc main_arg0)
abbrev argY : FVec Ideal S4096x2048 .bf16 := m ((c : Thread nD τ).loc main_arg1)

theorem idx : ∀ t : Fin cfg0.N, win0_0.index t = ![0, t.val % 4] ∧ win0_1.index t = ![0, t.val / 4] ∧ win0_2.index t = ![t.val % 4, t.val / 4] :=
  (by decide +kernel : ∀ t : Fin grid0.N, _)

theorem point_lt (t : Fin cfg0.N) : t.val < 8 := lt_of_lt_of_eq t.isLt (show cfg0.N = 8 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 512 := (y 0).isLt
  have h1 : (y 1).val < 1024 := (y 1).isLt
  have e0 : ((((cfg0.win 2).blk t).view.emb y) 0).val = 512 * (t.val % 4) + (y 0).val := by blk_simp [idx t] <;> omega
  have e1 : ((((cfg0.win 2).blk t).view.emb y) 1).val = 1024 * (t.val / 4) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    blk_ext [iblk, V, idx t, e1, h1] <;> omega

end Cert.OutGradIdeal

namespace Cert.OutGradReferenceIdeal

open Cert.OutGradReferenceIdeal.Gen

/-- The reference's result is the same sums. -/
theorem ref_eq (X : FVec Ideal S4096x2048 .bf16) (Y : FVec Ideal S4096x2048 .bf16) :
    transpose S2048x2048 [1, 0] (Host.dotGeneral dot_S4096x2048_S4096x2048_S2048x2048_0_0_1_1_n_n none (extf .f32 Y bitsLt_bf16_f32) (extf .f32 X bitsLt_bf16_f32)) transposes_S2048x2048_S2048x2048_1_0
      = Cert.OutGradIdeal.G X Y := by
  funext y
  idx_vars y
  pointwise [Cert.OutGradIdeal.G]
  exact Finset.sum_congr rfl fun s _ => (mul_comm _ _).trans (Ideal.mul_congr rfl rfl)

end Cert.OutGradReferenceIdeal

end
-- ==== Proof.Products.SbOutGrad.lean ====
/- The gradient of the attention branch's output weights: the kernel's blocks and the reference are the same sums over the rows. -/
module

public import proofs.«01_k».proof.Proof.Gen.SbOutGradIdeal.Value
public import proofs.«01_k».proof.Proof.Gen.SbOutGradReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SbOutGradIdeal

open Cert.SbOutGradIdeal.Gen

/-- The sum over the rows of the products of column `y 1` and of column `y 2` of column group `y 0`. -/
def G (X : FVec Ideal S4096x1024 .bf16) (Y : FVec Ideal S4096x2048 .bf16) : FVec Ideal S4x1024x512 .f32 := fun y =>
  ∑ s : Fin 4096, X (ix2 s (y 1)) * Y (ix2 s ⟨512 * (y 0).val + (y 2).val, by
    have h0 : (y 0).val < 4 := (y 0).isLt
    have h2 : (y 2).val < 512 := (y 2).isLt
    omega⟩)

theorem pay_at (x : FVec Ideal S4096x512 .bf16) (y : FVec Ideal S4096x512 .bf16) (i : S1x512x512.Idx) :
    k0_pay1 (F := Ideal) x y i = ∑ s : Fin 4096, (show EReal from x (ix2 s (i 1))) * (show EReal from y (ix2 s (i 2))) := by
  pointwise [k0_pay1]

variable (m : (ℓ : Loc nD τ sig) → Buf (Elt Ideal) ℓ) (c : Dev nD)

abbrev argX : FVec Ideal S4096x1024 .bf16 := m ((c : Thread nD τ).loc main_arg0)
abbrev argY : FVec Ideal S4096x2048 .bf16 := m ((c : Thread nD τ).loc main_arg1)

theorem idx : ∀ t : Fin cfg0.N, win0_0.index t = ![0, t.val % 2] ∧ win0_1.index t = ![0, t.val / 2] ∧ win0_2.index t = ![t.val / 2 / 1, t.val % 2, t.val / 2 % 1] :=
  (by decide +kernel : ∀ t : Fin grid0.N, _)

theorem point_lt (t : Fin cfg0.N) : t.val < 8 := lt_of_lt_of_eq t.isLt (show cfg0.N = 8 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1 := (y 0).isLt
  have h1 : (y 1).val < 512 := (y 1).isLt
  have h2 : (y 2).val < 512 := (y 2).isLt
  have e0 : ((((cfg0.win 2).blk t).view.emb y) 0).val = t.val / 2 / 1 := by blk_simp [idx t] <;> omega
  have e1 : ((((cfg0.win 2).blk t).view.emb y) 1).val = 512 * (t.val % 2) + (y 1).val := by blk_simp [idx t] <;> omega
  have e2 : ((((cfg0.win 2).blk t).view.emb y) 2).val = 512 * (t.val / 2 % 1) + (y 2).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e1, h1]
  · rw [View.ld_unit_zero (by decide)]
    blk_ext [iblk, V, idx t, e0, e2, h2] <;> omega

end Cert.SbOutGradIdeal

namespace Cert.SbOutGradReferenceIdeal

open Cert.SbOutGradReferenceIdeal.Gen

/-- The reference's result is the same sums. -/
theorem ref_eq (X : FVec Ideal S4096x1024 .bf16) (Y : FVec Ideal S4096x2048 .bf16) :
    transpose S4x1024x512 [1, 0, 2] (shapeCast S1024x4x512 (transpose S1024x2048 [1, 0] (Host.dotGeneral dot_S4096x2048_S4096x1024_S2048x1024_0_0_1_1_n_n none (extf .f32 Y bitsLt_bf16_f32) (extf .f32 X bitsLt_bf16_f32)) transposes_S2048x1024_S1024x2048_1_0) shapeCasts_S1024x2048_S1024x4x512) transposes_S1024x4x512_S4x1024x512_1_0_2
      = Cert.SbOutGradIdeal.G X Y := by
  funext y
  idx_vars y
  pointwise [Cert.SbOutGradIdeal.G]
  exact Finset.sum_congr rfl fun s _ => (mul_comm _ _).trans (Ideal.mul_congr rfl (congrArg Y (by idx_ext)))

end Cert.SbOutGradReferenceIdeal

end
-- ==== Proof.Products.Up.lean ====
/- The gate and up projections: the kernel's blocks and the reference are the same sums over the shared axis. -/
module

public import proofs.«01_k».proof.Proof.Gen.UpIdeal.Value
public import proofs.«01_k».proof.Proof.Gen.UpReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.UpIdeal

open Cert.UpIdeal.Gen

/-- The sum over `s` of the products of row `y 0` and of column `y 1` of the weights, whose columns lie in four groups of 2816. -/
def G (X : FVec Ideal S4096x2048 .bf16) (Y : FVec Ideal S4x2048x2816 .bf16) : FVec Ideal S4096x11264 .f32 := fun y =>
  ∑ s : Fin 2048, X (ix2 (y 0) s) * Y (ix3 ⟨(y 1).val / 2816, by
    have h1 : (y 1).val < 11264 := (y 1).isLt
    omega⟩ s ⟨(y 1).val % 2816, Nat.mod_lt _ (by decide)⟩)

theorem pay_at (x : FVec Ideal S1024x2048 .bf16) (w : FVec Ideal S1x2048x1408 .bf16) (i : S1024x1408.Idx) :
    k0_pay1 (F := Ideal) x w i = ∑ s : Fin 2048, (show EReal from x (ix2 (i 0) s)) * (show EReal from w (ix3 0 s (i 1))) := by
  pointwise [k0_pay1]

variable (m : (ℓ : Loc nD τ sig) → Buf (Elt Ideal) ℓ) (c : Dev nD)

abbrev argX : FVec Ideal S4096x2048 .bf16 := m ((c : Thread nD τ).loc main_arg0)
abbrev argY : FVec Ideal S4x2048x2816 .bf16 := m ((c : Thread nD τ).loc main_arg1)

theorem idx : ∀ t : Fin cfg0.N, win0_0.index t = ![t.val / 8, 0] ∧ win0_1.index t = ![t.val % 8 / 2, 0, t.val % 8 % 2] ∧ win0_2.index t = ![t.val / 8, t.val % 8] :=
  (by decide +kernel : ∀ t : Fin grid0.N, _)

theorem point_lt (t : Fin cfg0.N) : t.val < 32 := lt_of_lt_of_eq t.isLt (show cfg0.N = 32 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1024 := (y 0).isLt
  have h1 : (y 1).val < 1408 := (y 1).isLt
  have e0 : ((((cfg0.win 2).blk t).view.emb y) 0).val = 1024 * (t.val / 8) + (y 0).val := by blk_simp [idx t] <;> omega
  have e1 : ((((cfg0.win 2).blk t).view.emb y) 1).val = 1408 * (t.val % 8) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    blk_ext [iblk, V, idx t, e1, h1] <;> omega

end Cert.UpIdeal

namespace Cert.UpReferenceIdeal

open Cert.UpReferenceIdeal.Gen

/-- The reference's result is the same sums. -/
theorem ref_eq (X : FVec Ideal S4096x2048 .bf16) (Y : FVec Ideal S4x2048x2816 .bf16) :
    Host.dotGeneral dot_S4096x2048_S2048x11264_S4096x11264_1_0_0_1_n_n none (extf .f32 X bitsLt_bf16_f32) (shapeCast S2048x11264 (transpose S2048x4x2816 [1, 0, 2] (extf .f32 Y bitsLt_bf16_f32) transposes_S4x2048x2816_S2048x4x2816_1_0_2) shapeCasts_S2048x4x2816_S2048x11264)
      = Cert.UpIdeal.G X Y := by
  funext y
  idx_vars y
  pointwise [Cert.UpIdeal.G]

end Cert.UpReferenceIdeal

end
-- ==== Proof.Products.ProjIn.lean ====
/- The input projection with its bias: the kernel's blocks and the reference are the same sums over the shared axis. -/
module

public import proofs.«01_k».proof.Proof.Gen.ProjInIdeal.Value
public import proofs.«01_k».proof.Proof.Gen.ProjInReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ProjInIdeal

open Cert.ProjInIdeal.Gen

/-- The sum over `s` of the products of row `y 0` and of column `y 1` of the weights, whose columns lie in four groups of 2560. The bias is added last. -/
def G (X : FVec Ideal S4096x2048 .bf16) (Y : FVec Ideal S4x2048x2560 .bf16) (Z : FVec Ideal S10240 .f32) : FVec Ideal S4096x10240 .f32 := fun y =>
  (∑ s : Fin 2048, X (ix2 (y 0) s) * Y (ix3 ⟨(y 1).val / 2560, by
    have h1 : (y 1).val < 10240 := (y 1).isLt
    omega⟩ s ⟨(y 1).val % 2560, Nat.mod_lt _ (by decide)⟩)) + Z (ix1 (y 1))

theorem pay_at (x : FVec Ideal S1024x2048 .bf16) (w : FVec Ideal S1x2048x1280 .bf16) (b : FVec Ideal S1x1280 .f32) (i : S1024x1280.Idx) :
    k0_pay1 (F := Ideal) x w b i = (∑ s : Fin 2048, (show EReal from x (ix2 (i 0) s)) * (show EReal from w (ix3 0 s (i 1)))) + b (ix2 0 (i 1)) := by
  pointwise [k0_pay1]

variable (m : (ℓ : Loc nD τ sig) → Buf (Elt Ideal) ℓ) (c : Dev nD)

abbrev argX : FVec Ideal S4096x2048 .bf16 := m ((c : Thread nD τ).loc main_arg0)
abbrev argY : FVec Ideal S4x2048x2560 .bf16 := m ((c : Thread nD τ).loc main_arg1)
abbrev argZ : FVec Ideal S10240 .f32 := m ((c : Thread nD τ).loc main_arg2)

theorem V_bias (j : S1x10240.Idx) : (V m c main_v0 : FVec Ideal S1x10240 .f32) j = argZ m c (ix1 (j 1)) := by
  have e : (V m c main_v0 : FVec Ideal S1x10240 .f32) = broadcastInDim S1x10240 ![1] bcast_S10240_S1x10240_1 (argZ m c) := by
    after_results <;> rfl
  rw [e]
  pointwise []

theorem idx : ∀ t : Fin cfg0.N, win0_0.index t = ![t.val / 8, 0] ∧ win0_1.index t = ![t.val % 8 / 2, 0, t.val % 8 % 2] ∧ win0_2.index t = ![0, t.val % 8] ∧ win0_3.index t = ![t.val / 8, t.val % 8] :=
  (by decide +kernel : ∀ t : Fin grid0.N, _)

theorem point_lt (t : Fin cfg0.N) : t.val < 32 := lt_of_lt_of_eq t.isLt (show cfg0.N = 32 from N_0)

theorem final3 : (dats m 0 c).arrAt 3 cfg0.N = G (argX m c) (argY m c) (argZ m c) := by
  refine (dats m 0 c).arrAt_eq_of_covers 3 _ (by decide +kernel) fun t hf y => ?_
  have ht := point_lt t
  have h0 : (y 0).val < 1024 := (y 0).isLt
  have h1 : (y 1).val < 1280 := (y 1).isLt
  have e0 : ((((cfg0.win 3).blk t).view.emb y) 0).val = 1024 * (t.val / 8) + (y 0).val := by blk_simp [idx t] <;> omega
  have e1 : ((((cfg0.win 3).blk t).view.emb y) 1).val = 1280 * (t.val % 8) + (y 1).val := by blk_simp [idx t] <;> omega
  blk_simp
  rw [after0_3]
  unfold out0_3
  canon_tiles y h
  refine (pay_at _ _ _ y).trans (congrArg₂ (· + ·) (Finset.sum_congr rfl fun s _ => Ideal.mul_congr ?_ ?_) ?_)
  · rw [View.ld_unit_zero (by decide)]
    blk_ext [iblk, V, idx t, e0, h0]
  · rw [View.ld_unit_zero (by decide)]
    blk_ext [iblk, V, idx t, e1, h1] <;> omega
  · rw [View.ld_unit_zero (by decide)]
    unfold iblk
    refine (V_bias m c _).trans ?_
    blk_ext [idx t, e1, h1]

end Cert.ProjInIdeal

namespace Cert.ProjInReferenceIdeal

open Cert.ProjInReferenceIdeal.Gen

/-- The reference's result is the same sums. -/
theorem ref_eq (X : FVec Ideal S4096x2048 .bf16) (Y : FVec Ideal S4x2048x2560 .bf16) (Z : FVec Ideal S10240 .f32) :
    addf (Host.dotGeneral dot_S4096x2048_S2048x10240_S4096x10240_1_0_0_1_n_n none (extf .f32 X bitsLt_bf16_f32) (shapeCast S2048x10240 (transpose S2048x4x2560 [1, 0, 2] (extf .f32 Y bitsLt_bf16_f32) transposes_S4x2048x2560_S2048x4x2560_1_0_2) shapeCasts_S2048x4x2560_S2048x10240)) (broadcastInDim S4096x10240 ![0, 1] bcast_S1x10240_S4096x10240_0_1 (broadcastInDim S1x10240 ![1] bcast_S10240_S1x10240_1 Z))
      = Cert.ProjInIdeal.G X Y Z := by
  funext y
  idx_vars y
  pointwise [Cert.ProjInIdeal.G]

end Cert.ProjInReferenceIdeal

end
-- ==== Proof.Products.Down.lean ====
/- The down projection: the kernel's blocks and the reference are the same sums over the shared axis. -/
module

public import proofs.«01_k».proof.Proof.Gen.DownIdeal.Value
public import proofs.«01_k».proof.Proof.Gen.DownReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.DownIdeal

open Cert.DownIdeal.Gen

/-- The sum over `s` of the products of row `y 0` and of column `y 1` of the weights. -/
def G (X : FVec Ideal S4096x5632 .bf16) (Y : FVec Ideal S5632x2048 .bf16) : FVec Ideal S4096x2048 .f32 := fun y =>
  ∑ s : Fin 5632, X (ix2 (y 0) s) * Y (ix2 s (y 1))

theorem pay_at (x : FVec Ideal S1024x5632 .bf16) (w : FVec Ideal S5632x512 .bf16) (i : S1024x512.Idx) :
    k0_pay1 (F := Ideal) x w i = ∑ s : Fin 5632, (show EReal from x (ix2 (i 0) s)) * (show EReal from w (ix2 s (i 1))) := by
  pointwise [k0_pay1]

variable (m : (ℓ : Loc nD τ sig) → Buf (Elt Ideal) ℓ) (c : Dev nD)

abbrev argX : FVec Ideal S4096x5632 .bf16 := m ((c : Thread nD τ).loc main_arg0)
abbrev argY : FVec Ideal S4x1408x2048 .bf16 := m ((c : Thread nD τ).loc main_arg1)

/-- The four groups of rows, one below the other. -/
abbrev rows : FVec Ideal S5632x2048 .bf16 := shapeCast S5632x2048 (argY m c) shapeCasts_S4x1408x2048_S5632x2048

theorem V_rows : (V m c main_v0 : FVec Ideal S5632x2048 .bf16) = rows m c := rfl

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem point_lt (t : Fin cfg0.N) : t.val < 16 := lt_of_lt_of_eq t.isLt (show cfg0.N = 16 from N_0)

theorem final2 : (dats m 0 c).arrAt 2 cfg0.N = G (argX m c) (rows m c) := by
  refine (dats m 0 c).arrAt_eq_of_covers 2 _ (by decide +kernel) fun t hf y => ?_
  have ht := point_lt t
  have h0 : (y 0).val < 1024 := (y 0).isLt
  have h1 : (y 1).val < 512 := (y 1).isLt
  have e0 : ((((cfg0.win 2).blk t).view.emb y) 0).val = 1024 * (t.val / 4) + (y 0).val := by blk_simp [idx t] <;> omega
  have e1 : ((((cfg0.win 2).blk t).view.emb y) 1).val = 512 * (t.val % 4) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    unfold iblk
    refine (congrFun (V_rows m c) _).trans ?_
    blk_ext [idx t, e1, h1]

end Cert.DownIdeal

namespace Cert.DownReferenceIdeal

open Cert.DownReferenceIdeal.Gen

/-- The reference's result is the same sums. -/
theorem ref_eq (X : FVec Ideal S4096x5632 .bf16) (Y : FVec Ideal S4x1408x2048 .bf16) :
    Host.dotGeneral dot_S4096x5632_S5632x2048_S4096x2048_1_0_0_1_n_n none (extf .f32 X bitsLt_bf16_f32) (shapeCast S5632x2048 (extf .f32 Y bitsLt_bf16_f32) shapeCasts_S4x1408x2048_S5632x2048)
      = Cert.DownIdeal.G X (shapeCast S5632x2048 Y shapeCasts_S4x1408x2048_S5632x2048) := by
  funext y
  idx_vars y
  pointwise [Cert.DownIdeal.G]

end Cert.DownReferenceIdeal

end
-- ==== Proof.Products.Out.lean ====
/- The output projection: the kernel's blocks and the reference are the same sums over the shared axis. -/
module

public import proofs.«01_k».proof.Proof.Gen.OutIdeal.Value
public import proofs.«01_k».proof.Proof.Gen.OutReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.OutIdeal

open Cert.OutIdeal.Gen

/-- The sum over `s` of the products of row `y 0` and of column `y 1` of the weights. -/
def G (X : FVec Ideal S4096x2048 .bf16) (Y : FVec Ideal S2048x2048 .bf16) : FVec Ideal S4096x2048 .f32 := fun y =>
  ∑ s : Fin 2048, X (ix2 (y 0) s) * Y (ix2 s (y 1))

theorem pay_at (x : FVec Ideal S1024x2048 .bf16) (w : FVec Ideal S2048x2048 .bf16) (i : S1024x2048.Idx) :
    k0_pay1 (F := Ideal) x w i = ∑ s : Fin 2048, (show EReal from x (ix2 (i 0) s)) * (show EReal from w (ix2 s (i 1))) := by
  pointwise [k0_pay1]

variable (m : (ℓ : Loc nD τ sig) → Buf (Elt Ideal) ℓ) (c : Dev nD)

abbrev argX : FVec Ideal S4096x2048 .bf16 := m ((c : Thread nD τ).loc main_arg0)
abbrev argY : FVec Ideal S4x512x2048 .bf16 := m ((c : Thread nD τ).loc main_arg1)

/-- The four groups of rows, one below the other. -/
abbrev rows : FVec Ideal S2048x2048 .bf16 := shapeCast S2048x2048 (argY m c) shapeCasts_S4x512x2048_S2048x2048

theorem V_rows : (V m c main_v0 : FVec Ideal S2048x2048 .bf16) = rows m c := rfl

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem point_lt (t : Fin cfg0.N) : t.val < 4 := lt_of_lt_of_eq t.isLt (show cfg0.N = 4 from N_0)

theorem final2 : (dats m 0 c).arrAt 2 cfg0.N = G (argX m c) (rows m c) := by
  refine (dats m 0 c).arrAt_eq_of_covers 2 _ (by decide +kernel) fun t hf y => ?_
  have ht := point_lt t
  have h0 : (y 0).val < 1024 := (y 0).isLt
  have h1 : (y 1).val < 2048 := (y 1).isLt
  have e0 : ((((cfg0.win 2).blk t).view.emb y) 0).val = 1024 * (t.val / 1) + (y 0).val := by blk_simp [idx t] <;> omega
  have e1 : ((((cfg0.win 2).blk t).view.emb y) 1).val = 2048 * (t.val % 1) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    unfold iblk
    refine (congrFun (V_rows m c) _).trans ?_
    blk_ext [idx t, e1, h1]

end Cert.OutIdeal

namespace Cert.OutReferenceIdeal

open Cert.OutReferenceIdeal.Gen

/-- The reference's result is the same sums. -/
theorem ref_eq (X : FVec Ideal S4096x2048 .bf16) (Y : FVec Ideal S4x512x2048 .bf16) :
    Host.dotGeneral dot_S4096x2048_S2048x2048_S4096x2048_1_0_0_1_n_n none (extf .f32 X bitsLt_bf16_f32) (shapeCast S2048x2048 (extf .f32 Y bitsLt_bf16_f32) shapeCasts_S4x512x2048_S2048x2048)
      = Cert.OutIdeal.G X (shapeCast S2048x2048 Y shapeCasts_S4x512x2048_S2048x2048) := by
  funext y
  idx_vars y
  pointwise [Cert.OutIdeal.G]

end Cert.OutReferenceIdeal

end
-- ==== Proof.Products.SbOut.lean ====
/- The attention branch's output projection: the kernel's blocks and the reference are the same sums over the shared axis. -/
module

public import proofs.«01_k».proof.Proof.Gen.SbOutIdeal.Value
public import proofs.«01_k».proof.Proof.Gen.SbOutReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SbOutIdeal

open Cert.SbOutIdeal.Gen

/-- The sum over `s` of the products of row `y 0` and of column `y 1` of the weights, whose columns lie in four groups of 512. -/
def G (X : FVec Ideal S4096x1024 .bf16) (Y : FVec Ideal S4x1024x512 .bf16) : FVec Ideal S4096x2048 .f32 := fun y =>
  ∑ s : Fin 1024, X (ix2 (y 0) s) * Y (ix3 ⟨(y 1).val / 512, by
    have h1 : (y 1).val < 2048 := (y 1).isLt
    omega⟩ s ⟨(y 1).val % 512, Nat.mod_lt _ (by decide)⟩)

theorem pay_at (x : FVec Ideal S1024x1024 .bf16) (w : FVec Ideal S1x1024x512 .bf16) (i : S1024x512.Idx) :
    k0_pay1 (F := Ideal) x w i = ∑ s : Fin 1024, (show EReal from x (ix2 (i 0) s)) * (show EReal from w (ix3 0 s (i 1))) := by
  pointwise [k0_pay1]

variable (m : (ℓ : Loc nD τ sig) → Buf (Elt Ideal) ℓ) (c : Dev nD)

abbrev argX : FVec Ideal S4096x1024 .bf16 := m ((c : Thread nD τ).loc main_arg0)
abbrev argY : FVec Ideal S4x1024x512 .bf16 := m ((c : Thread nD τ).loc main_arg1)

theorem idx : ∀ t : Fin cfg0.N, win0_0.index t = ![t.val / 4, 0] ∧ win0_1.index t = ![t.val % 4 / 1, 0, t.val % 4 % 1] ∧ win0_2.index t = ![t.val / 4, t.val % 4] :=
  (by decide +kernel : ∀ t : Fin grid0.N, _)

theorem point_lt (t : Fin cfg0.N) : t.val < 16 := lt_of_lt_of_eq t.isLt (show cfg0.N = 16 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1024 := (y 0).isLt
  have h1 : (y 1).val < 512 := (y 1).isLt
  have e0 : ((((cfg0.win 2).blk t).view.emb y) 0).val = 1024 * (t.val / 4) + (y 0).val := by blk_simp [idx t] <;> omega
  have e1 : ((((cfg0.win 2).blk t).view.emb y) 1).val = 512 * (t.val % 4) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    blk_ext [iblk, V, idx t, e1, h1] <;> omega

end Cert.SbOutIdeal

namespace Cert.SbOutReferenceIdeal

open Cert.SbOutReferenceIdeal.Gen

/-- The reference's result is the same sums. -/
theorem ref_eq (X : FVec Ideal S4096x1024 .bf16) (Y : FVec Ideal S4x1024x512 .bf16) :
    Host.dotGeneral dot_S4096x1024_S1024x2048_S4096x2048_1_0_0_1_n_n none (extf .f32 X bitsLt_bf16_f32) (shapeCast S1024x2048 (transpose S1024x4x512 [1, 0, 2] (extf .f32 Y bitsLt_bf16_f32) transposes_S4x1024x512_S1024x4x512_1_0_2) shapeCasts_S1024x4x512_S1024x2048)
      = Cert.SbOutIdeal.G X Y := by
  funext y
  idx_vars y
  pointwise [Cert.SbOutIdeal.G]

end Cert.SbOutReferenceIdeal

end
-- ==== Proof.Products.DownBack.lean ====
/- The gradient of the down projection's input: the kernel's blocks and the reference are the same sums over the shared axis. -/
module

public import proofs.«01_k».proof.Proof.Gen.DownBackIdeal.Value
public import proofs.«01_k».proof.Proof.Gen.DownBackReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.DownBackIdeal

open Cert.DownBackIdeal.Gen

/-- The sum over `s` of the products of row `y 0` and of row `y 1` of the weights. -/
def G (X : FVec Ideal S4096x2048 .bf16) (Y : FVec Ideal S5632x2048 .bf16) : FVec Ideal S4096x5632 .f32 := fun y =>
  ∑ s : Fin 2048, X (ix2 (y 0) s) * Y (ix2 (y 1) s)

theorem pay_at (x : FVec Ideal S1024x2048 .bf16) (w : FVec Ideal S1408x2048 .bf16) (i : S1024x1408.Idx) :
    k0_pay1 (F := Ideal) x w i = ∑ s : Fin 2048, (show EReal from x (ix2 (i 0) s)) * (show EReal from w (ix2 (i 1) s)) := by
  pointwise [k0_pay1]

variable (m : (ℓ : Loc nD τ sig) → Buf (Elt Ideal) ℓ) (c : Dev nD)

abbrev argX : FVec Ideal S4096x2048 .bf16 := m ((c : Thread nD τ).loc main_arg0)
abbrev argY : FVec Ideal S4x1408x2048 .bf16 := m ((c : Thread nD τ).loc main_arg1)

/-- The four groups of rows, one below the other. -/
abbrev rows : FVec Ideal S5632x2048 .bf16 := shapeCast S5632x2048 (argY m c) shapeCasts_S4x1408x2048_S5632x2048

theorem V_rows : (V m c main_v0 : FVec Ideal S5632x2048 .bf16) = rows m c := rfl

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem point_lt (t : Fin cfg0.N) : t.val < 16 := lt_of_lt_of_eq t.isLt (show cfg0.N = 16 from N_0)

theorem final2 : (dats m 0 c).arrAt 2 cfg0.N = G (argX m c) (rows m c) := by
  refine (dats m 0 c).arrAt_eq_of_covers 2 _ (by decide +kernel) fun t hf y => ?_
  have ht := point_lt t
  have h0 : (y 0).val < 1024 := (y 0).isLt
  have h1 : (y 1).val < 1408 := (y 1).isLt
  have e0 : ((((cfg0.win 2).blk t).view.emb y) 0).val = 1024 * (t.val / 4) + (y 0).val := by blk_simp [idx t] <;> omega
  have e1 : ((((cfg0.win 2).blk t).view.emb y) 1).val = 1408 * (t.val % 4) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    unfold iblk
    refine (congrFun (V_rows m c) _).trans ?_
    blk_ext [idx t, e1, h1]

end Cert.DownBackIdeal

namespace Cert.DownBackReferenceIdeal

open Cert.DownBackReferenceIdeal.Gen

/-- The reference's result is the same sums. -/
theorem ref_eq (X : FVec Ideal S4096x2048 .bf16) (Y : FVec Ideal S4x1408x2048 .bf16) :
    Host.dotGeneral dot_S4096x2048_S5632x2048_S4096x5632_1_1_0_0_n_n none (extf .f32 X bitsLt_bf16_f32) (shapeCast S5632x2048 (extf .f32 Y bitsLt_bf16_f32) shapeCasts_S4x1408x2048_S5632x2048)
      = Cert.DownBackIdeal.G X (shapeCast S5632x2048 Y shapeCasts_S4x1408x2048_S5632x2048) := by
  funext y
  idx_vars y
  pointwise [Cert.DownBackIdeal.G]

end Cert.DownBackReferenceIdeal

end
-- ==== Proof.Products.OutBack.lean ====
/- The gradient of the output projection's input: the kernel's blocks and the reference are the same sums over the shared axis. -/
module

public import proofs.«01_k».proof.Proof.Gen.OutBackIdeal.Value
public import proofs.«01_k».proof.Proof.Gen.OutBackReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.OutBackIdeal

open Cert.OutBackIdeal.Gen

/-- The sum over `s` of the products of row `y 0` and of row `y 1` of the weights. -/
def G (X : FVec Ideal S4096x2048 .bf16) (Y : FVec Ideal S2048x2048 .bf16) : FVec Ideal S4096x2048 .f32 := fun y =>
  ∑ s : Fin 2048, X (ix2 (y 0) s) * Y (ix2 (y 1) s)

theorem pay_at (x : FVec Ideal S1024x2048 .bf16) (w : FVec Ideal S2048x2048 .bf16) (i : S1024x2048.Idx) :
    k0_pay1 (F := Ideal) x w i = ∑ s : Fin 2048, (show EReal from x (ix2 (i 0) s)) * (show EReal from w (ix2 (i 1) s)) := by
  pointwise [k0_pay1]

variable (m : (ℓ : Loc nD τ sig) → Buf (Elt Ideal) ℓ) (c : Dev nD)

abbrev argX : FVec Ideal S4096x2048 .bf16 := m ((c : Thread nD τ).loc main_arg0)
abbrev argY : FVec Ideal S4x512x2048 .bf16 := m ((c : Thread nD τ).loc main_arg1)

/-- The four groups of rows, one below the other. -/
abbrev rows : FVec Ideal S2048x2048 .bf16 := shapeCast S2048x2048 (argY m c) shapeCasts_S4x512x2048_S2048x2048

theorem V_rows : (V m c main_v0 : FVec Ideal S2048x2048 .bf16) = rows m c := rfl

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

theorem point_lt (t : Fin cfg0.N) : t.val < 4 := lt_of_lt_of_eq t.isLt (show cfg0.N = 4 from N_0)

theorem final2 : (dats m 0 c).arrAt 2 cfg0.N = G (argX m c) (rows m c) := by
  refine (dats m 0 c).arrAt_eq_of_covers 2 _ (by decide +kernel) fun t hf y => ?_
  have ht := point_lt t
  have h0 : (y 0).val < 1024 := (y 0).isLt
  have h1 : (y 1).val < 2048 := (y 1).isLt
  have e0 : ((((cfg0.win 2).blk t).view.emb y) 0).val = 1024 * (t.val / 1) + (y 0).val := by blk_simp [idx t] <;> omega
  have e1 : ((((cfg0.win 2).blk t).view.emb y) 1).val = 2048 * (t.val % 1) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    unfold iblk
    refine (congrFun (V_rows m c) _).trans ?_
    blk_ext [idx t, e1, h1]

end Cert.OutBackIdeal

namespace Cert.OutBackReferenceIdeal

open Cert.OutBackReferenceIdeal.Gen

/-- The reference's result is the same sums. -/
theorem ref_eq (X : FVec Ideal S4096x2048 .bf16) (Y : FVec Ideal S4x512x2048 .bf16) :
    Host.dotGeneral dot_S4096x2048_S2048x2048_S4096x2048_1_1_0_0_n_n none (extf .f32 X bitsLt_bf16_f32) (shapeCast S2048x2048 (extf .f32 Y bitsLt_bf16_f32) shapeCasts_S4x512x2048_S2048x2048)
      = Cert.OutBackIdeal.G X (shapeCast S2048x2048 Y shapeCasts_S4x512x2048_S2048x2048) := by
  funext y
  idx_vars y
  pointwise [Cert.OutBackIdeal.G]

end Cert.OutBackReferenceIdeal

end
-- ==== Proof.Products.SbOutBack.lean ====
/- The gradient of the attention branch's output: the kernel's blocks and the reference are the same sums over the shared axis. -/
module

public import proofs.«01_k».proof.Proof.Gen.SbOutBackIdeal.Value
public import proofs.«01_k».proof.Proof.Gen.SbOutBackReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.SbOutBackIdeal

open Cert.SbOutBackIdeal.Gen

/-- The sum over the four column groups, and over `k` in a group, of the products of row `y 0` and of row `y 1` of the weights. -/
def G (X : FVec Ideal S4096x2048 .bf16) (Y : FVec Ideal S4x1024x512 .bf16) : FVec Ideal S4096x1024 .bf16 := fun y =>
  ∑ s : Fin 4, ∑ k : Fin 512, X (ix2 (y 0) ⟨s.val * 512 + k.val, by
    have hs := s.isLt
    have hk := k.isLt
    omega⟩) * Y (ix3 s (y 1) k)

/-- One product of a block's row with a row of one group of the weights. -/
def part (x : FVec Ideal S1024x512 .bf16) (w : FVec Ideal S1x512x512 .bf16) (i : S1024x512.Idx) : EReal :=
  ∑ k : Fin 512, (show EReal from x (ix2 (i 0) k)) * (show EReal from w (ix3 0 (i 1) k))

theorem pay1_at (x : FVec Ideal S1024x512 .bf16) (w : FVec Ideal S1x512x512 .bf16) (x' : FVec Ideal S1024x512 .bf16) (w' : FVec Ideal S1x512x512 .bf16) (i : S1024x512.Idx) :
    k0_pay1 (F := Ideal) x w x' w' i = part x w i + part x' w' i := by
  pointwise [k0_pay1, part]

theorem pay2_at (x : FVec Ideal S1024x512 .bf16) (w : FVec Ideal S1x512x512 .bf16) (x' : FVec Ideal S1024x512 .bf16) (w' : FVec Ideal S1x512x512 .bf16) (i : S1024x512.Idx) :
    k0_pay2 (F := Ideal) x w x' w' i = part x w i + part x' w' i := by
  pointwise [k0_pay2, k0_pay1, part]

theorem pay3_at (x : FVec Ideal S1024x512 .bf16) (w : FVec Ideal S1x512x512 .bf16) (x' : FVec Ideal S1024x512 .bf16) (w' : FVec Ideal S1x512x512 .bf16) (a : FVec Ideal S1024x512 .f32) (i : S1024x512.Idx) :
    k0_pay3 (F := Ideal) x w x' w' a i = a i + (part x w i + part x' w' i) := by
  pointwise [k0_pay3, k0_pay1, part]

theorem pay4_at (a : FVec Ideal S1024x512 .f32) (i : S1024x512.Idx) :
    k0_pay4 (F := Ideal) a i = a i := by
  pointwise [k0_pay4]

variable (m : (ℓ : Loc nD τ sig) → Buf (Elt Ideal) ℓ) (c : Dev nD)

abbrev argX : FVec Ideal S4096x2048 .bf16 := m ((c : Thread nD τ).loc main_arg0)
abbrev argY : FVec Ideal S4x1024x512 .bf16 := m ((c : Thread nD τ).loc main_arg1)

theorem idx : ∀ t : Fin cfg0.N, win0_0.index t = ![t.val / 4, t.val % 2] ∧ win0_1.index t = ![t.val % 2, t.val / 2 % 2, 0] ∧ win0_2.index t = ![t.val / 4, t.val / 2 % 2] :=
  (by decide +kernel : ∀ t : Fin grid0.N, _)

theorem point_lt (t : Fin cfg0.N) : t.val < 16 := lt_of_lt_of_eq t.isLt (show cfg0.N = 16 from N_0)

/-- One group's share of the product. -/
def group (i : S4096x1024.Idx) (g : Fin 4) : EReal :=
  ∑ k : Fin 512, argX m c (ix2 (i 0) ⟨g.val * 512 + k.val, by have hg := g.isLt; have hk := k.isLt; omega⟩) * argY m c (ix3 g (i 1) k)

/-- What a point contracts of a group is the group's share, when the blocks hold the group's entries. -/
theorem part_at (g : Fin 4) (i : S4096x1024.Idx) (y : S1024x512.Idx) (x : FVec Ideal S1024x512 .bf16) (w : FVec Ideal S1x512x512 .bf16)
    (hx : ∀ k : Fin 512, x (ix2 (y 0) k) = argX m c (ix2 (i 0) ⟨g.val * 512 + k.val, by have hg := g.isLt; have hk := k.isLt; omega⟩))
    (hw : ∀ k : Fin 512, w (ix3 0 (y 1) k) = argY m c (ix3 g (i 1) k)) :
    part x w y = group m c i g :=
  Finset.sum_congr rfl fun k _ => Ideal.mul_congr (hx k) (hw k)

/-- A point's load of one group of the left operand's block, whose columns start at `o`. -/
theorem ld_x {e : EltTy} (a : S1024x1024.Idx → Elt Ideal e) (o : ℕ) (inb : ∀ d, (![0, o] : Fin 2 → ℕ) d + (![1024, 512] : Fin 2 → ℕ) d ≤ S1024x1024.size d)
    (r : Fin 1024) (k : Fin 512) (ho : o + 512 ≤ 1024) :
    View.ld (Val := Elt Ideal) (e' := e) a (Rect.unit (s := S1024x1024) ![0, o] ![1024, 512] inb) (ix2 r k) = a (ix2 r ⟨o + k.val, by have hk := k.isLt; omega⟩) :=
  View.ld_unit_apply_of _ _ _ _ _ _ fun d => match d with
    | ⟨0, _⟩ => (Nat.zero_add _).symm
    | ⟨1, _⟩ => rfl

/-- A point's load of the weights' group `o` of the block. -/
theorem ld_w {e : EltTy} (a : S2x512x512.Idx → Elt Ideal e) (o : ℕ) (inb : ∀ d, (![o, 0, 0] : Fin 3 → ℕ) d + (![1, 512, 512] : Fin 3 → ℕ) d ≤ S2x512x512.size d)
    (r : Fin 512) (k : Fin 512) (ho : o < 2) :
    View.ld (Val := Elt Ideal) (e' := e) a (Rect.unit (s := S2x512x512) ![o, 0, 0] ![1, 512, 512] inb) (ix3 0 r k) = a (ix3 ⟨o, ho⟩ r k) :=
  View.ld_unit_apply_of _ _ _ _ _ _ fun d => match d with
    | ⟨0, _⟩ => rfl
    | ⟨1, _⟩ => (Nat.zero_add _).symm
    | ⟨2, _⟩ => (Nat.zero_add _).symm

/-- The four groups, two by two. -/
theorem groups (f : Fin 4 → EReal) : (f 0 + f 1) + (f 2 + f 3) = ∑ s : Fin 4, f s :=
  (add_assoc _ _ _).symm.trans (Fin.sum_univ_four f).symm

theorem final2 : (dats m 0 c).arrAt 2 cfg0.N = G (argX m c) (argY m c) := by
  refine (dats m 0 c).arrAt_eq_of_covers 2 _ (by decide +kernel) fun t hf y => ?_
  have ht := point_lt t
  have hm : t.val % 2 = 1 := (flush0_2 t).mp hf
  have h0 : (y 0).val < 1024 := (y 0).isLt
  have h1 : (y 1).val < 512 := (y 1).isLt
  have e0 : ((((cfg0.win 2).blk t).view.emb y) 0).val = 1024 * (t.val / 4) + (y 0).val := by blk_simp [idx t] <;> omega
  have e1 : ((((cfg0.win 2).blk t).view.emb y) 1).val = 512 * (t.val / 2 % 2) + (y 1).val := by blk_simp [idx t] <;> omega
  blk_simp
  rw [after0_2, outsAt0_B m c t (by omega) hm hm]
  frame_out
  have hlt : t.val - 1 < cfg0.N := Nat.lt_of_le_of_lt (Nat.sub_le _ _) t.isLt
  simp only [read_unread_whole]
  rw [pay4_at, pay3_at, outsAt0_A m c ⟨t.val - 1, hlt⟩ (by show (t.val - 1) % 2 = 0; omega) (by show ¬(t.val - 1) % 2 = 1; omega) (by show ¬(t.val - 1) % 2 = 1; omega)]
  frame_out
  rw [pay2_at]
  generalize hs : (⟨t.val - 1, hlt⟩ : Fin cfg0.N) = s
  have hsv : s.val = t.val - 1 := by rw [← hs]
  clear hs
  show (_ : EReal) = _
  refine ((congrArg₂ (· + ·) (congrArg₂ (· + ·) (part_at m c 0 (((cfg0.win 2).blk t).view.emb y) y _ _ ?_ ?_) (part_at m c 1 (((cfg0.win 2).blk t).view.emb y) y _ _ ?_ ?_))
    (congrArg₂ (· + ·) (part_at m c 2 (((cfg0.win 2).blk t).view.emb y) y _ _ ?_ ?_) (part_at m c 3 (((cfg0.win 2).blk t).view.emb y) y _ _ ?_ ?_))).trans
      (groups (group m c (((cfg0.win 2).blk t).view.emb y))))
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega

end Cert.SbOutBackIdeal

namespace Cert.SbOutBackReferenceIdeal

open Cert.SbOutBackReferenceIdeal.Gen

/-- The reference's result is the same sums. -/
theorem ref_eq (X : FVec Ideal S4096x2048 .bf16) (Y : FVec Ideal S4x1024x512 .bf16) :
    truncf .bf16 (Host.dotGeneral dot_S4096x2048_S1024x2048_S4096x1024_1_1_0_0_n_n none (extf .f32 X bitsLt_bf16_f32) (shapeCast S1024x2048 (transpose S1024x4x512 [1, 0, 2] (extf .f32 Y bitsLt_bf16_f32) transposes_S4x1024x512_S1024x4x512_1_0_2) shapeCasts_S1024x4x512_S1024x2048)) bitsLt_bf16_f32
      = Cert.SbOutBackIdeal.G X Y := by
  funext y
  idx_vars y
  pointwise [Cert.SbOutBackIdeal.G]
  exact (Fin.sum_mul_add_congr fun s k hl => by
    have hk := k.isLt
    exact Ideal.mul_congr rfl (congrArg Y (by idx_ext))).symm

end Cert.SbOutBackReferenceIdeal

end
-- ==== Proof.Products.UpBack.lean ====
/- The gradient of the gate and up projections' input, with the scaled gradient of the residual: the kernel's blocks and the reference are the same sums over the shared axis. -/
module

public import proofs.«01_k».proof.Proof.Gen.UpBackIdeal.Value
public import proofs.«01_k».proof.Proof.Gen.UpBackReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.UpBackIdeal

open Cert.UpBackIdeal.Gen

/-- The sum over the four column groups, and over `k` in a group, of the products of row `y 0` and of row `y 1` of the weights. The scaled third array is added last. -/
def G (X : FVec Ideal S4096x11264 .bf16) (Y : FVec Ideal S4x2048x2816 .bf16) (Z : FVec Ideal S4096x2048 .f32) : FVec Ideal S4096x2048 .f32 := fun y =>
  (∑ s : Fin 4, ∑ k : Fin 2816, X (ix2 (y 0) ⟨s.val * 2816 + k.val, by
    have hs := s.isLt
    have hk := k.isLt
    omega⟩) * Y (ix3 s (y 1) k)) + (Scalar.ofBits .f32 0x3FD744FD#32 : Ideal .f32) * Z y

/-- One product of a block's row with a row of one group of the weights. -/
def part (x : FVec Ideal S1024x2816 .bf16) (w : FVec Ideal S1x512x2816 .bf16) (i : S1024x512.Idx) : EReal :=
  ∑ k : Fin 2816, (show EReal from x (ix2 (i 0) k)) * (show EReal from w (ix3 0 (i 1) k))

theorem pay1_at (x : FVec Ideal S1024x2816 .bf16) (w : FVec Ideal S1x512x2816 .bf16) (x' : FVec Ideal S1024x2816 .bf16) (w' : FVec Ideal S1x512x2816 .bf16) (i : S1024x512.Idx) :
    k0_pay1 (F := Ideal) x w x' w' i = part x w i + part x' w' i := by
  pointwise [k0_pay1, part]

theorem pay2_at (x : FVec Ideal S1024x2816 .bf16) (w : FVec Ideal S1x512x2816 .bf16) (x' : FVec Ideal S1024x2816 .bf16) (w' : FVec Ideal S1x512x2816 .bf16) (i : S1024x512.Idx) :
    k0_pay2 (F := Ideal) x w x' w' i = part x w i + part x' w' i := by
  pointwise [k0_pay2, k0_pay1, part]

theorem pay3_at (x : FVec Ideal S1024x2816 .bf16) (w : FVec Ideal S1x512x2816 .bf16) (x' : FVec Ideal S1024x2816 .bf16) (w' : FVec Ideal S1x512x2816 .bf16) (a : FVec Ideal S1024x512 .f32) (i : S1024x512.Idx) :
    k0_pay3 (F := Ideal) x w x' w' a i = a i + (part x w i + part x' w' i) := by
  pointwise [k0_pay3, k0_pay1, part]

theorem pay4_at (a z : FVec Ideal S1024x512 .f32) (i : S1024x512.Idx) :
    k0_pay4 (F := Ideal) a z i = a i + (Scalar.ofBits .f32 0x3FD744FD#32 : Ideal .f32) * z i := by
  pointwise [k0_pay4]

variable (m : (ℓ : Loc nD τ sig) → Buf (Elt Ideal) ℓ) (c : Dev nD)

abbrev argX : FVec Ideal S4096x11264 .bf16 := m ((c : Thread nD τ).loc main_arg0)
abbrev argY : FVec Ideal S4x2048x2816 .bf16 := m ((c : Thread nD τ).loc main_arg1)
abbrev argZ : FVec Ideal S4096x2048 .f32 := m ((c : Thread nD τ).loc main_arg2)

theorem idx : ∀ t : Fin cfg0.N, win0_0.index t = ![t.val / 8, t.val % 2] ∧ win0_1.index t = ![t.val % 2, t.val / 2 % 4, 0] ∧ win0_2.index t = ![t.val / 8, t.val / 2 % 4] ∧ win0_3.index t = ![t.val / 8, t.val / 2 % 4] :=
  (by decide +kernel : ∀ t : Fin grid0.N, _)

theorem point_lt (t : Fin cfg0.N) : t.val < 32 := lt_of_lt_of_eq t.isLt (show cfg0.N = 32 from N_0)

/-- One group's share of the product. -/
def group (i : S4096x2048.Idx) (g : Fin 4) : EReal :=
  ∑ k : Fin 2816, argX m c (ix2 (i 0) ⟨g.val * 2816 + k.val, by have hg := g.isLt; have hk := k.isLt; omega⟩) * argY m c (ix3 g (i 1) k)

/-- What a point contracts of a group is the group's share, when the blocks hold the group's entries. -/
theorem part_at (g : Fin 4) (i : S4096x2048.Idx) (y : S1024x512.Idx) (x : FVec Ideal S1024x2816 .bf16) (w : FVec Ideal S1x512x2816 .bf16)
    (hx : ∀ k : Fin 2816, x (ix2 (y 0) k) = argX m c (ix2 (i 0) ⟨g.val * 2816 + k.val, by have hg := g.isLt; have hk := k.isLt; omega⟩))
    (hw : ∀ k : Fin 2816, w (ix3 0 (y 1) k) = argY m c (ix3 g (i 1) k)) :
    part x w y = group m c i g :=
  Finset.sum_congr rfl fun k _ => Ideal.mul_congr (hx k) (hw k)

/-- A point's load of one group of the left operand's block, whose columns start at `o`. -/
theorem ld_x {e : EltTy} (a : S1024x5632.Idx → Elt Ideal e) (o : ℕ) (inb : ∀ d, (![0, o] : Fin 2 → ℕ) d + (![1024, 2816] : Fin 2 → ℕ) d ≤ S1024x5632.size d)
    (r : Fin 1024) (k : Fin 2816) (ho : o + 2816 ≤ 5632) :
    View.ld (Val := Elt Ideal) (e' := e) a (Rect.unit (s := S1024x5632) ![0, o] ![1024, 2816] inb) (ix2 r k) = a (ix2 r ⟨o + k.val, by have hk := k.isLt; omega⟩) :=
  View.ld_unit_apply_of _ _ _ _ _ _ fun d => match d with
    | ⟨0, _⟩ => (Nat.zero_add _).symm
    | ⟨1, _⟩ => rfl

/-- A point's load of the weights' group `o` of the block. -/
theorem ld_w {e : EltTy} (a : S2x512x2816.Idx → Elt Ideal e) (o : ℕ) (inb : ∀ d, (![o, 0, 0] : Fin 3 → ℕ) d + (![1, 512, 2816] : Fin 3 → ℕ) d ≤ S2x512x2816.size d)
    (r : Fin 512) (k : Fin 2816) (ho : o < 2) :
    View.ld (Val := Elt Ideal) (e' := e) a (Rect.unit (s := S2x512x2816) ![o, 0, 0] ![1, 512, 2816] inb) (ix3 0 r k) = a (ix3 ⟨o, ho⟩ r k) :=
  View.ld_unit_apply_of _ _ _ _ _ _ fun d => match d with
    | ⟨0, _⟩ => rfl
    | ⟨1, _⟩ => (Nat.zero_add _).symm
    | ⟨2, _⟩ => (Nat.zero_add _).symm

/-- The four groups, two by two. -/
theorem groups (f : Fin 4 → EReal) : (f 0 + f 1) + (f 2 + f 3) = ∑ s : Fin 4, f s :=
  (add_assoc _ _ _).symm.trans (Fin.sum_univ_four f).symm

theorem final3 : (dats m 0 c).arrAt 3 cfg0.N = G (argX m c) (argY m c) (argZ m c) := by
  refine (dats m 0 c).arrAt_eq_of_covers 3 _ (by decide +kernel) fun t hf y => ?_
  have ht := point_lt t
  have hm : t.val % 2 = 1 := (flush0_3 t).mp hf
  have h0 : (y 0).val < 1024 := (y 0).isLt
  have h1 : (y 1).val < 512 := (y 1).isLt
  have e0 : ((((cfg0.win 3).blk t).view.emb y) 0).val = 1024 * (t.val / 8) + (y 0).val := by blk_simp [idx t] <;> omega
  have e1 : ((((cfg0.win 3).blk t).view.emb y) 1).val = 512 * (t.val / 2 % 4) + (y 1).val := by blk_simp [idx t] <;> omega
  blk_simp
  rw [after0_3, outsAt0_B m c t (by omega) hm hm]
  frame_out
  have hlt : t.val - 1 < cfg0.N := Nat.lt_of_le_of_lt (Nat.sub_le _ _) t.isLt
  simp only [read_unread_whole]
  rw [pay4_at, pay3_at, outsAt0_A m c ⟨t.val - 1, hlt⟩ (by show (t.val - 1) % 2 = 0; omega) (by show ¬(t.val - 1) % 2 = 1; omega) (by show ¬(t.val - 1) % 2 = 1; omega)]
  frame_out
  rw [pay2_at]
  generalize hs : (⟨t.val - 1, hlt⟩ : Fin cfg0.N) = s
  have hsv : s.val = t.val - 1 := by rw [← hs]
  clear hs
  refine (congrArg₂ (· + ·) ((congrArg₂ (· + ·) (congrArg₂ (· + ·) (part_at m c 0 (((cfg0.win 3).blk t).view.emb y) y _ _ ?_ ?_) (part_at m c 1 (((cfg0.win 3).blk t).view.emb y) y _ _ ?_ ?_))
    (congrArg₂ (· + ·) (part_at m c 2 (((cfg0.win 3).blk t).view.emb y) y _ _ ?_ ?_) (part_at m c 3 (((cfg0.win 3).blk t).view.emb y) y _ _ ?_ ?_))).trans
      (groups (group m c (((cfg0.win 3).blk t).view.emb y)))) (congrArg (_ * ·) ?_))
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega
  · blk_ext [iblk, V, idx t, e0, e1] <;> omega

end Cert.UpBackIdeal

namespace Cert.UpBackReferenceIdeal

open Cert.UpBackReferenceIdeal.Gen

/-- The reference's result is the same sums. -/
theorem ref_eq (X : FVec Ideal S4096x11264 .bf16) (Y : FVec Ideal S4x2048x2816 .bf16) (Z : FVec Ideal S4096x2048 .f32) :
    addf (mulf (broadcastInDim S4096x2048 ![] bcast_S_S4096x2048 (constant S_ .f32 0x3FD744FD#32)) Z) (Host.dotGeneral dot_S4096x11264_S2048x11264_S4096x2048_1_1_0_0_n_n none (extf .f32 X bitsLt_bf16_f32) (shapeCast S2048x11264 (transpose S2048x4x2816 [1, 0, 2] (extf .f32 Y bitsLt_bf16_f32) transposes_S4x2048x2816_S2048x4x2816_1_0_2) shapeCasts_S2048x4x2816_S2048x11264))
      = Cert.UpBackIdeal.G X Y Z := by
  funext y
  idx_vars y
  pointwise [Cert.UpBackIdeal.G]
  refine (add_comm _ _).trans (congrArg₂ (· + ·) ?_ rfl)
  exact (Fin.sum_mul_add_congr fun s k hl => by
    have hk := k.isLt
    exact Ideal.mul_congr rfl (congrArg Y (by idx_ext))).symm

end Cert.UpBackReferenceIdeal

end
-- ==== Proof.Products.InBack.lean ====
/- The gradient of the input projection's input, with the scaled gradient of the residual: the kernel's blocks and the reference are the same sums over the shared axis. -/
module

public import proofs.«01_k».proof.Proof.Gen.InBackIdeal.Value
public import proofs.«01_k».proof.Proof.Gen.InBackReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.InBackIdeal

open Cert.InBackIdeal.Gen

/-- The sum over the four column groups, and over `k` in a group, of the products of row `y 0` and of row `y 1` of the weights. The scaled third array is added last. -/
def G (X : FVec Ideal S4096x10240 .bf16) (Y : FVec Ideal S4x2048x2560 .bf16) (Z : FVec Ideal S4096x2048 .f32) : FVec Ideal S4096x2048 .f32 := fun y =>
  (∑ s : Fin 4, ∑ k : Fin 2560, X (ix2 (y 0) ⟨s.val * 2560 + k.val, by
    have hs := s.isLt
    have hk := k.isLt
    omega⟩) * Y (ix3 s (y 1) k)) + (Scalar.ofBits .f32 0x3FD744FD#32 : Ideal .f32) * Z y

/-- One product of a block's row with a row of one group of the weights. -/
def part (x : FVec Ideal S1024x2560 .bf16) (w : FVec Ideal S1x512x2560 .bf16) (i : S1024x512.Idx) : EReal :=
  ∑ k : Fin 2560, (show EReal from x (ix2 (i 0) k)) * (show EReal from w (ix3 0 (i 1) k))

theorem pay1_at (x : FVec Ideal S1024x2560 .bf16) (w : FVec Ideal S1x512x2560 .bf16) (x' : FVec Ideal S1024x2560 .bf16) (w' : FVec Ideal S1x512x2560 .bf16) (i : S1024x512.Idx) :
    k0_pay1 (F := Ideal) x w x' w' i = part x w i + part x' w' i := by
  pointwise [k0_pay1, part]

theorem pay2_at (x : FVec Ideal S1024x2560 .bf16) (w : FVec Ideal S1x512x2560 .bf16) (x' : FVec Ideal S1024x2560 .bf16) (w' : FVec Ideal S1x512x2560 .bf16) (i : S1024x512.Idx) :
    k0_pay2 (F := Ideal) x w x' w' i = part x w i + part x' w' i := by
  pointwise [k0_pay2, k0_pay1, part]

theorem pay3_at (x : FVec Ideal S1024x2560 .bf16) (w : FVec Ideal S1x512x2560 .bf16) (x' : FVec Ideal S1024x2560 .bf16) (w' : FVec Ideal S1x512x2560 .bf16) (a : FVec Ideal S1024x512 .f32) (i : S1024x512.Idx) :
    k0_pay3 (F := Ideal) x w x' w' a i = a i + (part x w i + part x' w' i) := by
  pointwise [k0_pay3, k0_pay1, part]

theorem pay4_at (a z : FVec Ideal S1024x512 .f32) (i : S1024x512.Idx) :
    k0_pay4 (F := Ideal) a z i = a i + (Scalar.ofBits .f32 0x3FD744FD#32 : Ideal .f32) * z i := by
  pointwise [k0_pay4]

variable (m : (ℓ : Loc nD τ sig) → Buf (Elt Ideal) ℓ) (c : Dev nD)

abbrev argX : FVec Ideal S4096x10240 .bf16 := m ((c : Thread nD τ).loc main_arg0)
abbrev argY : FVec Ideal S4x2048x2560 .bf16 := m ((c : Thread nD τ).loc main_arg1)
abbrev argZ : FVec Ideal S4096x2048 .f32 := m ((c : Thread nD τ).loc main_arg2)

theorem idx : ∀ t : Fin cfg0.N, win0_0.index t = ![t.val / 8, t.val % 2] ∧ win0_1.index t = ![t.val % 2, t.val / 2 % 4, 0] ∧ win0_2.index t = ![t.val / 8, t.val / 2 % 4] ∧ win0_3.index t = ![t.val / 8, t.val / 2 % 4] :=
  (by decide +kernel : ∀ t : Fin grid0.N, _)

theorem point_lt (t : Fin cfg0.N) : t.val < 32 := lt_of_lt_of_eq t.isLt (show cfg0.N = 32 from N_0)

/-- One group's share of the product. -/
def group (i : S4096x2048.Idx) (g : Fin 4) : EReal :=
  ∑ k : Fin 2560, argX m c (ix2 (i 0) ⟨g.val * 2560 + k.val, by have hg := g.isLt; have hk := k.isLt; omega⟩) * argY m c (ix3 g (i 1) k)

/-- What a point contracts of a group is the group's share, when the blocks hold the group's entries. -/
theorem part_at (g : Fin 4) (i : S4096x2048.Idx) (y : S1024x512.Idx) (x : FVec Ideal S1024x2560 .bf16) (w : FVec Ideal S1x512x2560 .bf16)
    (hx : ∀ k : Fin 2560, x (ix2 (y 0) k) = argX m c (ix2 (i 0) ⟨g.val * 2560 + k.val, by have hg := g.isLt; have hk := k.isLt; omega⟩))
    (hw : ∀ k : Fin 2560, w (ix3 0 (y 1) k) = argY m c (ix3 g (i 1) k)) :
    part x w y = group m c i g :=
  Finset.sum_congr rfl fun k _ => Ideal.mul_congr (hx k) (hw k)

/-- A point's load of one group of the left operand's block, whose columns start at `o`. -/
theorem ld_x {e : EltTy} (a : S1024x5120.Idx → Elt Ideal e) (o : ℕ) (inb : ∀ d, (![0, o] : Fin 2 → ℕ) d + (![1024, 2560] : Fin 2 → ℕ) d ≤ S1024x5120.size d)
    (r : Fin 1024) (k : Fin 2560) (ho : o + 2560 ≤ 5120) :
    View.ld (Val := Elt Ideal) (e' := e) a (Rect.unit (s := S1024x5120) ![0, o] ![1024, 2560] inb) (ix2 r k) = a (ix2 r ⟨o + k.val, by have hk := k.isLt; omega⟩) :=
  View.ld_unit_apply_of _ _ _ _ _ _ fun d => match d with
    | ⟨0, _⟩ => (Nat.zero_add _).symm
    | ⟨1, _⟩ => rfl

/-- A point's load of the weights' group `o` of the block. -/
theorem ld_w {e : EltTy} (a : S2x512x2560.Idx → Elt Ideal e) (o : ℕ) (inb : ∀ d, (![o, 0, 0] : Fin 3 → ℕ) d + (![1, 512, 2560] : Fin 3 → ℕ) d ≤ S2x512x2560.size d)
    (r : Fin 512) (k : Fin 2560) (ho : o < 2) :
    View.ld (Val := Elt Ideal) (e' := e) a (Rect.unit (s := S2x512x2560) ![o, 0, 0] ![1, 512, 2560] inb) (ix3 0 r k) = a (ix3 ⟨o, ho⟩ r k) :=
  View.ld_unit_apply_of _ _ _ _ _ _ fun d => match d with
    | ⟨0, _⟩ => rfl
    | ⟨1, _⟩ => (Nat.zero_add _).symm
    | ⟨2, _⟩ => (Nat.zero_add _).symm

/-- The four groups, two by two. -/
theorem groups (f : Fin 4 → EReal) : (f 0 + f 1) + (f 2 + f 3) = ∑ s : Fin 4, f s :=
  (add_assoc _ _ _).symm.trans (Fin.sum_univ_four f).symm

theorem final3 : (dats m 0 c).arrAt 3 cfg0.N = G (argX m c) (argY m c) (argZ m c) := by
  refine (dats m 0 c).arrAt_eq_of_covers 3 _ (by decide +kernel) fun t hf y => ?_
  have ht := point_lt t
  have hm : t.val % 2 = 1 := (flush0_3 t).mp hf
  have h0 : (y 0).val < 1024 := (y 0).isLt
  have h1 : (y 1).val < 512 := (y 1).isLt
  have e0 : ((((cfg0.win 3).blk t).view.emb y) 0).val = 1024 * (t.val / 8) + (y 0).val := by blk_simp [idx t] <;> omega
  have e1 : ((((cfg0.win 3).blk t).view.emb y) 1).val = 512 * (t.val / 2 % 4) + (y 1).val := by blk_simp [idx t] <;> omega
  blk_simp
  rw [after0_3, outsAt0_B m c t (by omega) hm hm]
  frame_out
  have hlt : t.val - 1 < cfg0.N := Nat.lt_of_le_of_lt (Nat.sub_le _ _) t.isLt
  simp only [read_unread_whole]
  rw [pay4_at, pay3_at, outsAt0_A m c ⟨t.val - 1, hlt⟩ (by show (t.val - 1) % 2 = 0; omega) (by show ¬(t.val - 1) % 2 = 1; omega) (by show ¬(t.val - 1) % 2 = 1; omega)]
  frame_out
  rw [pay2_at]
  generalize hs : (⟨t.val - 1, hlt⟩ : Fin cfg0.N) = s
  have hsv : s.val = t.val - 1 := by rw [← hs]
  clear hs
  refine (congrArg₂ (· + ·) ((congrArg₂ (· + ·) (congrArg₂ (· + ·) (part_at m c 0 (((cfg0.win 3).blk t).view.emb y) y _ _ ?_ ?_) (part_at m c 1 (((cfg0.win 3).blk t).view.emb y) y _ _ ?_ ?_))
    (congrArg₂ (· + ·) (part_at m c 2 (((cfg0.win 3).blk t).view.emb y) y _ _ ?_ ?_) (part_at m c 3 (((cfg0.win 3).blk t).view.emb y) y _ _ ?_ ?_))).trans
      (groups (group m c (((cfg0.win 3).blk t).view.emb y)))) (congrArg (_ * ·) ?_))
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega
  · blk_ext [iblk, V, idx t, e0, e1] <;> omega

end Cert.InBackIdeal

namespace Cert.InBackReferenceIdeal

open Cert.InBackReferenceIdeal.Gen

/-- The reference's result is the same sums. -/
theorem ref_eq (X : FVec Ideal S4096x10240 .bf16) (Y : FVec Ideal S4x2048x2560 .bf16) (Z : FVec Ideal S4096x2048 .f32) :
    addf (mulf (broadcastInDim S4096x2048 ![] bcast_S_S4096x2048 (constant S_ .f32 0x3FD744FD#32)) Z) (Host.dotGeneral dot_S4096x10240_S2048x10240_S4096x2048_1_1_0_0_n_n none (extf .f32 X bitsLt_bf16_f32) (shapeCast S2048x10240 (transpose S2048x4x2560 [1, 0, 2] (extf .f32 Y bitsLt_bf16_f32) transposes_S4x2048x2560_S2048x4x2560_1_0_2) shapeCasts_S2048x4x2560_S2048x10240))
      = Cert.InBackIdeal.G X Y Z := by
  funext y
  idx_vars y
  pointwise [Cert.InBackIdeal.G]
  refine (add_comm _ _).trans (congrArg₂ (· + ·) ?_ rfl)
  exact (Fin.sum_mul_add_congr fun s k hl => by
    have hk := k.isLt
    exact Ideal.mul_congr rfl (congrArg Y (by idx_ext))).symm

end Cert.InBackReferenceIdeal

end
-- ==== Proof.Products.GluIn.lean ====
/- The projection of the state-space branch's gate: the kernel's blocks and the reference are the same sums over the shared axis. -/
module

public import proofs.«01_k».proof.Proof.Gen.GluInIdeal.Value
public import proofs.«01_k».proof.Proof.Gen.GluInReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.GluInIdeal

open Cert.GluInIdeal.Gen

/-- The sum over `s` of the products of row `y 0` and of column `y 1` of the weights, whose columns lie in four groups of 256. -/
def G (X : FVec Ideal S4096x512 .bf16) (Y : FVec Ideal S4x512x256 .bf16) : FVec Ideal S4096x1024 .f32 := fun y =>
  ∑ s : Fin 512, X (ix2 (y 0) s) * Y (ix3 ⟨(y 1).val / 256, by
    have h1 : (y 1).val < 1024 := (y 1).isLt
    omega⟩ s ⟨(y 1).val % 256, Nat.mod_lt _ (by decide)⟩)

theorem pay_at (x : FVec Ideal S1024x512 .bf16) (w : FVec Ideal S1x512x256 .bf16) (i : S1024x256.Idx) :
    k0_pay1 (F := Ideal) x w i = ∑ s : Fin 512, (show EReal from x (ix2 (i 0) s)) * (show EReal from w (ix3 0 s (i 1))) := by
  pointwise [k0_pay1]

variable (m : (ℓ : Loc nD τ sig) → Buf (Elt Ideal) ℓ) (c : Dev nD)

abbrev argX : FVec Ideal S4096x512 .bf16 := m ((c : Thread nD τ).loc main_arg0)
abbrev argY : FVec Ideal S4x512x256 .bf16 := m ((c : Thread nD τ).loc main_arg1)

theorem idx : ∀ t : Fin cfg0.N, win0_0.index t = ![t.val / 4, 0] ∧ win0_1.index t = ![t.val % 4 / 1, 0, t.val % 4 % 1] ∧ win0_2.index t = ![t.val / 4, t.val % 4] :=
  (by decide +kernel : ∀ t : Fin grid0.N, _)

theorem point_lt (t : Fin cfg0.N) : t.val < 16 := lt_of_lt_of_eq t.isLt (show cfg0.N = 16 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1024 := (y 0).isLt
  have h1 : (y 1).val < 256 := (y 1).isLt
  have e0 : ((((cfg0.win 2).blk t).view.emb y) 0).val = 1024 * (t.val / 4) + (y 0).val := by blk_simp [idx t] <;> omega
  have e1 : ((((cfg0.win 2).blk t).view.emb y) 1).val = 256 * (t.val % 4) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    blk_ext [iblk, V, idx t, e1, h1] <;> omega

end Cert.GluInIdeal

namespace Cert.GluInReferenceIdeal

open Cert.GluInReferenceIdeal.Gen

/-- The reference's result is the same sums. -/
theorem ref_eq (X : FVec Ideal S4096x512 .bf16) (Y : FVec Ideal S4x512x256 .bf16) :
    Host.dotGeneral dot_S4096x512_S512x1024_S4096x1024_1_0_0_1_n_n none (extf .f32 X bitsLt_bf16_f32) (shapeCast S512x1024 (transpose S512x4x256 [1, 0, 2] (extf .f32 Y bitsLt_bf16_f32) transposes_S4x512x256_S512x4x256_1_0_2) shapeCasts_S512x4x256_S512x1024)
      = Cert.GluInIdeal.G X Y := by
  funext y
  idx_vars y
  pointwise [Cert.GluInIdeal.G]

end Cert.GluInReferenceIdeal

end
-- ==== Proof.Products.SsmOut.lean ====
/- The state-space branch's output projection: the kernel's blocks and the reference are the same sums over the shared axis. -/
module

public import proofs.«01_k».proof.Proof.Gen.SsmOutIdeal.Value
public import proofs.«01_k».proof.Proof.Gen.SsmOutReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SsmOutIdeal

open Cert.SsmOutIdeal.Gen

/-- The sum over `s` of the products of row `y 0` and of column `y 1` of the weights, whose columns lie in four groups of 512. -/
def G (X : FVec Ideal S4096x512 .bf16) (Y : FVec Ideal S4x512x512 .bf16) : FVec Ideal S4096x2048 .f32 := fun y =>
  ∑ s : Fin 512, X (ix2 (y 0) s) * Y (ix3 ⟨(y 1).val / 512, by
    have h1 : (y 1).val < 2048 := (y 1).isLt
    omega⟩ s ⟨(y 1).val % 512, Nat.mod_lt _ (by decide)⟩)

theorem pay_at (x : FVec Ideal S1024x512 .bf16) (w : FVec Ideal S1x512x512 .bf16) (i : S1024x512.Idx) :
    k0_pay1 (F := Ideal) x w i = ∑ s : Fin 512, (show EReal from x (ix2 (i 0) s)) * (show EReal from w (ix3 0 s (i 1))) := by
  pointwise [k0_pay1]

variable (m : (ℓ : Loc nD τ sig) → Buf (Elt Ideal) ℓ) (c : Dev nD)

abbrev argX : FVec Ideal S4096x512 .bf16 := m ((c : Thread nD τ).loc main_arg0)
abbrev argY : FVec Ideal S4x512x512 .bf16 := m ((c : Thread nD τ).loc main_arg1)

theorem idx : ∀ t : Fin cfg0.N, win0_0.index t = ![t.val / 4, 0] ∧ win0_1.index t = ![t.val % 4 / 1, 0, t.val % 4 % 1] ∧ win0_2.index t = ![t.val / 4, t.val % 4] :=
  (by decide +kernel : ∀ t : Fin grid0.N, _)

theorem point_lt (t : Fin cfg0.N) : t.val < 16 := lt_of_lt_of_eq t.isLt (show cfg0.N = 16 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1024 := (y 0).isLt
  have h1 : (y 1).val < 512 := (y 1).isLt
  have e0 : ((((cfg0.win 2).blk t).view.emb y) 0).val = 1024 * (t.val / 4) + (y 0).val := by blk_simp [idx t] <;> omega
  have e1 : ((((cfg0.win 2).blk t).view.emb y) 1).val = 512 * (t.val % 4) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    blk_ext [iblk, V, idx t, e1, h1] <;> omega

end Cert.SsmOutIdeal

namespace Cert.SsmOutReferenceIdeal

open Cert.SsmOutReferenceIdeal.Gen

/-- The reference's result is the same sums. -/
theorem ref_eq (X : FVec Ideal S4096x512 .bf16) (Y : FVec Ideal S4x512x512 .bf16) :
    Host.dotGeneral dot_S4096x512_S512x2048_S4096x2048_1_0_0_1_n_n none (extf .f32 X bitsLt_bf16_f32) (shapeCast S512x2048 (transpose S512x4x512 [1, 0, 2] (extf .f32 Y bitsLt_bf16_f32) transposes_S4x512x512_S512x4x512_1_0_2) shapeCasts_S512x4x512_S512x2048)
      = Cert.SsmOutIdeal.G X Y := by
  funext y
  idx_vars y
  pointwise [Cert.SsmOutIdeal.G]

end Cert.SsmOutReferenceIdeal

end
-- ==== Proof.Products.MemKv.lean ====
/- The memory's keys and values: the kernel's blocks and the reference are the same sums over the shared axis. -/
module

public import proofs.«01_k».proof.Proof.Gen.MemKvIdeal.Value
public import proofs.«01_k».proof.Proof.Gen.MemKvReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MemKvIdeal

open Cert.MemKvIdeal.Gen

/-- The sum over `s` of the products of row `y 0` and of column `y 1` of the weights. -/
def G (X : FVec Ideal S256x2048 .f32) (Y : FVec Ideal S2048x1024 .bf16) : FVec Ideal S256x1024 .f32 := fun y =>
  ∑ s : Fin 2048, X (ix2 (y 0) s) * Y (ix2 s (y 1))

theorem pay_at (x : FVec Ideal S256x2048 .f32) (w : FVec Ideal S2048x1024 .bf16) (i : S256x1024.Idx) :
    k0_pay1 (F := Ideal) x w i = ∑ s : Fin 2048, (show EReal from x (ix2 (i 0) s)) * (show EReal from w (ix2 s (i 1))) := by
  pointwise [k0_pay1]

variable (m : (ℓ : Loc nD τ sig) → Buf (Elt Ideal) ℓ) (c : Dev nD)

abbrev argX : FVec Ideal S256x2048 .f32 := m ((c : Thread nD τ).loc main_arg0)
abbrev argY : FVec Ideal S4x512x1024 .bf16 := m ((c : Thread nD τ).loc main_arg1)

/-- The four groups of rows, one below the other. -/
abbrev rows : FVec Ideal S2048x1024 .bf16 := shapeCast S2048x1024 (argY m c) shapeCasts_S4x512x1024_S2048x1024

theorem V_rows : (V m c main_v0 : FVec Ideal S2048x1024 .bf16) = rows m c := rfl

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem point_lt (t : Fin cfg0.N) : t.val < 1 := lt_of_lt_of_eq t.isLt (show cfg0.N = 1 from N_0)

theorem final2 : (dats m 0 c).arrAt 2 cfg0.N = G (argX m c) (rows m c) := by
  refine (dats m 0 c).arrAt_eq_of_covers 2 _ (by decide +kernel) fun t hf y => ?_
  have ht := point_lt t
  have h0 : (y 0).val < 256 := (y 0).isLt
  have h1 : (y 1).val < 1024 := (y 1).isLt
  have e0 : ((((cfg0.win 2).blk t).view.emb y) 0).val = 256 * (t.val / 1) + (y 0).val := by blk_simp [idx t] <;> omega
  have e1 : ((((cfg0.win 2).blk t).view.emb y) 1).val = 1024 * (t.val % 1) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    unfold iblk
    refine (congrFun (V_rows m c) _).trans ?_
    blk_ext [idx t, e1, h1]

end Cert.MemKvIdeal

namespace Cert.MemKvReferenceIdeal

open Cert.MemKvReferenceIdeal.Gen

/-- The reference's result is the same sums. -/
theorem ref_eq (X : FVec Ideal S256x2048 .f32) (Y : FVec Ideal S4x512x1024 .bf16) :
    Host.dotGeneral dot_S256x2048_S2048x1024_S256x1024_1_0_0_1_n_n none X (shapeCast S2048x1024 (extf .f32 Y bitsLt_bf16_f32) shapeCasts_S4x512x1024_S2048x1024)
      = Cert.MemKvIdeal.G X (shapeCast S2048x1024 Y shapeCasts_S4x512x1024_S2048x1024) := by
  funext y
  idx_vars y
  pointwise [Cert.MemKvIdeal.G]

end Cert.MemKvReferenceIdeal

end
-- ==== Proof.Products.SsmOutBack.lean ====
/- The gradient of the state-space branch's gated output: the kernel's blocks and the reference are the same sums over the shared axis. -/
module

public import proofs.«01_k».proof.Proof.Gen.SsmOutBackIdeal.Value
public import proofs.«01_k».proof.Proof.Gen.SsmOutBackReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.SsmOutBackIdeal

open Cert.SsmOutBackIdeal.Gen

/-- The sum over the four column groups, and over `k` in a group, of the products of row `y 0` and of row `y 1` of the weights. -/
def G (X : FVec Ideal S4096x2048 .bf16) (Y : FVec Ideal S4x512x512 .bf16) : FVec Ideal S4096x512 .f32 := fun y =>
  ∑ s : Fin 4, ∑ k : Fin 512, X (ix2 (y 0) ⟨s.val * 512 + k.val, by
    have hs := s.isLt
    have hk := k.isLt
    omega⟩) * Y (ix3 s (y 1) k)

/-- One product of a block's row with a row of one group of the weights. -/
def part (x : FVec Ideal S1024x512 .bf16) (w : FVec Ideal S1x512x512 .bf16) (i : S1024x512.Idx) : EReal :=
  ∑ k : Fin 512, (show EReal from x (ix2 (i 0) k)) * (show EReal from w (ix3 0 (i 1) k))

theorem pay1_at (x : FVec Ideal S1024x512 .bf16) (w : FVec Ideal S1x512x512 .bf16) (x' : FVec Ideal S1024x512 .bf16) (w' : FVec Ideal S1x512x512 .bf16) (i : S1024x512.Idx) :
    k0_pay1 (F := Ideal) x w x' w' i = part x w i + part x' w' i := by
  pointwise [k0_pay1, part]

theorem pay2_at (x : FVec Ideal S1024x512 .bf16) (w : FVec Ideal S1x512x512 .bf16) (x' : FVec Ideal S1024x512 .bf16) (w' : FVec Ideal S1x512x512 .bf16) (i : S1024x512.Idx) :
    k0_pay2 (F := Ideal) x w x' w' i = part x w i + part x' w' i := by
  pointwise [k0_pay2, k0_pay1, part]

theorem pay3_at (x : FVec Ideal S1024x512 .bf16) (w : FVec Ideal S1x512x512 .bf16) (x' : FVec Ideal S1024x512 .bf16) (w' : FVec Ideal S1x512x512 .bf16) (a : FVec Ideal S1024x512 .f32) (i : S1024x512.Idx) :
    k0_pay3 (F := Ideal) x w x' w' a i = a i + (part x w i + part x' w' i) := by
  pointwise [k0_pay3, k0_pay1, part]

variable (m : (ℓ : Loc nD τ sig) → Buf (Elt Ideal) ℓ) (c : Dev nD)

abbrev argX : FVec Ideal S4096x2048 .bf16 := m ((c : Thread nD τ).loc main_arg0)
abbrev argY : FVec Ideal S4x512x512 .bf16 := m ((c : Thread nD τ).loc main_arg1)

theorem idx : ∀ t : Fin cfg0.N, win0_0.index t = ![t.val / 2, t.val % 2] ∧ win0_1.index t = ![t.val % 2, t.val / 2 % 1, 0] ∧ win0_2.index t = ![t.val / 2, t.val / 2 % 1] :=
  (by decide +kernel : ∀ t : Fin grid0.N, _)

theorem point_lt (t : Fin cfg0.N) : t.val < 8 := lt_of_lt_of_eq t.isLt (show cfg0.N = 8 from N_0)

/-- One group's share of the product. -/
def group (i : S4096x512.Idx) (g : Fin 4) : EReal :=
  ∑ k : Fin 512, argX m c (ix2 (i 0) ⟨g.val * 512 + k.val, by have hg := g.isLt; have hk := k.isLt; omega⟩) * argY m c (ix3 g (i 1) k)

/-- What a point contracts of a group is the group's share, when the blocks hold the group's entries. -/
theorem part_at (g : Fin 4) (i : S4096x512.Idx) (y : S1024x512.Idx) (x : FVec Ideal S1024x512 .bf16) (w : FVec Ideal S1x512x512 .bf16)
    (hx : ∀ k : Fin 512, x (ix2 (y 0) k) = argX m c (ix2 (i 0) ⟨g.val * 512 + k.val, by have hg := g.isLt; have hk := k.isLt; omega⟩))
    (hw : ∀ k : Fin 512, w (ix3 0 (y 1) k) = argY m c (ix3 g (i 1) k)) :
    part x w y = group m c i g :=
  Finset.sum_congr rfl fun k _ => Ideal.mul_congr (hx k) (hw k)

/-- A point's load of one group of the left operand's block, whose columns start at `o`. -/
theorem ld_x {e : EltTy} (a : S1024x1024.Idx → Elt Ideal e) (o : ℕ) (inb : ∀ d, (![0, o] : Fin 2 → ℕ) d + (![1024, 512] : Fin 2 → ℕ) d ≤ S1024x1024.size d)
    (r : Fin 1024) (k : Fin 512) (ho : o + 512 ≤ 1024) :
    View.ld (Val := Elt Ideal) (e' := e) a (Rect.unit (s := S1024x1024) ![0, o] ![1024, 512] inb) (ix2 r k) = a (ix2 r ⟨o + k.val, by have hk := k.isLt; omega⟩) :=
  View.ld_unit_apply_of _ _ _ _ _ _ fun d => match d with
    | ⟨0, _⟩ => (Nat.zero_add _).symm
    | ⟨1, _⟩ => rfl

/-- A point's load of the weights' group `o` of the block. -/
theorem ld_w {e : EltTy} (a : S2x512x512.Idx → Elt Ideal e) (o : ℕ) (inb : ∀ d, (![o, 0, 0] : Fin 3 → ℕ) d + (![1, 512, 512] : Fin 3 → ℕ) d ≤ S2x512x512.size d)
    (r : Fin 512) (k : Fin 512) (ho : o < 2) :
    View.ld (Val := Elt Ideal) (e' := e) a (Rect.unit (s := S2x512x512) ![o, 0, 0] ![1, 512, 512] inb) (ix3 0 r k) = a (ix3 ⟨o, ho⟩ r k) :=
  View.ld_unit_apply_of _ _ _ _ _ _ fun d => match d with
    | ⟨0, _⟩ => rfl
    | ⟨1, _⟩ => (Nat.zero_add _).symm
    | ⟨2, _⟩ => (Nat.zero_add _).symm

/-- The four groups, two by two. -/
theorem groups (f : Fin 4 → EReal) : (f 0 + f 1) + (f 2 + f 3) = ∑ s : Fin 4, f s :=
  (add_assoc _ _ _).symm.trans (Fin.sum_univ_four f).symm

theorem final2 : (dats m 0 c).arrAt 2 cfg0.N = G (argX m c) (argY m c) := by
  refine (dats m 0 c).arrAt_eq_of_covers 2 _ (by decide +kernel) fun t hf y => ?_
  have ht := point_lt t
  have hm : t.val % 2 = 1 := (flush0_2 t).mp hf
  have h0 : (y 0).val < 1024 := (y 0).isLt
  have h1 : (y 1).val < 512 := (y 1).isLt
  have e0 : ((((cfg0.win 2).blk t).view.emb y) 0).val = 1024 * (t.val / 2) + (y 0).val := by blk_simp [idx t] <;> omega
  have e1 : ((((cfg0.win 2).blk t).view.emb y) 1).val = 512 * (t.val / 2 % 1) + (y 1).val := by blk_simp [idx t] <;> omega
  blk_simp
  rw [after0_2, outsAt0_B m c t (by omega) hm hm]
  frame_out
  have hlt : t.val - 1 < cfg0.N := Nat.lt_of_le_of_lt (Nat.sub_le _ _) t.isLt
  simp only [read_unread_whole]
  rw [pay3_at, outsAt0_A m c ⟨t.val - 1, hlt⟩ (by show (t.val - 1) % 2 = 0; omega) (by show ¬(t.val - 1) % 2 = 1; omega) (by show ¬(t.val - 1) % 2 = 1; omega)]
  frame_out
  rw [pay2_at]
  generalize hs : (⟨t.val - 1, hlt⟩ : Fin cfg0.N) = s
  have hsv : s.val = t.val - 1 := by rw [← hs]
  clear hs
  show (_ : EReal) = _
  refine ((congrArg₂ (· + ·) (congrArg₂ (· + ·) (part_at m c 0 (((cfg0.win 2).blk t).view.emb y) y _ _ ?_ ?_) (part_at m c 1 (((cfg0.win 2).blk t).view.emb y) y _ _ ?_ ?_))
    (congrArg₂ (· + ·) (part_at m c 2 (((cfg0.win 2).blk t).view.emb y) y _ _ ?_ ?_) (part_at m c 3 (((cfg0.win 2).blk t).view.emb y) y _ _ ?_ ?_))).trans
      (groups (group m c (((cfg0.win 2).blk t).view.emb y))))
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega

end Cert.SsmOutBackIdeal

namespace Cert.SsmOutBackReferenceIdeal

open Cert.SsmOutBackReferenceIdeal.Gen

/-- The reference's result is the same sums. -/
theorem ref_eq (X : FVec Ideal S4096x2048 .bf16) (Y : FVec Ideal S4x512x512 .bf16) :
    Host.dotGeneral dot_S4096x2048_S512x2048_S4096x512_1_1_0_0_n_n none (extf .f32 X bitsLt_bf16_f32) (shapeCast S512x2048 (transpose S512x4x512 [1, 0, 2] (extf .f32 Y bitsLt_bf16_f32) transposes_S4x512x512_S512x4x512_1_0_2) shapeCasts_S512x4x512_S512x2048)
      = Cert.SsmOutBackIdeal.G X Y := by
  funext y
  idx_vars y
  pointwise [Cert.SsmOutBackIdeal.G]
  exact (Fin.sum_mul_add_congr fun s k hl => by
    have hk := k.isLt
    exact Ideal.mul_congr rfl (congrArg Y (by idx_ext))).symm

end Cert.SsmOutBackReferenceIdeal

end
-- ==== Proof.Products.MemOutBack.lean ====
/- The gradient of the memory attention's output: the kernel's blocks and the reference are the same sums over the shared axis. -/
module

public import proofs.«01_k».proof.Proof.Gen.MemOutBackIdeal.Value
public import proofs.«01_k».proof.Proof.Gen.MemOutBackReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.MemOutBackIdeal

open Cert.MemOutBackIdeal.Gen

/-- The sum over the four column groups, and over `k` in a group, of the products of row `y 0` and of row `y 1` of the weights. -/
def G (X : FVec Ideal S4096x2048 .bf16) (Y : FVec Ideal S4x512x512 .bf16) : FVec Ideal S4096x512 .bf16 := fun y =>
  ∑ s : Fin 4, ∑ k : Fin 512, X (ix2 (y 0) ⟨s.val * 512 + k.val, by
    have hs := s.isLt
    have hk := k.isLt
    omega⟩) * Y (ix3 s (y 1) k)

/-- One product of a block's row with a row of one group of the weights. -/
def part (x : FVec Ideal S1024x512 .bf16) (w : FVec Ideal S1x512x512 .bf16) (i : S1024x512.Idx) : EReal :=
  ∑ k : Fin 512, (show EReal from x (ix2 (i 0) k)) * (show EReal from w (ix3 0 (i 1) k))

theorem pay1_at (x : FVec Ideal S1024x512 .bf16) (w : FVec Ideal S1x512x512 .bf16) (x' : FVec Ideal S1024x512 .bf16) (w' : FVec Ideal S1x512x512 .bf16) (i : S1024x512.Idx) :
    k0_pay1 (F := Ideal) x w x' w' i = part x w i + part x' w' i := by
  pointwise [k0_pay1, part]

theorem pay2_at (x : FVec Ideal S1024x512 .bf16) (w : FVec Ideal S1x512x512 .bf16) (x' : FVec Ideal S1024x512 .bf16) (w' : FVec Ideal S1x512x512 .bf16) (i : S1024x512.Idx) :
    k0_pay2 (F := Ideal) x w x' w' i = part x w i + part x' w' i := by
  pointwise [k0_pay2, k0_pay1, part]

theorem pay3_at (x : FVec Ideal S1024x512 .bf16) (w : FVec Ideal S1x512x512 .bf16) (x' : FVec Ideal S1024x512 .bf16) (w' : FVec Ideal S1x512x512 .bf16) (a : FVec Ideal S1024x512 .f32) (i : S1024x512.Idx) :
    k0_pay3 (F := Ideal) x w x' w' a i = a i + (part x w i + part x' w' i) := by
  pointwise [k0_pay3, k0_pay1, part]

theorem pay4_at (a : FVec Ideal S1024x512 .f32) (i : S1024x512.Idx) :
    k0_pay4 (F := Ideal) a i = a i := by
  pointwise [k0_pay4]

variable (m : (ℓ : Loc nD τ sig) → Buf (Elt Ideal) ℓ) (c : Dev nD)

abbrev argX : FVec Ideal S4096x2048 .bf16 := m ((c : Thread nD τ).loc main_arg0)
abbrev argY : FVec Ideal S4x512x512 .bf16 := m ((c : Thread nD τ).loc main_arg1)

theorem idx : ∀ t : Fin cfg0.N, win0_0.index t = ![t.val / 2, t.val % 2] ∧ win0_1.index t = ![t.val % 2, t.val / 2 % 1, 0] ∧ win0_2.index t = ![t.val / 2, t.val / 2 % 1] :=
  (by decide +kernel : ∀ t : Fin grid0.N, _)

theorem point_lt (t : Fin cfg0.N) : t.val < 8 := lt_of_lt_of_eq t.isLt (show cfg0.N = 8 from N_0)

/-- One group's share of the product. -/
def group (i : S4096x512.Idx) (g : Fin 4) : EReal :=
  ∑ k : Fin 512, argX m c (ix2 (i 0) ⟨g.val * 512 + k.val, by have hg := g.isLt; have hk := k.isLt; omega⟩) * argY m c (ix3 g (i 1) k)

/-- What a point contracts of a group is the group's share, when the blocks hold the group's entries. -/
theorem part_at (g : Fin 4) (i : S4096x512.Idx) (y : S1024x512.Idx) (x : FVec Ideal S1024x512 .bf16) (w : FVec Ideal S1x512x512 .bf16)
    (hx : ∀ k : Fin 512, x (ix2 (y 0) k) = argX m c (ix2 (i 0) ⟨g.val * 512 + k.val, by have hg := g.isLt; have hk := k.isLt; omega⟩))
    (hw : ∀ k : Fin 512, w (ix3 0 (y 1) k) = argY m c (ix3 g (i 1) k)) :
    part x w y = group m c i g :=
  Finset.sum_congr rfl fun k _ => Ideal.mul_congr (hx k) (hw k)

/-- A point's load of one group of the left operand's block, whose columns start at `o`. -/
theorem ld_x {e : EltTy} (a : S1024x1024.Idx → Elt Ideal e) (o : ℕ) (inb : ∀ d, (![0, o] : Fin 2 → ℕ) d + (![1024, 512] : Fin 2 → ℕ) d ≤ S1024x1024.size d)
    (r : Fin 1024) (k : Fin 512) (ho : o + 512 ≤ 1024) :
    View.ld (Val := Elt Ideal) (e' := e) a (Rect.unit (s := S1024x1024) ![0, o] ![1024, 512] inb) (ix2 r k) = a (ix2 r ⟨o + k.val, by have hk := k.isLt; omega⟩) :=
  View.ld_unit_apply_of _ _ _ _ _ _ fun d => match d with
    | ⟨0, _⟩ => (Nat.zero_add _).symm
    | ⟨1, _⟩ => rfl

/-- A point's load of the weights' group `o` of the block. -/
theorem ld_w {e : EltTy} (a : S2x512x512.Idx → Elt Ideal e) (o : ℕ) (inb : ∀ d, (![o, 0, 0] : Fin 3 → ℕ) d + (![1, 512, 512] : Fin 3 → ℕ) d ≤ S2x512x512.size d)
    (r : Fin 512) (k : Fin 512) (ho : o < 2) :
    View.ld (Val := Elt Ideal) (e' := e) a (Rect.unit (s := S2x512x512) ![o, 0, 0] ![1, 512, 512] inb) (ix3 0 r k) = a (ix3 ⟨o, ho⟩ r k) :=
  View.ld_unit_apply_of _ _ _ _ _ _ fun d => match d with
    | ⟨0, _⟩ => rfl
    | ⟨1, _⟩ => (Nat.zero_add _).symm
    | ⟨2, _⟩ => (Nat.zero_add _).symm

/-- The four groups, two by two. -/
theorem groups (f : Fin 4 → EReal) : (f 0 + f 1) + (f 2 + f 3) = ∑ s : Fin 4, f s :=
  (add_assoc _ _ _).symm.trans (Fin.sum_univ_four f).symm

theorem final2 : (dats m 0 c).arrAt 2 cfg0.N = G (argX m c) (argY m c) := by
  refine (dats m 0 c).arrAt_eq_of_covers 2 _ (by decide +kernel) fun t hf y => ?_
  have ht := point_lt t
  have hm : t.val % 2 = 1 := (flush0_2 t).mp hf
  have h0 : (y 0).val < 1024 := (y 0).isLt
  have h1 : (y 1).val < 512 := (y 1).isLt
  have e0 : ((((cfg0.win 2).blk t).view.emb y) 0).val = 1024 * (t.val / 2) + (y 0).val := by blk_simp [idx t] <;> omega
  have e1 : ((((cfg0.win 2).blk t).view.emb y) 1).val = 512 * (t.val / 2 % 1) + (y 1).val := by blk_simp [idx t] <;> omega
  blk_simp
  rw [after0_2, outsAt0_B m c t (by omega) hm hm]
  frame_out
  have hlt : t.val - 1 < cfg0.N := Nat.lt_of_le_of_lt (Nat.sub_le _ _) t.isLt
  simp only [read_unread_whole]
  rw [pay4_at, pay3_at, outsAt0_A m c ⟨t.val - 1, hlt⟩ (by show (t.val - 1) % 2 = 0; omega) (by show ¬(t.val - 1) % 2 = 1; omega) (by show ¬(t.val - 1) % 2 = 1; omega)]
  frame_out
  rw [pay2_at]
  generalize hs : (⟨t.val - 1, hlt⟩ : Fin cfg0.N) = s
  have hsv : s.val = t.val - 1 := by rw [← hs]
  clear hs
  show (_ : EReal) = _
  refine ((congrArg₂ (· + ·) (congrArg₂ (· + ·) (part_at m c 0 (((cfg0.win 2).blk t).view.emb y) y _ _ ?_ ?_) (part_at m c 1 (((cfg0.win 2).blk t).view.emb y) y _ _ ?_ ?_))
    (congrArg₂ (· + ·) (part_at m c 2 (((cfg0.win 2).blk t).view.emb y) y _ _ ?_ ?_) (part_at m c 3 (((cfg0.win 2).blk t).view.emb y) y _ _ ?_ ?_))).trans
      (groups (group m c (((cfg0.win 2).blk t).view.emb y))))
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega

end Cert.MemOutBackIdeal

namespace Cert.MemOutBackReferenceIdeal

open Cert.MemOutBackReferenceIdeal.Gen

/-- The reference's result is the same sums. -/
theorem ref_eq (X : FVec Ideal S4096x2048 .bf16) (Y : FVec Ideal S4x512x512 .bf16) :
    truncf .bf16 (Host.dotGeneral dot_S4096x2048_S512x2048_S4096x512_1_1_0_0_n_n none (extf .f32 X bitsLt_bf16_f32) (shapeCast S512x2048 (transpose S512x4x512 [1, 0, 2] (extf .f32 Y bitsLt_bf16_f32) transposes_S4x512x512_S512x4x512_1_0_2) shapeCasts_S512x4x512_S512x2048)) bitsLt_bf16_f32
      = Cert.MemOutBackIdeal.G X Y := by
  funext y
  idx_vars y
  pointwise [Cert.MemOutBackIdeal.G]
  exact (Fin.sum_mul_add_congr fun s k hl => by
    have hk := k.isLt
    exact Ideal.mul_congr rfl (congrArg Y (by idx_ext))).symm

end Cert.MemOutBackReferenceIdeal

end
-- ==== Proof.Products.GluInBack.lean ====
/- The gradient of the gate projection's input: the kernel's blocks and the reference are the same sums over the shared axis. -/
module

public import proofs.«01_k».proof.Proof.Gen.GluInBackIdeal.Value
public import proofs.«01_k».proof.Proof.Gen.GluInBackReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.GluInBackIdeal

open Cert.GluInBackIdeal.Gen

/-- The sum over the four column groups, and over `k` in a group, of the products of row `y 0` and of row `y 1` of the weights. -/
def G (X : FVec Ideal S4096x1024 .bf16) (Y : FVec Ideal S4x512x256 .bf16) : FVec Ideal S4096x512 .f32 := fun y =>
  ∑ s : Fin 4, ∑ k : Fin 256, X (ix2 (y 0) ⟨s.val * 256 + k.val, by
    have hs := s.isLt
    have hk := k.isLt
    omega⟩) * Y (ix3 s (y 1) k)

/-- One product of a block's row with a row of one group of the weights. -/
def part (x : FVec Ideal S1024x256 .bf16) (w : FVec Ideal S1x512x256 .bf16) (i : S1024x512.Idx) : EReal :=
  ∑ k : Fin 256, (show EReal from x (ix2 (i 0) k)) * (show EReal from w (ix3 0 (i 1) k))

theorem pay1_at (x : FVec Ideal S1024x256 .bf16) (w : FVec Ideal S1x512x256 .bf16) (x' : FVec Ideal S1024x256 .bf16) (w' : FVec Ideal S1x512x256 .bf16) (i : S1024x512.Idx) :
    k0_pay1 (F := Ideal) x w x' w' i = part x w i + part x' w' i := by
  pointwise [k0_pay1, part]

theorem pay2_at (x : FVec Ideal S1024x256 .bf16) (w : FVec Ideal S1x512x256 .bf16) (x' : FVec Ideal S1024x256 .bf16) (w' : FVec Ideal S1x512x256 .bf16) (i : S1024x512.Idx) :
    k0_pay2 (F := Ideal) x w x' w' i = part x w i + part x' w' i := by
  pointwise [k0_pay2, k0_pay1, part]

theorem pay3_at (x : FVec Ideal S1024x256 .bf16) (w : FVec Ideal S1x512x256 .bf16) (x' : FVec Ideal S1024x256 .bf16) (w' : FVec Ideal S1x512x256 .bf16) (a : FVec Ideal S1024x512 .f32) (i : S1024x512.Idx) :
    k0_pay3 (F := Ideal) x w x' w' a i = a i + (part x w i + part x' w' i) := by
  pointwise [k0_pay3, k0_pay1, part]

variable (m : (ℓ : Loc nD τ sig) → Buf (Elt Ideal) ℓ) (c : Dev nD)

abbrev argX : FVec Ideal S4096x1024 .bf16 := m ((c : Thread nD τ).loc main_arg0)
abbrev argY : FVec Ideal S4x512x256 .bf16 := m ((c : Thread nD τ).loc main_arg1)

theorem idx : ∀ t : Fin cfg0.N, win0_0.index t = ![t.val / 2, t.val % 2] ∧ win0_1.index t = ![t.val % 2, t.val / 2 % 1, 0] ∧ win0_2.index t = ![t.val / 2, t.val / 2 % 1] :=
  (by decide +kernel : ∀ t : Fin grid0.N, _)

theorem point_lt (t : Fin cfg0.N) : t.val < 8 := lt_of_lt_of_eq t.isLt (show cfg0.N = 8 from N_0)

/-- One group's share of the product. -/
def group (i : S4096x512.Idx) (g : Fin 4) : EReal :=
  ∑ k : Fin 256, argX m c (ix2 (i 0) ⟨g.val * 256 + k.val, by have hg := g.isLt; have hk := k.isLt; omega⟩) * argY m c (ix3 g (i 1) k)

/-- What a point contracts of a group is the group's share, when the blocks hold the group's entries. -/
theorem part_at (g : Fin 4) (i : S4096x512.Idx) (y : S1024x512.Idx) (x : FVec Ideal S1024x256 .bf16) (w : FVec Ideal S1x512x256 .bf16)
    (hx : ∀ k : Fin 256, x (ix2 (y 0) k) = argX m c (ix2 (i 0) ⟨g.val * 256 + k.val, by have hg := g.isLt; have hk := k.isLt; omega⟩))
    (hw : ∀ k : Fin 256, w (ix3 0 (y 1) k) = argY m c (ix3 g (i 1) k)) :
    part x w y = group m c i g :=
  Finset.sum_congr rfl fun k _ => Ideal.mul_congr (hx k) (hw k)

/-- A point's load of one group of the left operand's block, whose columns start at `o`. -/
theorem ld_x {e : EltTy} (a : S1024x512.Idx → Elt Ideal e) (o : ℕ) (inb : ∀ d, (![0, o] : Fin 2 → ℕ) d + (![1024, 256] : Fin 2 → ℕ) d ≤ S1024x512.size d)
    (r : Fin 1024) (k : Fin 256) (ho : o + 256 ≤ 512) :
    View.ld (Val := Elt Ideal) (e' := e) a (Rect.unit (s := S1024x512) ![0, o] ![1024, 256] inb) (ix2 r k) = a (ix2 r ⟨o + k.val, by have hk := k.isLt; omega⟩) :=
  View.ld_unit_apply_of _ _ _ _ _ _ fun d => match d with
    | ⟨0, _⟩ => (Nat.zero_add _).symm
    | ⟨1, _⟩ => rfl

/-- A point's load of the weights' group `o` of the block. -/
theorem ld_w {e : EltTy} (a : S2x512x256.Idx → Elt Ideal e) (o : ℕ) (inb : ∀ d, (![o, 0, 0] : Fin 3 → ℕ) d + (![1, 512, 256] : Fin 3 → ℕ) d ≤ S2x512x256.size d)
    (r : Fin 512) (k : Fin 256) (ho : o < 2) :
    View.ld (Val := Elt Ideal) (e' := e) a (Rect.unit (s := S2x512x256) ![o, 0, 0] ![1, 512, 256] inb) (ix3 0 r k) = a (ix3 ⟨o, ho⟩ r k) :=
  View.ld_unit_apply_of _ _ _ _ _ _ fun d => match d with
    | ⟨0, _⟩ => rfl
    | ⟨1, _⟩ => (Nat.zero_add _).symm
    | ⟨2, _⟩ => (Nat.zero_add _).symm

/-- The four groups, two by two. -/
theorem groups (f : Fin 4 → EReal) : (f 0 + f 1) + (f 2 + f 3) = ∑ s : Fin 4, f s :=
  (add_assoc _ _ _).symm.trans (Fin.sum_univ_four f).symm

theorem final2 : (dats m 0 c).arrAt 2 cfg0.N = G (argX m c) (argY m c) := by
  refine (dats m 0 c).arrAt_eq_of_covers 2 _ (by decide +kernel) fun t hf y => ?_
  have ht := point_lt t
  have hm : t.val % 2 = 1 := (flush0_2 t).mp hf
  have h0 : (y 0).val < 1024 := (y 0).isLt
  have h1 : (y 1).val < 512 := (y 1).isLt
  have e0 : ((((cfg0.win 2).blk t).view.emb y) 0).val = 1024 * (t.val / 2) + (y 0).val := by blk_simp [idx t] <;> omega
  have e1 : ((((cfg0.win 2).blk t).view.emb y) 1).val = 512 * (t.val / 2 % 1) + (y 1).val := by blk_simp [idx t] <;> omega
  blk_simp
  rw [after0_2, outsAt0_B m c t (by omega) hm hm]
  frame_out
  have hlt : t.val - 1 < cfg0.N := Nat.lt_of_le_of_lt (Nat.sub_le _ _) t.isLt
  simp only [read_unread_whole]
  rw [pay3_at, outsAt0_A m c ⟨t.val - 1, hlt⟩ (by show (t.val - 1) % 2 = 0; omega) (by show ¬(t.val - 1) % 2 = 1; omega) (by show ¬(t.val - 1) % 2 = 1; omega)]
  frame_out
  rw [pay2_at]
  generalize hs : (⟨t.val - 1, hlt⟩ : Fin cfg0.N) = s
  have hsv : s.val = t.val - 1 := by rw [← hs]
  clear hs
  show (_ : EReal) = _
  refine ((congrArg₂ (· + ·) (congrArg₂ (· + ·) (part_at m c 0 (((cfg0.win 2).blk t).view.emb y) y _ _ ?_ ?_) (part_at m c 1 (((cfg0.win 2).blk t).view.emb y) y _ _ ?_ ?_))
    (congrArg₂ (· + ·) (part_at m c 2 (((cfg0.win 2).blk t).view.emb y) y _ _ ?_ ?_) (part_at m c 3 (((cfg0.win 2).blk t).view.emb y) y _ _ ?_ ?_))).trans
      (groups (group m c (((cfg0.win 2).blk t).view.emb y))))
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx s, e0] <;> omega
  · intro k
    refine (ld_w _ _ _ _ _ (by omega)).trans ?_
    blk_ext [iblk, V, idx s, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega
  · intro k
    refine (ld_x _ _ _ _ _ (by omega)).trans ?_
    blk_ext [iblk, V, idx t, e0] <;> omega
  · intro k
    refine (ld_w _ _ _ _ _ (by omega)).trans ?_
    blk_ext [iblk, V, idx t, e1] <;> omega

end Cert.GluInBackIdeal

namespace Cert.GluInBackReferenceIdeal

open Cert.GluInBackReferenceIdeal.Gen

/-- The reference's result is the same sums. -/
theorem ref_eq (X : FVec Ideal S4096x1024 .bf16) (Y : FVec Ideal S4x512x256 .bf16) :
    Host.dotGeneral dot_S4096x1024_S512x1024_S4096x512_1_1_0_0_n_n none (extf .f32 X bitsLt_bf16_f32) (shapeCast S512x1024 (transpose S512x4x256 [1, 0, 2] (extf .f32 Y bitsLt_bf16_f32) transposes_S4x512x256_S512x4x256_1_0_2) shapeCasts_S512x4x256_S512x1024)
      = Cert.GluInBackIdeal.G X Y := by
  funext y
  idx_vars y
  pointwise [Cert.GluInBackIdeal.G]
  exact (Fin.sum_mul_add_congr fun s k hl => by
    have hk := k.isLt
    exact Ideal.mul_congr rfl (congrArg Y (by idx_ext))).symm

end Cert.GluInBackReferenceIdeal

end
-- ==== Proof.Products.SsmOutGrad.lean ====
/- The gradient of the state-space branch's output weights: the kernel's blocks and the reference are the same sums over the rows. -/
module

public import proofs.«01_k».proof.Proof.Gen.SsmOutGradIdeal.Value
public import proofs.«01_k».proof.Proof.Gen.SsmOutGradReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SsmOutGradIdeal

open Cert.SsmOutGradIdeal.Gen

/-- The sum over the rows of the products of column `y 1` and of column `y 2` of column group `y 0`. -/
def G (X : FVec Ideal S4096x512 .bf16) (Y : FVec Ideal S4096x2048 .bf16) : FVec Ideal S4x512x512 .f32 := fun y =>
  ∑ s : Fin 4096, X (ix2 s (y 1)) * Y (ix2 s ⟨512 * (y 0).val + (y 2).val, by
    have h0 : (y 0).val < 4 := (y 0).isLt
    have h2 : (y 2).val < 512 := (y 2).isLt
    omega⟩)

theorem pay_at (x : FVec Ideal S4096x512 .bf16) (y : FVec Ideal S4096x512 .bf16) (i : S1x512x512.Idx) :
    k0_pay1 (F := Ideal) x y i = ∑ s : Fin 4096, (show EReal from x (ix2 s (i 1))) * (show EReal from y (ix2 s (i 2))) := by
  pointwise [k0_pay1]

variable (m : (ℓ : Loc nD τ sig) → Buf (Elt Ideal) ℓ) (c : Dev nD)

abbrev argX : FVec Ideal S4096x512 .bf16 := m ((c : Thread nD τ).loc main_arg0)
abbrev argY : FVec Ideal S4096x2048 .bf16 := m ((c : Thread nD τ).loc main_arg1)

theorem idx : ∀ t : Fin cfg0.N, win0_0.index t = ![0, t.val % 1] ∧ win0_1.index t = ![0, t.val / 1] ∧ win0_2.index t = ![t.val / 1 / 1, t.val % 1, t.val / 1 % 1] :=
  (by decide +kernel : ∀ t : Fin grid0.N, _)

theorem point_lt (t : Fin cfg0.N) : t.val < 4 := lt_of_lt_of_eq t.isLt (show cfg0.N = 4 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1 := (y 0).isLt
  have h1 : (y 1).val < 512 := (y 1).isLt
  have h2 : (y 2).val < 512 := (y 2).isLt
  have e0 : ((((cfg0.win 2).blk t).view.emb y) 0).val = t.val / 1 / 1 := by blk_simp [idx t] <;> omega
  have e1 : ((((cfg0.win 2).blk t).view.emb y) 1).val = 512 * (t.val % 1) + (y 1).val := by blk_simp [idx t] <;> omega
  have e2 : ((((cfg0.win 2).blk t).view.emb y) 2).val = 512 * (t.val / 1 % 1) + (y 2).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e1, h1]
  · rw [View.ld_unit_zero (by decide)]
    blk_ext [iblk, V, idx t, e0, e2, h2] <;> omega

end Cert.SsmOutGradIdeal

namespace Cert.SsmOutGradReferenceIdeal

open Cert.SsmOutGradReferenceIdeal.Gen

/-- The reference's result is the same sums. -/
theorem ref_eq (X : FVec Ideal S4096x512 .bf16) (Y : FVec Ideal S4096x2048 .bf16) :
    transpose S4x512x512 [1, 0, 2] (shapeCast S512x4x512 (transpose S512x2048 [1, 0] (Host.dotGeneral dot_S4096x2048_S4096x512_S2048x512_0_0_1_1_n_n none (extf .f32 Y bitsLt_bf16_f32) (extf .f32 X bitsLt_bf16_f32)) transposes_S2048x512_S512x2048_1_0) shapeCasts_S512x2048_S512x4x512) transposes_S512x4x512_S4x512x512_1_0_2
      = Cert.SsmOutGradIdeal.G X Y := by
  funext y
  idx_vars y
  pointwise [Cert.SsmOutGradIdeal.G]
  exact Finset.sum_congr rfl fun s _ => (mul_comm _ _).trans (Ideal.mul_congr rfl (congrArg Y (by idx_ext)))

end Cert.SsmOutGradReferenceIdeal

end
-- ==== Proof.Products.GluInGrad.lean ====
/- The gradient of the gate projection's weights: the kernel's blocks and the reference are the same sums over the rows. -/
module

public import proofs.«01_k».proof.Proof.Gen.GluInGradIdeal.Value
public import proofs.«01_k».proof.Proof.Gen.GluInGradReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.GluInGradIdeal

open Cert.GluInGradIdeal.Gen

/-- The sum over the rows of the products of column `y 1` and of column `y 2` of column group `y 0`. -/
def G (X : FVec Ideal S4096x512 .bf16) (Y : FVec Ideal S4096x1024 .bf16) : FVec Ideal S4x512x256 .f32 := fun y =>
  ∑ s : Fin 4096, X (ix2 s (y 1)) * Y (ix2 s ⟨256 * (y 0).val + (y 2).val, by
    have h0 : (y 0).val < 4 := (y 0).isLt
    have h2 : (y 2).val < 256 := (y 2).isLt
    omega⟩)

theorem pay_at (x : FVec Ideal S4096x512 .bf16) (y : FVec Ideal S4096x256 .bf16) (i : S1x512x256.Idx) :
    k0_pay1 (F := Ideal) x y i = ∑ s : Fin 4096, (show EReal from x (ix2 s (i 1))) * (show EReal from y (ix2 s (i 2))) := by
  pointwise [k0_pay1]

variable (m : (ℓ : Loc nD τ sig) → Buf (Elt Ideal) ℓ) (c : Dev nD)

abbrev argX : FVec Ideal S4096x512 .bf16 := m ((c : Thread nD τ).loc main_arg0)
abbrev argY : FVec Ideal S4096x1024 .bf16 := m ((c : Thread nD τ).loc main_arg1)

theorem idx : ∀ t : Fin cfg0.N, win0_0.index t = ![0, t.val % 1] ∧ win0_1.index t = ![0, t.val / 1] ∧ win0_2.index t = ![t.val / 1 / 1, t.val % 1, t.val / 1 % 1] :=
  (by decide +kernel : ∀ t : Fin grid0.N, _)

theorem point_lt (t : Fin cfg0.N) : t.val < 4 := lt_of_lt_of_eq t.isLt (show cfg0.N = 4 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 1 := (y 0).isLt
  have h1 : (y 1).val < 512 := (y 1).isLt
  have h2 : (y 2).val < 256 := (y 2).isLt
  have e0 : ((((cfg0.win 2).blk t).view.emb y) 0).val = t.val / 1 / 1 := by blk_simp [idx t] <;> omega
  have e1 : ((((cfg0.win 2).blk t).view.emb y) 1).val = 512 * (t.val % 1) + (y 1).val := by blk_simp [idx t] <;> omega
  have e2 : ((((cfg0.win 2).blk t).view.emb y) 2).val = 256 * (t.val / 1 % 1) + (y 2).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e1, h1]
  · rw [View.ld_unit_zero (by decide)]
    blk_ext [iblk, V, idx t, e0, e2, h2] <;> omega

end Cert.GluInGradIdeal

namespace Cert.GluInGradReferenceIdeal

open Cert.GluInGradReferenceIdeal.Gen

/-- The reference's result is the same sums. -/
theorem ref_eq (X : FVec Ideal S4096x512 .bf16) (Y : FVec Ideal S4096x1024 .bf16) :
    transpose S4x512x256 [1, 0, 2] (shapeCast S512x4x256 (transpose S512x1024 [1, 0] (Host.dotGeneral dot_S4096x1024_S4096x512_S1024x512_0_0_1_1_n_n none (extf .f32 Y bitsLt_bf16_f32) (extf .f32 X bitsLt_bf16_f32)) transposes_S1024x512_S512x1024_1_0) shapeCasts_S512x1024_S512x4x256) transposes_S512x4x256_S4x512x256_1_0_2
      = Cert.GluInGradIdeal.G X Y := by
  funext y
  idx_vars y
  pointwise [Cert.GluInGradIdeal.G]
  exact Finset.sum_congr rfl fun s _ => (mul_comm _ _).trans (Ideal.mul_congr rfl (congrArg Y (by idx_ext)))

end Cert.GluInGradReferenceIdeal

end
-- ==== Proof.Products.BGrad.lean ====
/- The gradient of the state-space input matrix, real or imaginary part: the kernel's blocks and the reference are the same sums over the rows. -/
module

public import proofs.«01_k».proof.Proof.Gen.BGradIdeal.Value
public import proofs.«01_k».proof.Proof.Gen.BGradReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.BGradIdeal

open Cert.BGradIdeal.Gen

/-- The sum over the rows of the products of column `y 0` and of column `y 1`. -/
def G (X : FVec Ideal S4096x512 .f32) (Y : FVec Ideal S4096x2048 .f32) : FVec Ideal S512x2048 .f32 := fun y =>
  ∑ s : Fin 4096, X (ix2 s (y 0)) * Y (ix2 s (y 1))

/-- The products of one block of rows. -/
def part (x : FVec Ideal S2048x512 .f32) (y : FVec Ideal S2048x1024 .f32) (i : S512x1024.Idx) : EReal :=
  ∑ s : Fin 2048, (show EReal from x (ix2 s (i 0))) * (show EReal from y (ix2 s (i 1)))

theorem pay2_at (x : FVec Ideal S2048x512 .f32) (y : FVec Ideal S2048x1024 .f32) (i : S512x1024.Idx) :
    k0_pay2 (F := Ideal) x y i = part x y i := by
  pointwise [k0_pay2, k0_pay1, part]

theorem pay3_at (x : FVec Ideal S2048x512 .f32) (y : FVec Ideal S2048x1024 .f32) (a : FVec Ideal S512x1024 .f32) (i : S512x1024.Idx) :
    k0_pay3 (F := Ideal) x y a i = a i + part x y i := by
  pointwise [k0_pay3, k0_pay1, part]

variable (m : (ℓ : Loc nD τ sig) → Buf (Elt Ideal) ℓ) (c : Dev nD)

abbrev argX : FVec Ideal S4096x512 .f32 := m ((c : Thread nD τ).loc main_arg0)
abbrev argY : FVec Ideal S4096x2048 .f32 := m ((c : Thread nD τ).loc main_arg1)

theorem idx : ∀ t : Fin cfg0.N, win0_0.index t = ![t.val % 2, t.val / 2 % 1] ∧ win0_1.index t = ![t.val % 2, t.val / 2] ∧ win0_2.index t = ![t.val / 2 % 1, t.val / 2] :=
  (by decide +kernel : ∀ t : Fin grid0.N, _)

theorem point_lt (t : Fin cfg0.N) : t.val < 4 := lt_of_lt_of_eq t.isLt (show cfg0.N = 4 from N_0)

/-- One block of rows' share of the product. -/
def share (i : S512x2048.Idx) (g : Fin 2) : EReal :=
  ∑ s : Fin 2048, argX m c (ix2 ⟨g.val * 2048 + s.val, by have hg := g.isLt; have hs := s.isLt; omega⟩ (i 0))
    * argY m c (ix2 ⟨g.val * 2048 + s.val, by have hg := g.isLt; have hs := s.isLt; omega⟩ (i 1))

/-- What a point contracts is its rows' share, when its blocks hold those rows. -/
theorem part_at (g : Fin 2) (i : S512x2048.Idx) (y : S512x1024.Idx) (x : FVec Ideal S2048x512 .f32) (w : FVec Ideal S2048x1024 .f32)
    (hx : ∀ s : Fin 2048, x (ix2 s (y 0)) = argX m c (ix2 ⟨g.val * 2048 + s.val, by have hg := g.isLt; have hs := s.isLt; omega⟩ (i 0)))
    (hw : ∀ s : Fin 2048, w (ix2 s (y 1)) = argY m c (ix2 ⟨g.val * 2048 + s.val, by have hg := g.isLt; have hs := s.isLt; omega⟩ (i 1))) :
    part x w y = share m c i g :=
  Finset.sum_congr rfl fun s _ => Ideal.mul_congr (hx s) (hw s)

/-- The two shares are the whole sum. -/
theorem shares (i : S512x2048.Idx) : share m c i 0 + share m c i 1 = G (argX m c) (argY m c) i := by
  refine (Fin.sum_univ_two (share m c i)).symm.trans ?_
  exact (Fin.sum_univ_tiles 2 2048 rfl fun s : Fin 4096 => argX m c (ix2 s (i 0)) * argY m c (ix2 s (i 1))).symm

theorem final2 : (dats m 0 c).arrAt 2 cfg0.N = G (argX m c) (argY m c) := by
  refine (dats m 0 c).arrAt_eq_of_covers 2 _ (by decide +kernel) fun t hf y => ?_
  have ht := point_lt t
  have hm : t.val % 2 = 1 := (flush0_2 t).mp hf
  have h0 : (y 0).val < 512 := (y 0).isLt
  have h1 : (y 1).val < 1024 := (y 1).isLt
  have e0 : ((((cfg0.win 2).blk t).view.emb y) 0).val = 512 * (t.val / 2 % 1) + (y 0).val := by blk_simp [idx t] <;> omega
  have e1 : ((((cfg0.win 2).blk t).view.emb y) 1).val = 1024 * (t.val / 2) + (y 1).val := by blk_simp [idx t] <;> omega
  blk_simp
  rw [after0_2, outsAt0_B m c t (by omega) hm hm]
  frame_out
  have hlt : t.val - 1 < cfg0.N := Nat.lt_of_le_of_lt (Nat.sub_le _ _) t.isLt
  simp only [read_unread_whole]
  rw [pay3_at, outsAt0_A m c ⟨t.val - 1, hlt⟩ (by show (t.val - 1) % 2 = 0; omega) (by show ¬(t.val - 1) % 2 = 1; omega) (by show ¬(t.val - 1) % 2 = 1; omega)]
  frame_out
  rw [pay2_at]
  generalize hs : (⟨t.val - 1, hlt⟩ : Fin cfg0.N) = s
  have hsv : s.val = t.val - 1 := by rw [← hs]
  clear hs
  refine (congrArg₂ (· + ·) (part_at m c 0 (((cfg0.win 2).blk t).view.emb y) y _ _ ?_ ?_) (part_at m c 1 (((cfg0.win 2).blk t).view.emb y) y _ _ ?_ ?_)).trans
    (shares m c (((cfg0.win 2).blk t).view.emb y))
  · intro k
    blk_ext [iblk, V, idx s, e0] <;> omega
  · intro k
    blk_ext [iblk, V, idx s, e1] <;> omega
  · intro k
    blk_ext [iblk, V, idx t, e0] <;> omega
  · intro k
    blk_ext [iblk, V, idx t, e1] <;> omega

end Cert.BGradIdeal

namespace Cert.BGradReferenceIdeal

open Cert.BGradReferenceIdeal.Gen

/-- The reference's result is the same sums. -/
theorem ref_eq (X : FVec Ideal S4096x512 .f32) (Y : FVec Ideal S4096x2048 .f32) :
    transpose S512x2048 [1, 0] (Host.dotGeneral dot_S4096x2048_S4096x512_S2048x512_0_0_1_1_n_n none Y X) transposes_S2048x512_S512x2048_1_0
      = Cert.BGradIdeal.G X Y := by
  funext y
  idx_vars y
  pointwise [Cert.BGradIdeal.G]
  exact Finset.sum_congr rfl fun s _ => (mul_comm _ _).trans (Ideal.mul_congr rfl rfl)

end Cert.BGradReferenceIdeal

end
-- ==== Proof.Products.CGrad.lean ====
/- The gradient of the state-space output matrix, real or imaginary part: the kernel's blocks and the reference are the same sums over the rows. -/
module

public import proofs.«01_k».proof.Proof.Gen.CGradIdeal.Value
public import proofs.«01_k».proof.Proof.Gen.CGradReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.CGradIdeal

open Cert.CGradIdeal.Gen

/-- The sum over the rows of the products of column `y 0` and of column `y 1`. -/
def G (X : FVec Ideal S4096x2048 .f32) (Y : FVec Ideal S4096x512 .f32) : FVec Ideal S2048x512 .f32 := fun y =>
  ∑ s : Fin 4096, X (ix2 s (y 0)) * Y (ix2 s (y 1))

/-- The products of one block of rows. -/
def part (x : FVec Ideal S2048x512 .f32) (y : FVec Ideal S2048x512 .f32) (i : S512x512.Idx) : EReal :=
  ∑ s : Fin 2048, (show EReal from x (ix2 s (i 0))) * (show EReal from y (ix2 s (i 1)))

theorem pay2_at (x : FVec Ideal S2048x512 .f32) (y : FVec Ideal S2048x512 .f32) (i : S512x512.Idx) :
    k0_pay2 (F := Ideal) x y i = part x y i := by
  pointwise [k0_pay2, k0_pay1, part]

theorem pay3_at (x : FVec Ideal S2048x512 .f32) (y : FVec Ideal S2048x512 .f32) (a : FVec Ideal S512x512 .f32) (i : S512x512.Idx) :
    k0_pay3 (F := Ideal) x y a i = a i + part x y i := by
  pointwise [k0_pay3, k0_pay1, part]

variable (m : (ℓ : Loc nD τ sig) → Buf (Elt Ideal) ℓ) (c : Dev nD)

abbrev argX : FVec Ideal S4096x2048 .f32 := m ((c : Thread nD τ).loc main_arg0)
abbrev argY : FVec Ideal S4096x512 .f32 := m ((c : Thread nD τ).loc main_arg1)

theorem idx : ∀ t : Fin cfg0.N, win0_0.index t = ![t.val % 2, t.val / 2 % 4] ∧ win0_1.index t = ![t.val % 2, t.val / 8] ∧ win0_2.index t = ![t.val / 2 % 4, t.val / 8] :=
  (by decide +kernel : ∀ t : Fin grid0.N, _)

theorem point_lt (t : Fin cfg0.N) : t.val < 8 := lt_of_lt_of_eq t.isLt (show cfg0.N = 8 from N_0)

/-- One block of rows' share of the product. -/
def share (i : S2048x512.Idx) (g : Fin 2) : EReal :=
  ∑ s : Fin 2048, argX m c (ix2 ⟨g.val * 2048 + s.val, by have hg := g.isLt; have hs := s.isLt; omega⟩ (i 0))
    * argY m c (ix2 ⟨g.val * 2048 + s.val, by have hg := g.isLt; have hs := s.isLt; omega⟩ (i 1))

/-- What a point contracts is its rows' share, when its blocks hold those rows. -/
theorem part_at (g : Fin 2) (i : S2048x512.Idx) (y : S512x512.Idx) (x : FVec Ideal S2048x512 .f32) (w : FVec Ideal S2048x512 .f32)
    (hx : ∀ s : Fin 2048, x (ix2 s (y 0)) = argX m c (ix2 ⟨g.val * 2048 + s.val, by have hg := g.isLt; have hs := s.isLt; omega⟩ (i 0)))
    (hw : ∀ s : Fin 2048, w (ix2 s (y 1)) = argY m c (ix2 ⟨g.val * 2048 + s.val, by have hg := g.isLt; have hs := s.isLt; omega⟩ (i 1))) :
    part x w y = share m c i g :=
  Finset.sum_congr rfl fun s _ => Ideal.mul_congr (hx s) (hw s)

/-- The two shares are the whole sum. -/
theorem shares (i : S2048x512.Idx) : share m c i 0 + share m c i 1 = G (argX m c) (argY m c) i := by
  refine (Fin.sum_univ_two (share m c i)).symm.trans ?_
  exact (Fin.sum_univ_tiles 2 2048 rfl fun s : Fin 4096 => argX m c (ix2 s (i 0)) * argY m c (ix2 s (i 1))).symm

theorem final2 : (dats m 0 c).arrAt 2 cfg0.N = G (argX m c) (argY m c) := by
  refine (dats m 0 c).arrAt_eq_of_covers 2 _ (by decide +kernel) fun t hf y => ?_
  have ht := point_lt t
  have hm : t.val % 2 = 1 := (flush0_2 t).mp hf
  have h0 : (y 0).val < 512 := (y 0).isLt
  have h1 : (y 1).val < 512 := (y 1).isLt
  have e0 : ((((cfg0.win 2).blk t).view.emb y) 0).val = 512 * (t.val / 2 % 4) + (y 0).val := by blk_simp [idx t] <;> omega
  have e1 : ((((cfg0.win 2).blk t).view.emb y) 1).val = 512 * (t.val / 8) + (y 1).val := by blk_simp [idx t] <;> omega
  blk_simp
  rw [after0_2, outsAt0_B m c t (by omega) hm hm]
  frame_out
  have hlt : t.val - 1 < cfg0.N := Nat.lt_of_le_of_lt (Nat.sub_le _ _) t.isLt
  simp only [read_unread_whole]
  rw [pay3_at, outsAt0_A m c ⟨t.val - 1, hlt⟩ (by show (t.val - 1) % 2 = 0; omega) (by show ¬(t.val - 1) % 2 = 1; omega) (by show ¬(t.val - 1) % 2 = 1; omega)]
  frame_out
  rw [pay2_at]
  generalize hs : (⟨t.val - 1, hlt⟩ : Fin cfg0.N) = s
  have hsv : s.val = t.val - 1 := by rw [← hs]
  clear hs
  refine (congrArg₂ (· + ·) (part_at m c 0 (((cfg0.win 2).blk t).view.emb y) y _ _ ?_ ?_) (part_at m c 1 (((cfg0.win 2).blk t).view.emb y) y _ _ ?_ ?_)).trans
    (shares m c (((cfg0.win 2).blk t).view.emb y))
  · intro k
    blk_ext [iblk, V, idx s, e0] <;> omega
  · intro k
    blk_ext [iblk, V, idx s, e1] <;> omega
  · intro k
    blk_ext [iblk, V, idx t, e0] <;> omega
  · intro k
    blk_ext [iblk, V, idx t, e1] <;> omega

end Cert.CGradIdeal

namespace Cert.CGradReferenceIdeal

open Cert.CGradReferenceIdeal.Gen

/-- The reference's result is the same sums. -/
theorem ref_eq (X : FVec Ideal S4096x2048 .f32) (Y : FVec Ideal S4096x512 .f32) :
    transpose S2048x512 [1, 0] (Host.dotGeneral dot_S4096x512_S4096x2048_S512x2048_0_0_1_1_n_n none Y X) transposes_S512x2048_S2048x512_1_0
      = Cert.CGradIdeal.G X Y := by
  funext y
  idx_vars y
  pointwise [Cert.CGradIdeal.G]
  exact Finset.sum_congr rfl fun s _ => (mul_comm _ _).trans (Ideal.mul_congr rfl rfl)

end Cert.CGradReferenceIdeal

end
-- ==== Proof.Products.MemKvGrad.lean ====
/- The gradient of the weights of the memory's keys and values: the kernel's blocks and the reference are the same sums over the rows. -/
module

public import proofs.«01_k».proof.Proof.Gen.MemKvGradIdeal.Value
public import proofs.«01_k».proof.Proof.Gen.MemKvGradReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MemKvGradIdeal

open Cert.MemKvGradIdeal.Gen

/-- The sum over the rows of the products of column `y 0` and of column `y 1`. -/
def G (X : FVec Ideal S256x2048 .f32) (Y : FVec Ideal S256x1024 .f32) : FVec Ideal S2048x1024 .f32 := fun y =>
  ∑ s : Fin 256, X (ix2 s (y 0)) * Y (ix2 s (y 1))

theorem pay_at (x : FVec Ideal S256x512 .f32) (y : FVec Ideal S256x1024 .f32) (i : S512x1024.Idx) :
    k0_pay1 (F := Ideal) x y i = ∑ s : Fin 256, (show EReal from x (ix2 s (i 0))) * (show EReal from y (ix2 s (i 1))) := by
  pointwise [k0_pay1]

variable (m : (ℓ : Loc nD τ sig) → Buf (Elt Ideal) ℓ) (c : Dev nD)

abbrev argX : FVec Ideal S256x2048 .f32 := m ((c : Thread nD τ).loc main_arg0)
abbrev argY : FVec Ideal S256x1024 .f32 := m ((c : Thread nD τ).loc main_arg1)

theorem idx : ∀ t : Fin cfg0.N, win0_0.index t = ![0, t.val % 4] ∧ win0_1.index t = ![0, t.val / 4] ∧ win0_2.index t = ![t.val % 4, t.val / 4] :=
  (by decide +kernel : ∀ t : Fin grid0.N, _)

theorem point_lt (t : Fin cfg0.N) : t.val < 4 := lt_of_lt_of_eq t.isLt (show cfg0.N = 4 from N_0)

theorem final2 : (dats m 0 c).arrAt 2 cfg0.N = G (argX m c) (argY m c) := by
  refine (dats m 0 c).arrAt_eq_of_covers 2 _ (by decide +kernel) fun t hf y => ?_
  have ht := point_lt t
  have h0 : (y 0).val < 512 := (y 0).isLt
  have h1 : (y 1).val < 1024 := (y 1).isLt
  have e0 : ((((cfg0.win 2).blk t).view.emb y) 0).val = 512 * (t.val % 4) + (y 0).val := by blk_simp [idx t] <;> omega
  have e1 : ((((cfg0.win 2).blk t).view.emb y) 1).val = 1024 * (t.val / 4) + (y 1).val := by blk_simp [idx t] <;> omega
  blk_simp
  rw [after0_2]
  unfold out0_2
  canon_tiles y h
  refine (pay_at _ _ y).trans (Finset.sum_congr rfl fun s _ => Ideal.mul_congr ?_ ?_)
  · rw [View.ld_unit_zero (by decide)]
    blk_ext [iblk, V, idx t, e0, h0]
  · rw [View.ld_unit_zero (by decide)]
    blk_ext [iblk, V, idx t, e1, h1] <;> omega

end Cert.MemKvGradIdeal

namespace Cert.MemKvGradReferenceIdeal

open Cert.MemKvGradReferenceIdeal.Gen

/-- The reference's result is the same sums. -/
theorem ref_eq (X : FVec Ideal S256x2048 .f32) (Y : FVec Ideal S256x1024 .f32) :
    transpose S2048x1024 [1, 0] (Host.dotGeneral dot_S256x1024_S256x2048_S1024x2048_0_0_1_1_n_n none Y X) transposes_S1024x2048_S2048x1024_1_0
      = Cert.MemKvGradIdeal.G X Y := by
  funext y
  idx_vars y
  pointwise [Cert.MemKvGradIdeal.G]
  exact Finset.sum_congr rfl fun s _ => (mul_comm _ _).trans (Ideal.mul_congr rfl rfl)

end Cert.MemKvGradReferenceIdeal

end
-- ==== Proof.Products.Claim.lean ====
/- Each product call's claims: that its reference runs, and that the call and its reference end with equal results. -/
module

public import proofs.«01_k».proof.Defs
public import proofs.«01_k».proof.Proof.Products.UpGrad
public import proofs.«01_k».proof.Proof.Products.InGrad
public import proofs.«01_k».proof.Proof.Products.DownGrad
public import proofs.«01_k».proof.Proof.Products.OutGrad
public import proofs.«01_k».proof.Proof.Products.SbOutGrad
public import proofs.«01_k».proof.Proof.Products.Up
public import proofs.«01_k».proof.Proof.Products.ProjIn
public import proofs.«01_k».proof.Proof.Products.Down
public import proofs.«01_k».proof.Proof.Products.Out
public import proofs.«01_k».proof.Proof.Products.SbOut
public import proofs.«01_k».proof.Proof.Products.DownBack
public import proofs.«01_k».proof.Proof.Products.OutBack
public import proofs.«01_k».proof.Proof.Products.SbOutBack
public import proofs.«01_k».proof.Proof.Products.UpBack
public import proofs.«01_k».proof.Proof.Products.InBack
public import proofs.«01_k».proof.Proof.Products.GluIn
public import proofs.«01_k».proof.Proof.Products.SsmOut
public import proofs.«01_k».proof.Proof.Products.MemKv
public import proofs.«01_k».proof.Proof.Products.SsmOutBack
public import proofs.«01_k».proof.Proof.Products.MemOutBack
public import proofs.«01_k».proof.Proof.Products.GluInBack
public import proofs.«01_k».proof.Proof.Products.SsmOutGrad
public import proofs.«01_k».proof.Proof.Products.GluInGrad
public import proofs.«01_k».proof.Proof.Products.BGrad
public import proofs.«01_k».proof.Proof.Products.CGrad
public import proofs.«01_k».proof.Proof.Products.MemKvGrad
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.UpGrad

theorem reference_frame : @Cert.quiescent_UpGradReferenceIdeal Cert.UpGradReferenceIdeal.Gen.facts := fun m g _ =>
  (θ_run _ _ _).mono (fun r h => ⟨fun c => (h c).2, sem_eq_zero_of_no_sems (by decide) r.2⟩) (Cert.UpGradReferenceIdeal.Value.run (F := Ideal) m g)

theorem algebraic : @Cert.algebraic_UpGradIdeal_UpGradReferenceIdeal Cert.UpGradIdeal.Gen.facts Cert.UpGradReferenceIdeal.Gen.facts := by
  pair_intro
  · run_from Cert.UpGradIdeal.Value.run_blocks m g
  · exact (θ_run _ _ _).mono (fun r h c => ⟨(h c).1.trans ((Cert.UpGradReferenceIdeal.ref_eq _ _).trans
      ((congrArg₂ Cert.UpGradIdeal.G (hagree c).1 (hagree c).2).trans (Cert.UpGradIdeal.final2 m c).symm)), (h c).2⟩) (Cert.UpGradReferenceIdeal.Value.run (F := Ideal) m' g')

end Cert.UpGrad

namespace Cert.InGrad

theorem reference_frame : @Cert.quiescent_InGradReferenceIdeal Cert.InGradReferenceIdeal.Gen.facts := fun m g _ =>
  (θ_run _ _ _).mono (fun r h => ⟨fun c => (h c).2, sem_eq_zero_of_no_sems (by decide) r.2⟩) (Cert.InGradReferenceIdeal.Value.run (F := Ideal) m g)

theorem algebraic : @Cert.algebraic_InGradIdeal_InGradReferenceIdeal Cert.InGradIdeal.Gen.facts Cert.InGradReferenceIdeal.Gen.facts := by
  pair_intro
  · run_from Cert.InGradIdeal.Value.run_blocks m g
  · exact (θ_run _ _ _).mono (fun r h c => ⟨(h c).1.trans ((Cert.InGradReferenceIdeal.ref_eq _ _).trans
      ((congrArg₂ Cert.InGradIdeal.G (hagree c).1 (hagree c).2).trans (Cert.InGradIdeal.final2 m c).symm)), (h c).2⟩) (Cert.InGradReferenceIdeal.Value.run (F := Ideal) m' g')

end Cert.InGrad

namespace Cert.DownGrad

theorem reference_frame : @Cert.quiescent_DownGradReferenceIdeal Cert.DownGradReferenceIdeal.Gen.facts := fun m g _ =>
  (θ_run _ _ _).mono (fun r h => ⟨fun c => (h c).2, sem_eq_zero_of_no_sems (by decide) r.2⟩) (Cert.DownGradReferenceIdeal.Value.run (F := Ideal) m g)

theorem algebraic : @Cert.algebraic_DownGradIdeal_DownGradReferenceIdeal Cert.DownGradIdeal.Gen.facts Cert.DownGradReferenceIdeal.Gen.facts := by
  pair_intro
  · run_from Cert.DownGradIdeal.Value.run_blocks m g
  · exact (θ_run _ _ _).mono (fun r h c => ⟨(h c).1.trans ((Cert.DownGradReferenceIdeal.ref_eq _ _).trans
      ((congrArg₂ Cert.DownGradIdeal.G (hagree c).1 (hagree c).2).trans (Cert.DownGradIdeal.final2 m c).symm)), (h c).2⟩) (Cert.DownGradReferenceIdeal.Value.run (F := Ideal) m' g')

end Cert.DownGrad

namespace Cert.OutGrad

theorem reference_frame : @Cert.quiescent_OutGradReferenceIdeal Cert.OutGradReferenceIdeal.Gen.facts := fun m g _ =>
  (θ_run _ _ _).mono (fun r h => ⟨fun c => (h c).2, sem_eq_zero_of_no_sems (by decide) r.2⟩) (Cert.OutGradReferenceIdeal.Value.run (F := Ideal) m g)

theorem algebraic : @Cert.algebraic_OutGradIdeal_OutGradReferenceIdeal Cert.OutGradIdeal.Gen.facts Cert.OutGradReferenceIdeal.Gen.facts := by
  pair_intro
  · run_from Cert.OutGradIdeal.Value.run_blocks m g
  · exact (θ_run _ _ _).mono (fun r h c => ⟨(h c).1.trans ((Cert.OutGradReferenceIdeal.ref_eq _ _).trans
      ((congrArg₂ Cert.OutGradIdeal.G (hagree c).1 (hagree c).2).trans (Cert.OutGradIdeal.final2 m c).symm)), (h c).2⟩) (Cert.OutGradReferenceIdeal.Value.run (F := Ideal) m' g')

end Cert.OutGrad

namespace Cert.SbOutGrad

theorem reference_frame : @Cert.quiescent_SbOutGradReferenceIdeal Cert.SbOutGradReferenceIdeal.Gen.facts := fun m g _ =>
  (θ_run _ _ _).mono (fun r h => ⟨fun c => (h c).2, sem_eq_zero_of_no_sems (by decide) r.2⟩) (Cert.SbOutGradReferenceIdeal.Value.run (F := Ideal) m g)

theorem algebraic : @Cert.algebraic_SbOutGradIdeal_SbOutGradReferenceIdeal Cert.SbOutGradIdeal.Gen.facts Cert.SbOutGradReferenceIdeal.Gen.facts := by
  pair_intro
  · run_from Cert.SbOutGradIdeal.Value.run_blocks m g
  · exact (θ_run _ _ _).mono (fun r h c => ⟨(h c).1.trans ((Cert.SbOutGradReferenceIdeal.ref_eq _ _).trans
      ((congrArg₂ Cert.SbOutGradIdeal.G (hagree c).1 (hagree c).2).trans (Cert.SbOutGradIdeal.final2 m c).symm)), (h c).2⟩) (Cert.SbOutGradReferenceIdeal.Value.run (F := Ideal) m' g')

end Cert.SbOutGrad

namespace Cert.Up

theorem reference_frame : @Cert.quiescent_UpReferenceIdeal Cert.UpReferenceIdeal.Gen.facts := fun m g _ =>
  (θ_run _ _ _).mono (fun r h => ⟨fun c => (h c).2, sem_eq_zero_of_no_sems (by decide) r.2⟩) (Cert.UpReferenceIdeal.Value.run (F := Ideal) m g)

theorem algebraic : @Cert.algebraic_UpIdeal_UpReferenceIdeal Cert.UpIdeal.Gen.facts Cert.UpReferenceIdeal.Gen.facts := by
  pair_intro
  · run_from Cert.UpIdeal.Value.run_blocks m g
  · exact (θ_run _ _ _).mono (fun r h c => ⟨(h c).1.trans ((Cert.UpReferenceIdeal.ref_eq _ _).trans
      ((congrArg₂ Cert.UpIdeal.G (hagree c).1 (hagree c).2).trans (Cert.UpIdeal.final2 m c).symm)), (h c).2⟩) (Cert.UpReferenceIdeal.Value.run (F := Ideal) m' g')

end Cert.Up

namespace Cert.ProjIn

theorem reference_frame : @Cert.quiescent_ProjInReferenceIdeal Cert.ProjInReferenceIdeal.Gen.facts := fun m g _ =>
  (θ_run _ _ _).mono (fun r h => ⟨fun c => (h c).2, sem_eq_zero_of_no_sems (by decide) r.2⟩) (Cert.ProjInReferenceIdeal.Value.run (F := Ideal) m g)

theorem algebraic : @Cert.algebraic_ProjInIdeal_ProjInReferenceIdeal Cert.ProjInIdeal.Gen.facts Cert.ProjInReferenceIdeal.Gen.facts := by
  pair_intro
  · run_from Cert.ProjInIdeal.Value.run_blocks m g
  · exact (θ_run _ _ _).mono (fun r h c => ⟨(h c).1.trans ((Cert.ProjInReferenceIdeal.ref_eq _ _ _).trans
      ((congr (congrArg₂ Cert.ProjInIdeal.G (hagree c).1 (hagree c).2.1) (hagree c).2.2).trans (Cert.ProjInIdeal.final3 m c).symm)), (h c).2⟩) (Cert.ProjInReferenceIdeal.Value.run (F := Ideal) m' g')

end Cert.ProjIn

namespace Cert.Down

theorem reference_frame : @Cert.quiescent_DownReferenceIdeal Cert.DownReferenceIdeal.Gen.facts := fun m g _ =>
  (θ_run _ _ _).mono (fun r h => ⟨fun c => (h c).2, sem_eq_zero_of_no_sems (by decide) r.2⟩) (Cert.DownReferenceIdeal.Value.run (F := Ideal) m g)

theorem algebraic : @Cert.algebraic_DownIdeal_DownReferenceIdeal Cert.DownIdeal.Gen.facts Cert.DownReferenceIdeal.Gen.facts := by
  pair_intro
  · run_from Cert.DownIdeal.Value.run_blocks m g
  · exact (θ_run _ _ _).mono (fun r h c => ⟨(h c).1.trans ((Cert.DownReferenceIdeal.ref_eq _ _).trans
      ((congrArg₂ (fun X Y => Cert.DownIdeal.G X (shapeCast Cert.DownReferenceIdeal.S5632x2048 Y Cert.DownReferenceIdeal.Gen.shapeCasts_S4x1408x2048_S5632x2048)) (hagree c).1 (hagree c).2).trans (Cert.DownIdeal.final2 m c).symm)), (h c).2⟩) (Cert.DownReferenceIdeal.Value.run (F := Ideal) m' g')

end Cert.Down

namespace Cert.Out

theorem reference_frame : @Cert.quiescent_OutReferenceIdeal Cert.OutReferenceIdeal.Gen.facts := fun m g _ =>
  (θ_run _ _ _).mono (fun r h => ⟨fun c => (h c).2, sem_eq_zero_of_no_sems (by decide) r.2⟩) (Cert.OutReferenceIdeal.Value.run (F := Ideal) m g)

theorem algebraic : @Cert.algebraic_OutIdeal_OutReferenceIdeal Cert.OutIdeal.Gen.facts Cert.OutReferenceIdeal.Gen.facts := by
  pair_intro
  · run_from Cert.OutIdeal.Value.run_blocks m g
  · exact (θ_run _ _ _).mono (fun r h c => ⟨(h c).1.trans ((Cert.OutReferenceIdeal.ref_eq _ _).trans
      ((congrArg₂ (fun X Y => Cert.OutIdeal.G X (shapeCast Cert.OutReferenceIdeal.S2048x2048 Y Cert.OutReferenceIdeal.Gen.shapeCasts_S4x512x2048_S2048x2048)) (hagree c).1 (hagree c).2).trans (Cert.OutIdeal.final2 m c).symm)), (h c).2⟩) (Cert.OutReferenceIdeal.Value.run (F := Ideal) m' g')

end Cert.Out

namespace Cert.SbOut

theorem reference_frame : @Cert.quiescent_SbOutReferenceIdeal Cert.SbOutReferenceIdeal.Gen.facts := fun m g _ =>
  (θ_run _ _ _).mono (fun r h => ⟨fun c => (h c).2, sem_eq_zero_of_no_sems (by decide) r.2⟩) (Cert.SbOutReferenceIdeal.Value.run (F := Ideal) m g)

theorem algebraic : @Cert.algebraic_SbOutIdeal_SbOutReferenceIdeal Cert.SbOutIdeal.Gen.facts Cert.SbOutReferenceIdeal.Gen.facts := by
  pair_intro
  · run_from Cert.SbOutIdeal.Value.run_blocks m g
  · exact (θ_run _ _ _).mono (fun r h c => ⟨(h c).1.trans ((Cert.SbOutReferenceIdeal.ref_eq _ _).trans
      ((congrArg₂ Cert.SbOutIdeal.G (hagree c).1 (hagree c).2).trans (Cert.SbOutIdeal.final2 m c).symm)), (h c).2⟩) (Cert.SbOutReferenceIdeal.Value.run (F := Ideal) m' g')

end Cert.SbOut

namespace Cert.DownBack

theorem reference_frame : @Cert.quiescent_DownBackReferenceIdeal Cert.DownBackReferenceIdeal.Gen.facts := fun m g _ =>
  (θ_run _ _ _).mono (fun r h => ⟨fun c => (h c).2, sem_eq_zero_of_no_sems (by decide) r.2⟩) (Cert.DownBackReferenceIdeal.Value.run (F := Ideal) m g)

theorem algebraic : @Cert.algebraic_DownBackIdeal_DownBackReferenceIdeal Cert.DownBackIdeal.Gen.facts Cert.DownBackReferenceIdeal.Gen.facts := by
  pair_intro
  · run_from Cert.DownBackIdeal.Value.run_blocks m g
  · exact (θ_run _ _ _).mono (fun r h c => ⟨(h c).1.trans ((Cert.DownBackReferenceIdeal.ref_eq _ _).trans
      ((congrArg₂ (fun X Y => Cert.DownBackIdeal.G X (shapeCast Cert.DownBackReferenceIdeal.S5632x2048 Y Cert.DownBackReferenceIdeal.Gen.shapeCasts_S4x1408x2048_S5632x2048)) (hagree c).1 (hagree c).2).trans (Cert.DownBackIdeal.final2 m c).symm)), (h c).2⟩) (Cert.DownBackReferenceIdeal.Value.run (F := Ideal) m' g')

end Cert.DownBack

namespace Cert.OutBack

theorem reference_frame : @Cert.quiescent_OutBackReferenceIdeal Cert.OutBackReferenceIdeal.Gen.facts := fun m g _ =>
  (θ_run _ _ _).mono (fun r h => ⟨fun c => (h c).2, sem_eq_zero_of_no_sems (by decide) r.2⟩) (Cert.OutBackReferenceIdeal.Value.run (F := Ideal) m g)

theorem algebraic : @Cert.algebraic_OutBackIdeal_OutBackReferenceIdeal Cert.OutBackIdeal.Gen.facts Cert.OutBackReferenceIdeal.Gen.facts := by
  pair_intro
  · run_from Cert.OutBackIdeal.Value.run_blocks m g
  · exact (θ_run _ _ _).mono (fun r h c => ⟨(h c).1.trans ((Cert.OutBackReferenceIdeal.ref_eq _ _).trans
      ((congrArg₂ (fun X Y => Cert.OutBackIdeal.G X (shapeCast Cert.OutBackReferenceIdeal.S2048x2048 Y Cert.OutBackReferenceIdeal.Gen.shapeCasts_S4x512x2048_S2048x2048)) (hagree c).1 (hagree c).2).trans (Cert.OutBackIdeal.final2 m c).symm)), (h c).2⟩) (Cert.OutBackReferenceIdeal.Value.run (F := Ideal) m' g')

end Cert.OutBack

namespace Cert.SbOutBack

theorem reference_frame : @Cert.quiescent_SbOutBackReferenceIdeal Cert.SbOutBackReferenceIdeal.Gen.facts := fun m g _ =>
  (θ_run _ _ _).mono (fun r h => ⟨fun c => (h c).2, sem_eq_zero_of_no_sems (by decide) r.2⟩) (Cert.SbOutBackReferenceIdeal.Value.run (F := Ideal) m g)

theorem algebraic : @Cert.algebraic_SbOutBackIdeal_SbOutBackReferenceIdeal Cert.SbOutBackIdeal.Gen.facts Cert.SbOutBackReferenceIdeal.Gen.facts := by
  pair_intro
  · run_from Cert.SbOutBackIdeal.Value.run_blocks m g
  · exact (θ_run _ _ _).mono (fun r h c => ⟨(h c).1.trans ((Cert.SbOutBackReferenceIdeal.ref_eq _ _).trans
      ((congrArg₂ Cert.SbOutBackIdeal.G (hagree c).1 (hagree c).2).trans (Cert.SbOutBackIdeal.final2 m c).symm)), (h c).2⟩) (Cert.SbOutBackReferenceIdeal.Value.run (F := Ideal) m' g')

end Cert.SbOutBack

namespace Cert.UpBack

theorem reference_frame : @Cert.quiescent_UpBackReferenceIdeal Cert.UpBackReferenceIdeal.Gen.facts := fun m g _ =>
  (θ_run _ _ _).mono (fun r h => ⟨fun c => (h c).2, sem_eq_zero_of_no_sems (by decide) r.2⟩) (Cert.UpBackReferenceIdeal.Value.run (F := Ideal) m g)

theorem algebraic : @Cert.algebraic_UpBackIdeal_UpBackReferenceIdeal Cert.UpBackIdeal.Gen.facts Cert.UpBackReferenceIdeal.Gen.facts := by
  pair_intro
  · run_from Cert.UpBackIdeal.Value.run_blocks m g
  · exact (θ_run _ _ _).mono (fun r h c => ⟨(h c).1.trans ((Cert.UpBackReferenceIdeal.ref_eq _ _ _).trans
      ((congr (congrArg₂ Cert.UpBackIdeal.G (hagree c).1 (hagree c).2.1) (hagree c).2.2).trans (Cert.UpBackIdeal.final3 m c).symm)), (h c).2⟩) (Cert.UpBackReferenceIdeal.Value.run (F := Ideal) m' g')

end Cert.UpBack

namespace Cert.InBack

theorem reference_frame : @Cert.quiescent_InBackReferenceIdeal Cert.InBackReferenceIdeal.Gen.facts := fun m g _ =>
  (θ_run _ _ _).mono (fun r h => ⟨fun c => (h c).2, sem_eq_zero_of_no_sems (by decide) r.2⟩) (Cert.InBackReferenceIdeal.Value.run (F := Ideal) m g)

theorem algebraic : @Cert.algebraic_InBackIdeal_InBackReferenceIdeal Cert.InBackIdeal.Gen.facts Cert.InBackReferenceIdeal.Gen.facts := by
  pair_intro
  · run_from Cert.InBackIdeal.Value.run_blocks m g
  · exact (θ_run _ _ _).mono (fun r h c => ⟨(h c).1.trans ((Cert.InBackReferenceIdeal.ref_eq _ _ _).trans
      ((congr (congrArg₂ Cert.InBackIdeal.G (hagree c).1 (hagree c).2.1) (hagree c).2.2).trans (Cert.InBackIdeal.final3 m c).symm)), (h c).2⟩) (Cert.InBackReferenceIdeal.Value.run (F := Ideal) m' g')

end Cert.InBack

namespace Cert.GluIn

theorem reference_frame : @Cert.quiescent_GluInReferenceIdeal Cert.GluInReferenceIdeal.Gen.facts := fun m g _ =>
  (θ_run _ _ _).mono (fun r h => ⟨fun c => (h c).2, sem_eq_zero_of_no_sems (by decide) r.2⟩) (Cert.GluInReferenceIdeal.Value.run (F := Ideal) m g)

theorem algebraic : @Cert.algebraic_GluInIdeal_GluInReferenceIdeal Cert.GluInIdeal.Gen.facts Cert.GluInReferenceIdeal.Gen.facts := by
  pair_intro
  · run_from Cert.GluInIdeal.Value.run_blocks m g
  · exact (θ_run _ _ _).mono (fun r h c => ⟨(h c).1.trans ((Cert.GluInReferenceIdeal.ref_eq _ _).trans
      ((congrArg₂ Cert.GluInIdeal.G (hagree c).1 (hagree c).2).trans (Cert.GluInIdeal.final2 m c).symm)), (h c).2⟩) (Cert.GluInReferenceIdeal.Value.run (F := Ideal) m' g')

end Cert.GluIn

namespace Cert.SsmOut

theorem reference_frame : @Cert.quiescent_SsmOutReferenceIdeal Cert.SsmOutReferenceIdeal.Gen.facts := fun m g _ =>
  (θ_run _ _ _).mono (fun r h => ⟨fun c => (h c).2, sem_eq_zero_of_no_sems (by decide) r.2⟩) (Cert.SsmOutReferenceIdeal.Value.run (F := Ideal) m g)

theorem algebraic : @Cert.algebraic_SsmOutIdeal_SsmOutReferenceIdeal Cert.SsmOutIdeal.Gen.facts Cert.SsmOutReferenceIdeal.Gen.facts := by
  pair_intro
  · run_from Cert.SsmOutIdeal.Value.run_blocks m g
  · exact (θ_run _ _ _).mono (fun r h c => ⟨(h c).1.trans ((Cert.SsmOutReferenceIdeal.ref_eq _ _).trans
      ((congrArg₂ Cert.SsmOutIdeal.G (hagree c).1 (hagree c).2).trans (Cert.SsmOutIdeal.final2 m c).symm)), (h c).2⟩) (Cert.SsmOutReferenceIdeal.Value.run (F := Ideal) m' g')

end Cert.SsmOut

namespace Cert.MemKv

theorem reference_frame : @Cert.quiescent_MemKvReferenceIdeal Cert.MemKvReferenceIdeal.Gen.facts := fun m g _ =>
  (θ_run _ _ _).mono (fun r h => ⟨fun c => (h c).2, sem_eq_zero_of_no_sems (by decide) r.2⟩) (Cert.MemKvReferenceIdeal.Value.run (F := Ideal) m g)

theorem algebraic : @Cert.algebraic_MemKvIdeal_MemKvReferenceIdeal Cert.MemKvIdeal.Gen.facts Cert.MemKvReferenceIdeal.Gen.facts := by
  pair_intro
  · run_from Cert.MemKvIdeal.Value.run_blocks m g
  · exact (θ_run _ _ _).mono (fun r h c => ⟨(h c).1.trans ((Cert.MemKvReferenceIdeal.ref_eq _ _).trans
      ((congrArg₂ (fun X Y => Cert.MemKvIdeal.G X (shapeCast Cert.MemKvReferenceIdeal.S2048x1024 Y Cert.MemKvReferenceIdeal.Gen.shapeCasts_S4x512x1024_S2048x1024)) (hagree c).1 (hagree c).2).trans (Cert.MemKvIdeal.final2 m c).symm)), (h c).2⟩) (Cert.MemKvReferenceIdeal.Value.run (F := Ideal) m' g')

end Cert.MemKv

namespace Cert.SsmOutBack

theorem reference_frame : @Cert.quiescent_SsmOutBackReferenceIdeal Cert.SsmOutBackReferenceIdeal.Gen.facts := fun m g _ =>
  (θ_run _ _ _).mono (fun r h => ⟨fun c => (h c).2, sem_eq_zero_of_no_sems (by decide) r.2⟩) (Cert.SsmOutBackReferenceIdeal.Value.run (F := Ideal) m g)

theorem algebraic : @Cert.algebraic_SsmOutBackIdeal_SsmOutBackReferenceIdeal Cert.SsmOutBackIdeal.Gen.facts Cert.SsmOutBackReferenceIdeal.Gen.facts := by
  pair_intro
  · run_from Cert.SsmOutBackIdeal.Value.run_blocks m g
  · exact (θ_run _ _ _).mono (fun r h c => ⟨(h c).1.trans ((Cert.SsmOutBackReferenceIdeal.ref_eq _ _).trans
      ((congrArg₂ Cert.SsmOutBackIdeal.G (hagree c).1 (hagree c).2).trans (Cert.SsmOutBackIdeal.final2 m c).symm)), (h c).2⟩) (Cert.SsmOutBackReferenceIdeal.Value.run (F := Ideal) m' g')

end Cert.SsmOutBack

namespace Cert.MemOutBack

theorem reference_frame : @Cert.quiescent_MemOutBackReferenceIdeal Cert.MemOutBackReferenceIdeal.Gen.facts := fun m g _ =>
  (θ_run _ _ _).mono (fun r h => ⟨fun c => (h c).2, sem_eq_zero_of_no_sems (by decide) r.2⟩) (Cert.MemOutBackReferenceIdeal.Value.run (F := Ideal) m g)

theorem algebraic : @Cert.algebraic_MemOutBackIdeal_MemOutBackReferenceIdeal Cert.MemOutBackIdeal.Gen.facts Cert.MemOutBackReferenceIdeal.Gen.facts := by
  pair_intro
  · run_from Cert.MemOutBackIdeal.Value.run_blocks m g
  · exact (θ_run _ _ _).mono (fun r h c => ⟨(h c).1.trans ((Cert.MemOutBackReferenceIdeal.ref_eq _ _).trans
      ((congrArg₂ Cert.MemOutBackIdeal.G (hagree c).1 (hagree c).2).trans (Cert.MemOutBackIdeal.final2 m c).symm)), (h c).2⟩) (Cert.MemOutBackReferenceIdeal.Value.run (F := Ideal) m' g')

end Cert.MemOutBack

namespace Cert.GluInBack

theorem reference_frame : @Cert.quiescent_GluInBackReferenceIdeal Cert.GluInBackReferenceIdeal.Gen.facts := fun m g _ =>
  (θ_run _ _ _).mono (fun r h => ⟨fun c => (h c).2, sem_eq_zero_of_no_sems (by decide) r.2⟩) (Cert.GluInBackReferenceIdeal.Value.run (F := Ideal) m g)

theorem algebraic : @Cert.algebraic_GluInBackIdeal_GluInBackReferenceIdeal Cert.GluInBackIdeal.Gen.facts Cert.GluInBackReferenceIdeal.Gen.facts := by
  pair_intro
  · run_from Cert.GluInBackIdeal.Value.run_blocks m g
  · exact (θ_run _ _ _).mono (fun r h c => ⟨(h c).1.trans ((Cert.GluInBackReferenceIdeal.ref_eq _ _).trans
      ((congrArg₂ Cert.GluInBackIdeal.G (hagree c).1 (hagree c).2).trans (Cert.GluInBackIdeal.final2 m c).symm)), (h c).2⟩) (Cert.GluInBackReferenceIdeal.Value.run (F := Ideal) m' g')

end Cert.GluInBack

namespace Cert.SsmOutGrad

theorem reference_frame : @Cert.quiescent_SsmOutGradReferenceIdeal Cert.SsmOutGradReferenceIdeal.Gen.facts := fun m g _ =>
  (θ_run _ _ _).mono (fun r h => ⟨fun c => (h c).2, sem_eq_zero_of_no_sems (by decide) r.2⟩) (Cert.SsmOutGradReferenceIdeal.Value.run (F := Ideal) m g)

theorem algebraic : @Cert.algebraic_SsmOutGradIdeal_SsmOutGradReferenceIdeal Cert.SsmOutGradIdeal.Gen.facts Cert.SsmOutGradReferenceIdeal.Gen.facts := by
  pair_intro
  · run_from Cert.SsmOutGradIdeal.Value.run_blocks m g
  · exact (θ_run _ _ _).mono (fun r h c => ⟨(h c).1.trans ((Cert.SsmOutGradReferenceIdeal.ref_eq _ _).trans
      ((congrArg₂ Cert.SsmOutGradIdeal.G (hagree c).1 (hagree c).2).trans (Cert.SsmOutGradIdeal.final2 m c).symm)), (h c).2⟩) (Cert.SsmOutGradReferenceIdeal.Value.run (F := Ideal) m' g')

end Cert.SsmOutGrad

namespace Cert.GluInGrad

theorem reference_frame : @Cert.quiescent_GluInGradReferenceIdeal Cert.GluInGradReferenceIdeal.Gen.facts := fun m g _ =>
  (θ_run _ _ _).mono (fun r h => ⟨fun c => (h c).2, sem_eq_zero_of_no_sems (by decide) r.2⟩) (Cert.GluInGradReferenceIdeal.Value.run (F := Ideal) m g)

theorem algebraic : @Cert.algebraic_GluInGradIdeal_GluInGradReferenceIdeal Cert.GluInGradIdeal.Gen.facts Cert.GluInGradReferenceIdeal.Gen.facts := by
  pair_intro
  · run_from Cert.GluInGradIdeal.Value.run_blocks m g
  · exact (θ_run _ _ _).mono (fun r h c => ⟨(h c).1.trans ((Cert.GluInGradReferenceIdeal.ref_eq _ _).trans
      ((congrArg₂ Cert.GluInGradIdeal.G (hagree c).1 (hagree c).2).trans (Cert.GluInGradIdeal.final2 m c).symm)), (h c).2⟩) (Cert.GluInGradReferenceIdeal.Value.run (F := Ideal) m' g')

end Cert.GluInGrad

namespace Cert.BGrad

theorem reference_frame : @Cert.quiescent_BGradReferenceIdeal Cert.BGradReferenceIdeal.Gen.facts := fun m g _ =>
  (θ_run _ _ _).mono (fun r h => ⟨fun c => (h c).2, sem_eq_zero_of_no_sems (by decide) r.2⟩) (Cert.BGradReferenceIdeal.Value.run (F := Ideal) m g)

theorem algebraic : @Cert.algebraic_BGradIdeal_BGradReferenceIdeal Cert.BGradIdeal.Gen.facts Cert.BGradReferenceIdeal.Gen.facts := by
  pair_intro
  · run_from Cert.BGradIdeal.Value.run_blocks m g
  · exact (θ_run _ _ _).mono (fun r h c => ⟨(h c).1.trans ((Cert.BGradReferenceIdeal.ref_eq _ _).trans
      ((congrArg₂ Cert.BGradIdeal.G (hagree c).1 (hagree c).2).trans (Cert.BGradIdeal.final2 m c).symm)), (h c).2⟩) (Cert.BGradReferenceIdeal.Value.run (F := Ideal) m' g')

end Cert.BGrad

namespace Cert.CGrad

theorem reference_frame : @Cert.quiescent_CGradReferenceIdeal Cert.CGradReferenceIdeal.Gen.facts := fun m g _ =>
  (θ_run _ _ _).mono (fun r h => ⟨fun c => (h c).2, sem_eq_zero_of_no_sems (by decide) r.2⟩) (Cert.CGradReferenceIdeal.Value.run (F := Ideal) m g)

theorem algebraic : @Cert.algebraic_CGradIdeal_CGradReferenceIdeal Cert.CGradIdeal.Gen.facts Cert.CGradReferenceIdeal.Gen.facts := by
  pair_intro
  · run_from Cert.CGradIdeal.Value.run_blocks m g
  · exact (θ_run _ _ _).mono (fun r h c => ⟨(h c).1.trans ((Cert.CGradReferenceIdeal.ref_eq _ _).trans
      ((congrArg₂ Cert.CGradIdeal.G (hagree c).1 (hagree c).2).trans (Cert.CGradIdeal.final2 m c).symm)), (h c).2⟩) (Cert.CGradReferenceIdeal.Value.run (F := Ideal) m' g')

end Cert.CGrad

namespace Cert.MemKvGrad

theorem reference_frame : @Cert.quiescent_MemKvGradReferenceIdeal Cert.MemKvGradReferenceIdeal.Gen.facts := fun m g _ =>
  (θ_run _ _ _).mono (fun r h => ⟨fun c => (h c).2, sem_eq_zero_of_no_sems (by decide) r.2⟩) (Cert.MemKvGradReferenceIdeal.Value.run (F := Ideal) m g)

theorem algebraic : @Cert.algebraic_MemKvGradIdeal_MemKvGradReferenceIdeal Cert.MemKvGradIdeal.Gen.facts Cert.MemKvGradReferenceIdeal.Gen.facts := by
  pair_intro
  · run_from Cert.MemKvGradIdeal.Value.run_blocks m g
  · exact (θ_run _ _ _).mono (fun r h c => ⟨(h c).1.trans ((Cert.MemKvGradReferenceIdeal.ref_eq _ _).trans
      ((congrArg₂ Cert.MemKvGradIdeal.G (hagree c).1 (hagree c).2).trans (Cert.MemKvGradIdeal.final2 m c).symm)), (h c).2⟩) (Cert.MemKvGradReferenceIdeal.Value.run (F := Ideal) m' g')

end Cert.MemKvGrad

end
-- ==== Proof.Between.MergeBack.lean ====
/- The backward pass of the gated sum of the three branches, element by element. -/
module

public import proofs.«01_k».proof.Proof.Gen.MergeBackIdeal.Value
public import proofs.«01_k».proof.Proof.Gen.MergeBackReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.MergeBackIdeal

open Cert.MergeBackIdeal.Gen

/-- Branch 0's cotangent. -/
def G0 (X : FVec Ideal S4096x2048 .f32) (P : FVec Ideal S4096x10240 .f32) : FVec Ideal S4096x2048 .bf16 := fun y =>
  Between.gated (X y) (P (ix2 (y 0) ⟨4096 + (y 1).val, by
    have h1 : (y 1).val < 2048 := (y 1).isLt
    omega⟩))

/-- The cotangent of branch 0's gate's logit. -/
def H0 (X : FVec Ideal S4096x2048 .f32) (P : FVec Ideal S4096x10240 .f32) (A : FVec Ideal S4096x2048 .f32) : FVec Ideal S4096x2048 .f32 := fun y =>
  Between.slope (X y) (A y) (P (ix2 (y 0) ⟨4096 + (y 1).val, by
    have h1 : (y 1).val < 2048 := (y 1).isLt
    omega⟩))

/-- Branch 1's cotangent. -/
def G1 (X : FVec Ideal S4096x2048 .f32) (P : FVec Ideal S4096x10240 .f32) : FVec Ideal S4096x2048 .bf16 := fun y =>
  Between.gated (X y) (P (ix2 (y 0) ⟨6144 + (y 1).val, by
    have h1 : (y 1).val < 2048 := (y 1).isLt
    omega⟩))

/-- The cotangent of branch 1's gate's logit. -/
def H1 (X : FVec Ideal S4096x2048 .f32) (P : FVec Ideal S4096x10240 .f32) (A : FVec Ideal S4096x2048 .f32) : FVec Ideal S4096x2048 .f32 := fun y =>
  Between.slope (X y) (A y) (P (ix2 (y 0) ⟨6144 + (y 1).val, by
    have h1 : (y 1).val < 2048 := (y 1).isLt
    omega⟩))

/-- Branch 2's cotangent. -/
def G2 (X : FVec Ideal S4096x2048 .f32) (P : FVec Ideal S4096x10240 .f32) : FVec Ideal S4096x2048 .bf16 := fun y =>
  Between.gated (X y) (P (ix2 (y 0) ⟨8192 + (y 1).val, by
    have h1 : (y 1).val < 2048 := (y 1).isLt
    omega⟩))

/-- The cotangent of branch 2's gate's logit. -/
def H2 (X : FVec Ideal S4096x2048 .f32) (P : FVec Ideal S4096x10240 .f32) (A : FVec Ideal S4096x2048 .f32) : FVec Ideal S4096x2048 .f32 := fun y =>
  Between.slope (X y) (A y) (P (ix2 (y 0) ⟨8192 + (y 1).val, by
    have h1 : (y 1).val < 2048 := (y 1).isLt
    omega⟩))

theorem pay3_at (x l : FVec Ideal S256x2048 .f32) (i : S256x2048.Idx) : k0_pay3 (F := Ideal) x l i = Between.gated (x i) (l i) := by
  pointwise [k0_pay3, k0_pay2, Between.gated]

theorem pay6_at (x l : FVec Ideal S256x2048 .f32) (i : S256x2048.Idx) : k0_pay6 (F := Ideal) x l i = Between.gated (x i) (l i) := by
  pointwise [k0_pay6, k0_pay5, Between.gated]

theorem pay9_at (x l : FVec Ideal S256x2048 .f32) (i : S256x2048.Idx) : k0_pay9 (F := Ideal) x l i = Between.gated (x i) (l i) := by
  pointwise [k0_pay9, k0_pay8, Between.gated]

theorem pay4_at (x l a : FVec Ideal S256x2048 .f32) (i : S256x2048.Idx) : k0_pay4 (F := Ideal) x l a i = Between.slope (x i) (a i) (l i) := by
  pointwise [k0_pay4, k0_pay2, Between.slope]

theorem pay7_at (x l a : FVec Ideal S256x2048 .f32) (i : S256x2048.Idx) : k0_pay7 (F := Ideal) x l a i = Between.slope (x i) (a i) (l i) := by
  pointwise [k0_pay7, k0_pay5, Between.slope]

theorem pay1_at (x l a : FVec Ideal S256x2048 .f32) (i : S256x2048.Idx) : k0_pay1 (F := Ideal) x (k0_pay8 l) a i = Between.slope (x i) (a i) (l i) := by
  pointwise [k0_pay1, k0_pay8, Between.slope]

variable (m : (ℓ : Loc nD τ sig) → Buf (Elt Ideal) ℓ) (c : Dev nD)

abbrev argX : FVec Ideal S4096x2048 .f32 := m ((c : Thread nD τ).loc main_arg0)
abbrev argP : FVec Ideal S4096x10240 .f32 := m ((c : Thread nD τ).loc main_arg1)
abbrev argA0 : FVec Ideal S4096x2048 .f32 := m ((c : Thread nD τ).loc main_arg2)
abbrev argA1 : FVec Ideal S4096x2048 .f32 := m ((c : Thread nD τ).loc main_arg3)
abbrev argA2 : FVec Ideal S4096x2048 .f32 := m ((c : Thread nD τ).loc main_arg4)

theorem idx : ∀ t : Fin cfg0.N, win0_0.index t = ![t.val, 0] ∧ win0_1.index t = ![t.val, 2] ∧ win0_2.index t = ![t.val, 3] ∧ win0_3.index t = ![t.val, 4] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

theorem point_lt (t : Fin cfg0.N) : t.val < 16 := lt_of_lt_of_eq t.isLt (show cfg0.N = 16 from N_0)

theorem final7 : (dats m 0 c).arrAt 7 cfg0.N = G0 (argX m c) (argP m c) := by
  refine (dats m 0 c).arrAt_eq_of_covers 7 _ (by decide +kernel) fun t hf y => ?_
  have ht := point_lt t
  have h0 : (y 0).val < 256 := (y 0).isLt
  have h1 : (y 1).val < 2048 := (y 1).isLt
  have e0 : ((((cfg0.win 7).blk t).view.emb y) 0).val = 256 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay3_at _ _ y).trans (congrArg₂ Between.gated ?_ ?_)
  · rw [View.ld_unit_zero (by decide)]
    blk_ext [iblk, V, idx t, e0, e1] <;> omega
  · rw [View.ld_unit_zero (by decide)]
    blk_ext [iblk, V, idx t, e0, e1] <;> omega

theorem final10 : (dats m 0 c).arrAt 10 cfg0.N = H0 (argX m c) (argP m c) (argA0 m c) := by
  refine (dats m 0 c).arrAt_eq_of_covers 10 _ (by decide +kernel) fun t hf y => ?_
  have ht := point_lt t
  have h0 : (y 0).val < 256 := (y 0).isLt
  have h1 : (y 1).val < 2048 := (y 1).isLt
  have e0 : ((((cfg0.win 10).blk t).view.emb y) 0).val = 256 * t.val + (y 0).val := by blk_simp [idx t] <;> omega
  have e1 : ((((cfg0.win 10).blk t).view.emb y) 1).val = (y 1).val := by blk_simp [idx t] <;> omega
  blk_simp
  rw [after0_10]
  unfold out0_10
  canon_tiles y h
  refine (pay4_at _ _ _ y).trans (Between.congr3 Between.slope ?_ ?_ ?_)
  · rw [View.ld_unit_zero (by decide)]
    blk_ext [iblk, V, idx t, e0, e1] <;> omega
  · rw [View.ld_unit_zero (by decide)]
    blk_ext [iblk, V, idx t, e0, e1] <;> omega
  · rw [View.ld_unit_zero (by decide)]
    blk_ext [iblk, V, idx t, e0, e1] <;> omega

theorem final8 : (dats m 0 c).arrAt 8 cfg0.N = G1 (argX m c) (argP m c) := by
  refine (dats m 0 c).arrAt_eq_of_covers 8 _ (by decide +kernel) fun t hf y => ?_
  have ht := point_lt t
  have h0 : (y 0).val < 256 := (y 0).isLt
  have h1 : (y 1).val < 2048 := (y 1).isLt
  have e0 : ((((cfg0.win 8).blk t).view.emb y) 0).val = 256 * t.val + (y 0).val := by blk_simp [idx t] <;> omega
  have e1 : ((((cfg0.win 8).blk t).view.emb y) 1).val = (y 1).val := by blk_simp [idx t] <;> omega
  blk_simp
  rw [after0_8]
  unfold out0_8
  canon_tiles y h
  refine (pay6_at _ _ y).trans (congrArg₂ Between.gated ?_ ?_)
  · rw [View.ld_unit_zero (by decide)]
    blk_ext [iblk, V, idx t, e0, e1] <;> omega
  · rw [View.ld_unit_zero (by decide)]
    blk_ext [iblk, V, idx t, e0, e1] <;> omega

theorem final11 : (dats m 0 c).arrAt 11 cfg0.N = H1 (argX m c) (argP m c) (argA1 m c) := by
  refine (dats m 0 c).arrAt_eq_of_covers 11 _ (by decide +kernel) fun t hf y => ?_
  have ht := point_lt t
  have h0 : (y 0).val < 256 := (y 0).isLt
  have h1 : (y 1).val < 2048 := (y 1).isLt
  have e0 : ((((cfg0.win 11).blk t).view.emb y) 0).val = 256 * t.val + (y 0).val := by blk_simp [idx t] <;> omega
  have e1 : ((((cfg0.win 11).blk t).view.emb y) 1).val = (y 1).val := by blk_simp [idx t] <;> omega
  blk_simp
  rw [after0_11]
  unfold out0_11
  canon_tiles y h
  refine (pay7_at _ _ _ y).trans (Between.congr3 Between.slope ?_ ?_ ?_)
  · rw [View.ld_unit_zero (by decide)]
    blk_ext [iblk, V, idx t, e0, e1] <;> omega
  · rw [View.ld_unit_zero (by decide)]
    blk_ext [iblk, V, idx t, e0, e1] <;> omega
  · rw [View.ld_unit_zero (by decide)]
    blk_ext [iblk, V, idx t, e0, e1] <;> omega

theorem final9 : (dats m 0 c).arrAt 9 cfg0.N = G2 (argX m c) (argP m c) := by
  refine (dats m 0 c).arrAt_eq_of_covers 9 _ (by decide +kernel) fun t hf y => ?_
  have ht := point_lt t
  have h0 : (y 0).val < 256 := (y 0).isLt
  have h1 : (y 1).val < 2048 := (y 1).isLt
  have e0 : ((((cfg0.win 9).blk t).view.emb y) 0).val = 256 * t.val + (y 0).val := by blk_simp [idx t] <;> omega
  have e1 : ((((cfg0.win 9).blk t).view.emb y) 1).val = (y 1).val := by blk_simp [idx t] <;> omega
  blk_simp
  rw [after0_9]
  unfold out0_9
  canon_tiles y h
  refine (pay9_at _ _ y).trans (congrArg₂ Between.gated ?_ ?_)
  · rw [View.ld_unit_zero (by decide)]
    blk_ext [iblk, V, idx t, e0, e1] <;> omega
  · rw [View.ld_unit_zero (by decide)]
    blk_ext [iblk, V, idx t, e0, e1] <;> omega

theorem final12 : (dats m 0 c).arrAt 12 cfg0.N = H2 (argX m c) (argP m c) (argA2 m c) := by
  refine (dats m 0 c).arrAt_eq_of_covers 12 _ (by decide +kernel) fun t hf y => ?_
  have ht := point_lt t
  have h0 : (y 0).val < 256 := (y 0).isLt
  have h1 : (y 1).val < 2048 := (y 1).isLt
  have e0 : ((((cfg0.win 12).blk t).view.emb y) 0).val = 256 * t.val + (y 0).val := by blk_simp [idx t] <;> omega
  have e1 : ((((cfg0.win 12).blk t).view.emb y) 1).val = (y 1).val := by blk_simp [idx t] <;> omega
  blk_simp
  rw [after0_12]
  unfold out0_12
  canon_tiles y h
  refine (pay1_at _ _ _ y).trans (Between.congr3 Between.slope ?_ ?_ ?_)
  · rw [View.ld_unit_zero (by decide)]
    blk_ext [iblk, V, idx t, e0, e1] <;> omega
  · rw [View.ld_unit_zero (by decide)]
    blk_ext [iblk, V, idx t, e0, e1] <;> omega
  · rw [View.ld_unit_zero (by decide)]
    blk_ext [iblk, V, idx t, e0, e1] <;> omega

end Cert.MergeBackIdeal

namespace Cert.MergeBackReferenceIdeal

open Cert.MergeBackReferenceIdeal.Gen

/-- The reference computes the same functions of its arguments. -/
theorem ref_eq0 (X : FVec Ideal S4096x2048 .f32) (P : FVec Ideal S4096x10240 .f32) :
    truncf .bf16 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 4096] P slices_S4096x10240_S4096x2048_0_4096))))) (shapeCast S4096x2048 X shapeCasts_S4096x2048_S4096x2048)) bitsLt_bf16_f32
      = Cert.MergeBackIdeal.G0 X P := by
  funext y
  idx_vars y
  pointwise [Cert.MergeBackIdeal.G0, Between.gated, Ideal.logistic]
  exact mul_comm _ _

/-- Likewise the logits' cotangents. -/
theorem ref_eq3 (X : FVec Ideal S4096x2048 .f32) (P : FVec Ideal S4096x10240 .f32) (A0 : FVec Ideal S4096x2048 .f32) :
    mulf (mulf (shapeCast S4096x2048 X shapeCasts_S4096x2048_S4096x2048) A0) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 4096] P slices_S4096x10240_S4096x2048_0_4096))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 4096] P slices_S4096x10240_S4096x2048_0_4096)))))))
      = Cert.MergeBackIdeal.H0 X P A0 := by
  funext y
  idx_vars y
  pointwise [Cert.MergeBackIdeal.H0, Between.slope, Ideal.logistic]
  exact (mul_assoc _ _ _).symm

/-- The next branch. -/
theorem ref_eq1 (X : FVec Ideal S4096x2048 .f32) (P : FVec Ideal S4096x10240 .f32) :
    truncf .bf16 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 6144] P slices_S4096x10240_S4096x2048_0_6144))))) (shapeCast S4096x2048 X shapeCasts_S4096x2048_S4096x2048)) bitsLt_bf16_f32
      = Cert.MergeBackIdeal.G1 X P := by
  funext y
  idx_vars y
  pointwise [Cert.MergeBackIdeal.G1, Between.gated, Ideal.logistic]
  exact mul_comm _ _

/-- Likewise the logits' cotangents. -/
theorem ref_eq4 (X : FVec Ideal S4096x2048 .f32) (P : FVec Ideal S4096x10240 .f32) (A1 : FVec Ideal S4096x2048 .f32) :
    mulf (mulf (shapeCast S4096x2048 X shapeCasts_S4096x2048_S4096x2048) A1) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 6144] P slices_S4096x10240_S4096x2048_0_6144))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 6144] P slices_S4096x10240_S4096x2048_0_6144)))))))
      = Cert.MergeBackIdeal.H1 X P A1 := by
  funext y
  idx_vars y
  pointwise [Cert.MergeBackIdeal.H1, Between.slope, Ideal.logistic]
  exact (mul_assoc _ _ _).symm

/-- The next branch. -/
theorem ref_eq2 (X : FVec Ideal S4096x2048 .f32) (P : FVec Ideal S4096x10240 .f32) :
    truncf .bf16 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 8192] P slices_S4096x10240_S4096x2048_0_8192))))) (shapeCast S4096x2048 X shapeCasts_S4096x2048_S4096x2048)) bitsLt_bf16_f32
      = Cert.MergeBackIdeal.G2 X P := by
  funext y
  idx_vars y
  pointwise [Cert.MergeBackIdeal.G2, Between.gated, Ideal.logistic]
  exact mul_comm _ _

/-- Likewise the logits' cotangents. -/
theorem ref_eq5 (X : FVec Ideal S4096x2048 .f32) (P : FVec Ideal S4096x10240 .f32) (A2 : FVec Ideal S4096x2048 .f32) :
    mulf (mulf (shapeCast S4096x2048 X shapeCasts_S4096x2048_S4096x2048) A2) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 8192] P slices_S4096x10240_S4096x2048_0_8192))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 8192] P slices_S4096x10240_S4096x2048_0_8192)))))))
      = Cert.MergeBackIdeal.H2 X P A2 := by
  funext y
  idx_vars y
  pointwise [Cert.MergeBackIdeal.H2, Between.slope, Ideal.logistic]
  exact (mul_assoc _ _ _).symm

end Cert.MergeBackReferenceIdeal

end
-- ==== Proof.Between.GluBack.lean ====
/- The backward pass of the bottleneck's gate, element by element. -/
module

public import proofs.«01_k».proof.Proof.Gen.GluBackIdeal.Value
public import proofs.«01_k».proof.Proof.Gen.GluBackReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.GluBackIdeal

open Cert.GluBackIdeal.Gen

/-- The left half of the columns: the cotangents of what the gate multiplies. The right half: the cotangents of the logits. -/
def G (X : FVec Ideal S4096x512 .f32) (P : FVec Ideal S4096x1024 .f32) : FVec Ideal S4096x1024 .bf16 := fun y =>
  if h : (y 1).val < 512 then Between.gated (X (ix2 (y 0) ⟨(y 1).val, h⟩)) (P (ix2 (y 0) ⟨512 + (y 1).val, by omega⟩))
  else Between.slope (X (ix2 (y 0) ⟨(y 1).val - 512, by
      have h1 : (y 1).val < 1024 := (y 1).isLt
      omega⟩)) (P (ix2 (y 0) ⟨(y 1).val - 512, by
      have h1 : (y 1).val < 1024 := (y 1).isLt
      omega⟩)) (P y)

theorem G_left (X : FVec Ideal S4096x512 .f32) (P : FVec Ideal S4096x1024 .f32) (y : S4096x1024.Idx) (h : (y 1).val < 512) :
    G X P y = Between.gated (X (ix2 (y 0) ⟨(y 1).val, h⟩)) (P (ix2 (y 0) ⟨512 + (y 1).val, by omega⟩)) := dif_pos h

theorem G_right (X : FVec Ideal S4096x512 .f32) (P : FVec Ideal S4096x1024 .f32) (y : S4096x1024.Idx) (h : ¬(y 1).val < 512) :
    G X P y = Between.slope (X (ix2 (y 0) ⟨(y 1).val - 512, by
      have h1 : (y 1).val < 1024 := (y 1).isLt
      omega⟩)) (P (ix2 (y 0) ⟨(y 1).val - 512, by
      have h1 : (y 1).val < 1024 := (y 1).isLt
      omega⟩)) (P y) := dif_neg h

theorem pay2_at (x l : FVec Ideal S512x512 .f32) (i : S512x512.Idx) :
    k0_pay2 (F := Ideal) x l i = Between.gated (x i) (l i) := by
  pointwise [k0_pay2, k0_pay1, Between.gated]

theorem pay3_at (x a l : FVec Ideal S512x512 .f32) (i : S512x512.Idx) :
    k0_pay3 (F := Ideal) x a l i = Between.slope (x i) (a i) (l i) := by
  pointwise [k0_pay3, k0_pay1, Between.slope]

/-- A load of the columns from `o` on. -/
theorem ld_part {e : EltTy} (a : S512x1024.Idx → Elt Ideal e) (o : ℕ) (inb : ∀ d, (![0, o] : Fin 2 → ℕ) d + (![512, 512] : Fin 2 → ℕ) d ≤ S512x1024.size d)
    (y : S512x512.Idx) (ho : o + 512 ≤ 1024) :
    View.ld (Val := Elt Ideal) (e' := e) a (Rect.unit (s := S512x1024) ![0, o] ![512, 512] inb) y = a (ix2 (y 0) ⟨o + (y 1).val, by
      have h1 : (y 1).val < 512 := (y 1).isLt
      omega⟩) :=
  View.ld_unit_apply_of _ _ _ _ _ _ fun d => match d with
    | ⟨0, _⟩ => (Nat.zero_add _).symm
    | ⟨1, _⟩ => rfl

variable (m : (ℓ : Loc nD τ sig) → Buf (Elt Ideal) ℓ) (c : Dev nD)

abbrev argX : FVec Ideal S4096x512 .f32 := m ((c : Thread nD τ).loc main_arg0)
abbrev argP : FVec Ideal S4096x1024 .f32 := m ((c : Thread nD τ).loc main_arg1)

theorem idx : ∀ t : Fin cfg0.N, win0_0.index t = ![t.val, 0] ∧ win0_1.index t = ![t.val, 0] ∧ win0_2.index t = ![t.val, 0] :=
  (by decide +kernel : ∀ t : Fin grid0.N, _)

theorem point_lt (t : Fin cfg0.N) : t.val < 8 := lt_of_lt_of_eq t.isLt (show cfg0.N = 8 from N_0)

theorem final2 : (dats m 0 c).arrAt 2 cfg0.N = G (argX m c) (argP m c) := by
  refine (dats m 0 c).arrAt_eq_of_covers 2 _ (by decide +kernel) fun t hf y => ?_
  have ht := point_lt t
  have q0 : (y 0).val < 512 := (y 0).isLt
  have q1 : (y 1).val < 1024 := (y 1).isLt
  have e0 : ((((cfg0.win 2).blk t).view.emb y) 0).val = 512 * t.val + (y 0).val := by blk_simp [idx t] <;> omega
  have e1 : ((((cfg0.win 2).blk t).view.emb y) 1).val = (y 1).val := by blk_simp [idx t] <;> omega
  have p1 : ((win0_2.blk t).view.emb y 1).val = (y 1).val := e1
  blk_simp
  rw [after0_2]
  unfold out0_2
  canon_tiles x h
  · refine (pay3_at _ _ _ x).trans (Eq.trans ?_ (G_right _ _ _ (by omega)).symm)
    refine Between.congr3 Between.slope ?_ ?_ ?_
    · rw [View.ld_unit_zero (by decide)]
      blk_ext [iblk, V, idx t, e0, e1, h0, h1] <;> omega
    · refine (ld_part _ _ _ _ (by omega)).trans ?_
      blk_ext [iblk, V, idx t, e0, e1, h0, h1] <;> omega
    · refine (ld_part _ _ _ _ (by omega)).trans ?_
      blk_ext [iblk, V, idx t, e0, e1, h0, h1] <;> omega
  · refine (pay2_at _ _ x).trans (Eq.trans ?_ (G_left _ _ _ (by omega)).symm)
    refine congrArg₂ Between.gated ?_ ?_
    · rw [View.ld_unit_zero (by decide)]
      blk_ext [iblk, V, idx t, e0, e1, h0, h1] <;> omega
    · refine (ld_part _ _ _ _ (by omega)).trans ?_
      blk_ext [iblk, V, idx t, e0, e1, h0, h1] <;> omega

end Cert.GluBackIdeal

namespace Cert.GluBackReferenceIdeal

open Cert.GluBackReferenceIdeal.Gen

/-- The reference computes the same functions of its arguments. -/
theorem ref_eq (X : FVec Ideal S4096x512 .f32) (P : FVec Ideal S4096x1024 .f32) :
    truncf .bf16 (concatenate S4096x1024 1 [⟨S4096x512, (mulf X (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 512] P slices_S4096x1024_S4096x512_0_512))))))⟩, ⟨S4096x512, (mulf (mulf (extractStridedSlice S4096x512 ![0, 0] P slices_S4096x1024_S4096x512_0_0) X) (mulf (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 512] P slices_S4096x1024_S4096x512_0_512))))) (subf (broadcastInDim S4096x512 ![] bcast_S_S4096x512 (constant S_ .f32 0x3F800000#32)) (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 512] P slices_S4096x1024_S4096x512_0_512))))))))⟩] concatenates_S4096x512_S4096x512_S4096x1024_d1) bitsLt_bf16_f32
      = Cert.GluBackIdeal.G X P := by
  funext y
  by_cases h : (y 1).val < 512
  · rw [Cert.GluBackIdeal.G_left X P y h]
    revert h
    idx_vars y
    intro h
    pointwise [h, Between.gated, Ideal.logistic]
  · rw [Cert.GluBackIdeal.G_right X P y h]
    revert h
    idx_vars y
    intro h
    pointwise [h, Between.slope, Ideal.logistic]
    have e : ∀ q, (⟨512 + (y1.val - 512), q⟩ : Fin 1024) = y1 := fun q => Fin.ext (by show 512 + (y1.val - 512) = y1.val; omega)
    simp only [e]
    ac_rfl

end Cert.GluBackReferenceIdeal

end
-- ==== Proof.Between.SwigluBack.lean ====
/- The backward pass of the feed-forward branch's gate, element by element. -/
module

public import proofs.«01_k».proof.Proof.Gen.SwigluBackIdeal.Value
public import proofs.«01_k».proof.Proof.Gen.SwigluBackReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.SwigluBackIdeal

open Cert.SwigluBackIdeal.Gen

/-- The left half of the columns: the cotangents of what goes through the gate. The right half: the cotangents of what the gate multiplies. -/
def G (X : FVec Ideal S4096x5632 .f32) (P : FVec Ideal S4096x11264 .f32) : FVec Ideal S4096x11264 .bf16 := fun y =>
  if h : (y 1).val < 5632 then Between.swishedGate (X (ix2 (y 0) ⟨(y 1).val, h⟩)) (P (ix2 (y 0) ⟨(y 1).val, by omega⟩)) (P (ix2 (y 0) ⟨5632 + (y 1).val, by omega⟩))
  else Between.swishedUp (X (ix2 (y 0) ⟨(y 1).val - 5632, by
      have h1 : (y 1).val < 11264 := (y 1).isLt
      omega⟩)) (P (ix2 (y 0) ⟨(y 1).val - 5632, by
      have h1 : (y 1).val < 11264 := (y 1).isLt
      omega⟩))

theorem G_left (X : FVec Ideal S4096x5632 .f32) (P : FVec Ideal S4096x11264 .f32) (y : S4096x11264.Idx) (h : (y 1).val < 5632) :
    G X P y = Between.swishedGate (X (ix2 (y 0) ⟨(y 1).val, h⟩)) (P (ix2 (y 0) ⟨(y 1).val, by omega⟩)) (P (ix2 (y 0) ⟨5632 + (y 1).val, by omega⟩)) := dif_pos h

theorem G_right (X : FVec Ideal S4096x5632 .f32) (P : FVec Ideal S4096x11264 .f32) (y : S4096x11264.Idx) (h : ¬(y 1).val < 5632) :
    G X P y = Between.swishedUp (X (ix2 (y 0) ⟨(y 1).val - 5632, by
      have h1 : (y 1).val < 11264 := (y 1).isLt
      omega⟩)) (P (ix2 (y 0) ⟨(y 1).val - 5632, by
      have h1 : (y 1).val < 11264 := (y 1).isLt
      omega⟩)) := dif_neg h

theorem pay2_at (x a l : FVec Ideal S128x5632 .f32) (i : S128x5632.Idx) :
    k0_pay2 (F := Ideal) x a l i = Between.swishedGate (x i) (a i) (l i) := by
  pointwise [k0_pay2, k0_pay1, Between.swishedGate]

theorem pay3_at (x a : FVec Ideal S128x5632 .f32) (i : S128x5632.Idx) :
    k0_pay3 (F := Ideal) x a i = Between.swishedUp (x i) (a i) := by
  pointwise [k0_pay3, k0_pay1, Between.swishedUp]

/-- A load of the columns from `o` on. -/
theorem ld_part {e : EltTy} (a : S128x11264.Idx → Elt Ideal e) (o : ℕ) (inb : ∀ d, (![0, o] : Fin 2 → ℕ) d + (![128, 5632] : Fin 2 → ℕ) d ≤ S128x11264.size d)
    (y : S128x5632.Idx) (ho : o + 5632 ≤ 11264) :
    View.ld (Val := Elt Ideal) (e' := e) a (Rect.unit (s := S128x11264) ![0, o] ![128, 5632] inb) y = a (ix2 (y 0) ⟨o + (y 1).val, by
      have h1 : (y 1).val < 5632 := (y 1).isLt
      omega⟩) :=
  View.ld_unit_apply_of _ _ _ _ _ _ fun d => match d with
    | ⟨0, _⟩ => (Nat.zero_add _).symm
    | ⟨1, _⟩ => rfl

variable (m : (ℓ : Loc nD τ sig) → Buf (Elt Ideal) ℓ) (c : Dev nD)

abbrev argX : FVec Ideal S4096x5632 .f32 := m ((c : Thread nD τ).loc main_arg0)
abbrev argP : FVec Ideal S4096x11264 .f32 := m ((c : Thread nD τ).loc main_arg1)

theorem idx : ∀ t : Fin cfg0.N, win0_0.index t = ![t.val, 0] ∧ win0_1.index t = ![t.val, 0] ∧ win0_2.index t = ![t.val, 0] :=
  (by decide +kernel : ∀ t : Fin grid0.N, _)

theorem point_lt (t : Fin cfg0.N) : t.val < 32 := lt_of_lt_of_eq t.isLt (show cfg0.N = 32 from N_0)

theorem final2 : (dats m 0 c).arrAt 2 cfg0.N = G (argX m c) (argP m c) := by
  refine (dats m 0 c).arrAt_eq_of_covers 2 _ (by decide +kernel) fun t hf y => ?_
  have ht := point_lt t
  have q0 : (y 0).val < 128 := (y 0).isLt
  have q1 : (y 1).val < 11264 := (y 1).isLt
  have e0 : ((((cfg0.win 2).blk t).view.emb y) 0).val = 128 * t.val + (y 0).val := by blk_simp [idx t] <;> omega
  have e1 : ((((cfg0.win 2).blk t).view.emb y) 1).val = (y 1).val := by blk_simp [idx t] <;> omega
  have p1 : ((win0_2.blk t).view.emb y 1).val = (y 1).val := e1
  blk_simp
  rw [after0_2]
  unfold out0_2
  canon_tiles x h
  · refine (pay3_at _ _ x).trans (Eq.trans ?_ (G_right _ _ _ (by omega)).symm)
    refine congrArg₂ Between.swishedUp ?_ ?_
    · rw [View.ld_unit_zero (by decide)]
      blk_ext [iblk, V, idx t, e0, e1, h0, h1] <;> omega
    · refine (ld_part _ _ _ _ (by omega)).trans ?_
      blk_ext [iblk, V, idx t, e0, e1, h0, h1] <;> omega
  · refine (pay2_at _ _ _ x).trans (Eq.trans ?_ (G_left _ _ _ (by omega)).symm)
    refine Between.congr3 Between.swishedGate ?_ ?_ ?_
    · rw [View.ld_unit_zero (by decide)]
      blk_ext [iblk, V, idx t, e0, e1, h0, h1] <;> omega
    · refine (ld_part _ _ _ _ (by omega)).trans ?_
      blk_ext [iblk, V, idx t, e0, e1, h0, h1] <;> omega
    · refine (ld_part _ _ _ _ (by omega)).trans ?_
      blk_ext [iblk, V, idx t, e0, e1, h0, h1] <;> omega

end Cert.SwigluBackIdeal

namespace Cert.SwigluBackReferenceIdeal

open Cert.SwigluBackReferenceIdeal.Gen

/-- The reference computes the same functions of its arguments. -/
theorem ref_eq (X : FVec Ideal S4096x5632 .f32) (P : FVec Ideal S4096x11264 .f32)
    (hX : ∀ i, X i = (((X i).toReal : ℝ) : EReal)) (hP : ∀ i, P i = (((P i).toReal : ℝ) : EReal)) :
    truncf .bf16 (concatenate S4096x11264 1 [⟨S4096x5632, (addf (mulf (mulf X (extractStridedSlice S4096x5632 ![0, 5632] P slices_S4096x11264_S4096x5632_0_5632)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P slices_S4096x11264_S4096x5632_0_0)))))) (mulf (mulf (extractStridedSlice S4096x5632 ![0, 0] P slices_S4096x11264_S4096x5632_0_0) (mulf X (extractStridedSlice S4096x5632 ![0, 5632] P slices_S4096x11264_S4096x5632_0_5632))) (mulf (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P slices_S4096x11264_S4096x5632_0_0))))) (subf (broadcastInDim S4096x5632 ![] bcast_S_S4096x5632 (constant S_ .f32 0x3F800000#32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P slices_S4096x11264_S4096x5632_0_0)))))))))⟩, ⟨S4096x5632, (mulf (mulf (extractStridedSlice S4096x5632 ![0, 0] P slices_S4096x11264_S4096x5632_0_0) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P slices_S4096x11264_S4096x5632_0_0)))))) X)⟩] concatenates_S4096x5632_S4096x5632_S4096x11264_d1) bitsLt_bf16_f32
      = Cert.SwigluBackIdeal.G X P := by
  funext y
  by_cases h : (y 1).val < 5632
  · rw [Cert.SwigluBackIdeal.G_left X P y h, Between.swishedGate_eq (hX _) (hP _) (hP _)]
    revert h
    idx_vars y
    intro h
    pointwise [h, Ideal.logistic]
  · rw [Cert.SwigluBackIdeal.G_right X P y h]
    revert h
    idx_vars y
    intro h
    pointwise [h, Between.swishedUp, Ideal.logistic]
    ac_rfl
/-- The same of arguments that equal real ones. -/
theorem ref_eq_of {X X' : FVec Ideal S4096x5632 .f32} {P P' : FVec Ideal S4096x11264 .f32} (eX : X' = X) (eP : P' = P)
    (hX : ∀ i, X i = (((X i).toReal : ℝ) : EReal)) (hP : ∀ i, P i = (((P i).toReal : ℝ) : EReal)) :
    truncf .bf16 (concatenate S4096x11264 1 [⟨S4096x5632, (addf (mulf (mulf X' (extractStridedSlice S4096x5632 ![0, 5632] P' slices_S4096x11264_S4096x5632_0_5632)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P' slices_S4096x11264_S4096x5632_0_0)))))) (mulf (mulf (extractStridedSlice S4096x5632 ![0, 0] P' slices_S4096x11264_S4096x5632_0_0) (mulf X' (extractStridedSlice S4096x5632 ![0, 5632] P' slices_S4096x11264_S4096x5632_0_5632))) (mulf (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P' slices_S4096x11264_S4096x5632_0_0))))) (subf (broadcastInDim S4096x5632 ![] bcast_S_S4096x5632 (constant S_ .f32 0x3F800000#32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P' slices_S4096x11264_S4096x5632_0_0)))))))))⟩, ⟨S4096x5632, (mulf (mulf (extractStridedSlice S4096x5632 ![0, 0] P' slices_S4096x11264_S4096x5632_0_0) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P' slices_S4096x11264_S4096x5632_0_0)))))) X')⟩] concatenates_S4096x5632_S4096x5632_S4096x11264_d1) bitsLt_bf16_f32
      = Cert.SwigluBackIdeal.G X P := by
  subst eX
  subst eP
  exact ref_eq X' P' hX hP

end Cert.SwigluBackReferenceIdeal

end
-- ==== Proof.Between.Merge.lean ====
/- The gated sum of the three branches, element by element. -/
module

public import proofs.«01_k».proof.Proof.Gen.MergeIdeal.Value
public import proofs.«01_k».proof.Proof.Gen.MergeReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.MergeIdeal

open Cert.MergeIdeal.Gen

/-- The three branches, each through its gate, added. -/
def G (P : FVec Ideal S4096x10240 .f32) (A B C : FVec Ideal S4096x2048 .f32) : FVec Ideal S4096x2048 .bf16 := fun y =>
  Between.merged (P (ix2 (y 0) ⟨4096 + (y 1).val, by
    have h1 : (y 1).val < 2048 := (y 1).isLt
    omega⟩)) (A y) (P (ix2 (y 0) ⟨6144 + (y 1).val, by
    have h1 : (y 1).val < 2048 := (y 1).isLt
    omega⟩)) (B y) (P (ix2 (y 0) ⟨8192 + (y 1).val, by
    have h1 : (y 1).val < 2048 := (y 1).isLt
    omega⟩)) (C y)

theorem pay1_at (l0 a0 l1 a1 l2 a2 : FVec Ideal S256x2048 .f32) (i : S256x2048.Idx) :
    k0_pay1 (F := Ideal) l0 a0 l1 a1 l2 a2 i = Between.merged (l0 i) (a0 i) (l1 i) (a1 i) (l2 i) (a2 i) := by
  pointwise [k0_pay1, Between.merged]

variable (m : (ℓ : Loc nD τ sig) → Buf (Elt Ideal) ℓ) (c : Dev nD)

abbrev argP : FVec Ideal S4096x10240 .f32 := m ((c : Thread nD τ).loc main_arg0)
abbrev argA : FVec Ideal S4096x2048 .f32 := m ((c : Thread nD τ).loc main_arg1)
abbrev argB : FVec Ideal S4096x2048 .f32 := m ((c : Thread nD τ).loc main_arg2)
abbrev argC : FVec Ideal S4096x2048 .f32 := m ((c : Thread nD τ).loc main_arg3)

theorem idx : ∀ t : Fin cfg0.N, win0_0.index t = ![t.val, 2] ∧ win0_1.index t = ![t.val, 3] ∧ win0_2.index t = ![t.val, 4] ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 16 := lt_of_lt_of_eq t.isLt (show cfg0.N = 16 from N_0)

theorem final6 : (dats m 0 c).arrAt 6 cfg0.N = G (argP m c) (argA m c) (argB m c) (argC m c) := by
  refine (dats m 0 c).arrAt_eq_of_covers 6 _ (by decide +kernel) fun t hf y => ?_
  have ht := point_lt t
  have h0 : (y 0).val < 256 := (y 0).isLt
  have h1 : (y 1).val < 2048 := (y 1).isLt
  have e0 : ((((cfg0.win 6).blk t).view.emb y) 0).val = 256 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay1_at _ _ _ _ _ _ y).trans (Between.congr6 Between.merged ?_ ?_ ?_ ?_ ?_ ?_)
  · rw [View.ld_unit_zero (by decide)]
    blk_ext [iblk, V, idx t, e0, e1] <;> omega
  · rw [View.ld_unit_zero (by decide)]
    blk_ext [iblk, V, idx t, e0, e1] <;> omega
  · rw [View.ld_unit_zero (by decide)]
    blk_ext [iblk, V, idx t, e0, e1] <;> omega
  · rw [View.ld_unit_zero (by decide)]
    blk_ext [iblk, V, idx t, e0, e1] <;> omega
  · rw [View.ld_unit_zero (by decide)]
    blk_ext [iblk, V, idx t, e0, e1] <;> omega
  · rw [View.ld_unit_zero (by decide)]
    blk_ext [iblk, V, idx t, e0, e1] <;> omega

end Cert.MergeIdeal

namespace Cert.MergeReferenceIdeal

open Cert.MergeReferenceIdeal.Gen

/-- The reference computes the same functions of its arguments. -/
theorem ref_eq (P : FVec Ideal S4096x10240 .f32) (A B C : FVec Ideal S4096x2048 .f32) :
    truncf .bf16 (addf (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 4096] P slices_S4096x10240_S4096x2048_0_4096))))) A) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 6144] P slices_S4096x10240_S4096x2048_0_6144))))) B)) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 8192] P slices_S4096x10240_S4096x2048_0_8192))))) C)) bitsLt_bf16_f32
      = Cert.MergeIdeal.G P A B C := by
  funext y
  idx_vars y
  pointwise [Cert.MergeIdeal.G, Between.merged, Ideal.logistic]

end Cert.MergeReferenceIdeal

end
-- ==== Proof.Between.Glu.lean ====
/- The gate that follows the product of the bottleneck, element by element. -/
module

public import proofs.«01_k».proof.Proof.Gen.GluIdeal.Value
public import proofs.«01_k».proof.Proof.Gen.GluReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.GluIdeal

open Cert.GluIdeal.Gen

/-- The left half of the columns, each times the gate of its logit in the right half. -/
def G (P : FVec Ideal S4096x1024 .f32) : FVec Ideal S4096x512 .bf16 := fun y =>
  Between.gated (P (ix2 (y 0) ⟨(y 1).val, by
    have h1 : (y 1).val < 512 := (y 1).isLt
    omega⟩)) (P (ix2 (y 0) ⟨512 + (y 1).val, by
    have h1 : (y 1).val < 512 := (y 1).isLt
    omega⟩))

theorem pay1_at (x l : FVec Ideal S512x512 .f32) (i : S512x512.Idx) : k0_pay1 (F := Ideal) x l i = Between.gated (x i) (l i) := by
  pointwise [k0_pay1, Between.gated]

/-- A load of the columns from `o` on. -/
theorem ld_part {e : EltTy} (a : S512x1024.Idx → Elt Ideal e) (o : ℕ) (inb : ∀ d, (![0, o] : Fin 2 → ℕ) d + (![512, 512] : Fin 2 → ℕ) d ≤ S512x1024.size d)
    (y : S512x512.Idx) (ho : o + 512 ≤ 1024) :
    View.ld (Val := Elt Ideal) (e' := e) a (Rect.unit (s := S512x1024) ![0, o] ![512, 512] inb) y = a (ix2 (y 0) ⟨o + (y 1).val, by
      have h1 : (y 1).val < 512 := (y 1).isLt
      omega⟩) :=
  View.ld_unit_apply_of _ _ _ _ _ _ fun d => match d with
    | ⟨0, _⟩ => (Nat.zero_add _).symm
    | ⟨1, _⟩ => rfl

variable (m : (ℓ : Loc nD τ sig) → Buf (Elt Ideal) ℓ) (c : Dev nD)

abbrev argP : FVec Ideal S4096x1024 .f32 := m ((c : Thread nD τ).loc main_arg0)

theorem idx : ∀ t : Fin cfg0.N, win0_0.index t = ![t.val, 0] ∧ win0_1.index t = ![t.val, 0] :=
  (by decide +kernel : ∀ t : Fin grid0.N, _)

theorem point_lt (t : Fin cfg0.N) : t.val < 8 := lt_of_lt_of_eq t.isLt (show cfg0.N = 8 from N_0)

theorem final1 : (dats m 0 c).arrAt 1 cfg0.N = G (argP m c) := by
  refine (dats m 0 c).arrAt_eq_of_covers 1 _ (by decide +kernel) fun t hf y => ?_
  have ht := point_lt t
  have h0 : (y 0).val < 512 := (y 0).isLt
  have h1 : (y 1).val < 512 := (y 1).isLt
  have e0 : ((((cfg0.win 1).blk t).view.emb y) 0).val = 512 * t.val + (y 0).val := by blk_simp [idx t] <;> omega
  have e1 : ((((cfg0.win 1).blk t).view.emb y) 1).val = (y 1).val := by blk_simp [idx t] <;> omega
  blk_simp
  rw [after0_1]
  unfold out0_1
  canon_tiles y h
  refine (pay1_at _ _ y).trans (congrArg₂ Between.gated ?_ ?_)
  · refine (ld_part _ _ _ _ (by omega)).trans ?_
    blk_ext [iblk, V, idx t, e0, e1] <;> omega
  · refine (ld_part _ _ _ _ (by omega)).trans ?_
    blk_ext [iblk, V, idx t, e0, e1] <;> omega

end Cert.GluIdeal

namespace Cert.GluReferenceIdeal

open Cert.GluReferenceIdeal.Gen

/-- The reference computes the same functions of its arguments. -/
theorem ref_eq (P : FVec Ideal S4096x1024 .f32) :
    truncf .bf16 (mulf (extractStridedSlice S4096x512 ![0, 0] P slices_S4096x1024_S4096x512_0_0) (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 512] P slices_S4096x1024_S4096x512_0_512)))))) bitsLt_bf16_f32
      = Cert.GluIdeal.G P := by
  funext y
  idx_vars y
  pointwise [Cert.GluIdeal.G, Between.gated, Ideal.logistic]

end Cert.GluReferenceIdeal

end
-- ==== Proof.Between.Swiglu.lean ====
/- The gate between the two products of the feed-forward branch, element by element. -/
module

public import proofs.«01_k».proof.Proof.Gen.SwigluIdeal.Value
public import proofs.«01_k».proof.Proof.Gen.SwigluReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.SwigluIdeal

open Cert.SwigluIdeal.Gen

/-- The left half of the columns through their own gate, times the right half. -/
def G (P : FVec Ideal S4096x11264 .f32) : FVec Ideal S4096x5632 .bf16 := fun y =>
  Between.swished (P (ix2 (y 0) ⟨(y 1).val, by
    have h1 : (y 1).val < 5632 := (y 1).isLt
    omega⟩)) (P (ix2 (y 0) ⟨5632 + (y 1).val, by
    have h1 : (y 1).val < 5632 := (y 1).isLt
    omega⟩))

theorem pay1_at (x l : FVec Ideal S128x5632 .f32) (i : S128x5632.Idx) : k0_pay1 (F := Ideal) x l i = Between.swished (x i) (l i) := by
  pointwise [k0_pay1, Between.swished]

/-- A load of the columns from `o` on. -/
theorem ld_part {e : EltTy} (a : S128x11264.Idx → Elt Ideal e) (o : ℕ) (inb : ∀ d, (![0, o] : Fin 2 → ℕ) d + (![128, 5632] : Fin 2 → ℕ) d ≤ S128x11264.size d)
    (y : S128x5632.Idx) (ho : o + 5632 ≤ 11264) :
    View.ld (Val := Elt Ideal) (e' := e) a (Rect.unit (s := S128x11264) ![0, o] ![128, 5632] inb) y = a (ix2 (y 0) ⟨o + (y 1).val, by
      have h1 : (y 1).val < 5632 := (y 1).isLt
      omega⟩) :=
  View.ld_unit_apply_of _ _ _ _ _ _ fun d => match d with
    | ⟨0, _⟩ => (Nat.zero_add _).symm
    | ⟨1, _⟩ => rfl

variable (m : (ℓ : Loc nD τ sig) → Buf (Elt Ideal) ℓ) (c : Dev nD)

abbrev argP : FVec Ideal S4096x11264 .f32 := m ((c : Thread nD τ).loc main_arg0)

theorem idx : ∀ t : Fin cfg0.N, win0_0.index t = ![t.val, 0] ∧ win0_1.index t = ![t.val, 0] :=
  (by decide +kernel : ∀ t : Fin grid0.N, _)

theorem point_lt (t : Fin cfg0.N) : t.val < 32 := lt_of_lt_of_eq t.isLt (show cfg0.N = 32 from N_0)

theorem final1 : (dats m 0 c).arrAt 1 cfg0.N = G (argP m c) := by
  refine (dats m 0 c).arrAt_eq_of_covers 1 _ (by decide +kernel) fun t hf y => ?_
  have ht := point_lt t
  have h0 : (y 0).val < 128 := (y 0).isLt
  have h1 : (y 1).val < 5632 := (y 1).isLt
  have e0 : ((((cfg0.win 1).blk t).view.emb y) 0).val = 128 * t.val + (y 0).val := by blk_simp [idx t] <;> omega
  have e1 : ((((cfg0.win 1).blk t).view.emb y) 1).val = (y 1).val := by blk_simp [idx t] <;> omega
  blk_simp
  rw [after0_1]
  unfold out0_1
  canon_tiles y h
  refine (pay1_at _ _ y).trans (congrArg₂ Between.swished ?_ ?_)
  · refine (ld_part _ _ _ _ (by omega)).trans ?_
    blk_ext [iblk, V, idx t, e0, e1] <;> omega
  · refine (ld_part _ _ _ _ (by omega)).trans ?_
    blk_ext [iblk, V, idx t, e0, e1] <;> omega

end Cert.SwigluIdeal

namespace Cert.SwigluReferenceIdeal

open Cert.SwigluReferenceIdeal.Gen

/-- The reference computes the same functions of its arguments. -/
theorem ref_eq (P : FVec Ideal S4096x11264 .f32) :
    truncf .bf16 (mulf (mulf (extractStridedSlice S4096x5632 ![0, 0] P slices_S4096x11264_S4096x5632_0_0) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] P slices_S4096x11264_S4096x5632_0_0)))))) (extractStridedSlice S4096x5632 ![0, 5632] P slices_S4096x11264_S4096x5632_0_5632)) bitsLt_bf16_f32
      = Cert.SwigluIdeal.G P := by
  funext y
  idx_vars y
  pointwise [Cert.SwigluIdeal.G, Between.swished, Ideal.logistic]

end Cert.SwigluReferenceIdeal

end
-- ==== Proof.Between.LossHead.lean ====
/- The squared error and its cotangent, block of rows by block of rows. -/
module

public import proofs.«01_k».proof.Proof.Gen.LossHeadIdeal.Value
public import proofs.«01_k».proof.Proof.Gen.LossHeadReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.LossHeadIdeal

open Cert.LossHeadIdeal.Gen

/-- The cotangent: the difference times 2⁻¹¹. -/
def G (X T : FVec Ideal S4096x2048 .f32) : FVec Ideal S4096x2048 .f32 := fun y => (X y - T y) * (Scalar.ofBits .f32 0x3A000000#32 : Ideal .f32)

/-- A row's squared error. -/
def row (X T : FVec Ideal S4096x2048 .f32) (r : Fin 4096) : EReal := ∑ k : Fin 2048, (X (ix2 r k) - T (ix2 r k)) * (X (ix2 r k) - T (ix2 r k))

/-- A block of rows' share of the loss. -/
def share (X T : FVec Ideal S4096x2048 .f32) (s : ℕ) : EReal :=
  if h : s < 16 then (∑ r : Fin 256, row X T ⟨s * 256 + r.val, by have hr := r.isLt; omega⟩) * (Scalar.ofBits .f32 0x39800000#32 : Ideal .f32) else 0

/-- The loss, in every lane. -/
def L (X T : FVec Ideal S4096x2048 .f32) : FVec Ideal S1x128 .f32 := fun _ => ∑ s ∈ Finset.range 16, share X T s

/-- A block's squared error, scaled. -/
def part (x t : FVec Ideal S256x2048 .f32) : EReal :=
  (∑ r : Fin 256, ∑ k : Fin 2048, (x (ix2 r k) - t (ix2 r k)) * (x (ix2 r k) - t (ix2 r k))) * (Scalar.ofBits .f32 0x39800000#32 : Ideal .f32)

theorem pay3_at (x t : FVec Ideal S256x2048 .f32) (i : S256x2048.Idx) :
    k0_pay3 (F := Ideal) x t i = (x i - t i) * (Scalar.ofBits .f32 0x3A000000#32 : Ideal .f32) := by
  pointwise [k0_pay3, k0_pay2]

theorem pay4_at (x t : FVec Ideal S256x2048 .f32) (a : FVec Ideal S1x128 .f32) (i : S1x128.Idx) : k0_pay4 (F := Ideal) x t a i = a i + part x t := by
  idx_vars i
  pointwise [k0_pay4, k0_pay2, part]

theorem pay1_at (i : S1x128.Idx) : k0_pay1 (F := Ideal) i = 0 := by
  pointwise [k0_pay1]

variable (m : (ℓ : Loc nD τ sig) → Buf (Elt Ideal) ℓ) (c : Dev nD)

abbrev argX : FVec Ideal S4096x2048 .f32 := m ((c : Thread nD τ).loc main_arg0)
abbrev argT : FVec Ideal S4096x2048 .f32 := m ((c : Thread nD τ).loc main_arg1)

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem point_lt (t : Fin cfg0.N) : t.val < 16 := lt_of_lt_of_eq t.isLt (show cfg0.N = 16 from N_0)

/-- What a point adds is its block's share. -/
theorem part_at (t : Fin cfg0.N) : part (iblk m c 0 t) (iblk m c 1 t) = share (argX m c) (argT m c) t.val := by
  have ht := point_lt t
  unfold share part row
  rw [dif_pos ht]
  refine congrArg (· * _) (Finset.sum_congr rfl fun r _ => Finset.sum_congr rfl fun k _ => ?_)
  have hr := r.isLt
  have hk := k.isLt
  have ex : iblk m c 0 t (ix2 r k) = argX m c (ix2 ⟨t.val * 256 + r.val, by omega⟩ k) := by blk_ext [iblk, V, idx t] <;> omega
  have et : iblk m c 1 t (ix2 r k) = argT m c (ix2 ⟨t.val * 256 + r.val, by omega⟩ k) := by blk_ext [iblk, V, idx t] <;> omega
  exact congrArg₂ (fun p q : EReal => (p - q) * (p - q)) ex et

/-- After a point the running loss is the sum of the shares so far. -/
theorem acc_at : ∀ (n : ℕ) (hn : n < cfg0.N) (y : S1x128.Idx),
    (outsAt0 m c n hn).2 y = ∑ s ∈ Finset.range (n + 1), share (argX m c) (argT m c) s
  | 0, hn, y => by
    have e := congrFun (congrArg Prod.snd (outsAt0_A m c ⟨0, hn⟩ rfl)) y
    refine e.trans ?_
    dsimp only
    frame_out
    rw [pay4_at, pay1_at, zero_add, part_at m c ⟨0, hn⟩]
    exact (Finset.sum_range_one _).symm
  | n + 1, hn, y => by
    have hN : n + 1 < 16 := lt_of_lt_of_eq hn (show cfg0.N = 16 from N_0)
    have e := congrFun (congrArg Prod.snd (outsAt0_B m c ⟨n + 1, hn⟩ (by show ¬(n + 1) % 16 = 0; omega))) y
    refine e.trans ?_
    dsimp only
    frame_out
    rw [pay4_at, part_at m c ⟨n + 1, hn⟩, Finset.sum_range_succ]
    exact congrArg (· + _) (acc_at n (Nat.lt_of_succ_lt hn) _)

theorem out_at (t : Fin cfg0.N) (y : S256x2048.Idx) :
    (outsAt0 m c t.val t.isLt).1 y = k0_pay3 (F := Ideal) (iblk m c 0 t) (iblk m c 1 t) y := by
  by_cases h : t.val % 16 = 0
  · rw [outsAt0_A m c t h]
    dsimp only
    frame_out
  · rw [outsAt0_B m c t h]
    dsimp only
    frame_out

theorem final2 : (dats m 0 c).arrAt 2 cfg0.N = G (argX m c) (argT m c) := by
  refine (dats m 0 c).arrAt_eq_of_covers 2 _ (by decide +kernel) fun t hf y => ?_
  have ht := point_lt t
  have h0 : (y 0).val < 256 := (y 0).isLt
  have h1 : (y 1).val < 2048 := (y 1).isLt
  have e0 : ((((cfg0.win 2).blk t).view.emb y) 0).val = 256 * t.val + (y 0).val := by blk_simp [idx t] <;> omega
  have e1 : ((((cfg0.win 2).blk t).view.emb y) 1).val = (y 1).val := by blk_simp [idx t] <;> omega
  blk_simp
  rw [after0_2]
  refine (out_at m c t y).trans ((pay3_at _ _ y).trans (congrArg (· * _) (congrArg₂ (fun p q : EReal => p - q) ?_ ?_)))
  · blk_ext [iblk, V, idx t, e0, e1] <;> omega
  · blk_ext [iblk, V, idx t, e0, e1] <;> omega

theorem final3 : (dats m 0 c).arrAt 3 cfg0.N = L (argX m c) (argT m c) := by
  refine (dats m 0 c).arrAt_eq_of_covers 3 _ (by decide +kernel) fun t hf y => ?_
  have ht := point_lt t
  have hm : t.val % 16 = 15 := (flush0_3 t).mp hf
  have hv : t.val + 1 = 16 := by omega
  blk_simp
  rw [after0_3]
  refine (acc_at m c t.val t.isLt y).trans ?_
  rw [hv]
  rfl

end Cert.LossHeadIdeal

namespace Cert.LossHeadReferenceIdeal

open Cert.LossHeadReferenceIdeal.Gen

theorem half : (Ideal.ofBits .f32 0x3F000000#32 : EReal) = ((1 / 2 : ℝ) : EReal) := by
  simp [Ideal.ofBits, Ideal.ieee]
  rw [← EReal.coe_mul]
  norm_num

theorem two : (Ideal.ofBits .f32 0x40000000#32 : EReal) = ((2 : ℝ) : EReal) := by
  simp [Ideal.ofBits, Ideal.ieee]
  rw [← EReal.coe_mul]
  norm_num

theorem width : (Ideal.ofBits .f32 0x45000000#32 : EReal) = ((2048 : ℝ) : EReal) := by
  simp [Ideal.ofBits, Ideal.ieee]
  rw [← EReal.coe_mul]
  norm_num

theorem eleventh : (Ideal.ofBits .f32 0x3A000000#32 : EReal) = ((1 / 2048 : ℝ) : EReal) := by
  simp [Ideal.ofBits, Ideal.ieee]
  rw [← EReal.coe_mul]
  norm_num

theorem twelfth : (Ideal.ofBits .f32 0x39800000#32 : EReal) = ((1 / 4096 : ℝ) : EReal) := by
  simp [Ideal.ofBits, Ideal.ieee]
  rw [← EReal.coe_mul]
  norm_num

/-- A nonnegative real factor passes over any sum. -/
theorem sum_mul {ι : Type} (s : Finset ι) (f : ι → EReal) {a : ℝ} (ha : 0 ≤ a) : ∑ i ∈ s, f i * (a : EReal) = (∑ i ∈ s, f i) * (a : EReal) := by
  classical
  induction s using Finset.induction_on with
  | empty => simp
  | insert i s hi ih =>
    rw [Finset.sum_insert hi, Finset.sum_insert hi, ih]
    exact (EReal.right_distrib_of_nonneg_of_ne_top (EReal.coe_nonneg.mpr ha) (EReal.coe_ne_top a) _ _).symm

/-- Half the sum of the rows' means is the sum of the blocks' shares. -/
theorem loss_eq (X T : FVec Ideal S4096x2048 .f32) :
    ((1 / 2 : ℝ) : EReal) * ∑ r : Fin 4096, Ideal.div (Cert.LossHeadIdeal.row X T r) ((2048 : ℝ) : EReal)
      = ∑ s ∈ Finset.range 16, Cert.LossHeadIdeal.share X T s := by
  have hs : ∀ s : Fin 16, Cert.LossHeadIdeal.share X T s.val
      = (∑ r : Fin 256, Cert.LossHeadIdeal.row X T ⟨s.val * 256 + r.val, by have hr := r.isLt; have h := s.isLt; omega⟩) * ((1 / 4096 : ℝ) : EReal) := fun s => by
    unfold Cert.LossHeadIdeal.share
    rw [dif_pos s.isLt]
    exact congrArg (_ * ·) twelfth
  rw [Finset.sum_range, Finset.sum_congr rfl fun s _ => hs s, sum_mul _ _ (by norm_num)]
  simp only [Ideal.div_coe (show (2048 : ℝ) ≠ 0 by norm_num)]
  rw [sum_mul _ _ (by norm_num), Fin.sum_univ_tiles 16 256 rfl fun r : Fin 4096 => Cert.LossHeadIdeal.row X T r, mul_left_comm, ← EReal.coe_mul]
  exact congrArg (_ * ·) (congrArg _ (by norm_num))

/-- The reference's cotangent is the same function. -/
theorem ref_eq0 (X T : FVec Ideal S4096x2048 .f32) :
    mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf X T))
      = Cert.LossHeadIdeal.G X T := by
  funext y
  idx_vars y
  pointwise [Cert.LossHeadIdeal.G, half, two, width, eleventh]
  rw [Ideal.div_coe (show (2048 : ℝ) ≠ 0 by norm_num), ← mul_assoc, ← EReal.coe_mul, ← EReal.coe_mul, mul_comm]
  refine congrArg₂ (· * ·) rfl ?_
  exact congrArg (fun r : ℝ => (r : EReal)) (by norm_num)

/-- Likewise its loss. -/
theorem ref_eq1 (X T : FVec Ideal S4096x2048 .f32) :
    broadcastInDim S1x128 ![] bcast_S_S1x128 (mulf (constant S_ .f32 0x3F000000#32) (Host.reduceAdd (Host.divf (Host.reduceAdd (mulf (subf X T) (subf X T)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_))
      = Cert.LossHeadIdeal.L X T := by
  funext y
  idx_vars y
  refine Eq.trans ?_ (loss_eq X T)
  pointwise [Cert.LossHeadIdeal.row, half, width]

end Cert.LossHeadReferenceIdeal

end
-- ==== Proof.Between.Norm.lean ====
/- The residual sum and its normalisation, row by row. -/
module

public import proofs.«01_k».proof.Proof.Gen.NormIdeal.Value
public import proofs.«01_k».proof.Proof.Gen.NormReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.NormIdeal

open Cert.NormIdeal.Gen

/-- The scaled residual of a row plus what is added to it. -/
def resid (x d : Fin 2048 → EReal) (k : Fin 2048) : EReal := (Scalar.ofBits .f32 0x3FD744FD#32 : Ideal .f32) * x k + d k

/-- A row's mean. -/
def mean (f : Fin 2048 → EReal) : EReal := Ideal.div (∑ k : Fin 2048, f k) (Scalar.ofBits .f32 0x45000000#32 : Ideal .f32)

def centred (x d : Fin 2048 → EReal) (k : Fin 2048) : EReal := resid x d k - mean (resid x d)

/-- The inverse of a row's deviation. -/
def rstd (x d : Fin 2048 → EReal) : EReal :=
  Ideal.rsqrt (mean (fun k => centred x d k * centred x d k) + (Scalar.ofBits .f32 0x3727C5AC#32 : Ideal .f32))

/-- A row normalised. -/
def unitRow (x d : Fin 2048 → EReal) (k : Fin 2048) : EReal := centred x d k * rstd x d

/-- A row normalised, scaled and shifted. -/
def outRow (x d g b : Fin 2048 → EReal) (k : Fin 2048) : EReal := unitRow x d k * g k + b k

def Y (X D : FVec Ideal S4096x2048 .f32) (G B : FVec Ideal S2048 .f32) : FVec Ideal S4096x2048 .f32 := fun y =>
  outRow (fun k => X (ix2 (y 0) k)) (fun k => D (ix2 (y 0) k)) (fun k => G (ix1 k)) (fun k => B (ix1 k)) (y 1)

def Yb (X D : FVec Ideal S4096x2048 .f32) (G B : FVec Ideal S2048 .f32) : FVec Ideal S4096x2048 .bf16 := fun y =>
  outRow (fun k => X (ix2 (y 0) k)) (fun k => D (ix2 (y 0) k)) (fun k => G (ix1 k)) (fun k => B (ix1 k)) (y 1)

def U (X D : FVec Ideal S4096x2048 .f32) : FVec Ideal S4096x2048 .f32 := fun y => unitRow (fun k => X (ix2 (y 0) k)) (fun k => D (ix2 (y 0) k)) (y 1)

def R (X D : FVec Ideal S4096x2048 .f32) : FVec Ideal S4096x1 .f32 := fun y => rstd (fun k => X (ix2 (y 0) k)) (fun k => D (ix2 (y 0) k))

theorem pay1_at (x d : FVec Ideal S256x2048 .f32) (i : S256x2048.Idx) : k0_pay1 (F := Ideal) x d i = centred (fun k => x (ix2 (i 0) k)) (fun k => d (ix2 (i 0) k)) (i 1) := by
  idx_vars i
  pointwise [k0_pay1, centred, mean, resid]

theorem pay2_at (x d : FVec Ideal S256x2048 .f32) (i : S256x1.Idx) : k0_pay2 (F := Ideal) x d i = rstd (fun k => x (ix2 (i 0) k)) (fun k => d (ix2 (i 0) k)) := by
  idx_vars i
  pointwise [k0_pay2, rstd, mean]
  simp only [pay1_at]
  rfl

theorem pay3_at (x d : FVec Ideal S256x2048 .f32) (i : S256x2048.Idx) : k0_pay3 (F := Ideal) x d i = unitRow (fun k => x (ix2 (i 0) k)) (fun k => d (ix2 (i 0) k)) (i 1) := by
  idx_vars i
  pointwise [k0_pay3, unitRow]
  rw [pay1_at, pay2_at]
  rfl

theorem pay4_at (x d : FVec Ideal S256x2048 .f32) (g b : FVec Ideal S1x2048 .f32) (i : S256x2048.Idx) :
    k0_pay4 (F := Ideal) x d g b i = outRow (fun k => x (ix2 (i 0) k)) (fun k => d (ix2 (i 0) k)) (fun k => g (ix2 0 k)) (fun k => b (ix2 0 k)) (i 1) := by
  idx_vars i
  pointwise [k0_pay4, outRow]
  rw [pay3_at]
  rfl

theorem pay5_at (x d : FVec Ideal S256x2048 .f32) (g b : FVec Ideal S1x2048 .f32) (i : S256x2048.Idx) :
    k0_pay5 (F := Ideal) x d g b i = outRow (fun k => x (ix2 (i 0) k)) (fun k => d (ix2 (i 0) k)) (fun k => g (ix2 0 k)) (fun k => b (ix2 0 k)) (i 1) :=
  (show k0_pay5 (F := Ideal) x d g b i = k0_pay4 (F := Ideal) x d g b i from rfl).trans (pay4_at x d g b i)

theorem outRow_congr {x d g b x' d' g' b' : Fin 2048 → EReal} {k k' : Fin 2048} (hx : ∀ k, x k = x' k) (hd : ∀ k, d k = d' k) (hg : ∀ k, g k = g' k)
    (hb : ∀ k, b k = b' k) (hk : k = k') : outRow x d g b k = outRow x' d' g' b' k' := by
  rw [funext hx, funext hd, funext hg, funext hb, hk]

theorem unitRow_congr {x d x' d' : Fin 2048 → EReal} {k k' : Fin 2048} (hx : ∀ k, x k = x' k) (hd : ∀ k, d k = d' k) (hk : k = k') :
    unitRow x d k = unitRow x' d' k' := by
  rw [funext hx, funext hd, hk]

theorem rstd_congr {x d x' d' : Fin 2048 → EReal} (hx : ∀ k, x k = x' k) (hd : ∀ k, d k = d' k) : rstd x d = rstd x' d' := by
  rw [funext hx, funext hd]

variable (m : (ℓ : Loc nD τ sig) → Buf (Elt Ideal) ℓ) (c : Dev nD)

abbrev argX : FVec Ideal S4096x2048 .f32 := m ((c : Thread nD τ).loc main_arg0)
abbrev argD : FVec Ideal S4096x2048 .f32 := m ((c : Thread nD τ).loc main_arg1)
abbrev argG : FVec Ideal S2048 .f32 := m ((c : Thread nD τ).loc main_arg2)
abbrev argB : FVec Ideal S2048 .f32 := m ((c : Thread nD τ).loc main_arg3)

theorem V_G : (V m c main_v0 : FVec Ideal S1x2048 .f32) = broadcastInDim S1x2048 ![1] bcast_S2048_S1x2048_1 (argG m c) := rfl

theorem V_B : (V m c main_v1 : FVec Ideal S1x2048 .f32) = broadcastInDim S1x2048 ![1] bcast_S2048_S1x2048_1 (argB m c) := rfl

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 16 := lt_of_lt_of_eq t.isLt (show cfg0.N = 16 from N_0)

theorem final4 : (dats m 0 c).arrAt 4 cfg0.N = Y (argX m c) (argD m c) (argG m c) (argB m c) := by
  refine (dats m 0 c).arrAt_eq_of_covers 4 _ (by decide +kernel) fun t hf y => ?_
  have ht := point_lt t
  have h0 : (y 0).val < 256 := (y 0).isLt
  have h1 : (y 1).val < 2048 := (y 1).isLt
  have e0 : ((((cfg0.win 4).blk t).view.emb y) 0).val = 256 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (outRow_congr ?_ ?_ ?_ ?_ ?_)
  · intro k
    rw [View.ld_unit_zero (by decide)]
    blk_ext [iblk, V, idx t, e0] <;> omega
  · intro k
    rw [View.ld_unit_zero (by decide)]
    blk_ext [iblk, V, idx t, e0] <;> omega
  · intro k
    rw [View.ld_unit_zero (by decide)]
    unfold iblk
    refine (congrFun (V_G m c) _).trans ?_
    pointwise
    blk_ext [idx t] <;> omega
  · intro k
    rw [View.ld_unit_zero (by decide)]
    unfold iblk
    refine (congrFun (V_B m c) _).trans ?_
    pointwise
    blk_ext [idx t] <;> omega
  · exact Fin.ext (h1.symm.trans e1.symm)

theorem final5 : (dats m 0 c).arrAt 5 cfg0.N = Yb (argX m c) (argD m c) (argG m c) (argB m c) := by
  refine (dats m 0 c).arrAt_eq_of_covers 5 _ (by decide +kernel) fun t hf y => ?_
  have ht := point_lt t
  have h0 : (y 0).val < 256 := (y 0).isLt
  have h1 : (y 1).val < 2048 := (y 1).isLt
  have e0 : ((((cfg0.win 5).blk t).view.emb y) 0).val = 256 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay5_at _ _ _ _ y).trans (outRow_congr ?_ ?_ ?_ ?_ ?_)
  · intro k
    rw [View.ld_unit_zero (by decide)]
    blk_ext [iblk, V, idx t, e0] <;> omega
  · intro k
    rw [View.ld_unit_zero (by decide)]
    blk_ext [iblk, V, idx t, e0] <;> omega
  · intro k
    rw [View.ld_unit_zero (by decide)]
    unfold iblk
    refine (congrFun (V_G m c) _).trans ?_
    pointwise
    blk_ext [idx t] <;> omega
  · intro k
    rw [View.ld_unit_zero (by decide)]
    unfold iblk
    refine (congrFun (V_B m c) _).trans ?_
    pointwise
    blk_ext [idx t] <;> omega
  · exact Fin.ext (h1.symm.trans e1.symm)

theorem final6 : (dats m 0 c).arrAt 6 cfg0.N = U (argX m c) (argD m c) := by
  refine (dats m 0 c).arrAt_eq_of_covers 6 _ (by decide +kernel) fun t hf y => ?_
  have ht := point_lt t
  have h0 : (y 0).val < 256 := (y 0).isLt
  have h1 : (y 1).val < 2048 := (y 1).isLt
  have e0 : ((((cfg0.win 6).blk t).view.emb y) 0).val = 256 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (unitRow_congr ?_ ?_ ?_)
  · intro k
    rw [View.ld_unit_zero (by decide)]
    blk_ext [iblk, V, idx t, e0] <;> omega
  · intro k
    rw [View.ld_unit_zero (by decide)]
    blk_ext [iblk, V, idx t, e0] <;> omega
  · exact Fin.ext (h1.symm.trans e1.symm)

theorem final7 : (dats m 0 c).arrAt 7 cfg0.N = R (argX m c) (argD m c) := by
  refine (dats m 0 c).arrAt_eq_of_covers 7 _ (by decide +kernel) fun t hf y => ?_
  have ht := point_lt t
  have h0 : (y 0).val < 256 := (y 0).isLt
  have h1 : (y 1).val < 1 := (y 1).isLt
  have e0 : ((((cfg0.win 7).blk t).view.emb y) 0).val = 256 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay2_at _ _ y).trans (rstd_congr ?_ ?_)
  · intro k
    rw [View.ld_unit_zero (by decide)]
    blk_ext [iblk, V, idx t, e0] <;> omega
  · intro k
    rw [View.ld_unit_zero (by decide)]
    blk_ext [iblk, V, idx t, e0] <;> omega

end Cert.NormIdeal

namespace Cert.NormReferenceIdeal

open Cert.NormReferenceIdeal.Gen

/-- The reference computes the same functions of its arguments. -/
theorem ref_eq0 (X D : FVec Ideal S4096x2048 .f32) (G B : FVec Ideal S2048 .f32) :
    addf (mulf (mulf (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32))))) (broadcastInDim S4096x2048 ![0, 1] bcast_S4096x1_S4096x2048_0_1 (Host.rsqrt (addf (Host.divf (broadcastInDim S4096x1 ![0] bcast_S4096_S4096x1_0 (Host.reduceAdd (mulf (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32))))) (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32)))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 G))) (broadcastInDim S4096x2048 ![0, 1] bcast_S1x2048_S4096x2048_0_1 (broadcastInDim S1x2048 ![1] bcast_S2048_S1x2048_1 B))
      = Cert.NormIdeal.Y X D G B := by
  funext y
  idx_vars y
  pointwise [Cert.NormIdeal.Y, Cert.NormIdeal.outRow, Cert.NormIdeal.unitRow, Cert.NormIdeal.rstd, Cert.NormIdeal.centred, Cert.NormIdeal.mean, Cert.NormIdeal.resid]

/-- Likewise its next result. -/
theorem ref_eq1 (X D : FVec Ideal S4096x2048 .f32) (G B : FVec Ideal S2048 .f32) :
    truncf .bf16 (addf (mulf (mulf (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32))))) (broadcastInDim S4096x2048 ![0, 1] bcast_S4096x1_S4096x2048_0_1 (Host.rsqrt (addf (Host.divf (broadcastInDim S4096x1 ![0] bcast_S4096_S4096x1_0 (Host.reduceAdd (mulf (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32))))) (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32)))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 G))) (broadcastInDim S4096x2048 ![0, 1] bcast_S1x2048_S4096x2048_0_1 (broadcastInDim S1x2048 ![1] bcast_S2048_S1x2048_1 B))) bitsLt_bf16_f32
      = Cert.NormIdeal.Yb X D G B := by
  funext y
  idx_vars y
  pointwise [Cert.NormIdeal.Yb, Cert.NormIdeal.outRow, Cert.NormIdeal.unitRow, Cert.NormIdeal.rstd, Cert.NormIdeal.centred, Cert.NormIdeal.mean, Cert.NormIdeal.resid]

/-- Likewise its next result. -/
theorem ref_eq2 (X D : FVec Ideal S4096x2048 .f32) :
    mulf (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32))))) (broadcastInDim S4096x2048 ![0, 1] bcast_S4096x1_S4096x2048_0_1 (Host.rsqrt (addf (Host.divf (broadcastInDim S4096x1 ![0] bcast_S4096_S4096x1_0 (Host.reduceAdd (mulf (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32))))) (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32)))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))
      = Cert.NormIdeal.U X D := by
  funext y
  idx_vars y
  pointwise [Cert.NormIdeal.U, Cert.NormIdeal.outRow, Cert.NormIdeal.unitRow, Cert.NormIdeal.rstd, Cert.NormIdeal.centred, Cert.NormIdeal.mean, Cert.NormIdeal.resid]

/-- Likewise its next result. -/
theorem ref_eq3 (X D : FVec Ideal S4096x2048 .f32) :
    Host.rsqrt (addf (Host.divf (broadcastInDim S4096x1 ![0] bcast_S4096_S4096x1_0 (Host.reduceAdd (mulf (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32))))) (subf (addf (mulf (broadcastInDim S4096x2048 ![] bcast_S_S4096x2048 (constant S_ .f32 0x3FD744FD#32)) X) D) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FD744FD#32)) X) D) (constant S_ .f32 0x00000000#32) reducesTo_S4096x2048_S4096_d1 h_S_)) (broadcastInDim S4096x1 ![] bcast_S_S4096x1 (constant S_ .f32 0x45000000#32)))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))
      = Cert.NormIdeal.R X D := by
  funext y
  idx_vars y
  pointwise [Cert.NormIdeal.R, Cert.NormIdeal.outRow, Cert.NormIdeal.unitRow, Cert.NormIdeal.rstd, Cert.NormIdeal.centred, Cert.NormIdeal.mean, Cert.NormIdeal.resid]

end Cert.NormReferenceIdeal

end
-- ==== Proof.Between.Claim.lean ====
/- The claims of the calls between the products: that each reference runs, and that the call and its reference end with equal results. -/
module

public import proofs.«01_k».proof.Defs
public import proofs.«01_k».proof.Proof.Between.MergeBack
public import proofs.«01_k».proof.Proof.Between.GluBack
public import proofs.«01_k».proof.Proof.Between.SwigluBack
public import proofs.«01_k».proof.Proof.Between.Merge
public import proofs.«01_k».proof.Proof.Between.Glu
public import proofs.«01_k».proof.Proof.Between.Swiglu
public import proofs.«01_k».proof.Proof.Between.LossHead
public import proofs.«01_k».proof.Proof.Between.Norm
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.MergeBack

theorem reference_frame : @Cert.quiescent_MergeBackReferenceIdeal Cert.MergeBackReferenceIdeal.Gen.facts := fun m g _ =>
  (θ_run _ _ _).mono (fun r h => ⟨fun c => (h c).2.2.2.2.2.2, sem_eq_zero_of_no_sems (by decide) r.2⟩) (Cert.MergeBackReferenceIdeal.Value.run (F := Ideal) m g)

theorem algebraic : @Cert.algebraic_MergeBackIdeal_MergeBackReferenceIdeal Cert.MergeBackIdeal.Gen.facts Cert.MergeBackReferenceIdeal.Gen.facts := by
  pair_intro
  · run_from Cert.MergeBackIdeal.Value.run_blocks m g
  · exact (θ_run _ _ _).mono (fun r h c => ⟨(h c).1.trans ((Cert.MergeBackReferenceIdeal.ref_eq0 _ _).trans
      ((congrArg₂ Cert.MergeBackIdeal.G0 (hagree c).1 (hagree c).2.1).trans (Cert.MergeBackIdeal.final7 m c).symm)),
      (h c).2.1.trans ((Cert.MergeBackReferenceIdeal.ref_eq1 _ _).trans
      ((congrArg₂ Cert.MergeBackIdeal.G1 (hagree c).1 (hagree c).2.1).trans (Cert.MergeBackIdeal.final8 m c).symm)),
      (h c).2.2.1.trans ((Cert.MergeBackReferenceIdeal.ref_eq2 _ _).trans
      ((congrArg₂ Cert.MergeBackIdeal.G2 (hagree c).1 (hagree c).2.1).trans (Cert.MergeBackIdeal.final9 m c).symm)),
      (h c).2.2.2.1.trans ((Cert.MergeBackReferenceIdeal.ref_eq3 _ _ _).trans
      ((congr (congrArg₂ Cert.MergeBackIdeal.H0 (hagree c).1 (hagree c).2.1) (hagree c).2.2.1).trans (Cert.MergeBackIdeal.final10 m c).symm)),
      (h c).2.2.2.2.1.trans ((Cert.MergeBackReferenceIdeal.ref_eq4 _ _ _).trans
      ((congr (congrArg₂ Cert.MergeBackIdeal.H1 (hagree c).1 (hagree c).2.1) (hagree c).2.2.2.1).trans (Cert.MergeBackIdeal.final11 m c).symm)),
      (h c).2.2.2.2.2.1.trans ((Cert.MergeBackReferenceIdeal.ref_eq5 _ _ _).trans
      ((congr (congrArg₂ Cert.MergeBackIdeal.H2 (hagree c).1 (hagree c).2.1) (hagree c).2.2.2.2).trans (Cert.MergeBackIdeal.final12 m c).symm)), (h c).2.2.2.2.2.2⟩) (Cert.MergeBackReferenceIdeal.Value.run (F := Ideal) m' g')

end Cert.MergeBack

namespace Cert.GluBack

theorem reference_frame : @Cert.quiescent_GluBackReferenceIdeal Cert.GluBackReferenceIdeal.Gen.facts := fun m g _ =>
  (θ_run _ _ _).mono (fun r h => ⟨fun c => (h c).2, sem_eq_zero_of_no_sems (by decide) r.2⟩) (Cert.GluBackReferenceIdeal.Value.run (F := Ideal) m g)

theorem algebraic : @Cert.algebraic_GluBackIdeal_GluBackReferenceIdeal Cert.GluBackIdeal.Gen.facts Cert.GluBackReferenceIdeal.Gen.facts := by
  pair_intro
  · run_from Cert.GluBackIdeal.Value.run_blocks m g
  · exact (θ_run _ _ _).mono (fun r h c => ⟨(h c).1.trans ((Cert.GluBackReferenceIdeal.ref_eq _ _).trans
      ((congrArg₂ Cert.GluBackIdeal.G (hagree c).1 (hagree c).2).trans (Cert.GluBackIdeal.final2 m c).symm)), (h c).2⟩) (Cert.GluBackReferenceIdeal.Value.run (F := Ideal) m' g')

end Cert.GluBack

namespace Cert.SwigluBack

theorem reference_frame : @Cert.quiescent_SwigluBackReferenceIdeal Cert.SwigluBackReferenceIdeal.Gen.facts := fun m g _ =>
  (θ_run _ _ _).mono (fun r h => ⟨fun c => (h c).2, sem_eq_zero_of_no_sems (by decide) r.2⟩) (Cert.SwigluBackReferenceIdeal.Value.run (F := Ideal) m g)

/-- The shape relations of the precondition. -/
theorem pre_facts : Cert.Pre_swiglu_finite.Facts where
  bcast_S_S4096x5632 := by decide
  bcast_S_S4096x11264 := by decide

section

variable (X : FVec Ideal ⟨2, ![4096, 5632]⟩ .f32) (P : FVec Ideal ⟨2, ![4096, 11264]⟩ .f32)

theorem realX_of_pre (h : (@Cert.Pre_swiglu_finite.fn pre_facts Ideal _ X P).1 = fun _ => 1#1) (i) : X i = (((X i).toReal : ℝ) : EReal) := by
  idx_vars i
  have e := congrFun h (ix2 i0 i1)
  pointwise [Cert.Pre_swiglu_finite.fn, Between.inf_eq] at e
  exact Between.real_of_abs_lt _ e

theorem realP_of_pre (h : (@Cert.Pre_swiglu_finite.fn pre_facts Ideal _ X P).2 = fun _ => 1#1) (i) : P i = (((P i).toReal : ℝ) : EReal) := by
  idx_vars i
  have e := congrFun h (ix2 i0 i1)
  pointwise [Cert.Pre_swiglu_finite.fn, Between.inf_eq] at e
  exact Between.real_of_abs_lt _ e

end

theorem algebraic : @Cert.algebraic_SwigluBackIdeal_SwigluBackReferenceIdeal_pre_swiglu_finite Cert.SwigluBackIdeal.Gen.facts Cert.SwigluBackReferenceIdeal.Gen.facts pre_facts := by
  pair_intro
  · run_from Cert.SwigluBackIdeal.Value.run_blocks m g
  · exact (θ_run _ _ _).mono (fun r h c => ⟨(h c).1.trans ((Cert.SwigluBackReferenceIdeal.ref_eq_of (hagree c).1 (hagree c).2
      (realX_of_pre _ _ (hpre c).1) (realP_of_pre _ _ (hpre c).2)).trans (Cert.SwigluBackIdeal.final2 m c).symm), (h c).2⟩) (Cert.SwigluBackReferenceIdeal.Value.run (F := Ideal) m' g')

end Cert.SwigluBack

namespace Cert.Merge

theorem reference_frame : @Cert.quiescent_MergeReferenceIdeal Cert.MergeReferenceIdeal.Gen.facts := fun m g _ =>
  (θ_run _ _ _).mono (fun r h => ⟨fun c => (h c).2, sem_eq_zero_of_no_sems (by decide) r.2⟩) (Cert.MergeReferenceIdeal.Value.run (F := Ideal) m g)

theorem algebraic : @Cert.algebraic_MergeIdeal_MergeReferenceIdeal Cert.MergeIdeal.Gen.facts Cert.MergeReferenceIdeal.Gen.facts := by
  pair_intro
  · run_from Cert.MergeIdeal.Value.run_blocks m g
  · exact (θ_run _ _ _).mono (fun r h c => ⟨(h c).1.trans ((Cert.MergeReferenceIdeal.ref_eq _ _ _ _).trans
      ((congr (congr (congrArg₂ Cert.MergeIdeal.G (hagree c).1 (hagree c).2.1) (hagree c).2.2.1) (hagree c).2.2.2).trans (Cert.MergeIdeal.final6 m c).symm)), (h c).2⟩) (Cert.MergeReferenceIdeal.Value.run (F := Ideal) m' g')

end Cert.Merge

namespace Cert.Glu

theorem reference_frame : @Cert.quiescent_GluReferenceIdeal Cert.GluReferenceIdeal.Gen.facts := fun m g _ =>
  (θ_run _ _ _).mono (fun r h => ⟨fun c => (h c).2, sem_eq_zero_of_no_sems (by decide) r.2⟩) (Cert.GluReferenceIdeal.Value.run (F := Ideal) m g)

theorem algebraic : @Cert.algebraic_GluIdeal_GluReferenceIdeal Cert.GluIdeal.Gen.facts Cert.GluReferenceIdeal.Gen.facts := by
  pair_intro
  · run_from Cert.GluIdeal.Value.run_blocks m g
  · exact (θ_run _ _ _).mono (fun r h c => ⟨(h c).1.trans ((Cert.GluReferenceIdeal.ref_eq _).trans
      ((congrArg Cert.GluIdeal.G (hagree c)).trans (Cert.GluIdeal.final1 m c).symm)), (h c).2⟩) (Cert.GluReferenceIdeal.Value.run (F := Ideal) m' g')

end Cert.Glu

namespace Cert.Swiglu

theorem reference_frame : @Cert.quiescent_SwigluReferenceIdeal Cert.SwigluReferenceIdeal.Gen.facts := fun m g _ =>
  (θ_run _ _ _).mono (fun r h => ⟨fun c => (h c).2, sem_eq_zero_of_no_sems (by decide) r.2⟩) (Cert.SwigluReferenceIdeal.Value.run (F := Ideal) m g)

theorem algebraic : @Cert.algebraic_SwigluIdeal_SwigluReferenceIdeal Cert.SwigluIdeal.Gen.facts Cert.SwigluReferenceIdeal.Gen.facts := by
  pair_intro
  · run_from Cert.SwigluIdeal.Value.run_blocks m g
  · exact (θ_run _ _ _).mono (fun r h c => ⟨(h c).1.trans ((Cert.SwigluReferenceIdeal.ref_eq _).trans
      ((congrArg Cert.SwigluIdeal.G (hagree c)).trans (Cert.SwigluIdeal.final1 m c).symm)), (h c).2⟩) (Cert.SwigluReferenceIdeal.Value.run (F := Ideal) m' g')

end Cert.Swiglu

namespace Cert.LossHead

theorem reference_frame : @Cert.quiescent_LossHeadReferenceIdeal Cert.LossHeadReferenceIdeal.Gen.facts := fun m g _ =>
  (θ_run _ _ _).mono (fun r h => ⟨fun c => (h c).2.2, sem_eq_zero_of_no_sems (by decide) r.2⟩) (Cert.LossHeadReferenceIdeal.Value.run (F := Ideal) m g)

theorem algebraic : @Cert.algebraic_LossHeadIdeal_LossHeadReferenceIdeal Cert.LossHeadIdeal.Gen.facts Cert.LossHeadReferenceIdeal.Gen.facts := by
  pair_intro
  · run_from Cert.LossHeadIdeal.Value.run_blocks m g
  · exact (θ_run _ _ _).mono (fun r h c => ⟨(h c).1.trans ((Cert.LossHeadReferenceIdeal.ref_eq0 _ _).trans
      ((congrArg₂ Cert.LossHeadIdeal.G (hagree c).1 (hagree c).2).trans (Cert.LossHeadIdeal.final2 m c).symm)),
      (h c).2.1.trans ((Cert.LossHeadReferenceIdeal.ref_eq1 _ _).trans
      ((congrArg₂ Cert.LossHeadIdeal.L (hagree c).1 (hagree c).2).trans (Cert.LossHeadIdeal.final3 m c).symm)), (h c).2.2⟩) (Cert.LossHeadReferenceIdeal.Value.run (F := Ideal) m' g')

end Cert.LossHead

namespace Cert.Norm

theorem reference_frame : @Cert.quiescent_NormReferenceIdeal Cert.NormReferenceIdeal.Gen.facts := fun m g _ =>
  (θ_run _ _ _).mono (fun r h => ⟨fun c => (h c).2.2.2.2, sem_eq_zero_of_no_sems (by decide) r.2⟩) (Cert.NormReferenceIdeal.Value.run (F := Ideal) m g)

theorem algebraic : @Cert.algebraic_NormIdeal_NormReferenceIdeal Cert.NormIdeal.Gen.facts Cert.NormReferenceIdeal.Gen.facts := by
  pair_intro
  · run_from Cert.NormIdeal.Value.run_blocks m g
  · exact (θ_run _ _ _).mono (fun r h c => ⟨(h c).1.trans ((Cert.NormReferenceIdeal.ref_eq0 _ _ _ _).trans
      ((congr (congr (congrArg₂ Cert.NormIdeal.Y (hagree c).1 (hagree c).2.1) (hagree c).2.2.1) (hagree c).2.2.2).trans (Cert.NormIdeal.final4 m c).symm)),
      (h c).2.1.trans ((Cert.NormReferenceIdeal.ref_eq1 _ _ _ _).trans
      ((congr (congr (congrArg₂ Cert.NormIdeal.Yb (hagree c).1 (hagree c).2.1) (hagree c).2.2.1) (hagree c).2.2.2).trans (Cert.NormIdeal.final5 m c).symm)),
      (h c).2.2.1.trans ((Cert.NormReferenceIdeal.ref_eq2 _ _).trans
      ((congrArg₂ Cert.NormIdeal.U (hagree c).1 (hagree c).2.1).trans (Cert.NormIdeal.final6 m c).symm)),
      (h c).2.2.2.1.trans ((Cert.NormReferenceIdeal.ref_eq3 _ _).trans
      ((congrArg₂ Cert.NormIdeal.R (hagree c).1 (hagree c).2.1).trans (Cert.NormIdeal.final7 m c).symm)), (h c).2.2.2.2⟩) (Cert.NormReferenceIdeal.Value.run (F := Ideal) m' g')

end Cert.Norm

end
-- ==== Proof.Updates.UpdateIn.lean ====
/- The optimiser's step of one weight, element by element. -/
module

public import proofs.«01_k».proof.Proof.Gen.UpdateInIdeal.Value
public import proofs.«01_k».proof.Proof.Gen.UpdateInReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.UpdateInIdeal

open Cert.UpdateInIdeal.Gen

/-- The steps. -/
def D (W G M V : FVec Ideal S8192x2560 .f32) : FVec Ideal S8192x2560 .f32 := fun y => Between.step (W y) (G y) (M y) (V y)

/-- The first moments. -/
def M₁ (G M : FVec Ideal S8192x2560 .f32) : FVec Ideal S8192x2560 .f32 := fun y => Between.moment₁ (G y) (M y)

/-- The second moments. -/
def M₂ (G V : FVec Ideal S8192x2560 .f32) : FVec Ideal S8192x2560 .f32 := fun y => Between.moment₂ (G y) (V y)

theorem pay1_at (g : FVec Ideal S128x2560 .f32) (i : S128x2560.Idx) : k0_pay1 (F := Ideal) g i = g i := by
  pointwise [k0_pay1]

theorem pay2_at (g m : FVec Ideal S128x2560 .f32) (i : S128x2560.Idx) : k0_pay2 (F := Ideal) g m i = Between.moment₁ (g i) (m i) := by
  pointwise [k0_pay2, k0_pay1, Between.moment₁]

theorem pay3_at (g v : FVec Ideal S128x2560 .f32) (i : S128x2560.Idx) : k0_pay3 (F := Ideal) g v i = Between.moment₂ (g i) (v i) := by
  pointwise [k0_pay3, k0_pay1, Between.moment₂]

theorem pay4_at (g m v w : FVec Ideal S128x2560 .f32) (i : S128x2560.Idx) : k0_pay4 (F := Ideal) g m v w i = Between.step (w i) (g i) (m i) (v i) := by
  pointwise [k0_pay4, k0_pay3, k0_pay2, k0_pay1, Between.step, Between.moment₁, Between.moment₂]

variable (m : (ℓ : Loc nD τ sig) → Buf (Elt Ideal) ℓ) (c : Dev nD)

abbrev argW : FVec Ideal S4x2048x2560 .f32 := m ((c : Thread nD τ).loc main_arg0)
abbrev argG : FVec Ideal S4x2048x2560 .f32 := m ((c : Thread nD τ).loc main_arg1)
abbrev argM : FVec Ideal S4x2048x2560 .f32 := m ((c : Thread nD τ).loc main_arg2)
abbrev argV : FVec Ideal S4x2048x2560 .f32 := m ((c : Thread nD τ).loc main_arg3)

/-- The arguments, their four groups of rows one below the other. -/
abbrev rowsW : FVec Ideal S8192x2560 .f32 := shapeCast S8192x2560 (argW m c) shapeCasts_S4x2048x2560_S8192x2560
abbrev rowsG : FVec Ideal S8192x2560 .f32 := shapeCast S8192x2560 (argG m c) shapeCasts_S4x2048x2560_S8192x2560
abbrev rowsM : FVec Ideal S8192x2560 .f32 := shapeCast S8192x2560 (argM m c) shapeCasts_S4x2048x2560_S8192x2560
abbrev rowsV : FVec Ideal S8192x2560 .f32 := shapeCast S8192x2560 (argV m c) shapeCasts_S4x2048x2560_S8192x2560

theorem V_W : (V m c main_v0 : FVec Ideal S8192x2560 .f32) = rowsW m c := rfl

theorem V_G : (V m c main_v1 : FVec Ideal S8192x2560 .f32) = rowsG m c := rfl

theorem V_M : (V m c main_v2 : FVec Ideal S8192x2560 .f32) = rowsM m c := rfl

theorem V_V : (V m c main_v3 : FVec Ideal S8192x2560 .f32) = rowsV m c := rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 64 := lt_of_lt_of_eq t.isLt (show cfg0.N = 64 from N_0)

theorem final4 : (dats m 0 c).arrAt 4 cfg0.N = D (rowsW m c) (rowsG m c) (rowsM m c) (rowsV m c) := by
  refine (dats m 0 c).arrAt_eq_of_covers 4 _ (by decide +kernel) fun t hf y => ?_
  have ht := point_lt t
  have h0 : (y 0).val < 128 := (y 0).isLt
  have h1 : (y 1).val < 2560 := (y 1).isLt
  have e0 : ((((cfg0.win 4).blk t).view.emb y) 0).val = 128 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (Between.congr4 Between.step ?_ ?_ ?_ ?_)
  · rw [View.ld_unit_zero (by decide)]
    unfold iblk
    refine (congrFun (V_W m c) _).trans ?_
    blk_ext [idx t, e0, e1] <;> omega
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega
  · rw [View.ld_unit_zero (by decide)]
    unfold iblk
    refine (congrFun (V_V m c) _).trans ?_
    blk_ext [idx t, e0, e1] <;> omega

theorem final5 : (dats m 0 c).arrAt 5 cfg0.N = M₁ (rowsG m c) (rowsM m c) := by
  refine (dats m 0 c).arrAt_eq_of_covers 5 _ (by decide +kernel) fun t hf y => ?_
  have ht := point_lt t
  have h0 : (y 0).val < 128 := (y 0).isLt
  have h1 : (y 1).val < 2560 := (y 1).isLt
  have e0 : ((((cfg0.win 5).blk t).view.emb y) 0).val = 128 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay2_at _ _ y).trans (congrArg₂ Between.moment₁ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega

theorem final6 : (dats m 0 c).arrAt 6 cfg0.N = M₂ (rowsG m c) (rowsV m c) := by
  refine (dats m 0 c).arrAt_eq_of_covers 6 _ (by decide +kernel) fun t hf y => ?_
  have ht := point_lt t
  have h0 : (y 0).val < 128 := (y 0).isLt
  have h1 : (y 1).val < 2560 := (y 1).isLt
  have e0 : ((((cfg0.win 6).blk t).view.emb y) 0).val = 128 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (congrArg₂ Between.moment₂ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_V m c) _).trans ?_
    blk_ext [idx t, e0, e1] <;> omega

theorem final7 : (dats m 0 c).arrAt 7 cfg0.N = rowsG m c := by
  refine (dats m 0 c).arrAt_eq_of_covers 7 _ (by decide +kernel) fun t hf y => ?_
  have ht := point_lt t
  have h0 : (y 0).val < 128 := (y 0).isLt
  have h1 : (y 1).val < 2560 := (y 1).isLt
  have e0 : ((((cfg0.win 7).blk t).view.emb y) 0).val = 128 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay1_at _ y).trans ?_
  rw [View.ld_unit_zero (by decide)]
  unfold iblk
  refine (congrFun (V_G m c) _).trans ?_
  blk_ext [idx t, e0, e1] <;> omega

end Cert.UpdateInIdeal

namespace Cert.UpdateInReferenceIdeal

open Cert.UpdateInReferenceIdeal.Gen

/-- The reference computes the same functions of its arguments. -/
theorem ref_eq0 (W G M V : FVec Ideal S4x2048x2560 .f32) :
    shapeCast S8192x2560 (mulf (broadcastInDim S4x2048x2560 ![] bcast_S_S4x2048x2560 (constant S_ .f32 0xBA83126F#32)) (addf (Host.divf (Host.divf (addf (mulf (broadcastInDim S4x2048x2560 ![] bcast_S_S4x2048x2560 (constant S_ .f32 0x3F666666#32)) M) (mulf (broadcastInDim S4x2048x2560 ![] bcast_S_S4x2048x2560 (constant S_ .f32 0x3DCCCCCD#32)) G)) (broadcastInDim S4x2048x2560 ![] bcast_S_S4x2048x2560 (constant S_ .f32 0x3F26BD02#32))) (addf (Host.sqrt (Host.divf (addf (mulf (broadcastInDim S4x2048x2560 ![] bcast_S_S4x2048x2560 (constant S_ .f32 0x3F7FBE77#32)) V) (mulf (broadcastInDim S4x2048x2560 ![] bcast_S_S4x2048x2560 (constant S_ .f32 0x3A83126F#32)) (mulf G G))) (broadcastInDim S4x2048x2560 ![] bcast_S_S4x2048x2560 (constant S_ .f32 0x3C231ACC#32)))) (broadcastInDim S4x2048x2560 ![] bcast_S_S4x2048x2560 (constant S_ .f32 0x322BCC77#32)))) (mulf (broadcastInDim S4x2048x2560 ![] bcast_S_S4x2048x2560 (constant S_ .f32 0x3C23D70A#32)) W))) shapeCasts_S4x2048x2560_S8192x2560
      = Cert.UpdateInIdeal.D (shapeCast S8192x2560 W shapeCasts_S4x2048x2560_S8192x2560) (shapeCast S8192x2560 G shapeCasts_S4x2048x2560_S8192x2560) (shapeCast S8192x2560 M shapeCasts_S4x2048x2560_S8192x2560) (shapeCast S8192x2560 V shapeCasts_S4x2048x2560_S8192x2560) := by
  funext y
  idx_vars y
  pointwise [Cert.UpdateInIdeal.D, Between.step, Between.moment₁, Between.moment₂]

/-- Likewise its next result. -/
theorem ref_eq1 (G M : FVec Ideal S4x2048x2560 .f32) :
    shapeCast S8192x2560 (addf (mulf (broadcastInDim S4x2048x2560 ![] bcast_S_S4x2048x2560 (constant S_ .f32 0x3F666666#32)) M) (mulf (broadcastInDim S4x2048x2560 ![] bcast_S_S4x2048x2560 (constant S_ .f32 0x3DCCCCCD#32)) G)) shapeCasts_S4x2048x2560_S8192x2560
      = Cert.UpdateInIdeal.M₁ (shapeCast S8192x2560 G shapeCasts_S4x2048x2560_S8192x2560) (shapeCast S8192x2560 M shapeCasts_S4x2048x2560_S8192x2560) := by
  funext y
  idx_vars y
  pointwise [Cert.UpdateInIdeal.M₁, Between.moment₁]

/-- Likewise its next result. -/
theorem ref_eq2 (G V : FVec Ideal S4x2048x2560 .f32) :
    shapeCast S8192x2560 (addf (mulf (broadcastInDim S4x2048x2560 ![] bcast_S_S4x2048x2560 (constant S_ .f32 0x3F7FBE77#32)) V) (mulf (broadcastInDim S4x2048x2560 ![] bcast_S_S4x2048x2560 (constant S_ .f32 0x3A83126F#32)) (mulf G G))) shapeCasts_S4x2048x2560_S8192x2560
      = Cert.UpdateInIdeal.M₂ (shapeCast S8192x2560 G shapeCasts_S4x2048x2560_S8192x2560) (shapeCast S8192x2560 V shapeCasts_S4x2048x2560_S8192x2560) := by
  funext y
  idx_vars y
  pointwise [Cert.UpdateInIdeal.M₂, Between.moment₂]

end Cert.UpdateInReferenceIdeal

end
-- ==== Proof.Updates.UpdateSbOut.lean ====
/- The optimiser's step of one weight, element by element. -/
module

public import proofs.«01_k».proof.Proof.Gen.UpdateSbOutIdeal.Value
public import proofs.«01_k».proof.Proof.Gen.UpdateSbOutReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.UpdateSbOutIdeal

open Cert.UpdateSbOutIdeal.Gen

/-- The steps. -/
def D (W G M V : FVec Ideal S4096x512 .f32) : FVec Ideal S4096x512 .f32 := fun y => Between.step (W y) (G y) (M y) (V y)

/-- The first moments. -/
def M₁ (G M : FVec Ideal S4096x512 .f32) : FVec Ideal S4096x512 .f32 := fun y => Between.moment₁ (G y) (M y)

/-- The second moments. -/
def M₂ (G V : FVec Ideal S4096x512 .f32) : FVec Ideal S4096x512 .f32 := fun y => Between.moment₂ (G y) (V y)

theorem pay1_at (g : FVec Ideal S1024x512 .f32) (i : S1024x512.Idx) : k0_pay1 (F := Ideal) g i = g i := by
  pointwise [k0_pay1]

theorem pay2_at (g m : FVec Ideal S1024x512 .f32) (i : S1024x512.Idx) : k0_pay2 (F := Ideal) g m i = Between.moment₁ (g i) (m i) := by
  pointwise [k0_pay2, k0_pay1, Between.moment₁]

theorem pay3_at (g v : FVec Ideal S1024x512 .f32) (i : S1024x512.Idx) : k0_pay3 (F := Ideal) g v i = Between.moment₂ (g i) (v i) := by
  pointwise [k0_pay3, k0_pay1, Between.moment₂]

theorem pay4_at (g m v w : FVec Ideal S1024x512 .f32) (i : S1024x512.Idx) : k0_pay4 (F := Ideal) g m v w i = Between.step (w i) (g i) (m i) (v i) := by
  pointwise [k0_pay4, k0_pay3, k0_pay2, k0_pay1, Between.step, Between.moment₁, Between.moment₂]

variable (m : (ℓ : Loc nD τ sig) → Buf (Elt Ideal) ℓ) (c : Dev nD)

abbrev argW : FVec Ideal S4x1024x512 .f32 := m ((c : Thread nD τ).loc main_arg0)
abbrev argG : FVec Ideal S4x1024x512 .f32 := m ((c : Thread nD τ).loc main_arg1)
abbrev argM : FVec Ideal S4x1024x512 .f32 := m ((c : Thread nD τ).loc main_arg2)
abbrev argV : FVec Ideal S4x1024x512 .f32 := m ((c : Thread nD τ).loc main_arg3)

/-- The arguments, their four groups of rows one below the other. -/
abbrev rowsW : FVec Ideal S4096x512 .f32 := shapeCast S4096x512 (argW m c) shapeCasts_S4x1024x512_S4096x512
abbrev rowsG : FVec Ideal S4096x512 .f32 := shapeCast S4096x512 (argG m c) shapeCasts_S4x1024x512_S4096x512
abbrev rowsM : FVec Ideal S4096x512 .f32 := shapeCast S4096x512 (argM m c) shapeCasts_S4x1024x512_S4096x512
abbrev rowsV : FVec Ideal S4096x512 .f32 := shapeCast S4096x512 (argV m c) shapeCasts_S4x1024x512_S4096x512

theorem V_W : (V m c main_v0 : FVec Ideal S4096x512 .f32) = rowsW m c := rfl

theorem V_G : (V m c main_v1 : FVec Ideal S4096x512 .f32) = rowsG m c := rfl

theorem V_M : (V m c main_v2 : FVec Ideal S4096x512 .f32) = rowsM m c := rfl

theorem V_V : (V m c main_v3 : FVec Ideal S4096x512 .f32) = rowsV m c := rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 4 := lt_of_lt_of_eq t.isLt (show cfg0.N = 4 from N_0)

theorem final4 : (dats m 0 c).arrAt 4 cfg0.N = D (rowsW m c) (rowsG m c) (rowsM m c) (rowsV m c) := by
  refine (dats m 0 c).arrAt_eq_of_covers 4 _ (by decide +kernel) fun t hf y => ?_
  have ht := point_lt t
  have h0 : (y 0).val < 1024 := (y 0).isLt
  have h1 : (y 1).val < 512 := (y 1).isLt
  have e0 : ((((cfg0.win 4).blk t).view.emb y) 0).val = 1024 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (Between.congr4 Between.step ?_ ?_ ?_ ?_)
  · rw [View.ld_unit_zero (by decide)]
    unfold iblk
    refine (congrFun (V_W m c) _).trans ?_
    blk_ext [idx t, e0, e1] <;> omega
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega
  · rw [View.ld_unit_zero (by decide)]
    unfold iblk
    refine (congrFun (V_V m c) _).trans ?_
    blk_ext [idx t, e0, e1] <;> omega

theorem final5 : (dats m 0 c).arrAt 5 cfg0.N = M₁ (rowsG m c) (rowsM m c) := by
  refine (dats m 0 c).arrAt_eq_of_covers 5 _ (by decide +kernel) fun t hf y => ?_
  have ht := point_lt t
  have h0 : (y 0).val < 1024 := (y 0).isLt
  have h1 : (y 1).val < 512 := (y 1).isLt
  have e0 : ((((cfg0.win 5).blk t).view.emb y) 0).val = 1024 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay2_at _ _ y).trans (congrArg₂ Between.moment₁ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega

theorem final6 : (dats m 0 c).arrAt 6 cfg0.N = M₂ (rowsG m c) (rowsV m c) := by
  refine (dats m 0 c).arrAt_eq_of_covers 6 _ (by decide +kernel) fun t hf y => ?_
  have ht := point_lt t
  have h0 : (y 0).val < 1024 := (y 0).isLt
  have h1 : (y 1).val < 512 := (y 1).isLt
  have e0 : ((((cfg0.win 6).blk t).view.emb y) 0).val = 1024 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (congrArg₂ Between.moment₂ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_V m c) _).trans ?_
    blk_ext [idx t, e0, e1] <;> omega

theorem final7 : (dats m 0 c).arrAt 7 cfg0.N = rowsG m c := by
  refine (dats m 0 c).arrAt_eq_of_covers 7 _ (by decide +kernel) fun t hf y => ?_
  have ht := point_lt t
  have h0 : (y 0).val < 1024 := (y 0).isLt
  have h1 : (y 1).val < 512 := (y 1).isLt
  have e0 : ((((cfg0.win 7).blk t).view.emb y) 0).val = 1024 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay1_at _ y).trans ?_
  rw [View.ld_unit_zero (by decide)]
  unfold iblk
  refine (congrFun (V_G m c) _).trans ?_
  blk_ext [idx t, e0, e1] <;> omega

end Cert.UpdateSbOutIdeal

namespace Cert.UpdateSbOutReferenceIdeal

open Cert.UpdateSbOutReferenceIdeal.Gen

/-- The reference computes the same functions of its arguments. -/
theorem ref_eq0 (W G M V : FVec Ideal S4x1024x512 .f32) :
    shapeCast S4096x512 (mulf (broadcastInDim S4x1024x512 ![] bcast_S_S4x1024x512 (constant S_ .f32 0xBA83126F#32)) (addf (Host.divf (Host.divf (addf (mulf (broadcastInDim S4x1024x512 ![] bcast_S_S4x1024x512 (constant S_ .f32 0x3F666666#32)) M) (mulf (broadcastInDim S4x1024x512 ![] bcast_S_S4x1024x512 (constant S_ .f32 0x3DCCCCCD#32)) G)) (broadcastInDim S4x1024x512 ![] bcast_S_S4x1024x512 (constant S_ .f32 0x3F26BD02#32))) (addf (Host.sqrt (Host.divf (addf (mulf (broadcastInDim S4x1024x512 ![] bcast_S_S4x1024x512 (constant S_ .f32 0x3F7FBE77#32)) V) (mulf (broadcastInDim S4x1024x512 ![] bcast_S_S4x1024x512 (constant S_ .f32 0x3A83126F#32)) (mulf G G))) (broadcastInDim S4x1024x512 ![] bcast_S_S4x1024x512 (constant S_ .f32 0x3C231ACC#32)))) (broadcastInDim S4x1024x512 ![] bcast_S_S4x1024x512 (constant S_ .f32 0x322BCC77#32)))) (mulf (broadcastInDim S4x1024x512 ![] bcast_S_S4x1024x512 (constant S_ .f32 0x3C23D70A#32)) W))) shapeCasts_S4x1024x512_S4096x512
      = Cert.UpdateSbOutIdeal.D (shapeCast S4096x512 W shapeCasts_S4x1024x512_S4096x512) (shapeCast S4096x512 G shapeCasts_S4x1024x512_S4096x512) (shapeCast S4096x512 M shapeCasts_S4x1024x512_S4096x512) (shapeCast S4096x512 V shapeCasts_S4x1024x512_S4096x512) := by
  funext y
  idx_vars y
  pointwise [Cert.UpdateSbOutIdeal.D, Between.step, Between.moment₁, Between.moment₂]

/-- Likewise its next result. -/
theorem ref_eq1 (G M : FVec Ideal S4x1024x512 .f32) :
    shapeCast S4096x512 (addf (mulf (broadcastInDim S4x1024x512 ![] bcast_S_S4x1024x512 (constant S_ .f32 0x3F666666#32)) M) (mulf (broadcastInDim S4x1024x512 ![] bcast_S_S4x1024x512 (constant S_ .f32 0x3DCCCCCD#32)) G)) shapeCasts_S4x1024x512_S4096x512
      = Cert.UpdateSbOutIdeal.M₁ (shapeCast S4096x512 G shapeCasts_S4x1024x512_S4096x512) (shapeCast S4096x512 M shapeCasts_S4x1024x512_S4096x512) := by
  funext y
  idx_vars y
  pointwise [Cert.UpdateSbOutIdeal.M₁, Between.moment₁]

/-- Likewise its next result. -/
theorem ref_eq2 (G V : FVec Ideal S4x1024x512 .f32) :
    shapeCast S4096x512 (addf (mulf (broadcastInDim S4x1024x512 ![] bcast_S_S4x1024x512 (constant S_ .f32 0x3F7FBE77#32)) V) (mulf (broadcastInDim S4x1024x512 ![] bcast_S_S4x1024x512 (constant S_ .f32 0x3A83126F#32)) (mulf G G))) shapeCasts_S4x1024x512_S4096x512
      = Cert.UpdateSbOutIdeal.M₂ (shapeCast S4096x512 G shapeCasts_S4x1024x512_S4096x512) (shapeCast S4096x512 V shapeCasts_S4x1024x512_S4096x512) := by
  funext y
  idx_vars y
  pointwise [Cert.UpdateSbOutIdeal.M₂, Between.moment₂]

end Cert.UpdateSbOutReferenceIdeal

end
-- ==== Proof.Updates.UpdateGlu.lean ====
/- The optimiser's step of one weight, element by element. -/
module

public import proofs.«01_k».proof.Proof.Gen.UpdateGluIdeal.Value
public import proofs.«01_k».proof.Proof.Gen.UpdateGluReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.UpdateGluIdeal

open Cert.UpdateGluIdeal.Gen

/-- The steps. -/
def D (W G M V : FVec Ideal S2048x256 .f32) : FVec Ideal S2048x256 .f32 := fun y => Between.step (W y) (G y) (M y) (V y)

/-- The first moments. -/
def M₁ (G M : FVec Ideal S2048x256 .f32) : FVec Ideal S2048x256 .f32 := fun y => Between.moment₁ (G y) (M y)

/-- The second moments. -/
def M₂ (G V : FVec Ideal S2048x256 .f32) : FVec Ideal S2048x256 .f32 := fun y => Between.moment₂ (G y) (V y)

theorem pay1_at (g : FVec Ideal S2048x256 .f32) (i : S2048x256.Idx) : k0_pay1 (F := Ideal) g i = g i := by
  pointwise [k0_pay1]

theorem pay2_at (g m : FVec Ideal S2048x256 .f32) (i : S2048x256.Idx) : k0_pay2 (F := Ideal) g m i = Between.moment₁ (g i) (m i) := by
  pointwise [k0_pay2, k0_pay1, Between.moment₁]

theorem pay3_at (g v : FVec Ideal S2048x256 .f32) (i : S2048x256.Idx) : k0_pay3 (F := Ideal) g v i = Between.moment₂ (g i) (v i) := by
  pointwise [k0_pay3, k0_pay1, Between.moment₂]

theorem pay4_at (g m v w : FVec Ideal S2048x256 .f32) (i : S2048x256.Idx) : k0_pay4 (F := Ideal) g m v w i = Between.step (w i) (g i) (m i) (v i) := by
  pointwise [k0_pay4, k0_pay3, k0_pay2, k0_pay1, Between.step, Between.moment₁, Between.moment₂]

variable (m : (ℓ : Loc nD τ sig) → Buf (Elt Ideal) ℓ) (c : Dev nD)

abbrev argW : FVec Ideal S4x512x256 .f32 := m ((c : Thread nD τ).loc main_arg0)
abbrev argG : FVec Ideal S4x512x256 .f32 := m ((c : Thread nD τ).loc main_arg1)
abbrev argM : FVec Ideal S4x512x256 .f32 := m ((c : Thread nD τ).loc main_arg2)
abbrev argV : FVec Ideal S4x512x256 .f32 := m ((c : Thread nD τ).loc main_arg3)

/-- The arguments, their four groups of rows one below the other. -/
abbrev rowsW : FVec Ideal S2048x256 .f32 := shapeCast S2048x256 (argW m c) shapeCasts_S4x512x256_S2048x256
abbrev rowsG : FVec Ideal S2048x256 .f32 := shapeCast S2048x256 (argG m c) shapeCasts_S4x512x256_S2048x256
abbrev rowsM : FVec Ideal S2048x256 .f32 := shapeCast S2048x256 (argM m c) shapeCasts_S4x512x256_S2048x256
abbrev rowsV : FVec Ideal S2048x256 .f32 := shapeCast S2048x256 (argV m c) shapeCasts_S4x512x256_S2048x256

theorem V_W : (V m c main_v0 : FVec Ideal S2048x256 .f32) = rowsW m c := rfl

theorem V_G : (V m c main_v1 : FVec Ideal S2048x256 .f32) = rowsG m c := rfl

theorem V_M : (V m c main_v2 : FVec Ideal S2048x256 .f32) = rowsM m c := rfl

theorem V_V : (V m c main_v3 : FVec Ideal S2048x256 .f32) = rowsV m c := rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 1 := lt_of_lt_of_eq t.isLt (show cfg0.N = 1 from N_0)

theorem final4 : (dats m 0 c).arrAt 4 cfg0.N = D (rowsW m c) (rowsG m c) (rowsM m c) (rowsV m c) := by
  refine (dats m 0 c).arrAt_eq_of_covers 4 _ (by decide +kernel) fun t hf y => ?_
  have ht := point_lt t
  have h0 : (y 0).val < 2048 := (y 0).isLt
  have h1 : (y 1).val < 256 := (y 1).isLt
  have e0 : ((((cfg0.win 4).blk t).view.emb y) 0).val = 2048 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (Between.congr4 Between.step ?_ ?_ ?_ ?_)
  · rw [View.ld_unit_zero (by decide)]
    unfold iblk
    refine (congrFun (V_W m c) _).trans ?_
    blk_ext [idx t, e0, e1] <;> omega
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega
  · rw [View.ld_unit_zero (by decide)]
    unfold iblk
    refine (congrFun (V_V m c) _).trans ?_
    blk_ext [idx t, e0, e1] <;> omega

theorem final5 : (dats m 0 c).arrAt 5 cfg0.N = M₁ (rowsG m c) (rowsM m c) := by
  refine (dats m 0 c).arrAt_eq_of_covers 5 _ (by decide +kernel) fun t hf y => ?_
  have ht := point_lt t
  have h0 : (y 0).val < 2048 := (y 0).isLt
  have h1 : (y 1).val < 256 := (y 1).isLt
  have e0 : ((((cfg0.win 5).blk t).view.emb y) 0).val = 2048 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay2_at _ _ y).trans (congrArg₂ Between.moment₁ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega

theorem final6 : (dats m 0 c).arrAt 6 cfg0.N = M₂ (rowsG m c) (rowsV m c) := by
  refine (dats m 0 c).arrAt_eq_of_covers 6 _ (by decide +kernel) fun t hf y => ?_
  have ht := point_lt t
  have h0 : (y 0).val < 2048 := (y 0).isLt
  have h1 : (y 1).val < 256 := (y 1).isLt
  have e0 : ((((cfg0.win 6).blk t).view.emb y) 0).val = 2048 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (congrArg₂ Between.moment₂ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_V m c) _).trans ?_
    blk_ext [idx t, e0, e1] <;> omega

theorem final7 : (dats m 0 c).arrAt 7 cfg0.N = rowsG m c := by
  refine (dats m 0 c).arrAt_eq_of_covers 7 _ (by decide +kernel) fun t hf y => ?_
  have ht := point_lt t
  have h0 : (y 0).val < 2048 := (y 0).isLt
  have h1 : (y 1).val < 256 := (y 1).isLt
  have e0 : ((((cfg0.win 7).blk t).view.emb y) 0).val = 2048 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay1_at _ y).trans ?_
  rw [View.ld_unit_zero (by decide)]
  unfold iblk
  refine (congrFun (V_G m c) _).trans ?_
  blk_ext [idx t, e0, e1] <;> omega

end Cert.UpdateGluIdeal

namespace Cert.UpdateGluReferenceIdeal

open Cert.UpdateGluReferenceIdeal.Gen

/-- The reference computes the same functions of its arguments. -/
theorem ref_eq0 (W G M V : FVec Ideal S4x512x256 .f32) :
    shapeCast S2048x256 (mulf (broadcastInDim S4x512x256 ![] bcast_S_S4x512x256 (constant S_ .f32 0xBA83126F#32)) (addf (Host.divf (Host.divf (addf (mulf (broadcastInDim S4x512x256 ![] bcast_S_S4x512x256 (constant S_ .f32 0x3F666666#32)) M) (mulf (broadcastInDim S4x512x256 ![] bcast_S_S4x512x256 (constant S_ .f32 0x3DCCCCCD#32)) G)) (broadcastInDim S4x512x256 ![] bcast_S_S4x512x256 (constant S_ .f32 0x3F26BD02#32))) (addf (Host.sqrt (Host.divf (addf (mulf (broadcastInDim S4x512x256 ![] bcast_S_S4x512x256 (constant S_ .f32 0x3F7FBE77#32)) V) (mulf (broadcastInDim S4x512x256 ![] bcast_S_S4x512x256 (constant S_ .f32 0x3A83126F#32)) (mulf G G))) (broadcastInDim S4x512x256 ![] bcast_S_S4x512x256 (constant S_ .f32 0x3C231ACC#32)))) (broadcastInDim S4x512x256 ![] bcast_S_S4x512x256 (constant S_ .f32 0x322BCC77#32)))) (mulf (broadcastInDim S4x512x256 ![] bcast_S_S4x512x256 (constant S_ .f32 0x3C23D70A#32)) W))) shapeCasts_S4x512x256_S2048x256
      = Cert.UpdateGluIdeal.D (shapeCast S2048x256 W shapeCasts_S4x512x256_S2048x256) (shapeCast S2048x256 G shapeCasts_S4x512x256_S2048x256) (shapeCast S2048x256 M shapeCasts_S4x512x256_S2048x256) (shapeCast S2048x256 V shapeCasts_S4x512x256_S2048x256) := by
  funext y
  idx_vars y
  pointwise [Cert.UpdateGluIdeal.D, Between.step, Between.moment₁, Between.moment₂]

/-- Likewise its next result. -/
theorem ref_eq1 (G M : FVec Ideal S4x512x256 .f32) :
    shapeCast S2048x256 (addf (mulf (broadcastInDim S4x512x256 ![] bcast_S_S4x512x256 (constant S_ .f32 0x3F666666#32)) M) (mulf (broadcastInDim S4x512x256 ![] bcast_S_S4x512x256 (constant S_ .f32 0x3DCCCCCD#32)) G)) shapeCasts_S4x512x256_S2048x256
      = Cert.UpdateGluIdeal.M₁ (shapeCast S2048x256 G shapeCasts_S4x512x256_S2048x256) (shapeCast S2048x256 M shapeCasts_S4x512x256_S2048x256) := by
  funext y
  idx_vars y
  pointwise [Cert.UpdateGluIdeal.M₁, Between.moment₁]

/-- Likewise its next result. -/
theorem ref_eq2 (G V : FVec Ideal S4x512x256 .f32) :
    shapeCast S2048x256 (addf (mulf (broadcastInDim S4x512x256 ![] bcast_S_S4x512x256 (constant S_ .f32 0x3F7FBE77#32)) V) (mulf (broadcastInDim S4x512x256 ![] bcast_S_S4x512x256 (constant S_ .f32 0x3A83126F#32)) (mulf G G))) shapeCasts_S4x512x256_S2048x256
      = Cert.UpdateGluIdeal.M₂ (shapeCast S2048x256 G shapeCasts_S4x512x256_S2048x256) (shapeCast S2048x256 V shapeCasts_S4x512x256_S2048x256) := by
  funext y
  idx_vars y
  pointwise [Cert.UpdateGluIdeal.M₂, Between.moment₂]

end Cert.UpdateGluReferenceIdeal

end
-- ==== Proof.Updates.UpdateSsmOut.lean ====
/- The optimiser's step of one weight, element by element. -/
module

public import proofs.«01_k».proof.Proof.Gen.UpdateSsmOutIdeal.Value
public import proofs.«01_k».proof.Proof.Gen.UpdateSsmOutReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.UpdateSsmOutIdeal

open Cert.UpdateSsmOutIdeal.Gen

/-- The steps. -/
def D (W G M V : FVec Ideal S2048x512 .f32) : FVec Ideal S2048x512 .f32 := fun y => Between.step (W y) (G y) (M y) (V y)

/-- The first moments. -/
def M₁ (G M : FVec Ideal S2048x512 .f32) : FVec Ideal S2048x512 .f32 := fun y => Between.moment₁ (G y) (M y)

/-- The second moments. -/
def M₂ (G V : FVec Ideal S2048x512 .f32) : FVec Ideal S2048x512 .f32 := fun y => Between.moment₂ (G y) (V y)

theorem pay1_at (g : FVec Ideal S1024x512 .f32) (i : S1024x512.Idx) : k0_pay1 (F := Ideal) g i = g i := by
  pointwise [k0_pay1]

theorem pay2_at (g m : FVec Ideal S1024x512 .f32) (i : S1024x512.Idx) : k0_pay2 (F := Ideal) g m i = Between.moment₁ (g i) (m i) := by
  pointwise [k0_pay2, k0_pay1, Between.moment₁]

theorem pay3_at (g v : FVec Ideal S1024x512 .f32) (i : S1024x512.Idx) : k0_pay3 (F := Ideal) g v i = Between.moment₂ (g i) (v i) := by
  pointwise [k0_pay3, k0_pay1, Between.moment₂]

theorem pay4_at (g m v w : FVec Ideal S1024x512 .f32) (i : S1024x512.Idx) : k0_pay4 (F := Ideal) g m v w i = Between.step (w i) (g i) (m i) (v i) := by
  pointwise [k0_pay4, k0_pay3, k0_pay2, k0_pay1, Between.step, Between.moment₁, Between.moment₂]

variable (m : (ℓ : Loc nD τ sig) → Buf (Elt Ideal) ℓ) (c : Dev nD)

abbrev argW : FVec Ideal S4x512x512 .f32 := m ((c : Thread nD τ).loc main_arg0)
abbrev argG : FVec Ideal S4x512x512 .f32 := m ((c : Thread nD τ).loc main_arg1)
abbrev argM : FVec Ideal S4x512x512 .f32 := m ((c : Thread nD τ).loc main_arg2)
abbrev argV : FVec Ideal S4x512x512 .f32 := m ((c : Thread nD τ).loc main_arg3)

/-- The arguments, their four groups of rows one below the other. -/
abbrev rowsW : FVec Ideal S2048x512 .f32 := shapeCast S2048x512 (argW m c) shapeCasts_S4x512x512_S2048x512
abbrev rowsG : FVec Ideal S2048x512 .f32 := shapeCast S2048x512 (argG m c) shapeCasts_S4x512x512_S2048x512
abbrev rowsM : FVec Ideal S2048x512 .f32 := shapeCast S2048x512 (argM m c) shapeCasts_S4x512x512_S2048x512
abbrev rowsV : FVec Ideal S2048x512 .f32 := shapeCast S2048x512 (argV m c) shapeCasts_S4x512x512_S2048x512

theorem V_W : (V m c main_v0 : FVec Ideal S2048x512 .f32) = rowsW m c := rfl

theorem V_G : (V m c main_v1 : FVec Ideal S2048x512 .f32) = rowsG m c := rfl

theorem V_M : (V m c main_v2 : FVec Ideal S2048x512 .f32) = rowsM m c := rfl

theorem V_V : (V m c main_v3 : FVec Ideal S2048x512 .f32) = rowsV m c := rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 2 := lt_of_lt_of_eq t.isLt (show cfg0.N = 2 from N_0)

theorem final4 : (dats m 0 c).arrAt 4 cfg0.N = D (rowsW m c) (rowsG m c) (rowsM m c) (rowsV m c) := by
  refine (dats m 0 c).arrAt_eq_of_covers 4 _ (by decide +kernel) fun t hf y => ?_
  have ht := point_lt t
  have h0 : (y 0).val < 1024 := (y 0).isLt
  have h1 : (y 1).val < 512 := (y 1).isLt
  have e0 : ((((cfg0.win 4).blk t).view.emb y) 0).val = 1024 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (Between.congr4 Between.step ?_ ?_ ?_ ?_)
  · rw [View.ld_unit_zero (by decide)]
    unfold iblk
    refine (congrFun (V_W m c) _).trans ?_
    blk_ext [idx t, e0, e1] <;> omega
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega
  · rw [View.ld_unit_zero (by decide)]
    unfold iblk
    refine (congrFun (V_V m c) _).trans ?_
    blk_ext [idx t, e0, e1] <;> omega

theorem final5 : (dats m 0 c).arrAt 5 cfg0.N = M₁ (rowsG m c) (rowsM m c) := by
  refine (dats m 0 c).arrAt_eq_of_covers 5 _ (by decide +kernel) fun t hf y => ?_
  have ht := point_lt t
  have h0 : (y 0).val < 1024 := (y 0).isLt
  have h1 : (y 1).val < 512 := (y 1).isLt
  have e0 : ((((cfg0.win 5).blk t).view.emb y) 0).val = 1024 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay2_at _ _ y).trans (congrArg₂ Between.moment₁ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega

theorem final6 : (dats m 0 c).arrAt 6 cfg0.N = M₂ (rowsG m c) (rowsV m c) := by
  refine (dats m 0 c).arrAt_eq_of_covers 6 _ (by decide +kernel) fun t hf y => ?_
  have ht := point_lt t
  have h0 : (y 0).val < 1024 := (y 0).isLt
  have h1 : (y 1).val < 512 := (y 1).isLt
  have e0 : ((((cfg0.win 6).blk t).view.emb y) 0).val = 1024 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (congrArg₂ Between.moment₂ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_V m c) _).trans ?_
    blk_ext [idx t, e0, e1] <;> omega

theorem final7 : (dats m 0 c).arrAt 7 cfg0.N = rowsG m c := by
  refine (dats m 0 c).arrAt_eq_of_covers 7 _ (by decide +kernel) fun t hf y => ?_
  have ht := point_lt t
  have h0 : (y 0).val < 1024 := (y 0).isLt
  have h1 : (y 1).val < 512 := (y 1).isLt
  have e0 : ((((cfg0.win 7).blk t).view.emb y) 0).val = 1024 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay1_at _ y).trans ?_
  rw [View.ld_unit_zero (by decide)]
  unfold iblk
  refine (congrFun (V_G m c) _).trans ?_
  blk_ext [idx t, e0, e1] <;> omega

end Cert.UpdateSsmOutIdeal

namespace Cert.UpdateSsmOutReferenceIdeal

open Cert.UpdateSsmOutReferenceIdeal.Gen

/-- The reference computes the same functions of its arguments. -/
theorem ref_eq0 (W G M V : FVec Ideal S4x512x512 .f32) :
    shapeCast S2048x512 (mulf (broadcastInDim S4x512x512 ![] bcast_S_S4x512x512 (constant S_ .f32 0xBA83126F#32)) (addf (Host.divf (Host.divf (addf (mulf (broadcastInDim S4x512x512 ![] bcast_S_S4x512x512 (constant S_ .f32 0x3F666666#32)) M) (mulf (broadcastInDim S4x512x512 ![] bcast_S_S4x512x512 (constant S_ .f32 0x3DCCCCCD#32)) G)) (broadcastInDim S4x512x512 ![] bcast_S_S4x512x512 (constant S_ .f32 0x3F26BD02#32))) (addf (Host.sqrt (Host.divf (addf (mulf (broadcastInDim S4x512x512 ![] bcast_S_S4x512x512 (constant S_ .f32 0x3F7FBE77#32)) V) (mulf (broadcastInDim S4x512x512 ![] bcast_S_S4x512x512 (constant S_ .f32 0x3A83126F#32)) (mulf G G))) (broadcastInDim S4x512x512 ![] bcast_S_S4x512x512 (constant S_ .f32 0x3C231ACC#32)))) (broadcastInDim S4x512x512 ![] bcast_S_S4x512x512 (constant S_ .f32 0x322BCC77#32)))) (mulf (broadcastInDim S4x512x512 ![] bcast_S_S4x512x512 (constant S_ .f32 0x3C23D70A#32)) W))) shapeCasts_S4x512x512_S2048x512
      = Cert.UpdateSsmOutIdeal.D (shapeCast S2048x512 W shapeCasts_S4x512x512_S2048x512) (shapeCast S2048x512 G shapeCasts_S4x512x512_S2048x512) (shapeCast S2048x512 M shapeCasts_S4x512x512_S2048x512) (shapeCast S2048x512 V shapeCasts_S4x512x512_S2048x512) := by
  funext y
  idx_vars y
  pointwise [Cert.UpdateSsmOutIdeal.D, Between.step, Between.moment₁, Between.moment₂]

/-- Likewise its next result. -/
theorem ref_eq1 (G M : FVec Ideal S4x512x512 .f32) :
    shapeCast S2048x512 (addf (mulf (broadcastInDim S4x512x512 ![] bcast_S_S4x512x512 (constant S_ .f32 0x3F666666#32)) M) (mulf (broadcastInDim S4x512x512 ![] bcast_S_S4x512x512 (constant S_ .f32 0x3DCCCCCD#32)) G)) shapeCasts_S4x512x512_S2048x512
      = Cert.UpdateSsmOutIdeal.M₁ (shapeCast S2048x512 G shapeCasts_S4x512x512_S2048x512) (shapeCast S2048x512 M shapeCasts_S4x512x512_S2048x512) := by
  funext y
  idx_vars y
  pointwise [Cert.UpdateSsmOutIdeal.M₁, Between.moment₁]

/-- Likewise its next result. -/
theorem ref_eq2 (G V : FVec Ideal S4x512x512 .f32) :
    shapeCast S2048x512 (addf (mulf (broadcastInDim S4x512x512 ![] bcast_S_S4x512x512 (constant S_ .f32 0x3F7FBE77#32)) V) (mulf (broadcastInDim S4x512x512 ![] bcast_S_S4x512x512 (constant S_ .f32 0x3A83126F#32)) (mulf G G))) shapeCasts_S4x512x512_S2048x512
      = Cert.UpdateSsmOutIdeal.M₂ (shapeCast S2048x512 G shapeCasts_S4x512x512_S2048x512) (shapeCast S2048x512 V shapeCasts_S4x512x512_S2048x512) := by
  funext y
  idx_vars y
  pointwise [Cert.UpdateSsmOutIdeal.M₂, Between.moment₂]

end Cert.UpdateSsmOutReferenceIdeal

end
-- ==== Proof.Updates.UpdateMemKv.lean ====
/- The optimiser's step of one weight, element by element. -/
module

public import proofs.«01_k».proof.Proof.Gen.UpdateMemKvIdeal.Value
public import proofs.«01_k».proof.Proof.Gen.UpdateMemKvReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.UpdateMemKvIdeal

open Cert.UpdateMemKvIdeal.Gen

/-- The steps. -/
def D (W G M V : FVec Ideal S2048x1024 .f32) : FVec Ideal S2048x1024 .f32 := fun y => Between.step (W y) (G y) (M y) (V y)

/-- The first moments. -/
def M₁ (G M : FVec Ideal S2048x1024 .f32) : FVec Ideal S2048x1024 .f32 := fun y => Between.moment₁ (G y) (M y)

/-- The second moments. -/
def M₂ (G V : FVec Ideal S2048x1024 .f32) : FVec Ideal S2048x1024 .f32 := fun y => Between.moment₂ (G y) (V y)

theorem pay1_at (g : FVec Ideal S512x1024 .f32) (i : S512x1024.Idx) : k0_pay1 (F := Ideal) g i = g i := by
  pointwise [k0_pay1]

theorem pay2_at (g m : FVec Ideal S512x1024 .f32) (i : S512x1024.Idx) : k0_pay2 (F := Ideal) g m i = Between.moment₁ (g i) (m i) := by
  pointwise [k0_pay2, k0_pay1, Between.moment₁]

theorem pay3_at (g v : FVec Ideal S512x1024 .f32) (i : S512x1024.Idx) : k0_pay3 (F := Ideal) g v i = Between.moment₂ (g i) (v i) := by
  pointwise [k0_pay3, k0_pay1, Between.moment₂]

theorem pay4_at (g m v w : FVec Ideal S512x1024 .f32) (i : S512x1024.Idx) : k0_pay4 (F := Ideal) g m v w i = Between.step (w i) (g i) (m i) (v i) := by
  pointwise [k0_pay4, k0_pay3, k0_pay2, k0_pay1, Between.step, Between.moment₁, Between.moment₂]

variable (m : (ℓ : Loc nD τ sig) → Buf (Elt Ideal) ℓ) (c : Dev nD)

abbrev argW : FVec Ideal S4x512x1024 .f32 := m ((c : Thread nD τ).loc main_arg0)
abbrev argG : FVec Ideal S4x512x1024 .f32 := m ((c : Thread nD τ).loc main_arg1)
abbrev argM : FVec Ideal S4x512x1024 .f32 := m ((c : Thread nD τ).loc main_arg2)
abbrev argV : FVec Ideal S4x512x1024 .f32 := m ((c : Thread nD τ).loc main_arg3)

/-- The arguments, their four groups of rows one below the other. -/
abbrev rowsW : FVec Ideal S2048x1024 .f32 := shapeCast S2048x1024 (argW m c) shapeCasts_S4x512x1024_S2048x1024
abbrev rowsG : FVec Ideal S2048x1024 .f32 := shapeCast S2048x1024 (argG m c) shapeCasts_S4x512x1024_S2048x1024
abbrev rowsM : FVec Ideal S2048x1024 .f32 := shapeCast S2048x1024 (argM m c) shapeCasts_S4x512x1024_S2048x1024
abbrev rowsV : FVec Ideal S2048x1024 .f32 := shapeCast S2048x1024 (argV m c) shapeCasts_S4x512x1024_S2048x1024

theorem V_W : (V m c main_v0 : FVec Ideal S2048x1024 .f32) = rowsW m c := rfl

theorem V_G : (V m c main_v1 : FVec Ideal S2048x1024 .f32) = rowsG m c := rfl

theorem V_M : (V m c main_v2 : FVec Ideal S2048x1024 .f32) = rowsM m c := rfl

theorem V_V : (V m c main_v3 : FVec Ideal S2048x1024 .f32) = rowsV m c := rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 4 := lt_of_lt_of_eq t.isLt (show cfg0.N = 4 from N_0)

theorem final4 : (dats m 0 c).arrAt 4 cfg0.N = D (rowsW m c) (rowsG m c) (rowsM m c) (rowsV m c) := by
  refine (dats m 0 c).arrAt_eq_of_covers 4 _ (by decide +kernel) fun t hf y => ?_
  have ht := point_lt t
  have h0 : (y 0).val < 512 := (y 0).isLt
  have h1 : (y 1).val < 1024 := (y 1).isLt
  have e0 : ((((cfg0.win 4).blk t).view.emb y) 0).val = 512 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (Between.congr4 Between.step ?_ ?_ ?_ ?_)
  · rw [View.ld_unit_zero (by decide)]
    unfold iblk
    refine (congrFun (V_W m c) _).trans ?_
    blk_ext [idx t, e0, e1] <;> omega
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega
  · rw [View.ld_unit_zero (by decide)]
    unfold iblk
    refine (congrFun (V_V m c) _).trans ?_
    blk_ext [idx t, e0, e1] <;> omega

theorem final5 : (dats m 0 c).arrAt 5 cfg0.N = M₁ (rowsG m c) (rowsM m c) := by
  refine (dats m 0 c).arrAt_eq_of_covers 5 _ (by decide +kernel) fun t hf y => ?_
  have ht := point_lt t
  have h0 : (y 0).val < 512 := (y 0).isLt
  have h1 : (y 1).val < 1024 := (y 1).isLt
  have e0 : ((((cfg0.win 5).blk t).view.emb y) 0).val = 512 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay2_at _ _ y).trans (congrArg₂ Between.moment₁ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega

theorem final6 : (dats m 0 c).arrAt 6 cfg0.N = M₂ (rowsG m c) (rowsV m c) := by
  refine (dats m 0 c).arrAt_eq_of_covers 6 _ (by decide +kernel) fun t hf y => ?_
  have ht := point_lt t
  have h0 : (y 0).val < 512 := (y 0).isLt
  have h1 : (y 1).val < 1024 := (y 1).isLt
  have e0 : ((((cfg0.win 6).blk t).view.emb y) 0).val = 512 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (congrArg₂ Between.moment₂ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_V m c) _).trans ?_
    blk_ext [idx t, e0, e1] <;> omega

theorem final7 : (dats m 0 c).arrAt 7 cfg0.N = rowsG m c := by
  refine (dats m 0 c).arrAt_eq_of_covers 7 _ (by decide +kernel) fun t hf y => ?_
  have ht := point_lt t
  have h0 : (y 0).val < 512 := (y 0).isLt
  have h1 : (y 1).val < 1024 := (y 1).isLt
  have e0 : ((((cfg0.win 7).blk t).view.emb y) 0).val = 512 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay1_at _ y).trans ?_
  rw [View.ld_unit_zero (by decide)]
  unfold iblk
  refine (congrFun (V_G m c) _).trans ?_
  blk_ext [idx t, e0, e1] <;> omega

end Cert.UpdateMemKvIdeal

namespace Cert.UpdateMemKvReferenceIdeal

open Cert.UpdateMemKvReferenceIdeal.Gen

/-- The reference computes the same functions of its arguments. -/
theorem ref_eq0 (W G M V : FVec Ideal S4x512x1024 .f32) :
    shapeCast S2048x1024 (mulf (broadcastInDim S4x512x1024 ![] bcast_S_S4x512x1024 (constant S_ .f32 0xBA83126F#32)) (addf (Host.divf (Host.divf (addf (mulf (broadcastInDim S4x512x1024 ![] bcast_S_S4x512x1024 (constant S_ .f32 0x3F666666#32)) M) (mulf (broadcastInDim S4x512x1024 ![] bcast_S_S4x512x1024 (constant S_ .f32 0x3DCCCCCD#32)) G)) (broadcastInDim S4x512x1024 ![] bcast_S_S4x512x1024 (constant S_ .f32 0x3F26BD02#32))) (addf (Host.sqrt (Host.divf (addf (mulf (broadcastInDim S4x512x1024 ![] bcast_S_S4x512x1024 (constant S_ .f32 0x3F7FBE77#32)) V) (mulf (broadcastInDim S4x512x1024 ![] bcast_S_S4x512x1024 (constant S_ .f32 0x3A83126F#32)) (mulf G G))) (broadcastInDim S4x512x1024 ![] bcast_S_S4x512x1024 (constant S_ .f32 0x3C231ACC#32)))) (broadcastInDim S4x512x1024 ![] bcast_S_S4x512x1024 (constant S_ .f32 0x322BCC77#32)))) (mulf (broadcastInDim S4x512x1024 ![] bcast_S_S4x512x1024 (constant S_ .f32 0x3C23D70A#32)) W))) shapeCasts_S4x512x1024_S2048x1024
      = Cert.UpdateMemKvIdeal.D (shapeCast S2048x1024 W shapeCasts_S4x512x1024_S2048x1024) (shapeCast S2048x1024 G shapeCasts_S4x512x1024_S2048x1024) (shapeCast S2048x1024 M shapeCasts_S4x512x1024_S2048x1024) (shapeCast S2048x1024 V shapeCasts_S4x512x1024_S2048x1024) := by
  funext y
  idx_vars y
  pointwise [Cert.UpdateMemKvIdeal.D, Between.step, Between.moment₁, Between.moment₂]

/-- Likewise its next result. -/
theorem ref_eq1 (G M : FVec Ideal S4x512x1024 .f32) :
    shapeCast S2048x1024 (addf (mulf (broadcastInDim S4x512x1024 ![] bcast_S_S4x512x1024 (constant S_ .f32 0x3F666666#32)) M) (mulf (broadcastInDim S4x512x1024 ![] bcast_S_S4x512x1024 (constant S_ .f32 0x3DCCCCCD#32)) G)) shapeCasts_S4x512x1024_S2048x1024
      = Cert.UpdateMemKvIdeal.M₁ (shapeCast S2048x1024 G shapeCasts_S4x512x1024_S2048x1024) (shapeCast S2048x1024 M shapeCasts_S4x512x1024_S2048x1024) := by
  funext y
  idx_vars y
  pointwise [Cert.UpdateMemKvIdeal.M₁, Between.moment₁]

/-- Likewise its next result. -/
theorem ref_eq2 (G V : FVec Ideal S4x512x1024 .f32) :
    shapeCast S2048x1024 (addf (mulf (broadcastInDim S4x512x1024 ![] bcast_S_S4x512x1024 (constant S_ .f32 0x3F7FBE77#32)) V) (mulf (broadcastInDim S4x512x1024 ![] bcast_S_S4x512x1024 (constant S_ .f32 0x3A83126F#32)) (mulf G G))) shapeCasts_S4x512x1024_S2048x1024
      = Cert.UpdateMemKvIdeal.M₂ (shapeCast S2048x1024 G shapeCasts_S4x512x1024_S2048x1024) (shapeCast S2048x1024 V shapeCasts_S4x512x1024_S2048x1024) := by
  funext y
  idx_vars y
  pointwise [Cert.UpdateMemKvIdeal.M₂, Between.moment₂]

end Cert.UpdateMemKvReferenceIdeal

end
-- ==== Proof.Updates.UpdateOut.lean ====
/- The optimiser's step of one weight, element by element. -/
module

public import proofs.«01_k».proof.Proof.Gen.UpdateOutIdeal.Value
public import proofs.«01_k».proof.Proof.Gen.UpdateOutReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.UpdateOutIdeal

open Cert.UpdateOutIdeal.Gen

/-- The steps. -/
def D (W G M V : FVec Ideal S2048x2048 .f32) : FVec Ideal S2048x2048 .f32 := fun y => Between.step (W y) (G y) (M y) (V y)

/-- The first moments. -/
def M₁ (G M : FVec Ideal S2048x2048 .f32) : FVec Ideal S2048x2048 .f32 := fun y => Between.moment₁ (G y) (M y)

/-- The second moments. -/
def M₂ (G V : FVec Ideal S2048x2048 .f32) : FVec Ideal S2048x2048 .f32 := fun y => Between.moment₂ (G y) (V y)

theorem pay1_at (g : FVec Ideal S256x2048 .f32) (i : S256x2048.Idx) : k0_pay1 (F := Ideal) g i = g i := by
  pointwise [k0_pay1]

theorem pay2_at (g m : FVec Ideal S256x2048 .f32) (i : S256x2048.Idx) : k0_pay2 (F := Ideal) g m i = Between.moment₁ (g i) (m i) := by
  pointwise [k0_pay2, k0_pay1, Between.moment₁]

theorem pay3_at (g v : FVec Ideal S256x2048 .f32) (i : S256x2048.Idx) : k0_pay3 (F := Ideal) g v i = Between.moment₂ (g i) (v i) := by
  pointwise [k0_pay3, k0_pay1, Between.moment₂]

theorem pay4_at (g m v w : FVec Ideal S256x2048 .f32) (i : S256x2048.Idx) : k0_pay4 (F := Ideal) g m v w i = Between.step (w i) (g i) (m i) (v i) := by
  pointwise [k0_pay4, k0_pay3, k0_pay2, k0_pay1, Between.step, Between.moment₁, Between.moment₂]

variable (m : (ℓ : Loc nD τ sig) → Buf (Elt Ideal) ℓ) (c : Dev nD)

abbrev argW : FVec Ideal S4x512x2048 .f32 := m ((c : Thread nD τ).loc main_arg0)
abbrev argG : FVec Ideal S4x512x2048 .f32 := m ((c : Thread nD τ).loc main_arg1)
abbrev argM : FVec Ideal S4x512x2048 .f32 := m ((c : Thread nD τ).loc main_arg2)
abbrev argV : FVec Ideal S4x512x2048 .f32 := m ((c : Thread nD τ).loc main_arg3)

/-- The arguments, their four groups of rows one below the other. -/
abbrev rowsW : FVec Ideal S2048x2048 .f32 := shapeCast S2048x2048 (argW m c) shapeCasts_S4x512x2048_S2048x2048
abbrev rowsG : FVec Ideal S2048x2048 .f32 := shapeCast S2048x2048 (argG m c) shapeCasts_S4x512x2048_S2048x2048
abbrev rowsM : FVec Ideal S2048x2048 .f32 := shapeCast S2048x2048 (argM m c) shapeCasts_S4x512x2048_S2048x2048
abbrev rowsV : FVec Ideal S2048x2048 .f32 := shapeCast S2048x2048 (argV m c) shapeCasts_S4x512x2048_S2048x2048

theorem V_W : (V m c main_v0 : FVec Ideal S2048x2048 .f32) = rowsW m c := rfl

theorem V_G : (V m c main_v1 : FVec Ideal S2048x2048 .f32) = rowsG m c := rfl

theorem V_M : (V m c main_v2 : FVec Ideal S2048x2048 .f32) = rowsM m c := rfl

theorem V_V : (V m c main_v3 : FVec Ideal S2048x2048 .f32) = rowsV m c := rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 8 := lt_of_lt_of_eq t.isLt (show cfg0.N = 8 from N_0)

theorem final4 : (dats m 0 c).arrAt 4 cfg0.N = D (rowsW m c) (rowsG m c) (rowsM m c) (rowsV m c) := by
  refine (dats m 0 c).arrAt_eq_of_covers 4 _ (by decide +kernel) fun t hf y => ?_
  have ht := point_lt t
  have h0 : (y 0).val < 256 := (y 0).isLt
  have h1 : (y 1).val < 2048 := (y 1).isLt
  have e0 : ((((cfg0.win 4).blk t).view.emb y) 0).val = 256 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (Between.congr4 Between.step ?_ ?_ ?_ ?_)
  · rw [View.ld_unit_zero (by decide)]
    unfold iblk
    refine (congrFun (V_W m c) _).trans ?_
    blk_ext [idx t, e0, e1] <;> omega
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega
  · rw [View.ld_unit_zero (by decide)]
    unfold iblk
    refine (congrFun (V_V m c) _).trans ?_
    blk_ext [idx t, e0, e1] <;> omega

theorem final5 : (dats m 0 c).arrAt 5 cfg0.N = M₁ (rowsG m c) (rowsM m c) := by
  refine (dats m 0 c).arrAt_eq_of_covers 5 _ (by decide +kernel) fun t hf y => ?_
  have ht := point_lt t
  have h0 : (y 0).val < 256 := (y 0).isLt
  have h1 : (y 1).val < 2048 := (y 1).isLt
  have e0 : ((((cfg0.win 5).blk t).view.emb y) 0).val = 256 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay2_at _ _ y).trans (congrArg₂ Between.moment₁ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega

theorem final6 : (dats m 0 c).arrAt 6 cfg0.N = M₂ (rowsG m c) (rowsV m c) := by
  refine (dats m 0 c).arrAt_eq_of_covers 6 _ (by decide +kernel) fun t hf y => ?_
  have ht := point_lt t
  have h0 : (y 0).val < 256 := (y 0).isLt
  have h1 : (y 1).val < 2048 := (y 1).isLt
  have e0 : ((((cfg0.win 6).blk t).view.emb y) 0).val = 256 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (congrArg₂ Between.moment₂ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_V m c) _).trans ?_
    blk_ext [idx t, e0, e1] <;> omega

theorem final7 : (dats m 0 c).arrAt 7 cfg0.N = rowsG m c := by
  refine (dats m 0 c).arrAt_eq_of_covers 7 _ (by decide +kernel) fun t hf y => ?_
  have ht := point_lt t
  have h0 : (y 0).val < 256 := (y 0).isLt
  have h1 : (y 1).val < 2048 := (y 1).isLt
  have e0 : ((((cfg0.win 7).blk t).view.emb y) 0).val = 256 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay1_at _ y).trans ?_
  rw [View.ld_unit_zero (by decide)]
  unfold iblk
  refine (congrFun (V_G m c) _).trans ?_
  blk_ext [idx t, e0, e1] <;> omega

end Cert.UpdateOutIdeal

namespace Cert.UpdateOutReferenceIdeal

open Cert.UpdateOutReferenceIdeal.Gen

/-- The reference computes the same functions of its arguments. -/
theorem ref_eq0 (W G M V : FVec Ideal S4x512x2048 .f32) :
    shapeCast S2048x2048 (mulf (broadcastInDim S4x512x2048 ![] bcast_S_S4x512x2048 (constant S_ .f32 0xBA83126F#32)) (addf (Host.divf (Host.divf (addf (mulf (broadcastInDim S4x512x2048 ![] bcast_S_S4x512x2048 (constant S_ .f32 0x3F666666#32)) M) (mulf (broadcastInDim S4x512x2048 ![] bcast_S_S4x512x2048 (constant S_ .f32 0x3DCCCCCD#32)) G)) (broadcastInDim S4x512x2048 ![] bcast_S_S4x512x2048 (constant S_ .f32 0x3F26BD02#32))) (addf (Host.sqrt (Host.divf (addf (mulf (broadcastInDim S4x512x2048 ![] bcast_S_S4x512x2048 (constant S_ .f32 0x3F7FBE77#32)) V) (mulf (broadcastInDim S4x512x2048 ![] bcast_S_S4x512x2048 (constant S_ .f32 0x3A83126F#32)) (mulf G G))) (broadcastInDim S4x512x2048 ![] bcast_S_S4x512x2048 (constant S_ .f32 0x3C231ACC#32)))) (broadcastInDim S4x512x2048 ![] bcast_S_S4x512x2048 (constant S_ .f32 0x322BCC77#32)))) (mulf (broadcastInDim S4x512x2048 ![] bcast_S_S4x512x2048 (constant S_ .f32 0x3C23D70A#32)) W))) shapeCasts_S4x512x2048_S2048x2048
      = Cert.UpdateOutIdeal.D (shapeCast S2048x2048 W shapeCasts_S4x512x2048_S2048x2048) (shapeCast S2048x2048 G shapeCasts_S4x512x2048_S2048x2048) (shapeCast S2048x2048 M shapeCasts_S4x512x2048_S2048x2048) (shapeCast S2048x2048 V shapeCasts_S4x512x2048_S2048x2048) := by
  funext y
  idx_vars y
  pointwise [Cert.UpdateOutIdeal.D, Between.step, Between.moment₁, Between.moment₂]

/-- Likewise its next result. -/
theorem ref_eq1 (G M : FVec Ideal S4x512x2048 .f32) :
    shapeCast S2048x2048 (addf (mulf (broadcastInDim S4x512x2048 ![] bcast_S_S4x512x2048 (constant S_ .f32 0x3F666666#32)) M) (mulf (broadcastInDim S4x512x2048 ![] bcast_S_S4x512x2048 (constant S_ .f32 0x3DCCCCCD#32)) G)) shapeCasts_S4x512x2048_S2048x2048
      = Cert.UpdateOutIdeal.M₁ (shapeCast S2048x2048 G shapeCasts_S4x512x2048_S2048x2048) (shapeCast S2048x2048 M shapeCasts_S4x512x2048_S2048x2048) := by
  funext y
  idx_vars y
  pointwise [Cert.UpdateOutIdeal.M₁, Between.moment₁]

/-- Likewise its next result. -/
theorem ref_eq2 (G V : FVec Ideal S4x512x2048 .f32) :
    shapeCast S2048x2048 (addf (mulf (broadcastInDim S4x512x2048 ![] bcast_S_S4x512x2048 (constant S_ .f32 0x3F7FBE77#32)) V) (mulf (broadcastInDim S4x512x2048 ![] bcast_S_S4x512x2048 (constant S_ .f32 0x3A83126F#32)) (mulf G G))) shapeCasts_S4x512x2048_S2048x2048
      = Cert.UpdateOutIdeal.M₂ (shapeCast S2048x2048 G shapeCasts_S4x512x2048_S2048x2048) (shapeCast S2048x2048 V shapeCasts_S4x512x2048_S2048x2048) := by
  funext y
  idx_vars y
  pointwise [Cert.UpdateOutIdeal.M₂, Between.moment₂]

end Cert.UpdateOutReferenceIdeal

end
-- ==== Proof.Updates.UpdateUp.lean ====
/- The optimiser's step of one weight, element by element. -/
module

public import proofs.«01_k».proof.Proof.Gen.UpdateUpIdeal.Value
public import proofs.«01_k».proof.Proof.Gen.UpdateUpReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.UpdateUpIdeal

open Cert.UpdateUpIdeal.Gen

/-- The steps. -/
def D (W G M V : FVec Ideal S8192x2816 .f32) : FVec Ideal S8192x2816 .f32 := fun y => Between.step (W y) (G y) (M y) (V y)

/-- The first moments. -/
def M₁ (G M : FVec Ideal S8192x2816 .f32) : FVec Ideal S8192x2816 .f32 := fun y => Between.moment₁ (G y) (M y)

/-- The second moments. -/
def M₂ (G V : FVec Ideal S8192x2816 .f32) : FVec Ideal S8192x2816 .f32 := fun y => Between.moment₂ (G y) (V y)

theorem pay1_at (g : FVec Ideal S128x2816 .f32) (i : S128x2816.Idx) : k0_pay1 (F := Ideal) g i = g i := by
  pointwise [k0_pay1]

theorem pay2_at (g m : FVec Ideal S128x2816 .f32) (i : S128x2816.Idx) : k0_pay2 (F := Ideal) g m i = Between.moment₁ (g i) (m i) := by
  pointwise [k0_pay2, k0_pay1, Between.moment₁]

theorem pay3_at (g v : FVec Ideal S128x2816 .f32) (i : S128x2816.Idx) : k0_pay3 (F := Ideal) g v i = Between.moment₂ (g i) (v i) := by
  pointwise [k0_pay3, k0_pay1, Between.moment₂]

theorem pay4_at (g m v w : FVec Ideal S128x2816 .f32) (i : S128x2816.Idx) : k0_pay4 (F := Ideal) g m v w i = Between.step (w i) (g i) (m i) (v i) := by
  pointwise [k0_pay4, k0_pay3, k0_pay2, k0_pay1, Between.step, Between.moment₁, Between.moment₂]

variable (m : (ℓ : Loc nD τ sig) → Buf (Elt Ideal) ℓ) (c : Dev nD)

abbrev argW : FVec Ideal S4x2048x2816 .f32 := m ((c : Thread nD τ).loc main_arg0)
abbrev argG : FVec Ideal S4x2048x2816 .f32 := m ((c : Thread nD τ).loc main_arg1)
abbrev argM : FVec Ideal S4x2048x2816 .f32 := m ((c : Thread nD τ).loc main_arg2)
abbrev argV : FVec Ideal S4x2048x2816 .f32 := m ((c : Thread nD τ).loc main_arg3)

/-- The arguments, their four groups of rows one below the other. -/
abbrev rowsW : FVec Ideal S8192x2816 .f32 := shapeCast S8192x2816 (argW m c) shapeCasts_S4x2048x2816_S8192x2816
abbrev rowsG : FVec Ideal S8192x2816 .f32 := shapeCast S8192x2816 (argG m c) shapeCasts_S4x2048x2816_S8192x2816
abbrev rowsM : FVec Ideal S8192x2816 .f32 := shapeCast S8192x2816 (argM m c) shapeCasts_S4x2048x2816_S8192x2816
abbrev rowsV : FVec Ideal S8192x2816 .f32 := shapeCast S8192x2816 (argV m c) shapeCasts_S4x2048x2816_S8192x2816

theorem V_W : (V m c main_v0 : FVec Ideal S8192x2816 .f32) = rowsW m c := rfl

theorem V_G : (V m c main_v1 : FVec Ideal S8192x2816 .f32) = rowsG m c := rfl

theorem V_M : (V m c main_v2 : FVec Ideal S8192x2816 .f32) = rowsM m c := rfl

theorem V_V : (V m c main_v3 : FVec Ideal S8192x2816 .f32) = rowsV m c := rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 64 := lt_of_lt_of_eq t.isLt (show cfg0.N = 64 from N_0)

theorem final4 : (dats m 0 c).arrAt 4 cfg0.N = D (rowsW m c) (rowsG m c) (rowsM m c) (rowsV m c) := by
  refine (dats m 0 c).arrAt_eq_of_covers 4 _ (by decide +kernel) fun t hf y => ?_
  have ht := point_lt t
  have h0 : (y 0).val < 128 := (y 0).isLt
  have h1 : (y 1).val < 2816 := (y 1).isLt
  have e0 : ((((cfg0.win 4).blk t).view.emb y) 0).val = 128 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (Between.congr4 Between.step ?_ ?_ ?_ ?_)
  · rw [View.ld_unit_zero (by decide)]
    unfold iblk
    refine (congrFun (V_W m c) _).trans ?_
    blk_ext [idx t, e0, e1] <;> omega
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega
  · rw [View.ld_unit_zero (by decide)]
    unfold iblk
    refine (congrFun (V_V m c) _).trans ?_
    blk_ext [idx t, e0, e1] <;> omega

theorem final5 : (dats m 0 c).arrAt 5 cfg0.N = M₁ (rowsG m c) (rowsM m c) := by
  refine (dats m 0 c).arrAt_eq_of_covers 5 _ (by decide +kernel) fun t hf y => ?_
  have ht := point_lt t
  have h0 : (y 0).val < 128 := (y 0).isLt
  have h1 : (y 1).val < 2816 := (y 1).isLt
  have e0 : ((((cfg0.win 5).blk t).view.emb y) 0).val = 128 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay2_at _ _ y).trans (congrArg₂ Between.moment₁ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega

theorem final6 : (dats m 0 c).arrAt 6 cfg0.N = M₂ (rowsG m c) (rowsV m c) := by
  refine (dats m 0 c).arrAt_eq_of_covers 6 _ (by decide +kernel) fun t hf y => ?_
  have ht := point_lt t
  have h0 : (y 0).val < 128 := (y 0).isLt
  have h1 : (y 1).val < 2816 := (y 1).isLt
  have e0 : ((((cfg0.win 6).blk t).view.emb y) 0).val = 128 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (congrArg₂ Between.moment₂ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_V m c) _).trans ?_
    blk_ext [idx t, e0, e1] <;> omega

theorem final7 : (dats m 0 c).arrAt 7 cfg0.N = rowsG m c := by
  refine (dats m 0 c).arrAt_eq_of_covers 7 _ (by decide +kernel) fun t hf y => ?_
  have ht := point_lt t
  have h0 : (y 0).val < 128 := (y 0).isLt
  have h1 : (y 1).val < 2816 := (y 1).isLt
  have e0 : ((((cfg0.win 7).blk t).view.emb y) 0).val = 128 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay1_at _ y).trans ?_
  rw [View.ld_unit_zero (by decide)]
  unfold iblk
  refine (congrFun (V_G m c) _).trans ?_
  blk_ext [idx t, e0, e1] <;> omega

end Cert.UpdateUpIdeal

namespace Cert.UpdateUpReferenceIdeal

open Cert.UpdateUpReferenceIdeal.Gen

/-- The reference computes the same functions of its arguments. -/
theorem ref_eq0 (W G M V : FVec Ideal S4x2048x2816 .f32) :
    shapeCast S8192x2816 (mulf (broadcastInDim S4x2048x2816 ![] bcast_S_S4x2048x2816 (constant S_ .f32 0xBA83126F#32)) (addf (Host.divf (Host.divf (addf (mulf (broadcastInDim S4x2048x2816 ![] bcast_S_S4x2048x2816 (constant S_ .f32 0x3F666666#32)) M) (mulf (broadcastInDim S4x2048x2816 ![] bcast_S_S4x2048x2816 (constant S_ .f32 0x3DCCCCCD#32)) G)) (broadcastInDim S4x2048x2816 ![] bcast_S_S4x2048x2816 (constant S_ .f32 0x3F26BD02#32))) (addf (Host.sqrt (Host.divf (addf (mulf (broadcastInDim S4x2048x2816 ![] bcast_S_S4x2048x2816 (constant S_ .f32 0x3F7FBE77#32)) V) (mulf (broadcastInDim S4x2048x2816 ![] bcast_S_S4x2048x2816 (constant S_ .f32 0x3A83126F#32)) (mulf G G))) (broadcastInDim S4x2048x2816 ![] bcast_S_S4x2048x2816 (constant S_ .f32 0x3C231ACC#32)))) (broadcastInDim S4x2048x2816 ![] bcast_S_S4x2048x2816 (constant S_ .f32 0x322BCC77#32)))) (mulf (broadcastInDim S4x2048x2816 ![] bcast_S_S4x2048x2816 (constant S_ .f32 0x3C23D70A#32)) W))) shapeCasts_S4x2048x2816_S8192x2816
      = Cert.UpdateUpIdeal.D (shapeCast S8192x2816 W shapeCasts_S4x2048x2816_S8192x2816) (shapeCast S8192x2816 G shapeCasts_S4x2048x2816_S8192x2816) (shapeCast S8192x2816 M shapeCasts_S4x2048x2816_S8192x2816) (shapeCast S8192x2816 V shapeCasts_S4x2048x2816_S8192x2816) := by
  funext y
  idx_vars y
  pointwise [Cert.UpdateUpIdeal.D, Between.step, Between.moment₁, Between.moment₂]

/-- Likewise its next result. -/
theorem ref_eq1 (G M : FVec Ideal S4x2048x2816 .f32) :
    shapeCast S8192x2816 (addf (mulf (broadcastInDim S4x2048x2816 ![] bcast_S_S4x2048x2816 (constant S_ .f32 0x3F666666#32)) M) (mulf (broadcastInDim S4x2048x2816 ![] bcast_S_S4x2048x2816 (constant S_ .f32 0x3DCCCCCD#32)) G)) shapeCasts_S4x2048x2816_S8192x2816
      = Cert.UpdateUpIdeal.M₁ (shapeCast S8192x2816 G shapeCasts_S4x2048x2816_S8192x2816) (shapeCast S8192x2816 M shapeCasts_S4x2048x2816_S8192x2816) := by
  funext y
  idx_vars y
  pointwise [Cert.UpdateUpIdeal.M₁, Between.moment₁]

/-- Likewise its next result. -/
theorem ref_eq2 (G V : FVec Ideal S4x2048x2816 .f32) :
    shapeCast S8192x2816 (addf (mulf (broadcastInDim S4x2048x2816 ![] bcast_S_S4x2048x2816 (constant S_ .f32 0x3F7FBE77#32)) V) (mulf (broadcastInDim S4x2048x2816 ![] bcast_S_S4x2048x2816 (constant S_ .f32 0x3A83126F#32)) (mulf G G))) shapeCasts_S4x2048x2816_S8192x2816
      = Cert.UpdateUpIdeal.M₂ (shapeCast S8192x2816 G shapeCasts_S4x2048x2816_S8192x2816) (shapeCast S8192x2816 V shapeCasts_S4x2048x2816_S8192x2816) := by
  funext y
  idx_vars y
  pointwise [Cert.UpdateUpIdeal.M₂, Between.moment₂]

end Cert.UpdateUpReferenceIdeal

end
-- ==== Proof.Updates.UpdateDown.lean ====
/- The optimiser's step of one weight, element by element. -/
module

public import proofs.«01_k».proof.Proof.Gen.UpdateDownIdeal.Value
public import proofs.«01_k».proof.Proof.Gen.UpdateDownReferenceIdeal.Run
public import Idealize.ShloMosaic.Lib.Pointwise
public import Idealize.ShloMosaic.Lib.Pipeline.ValueKit
public import Idealize.ShloMosaic.Lib.Claim
public import proofs.«01_k».proof.Proof.Between.Scalar

@[expose] public section

set_option maxRecDepth 16384

noncomputable section

open Idealize.ShloMosaic Idealize.ShloMosaic.TcCoe Idealize.SL.Sem

namespace Cert.UpdateDownIdeal

open Cert.UpdateDownIdeal.Gen

/-- The steps. -/
def D (W G M V : FVec Ideal S5632x2048 .f32) : FVec Ideal S5632x2048 .f32 := fun y => Between.step (W y) (G y) (M y) (V y)

/-- The first moments. -/
def M₁ (G M : FVec Ideal S5632x2048 .f32) : FVec Ideal S5632x2048 .f32 := fun y => Between.moment₁ (G y) (M y)

/-- The second moments. -/
def M₂ (G V : FVec Ideal S5632x2048 .f32) : FVec Ideal S5632x2048 .f32 := fun y => Between.moment₂ (G y) (V y)

theorem pay1_at (g : FVec Ideal S256x2048 .f32) (i : S256x2048.Idx) : k0_pay1 (F := Ideal) g i = g i := by
  pointwise [k0_pay1]

theorem pay2_at (g m : FVec Ideal S256x2048 .f32) (i : S256x2048.Idx) : k0_pay2 (F := Ideal) g m i = Between.moment₁ (g i) (m i) := by
  pointwise [k0_pay2, k0_pay1, Between.moment₁]

theorem pay3_at (g v : FVec Ideal S256x2048 .f32) (i : S256x2048.Idx) : k0_pay3 (F := Ideal) g v i = Between.moment₂ (g i) (v i) := by
  pointwise [k0_pay3, k0_pay1, Between.moment₂]

theorem pay4_at (g m v w : FVec Ideal S256x2048 .f32) (i : S256x2048.Idx) : k0_pay4 (F := Ideal) g m v w i = Between.step (w i) (g i) (m i) (v i) := by
  pointwise [k0_pay4, k0_pay3, k0_pay2, k0_pay1, Between.step, Between.moment₁, Between.moment₂]

variable (m : (ℓ : Loc nD τ sig) → Buf (Elt Ideal) ℓ) (c : Dev nD)

abbrev argW : FVec Ideal S4x1408x2048 .f32 := m ((c : Thread nD τ).loc main_arg0)
abbrev argG : FVec Ideal S4x1408x2048 .f32 := m ((c : Thread nD τ).loc main_arg1)
abbrev argM : FVec Ideal S4x1408x2048 .f32 := m ((c : Thread nD τ).loc main_arg2)
abbrev argV : FVec Ideal S4x1408x2048 .f32 := m ((c : Thread nD τ).loc main_arg3)

/-- The arguments, their four groups of rows one below the other. -/
abbrev rowsW : FVec Ideal S5632x2048 .f32 := shapeCast S5632x2048 (argW m c) shapeCasts_S4x1408x2048_S5632x2048
abbrev rowsG : FVec Ideal S5632x2048 .f32 := shapeCast S5632x2048 (argG m c) shapeCasts_S4x1408x2048_S5632x2048
abbrev rowsM : FVec Ideal S5632x2048 .f32 := shapeCast S5632x2048 (argM m c) shapeCasts_S4x1408x2048_S5632x2048
abbrev rowsV : FVec Ideal S5632x2048 .f32 := shapeCast S5632x2048 (argV m c) shapeCasts_S4x1408x2048_S5632x2048

theorem V_W : (V m c main_v0 : FVec Ideal S5632x2048 .f32) = rowsW m c := rfl

theorem V_G : (V m c main_v1 : FVec Ideal S5632x2048 .f32) = rowsG m c := rfl

theorem V_M : (V m c main_v2 : FVec Ideal S5632x2048 .f32) = rowsM m c := rfl

theorem V_V : (V m c main_v3 : FVec Ideal S5632x2048 .f32) = rowsV m c := rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 22 := lt_of_lt_of_eq t.isLt (show cfg0.N = 22 from N_0)

theorem final4 : (dats m 0 c).arrAt 4 cfg0.N = D (rowsW m c) (rowsG m c) (rowsM m c) (rowsV m c) := by
  refine (dats m 0 c).arrAt_eq_of_covers 4 _ (by decide +kernel) fun t hf y => ?_
  have ht := point_lt t
  have h0 : (y 0).val < 256 := (y 0).isLt
  have h1 : (y 1).val < 2048 := (y 1).isLt
  have e0 : ((((cfg0.win 4).blk t).view.emb y) 0).val = 256 * t.val + (y 0).val := by blk_simp [idx t] <;> omega
  have e1 : ((((cfg0.win 4).blk t).view.emb y) 1).val = (y 1).val := by blk_simp [idx t] <;> omega
  blk_simp
  rw [after0_4]
  unfold out0_4
  canon_tiles y h
  refine (pay4_at _ _ _ _ y).trans (Between.congr4 Between.step ?_ ?_ ?_ ?_)
  · rw [View.ld_unit_zero (by decide)]
    unfold iblk
    refine (congrFun (V_W m c) _).trans ?_
    blk_ext [idx t, e0, e1] <;> omega
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega
  · rw [View.ld_unit_zero (by decide)]
    unfold iblk
    refine (congrFun (V_V m c) _).trans ?_
    blk_ext [idx t, e0, e1] <;> omega

theorem final5 : (dats m 0 c).arrAt 5 cfg0.N = M₁ (rowsG m c) (rowsM m c) := by
  refine (dats m 0 c).arrAt_eq_of_covers 5 _ (by decide +kernel) fun t hf y => ?_
  have ht := point_lt t
  have h0 : (y 0).val < 256 := (y 0).isLt
  have h1 : (y 1).val < 2048 := (y 1).isLt
  have e0 : ((((cfg0.win 5).blk t).view.emb y) 0).val = 256 * t.val + (y 0).val := by blk_simp [idx t] <;> omega
  have e1 : ((((cfg0.win 5).blk t).view.emb y) 1).val = (y 1).val := by blk_simp [idx t] <;> omega
  blk_simp
  rw [after0_5]
  unfold out0_5
  canon_tiles y h
  refine (pay2_at _ _ y).trans (congrArg₂ Between.moment₁ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_M m c) _).trans ?_
    blk_ext [idx t, e0, e1] <;> omega

theorem final6 : (dats m 0 c).arrAt 6 cfg0.N = M₂ (rowsG m c) (rowsV m c) := by
  refine (dats m 0 c).arrAt_eq_of_covers 6 _ (by decide +kernel) fun t hf y => ?_
  have ht := point_lt t
  have h0 : (y 0).val < 256 := (y 0).isLt
  have h1 : (y 1).val < 2048 := (y 1).isLt
  have e0 : ((((cfg0.win 6).blk t).view.emb y) 0).val = 256 * t.val + (y 0).val := by blk_simp [idx t] <;> omega
  have e1 : ((((cfg0.win 6).blk t).view.emb y) 1).val = (y 1).val := by blk_simp [idx t] <;> omega
  blk_simp
  rw [after0_6]
  unfold out0_6
  canon_tiles y h
  refine (pay3_at _ _ y).trans (congrArg₂ Between.moment₂ ?_ ?_)
  · rw [View.ld_unit_zero (by decide)]
    unfold iblk
    refine (congrFun (V_G m c) _).trans ?_
    blk_ext [idx t, e0, e1] <;> omega
  · rw [View.ld_unit_zero (by decide)]
    unfold iblk
    refine (congrFun (V_V m c) _).trans ?_
    blk_ext [idx t, e0, e1] <;> omega

theorem final7 : (dats m 0 c).arrAt 7 cfg0.N = rowsG m c := by
  refine (dats m 0 c).arrAt_eq_of_covers 7 _ (by decide +kernel) fun t hf y => ?_
  have ht := point_lt t
  have h0 : (y 0).val < 256 := (y 0).isLt
  have h1 : (y 1).val < 2048 := (y 1).isLt
  have e0 : ((((cfg0.win 7).blk t).view.emb y) 0).val = 256 * t.val + (y 0).val := by blk_simp [idx t] <;> omega
  have e1 : ((((cfg0.win 7).blk t).view.emb y) 1).val = (y 1).val := by blk_simp [idx t] <;> omega
  blk_simp
  rw [after0_7]
  unfold out0_7
  canon_tiles y h
  refine (pay1_at _ y).trans ?_
  rw [View.ld_unit_zero (by decide)]
  unfold iblk
  refine (congrFun (V_G m c) _).trans ?_
  blk_ext [idx t, e0, e1] <;> omega

end Cert.UpdateDownIdeal

namespace Cert.UpdateDownReferenceIdeal

open Cert.UpdateDownReferenceIdeal.Gen

/-- The reference computes the same functions of its arguments. -/
theorem ref_eq0 (W G M V : FVec Ideal S4x1408x2048 .f32) :
    shapeCast S5632x2048 (mulf (broadcastInDim S4x1408x2048 ![] bcast_S_S4x1408x2048 (constant S_ .f32 0xBA83126F#32)) (addf (Host.divf (Host.divf (addf (mulf (broadcastInDim S4x1408x2048 ![] bcast_S_S4x1408x2048 (constant S_ .f32 0x3F666666#32)) M) (mulf (broadcastInDim S4x1408x2048 ![] bcast_S_S4x1408x2048 (constant S_ .f32 0x3DCCCCCD#32)) G)) (broadcastInDim S4x1408x2048 ![] bcast_S_S4x1408x2048 (constant S_ .f32 0x3F26BD02#32))) (addf (Host.sqrt (Host.divf (addf (mulf (broadcastInDim S4x1408x2048 ![] bcast_S_S4x1408x2048 (constant S_ .f32 0x3F7FBE77#32)) V) (mulf (broadcastInDim S4x1408x2048 ![] bcast_S_S4x1408x2048 (constant S_ .f32 0x3A83126F#32)) (mulf G G))) (broadcastInDim S4x1408x2048 ![] bcast_S_S4x1408x2048 (constant S_ .f32 0x3C231ACC#32)))) (broadcastInDim S4x1408x2048 ![] bcast_S_S4x1408x2048 (constant S_ .f32 0x322BCC77#32)))) (mulf (broadcastInDim S4x1408x2048 ![] bcast_S_S4x1408x2048 (constant S_ .f32 0x3C23D70A#32)) W))) shapeCasts_S4x1408x2048_S5632x2048
      = Cert.UpdateDownIdeal.D (shapeCast S5632x2048 W shapeCasts_S4x1408x2048_S5632x2048) (shapeCast S5632x2048 G shapeCasts_S4x1408x2048_S5632x2048) (shapeCast S5632x2048 M shapeCasts_S4x1408x2048_S5632x2048) (shapeCast S5632x2048 V shapeCasts_S4x1408x2048_S5632x2048) := by
  funext y
  idx_vars y
  pointwise [Cert.UpdateDownIdeal.D, Between.step, Between.moment₁, Between.moment₂]

/-- Likewise its next result. -/
theorem ref_eq1 (G M : FVec Ideal S4x1408x2048 .f32) :
    shapeCast S5632x2048 (addf (mulf (broadcastInDim S4x1408x2048 ![] bcast_S_S4x1408x2048 (constant S_ .f32 0x3F666666#32)) M) (mulf (broadcastInDim S4x1408x2048 ![] bcast_S_S4x1408x2048 (constant S_ .f32 0x3DCCCCCD#32)) G)) shapeCasts_S4x1408x2048_S5632x2048
      = Cert.UpdateDownIdeal.M₁ (shapeCast S5632x2048 G shapeCasts_S4x1408x2048_S5632x2048) (shapeCast S5632x2048 M shapeCasts_S4x1408x2048_S5632x2048) := by
  funext y
  idx_vars y
  pointwise [Cert.UpdateDownIdeal.M₁, Between.moment₁]

/-- Likewise its next result. -/
theorem ref_eq2 (G V : FVec Ideal S4x1408x2048 .f32) :
    shapeCast S5632x2048 (addf (mulf (broadcastInDim S4x1408x2048 ![] bcast_S_S4x1408x2048 (constant S_ .f32 0x3F7FBE77#32)) V) (mulf (broadcastInDim S4x1408x2048 ![] bcast_S_S4x1408x2048 (constant S_ .f32 0x3A83126F#32)) (mulf G G))) shapeCasts_S4x1408x2048_S5632x2048
      = Cert.UpdateDownIdeal.M₂ (shapeCast S5632x2048 G shapeCasts_S4x1408x2048_S5632x2048) (shapeCast S5632x2048 V shapeCasts_S4x1408x2048_S5632x2048) := by
  funext y
  idx_vars y
  pointwise [Cert.UpdateDownIdeal.M₂, Between.moment₂]

end Cert.UpdateDownReferenceIdeal

end
-- ==== Proof.Updates.Claim.lean ====
/- The optimiser's claims: that each reference runs, and that the call and its reference end with equal results. -/
module

public import proofs.«01_k».proof.Defs
public import proofs.«01_k».proof.Proof.Updates.UpdateIn
public import proofs.«01_k».proof.Proof.Updates.UpdateSbOut
public import proofs.«01_k».proof.Proof.Updates.UpdateGlu
public import proofs.«01_k».proof.Proof.Updates.UpdateSsmOut
public import proofs.«01_k».proof.Proof.Updates.UpdateMemKv
public import proofs.«01_k».proof.Proof.Updates.UpdateOut
public import proofs.«01_k».proof.Proof.Updates.UpdateUp
public import proofs.«01_k».proof.Proof.Updates.UpdateDown
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.UpdateIn

theorem reference_frame : @Cert.quiescent_UpdateInReferenceIdeal Cert.UpdateInReferenceIdeal.Gen.facts := fun m g _ =>
  (θ_run _ _ _).mono (fun r h => ⟨fun c => (h c).2.2.2.2, sem_eq_zero_of_no_sems (by decide) r.2⟩) (Cert.UpdateInReferenceIdeal.Value.run (F := Ideal) m g)

theorem algebraic : @Cert.algebraic_UpdateInIdeal_UpdateInReferenceIdeal Cert.UpdateInIdeal.Gen.facts Cert.UpdateInReferenceIdeal.Gen.facts := by
  pair_intro
  · run_from Cert.UpdateInIdeal.Value.run_blocks m g
  · exact (θ_run _ _ _).mono (fun r h c => ⟨(h c).1.trans ((Cert.UpdateInReferenceIdeal.ref_eq0 _ _ _ _).trans
      ((congr (congr (congrArg₂ (fun (W G M V : FVec Ideal Cert.UpdateInReferenceIdeal.S4x2048x2560 .f32) => Cert.UpdateInIdeal.D (shapeCast Cert.UpdateInReferenceIdeal.S8192x2560 W Cert.UpdateInReferenceIdeal.Gen.shapeCasts_S4x2048x2560_S8192x2560) (shapeCast Cert.UpdateInReferenceIdeal.S8192x2560 G Cert.UpdateInReferenceIdeal.Gen.shapeCasts_S4x2048x2560_S8192x2560) (shapeCast Cert.UpdateInReferenceIdeal.S8192x2560 M Cert.UpdateInReferenceIdeal.Gen.shapeCasts_S4x2048x2560_S8192x2560) (shapeCast Cert.UpdateInReferenceIdeal.S8192x2560 V Cert.UpdateInReferenceIdeal.Gen.shapeCasts_S4x2048x2560_S8192x2560)) (hagree c).1 (hagree c).2.1) (hagree c).2.2.1) (hagree c).2.2.2).trans (Cert.UpdateInIdeal.final4 m c).symm)),
      (h c).2.1.trans ((Cert.UpdateInReferenceIdeal.ref_eq1 _ _).trans
      ((congrArg₂ (fun (G M : FVec Ideal Cert.UpdateInReferenceIdeal.S4x2048x2560 .f32) => Cert.UpdateInIdeal.M₁ (shapeCast Cert.UpdateInReferenceIdeal.S8192x2560 G Cert.UpdateInReferenceIdeal.Gen.shapeCasts_S4x2048x2560_S8192x2560) (shapeCast Cert.UpdateInReferenceIdeal.S8192x2560 M Cert.UpdateInReferenceIdeal.Gen.shapeCasts_S4x2048x2560_S8192x2560)) (hagree c).2.1 (hagree c).2.2.1).trans (Cert.UpdateInIdeal.final5 m c).symm)),
      (h c).2.2.1.trans ((Cert.UpdateInReferenceIdeal.ref_eq2 _ _).trans
      ((congrArg₂ (fun (G V : FVec Ideal Cert.UpdateInReferenceIdeal.S4x2048x2560 .f32) => Cert.UpdateInIdeal.M₂ (shapeCast Cert.UpdateInReferenceIdeal.S8192x2560 G Cert.UpdateInReferenceIdeal.Gen.shapeCasts_S4x2048x2560_S8192x2560) (shapeCast Cert.UpdateInReferenceIdeal.S8192x2560 V Cert.UpdateInReferenceIdeal.Gen.shapeCasts_S4x2048x2560_S8192x2560)) (hagree c).2.1 (hagree c).2.2.2).trans (Cert.UpdateInIdeal.final6 m c).symm)),
      (h c).2.2.2.1.trans ((congrArg (fun (G : FVec Ideal Cert.UpdateInReferenceIdeal.S4x2048x2560 .f32) => shapeCast Cert.UpdateInReferenceIdeal.S8192x2560 G Cert.UpdateInReferenceIdeal.Gen.shapeCasts_S4x2048x2560_S8192x2560) ((hagree c).2.1)).trans (Cert.UpdateInIdeal.final7 m c).symm), (h c).2.2.2.2⟩) (Cert.UpdateInReferenceIdeal.Value.run (F := Ideal) m' g')

end Cert.UpdateIn

namespace Cert.UpdateSbOut

theorem reference_frame : @Cert.quiescent_UpdateSbOutReferenceIdeal Cert.UpdateSbOutReferenceIdeal.Gen.facts := fun m g _ =>
  (θ_run _ _ _).mono (fun r h => ⟨fun c => (h c).2.2.2.2, sem_eq_zero_of_no_sems (by decide) r.2⟩) (Cert.UpdateSbOutReferenceIdeal.Value.run (F := Ideal) m g)

theorem algebraic : @Cert.algebraic_UpdateSbOutIdeal_UpdateSbOutReferenceIdeal Cert.UpdateSbOutIdeal.Gen.facts Cert.UpdateSbOutReferenceIdeal.Gen.facts := by
  pair_intro
  · run_from Cert.UpdateSbOutIdeal.Value.run_blocks m g
  · exact (θ_run _ _ _).mono (fun r h c => ⟨(h c).1.trans ((Cert.UpdateSbOutReferenceIdeal.ref_eq0 _ _ _ _).trans
      ((congr (congr (congrArg₂ (fun (W G M V : FVec Ideal Cert.UpdateSbOutReferenceIdeal.S4x1024x512 .f32) => Cert.UpdateSbOutIdeal.D (shapeCast Cert.UpdateSbOutReferenceIdeal.S4096x512 W Cert.UpdateSbOutReferenceIdeal.Gen.shapeCasts_S4x1024x512_S4096x512) (shapeCast Cert.UpdateSbOutReferenceIdeal.S4096x512 G Cert.UpdateSbOutReferenceIdeal.Gen.shapeCasts_S4x1024x512_S4096x512) (shapeCast Cert.UpdateSbOutReferenceIdeal.S4096x512 M Cert.UpdateSbOutReferenceIdeal.Gen.shapeCasts_S4x1024x512_S4096x512) (shapeCast Cert.UpdateSbOutReferenceIdeal.S4096x512 V Cert.UpdateSbOutReferenceIdeal.Gen.shapeCasts_S4x1024x512_S4096x512)) (hagree c).1 (hagree c).2.1) (hagree c).2.2.1) (hagree c).2.2.2).trans (Cert.UpdateSbOutIdeal.final4 m c).symm)),
      (h c).2.1.trans ((Cert.UpdateSbOutReferenceIdeal.ref_eq1 _ _).trans
      ((congrArg₂ (fun (G M : FVec Ideal Cert.UpdateSbOutReferenceIdeal.S4x1024x512 .f32) => Cert.UpdateSbOutIdeal.M₁ (shapeCast Cert.UpdateSbOutReferenceIdeal.S4096x512 G Cert.UpdateSbOutReferenceIdeal.Gen.shapeCasts_S4x1024x512_S4096x512) (shapeCast Cert.UpdateSbOutReferenceIdeal.S4096x512 M Cert.UpdateSbOutReferenceIdeal.Gen.shapeCasts_S4x1024x512_S4096x512)) (hagree c).2.1 (hagree c).2.2.1).trans (Cert.UpdateSbOutIdeal.final5 m c).symm)),
      (h c).2.2.1.trans ((Cert.UpdateSbOutReferenceIdeal.ref_eq2 _ _).trans
      ((congrArg₂ (fun (G V : FVec Ideal Cert.UpdateSbOutReferenceIdeal.S4x1024x512 .f32) => Cert.UpdateSbOutIdeal.M₂ (shapeCast Cert.UpdateSbOutReferenceIdeal.S4096x512 G Cert.UpdateSbOutReferenceIdeal.Gen.shapeCasts_S4x1024x512_S4096x512) (shapeCast Cert.UpdateSbOutReferenceIdeal.S4096x512 V Cert.UpdateSbOutReferenceIdeal.Gen.shapeCasts_S4x1024x512_S4096x512)) (hagree c).2.1 (hagree c).2.2.2).trans (Cert.UpdateSbOutIdeal.final6 m c).symm)),
      (h c).2.2.2.1.trans ((congrArg (fun (G : FVec Ideal Cert.UpdateSbOutReferenceIdeal.S4x1024x512 .f32) => shapeCast Cert.UpdateSbOutReferenceIdeal.S4096x512 G Cert.UpdateSbOutReferenceIdeal.Gen.shapeCasts_S4x1024x512_S4096x512) ((hagree c).2.1)).trans (Cert.UpdateSbOutIdeal.final7 m c).symm), (h c).2.2.2.2⟩) (Cert.UpdateSbOutReferenceIdeal.Value.run (F := Ideal) m' g')

end Cert.UpdateSbOut

namespace Cert.UpdateGlu

theorem reference_frame : @Cert.quiescent_UpdateGluReferenceIdeal Cert.UpdateGluReferenceIdeal.Gen.facts := fun m g _ =>
  (θ_run _ _ _).mono (fun r h => ⟨fun c => (h c).2.2.2.2, sem_eq_zero_of_no_sems (by decide) r.2⟩) (Cert.UpdateGluReferenceIdeal.Value.run (F := Ideal) m g)

theorem algebraic : @Cert.algebraic_UpdateGluIdeal_UpdateGluReferenceIdeal Cert.UpdateGluIdeal.Gen.facts Cert.UpdateGluReferenceIdeal.Gen.facts := by
  pair_intro
  · run_from Cert.UpdateGluIdeal.Value.run_blocks m g
  · exact (θ_run _ _ _).mono (fun r h c => ⟨(h c).1.trans ((Cert.UpdateGluReferenceIdeal.ref_eq0 _ _ _ _).trans
      ((congr (congr (congrArg₂ (fun (W G M V : FVec Ideal Cert.UpdateGluReferenceIdeal.S4x512x256 .f32) => Cert.UpdateGluIdeal.D (shapeCast Cert.UpdateGluReferenceIdeal.S2048x256 W Cert.UpdateGluReferenceIdeal.Gen.shapeCasts_S4x512x256_S2048x256) (shapeCast Cert.UpdateGluReferenceIdeal.S2048x256 G Cert.UpdateGluReferenceIdeal.Gen.shapeCasts_S4x512x256_S2048x256) (shapeCast Cert.UpdateGluReferenceIdeal.S2048x256 M Cert.UpdateGluReferenceIdeal.Gen.shapeCasts_S4x512x256_S2048x256) (shapeCast Cert.UpdateGluReferenceIdeal.S2048x256 V Cert.UpdateGluReferenceIdeal.Gen.shapeCasts_S4x512x256_S2048x256)) (hagree c).1 (hagree c).2.1) (hagree c).2.2.1) (hagree c).2.2.2).trans (Cert.UpdateGluIdeal.final4 m c).symm)),
      (h c).2.1.trans ((Cert.UpdateGluReferenceIdeal.ref_eq1 _ _).trans
      ((congrArg₂ (fun (G M : FVec Ideal Cert.UpdateGluReferenceIdeal.S4x512x256 .f32) => Cert.UpdateGluIdeal.M₁ (shapeCast Cert.UpdateGluReferenceIdeal.S2048x256 G Cert.UpdateGluReferenceIdeal.Gen.shapeCasts_S4x512x256_S2048x256) (shapeCast Cert.UpdateGluReferenceIdeal.S2048x256 M Cert.UpdateGluReferenceIdeal.Gen.shapeCasts_S4x512x256_S2048x256)) (hagree c).2.1 (hagree c).2.2.1).trans (Cert.UpdateGluIdeal.final5 m c).symm)),
      (h c).2.2.1.trans ((Cert.UpdateGluReferenceIdeal.ref_eq2 _ _).trans
      ((congrArg₂ (fun (G V : FVec Ideal Cert.UpdateGluReferenceIdeal.S4x512x256 .f32) => Cert.UpdateGluIdeal.M₂ (shapeCast Cert.UpdateGluReferenceIdeal.S2048x256 G Cert.UpdateGluReferenceIdeal.Gen.shapeCasts_S4x512x256_S2048x256) (shapeCast Cert.UpdateGluReferenceIdeal.S2048x256 V Cert.UpdateGluReferenceIdeal.Gen.shapeCasts_S4x512x256_S2048x256)) (hagree c).2.1 (hagree c).2.2.2).trans (Cert.UpdateGluIdeal.final6 m c).symm)),
      (h c).2.2.2.1.trans ((congrArg (fun (G : FVec Ideal Cert.UpdateGluReferenceIdeal.S4x512x256 .f32) => shapeCast Cert.UpdateGluReferenceIdeal.S2048x256 G Cert.UpdateGluReferenceIdeal.Gen.shapeCasts_S4x512x256_S2048x256) ((hagree c).2.1)).trans (Cert.UpdateGluIdeal.final7 m c).symm), (h c).2.2.2.2⟩) (Cert.UpdateGluReferenceIdeal.Value.run (F := Ideal) m' g')

end Cert.UpdateGlu

namespace Cert.UpdateSsmOut

theorem reference_frame : @Cert.quiescent_UpdateSsmOutReferenceIdeal Cert.UpdateSsmOutReferenceIdeal.Gen.facts := fun m g _ =>
  (θ_run _ _ _).mono (fun r h => ⟨fun c => (h c).2.2.2.2, sem_eq_zero_of_no_sems (by decide) r.2⟩) (Cert.UpdateSsmOutReferenceIdeal.Value.run (F := Ideal) m g)

theorem algebraic : @Cert.algebraic_UpdateSsmOutIdeal_UpdateSsmOutReferenceIdeal Cert.UpdateSsmOutIdeal.Gen.facts Cert.UpdateSsmOutReferenceIdeal.Gen.facts := by
  pair_intro
  · run_from Cert.UpdateSsmOutIdeal.Value.run_blocks m g
  · exact (θ_run _ _ _).mono (fun r h c => ⟨(h c).1.trans ((Cert.UpdateSsmOutReferenceIdeal.ref_eq0 _ _ _ _).trans
      ((congr (congr (congrArg₂ (fun (W G M V : FVec Ideal Cert.UpdateSsmOutReferenceIdeal.S4x512x512 .f32) => Cert.UpdateSsmOutIdeal.D (shapeCast Cert.UpdateSsmOutReferenceIdeal.S2048x512 W Cert.UpdateSsmOutReferenceIdeal.Gen.shapeCasts_S4x512x512_S2048x512) (shapeCast Cert.UpdateSsmOutReferenceIdeal.S2048x512 G Cert.UpdateSsmOutReferenceIdeal.Gen.shapeCasts_S4x512x512_S2048x512) (shapeCast Cert.UpdateSsmOutReferenceIdeal.S2048x512 M Cert.UpdateSsmOutReferenceIdeal.Gen.shapeCasts_S4x512x512_S2048x512) (shapeCast Cert.UpdateSsmOutReferenceIdeal.S2048x512 V Cert.UpdateSsmOutReferenceIdeal.Gen.shapeCasts_S4x512x512_S2048x512)) (hagree c).1 (hagree c).2.1) (hagree c).2.2.1) (hagree c).2.2.2).trans (Cert.UpdateSsmOutIdeal.final4 m c).symm)),
      (h c).2.1.trans ((Cert.UpdateSsmOutReferenceIdeal.ref_eq1 _ _).trans
      ((congrArg₂ (fun (G M : FVec Ideal Cert.UpdateSsmOutReferenceIdeal.S4x512x512 .f32) => Cert.UpdateSsmOutIdeal.M₁ (shapeCast Cert.UpdateSsmOutReferenceIdeal.S2048x512 G Cert.UpdateSsmOutReferenceIdeal.Gen.shapeCasts_S4x512x512_S2048x512) (shapeCast Cert.UpdateSsmOutReferenceIdeal.S2048x512 M Cert.UpdateSsmOutReferenceIdeal.Gen.shapeCasts_S4x512x512_S2048x512)) (hagree c).2.1 (hagree c).2.2.1).trans (Cert.UpdateSsmOutIdeal.final5 m c).symm)),
      (h c).2.2.1.trans ((Cert.UpdateSsmOutReferenceIdeal.ref_eq2 _ _).trans
      ((congrArg₂ (fun (G V : FVec Ideal Cert.UpdateSsmOutReferenceIdeal.S4x512x512 .f32) => Cert.UpdateSsmOutIdeal.M₂ (shapeCast Cert.UpdateSsmOutReferenceIdeal.S2048x512 G Cert.UpdateSsmOutReferenceIdeal.Gen.shapeCasts_S4x512x512_S2048x512) (shapeCast Cert.UpdateSsmOutReferenceIdeal.S2048x512 V Cert.UpdateSsmOutReferenceIdeal.Gen.shapeCasts_S4x512x512_S2048x512)) (hagree c).2.1 (hagree c).2.2.2).trans (Cert.UpdateSsmOutIdeal.final6 m c).symm)),
      (h c).2.2.2.1.trans ((congrArg (fun (G : FVec Ideal Cert.UpdateSsmOutReferenceIdeal.S4x512x512 .f32) => shapeCast Cert.UpdateSsmOutReferenceIdeal.S2048x512 G Cert.UpdateSsmOutReferenceIdeal.Gen.shapeCasts_S4x512x512_S2048x512) ((hagree c).2.1)).trans (Cert.UpdateSsmOutIdeal.final7 m c).symm), (h c).2.2.2.2⟩) (Cert.UpdateSsmOutReferenceIdeal.Value.run (F := Ideal) m' g')

end Cert.UpdateSsmOut

namespace Cert.UpdateMemKv

theorem reference_frame : @Cert.quiescent_UpdateMemKvReferenceIdeal Cert.UpdateMemKvReferenceIdeal.Gen.facts := fun m g _ =>
  (θ_run _ _ _).mono (fun r h => ⟨fun c => (h c).2.2.2.2, sem_eq_zero_of_no_sems (by decide) r.2⟩) (Cert.UpdateMemKvReferenceIdeal.Value.run (F := Ideal) m g)

theorem algebraic : @Cert.algebraic_UpdateMemKvIdeal_UpdateMemKvReferenceIdeal Cert.UpdateMemKvIdeal.Gen.facts Cert.UpdateMemKvReferenceIdeal.Gen.facts := by
  pair_intro
  · run_from Cert.UpdateMemKvIdeal.Value.run_blocks m g
  · exact (θ_run _ _ _).mono (fun r h c => ⟨(h c).1.trans ((Cert.UpdateMemKvReferenceIdeal.ref_eq0 _ _ _ _).trans
      ((congr (congr (congrArg₂ (fun (W G M V : FVec Ideal Cert.UpdateMemKvReferenceIdeal.S4x512x1024 .f32) => Cert.UpdateMemKvIdeal.D (shapeCast Cert.UpdateMemKvReferenceIdeal.S2048x1024 W Cert.UpdateMemKvReferenceIdeal.Gen.shapeCasts_S4x512x1024_S2048x1024) (shapeCast Cert.UpdateMemKvReferenceIdeal.S2048x1024 G Cert.UpdateMemKvReferenceIdeal.Gen.shapeCasts_S4x512x1024_S2048x1024) (shapeCast Cert.UpdateMemKvReferenceIdeal.S2048x1024 M Cert.UpdateMemKvReferenceIdeal.Gen.shapeCasts_S4x512x1024_S2048x1024) (shapeCast Cert.UpdateMemKvReferenceIdeal.S2048x1024 V Cert.UpdateMemKvReferenceIdeal.Gen.shapeCasts_S4x512x1024_S2048x1024)) (hagree c).1 (hagree c).2.1) (hagree c).2.2.1) (hagree c).2.2.2).trans (Cert.UpdateMemKvIdeal.final4 m c).symm)),
      (h c).2.1.trans ((Cert.UpdateMemKvReferenceIdeal.ref_eq1 _ _).trans
      ((congrArg₂ (fun (G M : FVec Ideal Cert.UpdateMemKvReferenceIdeal.S4x512x1024 .f32) => Cert.UpdateMemKvIdeal.M₁ (shapeCast Cert.UpdateMemKvReferenceIdeal.S2048x1024 G Cert.UpdateMemKvReferenceIdeal.Gen.shapeCasts_S4x512x1024_S2048x1024) (shapeCast Cert.UpdateMemKvReferenceIdeal.S2048x1024 M Cert.UpdateMemKvReferenceIdeal.Gen.shapeCasts_S4x512x1024_S2048x1024)) (hagree c).2.1 (hagree c).2.2.1).trans (Cert.UpdateMemKvIdeal.final5 m c).symm)),
      (h c).2.2.1.trans ((Cert.UpdateMemKvReferenceIdeal.ref_eq2 _ _).trans
      ((congrArg₂ (fun (G V : FVec Ideal Cert.UpdateMemKvReferenceIdeal.S4x512x1024 .f32) => Cert.UpdateMemKvIdeal.M₂ (shapeCast Cert.UpdateMemKvReferenceIdeal.S2048x1024 G Cert.UpdateMemKvReferenceIdeal.Gen.shapeCasts_S4x512x1024_S2048x1024) (shapeCast Cert.UpdateMemKvReferenceIdeal.S2048x1024 V Cert.UpdateMemKvReferenceIdeal.Gen.shapeCasts_S4x512x1024_S2048x1024)) (hagree c).2.1 (hagree c).2.2.2).trans (Cert.UpdateMemKvIdeal.final6 m c).symm)),
      (h c).2.2.2.1.trans ((congrArg (fun (G : FVec Ideal Cert.UpdateMemKvReferenceIdeal.S4x512x1024 .f32) => shapeCast Cert.UpdateMemKvReferenceIdeal.S2048x1024 G Cert.UpdateMemKvReferenceIdeal.Gen.shapeCasts_S4x512x1024_S2048x1024) ((hagree c).2.1)).trans (Cert.UpdateMemKvIdeal.final7 m c).symm), (h c).2.2.2.2⟩) (Cert.UpdateMemKvReferenceIdeal.Value.run (F := Ideal) m' g')

end Cert.UpdateMemKv

namespace Cert.UpdateOut

theorem reference_frame : @Cert.quiescent_UpdateOutReferenceIdeal Cert.UpdateOutReferenceIdeal.Gen.facts := fun m g _ =>
  (θ_run _ _ _).mono (fun r h => ⟨fun c => (h c).2.2.2.2, sem_eq_zero_of_no_sems (by decide) r.2⟩) (Cert.UpdateOutReferenceIdeal.Value.run (F := Ideal) m g)

theorem algebraic : @Cert.algebraic_UpdateOutIdeal_UpdateOutReferenceIdeal Cert.UpdateOutIdeal.Gen.facts Cert.UpdateOutReferenceIdeal.Gen.facts := by
  pair_intro
  · run_from Cert.UpdateOutIdeal.Value.run_blocks m g
  · exact (θ_run _ _ _).mono (fun r h c => ⟨(h c).1.trans ((Cert.UpdateOutReferenceIdeal.ref_eq0 _ _ _ _).trans
      ((congr (congr (congrArg₂ (fun (W G M V : FVec Ideal Cert.UpdateOutReferenceIdeal.S4x512x2048 .f32) => Cert.UpdateOutIdeal.D (shapeCast Cert.UpdateOutReferenceIdeal.S2048x2048 W Cert.UpdateOutReferenceIdeal.Gen.shapeCasts_S4x512x2048_S2048x2048) (shapeCast Cert.UpdateOutReferenceIdeal.S2048x2048 G Cert.UpdateOutReferenceIdeal.Gen.shapeCasts_S4x512x2048_S2048x2048) (shapeCast Cert.UpdateOutReferenceIdeal.S2048x2048 M Cert.UpdateOutReferenceIdeal.Gen.shapeCasts_S4x512x2048_S2048x2048) (shapeCast Cert.UpdateOutReferenceIdeal.S2048x2048 V Cert.UpdateOutReferenceIdeal.Gen.shapeCasts_S4x512x2048_S2048x2048)) (hagree c).1 (hagree c).2.1) (hagree c).2.2.1) (hagree c).2.2.2).trans (Cert.UpdateOutIdeal.final4 m c).symm)),
      (h c).2.1.trans ((Cert.UpdateOutReferenceIdeal.ref_eq1 _ _).trans
      ((congrArg₂ (fun (G M : FVec Ideal Cert.UpdateOutReferenceIdeal.S4x512x2048 .f32) => Cert.UpdateOutIdeal.M₁ (shapeCast Cert.UpdateOutReferenceIdeal.S2048x2048 G Cert.UpdateOutReferenceIdeal.Gen.shapeCasts_S4x512x2048_S2048x2048) (shapeCast Cert.UpdateOutReferenceIdeal.S2048x2048 M Cert.UpdateOutReferenceIdeal.Gen.shapeCasts_S4x512x2048_S2048x2048)) (hagree c).2.1 (hagree c).2.2.1).trans (Cert.UpdateOutIdeal.final5 m c).symm)),
      (h c).2.2.1.trans ((Cert.UpdateOutReferenceIdeal.ref_eq2 _ _).trans
      ((congrArg₂ (fun (G V : FVec Ideal Cert.UpdateOutReferenceIdeal.S4x512x2048 .f32) => Cert.UpdateOutIdeal.M₂ (shapeCast Cert.UpdateOutReferenceIdeal.S2048x2048 G Cert.UpdateOutReferenceIdeal.Gen.shapeCasts_S4x512x2048_S2048x2048) (shapeCast Cert.UpdateOutReferenceIdeal.S2048x2048 V Cert.UpdateOutReferenceIdeal.Gen.shapeCasts_S4x512x2048_S2048x2048)) (hagree c).2.1 (hagree c).2.2.2).trans (Cert.UpdateOutIdeal.final6 m c).symm)),
      (h c).2.2.2.1.trans ((congrArg (fun (G : FVec Ideal Cert.UpdateOutReferenceIdeal.S4x512x2048 .f32) => shapeCast Cert.UpdateOutReferenceIdeal.S2048x2048 G Cert.UpdateOutReferenceIdeal.Gen.shapeCasts_S4x512x2048_S2048x2048) ((hagree c).2.1)).trans (Cert.UpdateOutIdeal.final7 m c).symm), (h c).2.2.2.2⟩) (Cert.UpdateOutReferenceIdeal.Value.run (F := Ideal) m' g')

end Cert.UpdateOut

namespace Cert.UpdateUp

theorem reference_frame : @Cert.quiescent_UpdateUpReferenceIdeal Cert.UpdateUpReferenceIdeal.Gen.facts := fun m g _ =>
  (θ_run _ _ _).mono (fun r h => ⟨fun c => (h c).2.2.2.2, sem_eq_zero_of_no_sems (by decide) r.2⟩) (Cert.UpdateUpReferenceIdeal.Value.run (F := Ideal) m g)

theorem algebraic : @Cert.algebraic_UpdateUpIdeal_UpdateUpReferenceIdeal Cert.UpdateUpIdeal.Gen.facts Cert.UpdateUpReferenceIdeal.Gen.facts := by
  pair_intro
  · run_from Cert.UpdateUpIdeal.Value.run_blocks m g
  · exact (θ_run _ _ _).mono (fun r h c => ⟨(h c).1.trans ((Cert.UpdateUpReferenceIdeal.ref_eq0 _ _ _ _).trans
      ((congr (congr (congrArg₂ (fun (W G M V : FVec Ideal Cert.UpdateUpReferenceIdeal.S4x2048x2816 .f32) => Cert.UpdateUpIdeal.D (shapeCast Cert.UpdateUpReferenceIdeal.S8192x2816 W Cert.UpdateUpReferenceIdeal.Gen.shapeCasts_S4x2048x2816_S8192x2816) (shapeCast Cert.UpdateUpReferenceIdeal.S8192x2816 G Cert.UpdateUpReferenceIdeal.Gen.shapeCasts_S4x2048x2816_S8192x2816) (shapeCast Cert.UpdateUpReferenceIdeal.S8192x2816 M Cert.UpdateUpReferenceIdeal.Gen.shapeCasts_S4x2048x2816_S8192x2816) (shapeCast Cert.UpdateUpReferenceIdeal.S8192x2816 V Cert.UpdateUpReferenceIdeal.Gen.shapeCasts_S4x2048x2816_S8192x2816)) (hagree c).1 (hagree c).2.1) (hagree c).2.2.1) (hagree c).2.2.2).trans (Cert.UpdateUpIdeal.final4 m c).symm)),
      (h c).2.1.trans ((Cert.UpdateUpReferenceIdeal.ref_eq1 _ _).trans
      ((congrArg₂ (fun (G M : FVec Ideal Cert.UpdateUpReferenceIdeal.S4x2048x2816 .f32) => Cert.UpdateUpIdeal.M₁ (shapeCast Cert.UpdateUpReferenceIdeal.S8192x2816 G Cert.UpdateUpReferenceIdeal.Gen.shapeCasts_S4x2048x2816_S8192x2816) (shapeCast Cert.UpdateUpReferenceIdeal.S8192x2816 M Cert.UpdateUpReferenceIdeal.Gen.shapeCasts_S4x2048x2816_S8192x2816)) (hagree c).2.1 (hagree c).2.2.1).trans (Cert.UpdateUpIdeal.final5 m c).symm)),
      (h c).2.2.1.trans ((Cert.UpdateUpReferenceIdeal.ref_eq2 _ _).trans
      ((congrArg₂ (fun (G V : FVec Ideal Cert.UpdateUpReferenceIdeal.S4x2048x2816 .f32) => Cert.UpdateUpIdeal.M₂ (shapeCast Cert.UpdateUpReferenceIdeal.S8192x2816 G Cert.UpdateUpReferenceIdeal.Gen.shapeCasts_S4x2048x2816_S8192x2816) (shapeCast Cert.UpdateUpReferenceIdeal.S8192x2816 V Cert.UpdateUpReferenceIdeal.Gen.shapeCasts_S4x2048x2816_S8192x2816)) (hagree c).2.1 (hagree c).2.2.2).trans (Cert.UpdateUpIdeal.final6 m c).symm)),
      (h c).2.2.2.1.trans ((congrArg (fun (G : FVec Ideal Cert.UpdateUpReferenceIdeal.S4x2048x2816 .f32) => shapeCast Cert.UpdateUpReferenceIdeal.S8192x2816 G Cert.UpdateUpReferenceIdeal.Gen.shapeCasts_S4x2048x2816_S8192x2816) ((hagree c).2.1)).trans (Cert.UpdateUpIdeal.final7 m c).symm), (h c).2.2.2.2⟩) (Cert.UpdateUpReferenceIdeal.Value.run (F := Ideal) m' g')

end Cert.UpdateUp

namespace Cert.UpdateDown

theorem reference_frame : @Cert.quiescent_UpdateDownReferenceIdeal Cert.UpdateDownReferenceIdeal.Gen.facts := fun m g _ =>
  (θ_run _ _ _).mono (fun r h => ⟨fun c => (h c).2.2.2.2, sem_eq_zero_of_no_sems (by decide) r.2⟩) (Cert.UpdateDownReferenceIdeal.Value.run (F := Ideal) m g)

theorem algebraic : @Cert.algebraic_UpdateDownIdeal_UpdateDownReferenceIdeal Cert.UpdateDownIdeal.Gen.facts Cert.UpdateDownReferenceIdeal.Gen.facts := by
  pair_intro
  · run_from Cert.UpdateDownIdeal.Value.run_blocks m g
  · exact (θ_run _ _ _).mono (fun r h c => ⟨(h c).1.trans ((Cert.UpdateDownReferenceIdeal.ref_eq0 _ _ _ _).trans
      ((congr (congr (congrArg₂ (fun (W G M V : FVec Ideal Cert.UpdateDownReferenceIdeal.S4x1408x2048 .f32) => Cert.UpdateDownIdeal.D (shapeCast Cert.UpdateDownReferenceIdeal.S5632x2048 W Cert.UpdateDownReferenceIdeal.Gen.shapeCasts_S4x1408x2048_S5632x2048) (shapeCast Cert.UpdateDownReferenceIdeal.S5632x2048 G Cert.UpdateDownReferenceIdeal.Gen.shapeCasts_S4x1408x2048_S5632x2048) (shapeCast Cert.UpdateDownReferenceIdeal.S5632x2048 M Cert.UpdateDownReferenceIdeal.Gen.shapeCasts_S4x1408x2048_S5632x2048) (shapeCast Cert.UpdateDownReferenceIdeal.S5632x2048 V Cert.UpdateDownReferenceIdeal.Gen.shapeCasts_S4x1408x2048_S5632x2048)) (hagree c).1 (hagree c).2.1) (hagree c).2.2.1) (hagree c).2.2.2).trans (Cert.UpdateDownIdeal.final4 m c).symm)),
      (h c).2.1.trans ((Cert.UpdateDownReferenceIdeal.ref_eq1 _ _).trans
      ((congrArg₂ (fun (G M : FVec Ideal Cert.UpdateDownReferenceIdeal.S4x1408x2048 .f32) => Cert.UpdateDownIdeal.M₁ (shapeCast Cert.UpdateDownReferenceIdeal.S5632x2048 G Cert.UpdateDownReferenceIdeal.Gen.shapeCasts_S4x1408x2048_S5632x2048) (shapeCast Cert.UpdateDownReferenceIdeal.S5632x2048 M Cert.UpdateDownReferenceIdeal.Gen.shapeCasts_S4x1408x2048_S5632x2048)) (hagree c).2.1 (hagree c).2.2.1).trans (Cert.UpdateDownIdeal.final5 m c).symm)),
      (h c).2.2.1.trans ((Cert.UpdateDownReferenceIdeal.ref_eq2 _ _).trans
      ((congrArg₂ (fun (G V : FVec Ideal Cert.UpdateDownReferenceIdeal.S4x1408x2048 .f32) => Cert.UpdateDownIdeal.M₂ (shapeCast Cert.UpdateDownReferenceIdeal.S5632x2048 G Cert.UpdateDownReferenceIdeal.Gen.shapeCasts_S4x1408x2048_S5632x2048) (shapeCast Cert.UpdateDownReferenceIdeal.S5632x2048 V Cert.UpdateDownReferenceIdeal.Gen.shapeCasts_S4x1408x2048_S5632x2048)) (hagree c).2.1 (hagree c).2.2.2).trans (Cert.UpdateDownIdeal.final6 m c).symm)),
      (h c).2.2.2.1.trans ((congrArg (fun (G : FVec Ideal Cert.UpdateDownReferenceIdeal.S4x1408x2048 .f32) => shapeCast Cert.UpdateDownReferenceIdeal.S5632x2048 G Cert.UpdateDownReferenceIdeal.Gen.shapeCasts_S4x1408x2048_S5632x2048) ((hagree c).2.1)).trans (Cert.UpdateDownIdeal.final7 m c).symm), (h c).2.2.2.2⟩) (Cert.UpdateDownReferenceIdeal.Value.run (F := Ideal) m' g')

end Cert.UpdateDown

end
-- ==== Proof.SbFwd.Block.lean ====
/- One block of the forward attention's loop as a function of whole vectors, and its value on tiles of real numbers. -/
module

public import proofs.«01_k».proof.Proof.Gen.SbFwdIdeal.Skeleton
public import proofs.«01_k».proof.Proof.SB.Point

@[expose] public section

set_option maxRecDepth 16384

noncomputable section

open Idealize.ShloMosaic Idealize.ShloMosaic.TcCoe Idealize.SL.Sem

namespace Cert.SF

open Cert.SB Cert.SbFwdIdeal Cert.SbFwdIdeal.Gen

/-! ## The suffix sums of a block's rows -/

/-- The rows of 512 elements multiplied by a 0/1 matrix, the rows given as a high and a low part. -/
def sufV (u : FVec Ideal S1024x512 .bf16) (x : FVec Ideal S512x512 .f32) : FVec Ideal S512x512 .f32 :=
  matmul dot_S512x1024_S1024x512_S512x512_1_0_0_1_n_n none
    (concatenate S512x1024 1 [⟨S512x512, truncf .bf16 x bitsLt_bf16_f32⟩,
      ⟨S512x512, truncf .bf16 (subf x (extf .f32 (truncf .bf16 x bitsLt_bf16_f32) bitsLt_bf16_f32)) bitsLt_bf16_f32⟩]
      concatenates_S512x512_S512x512_S512x1024_d1) u (constant S512x512 .f32 0x00000000#32)

/-- The matrix that is one where the row, taken modulo 512, is past the column. -/
def past : ℕ → ℕ → ℝ := fun j s => if s < j % 512 then 1 else 0

theorem word_row512 (a : ℕ) (ha : a < 1024) : Scalar.select (IntOp.cmpi .sge (BitVec.ofNat 32 a) 512#32)
    (IntOp.subi (BitVec.ofNat 32 a) 512#32) (BitVec.ofNat 32 a) = BitVec.ofNat 32 (a % 512) := by
  by_cases h : 512 ≤ a
  · have e : IntOp.subi (BitVec.ofNat 32 a) 512#32 = BitVec.ofNat 32 (a % 512) := by
      show BitVec.ofNat 32 a - BitVec.ofNat 32 512 = _
      rw [BitVec.ofNat_sub_ofNat_of_le a 512 (by norm_num) h]
      congr 1; omega
    rw [e]
    word_cmp
    rw [if_pos h]
  · rw [Nat.mod_eq_of_lt (not_le.1 h)]
    word_cmp
    rw [if_neg h]

theorem past_eq : k0_pay15 (F := Ideal) = tile past := by
  funext i; idx_vars i; pointwise [k0_pay15]
  rw [word_row512 _ i0.isLt]
  have := Nat.mod_lt i0.val (show 512 > 0 by norm_num)
  simp (disch := word_cmp_side) only [hlo_ix]
  exact word_real _

theorem sufV_tile (f : ℕ → ℕ → ℝ) : sufV (tile past) (tile f)
    = tile fun t s => ∑ j ∈ (Finset.range 512).filter (fun j => s < j), f t j := by
  funext i; idx_vars i; pointwise [sufV]
  simp only [tile_at, ← EReal.coe_mul, ← EReal.coe_sub, sub_self, zero_mul, EReal.coe_zero, Finset.sum_const_zero, add_zero]
  rw [sum_fin fun j => f i0.val j * past j i1.val, Finset.sum_filter]
  refine congrArg _ (Finset.sum_congr rfl fun j hj => ?_)
  have hj : j % 512 = j := Nat.mod_eq_of_lt (Finset.mem_range.1 hj)
  simp [past, hj]

/-- The weights: exp of ls plus the suffix sums plus what the columns after the block carry. -/
def wF (ls l1 : FVec Ideal S512x512 .f32) (c : FVec Ideal S512x1 .f32) : FVec Ideal S512x512 .f32 :=
  exp (addf (addf ls (sufV k0_pay15 l1)) (broadcastTo S512x512 c broadcasts_S512x1_S512x512))

theorem wF_tile (f g h : ℕ → ℕ → ℝ) : wF (tile f) (tile g) (tile h)
    = tile fun t s => Real.exp (f t s + ∑ j ∈ (Finset.range 512).filter (fun j => s < j), g t j + h t 0) := by
  unfold wF; rw [past_eq, sufV_tile, addf_tile]
  have e : broadcastTo S512x512 (tile h : FVec Ideal S512x1 .f32) broadcasts_S512x1_S512x512 = tile fun t _ => h t 0 := bc_512 h _
  rw [e, addf_tile, exp_tile]

/-! ## The printed block is this block -/

section

variable (q : FVec Ideal S512x128 .bf16) (kr vr : FVec Ideal S512x128 .f32) (c : FVec Ideal S512x1 .f32) (acc : FVec Ideal S512x128 .f32)

/-- The block's logits. -/
abbrev zB := zV q (truncf .bf16 kr bitsLt_bf16_f32)

theorem acc_eq : k0_pay5 q k0_pay15 c acc kr vr = dqV acc (wF (lsV (zB q kr)) (l1V (zB q kr)) c) (truncf .bf16 vr bitsLt_bf16_f32) := rfl

theorem car_eq : k0_pay6 q c kr = addf c (rsum' (l1V (zB q kr))) := rfl

variable (a b : BitVec 32)

theorem l1_diag : k0_pay22 a q b (k0_pay18 kr) = mskV (k0_pay19 a b) (l1V (zB q kr)) := rfl

theorem acc_diag : k0_pay23 a q k0_pay15 c acc b (k0_pay18 kr) vr
    = dqV acc (mskV (k0_pay19 a b) (wF (lsV (zB q kr)) (mskV (k0_pay19 a b) (l1V (zB q kr))) c)) (truncf .bf16 vr bitsLt_bf16_f32) := rfl

theorem car_diag (x : FVec Ideal S512x512 .f32) : k0_pay1 c x = addf c (rsum' x) := rfl

end

/-! ## Arrays of any numbers, infinite ones among them -/

/-- The array with the entries `f`. -/
def tileE {n m : ℕ} {φ : FTy} (f : ℕ → ℕ → EReal) : FVec Ideal ⟨2, ![n, m]⟩ φ := fun i => f (i 0).val (i 1).val

/-- Rows of block `b`. -/
abbrev rwsE {n m : ℕ} {φ : FTy} (b : ℕ) (f : ℕ → ℕ → EReal) : FVec Ideal ⟨2, ![n, m]⟩ φ := tileE fun r l => f (512 * b + r) l

theorem dqV_tileE (f h : ℕ → ℕ → EReal) (g : ℕ → ℕ → ℝ) :
    dqV (tileE f) (tile g) (tileE h) = tileE fun t d => f t d + ∑ s ∈ Finset.range 512, (g t s : EReal) * h s d := by
  funext i; idx_vars i; pointwise [dqV]
  exact congrArg (f i0.val i1.val + ·) (Finset.sum_range fun s => (g i0.val s : EReal) * h s i1.val).symm

/-! ## The block on real numbers: row block `b`, column block `k` -/

section

variable (q kk : ℕ → ℕ → ℝ) (v : ℕ → ℕ → EReal) (b k : ℕ)

/-- A row's total of the logarithms of one minus the gates. -/
def tot : ℕ → ℝ := fun t => ∑ s ∈ Finset.range 4096, aG q kk t s

/-- The attention's result: the values need not be real numbers. -/
def res (v : ℕ → ℕ → EReal) : ℕ → ℕ → EReal := fun t d => ∑ s ∈ Finset.range 4096, (wG q kk (tot q kk) t s : EReal) * v s d

/-- What the row totals have left after the first `512 k` columns, and the results' sums from there on. -/
abbrev cRest {n m : ℕ} {φ : FTy} : FVec Ideal ⟨2, ![n, m]⟩ φ :=
  tile fun r _ => tot q kk (512 * b + r) - ∑ s ∈ Finset.range (512 * k), aG q kk (512 * b + r) s
abbrev oRest {n m : ℕ} {φ : FTy} : FVec Ideal ⟨2, ![n, m]⟩ φ :=
  tileE fun r d => ∑ s ∈ Finset.Ico (512 * k) 4096, (wG q kk (tot q kk) (512 * b + r) s : EReal) * v s d

theorem cRest_next : addf (cRest q kk b (k + 1)) (rsum' (blk b k (aG q kk))) = cRest q kk b k := by
  rw [rsum'_tile, addf_tile]
  refine tile_congr fun r hr l hl => ?_
  rw [mul_add, mul_one, Finset.sum_range_add]; ring

theorem oRest_next (hk : k < 8) : dqV (oRest q kk v b (k + 1)) (blk b k (wG q kk (tot q kk))) (rwsE k v) = oRest q kk v b k := by
  rw [dqV_tileE]
  refine congrArg tileE (funext fun r => funext fun d => ?_)
  rw [← Finset.sum_Ico_consecutive _ (show 512 * k ≤ 512 * (k + 1) by omega) (show 512 * (k + 1) ≤ 4096 by omega),
    Finset.sum_Ico_eq_sum_range _ (512 * k), show 512 * (k + 1) - 512 * k = 512 by omega, add_comm]

theorem sum_past (f : ℕ → ℝ) (l : ℕ) (hl : l < 512) : ∑ j ∈ (Finset.range 512).filter (fun j => l < j), f j
    = ∑ j ∈ Finset.range 512, f j - ∑ j ∈ Finset.range (l + 1), f j := by
  rw [← Finset.sum_filter_add_sum_filter_not (Finset.range 512) (fun j => l < j) f]
  have e : (Finset.range 512).filter (fun j => ¬l < j) = Finset.range (l + 1) := by
    ext j; simp only [Finset.mem_filter, Finset.mem_range]; omega
  rw [e]; ring

theorem w_sum : wF (lsV (blk b k (zG q kk))) (blk b k (aG q kk)) (cRest q kk b (k + 1))
    = blk b k fun t s => Real.exp (lsR (zG q kk t s) + (tot q kk t - ∑ j ∈ Finset.range (s + 1), aG q kk t j)) := by
  rw [lsV_tile, wF_tile]
  refine tile_congr fun r hr l hl => ?_
  dsimp only
  rw [sum_past _ l hl, mul_add, mul_one, add_assoc (512 * k), Finset.sum_range_add (aG q kk (512 * b + r)) (512 * k) 512,
    Finset.sum_range_add (aG q kk (512 * b + r)) (512 * k) (l + 1)]
  congr 1; ring

theorem w_blk (h : k < b) : wF (lsV (blk b k (zG q kk))) (blk b k (aG q kk)) (cRest q kk b (k + 1)) = blk b k (wG q kk (tot q kk)) := by
  rw [w_sum]
  refine tile_congr fun r hr l hl => ?_
  rw [wG, if_pos (by omega)]

theorem w_msk (m : IVec S512x512 1) (hm : ∀ (r : Fin 512) (l : Fin 512), m (ix2 r l) = if 512 * k + l.val < 512 * b + r.val then 1#1 else 0#1) :
    mskV m (wF (lsV (blk b k (zG q kk))) (blk b k (aG q kk)) (cRest q kk b (k + 1))) = blk b k (wG q kk (tot q kk)) := by
  rw [w_sum, mskV_tile _ m (fun r l => 512 * k + l < 512 * b + r) hm]
  rfl

/-- Past the diagonal there is nothing left. -/
theorem sum_to (f : ℕ → ℝ) (hb : b < 8) (r : ℕ) (hr : r < 512) (h0 : ∀ s, 512 * b + r ≤ s → f s = 0) :
    ∑ s ∈ Finset.range 4096, f s = ∑ s ∈ Finset.range (512 * (b + 1)), f s :=
  (Finset.sum_subset (fun s hs => Finset.mem_range.2 (lt_of_lt_of_le (Finset.mem_range.1 hs) (by omega)))
    fun s _ hs => h0 s (by rw [Finset.mem_range] at hs; omega)).symm

theorem cRest_first (hb : b < 8) : k0_pay16 (F := Ideal) = cRest q kk b (b + 1) := by
  have e : k0_pay16 (F := Ideal) = tile fun _ _ => 0 := zero_tile
  rw [e]
  refine tile_congr fun r hr l hl => ?_
  unfold tot
  rw [sum_to b (aG q kk (512 * b + r)) hb r hr (fun s hs => if_neg (by omega)), sub_self]

theorem oRest_first (hb : b < 8) : k0_pay17 (F := Ideal) = oRest q kk v b (b + 1) := by
  have e : k0_pay17 (F := Ideal) = tile fun _ _ => 0 := zero_tile
  rw [e]
  funext y
  have h0 : (y 0).val < 512 := (y 0).isLt
  refine (EReal.coe_zero).trans (Finset.sum_eq_zero fun s hs => ?_).symm
  have hs := (Finset.mem_Ico.1 hs).1
  rw [wG_zero _ _ _ _ _ (by omega), EReal.coe_zero, zero_mul]

end

end Cert.SF

end
-- ==== Proof.SbFwd.Loop.lean ====
/- What the forward attention's loop carries after each trip. -/
module

public import proofs.«01_k».proof.Proof.Gen.SbFwdIdeal.Loops
public import proofs.«01_k».proof.Proof.SbFwd.Block

@[expose] public section

set_option maxRecDepth 16384

noncomputable section

open Idealize.ShloMosaic Idealize.ShloMosaic.TcCoe Idealize.SL.Sem

namespace Cert.SF

open Cert.SB Cert.SbFwdIdeal Cert.SbFwdIdeal.Gen

theorem trips_eq : ∀ i : grid0.Coords, (k0_t1_loop i).trips = (i 1).val := by decide +kernel

/-- Trip `k` takes the key blocks from the one before the diagonal down to the first. -/
theorem off2_eq : ∀ (i : grid0.Coords) (k : Fin (k0_t1_loop i).trips), k0_off2 i k = ![512 * ((i 1).val - (k.val + 1)), 0] := by decide +kernel

section

variable (𝒱 : Variants) (c : Dev nD) (bd : Option 𝒱.V) (i : grid0.Coords)
  (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .bf16) (harg5 : arg5.IsWhole) (arg6 : Memref sig .tc .vmem S1x512x1 .f32) (harg6 : arg6.IsWhole)
  (v1 : FVec Ideal S512x128 .bf16)
  (X3 : BufTy.Contents (Elt Ideal) arg3.view.ty) (X4 : BufTy.Contents (Elt Ideal) arg4.view.ty)

/-- Rows of a buffer of 4096 rows. -/
theorem rows_eq (a : Memref sig .tc .vmem S4096x128 .f32) (X : BufTy.Contents (Elt Ideal) a.view.ty) (f : ℕ → ℕ → EReal)
    (hX : a.view.read (Elt Ideal) X = tileE (φ := .f32) f) {off : Fin 2 → ℕ} {k : ℕ} (hoff : off = ![512 * k, 0])
    (inb : ∀ x : Fin 2, off x + S512x128.size x ≤ S4096x128.size x) :
    View.readAt (Elt Ideal) a.view (Rect.unit (s := S4096x128) off S512x128.size inb).toLoadRect X = rwsE (φ := .f32) k f := by
  subst hoff
  funext y
  refine (congrFun (View.readAt_eq_ld (Val := Elt Ideal) a.view X (Rect.unit (s := S4096x128) ![512 * k, 0] S512x128.size inb)) y).trans ?_
  show a.view.read (Elt Ideal) X ((Rect.unit (s := S4096x128) ![512 * k, 0] S512x128.size inb).idx y) = _
  rw [hX]
  show f (512 * k + 1 * (y 0).val) (0 + 1 * (y 1).val) = f (512 * k + (y 0).val) (y 1).val
  rw [Nat.one_mul, Nat.one_mul, Nat.zero_add]

/-- Trip `k`'s rows. -/
abbrev rowsT (k : Fin (k0_t1_loop i).trips) (a : Memref sig .tc .vmem S4096x128 .f32) (X : BufTy.Contents (Elt Ideal) a.view.ty) : FVec Ideal S512x128 .f32 :=
  View.readAt (Elt Ideal) a.view (Rect.unit (s := S4096x128) (k0_off2 i k) S512x128.size (k0_off2_inb i k)).toLoadRect X

theorem trip_eq (k : Fin (k0_t1_loop i).trips) (p : FVec Ideal S512x1 .f32 × FVec Ideal S512x128 .f32) :
    (trip_k0_t1 (F := Ideal) 𝒱 c bd i arg2 harg2 arg3 harg3 arg4 harg4 arg5 harg5 arg6 harg6 v1 k0_pay15 X3 X4 k).1 p
      = (k0_pay6 v1 p.1 (rowsT i k arg3 X3), k0_pay5 v1 k0_pay15 p.1 p.2 (rowsT i k arg3 X3) (rowsT i k arg4 X4)) := by
  unfold trip_k0_t1
  rfl

variable (q kk : ℕ → ℕ → ℝ) (v : ℕ → ℕ → EReal) (hq : v1 = rws (i 1).val q)
  (h3 : arg3.view.read (Elt Ideal) X3 = tile (φ := .f32) kk) (h4 : arg4.view.read (Elt Ideal) X4 = tileE (φ := .f32) v)

include hq h3 h4

theorem loop_inv (k : ℕ) (hk : k ≤ (i 1).val) :
    st_k0_t1 (F := Ideal) 𝒱 c bd i arg2 harg2 arg3 harg3 arg4 harg4 arg5 harg5 arg6 harg6 v1 k0_pay15 X3 X4 (cRest q kk (i 1).val (i 1).val, oRest q kk v (i 1).val (i 1).val) k
      = (cRest q kk (i 1).val ((i 1).val - k), oRest q kk v (i 1).val ((i 1).val - k)) := by
  induction k with
  | zero => rfl
  | succ k ih =>
    have hlt : k < (k0_t1_loop i).trips := by rw [trips_eq]; omega
    refine (st_k0_t1_succ (F := Ideal) 𝒱 c bd i arg2 harg2 arg3 harg3 arg4 harg4 arg5 harg5 arg6 harg6 v1 k0_pay15 X3 X4 _ ⟨k, hlt⟩).trans ?_
    unfold tripR_k0_t1
    rw [ih (by omega), trip_eq]
    have e : (i 1).val - k = (i 1).val - (k + 1) + 1 := by omega
    have hl : (i 1).val - (k + 1) < (i 1).val := by omega
    rw [e, show rowsT i ⟨k, hlt⟩ arg3 X3 = rws ((i 1).val - (k + 1)) kk from rows_eq arg3 X3 (fun r l => (kk r l : EReal)) h3 (off2_eq i ⟨k, hlt⟩) _,
      show rowsT i ⟨k, hlt⟩ arg4 X4 = rwsE ((i 1).val - (k + 1)) v from rows_eq arg4 X4 v h4 (off2_eq i ⟨k, hlt⟩) _, hq, car_eq, acc_eq,
      show zB (rws (i 1).val q) (rws ((i 1).val - (k + 1)) kk) = blk (i 1).val ((i 1).val - (k + 1)) (zG q kk) from z_blk q kk _ _,
      l1_blk q kk _ _ hl, w_blk q kk _ _ hl]
    exact congrArg₂ Prod.mk (cRest_next q kk _ _) (oRest_next q kk v _ _ (lt_trans hl (i 1).isLt))

/-- After the last trip: the row totals and the results. -/
theorem loop_fin (n : ℕ) (hn : n = (i 1).val) :
    st_k0_t1 (F := Ideal) 𝒱 c bd i arg2 harg2 arg3 harg3 arg4 harg4 arg5 harg5 arg6 harg6 v1 k0_pay15 X3 X4 (cRest q kk (i 1).val (i 1).val, oRest q kk v (i 1).val (i 1).val) n
      = (rws (i 1).val fun t _ => tot q kk t, rwsE (i 1).val (res q kk v)) := by
  subst hn
  rw [loop_inv 𝒱 c bd i arg2 harg2 arg3 harg3 arg4 harg4 arg5 harg5 arg6 harg6 v1 X3 X4 q kk v hq h3 h4 _ le_rfl, Nat.sub_self]
  refine congrArg₂ Prod.mk (tile_congr fun r _ l _ => ?_) (congrArg tileE (funext fun r => funext fun d => ?_))
  · rw [Nat.mul_zero, Finset.range_zero, Finset.sum_empty, sub_zero]
  · unfold res
    rw [Nat.mul_zero, Nat.Ico_zero_eq_range]

end

end Cert.SF

end
-- ==== Proof.SbFwd.Point.lean ====
/- What one grid point of the forward attention leaves in the kernel's two output blocks. -/
module

public import proofs.«01_k».proof.Proof.Gen.SbFwdIdeal.Frame
public import proofs.«01_k».proof.Proof.SbFwd.Loop

@[expose] public section

set_option maxRecDepth 16384

noncomputable section

open Idealize.ShloMosaic Idealize.ShloMosaic.TcCoe Idealize.SL.Sem

namespace Cert.SF

open Cert.SB Cert.SbFwdIdeal Cert.SbFwdIdeal.Gen

/-- The corner of the diagonal block, as the point's code computes it. -/
theorem corner_key : ∀ i : grid0.Coords, Scalar.muli (kernelRun0_A.sl.v33 i) 512#32 = BitVec.ofNat 32 (512 * (i 1).val) := by
  decide +kernel

theorem row_lt8 (i : grid0.Coords) : (i 1).val < 8 := (i 1).isLt

theorem msk_diag (i : grid0.Coords) (r l : Fin 512) : k0_pay19 (BitVec.ofNat 32 (i 1).val) (kernelRun0_A.sl.v33 i) (ix2 r l)
    = if 512 * (i 1).val + l.val < 512 * (i 1).val + r.val then 1#1 else 0#1 :=
  msk_of _ _ (i 1).val (row_lt8 i) (corner_key i) (corner ⟨(i 1).val, row_lt8 i⟩) r l

section

variable (c : Dev nD) (i : grid0.Coords)
  (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .bf16) (harg5 : arg5.IsWhole) (arg6 : Memref sig .tc .vmem S1x512x1 .f32) (harg6 : arg6.IsWhole)
  (q kk : ℕ → ℕ → ℝ) (v : ℕ → ℕ → EReal)

/-- The point's rows of q, as loaded and rounded. -/
theorem rows_q : kernelRun0_A.sl.r (F := Ideal) c arg2 harg2 (rws (φ := .f32) (i 1).val q) = rws (i 1).val q := by
  unfold kernelRun0_A.sl.r
  funext y
  refine (congrFun (View.readAt_eq_ld (Val := Elt Ideal) arg2.view _ (Rect.unit (s := S512x128) ![0, 0] S512x128.size inb_S512x128_S512x128_0_0)) y).trans ?_
  show arg2.view.read (Elt Ideal) (harg2.unread _) ((Rect.unit (s := S512x128) ![0, 0] S512x128.size inb_S512x128_S512x128_0_0).idx y) = _
  rw [harg2.read_unread]
  show ((q (512 * (i 1).val + (0 + 1 * (y 0).val)) (0 + 1 * (y 1).val) : ℝ) : EReal) = ((q (512 * (i 1).val + (y 0).val) (y 1).val : ℝ) : EReal)
  rw [Nat.one_mul, Nat.one_mul, Nat.zero_add, Nat.zero_add]

/-- The rows of the diagonal block. -/
theorem rows_k : kernelRun0_A.sl.r_1 (F := Ideal) c i arg3 harg3 (tile (φ := .f32) kk) = k0_pay18 (F := Ideal) (rws (φ := .f32) (i 1).val kk) := by
  unfold kernelRun0_A.sl.r_1
  exact congrArg _ (rows_eq arg3 (harg3.unread (tile (φ := .f32) kk)) (fun r l => (kk r l : EReal)) (harg3.read_unread _) (k0_off1_eq i) _)

theorem z_diag : zB (rws (i 1).val q) (rws (i 1).val kk) = blk (i 1).val (i 1).val (zG q kk) := z_blk q kk _ _

/-- After the diagonal block: what the row totals have left. -/
theorem car_point : k0_pay1 k0_pay16 (kernelRun0_A.sl.r_2 (F := Ideal) c i arg2 harg2 arg3 harg3 (rws (φ := .f32) (i 1).val q) (tile (φ := .f32) kk))
    = cRest q kk (i 1).val (i 1).val := by
  unfold kernelRun0_A.sl.r_2
  rw [rows_q, rows_k, l1_diag, z_diag, l1_msk q kk _ _ _ (msk_diag i), car_diag, cRest_first q kk (i 1).val (row_lt8 i)]
  exact cRest_next q kk _ _

/-- After the diagonal block: what the results have left. -/
theorem acc_point : kernelRun0_A.sl.r_3 (F := Ideal) c i arg2 harg2 arg3 harg3 arg4 harg4 (rws (φ := .f32) (i 1).val q) (tile (φ := .f32) kk) (tileE (φ := .f32) v)
    = oRest q kk v (i 1).val (i 1).val := by
  unfold kernelRun0_A.sl.r_3
  rw [rows_q, rows_k, rows_eq arg4 (harg4.unread (tileE (φ := .f32) v)) v (harg4.read_unread _) (k0_off1_eq i) _, acc_diag, z_diag,
    l1_msk q kk _ _ _ (msk_diag i), cRest_first q kk (i 1).val (row_lt8 i), w_msk q kk _ _ _ (msk_diag i), oRest_first q kk v (i 1).val (row_lt8 i)]
  exact oRest_next q kk v _ _ (row_lt8 i)

variable (x0 : Vec Ideal S512x128 .f32) (x1 x2 : Vec Ideal S4096x128 .f32)

/-- The state at the end of the first loop, and of the second one. -/
def T1 : FVec Ideal S512x1 .f32 × FVec Ideal S512x128 .f32 :=
  st_k0_t1 (F := Ideal) Variants.none c none i arg2 harg2 arg3 harg3 arg4 harg4 arg5 harg5 arg6 harg6 (kernelRun0_A.sl.r (F := Ideal) c arg2 harg2 x0) k0_pay15 (harg3.unread x1) (harg4.unread x2)
    (k0_pay1 k0_pay16 (kernelRun0_A.sl.r_2 (F := Ideal) c i arg2 harg2 arg3 harg3 x0 x1), kernelRun0_A.sl.r_3 (F := Ideal) c i arg2 harg2 arg3 harg3 arg4 harg4 x0 x1 x2) (k0_t1_loop i).trips

def T2 : FVec Ideal S512x1 .f32 × FVec Ideal S512x128 .f32 :=
  st_k0_t2 (F := Ideal) Variants.none c none i arg2 harg2 arg3 harg3 arg4 harg4 arg5 harg5 arg6 harg6 (kernelRun0_A.sl.r (F := Ideal) c arg2 harg2 x0) k0_pay15 (harg3.unread x1) (harg4.unread x2)
    ((T1 c i arg2 harg2 arg3 harg3 arg4 harg4 arg5 harg5 arg6 harg6 x0 x1 x2).1, (T1 c i arg2 harg2 arg3 harg3 arg4 harg4 arg5 harg5 arg6 harg6 x0 x1 x2).2) (k0_t2_loop i).trips

/-- A second loop without trips leaves its state as it was. -/
theorem second_none (𝒱 : Variants) (bd : Option 𝒱.V) (v1 : FVec Ideal S512x128 .bf16) (u : FVec Ideal S1024x512 .bf16)
    (X3 : BufTy.Contents (Elt Ideal) arg3.view.ty) (X4 : BufTy.Contents (Elt Ideal) arg4.view.ty)
    (init : FVec Ideal S512x1 .f32 × FVec Ideal S512x128 .f32) (n : ℕ) (hn : n = 0) :
    st_k0_t2 (F := Ideal) 𝒱 c bd i arg2 harg2 arg3 harg3 arg4 harg4 arg5 harg5 arg6 harg6 v1 u X3 X4 init n = init := by
  subst hn; rfl

theorem T2_eq : T2 c i arg2 harg2 arg3 harg3 arg4 harg4 arg5 harg5 arg6 harg6 x0 x1 x2 = T1 c i arg2 harg2 arg3 harg3 arg4 harg4 arg5 harg5 arg6 harg6 x0 x1 x2 := by
  unfold T2
  exact second_none _ _ _ _ _ _ _ _ _ _ _ _ _ _ _ _ _ _ _ _ (Nat.le_zero.1 (k0_t2_abs i).2.1)

theorem out3 : out0_A_3 (F := Ideal) c i arg2 harg2 arg3 harg3 arg4 harg4 arg5 harg5 arg6 harg6 x0 x1 x2 = k0_pay12 (T1 c i arg2 harg2 arg3 harg3 arg4 harg4 arg5 harg5 arg6 harg6 x0 x1 x2).2 := by
  have e : out0_A_3 (F := Ideal) c i arg2 harg2 arg3 harg3 arg4 harg4 arg5 harg5 arg6 harg6 x0 x1 x2 = VO0_3.read (Elt Ideal) (VO0_3.writes (Elt Ideal) VO0_3.junk
      [⟨Rect.unit (s := S512x128) ![0, 0] S512x128.size inb_S512x128_S512x128_0_0, k0_pay12 (T2 c i arg2 harg2 arg3 harg3 arg4 harg4 arg5 harg5 arg6 harg6 x0 x1 x2).2⟩]) := by
    unfold out0_A_3 kernelRun0_A; rfl
  rw [e, T2_eq]
  exact View.read_writes_full (Val := Elt Ideal) VO0_3 _ inb_S512x128_S512x128_0_0 _ []

theorem out4 : out0_A_4 (F := Ideal) c i arg2 harg2 arg3 harg3 arg4 harg4 arg5 harg5 arg6 harg6 x0 x1 x2 = k0_pay13 (T1 c i arg2 harg2 arg3 harg3 arg4 harg4 arg5 harg5 arg6 harg6 x0 x1 x2).1 := by
  have e : out0_A_4 (F := Ideal) c i arg2 harg2 arg3 harg3 arg4 harg4 arg5 harg5 arg6 harg6 x0 x1 x2 = VO0_4.read (Elt Ideal) (VO0_4.writes (Elt Ideal) VO0_4.junk
      [⟨Rect.unit (s := S1x512x1) ![0, 0, 0] S1x512x1.size inb_S1x512x1_S1x512x1_0_0_0, k0_pay13 (T2 c i arg2 harg2 arg3 harg3 arg4 harg4 arg5 harg5 arg6 harg6 x0 x1 x2).1⟩]) := by
    unfold out0_A_4 kernelRun0_A; rfl
  rw [e, T2_eq]
  exact View.read_writes_full (Val := Elt Ideal) VO0_4 _ inb_S1x512x1_S1x512x1_0_0_0 _ []

theorem loop_point : T1 c i arg2 harg2 arg3 harg3 arg4 harg4 arg5 harg5 arg6 harg6 (rws (φ := .f32) (i 1).val q) (tile (φ := .f32) kk) (tileE (φ := .f32) v)
    = (rws (i 1).val fun t _ => tot q kk t, rwsE (i 1).val (res q kk v)) := by
  unfold T1
  rw [car_point, acc_point]
  exact loop_fin Variants.none c none i arg2 harg2 arg3 harg3 arg4 harg4 arg5 harg5 arg6 harg6 _ _ _ q kk v (rows_q c i arg2 harg2 q) (harg3.read_unread _) (harg4.read_unread _) _ (trips_eq i)

/-- The block of results. -/
theorem out3_eq : out0_A_3 (F := Ideal) c i arg2 harg2 arg3 harg3 arg4 harg4 arg5 harg5 arg6 harg6 (rws (φ := .f32) (i 1).val q) (tile (φ := .f32) kk) (tileE (φ := .f32) v) = rwsE (φ := .bf16) (i 1).val (res q kk v) := by
  rw [out3, loop_point]; rfl

/-- The block of row totals. -/
theorem out4_eq : out0_A_4 (F := Ideal) c i arg2 harg2 arg3 harg3 arg4 harg4 arg5 harg5 arg6 harg6 (rws (φ := .f32) (i 1).val q) (tile (φ := .f32) kk) (tileE (φ := .f32) v)
    = fun y : S1x512x1.Idx => ((tot q kk (512 * (i 1).val + (y 1).val) : ℝ) : EReal) := by
  rw [out4, loop_point]
  funext y; idx_vars y
  pointwise [k0_pay13]
  rfl

end

end Cert.SF

end
-- ==== Proof.SbFwd.Final.lean ====
/- The forward attention's two result arrays as formulas over the reals. -/
module

public import proofs.«01_k».proof.Proof.SB.Final
public import proofs.«01_k».proof.Proof.SbFwd.Point
public import proofs.«01_k».proof.Proof.Gen.SbFwdIdeal.Value

@[expose] public section

set_option maxRecDepth 16384

noncomputable section

open Idealize.ShloMosaic Idealize.ShloMosaic.TcCoe Idealize.SL.Sem

namespace Cert.SF

open Cert.SB Cert.SbFwdIdeal Cert.SbFwdIdeal.Gen

/-- The value at a head, row and column, as it is in the array; zero outside it. -/
def vE (X : FVec Ideal S4096x10240 .f32) (h s d : ℕ) : EReal :=
  if e : s < 4096 ∧ 2048 + 128 * h + d < 10240 then X (ix2 ⟨s, e.1⟩ ⟨2048 + 128 * h + d, e.2⟩) else 0

/-- The results of all heads, side by side. -/
def oR (X : FVec Ideal S4096x10240 .f32) (t x : ℕ) : EReal :=
  res (qH X (x / 128)) (kH X (x / 128)) (vE X (x / 128)) t (x % 128)

variable (m : (ℓ : Loc nD τ sig) → Buf (Elt Ideal) ℓ) (c : Dev nD)

abbrev argX : FVec Ideal S4096x10240 .f32 := m ((c : Thread nD τ).loc main_arg0)

theorem index_eq : ∀ t : Fin cfg0.N, win0_0.index t = ![t.val % 8, t.val / 8] ∧ win0_1.index t = ![0, 8 + t.val / 8] ∧ win0_2.index t = ![0, 16 + t.val / 8]
    ∧ win0_3.index t = ![t.val % 8, t.val / 8] ∧ win0_4.index t = ![t.val / 8, t.val % 8, 0] :=
  (by decide +kernel : ∀ t : Fin grid0.N, _)

theorem block_row : ∀ t : Fin cfg0.N, ((grid0.coords t) 1).val = t.val % 8 := (by decide +kernel : ∀ t : Fin grid0.N, _)

theorem lt_64 (t : Fin cfg0.N) : t.val < 64 := lt_of_lt_of_eq t.isLt (show cfg0.N = 64 from N_0)

variable (hX : FinQK (argX m c))
include hX

theorem in_q (t : Fin cfg0.N) : (iblk m c 0 t : FVec Ideal S512x128 .f32) = rws (φ := .f32) ((grid0.coords t) 1).val (qH (argX m c) (t.val / 8)) := by
  rw [block_row]
  funext y
  have ht := lt_64 t
  have h0 : (y 0).val < 512 := (y 0).isLt
  have h1 : (y 1).val < 128 := (y 1).isLt
  have e : iblk m c 0 t y = argX m c (ix2 ⟨512 * (t.val % 8) + (y 0).val, by omega⟩ ⟨128 * (t.val / 8) + (y 1).val, by omega⟩) := by
    blk_ext [iblk, V, index_eq t]
  exact e.trans (hX _ _ (by show 128 * (t.val / 8) + (y 1).val < 2048; omega))

theorem in_k (t : Fin cfg0.N) : (iblk m c 1 t : FVec Ideal S4096x128 .f32) = tile (φ := .f32) (kH (argX m c) (t.val / 8)) := by
  funext y
  have ht := lt_64 t
  have h0 : (y 0).val < 4096 := (y 0).isLt
  have h1 : (y 1).val < 128 := (y 1).isLt
  have e : iblk m c 1 t y = argX m c (ix2 ⟨(y 0).val, by omega⟩ ⟨1024 + 128 * (t.val / 8) + (y 1).val, by omega⟩) := by
    blk_ext [iblk, V, index_eq t]
  exact e.trans (hX _ _ (by show 1024 + 128 * (t.val / 8) + (y 1).val < 2048; omega))

omit hX in
theorem in_v (t : Fin cfg0.N) : (iblk m c 2 t : FVec Ideal S4096x128 .f32) = tileE (φ := .f32) (vE (argX m c) (t.val / 8)) := by
  funext y
  have ht := lt_64 t
  have h0 : (y 0).val < 4096 := (y 0).isLt
  have h1 : (y 1).val < 128 := (y 1).isLt
  have e : iblk m c 2 t y = argX m c (ix2 ⟨(y 0).val, by omega⟩ ⟨2048 + 128 * (t.val / 8) + (y 1).val, by omega⟩) := by
    blk_ext [iblk, V, index_eq t]
  refine e.trans ?_
  show _ = vE (argX m c) (t.val / 8) (y 0).val (y 1).val
  unfold vE
  rw [dif_pos ⟨h0, by omega⟩]

/-- What a point leaves in its two output blocks. -/
theorem outs (t : Fin cfg0.N) :
    (outsAt0 m c t).1 = rwsE (φ := .bf16) (t.val % 8) (res (qH (argX m c) (t.val / 8)) (kH (argX m c) (t.val / 8)) (vE (argX m c) (t.val / 8)))
    ∧ (outsAt0 m c t).2 = fun y : S1x512x1.Idx => ((cH (argX m c) (t.val / 8) (512 * (t.val % 8) + (y 1).val) : ℝ) : EReal) := by
  rw [← block_row t]
  unfold outsAt0
  dsimp only
  rw [in_q m c hX, in_k m c hX, in_v m c]
  exact ⟨out3_eq .., out4_eq ..⟩

theorem final_o : (dats m 0 c).arrAt 3 cfg0.N = (fun y : S4096x1024.Idx => oR (argX m c) (y 0).val (y 1).val) := by
  refine (dats m 0 c).arrAt_eq_of_covers 3 _ (by decide +kernel) fun t hf y => ?_
  have ht := lt_64 t
  have h0 : (y 0).val < 512 := (y 0).isLt
  have h1 : (y 1).val < 128 := (y 1).isLt
  have e0 : ((((cfg0.win 3).blk t).view.emb y) 0).val = 512 * (t.val % 8) + (y 0).val := by blk_simp [index_eq t] <;> omega
  have e1 : ((((cfg0.win 3).blk t).view.emb y) 1).val = 128 * (t.val / 8) + (y 1).val := by blk_simp [index_eq t] <;> omega
  have e2 : (128 * (t.val / 8) + (y 1).val) / 128 = t.val / 8 := by omega
  have e3 : (128 * (t.val / 8) + (y 1).val) % 128 = (y 1).val := by omega
  show _ = oR (argX m c) ((((cfg0.win 3).blk t).view.emb y) 0).val ((((cfg0.win 3).blk t).view.emb y) 1).val
  rw [e0, e1]
  blk_simp
  rw [after0_3, (outs m c hX t).1]
  unfold oR
  rw [e2, e3]
  rfl

theorem final_c : (dats m 0 c).arrAt 4 cfg0.N = (fun y : S8x4096x1.Idx => ((cH (argX m c) (y 0).val (y 1).val : ℝ) : EReal)) := by
  refine (dats m 0 c).arrAt_eq_of_covers 4 _ (by decide +kernel) fun t hf y => ?_
  have ht := lt_64 t
  have h0 : (y 0).val < 1 := (y 0).isLt
  have h1 : (y 1).val < 512 := (y 1).isLt
  have e0 : ((((cfg0.win 4).blk t).view.emb y) 0).val = t.val / 8 := by blk_simp [index_eq t] <;> omega
  have e1 : ((((cfg0.win 4).blk t).view.emb y) 1).val = 512 * (t.val % 8) + (y 1).val := by blk_simp [index_eq t] <;> omega
  show _ = ((cH (argX m c) ((((cfg0.win 4).blk t).view.emb y) 0).val ((((cfg0.win 4).blk t).view.emb y) 1).val : ℝ) : EReal)
  rw [e0, e1]
  blk_simp
  rw [after0_4, (outs m c hX t).2]

end Cert.SF

end
-- ==== Proof.SbFwd.Ref.lean ====
/- The forward attention's reference: its two results as the formulas over the reals that the kernel's results are. -/
module

public import proofs.«01_k».proof.Proof.SB.Ref
public import proofs.«01_k».proof.Proof.SbFwd.Final
public import proofs.«01_k».proof.Proof.Gen.SbFwdReferenceIdeal.Run

@[expose] public section

set_option maxRecDepth 16384

noncomputable section

open Idealize.ShloMosaic Idealize.ShloMosaic.TcCoe Idealize.SL.Sem

namespace Cert.SF

open Cert.SB Cert.SbFwdReferenceIdeal Cert.SbFwdReferenceIdeal.Gen

/-- The array of the values. -/
theorem vF_at (X : FVec Ideal S4096x10240 .f32) (s : Fin 4096) (h : Fin 8) (d : Fin 128) : vF X (ix3 s h d) = vE X h.val s.val d.val := by
  pointwise [vF]
  unfold vE
  rw [dif_pos ⟨s.isLt, by omega⟩]
  exact congrArg X (congrArg (ix2 s) (Fin.ext (by show 2048 + (h.val * 128 + d.val) = 2048 + 128 * h.val + d.val; omega)))

/-- The product of the values and the weights, laid out by rows. -/
theorem flat_vw (X : FVec Ideal S4096x10240 .f32) (g : ℕ → ℕ → ℕ → ℝ) :
    shapeCast S4096x1024 (transpose S4096x8x128 [2, 0, 1]
        (Host.dotGeneral dot_S4096x8x128_S8x4096x4096_S8x128x4096_0_2_2_1_1_0 none (vF X) (cube g : A3) : FVec Ideal S8x128x4096 .f32)
        transposes_S8x128x4096_S4096x8x128_2_0_1) shapeCasts_S4096x8x128_S4096x1024
    = fun y : S4096x1024.Idx => ∑ s ∈ Finset.range 4096, (g ((y 1).val / 128) (y 0).val s : EReal) * vE X ((y 1).val / 128) s ((y 1).val % 128) := by
  funext i
  pointwise [cube]
  rw [Finset.sum_range]
  refine Finset.sum_congr rfl fun s _ => ?_
  exact (congrArg (· * _) (vF_at X s _ _)).trans (mul_comm _ _)

variable (m : (ℓ : Loc nD τ sig) → Buf (Elt Ideal) ℓ) (c : Dev nD)

abbrev refX : FVec Ideal S4096x10240 .f32 := m ((c.tc : Thread nD τ).loc main_arg0)

theorem res0_eq : Cert.SbFwdReferenceIdeal.Value.res_out0 m c
    = (truncf .bf16 (shapeCast S4096x1024 (transpose S4096x8x128 [2, 0, 1]
        (Host.dotGeneral dot_S4096x8x128_S8x4096x4096_S8x128x4096_0_2_2_1_1_0 none (vF (refX m c)) (weightF (zF (refX m c))) : FVec Ideal S8x128x4096 .f32)
        transposes_S8x128x4096_S4096x8x128_2_0_1) shapeCasts_S4096x8x128_S4096x1024) bitsLt_bf16_f32 : FVec Ideal S4096x1024 .bf16) := by
  unfold Cert.SbFwdReferenceIdeal.Value.res_out0 Cert.SbFwdReferenceIdeal.Value.res_main_v28
  rfl

variable (hX : FinQK (refX m c))
include hX

theorem ref_o : Cert.SbFwdReferenceIdeal.Value.res_out0 m c = (fun y : S4096x1024.Idx => oR (refX m c) (y 0).val (y 1).val) := by
  rw [res0_eq, weightF_zF _ hX, flat_vw]
  rfl

theorem ref_c : (broadcastInDim S8x4096x1 ![0, 1] bcast_S8x4096_S8x4096x1_0_1
      (Host.reduceAdd (loseF (zF (refX m c))) (constant S_ .f32 0x00000000#32 : FVec Ideal S_ .f32) reducesTo_S8x4096x4096_S8x4096_d2 h_S_ : FVec Ideal S8x4096 .f32) : FVec Ideal S8x4096x1 .f32)
    = (fun y : S8x4096x1.Idx => ((cH (refX m c) (y 0).val (y 1).val : ℝ) : EReal)) := by
  rw [loseF_zF _ hX]
  funext y
  pointwise [cube]
  exact sum_fin (n := 4096) fun s => aG (qH (refX m c) (y 0).val) (kH (refX m c) (y 0).val) (y 1).val s

end Cert.SF

end
-- ==== Proof.SbFwd.Claim.lean ====
/- The forward attention's claim: equal results and equal row totals. -/
module

public import proofs.«01_k».proof.Defs
public import proofs.«01_k».proof.Proof.SbFwd.Ref
public import proofs.«01_k».proof.Proof.SB.Claim

@[expose] public section

set_option maxRecDepth 16384

noncomputable section

open Idealize.ShloMosaic Idealize.ShloMosaic.TcCoe Idealize.SL.Sem

namespace Cert.SF

open Cert.SB

/-- The shape relations of the precondition. -/
theorem pre_facts : Cert.Pre_forward_finite.Facts where
  slices_S4096x10240_S4096x2048_0_0 := by decide
  bcast_S_S4096x2048 := by decide

theorem finQK_of_pre (X : FVec Ideal ⟨2, ![4096, 10240]⟩ .f32) (h : @Cert.Pre_forward_finite.fn pre_facts Ideal _ X = fun _ => 1#1) : FinQK X := by
  intro t d hd
  have e := congrFun h (ix2 t ⟨d.val, hd⟩)
  pointwise [Cert.Pre_forward_finite.fn, inf_eq] at e
  rw [at2_eq]
  exact Between.real_of_abs_lt _ e

/-- The reference changes nothing but its results. -/
theorem reference_frame : @Cert.quiescent_SbFwdReferenceIdeal Cert.SbFwdReferenceIdeal.Gen.facts := fun m g _ =>
  (θ_run _ _ _).mono (fun r h => ⟨fun c => (h c).2.2, sem_eq_zero_of_no_sems (by decide) r.2⟩) (Cert.SbFwdReferenceIdeal.Value.run (F := Ideal) m g)

/-- The idealised kernel and the reference end with equal results and equal row totals. -/
theorem algebraic : @Cert.algebraic_SbFwdIdeal_SbFwdReferenceIdeal_pre_forward_finite Cert.SbFwdIdeal.Gen.facts Cert.SbFwdReferenceIdeal.Gen.facts pre_facts := by
  pair_intro
  · run_from Cert.SbFwdIdeal.Value.run_blocks m g
  · refine (θ_run _ _ _).mono (fun r h c => ?_) (Cert.SbFwdReferenceIdeal.Value.run (F := Ideal) m' g')
    have hX := finQK_of_pre _ (hpre c)
    have e : refX m' c = argX m c := hagree c
    obtain ⟨h0, h1, h2⟩ := h c
    exact ⟨h0.trans ((ref_o m' c (e ▸ hX)).trans (by rw [e]; exact (final_o m c hX).symm)),
      h1.trans ((ref_c m' c (e ▸ hX)).trans (by rw [e]; exact (final_c m c hX).symm)), h2⟩

end Cert.SF

end
-- ==== Proof.Between.MemFwd.lean ====
/- The attention to the memory, forward: every head's softmax over the memory's rows, row by row. -/
module

public import proofs.«01_k».proof.Proof.Gen.MemFwdIdeal.Value
public import proofs.«01_k».proof.Proof.Gen.MemFwdReferenceIdeal.Run
public import Idealize.ShloMosaic.Lib.Pointwise
public import Idealize.ShloMosaic.Lib.Pipeline.ValueKit
public import Idealize.ShloMosaic.Lib.Claim
public import proofs.«01_k».proof.Defs
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.MemFwdIdeal

open Cert.MemFwdIdeal.Gen

/-- The scaled products of a query with the keys. -/
def logit (q : Fin 128 → EReal) (k : Fin 256 → Fin 128 → EReal) (j : Fin 256) : EReal :=
  (∑ d : Fin 128, q d * k j d) * (Scalar.ofBits .f32 0x3DB504F3#32 : Ideal .f32)

/-- The greatest of them, not below the least number there is. -/
def top (f : Fin 256 → EReal) : EReal := Finset.univ.fold max (Scalar.ofBits .f32 0xFF800000#32 : Ideal .f32) f

/-- Their softmax. -/
def soft (f : Fin 256 → EReal) (j : Fin 256) : EReal := Ideal.div (Ideal.exp (f j - top f)) (∑ k : Fin 256, Ideal.exp (f k - top f))

/-- A query's result: the values weighted by the softmax. -/
def attend (q : Fin 128 → EReal) (k v : Fin 256 → Fin 128 → EReal) (d : Fin 128) : EReal := ∑ j : Fin 256, soft (logit q k) j * v j d

/-- Column `d` of head `i`, `o` columns further on. -/
abbrev col {n : ℕ} (o i : ℕ) (d : Fin 128) (hi : i < 4) (h : o + 512 ≤ n) : Fin n := ⟨o + (128 * i + d.val), by omega⟩

/-- A head's result: the queries are columns of `X`, the keys columns of the left half of `K` and the values of its right half. -/
def headRow (X : FVec Ideal S4096x10240 .f32) (K : FVec Ideal S256x1024 .f32) (r : Fin 4096) (i : ℕ) (hi : i < 4) (d : Fin 128) : EReal :=
  attend (fun d => X (ix2 r (col 3584 i d hi (by decide)))) (fun j d => K (ix2 j (col 0 i d hi (by decide))))
    (fun j d => K (ix2 j (col 512 i d hi (by decide)))) d

/-- The heads side by side. -/
def G (X : FVec Ideal S4096x10240 .f32) (K : FVec Ideal S256x1024 .f32) : FVec Ideal S4096x512 .bf16 := fun y =>
  headRow X K (y 0) ((y 1).val / 128) (by
    have h1 : (y 1).val < 512 := (y 1).isLt
    omega) ⟨(y 1).val % 128, Nat.mod_lt _ (by decide)⟩

theorem G_at (X : FVec Ideal S4096x10240 .f32) (K : FVec Ideal S256x1024 .f32) (y : S4096x512.Idx) (i : ℕ) (hi : i < 4) (d : Fin 128)
    (h : (y 1).val = 128 * i + d.val) : G X K y = headRow X K (y 0) i hi d := by
  unfold G
  congr 1
  · omega
  · exact Fin.ext (by show (y 1).val % 128 = d.val; omega)

theorem pay_at (q : FVec Ideal S512x128 .f32) (k v : FVec Ideal S256x128 .f32) (i : S512x128.Idx) :
    k0_pay2 (F := Ideal) q k v i = attend (fun d => q (ix2 (i 0) d)) (fun j d => k (ix2 j d)) (fun j d => v (ix2 j d)) (i 1) := by
  idx_vars i
  pointwise [k0_pay2, attend, soft, top, logit]

theorem attend_congr {q q' : Fin 128 → EReal} {k k' v v' : Fin 256 → Fin 128 → EReal} {d d' : Fin 128} (hq : ∀ d, q d = q' d)
    (hk : ∀ j d, k j d = k' j d) (hv : ∀ j d, v j d = v' j d) (hd : d = d') : attend q k v d = attend q' k' v' d' := by
  rw [funext hq, funext fun j => funext (hk j), funext fun j => funext (hv j), hd]

/-- A load of 128 columns from `o` on. -/
theorem ld_part {n w : ℕ} (a : (⟨2, ![n, w]⟩ : Shape).Idx → Elt Ideal .f32) (o : ℕ) (inb : ∀ d, (![0, o] : Fin 2 → ℕ) d + (![n, 128] : Fin 2 → ℕ) d ≤ (⟨2, ![n, w]⟩ : Shape).size d)
    (y : (⟨2, ![n, 128]⟩ : Shape).Idx) (ho : o + 128 ≤ w) :
    View.ld (Val := Elt Ideal) (e' := .f32) a (Rect.unit (s := ⟨2, ![n, w]⟩) ![0, o] ![n, 128] inb) y = a (ix2 (y 0) ⟨o + (y 1).val, by
      have h1 : (y 1).val < 128 := (y 1).isLt
      omega⟩) :=
  View.ld_unit_apply_of _ _ _ _ _ _ fun d => match d with
    | ⟨0, _⟩ => (Nat.zero_add _).symm
    | ⟨1, _⟩ => rfl

variable (m : (ℓ : Loc nD τ sig) → Buf (Elt Ideal) ℓ) (c : Dev nD)

abbrev argX : FVec Ideal S4096x10240 .f32 := m ((c : Thread nD τ).loc main_arg0)
abbrev argK : FVec Ideal S256x1024 .f32 := m ((c : Thread nD τ).loc main_arg1)

theorem idx : ∀ t : Fin cfg0.N, win0_0.index t = ![t.val, 7] ∧ win0_1.index t = ![0, 0] ∧ win0_2.index t = ![t.val, 0] :=
  (by decide +kernel : ∀ t : Fin grid0.N, _)

theorem point_lt (t : Fin cfg0.N) : t.val < 8 := lt_of_lt_of_eq t.isLt (show cfg0.N = 8 from N_0)

theorem final : (dats m 0 c).arrAt 2 cfg0.N = G (argX m c) (argK m c) := by
  refine (dats m 0 c).arrAt_eq_of_covers 2 _ (by decide +kernel) fun t hf y => ?_
  have ht := point_lt t
  have q0 : (y 0).val < 512 := (y 0).isLt
  have q1 : (y 1).val < 512 := (y 1).isLt
  have e0 : ((((cfg0.win 2).blk t).view.emb y) 0).val = 512 * t.val + (y 0).val := by blk_simp [idx t] <;> omega
  have e1 : ((((cfg0.win 2).blk t).view.emb y) 1).val = (y 1).val := by blk_simp [idx t] <;> omega
  have p1 : ((win0_2.blk t).view.emb y 1).val = (y 1).val := e1
  blk_simp
  rw [after0_2]
  unfold out0_2
  canon_tiles x h
  · have x1 : (x 1).val < 128 := (x 1).isLt
    refine (pay_at _ _ _ x).trans (Eq.trans (attend_congr (fun d => ?_) (fun j d => ?_) (fun j d => ?_) rfl) (G_at _ _ _ 3 (by decide) (x 1) (by omega)).symm)
    · refine (ld_part _ _ _ _ (by omega)).trans ?_
      blk_ext [iblk, V, idx t, e0, h0] <;> omega
    · refine (ld_part _ _ _ _ (by omega)).trans ?_
      blk_ext [iblk, V, idx t] <;> omega
    · refine (ld_part _ _ _ _ (by omega)).trans ?_
      blk_ext [iblk, V, idx t] <;> omega
  · have x1 : (x 1).val < 128 := (x 1).isLt
    refine (pay_at _ _ _ x).trans (Eq.trans (attend_congr (fun d => ?_) (fun j d => ?_) (fun j d => ?_) rfl) (G_at _ _ _ 2 (by decide) (x 1) (by omega)).symm)
    · refine (ld_part _ _ _ _ (by omega)).trans ?_
      blk_ext [iblk, V, idx t, e0, h0] <;> omega
    · refine (ld_part _ _ _ _ (by omega)).trans ?_
      blk_ext [iblk, V, idx t] <;> omega
    · refine (ld_part _ _ _ _ (by omega)).trans ?_
      blk_ext [iblk, V, idx t] <;> omega
  · have x1 : (x 1).val < 128 := (x 1).isLt
    refine (pay_at _ _ _ x).trans (Eq.trans (attend_congr (fun d => ?_) (fun j d => ?_) (fun j d => ?_) rfl) (G_at _ _ _ 1 (by decide) (x 1) (by omega)).symm)
    · refine (ld_part _ _ _ _ (by omega)).trans ?_
      blk_ext [iblk, V, idx t, e0, h0] <;> omega
    · refine (ld_part _ _ _ _ (by omega)).trans ?_
      blk_ext [iblk, V, idx t] <;> omega
    · refine (ld_part _ _ _ _ (by omega)).trans ?_
      blk_ext [iblk, V, idx t] <;> omega
  · have x1 : (x 1).val < 128 := (x 1).isLt
    refine (pay_at _ _ _ x).trans (Eq.trans (attend_congr (fun d => ?_) (fun j d => ?_) (fun j d => ?_) rfl) (G_at _ _ _ 0 (by decide) (x 1) (by omega)).symm)
    · refine (ld_part _ _ _ _ (by omega)).trans ?_
      blk_ext [iblk, V, idx t, e0, h0] <;> omega
    · refine (ld_part _ _ _ _ (by omega)).trans ?_
      blk_ext [iblk, V, idx t] <;> omega
    · refine (ld_part _ _ _ _ (by omega)).trans ?_
      blk_ext [iblk, V, idx t] <;> omega

end Cert.MemFwdIdeal

namespace Cert.MemFwdReferenceIdeal

open Cert.MemFwdReferenceIdeal.Gen

theorem max_top (f : Fin 256 → EReal) : max (Scalar.ofBits .f32 0xFF800000#32 : Ideal .f32) (Cert.MemFwdIdeal.top f) = Cert.MemFwdIdeal.top f :=
  max_eq_right ((Finset.le_fold_max _).2 (Or.inl le_rfl))

theorem lift3 {a b n : ℕ} (h : (⟨3, ![a, b, n]⟩ : Shape).Reduces [2] (⟨2, ![a, b]⟩ : Shape)) (i : Fin a) (r : Fin b) (j : Fin n) :
    h.lift (ix2 i r) j = ix3 i r j := by
  funext d
  refine Fin.ext ?_
  match d with
  | ⟨0, _⟩ => rfl
  | ⟨1, _⟩ => rfl
  | ⟨2, _⟩ => rfl

/-- The greatest elements along the last of three axes. -/
theorem hostMax {a b n : ℕ} (l : FVec Ideal ⟨3, ![a, b, n]⟩ .f32) (h' : (⟨3, ![a, b, n]⟩ : Shape).ReducesTo [2] (⟨2, ![a, b]⟩ : Shape))
    (h : (⟨3, ![a, b, n]⟩ : Shape).Reduces [2] (⟨2, ![a, b]⟩ : Shape)) (hu : 0 < S_.numel) (i : Fin a) (r : Fin b) :
    Host.reduce FloatOps.maximumf l (constant S_ .f32 0xFF800000#32) h' hu (ix2 i r)
      = Finset.univ.fold max (Scalar.ofBits .f32 0xFF800000#32 : Ideal .f32) fun j : Fin n => l (ix3 i r j) := by
  rw [Host.reduce_eq_fold_single FloatOps.maximumf l _ h' h hu]
  have hf : (l ∘ h.lift (ix2 i r)) = fun j : Fin n => l (ix3 i r j) := funext fun j => congrArg l (lift3 h i r j)
  exact congrArg (fun f => Finset.univ.fold max (Scalar.ofBits .f32 0xFF800000#32 : Ideal .f32) f) hf

/-- The queries, head by head. -/
def qH (X : FVec Ideal S4096x10240 .f32) : FVec Ideal S4096x4x128 .f32 :=
  shapeCast _ (extractStridedSlice S4096x512 ![0, 3584] X slices_S4096x10240_S4096x512_0_3584) shapeCasts_S4096x512_S4096x4x128

theorem qH_at (X : FVec Ideal S4096x10240 .f32) (r : Fin 4096) (i : Fin 4) (d : Fin 128) :
    qH X (ix3 r i d) = X (ix2 r (Cert.MemFwdIdeal.col 3584 i.val d i.isLt (by decide))) := by
  pointwise [qH]
  exact congrArg (fun c => X (ix2 r c)) (Fin.ext (by show 3584 + (i.val * 128 + d.val) = 3584 + (128 * i.val + d.val); omega))

/-- The keys, head by head. -/
def kH (K : FVec Ideal S256x1024 .f32) : FVec Ideal S256x4x128 .f32 :=
  shapeCast _ (extractStridedSlice S256x512 ![0, 0] K slices_S256x1024_S256x512_0_0) shapeCasts_S256x512_S256x4x128

theorem kH_at (K : FVec Ideal S256x1024 .f32) (r : Fin 256) (i : Fin 4) (d : Fin 128) :
    kH K (ix3 r i d) = K (ix2 r (Cert.MemFwdIdeal.col 0 i.val d i.isLt (by decide))) := by
  pointwise [kH]
  exact congrArg (fun c => K (ix2 r c)) (Fin.ext (by show i.val * 128 + d.val = 0 + (128 * i.val + d.val); omega))

/-- The values, head by head. -/
def vH (K : FVec Ideal S256x1024 .f32) : FVec Ideal S256x4x128 .f32 :=
  shapeCast _ (extractStridedSlice S256x512 ![0, 512] K slices_S256x1024_S256x512_0_512) shapeCasts_S256x512_S256x4x128

theorem vH_at (K : FVec Ideal S256x1024 .f32) (r : Fin 256) (i : Fin 4) (d : Fin 128) :
    vH K (ix3 r i d) = K (ix2 r (Cert.MemFwdIdeal.col 512 i.val d i.isLt (by decide))) := by
  pointwise [vH]
  exact congrArg (fun c => K (ix2 r c)) (Fin.ext (by show 512 + (i.val * 128 + d.val) = 512 + (128 * i.val + d.val); omega))

/-- The logits. -/
def lg (q : FVec Ideal S4096x4x128 .f32) (k : FVec Ideal S256x4x128 .f32) : FVec Ideal S4x4096x256 .f32 :=
  mulf (Host.dotGeneral dot_S4096x4x128_S256x4x128_S4x4096x256_2_2_0_0_1_1 none q k) (broadcastInDim S4x4096x256 ![] bcast_S_S4x4096x256 (constant S_ .f32 0x3DB504F3#32))

theorem lg_at (q : FVec Ideal S4096x4x128 .f32) (k : FVec Ideal S256x4x128 .f32) (i : Fin 4) (r : Fin 4096) (j : Fin 256) :
    lg q k (ix3 i r j) = Cert.MemFwdIdeal.logit (fun d => q (ix3 r i d)) (fun j d => k (ix3 j i d)) j := by
  pointwise [lg, Cert.MemFwdIdeal.logit]

/-- The softmax's numerators, given the rows' greatest elements. -/
def nmOf (l : FVec Ideal S4x4096x256 .f32) (g : FVec Ideal S4x4096 .f32) : FVec Ideal S4x4096x256 .f32 :=
  Host.exp (subf l (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) g))))

theorem nmOf_at (l : FVec Ideal S4x4096x256 .f32) (g : FVec Ideal S4x4096 .f32) (i : Fin 4) (r : Fin 4096) (j : Fin 256) :
    nmOf l g (ix3 i r j) = Ideal.exp (l (ix3 i r j) - max (Scalar.ofBits .f32 0xFF800000#32 : Ideal .f32) (g (ix2 i r))) := by
  pointwise [nmOf]

/-- The softmax's numerators. -/
def nm (l : FVec Ideal S4x4096x256 .f32) : FVec Ideal S4x4096x256 .f32 :=
  nmOf l (Host.reduce FloatOps.maximumf l (constant S_ .f32 0xFF800000#32) reducesTo_S4x4096x256_S4x4096_d2 h_S_)

theorem nm_at (l : FVec Ideal S4x4096x256 .f32) (i : Fin 4) (r : Fin 4096) (j : Fin 256) :
    nm l (ix3 i r j) = Ideal.exp (l (ix3 i r j) - Cert.MemFwdIdeal.top fun j => l (ix3 i r j)) := by
  unfold nm
  rw [nmOf_at, hostMax l _ (by decide) _ i r]
  exact congrArg (fun x => Ideal.exp (l (ix3 i r j) - x)) (max_top _)

/-- The softmax. -/
def sm (e : FVec Ideal S4x4096x256 .f32) : FVec Ideal S4x4096x256 .f32 :=
  Host.divf e (broadcastInDim S4x4096x256 ![0, 1, 2] bcast_S4x4096x1_S4x4096x256_0_1_2 (broadcastInDim S4x4096x1 ![0, 1] bcast_S4x4096_S4x4096x1_0_1 (Host.reduceAdd e (constant S_ .f32 0x00000000#32) reducesTo_S4x4096x256_S4x4096_d2 h_S_)))

theorem sm_at (e : FVec Ideal S4x4096x256 .f32) (i : Fin 4) (r : Fin 4096) (j : Fin 256) :
    sm e (ix3 i r j) = Ideal.div (e (ix3 i r j)) (∑ k : Fin 256, e (ix3 i r k)) := by
  pointwise [sm]

/-- The weighted values, the heads side by side again. -/
def ot (v : FVec Ideal S256x4x128 .f32) (p : FVec Ideal S4x4096x256 .f32) : FVec Ideal S4096x512 .bf16 :=
  truncf .bf16 (shapeCast _ (transpose S4096x4x128 [2, 0, 1] (Host.dotGeneral dot_S256x4x128_S4x4096x256_S4x128x4096_0_2_2_1_1_0 none v p) transposes_S4x128x4096_S4096x4x128_2_0_1) shapeCasts_S4096x4x128_S4096x512) bitsLt_bf16_f32

theorem ot_at (v : FVec Ideal S256x4x128 .f32) (p : FVec Ideal S4x4096x256 .f32) (r : Fin 4096) (c : Fin 512) :
    ot v p (ix2 r c) = ∑ j : Fin 256, p (ix3 ⟨c.val / 128, by omega⟩ r j) * v (ix3 j ⟨c.val / 128, by omega⟩ ⟨c.val % 128, by omega⟩) := by
  pointwise [ot]
  exact Finset.sum_congr rfl fun j _ => mul_comm _ _

section

variable (X : FVec Ideal S4096x10240 .f32) (K : FVec Ideal S256x1024 .f32) (i : Fin 4) (r : Fin 4096)

/-- The logits of row `r` in head `i`. -/
abbrev row : Fin 256 → EReal :=
  Cert.MemFwdIdeal.logit (fun d => X (ix2 r (Cert.MemFwdIdeal.col 3584 i.val d i.isLt (by decide)))) (fun j d => K (ix2 j (Cert.MemFwdIdeal.col 0 i.val d i.isLt (by decide))))

theorem lg_row (j : Fin 256) : lg (qH X) (kH K) (ix3 i r j) = row X K i r j :=
  (lg_at _ _ _ _ _).trans (congrArg₂ (fun a b => Cert.MemFwdIdeal.logit a b j) (funext fun d => qH_at X r i d) (funext fun j => funext fun d => kH_at K j i d))

theorem nm_row (j : Fin 256) : nm (lg (qH X) (kH K)) (ix3 i r j) = Ideal.exp (row X K i r j - Cert.MemFwdIdeal.top (row X K i r)) :=
  (nm_at _ _ _ _).trans (congrArg₂ (fun a b => Ideal.exp (a - b)) (lg_row X K i r j) (congrArg Cert.MemFwdIdeal.top (funext (lg_row X K i r))))

theorem sm_row (j : Fin 256) : sm (nm (lg (qH X) (kH K))) (ix3 i r j) = Cert.MemFwdIdeal.soft (row X K i r) j :=
  (sm_at _ _ _ _).trans (congrArg₂ Ideal.div (nm_row X K i r j) (Finset.sum_congr rfl fun k _ => nm_row X K i r k))

end

theorem ot_eq (X : FVec Ideal S4096x10240 .f32) (K : FVec Ideal S256x1024 .f32) :
    ot (vH K) (sm (nm (lg (qH X) (kH K)))) = Cert.MemFwdIdeal.G X K := by
  funext y
  idx_vars y
  exact (ot_at _ _ _ _).trans (Finset.sum_congr rfl fun j _ => congrArg₂ (· * ·) (sm_row X K _ _ j) (vH_at K j _ _))

/-- The reference computes the same function of its arguments. -/
theorem ref_eq (X : FVec Ideal S4096x10240 .f32) (K : FVec Ideal S256x1024 .f32) :
    truncf .bf16 (shapeCast _ (transpose S4096x4x128 [2, 0, 1] (Host.dotGeneral dot_S256x4x128_S4x4096x256_S4x128x4096_0_2_2_1_1_0 none (shapeCast _ (extractStridedSlice S256x512 ![0, 512] K slices_S256x1024_S256x512_0_512) shapeCasts_S256x512_S256x4x128) (Host.divf (Host.exp (subf (mulf (Host.dotGeneral dot_S4096x4x128_S256x4x128_S4x4096x256_2_2_0_0_1_1 none (shapeCast _ (extractStridedSlice S4096x512 ![0, 3584] X slices_S4096x10240_S4096x512_0_3584) shapeCasts_S4096x512_S4096x4x128) (shapeCast _ (extractStridedSlice S256x512 ![0, 0] K slices_S256x1024_S256x512_0_0) shapeCasts_S256x512_S256x4x128)) (broadcastInDim S4x4096x256 ![] bcast_S_S4x4096x256 (constant S_ .f32 0x3DB504F3#32))) (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) (Host.reduce FloatOps.maximumf (mulf (Host.dotGeneral dot_S4096x4x128_S256x4x128_S4x4096x256_2_2_0_0_1_1 none (shapeCast _ (extractStridedSlice S4096x512 ![0, 3584] X slices_S4096x10240_S4096x512_0_3584) shapeCasts_S4096x512_S4096x4x128) (shapeCast _ (extractStridedSlice S256x512 ![0, 0] K slices_S256x1024_S256x512_0_0) shapeCasts_S256x512_S256x4x128)) (broadcastInDim S4x4096x256 ![] bcast_S_S4x4096x256 (constant S_ .f32 0x3DB504F3#32))) (constant S_ .f32 0xFF800000#32) reducesTo_S4x4096x256_S4x4096_d2 h_S_)))))) (broadcastInDim S4x4096x256 ![0, 1, 2] bcast_S4x4096x1_S4x4096x256_0_1_2 (broadcastInDim S4x4096x1 ![0, 1] bcast_S4x4096_S4x4096x1_0_1 (Host.reduceAdd (Host.exp (subf (mulf (Host.dotGeneral dot_S4096x4x128_S256x4x128_S4x4096x256_2_2_0_0_1_1 none (shapeCast _ (extractStridedSlice S4096x512 ![0, 3584] X slices_S4096x10240_S4096x512_0_3584) shapeCasts_S4096x512_S4096x4x128) (shapeCast _ (extractStridedSlice S256x512 ![0, 0] K slices_S256x1024_S256x512_0_0) shapeCasts_S256x512_S256x4x128)) (broadcastInDim S4x4096x256 ![] bcast_S_S4x4096x256 (constant S_ .f32 0x3DB504F3#32))) (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) (Host.reduce FloatOps.maximumf (mulf (Host.dotGeneral dot_S4096x4x128_S256x4x128_S4x4096x256_2_2_0_0_1_1 none (shapeCast _ (extractStridedSlice S4096x512 ![0, 3584] X slices_S4096x10240_S4096x512_0_3584) shapeCasts_S4096x512_S4096x4x128) (shapeCast _ (extractStridedSlice S256x512 ![0, 0] K slices_S256x1024_S256x512_0_0) shapeCasts_S256x512_S256x4x128)) (broadcastInDim S4x4096x256 ![] bcast_S_S4x4096x256 (constant S_ .f32 0x3DB504F3#32))) (constant S_ .f32 0xFF800000#32) reducesTo_S4x4096x256_S4x4096_d2 h_S_)))))) (constant S_ .f32 0x00000000#32) reducesTo_S4x4096x256_S4x4096_d2 h_S_))))) transposes_S4x128x4096_S4096x4x128_2_0_1) shapeCasts_S4096x4x128_S4096x512) bitsLt_bf16_f32
      = Cert.MemFwdIdeal.G X K :=
  ot_eq X K

end Cert.MemFwdReferenceIdeal

namespace Cert.MemFwd

theorem reference_frame : @Cert.quiescent_MemFwdReferenceIdeal Cert.MemFwdReferenceIdeal.Gen.facts := fun m g _ =>
  (θ_run _ _ _).mono (fun r h => ⟨fun c => (h c).2, sem_eq_zero_of_no_sems (by decide) r.2⟩) (Cert.MemFwdReferenceIdeal.Value.run (F := Ideal) m g)

theorem algebraic : @Cert.algebraic_MemFwdIdeal_MemFwdReferenceIdeal Cert.MemFwdIdeal.Gen.facts Cert.MemFwdReferenceIdeal.Gen.facts := by
  pair_intro
  · run_from Cert.MemFwdIdeal.Value.run_blocks m g
  · exact (θ_run _ _ _).mono (fun r h c => ⟨(h c).1.trans ((Cert.MemFwdReferenceIdeal.ref_eq _ _).trans
      ((congrArg₂ Cert.MemFwdIdeal.G (hagree c).1 (hagree c).2).trans (Cert.MemFwdIdeal.final m c).symm)), (h c).2⟩) (Cert.MemFwdReferenceIdeal.Value.run (F := Ideal) m' g')

end Cert.MemFwd

end
-- ==== Proof.lean ====
/- The proof of the claims of Defs.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.UpGrad
public import proofs.«01_k».proof.Proof.Gen.UpGrad.Skeleton
public import proofs.«01_k».proof.Proof.Gen.UpGrad.Launch
public import proofs.«01_k».proof.Proof.Gen.UpGrad.Points
public import proofs.«01_k».proof.Proof.Gen.UpGrad.Frame
public import proofs.«01_k».proof.Proof.Gen.UpGradIdeal
public import proofs.«01_k».proof.Proof.Gen.UpGradIdeal.Skeleton
public import proofs.«01_k».proof.Proof.Gen.UpGradIdeal.Launch
public import proofs.«01_k».proof.Proof.Gen.UpGradIdeal.Points
public import proofs.«01_k».proof.Proof.Gen.UpGradIdeal.Frame
public import proofs.«01_k».proof.Proof.Gen.UpGradIdeal.Value
public import proofs.«01_k».proof.Proof.Gen.UpGradReferenceIdeal
public import proofs.«01_k».proof.Proof.Gen.UpGradReferenceIdeal.Run
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGradReferenceIdeal
public import proofs.«01_k».proof.Proof.Gen.InGradReferenceIdeal.Run
public import proofs.«01_k».proof.Proof.Gen.DownGrad
public import proofs.«01_k».proof.Proof.Gen.DownGrad.Skeleton
public import proofs.«01_k».proof.Proof.Gen.DownGrad.Launch
public import proofs.«01_k».proof.Proof.Gen.DownGrad.Points
public import proofs.«01_k».proof.Proof.Gen.DownGrad.Frame
public import proofs.«01_k».proof.Proof.Gen.DownGradIdeal
public import proofs.«01_k».proof.Proof.Gen.DownGradIdeal.Skeleton
public import proofs.«01_k».proof.Proof.Gen.DownGradIdeal.Launch
public import proofs.«01_k».proof.Proof.Gen.DownGradIdeal.Points
public import proofs.«01_k».proof.Proof.Gen.DownGradIdeal.Frame
public import proofs.«01_k».proof.Proof.Gen.DownGradIdeal.Value
public import proofs.«01_k».proof.Proof.Gen.DownGradReferenceIdeal
public import proofs.«01_k».proof.Proof.Gen.DownGradReferenceIdeal.Run
public import proofs.«01_k».proof.Proof.Gen.OutGrad
public import proofs.«01_k».proof.Proof.Gen.OutGrad.Skeleton
public import proofs.«01_k».proof.Proof.Gen.OutGrad.Launch
public import proofs.«01_k».proof.Proof.Gen.OutGrad.Points
public import proofs.«01_k».proof.Proof.Gen.OutGrad.Frame
public import proofs.«01_k».proof.Proof.Gen.OutGradIdeal
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradIdeal.Value
public import proofs.«01_k».proof.Proof.Gen.OutGradReferenceIdeal
public import proofs.«01_k».proof.Proof.Gen.OutGradReferenceIdeal.Run
public import proofs.«01_k».proof.Proof.Gen.SbOutGrad
public import proofs.«01_k».proof.Proof.Gen.SbOutGrad.Skeleton
public import proofs.«01_k».proof.Proof.Gen.SbOutGrad.Launch
public import proofs.«01_k».proof.Proof.Gen.SbOutGrad.Points
public import proofs.«01_k».proof.Proof.Gen.SbOutGrad.Frame
public import proofs.«01_k».proof.Proof.Gen.SbOutGradIdeal
public import proofs.«01_k».proof.Proof.Gen.SbOutGradIdeal.Skeleton
public import proofs.«01_k».proof.Proof.Gen.SbOutGradIdeal.Launch
public import proofs.«01_k».proof.Proof.Gen.SbOutGradIdeal.Points
public import proofs.«01_k».proof.Proof.Gen.SbOutGradIdeal.Frame
public import proofs.«01_k».proof.Proof.Gen.SbOutGradIdeal.Value
public import proofs.«01_k».proof.Proof.Gen.SbOutGradReferenceIdeal
public import proofs.«01_k».proof.Proof.Gen.SbOutGradReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInIdeal.Value
public import proofs.«01_k».proof.Proof.Gen.ProjInReferenceIdeal
public import proofs.«01_k».proof.Proof.Gen.ProjInReferenceIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.SbOut
public import proofs.«01_k».proof.Proof.Gen.SbOut.Skeleton
public import proofs.«01_k».proof.Proof.Gen.SbOut.Launch
public import proofs.«01_k».proof.Proof.Gen.SbOut.Points
public import proofs.«01_k».proof.Proof.Gen.SbOut.Frame
public import proofs.«01_k».proof.Proof.Gen.SbOutIdeal
public import proofs.«01_k».proof.Proof.Gen.SbOutIdeal.Skeleton
public import proofs.«01_k».proof.Proof.Gen.SbOutIdeal.Launch
public import proofs.«01_k».proof.Proof.Gen.SbOutIdeal.Points
public import proofs.«01_k».proof.Proof.Gen.SbOutIdeal.Frame
public import proofs.«01_k».proof.Proof.Gen.SbOutIdeal.Value
public import proofs.«01_k».proof.Proof.Gen.SbOutReferenceIdeal
public import proofs.«01_k».proof.Proof.Gen.SbOutReferenceIdeal.Run
public import proofs.«01_k».proof.Proof.Gen.DownBack
public import proofs.«01_k».proof.Proof.Gen.DownBack.Skeleton
public import proofs.«01_k».proof.Proof.Gen.DownBack.Launch
public import proofs.«01_k».proof.Proof.Gen.DownBack.Points
public import proofs.«01_k».proof.Proof.Gen.DownBack.Frame
public import proofs.«01_k».proof.Proof.Gen.DownBackIdeal
public import proofs.«01_k».proof.Proof.Gen.DownBackIdeal.Skeleton
public import proofs.«01_k».proof.Proof.Gen.DownBackIdeal.Launch
public import proofs.«01_k».proof.Proof.Gen.DownBackIdeal.Points
public import proofs.«01_k».proof.Proof.Gen.DownBackIdeal.Frame
public import proofs.«01_k».proof.Proof.Gen.DownBackIdeal.Value
public import proofs.«01_k».proof.Proof.Gen.DownBackReferenceIdeal
public import proofs.«01_k».proof.Proof.Gen.DownBackReferenceIdeal.Run
public import proofs.«01_k».proof.Proof.Gen.OutBack
public import proofs.«01_k».proof.Proof.Gen.OutBack.Skeleton
public import proofs.«01_k».proof.Proof.Gen.OutBack.Launch
public import proofs.«01_k».proof.Proof.Gen.OutBack.Points
public import proofs.«01_k».proof.Proof.Gen.OutBack.Frame
public import proofs.«01_k».proof.Proof.Gen.OutBackIdeal
public import proofs.«01_k».proof.Proof.Gen.OutBackIdeal.Skeleton
public import proofs.«01_k».proof.Proof.Gen.OutBackIdeal.Launch
public import proofs.«01_k».proof.Proof.Gen.OutBackIdeal.Points
public import proofs.«01_k».proof.Proof.Gen.OutBackIdeal.Frame
public import proofs.«01_k».proof.Proof.Gen.OutBackIdeal.Value
public import proofs.«01_k».proof.Proof.Gen.OutBackReferenceIdeal
public import proofs.«01_k».proof.Proof.Gen.OutBackReferenceIdeal.Run
public import proofs.«01_k».proof.Proof.Gen.SbOutBack
public import proofs.«01_k».proof.Proof.Gen.SbOutBack.Skeleton
public import proofs.«01_k».proof.Proof.Gen.SbOutBack.Launch
public import proofs.«01_k».proof.Proof.Gen.SbOutBack.Points
public import proofs.«01_k».proof.Proof.Gen.SbOutBack.Frame
public import proofs.«01_k».proof.Proof.Gen.SbOutBackIdeal
public import proofs.«01_k».proof.Proof.Gen.SbOutBackIdeal.Skeleton
public import proofs.«01_k».proof.Proof.Gen.SbOutBackIdeal.Launch
public import proofs.«01_k».proof.Proof.Gen.SbOutBackIdeal.Points
public import proofs.«01_k».proof.Proof.Gen.SbOutBackIdeal.Frame
public import proofs.«01_k».proof.Proof.Gen.SbOutBackIdeal.Value
public import proofs.«01_k».proof.Proof.Gen.SbOutBackReferenceIdeal
public import proofs.«01_k».proof.Proof.Gen.SbOutBackReferenceIdeal.Run
public import proofs.«01_k».proof.Proof.Gen.UpBack
public import proofs.«01_k».proof.Proof.Gen.UpBack.Skeleton
public import proofs.«01_k».proof.Proof.Gen.UpBack.Launch
public import proofs.«01_k».proof.Proof.Gen.UpBack.Points
public import proofs.«01_k».proof.Proof.Gen.UpBack.Frame
public import proofs.«01_k».proof.Proof.Gen.UpBackIdeal
public import proofs.«01_k».proof.Proof.Gen.UpBackIdeal.Skeleton
public import proofs.«01_k».proof.Proof.Gen.UpBackIdeal.Launch
public import proofs.«01_k».proof.Proof.Gen.UpBackIdeal.Points
public import proofs.«01_k».proof.Proof.Gen.UpBackIdeal.Frame
public import proofs.«01_k».proof.Proof.Gen.UpBackIdeal.Value
public import proofs.«01_k».proof.Proof.Gen.UpBackReferenceIdeal
public import proofs.«01_k».proof.Proof.Gen.UpBackReferenceIdeal.Run
public import proofs.«01_k».proof.Proof.Gen.InBack
public import proofs.«01_k».proof.Proof.Gen.InBack.Skeleton
public import proofs.«01_k».proof.Proof.Gen.InBack.Launch
public import proofs.«01_k».proof.Proof.Gen.InBack.Points
public import proofs.«01_k».proof.Proof.Gen.InBack.Frame
public import proofs.«01_k».proof.Proof.Gen.InBackIdeal
public import proofs.«01_k».proof.Proof.Gen.InBackIdeal.Skeleton
public import proofs.«01_k».proof.Proof.Gen.InBackIdeal.Launch
public import proofs.«01_k».proof.Proof.Gen.InBackIdeal.Points
public import proofs.«01_k».proof.Proof.Gen.InBackIdeal.Frame
public import proofs.«01_k».proof.Proof.Gen.InBackIdeal.Value
public import proofs.«01_k».proof.Proof.Gen.InBackReferenceIdeal
public import proofs.«01_k».proof.Proof.Gen.InBackReferenceIdeal.Run
public import proofs.«01_k».proof.Proof.Gen.GluIn
public import proofs.«01_k».proof.Proof.Gen.GluIn.Skeleton
public import proofs.«01_k».proof.Proof.Gen.GluIn.Launch
public import proofs.«01_k».proof.Proof.Gen.GluIn.Points
public import proofs.«01_k».proof.Proof.Gen.GluIn.Frame
public import proofs.«01_k».proof.Proof.Gen.GluInIdeal
public import proofs.«01_k».proof.Proof.Gen.GluInIdeal.Skeleton
public import proofs.«01_k».proof.Proof.Gen.GluInIdeal.Launch
public import proofs.«01_k».proof.Proof.Gen.GluInIdeal.Points
public import proofs.«01_k».proof.Proof.Gen.GluInIdeal.Frame
public import proofs.«01_k».proof.Proof.Gen.GluInIdeal.Value
public import proofs.«01_k».proof.Proof.Gen.GluInReferenceIdeal
public import proofs.«01_k».proof.Proof.Gen.GluInReferenceIdeal.Run
public import proofs.«01_k».proof.Proof.Gen.SsmOut
public import proofs.«01_k».proof.Proof.Gen.SsmOut.Skeleton
public import proofs.«01_k».proof.Proof.Gen.SsmOut.Launch
public import proofs.«01_k».proof.Proof.Gen.SsmOut.Points
public import proofs.«01_k».proof.Proof.Gen.SsmOut.Frame
public import proofs.«01_k».proof.Proof.Gen.SsmOutIdeal
public import proofs.«01_k».proof.Proof.Gen.SsmOutIdeal.Skeleton
public import proofs.«01_k».proof.Proof.Gen.SsmOutIdeal.Launch
public import proofs.«01_k».proof.Proof.Gen.SsmOutIdeal.Points
public import proofs.«01_k».proof.Proof.Gen.SsmOutIdeal.Frame
public import proofs.«01_k».proof.Proof.Gen.SsmOutIdeal.Value
public import proofs.«01_k».proof.Proof.Gen.SsmOutReferenceIdeal
public import proofs.«01_k».proof.Proof.Gen.SsmOutReferenceIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.SsmOutBack
public import proofs.«01_k».proof.Proof.Gen.SsmOutBack.Skeleton
public import proofs.«01_k».proof.Proof.Gen.SsmOutBack.Launch
public import proofs.«01_k».proof.Proof.Gen.SsmOutBack.Points
public import proofs.«01_k».proof.Proof.Gen.SsmOutBack.Frame
public import proofs.«01_k».proof.Proof.Gen.SsmOutBackIdeal
public import proofs.«01_k».proof.Proof.Gen.SsmOutBackIdeal.Skeleton
public import proofs.«01_k».proof.Proof.Gen.SsmOutBackIdeal.Launch
public import proofs.«01_k».proof.Proof.Gen.SsmOutBackIdeal.Points
public import proofs.«01_k».proof.Proof.Gen.SsmOutBackIdeal.Frame
public import proofs.«01_k».proof.Proof.Gen.SsmOutBackIdeal.Value
public import proofs.«01_k».proof.Proof.Gen.SsmOutBackReferenceIdeal
public import proofs.«01_k».proof.Proof.Gen.SsmOutBackReferenceIdeal.Run
public import proofs.«01_k».proof.Proof.Gen.MemOutBack
public import proofs.«01_k».proof.Proof.Gen.MemOutBack.Skeleton
public import proofs.«01_k».proof.Proof.Gen.MemOutBack.Launch
public import proofs.«01_k».proof.Proof.Gen.MemOutBack.Points
public import proofs.«01_k».proof.Proof.Gen.MemOutBack.Frame
public import proofs.«01_k».proof.Proof.Gen.MemOutBackIdeal
public import proofs.«01_k».proof.Proof.Gen.MemOutBackIdeal.Skeleton
public import proofs.«01_k».proof.Proof.Gen.MemOutBackIdeal.Launch
public import proofs.«01_k».proof.Proof.Gen.MemOutBackIdeal.Points
public import proofs.«01_k».proof.Proof.Gen.MemOutBackIdeal.Frame
public import proofs.«01_k».proof.Proof.Gen.MemOutBackIdeal.Value
public import proofs.«01_k».proof.Proof.Gen.MemOutBackReferenceIdeal
public import proofs.«01_k».proof.Proof.Gen.MemOutBackReferenceIdeal.Run
public import proofs.«01_k».proof.Proof.Gen.GluInBack
public import proofs.«01_k».proof.Proof.Gen.GluInBack.Skeleton
public import proofs.«01_k».proof.Proof.Gen.GluInBack.Launch
public import proofs.«01_k».proof.Proof.Gen.GluInBack.Points
public import proofs.«01_k».proof.Proof.Gen.GluInBack.Frame
public import proofs.«01_k».proof.Proof.Gen.GluInBackIdeal
public import proofs.«01_k».proof.Proof.Gen.GluInBackIdeal.Skeleton
public import proofs.«01_k».proof.Proof.Gen.GluInBackIdeal.Launch
public import proofs.«01_k».proof.Proof.Gen.GluInBackIdeal.Points
public import proofs.«01_k».proof.Proof.Gen.GluInBackIdeal.Frame
public import proofs.«01_k».proof.Proof.Gen.GluInBackIdeal.Value
public import proofs.«01_k».proof.Proof.Gen.GluInBackReferenceIdeal
public import proofs.«01_k».proof.Proof.Gen.GluInBackReferenceIdeal.Run
public import proofs.«01_k».proof.Proof.Gen.SsmOutGrad
public import proofs.«01_k».proof.Proof.Gen.SsmOutGrad.Skeleton
public import proofs.«01_k».proof.Proof.Gen.SsmOutGrad.Launch
public import proofs.«01_k».proof.Proof.Gen.SsmOutGrad.Points
public import proofs.«01_k».proof.Proof.Gen.SsmOutGrad.Frame
public import proofs.«01_k».proof.Proof.Gen.SsmOutGradIdeal
public import proofs.«01_k».proof.Proof.Gen.SsmOutGradIdeal.Skeleton
public import proofs.«01_k».proof.Proof.Gen.SsmOutGradIdeal.Launch
public import proofs.«01_k».proof.Proof.Gen.SsmOutGradIdeal.Points
public import proofs.«01_k».proof.Proof.Gen.SsmOutGradIdeal.Frame
public import proofs.«01_k».proof.Proof.Gen.SsmOutGradIdeal.Value
public import proofs.«01_k».proof.Proof.Gen.SsmOutGradReferenceIdeal
public import proofs.«01_k».proof.Proof.Gen.SsmOutGradReferenceIdeal.Run
public import proofs.«01_k».proof.Proof.Gen.GluInGrad
public import proofs.«01_k».proof.Proof.Gen.GluInGrad.Skeleton
public import proofs.«01_k».proof.Proof.Gen.GluInGrad.Launch
public import proofs.«01_k».proof.Proof.Gen.GluInGrad.Points
public import proofs.«01_k».proof.Proof.Gen.GluInGrad.Frame
public import proofs.«01_k».proof.Proof.Gen.GluInGradIdeal
public import proofs.«01_k».proof.Proof.Gen.GluInGradIdeal.Skeleton
public import proofs.«01_k».proof.Proof.Gen.GluInGradIdeal.Launch
public import proofs.«01_k».proof.Proof.Gen.GluInGradIdeal.Points
public import proofs.«01_k».proof.Proof.Gen.GluInGradIdeal.Frame
public import proofs.«01_k».proof.Proof.Gen.GluInGradIdeal.Value
public import proofs.«01_k».proof.Proof.Gen.GluInGradReferenceIdeal
public import proofs.«01_k».proof.Proof.Gen.GluInGradReferenceIdeal.Run
public import proofs.«01_k».proof.Proof.Gen.BGrad
public import proofs.«01_k».proof.Proof.Gen.BGrad.Skeleton
public import proofs.«01_k».proof.Proof.Gen.BGrad.Launch
public import proofs.«01_k».proof.Proof.Gen.BGrad.Points
public import proofs.«01_k».proof.Proof.Gen.BGrad.Frame
public import proofs.«01_k».proof.Proof.Gen.BGradIdeal
public import proofs.«01_k».proof.Proof.Gen.BGradIdeal.Skeleton
public import proofs.«01_k».proof.Proof.Gen.BGradIdeal.Launch
public import proofs.«01_k».proof.Proof.Gen.BGradIdeal.Points
public import proofs.«01_k».proof.Proof.Gen.BGradIdeal.Frame
public import proofs.«01_k».proof.Proof.Gen.BGradIdeal.Value
public import proofs.«01_k».proof.Proof.Gen.BGradReferenceIdeal
public import proofs.«01_k».proof.Proof.Gen.BGradReferenceIdeal.Run
public import proofs.«01_k».proof.Proof.Gen.CGrad
public import proofs.«01_k».proof.Proof.Gen.CGrad.Skeleton
public import proofs.«01_k».proof.Proof.Gen.CGrad.Launch
public import proofs.«01_k».proof.Proof.Gen.CGrad.Points
public import proofs.«01_k».proof.Proof.Gen.CGrad.Frame
public import proofs.«01_k».proof.Proof.Gen.CGradIdeal
public import proofs.«01_k».proof.Proof.Gen.CGradIdeal.Skeleton
public import proofs.«01_k».proof.Proof.Gen.CGradIdeal.Launch
public import proofs.«01_k».proof.Proof.Gen.CGradIdeal.Points
public import proofs.«01_k».proof.Proof.Gen.CGradIdeal.Frame
public import proofs.«01_k».proof.Proof.Gen.CGradIdeal.Value
public import proofs.«01_k».proof.Proof.Gen.CGradReferenceIdeal
public import proofs.«01_k».proof.Proof.Gen.CGradReferenceIdeal.Run
public import proofs.«01_k».proof.Proof.Gen.MemKvGrad
public import proofs.«01_k».proof.Proof.Gen.MemKvGrad.Skeleton
public import proofs.«01_k».proof.Proof.Gen.MemKvGrad.Launch
public import proofs.«01_k».proof.Proof.Gen.MemKvGrad.Points
public import proofs.«01_k».proof.Proof.Gen.MemKvGrad.Frame
public import proofs.«01_k».proof.Proof.Gen.MemKvGradIdeal
public import proofs.«01_k».proof.Proof.Gen.MemKvGradIdeal.Skeleton
public import proofs.«01_k».proof.Proof.Gen.MemKvGradIdeal.Launch
public import proofs.«01_k».proof.Proof.Gen.MemKvGradIdeal.Points
public import proofs.«01_k».proof.Proof.Gen.MemKvGradIdeal.Frame
public import proofs.«01_k».proof.Proof.Gen.MemKvGradIdeal.Value
public import proofs.«01_k».proof.Proof.Gen.MemKvGradReferenceIdeal
public import proofs.«01_k».proof.Proof.Gen.MemKvGradReferenceIdeal.Run
public import proofs.«01_k».proof.Proof.Gen.MergeBack
public import proofs.«01_k».proof.Proof.Gen.MergeBack.Skeleton
public import proofs.«01_k».proof.Proof.Gen.MergeBack.Launch
public import proofs.«01_k».proof.Proof.Gen.MergeBack.Points
public import proofs.«01_k».proof.Proof.Gen.MergeBack.Frame
public import proofs.«01_k».proof.Proof.Gen.MergeBackIdeal
public import proofs.«01_k».proof.Proof.Gen.MergeBackIdeal.Skeleton
public import proofs.«01_k».proof.Proof.Gen.MergeBackIdeal.Launch
public import proofs.«01_k».proof.Proof.Gen.MergeBackIdeal.Points
public import proofs.«01_k».proof.Proof.Gen.MergeBackIdeal.Frame
public import proofs.«01_k».proof.Proof.Gen.MergeBackIdeal.Value
public import proofs.«01_k».proof.Proof.Gen.MergeBackReferenceIdeal
public import proofs.«01_k».proof.Proof.Gen.MergeBackReferenceIdeal.Run
public import proofs.«01_k».proof.Proof.Gen.GluBack
public import proofs.«01_k».proof.Proof.Gen.GluBack.Skeleton
public import proofs.«01_k».proof.Proof.Gen.GluBack.Launch
public import proofs.«01_k».proof.Proof.Gen.GluBack.Points
public import proofs.«01_k».proof.Proof.Gen.GluBack.Frame
public import proofs.«01_k».proof.Proof.Gen.GluBackIdeal
public import proofs.«01_k».proof.Proof.Gen.GluBackIdeal.Skeleton
public import proofs.«01_k».proof.Proof.Gen.GluBackIdeal.Launch
public import proofs.«01_k».proof.Proof.Gen.GluBackIdeal.Points
public import proofs.«01_k».proof.Proof.Gen.GluBackIdeal.Frame
public import proofs.«01_k».proof.Proof.Gen.GluBackIdeal.Value
public import proofs.«01_k».proof.Proof.Gen.GluBackReferenceIdeal
public import proofs.«01_k».proof.Proof.Gen.GluBackReferenceIdeal.Run
public import proofs.«01_k».proof.Proof.Gen.SwigluBack
public import proofs.«01_k».proof.Proof.Gen.SwigluBack.Skeleton
public import proofs.«01_k».proof.Proof.Gen.SwigluBack.Launch
public import proofs.«01_k».proof.Proof.Gen.SwigluBack.Points
public import proofs.«01_k».proof.Proof.Gen.SwigluBack.Frame
public import proofs.«01_k».proof.Proof.Gen.SwigluBackIdeal
public import proofs.«01_k».proof.Proof.Gen.SwigluBackIdeal.Skeleton
public import proofs.«01_k».proof.Proof.Gen.SwigluBackIdeal.Launch
public import proofs.«01_k».proof.Proof.Gen.SwigluBackIdeal.Points
public import proofs.«01_k».proof.Proof.Gen.SwigluBackIdeal.Frame
public import proofs.«01_k».proof.Proof.Gen.SwigluBackIdeal.Value
public import proofs.«01_k».proof.Proof.Gen.SwigluBackReferenceIdeal
public import proofs.«01_k».proof.Proof.Gen.SwigluBackReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluReferenceIdeal
public import proofs.«01_k».proof.Proof.Gen.GluReferenceIdeal.Run
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluReferenceIdeal
public import proofs.«01_k».proof.Proof.Gen.SwigluReferenceIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadReferenceIdeal
public import proofs.«01_k».proof.Proof.Gen.LossHeadReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.UpdateIn
public import proofs.«01_k».proof.Proof.Gen.UpdateIn.Skeleton
public import proofs.«01_k».proof.Proof.Gen.UpdateIn.Launch
public import proofs.«01_k».proof.Proof.Gen.UpdateIn.Points
public import proofs.«01_k».proof.Proof.Gen.UpdateIn.Frame
public import proofs.«01_k».proof.Proof.Gen.UpdateInIdeal
public import proofs.«01_k».proof.Proof.Gen.UpdateInIdeal.Skeleton
public import proofs.«01_k».proof.Proof.Gen.UpdateInIdeal.Launch
public import proofs.«01_k».proof.Proof.Gen.UpdateInIdeal.Points
public import proofs.«01_k».proof.Proof.Gen.UpdateInIdeal.Frame
public import proofs.«01_k».proof.Proof.Gen.UpdateInIdeal.Value
public import proofs.«01_k».proof.Proof.Gen.UpdateInReferenceIdeal
public import proofs.«01_k».proof.Proof.Gen.UpdateInReferenceIdeal.Run
public import proofs.«01_k».proof.Proof.Gen.UpdateSbOut
public import proofs.«01_k».proof.Proof.Gen.UpdateSbOut.Skeleton
public import proofs.«01_k».proof.Proof.Gen.UpdateSbOut.Launch
public import proofs.«01_k».proof.Proof.Gen.UpdateSbOut.Points
public import proofs.«01_k».proof.Proof.Gen.UpdateSbOut.Frame
public import proofs.«01_k».proof.Proof.Gen.UpdateSbOutIdeal
public import proofs.«01_k».proof.Proof.Gen.UpdateSbOutIdeal.Skeleton
public import proofs.«01_k».proof.Proof.Gen.UpdateSbOutIdeal.Launch
public import proofs.«01_k».proof.Proof.Gen.UpdateSbOutIdeal.Points
public import proofs.«01_k».proof.Proof.Gen.UpdateSbOutIdeal.Frame
public import proofs.«01_k».proof.Proof.Gen.UpdateSbOutIdeal.Value
public import proofs.«01_k».proof.Proof.Gen.UpdateSbOutReferenceIdeal
public import proofs.«01_k».proof.Proof.Gen.UpdateSbOutReferenceIdeal.Run
public import proofs.«01_k».proof.Proof.Gen.UpdateGlu
public import proofs.«01_k».proof.Proof.Gen.UpdateGlu.Skeleton
public import proofs.«01_k».proof.Proof.Gen.UpdateGlu.Launch
public import proofs.«01_k».proof.Proof.Gen.UpdateGlu.Points
public import proofs.«01_k».proof.Proof.Gen.UpdateGlu.Frame
public import proofs.«01_k».proof.Proof.Gen.UpdateGluIdeal
public import proofs.«01_k».proof.Proof.Gen.UpdateGluIdeal.Skeleton
public import proofs.«01_k».proof.Proof.Gen.UpdateGluIdeal.Launch
public import proofs.«01_k».proof.Proof.Gen.UpdateGluIdeal.Points
public import proofs.«01_k».proof.Proof.Gen.UpdateGluIdeal.Frame
public import proofs.«01_k».proof.Proof.Gen.UpdateGluIdeal.Value
public import proofs.«01_k».proof.Proof.Gen.UpdateGluReferenceIdeal
public import proofs.«01_k».proof.Proof.Gen.UpdateGluReferenceIdeal.Run
public import proofs.«01_k».proof.Proof.Gen.UpdateSsmOut
public import proofs.«01_k».proof.Proof.Gen.UpdateSsmOut.Skeleton
public import proofs.«01_k».proof.Proof.Gen.UpdateSsmOut.Launch
public import proofs.«01_k».proof.Proof.Gen.UpdateSsmOut.Points
public import proofs.«01_k».proof.Proof.Gen.UpdateSsmOut.Frame
public import proofs.«01_k».proof.Proof.Gen.UpdateSsmOutIdeal
public import proofs.«01_k».proof.Proof.Gen.UpdateSsmOutIdeal.Skeleton
public import proofs.«01_k».proof.Proof.Gen.UpdateSsmOutIdeal.Launch
public import proofs.«01_k».proof.Proof.Gen.UpdateSsmOutIdeal.Points
public import proofs.«01_k».proof.Proof.Gen.UpdateSsmOutIdeal.Frame
public import proofs.«01_k».proof.Proof.Gen.UpdateSsmOutIdeal.Value
public import proofs.«01_k».proof.Proof.Gen.UpdateSsmOutReferenceIdeal
public import proofs.«01_k».proof.Proof.Gen.UpdateSsmOutReferenceIdeal.Run
public import proofs.«01_k».proof.Proof.Gen.UpdateMemKv
public import proofs.«01_k».proof.Proof.Gen.UpdateMemKv.Skeleton
public import proofs.«01_k».proof.Proof.Gen.UpdateMemKv.Launch
public import proofs.«01_k».proof.Proof.Gen.UpdateMemKv.Points
public import proofs.«01_k».proof.Proof.Gen.UpdateMemKv.Frame
public import proofs.«01_k».proof.Proof.Gen.UpdateMemKvIdeal
public import proofs.«01_k».proof.Proof.Gen.UpdateMemKvIdeal.Skeleton
public import proofs.«01_k».proof.Proof.Gen.UpdateMemKvIdeal.Launch
public import proofs.«01_k».proof.Proof.Gen.UpdateMemKvIdeal.Points
public import proofs.«01_k».proof.Proof.Gen.UpdateMemKvIdeal.Frame
public import proofs.«01_k».proof.Proof.Gen.UpdateMemKvIdeal.Value
public import proofs.«01_k».proof.Proof.Gen.UpdateMemKvReferenceIdeal
public import proofs.«01_k».proof.Proof.Gen.UpdateMemKvReferenceIdeal.Run
public import proofs.«01_k».proof.Proof.Gen.UpdateOut
public import proofs.«01_k».proof.Proof.Gen.UpdateOut.Skeleton
public import proofs.«01_k».proof.Proof.Gen.UpdateOut.Launch
public import proofs.«01_k».proof.Proof.Gen.UpdateOut.Points
public import proofs.«01_k».proof.Proof.Gen.UpdateOut.Frame
public import proofs.«01_k».proof.Proof.Gen.UpdateOutIdeal
public import proofs.«01_k».proof.Proof.Gen.UpdateOutIdeal.Skeleton
public import proofs.«01_k».proof.Proof.Gen.UpdateOutIdeal.Launch
public import proofs.«01_k».proof.Proof.Gen.UpdateOutIdeal.Points
public import proofs.«01_k».proof.Proof.Gen.UpdateOutIdeal.Frame
public import proofs.«01_k».proof.Proof.Gen.UpdateOutIdeal.Value
public import proofs.«01_k».proof.Proof.Gen.UpdateOutReferenceIdeal
public import proofs.«01_k».proof.Proof.Gen.UpdateOutReferenceIdeal.Run
public import proofs.«01_k».proof.Proof.Gen.UpdateUp
public import proofs.«01_k».proof.Proof.Gen.UpdateUp.Skeleton
public import proofs.«01_k».proof.Proof.Gen.UpdateUp.Launch
public import proofs.«01_k».proof.Proof.Gen.UpdateUp.Points
public import proofs.«01_k».proof.Proof.Gen.UpdateUp.Frame
public import proofs.«01_k».proof.Proof.Gen.UpdateUpIdeal
public import proofs.«01_k».proof.Proof.Gen.UpdateUpIdeal.Skeleton
public import proofs.«01_k».proof.Proof.Gen.UpdateUpIdeal.Launch
public import proofs.«01_k».proof.Proof.Gen.UpdateUpIdeal.Points
public import proofs.«01_k».proof.Proof.Gen.UpdateUpIdeal.Frame
public import proofs.«01_k».proof.Proof.Gen.UpdateUpIdeal.Value
public import proofs.«01_k».proof.Proof.Gen.UpdateUpReferenceIdeal
public import proofs.«01_k».proof.Proof.Gen.UpdateUpReferenceIdeal.Run
public import proofs.«01_k».proof.Proof.Gen.UpdateDown
public import proofs.«01_k».proof.Proof.Gen.UpdateDown.Skeleton
public import proofs.«01_k».proof.Proof.Gen.UpdateDown.Launch
public import proofs.«01_k».proof.Proof.Gen.UpdateDown.Points
public import proofs.«01_k».proof.Proof.Gen.UpdateDown.Frame
public import proofs.«01_k».proof.Proof.Gen.UpdateDownIdeal
public import proofs.«01_k».proof.Proof.Gen.UpdateDownIdeal.Skeleton
public import proofs.«01_k».proof.Proof.Gen.UpdateDownIdeal.Launch
public import proofs.«01_k».proof.Proof.Gen.UpdateDownIdeal.Points
public import proofs.«01_k».proof.Proof.Gen.UpdateDownIdeal.Frame
public import proofs.«01_k».proof.Proof.Gen.UpdateDownIdeal.Value
public import proofs.«01_k».proof.Proof.Gen.UpdateDownReferenceIdeal
public import proofs.«01_k».proof.Proof.Gen.UpdateDownReferenceIdeal.Run
public import proofs.«01_k».proof.Proof.Gen.SbFwd
public import proofs.«01_k».proof.Proof.Gen.SbFwd.Skeleton
public import proofs.«01_k».proof.Proof.Gen.SbFwd.Loops
public import proofs.«01_k».proof.Proof.Gen.SbFwd.Launch
public import proofs.«01_k».proof.Proof.Gen.SbFwd.Points
public import proofs.«01_k».proof.Proof.Gen.SbFwd.Frame
public import proofs.«01_k».proof.Proof.Gen.SbFwdIdeal
public import proofs.«01_k».proof.Proof.Gen.SbFwdIdeal.Skeleton
public import proofs.«01_k».proof.Proof.Gen.SbFwdIdeal.Loops
public import proofs.«01_k».proof.Proof.Gen.SbFwdIdeal.Launch
public import proofs.«01_k».proof.Proof.Gen.SbFwdIdeal.Points
public import proofs.«01_k».proof.Proof.Gen.SbFwdIdeal.Frame
public import proofs.«01_k».proof.Proof.Gen.SbFwdIdeal.Value
public import proofs.«01_k».proof.Proof.Gen.SbFwdReferenceIdeal
public import proofs.«01_k».proof.Proof.Gen.SbFwdReferenceIdeal.Run
public import proofs.«01_k».proof.Proof.Gen.MemFwd
public import proofs.«01_k».proof.Proof.Gen.MemFwd.Skeleton
public import proofs.«01_k».proof.Proof.Gen.MemFwd.Launch
public import proofs.«01_k».proof.Proof.Gen.MemFwd.Points
public import proofs.«01_k».proof.Proof.Gen.MemFwd.Frame
public import proofs.«01_k».proof.Proof.Gen.MemFwdIdeal
public import proofs.«01_k».proof.Proof.Gen.MemFwdIdeal.Skeleton
public import proofs.«01_k».proof.Proof.Gen.MemFwdIdeal.Launch
public import proofs.«01_k».proof.Proof.Gen.MemFwdIdeal.Points
public import proofs.«01_k».proof.Proof.Gen.MemFwdIdeal.Frame
public import proofs.«01_k».proof.Proof.Gen.MemFwdIdeal.Value
public import proofs.«01_k».proof.Proof.Gen.MemFwdReferenceIdeal
public import proofs.«01_k».proof.Proof.Gen.MemFwdReferenceIdeal.Run
public import proofs.«01_k».proof.Proof.SB.Claim
public import proofs.«01_k».proof.Proof.Products.Claim
public import proofs.«01_k».proof.Proof.Between.Claim
public import proofs.«01_k».proof.Proof.Updates.Claim
public import proofs.«01_k».proof.Proof.SbFwd.Claim
public import proofs.«01_k».proof.Proof.Between.MemFwd
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- From any memory the reference runs, its arguments end unchanged and every semaphore counter at zero. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Every call and its reference run, each idealised call is the call's own text, and each idealised call and its
reference end with the same results: the gradients of the attention and of the swish gate from real inputs, the other
calls from any. -/
theorem claim : Cert.Claim := ⟨Cert.Kernel.Gen.facts, Cert.KernelIdeal.Gen.facts, Cert.ReferenceIdeal.Gen.facts,
  Cert.UpGrad.Gen.facts, Cert.UpGradIdeal.Gen.facts, Cert.UpGradReferenceIdeal.Gen.facts,
  Cert.InGrad.Gen.facts, Cert.InGradIdeal.Gen.facts, Cert.InGradReferenceIdeal.Gen.facts,
  Cert.DownGrad.Gen.facts, Cert.DownGradIdeal.Gen.facts, Cert.DownGradReferenceIdeal.Gen.facts,
  Cert.OutGrad.Gen.facts, Cert.OutGradIdeal.Gen.facts, Cert.OutGradReferenceIdeal.Gen.facts,
  Cert.SbOutGrad.Gen.facts, Cert.SbOutGradIdeal.Gen.facts, Cert.SbOutGradReferenceIdeal.Gen.facts,
  Cert.Up.Gen.facts, Cert.UpIdeal.Gen.facts, Cert.UpReferenceIdeal.Gen.facts,
  Cert.ProjIn.Gen.facts, Cert.ProjInIdeal.Gen.facts, Cert.ProjInReferenceIdeal.Gen.facts,
  Cert.Down.Gen.facts, Cert.DownIdeal.Gen.facts, Cert.DownReferenceIdeal.Gen.facts,
  Cert.Out.Gen.facts, Cert.OutIdeal.Gen.facts, Cert.OutReferenceIdeal.Gen.facts,
  Cert.SbOut.Gen.facts, Cert.SbOutIdeal.Gen.facts, Cert.SbOutReferenceIdeal.Gen.facts,
  Cert.DownBack.Gen.facts, Cert.DownBackIdeal.Gen.facts, Cert.DownBackReferenceIdeal.Gen.facts,
  Cert.OutBack.Gen.facts, Cert.OutBackIdeal.Gen.facts, Cert.OutBackReferenceIdeal.Gen.facts,
  Cert.SbOutBack.Gen.facts, Cert.SbOutBackIdeal.Gen.facts, Cert.SbOutBackReferenceIdeal.Gen.facts,
  Cert.UpBack.Gen.facts, Cert.UpBackIdeal.Gen.facts, Cert.UpBackReferenceIdeal.Gen.facts,
  Cert.InBack.Gen.facts, Cert.InBackIdeal.Gen.facts, Cert.InBackReferenceIdeal.Gen.facts,
  Cert.GluIn.Gen.facts, Cert.GluInIdeal.Gen.facts, Cert.GluInReferenceIdeal.Gen.facts,
  Cert.SsmOut.Gen.facts, Cert.SsmOutIdeal.Gen.facts, Cert.SsmOutReferenceIdeal.Gen.facts,
  Cert.MemKv.Gen.facts, Cert.MemKvIdeal.Gen.facts, Cert.MemKvReferenceIdeal.Gen.facts,
  Cert.SsmOutBack.Gen.facts, Cert.SsmOutBackIdeal.Gen.facts, Cert.SsmOutBackReferenceIdeal.Gen.facts,
  Cert.MemOutBack.Gen.facts, Cert.MemOutBackIdeal.Gen.facts, Cert.MemOutBackReferenceIdeal.Gen.facts,
  Cert.GluInBack.Gen.facts, Cert.GluInBackIdeal.Gen.facts, Cert.GluInBackReferenceIdeal.Gen.facts,
  Cert.SsmOutGrad.Gen.facts, Cert.SsmOutGradIdeal.Gen.facts, Cert.SsmOutGradReferenceIdeal.Gen.facts,
  Cert.GluInGrad.Gen.facts, Cert.GluInGradIdeal.Gen.facts, Cert.GluInGradReferenceIdeal.Gen.facts,
  Cert.BGrad.Gen.facts, Cert.BGradIdeal.Gen.facts, Cert.BGradReferenceIdeal.Gen.facts,
  Cert.CGrad.Gen.facts, Cert.CGradIdeal.Gen.facts, Cert.CGradReferenceIdeal.Gen.facts,
  Cert.MemKvGrad.Gen.facts, Cert.MemKvGradIdeal.Gen.facts, Cert.MemKvGradReferenceIdeal.Gen.facts,
  Cert.MergeBack.Gen.facts, Cert.MergeBackIdeal.Gen.facts, Cert.MergeBackReferenceIdeal.Gen.facts,
  Cert.GluBack.Gen.facts, Cert.GluBackIdeal.Gen.facts, Cert.GluBackReferenceIdeal.Gen.facts,
  Cert.SwigluBack.Gen.facts, Cert.SwigluBackIdeal.Gen.facts, Cert.SwigluBackReferenceIdeal.Gen.facts,
  Cert.Merge.Gen.facts, Cert.MergeIdeal.Gen.facts, Cert.MergeReferenceIdeal.Gen.facts,
  Cert.Glu.Gen.facts, Cert.GluIdeal.Gen.facts, Cert.GluReferenceIdeal.Gen.facts,
  Cert.Swiglu.Gen.facts, Cert.SwigluIdeal.Gen.facts, Cert.SwigluReferenceIdeal.Gen.facts,
  Cert.LossHead.Gen.facts, Cert.LossHeadIdeal.Gen.facts, Cert.LossHeadReferenceIdeal.Gen.facts,
  Cert.Norm.Gen.facts, Cert.NormIdeal.Gen.facts, Cert.NormReferenceIdeal.Gen.facts,
  Cert.UpdateIn.Gen.facts, Cert.UpdateInIdeal.Gen.facts, Cert.UpdateInReferenceIdeal.Gen.facts,
  Cert.UpdateSbOut.Gen.facts, Cert.UpdateSbOutIdeal.Gen.facts, Cert.UpdateSbOutReferenceIdeal.Gen.facts,
  Cert.UpdateGlu.Gen.facts, Cert.UpdateGluIdeal.Gen.facts, Cert.UpdateGluReferenceIdeal.Gen.facts,
  Cert.UpdateSsmOut.Gen.facts, Cert.UpdateSsmOutIdeal.Gen.facts, Cert.UpdateSsmOutReferenceIdeal.Gen.facts,
  Cert.UpdateMemKv.Gen.facts, Cert.UpdateMemKvIdeal.Gen.facts, Cert.UpdateMemKvReferenceIdeal.Gen.facts,
  Cert.UpdateOut.Gen.facts, Cert.UpdateOutIdeal.Gen.facts, Cert.UpdateOutReferenceIdeal.Gen.facts,
  Cert.UpdateUp.Gen.facts, Cert.UpdateUpIdeal.Gen.facts, Cert.UpdateUpReferenceIdeal.Gen.facts,
  Cert.UpdateDown.Gen.facts, Cert.UpdateDownIdeal.Gen.facts, Cert.UpdateDownReferenceIdeal.Gen.facts,
  Cert.SbFwd.Gen.facts, Cert.SbFwdIdeal.Gen.facts, Cert.SbFwdReferenceIdeal.Gen.facts,
  Cert.MemFwd.Gen.facts, Cert.MemFwdIdeal.Gen.facts, Cert.MemFwdReferenceIdeal.Gen.facts,
  Cert.SB.pre_facts, Cert.SwigluBack.pre_facts, Cert.SF.pre_facts,
  fun m ρ _ => Cert.Kernel.Gen.frame m ρ, fun m ρ _ => Cert.KernelIdeal.Gen.frame m ρ, fun m ρ _ => Cert.KernelIdeal.Gen.frame m ρ,
  fun m ρ _ => run_reference m ρ, fun m ρ _ => run_reference m ρ,
  fun m ρ _ => Cert.UpGrad.Gen.frame m ρ, fun m ρ _ => Cert.UpGradIdeal.Gen.frame m ρ, Cert.UpGrad.reference_frame,
  fun m ρ _ => Cert.InGrad.Gen.frame m ρ, fun m ρ _ => Cert.InGradIdeal.Gen.frame m ρ, Cert.InGrad.reference_frame,
  fun m ρ _ => Cert.DownGrad.Gen.frame m ρ, fun m ρ _ => Cert.DownGradIdeal.Gen.frame m ρ, Cert.DownGrad.reference_frame,
  fun m ρ _ => Cert.OutGrad.Gen.frame m ρ, fun m ρ _ => Cert.OutGradIdeal.Gen.frame m ρ, Cert.OutGrad.reference_frame,
  fun m ρ _ => Cert.SbOutGrad.Gen.frame m ρ, fun m ρ _ => Cert.SbOutGradIdeal.Gen.frame m ρ, Cert.SbOutGrad.reference_frame,
  fun m ρ _ => Cert.Up.Gen.frame m ρ, fun m ρ _ => Cert.UpIdeal.Gen.frame m ρ, Cert.Up.reference_frame,
  fun m ρ _ => Cert.ProjIn.Gen.frame m ρ, fun m ρ _ => Cert.ProjInIdeal.Gen.frame m ρ, Cert.ProjIn.reference_frame,
  fun m ρ _ => Cert.Down.Gen.frame m ρ, fun m ρ _ => Cert.DownIdeal.Gen.frame m ρ, Cert.Down.reference_frame,
  fun m ρ _ => Cert.Out.Gen.frame m ρ, fun m ρ _ => Cert.OutIdeal.Gen.frame m ρ, Cert.Out.reference_frame,
  fun m ρ _ => Cert.SbOut.Gen.frame m ρ, fun m ρ _ => Cert.SbOutIdeal.Gen.frame m ρ, Cert.SbOut.reference_frame,
  fun m ρ _ => Cert.DownBack.Gen.frame m ρ, fun m ρ _ => Cert.DownBackIdeal.Gen.frame m ρ, Cert.DownBack.reference_frame,
  fun m ρ _ => Cert.OutBack.Gen.frame m ρ, fun m ρ _ => Cert.OutBackIdeal.Gen.frame m ρ, Cert.OutBack.reference_frame,
  fun m ρ _ => Cert.SbOutBack.Gen.frame m ρ, fun m ρ _ => Cert.SbOutBackIdeal.Gen.frame m ρ, Cert.SbOutBack.reference_frame,
  fun m ρ _ => Cert.UpBack.Gen.frame m ρ, fun m ρ _ => Cert.UpBackIdeal.Gen.frame m ρ, Cert.UpBack.reference_frame,
  fun m ρ _ => Cert.InBack.Gen.frame m ρ, fun m ρ _ => Cert.InBackIdeal.Gen.frame m ρ, Cert.InBack.reference_frame,
  fun m ρ _ => Cert.GluIn.Gen.frame m ρ, fun m ρ _ => Cert.GluInIdeal.Gen.frame m ρ, Cert.GluIn.reference_frame,
  fun m ρ _ => Cert.SsmOut.Gen.frame m ρ, fun m ρ _ => Cert.SsmOutIdeal.Gen.frame m ρ, Cert.SsmOut.reference_frame,
  fun m ρ _ => Cert.MemKv.Gen.frame m ρ, fun m ρ _ => Cert.MemKvIdeal.Gen.frame m ρ, Cert.MemKv.reference_frame,
  fun m ρ _ => Cert.SsmOutBack.Gen.frame m ρ, fun m ρ _ => Cert.SsmOutBackIdeal.Gen.frame m ρ, Cert.SsmOutBack.reference_frame,
  fun m ρ _ => Cert.MemOutBack.Gen.frame m ρ, fun m ρ _ => Cert.MemOutBackIdeal.Gen.frame m ρ, Cert.MemOutBack.reference_frame,
  fun m ρ _ => Cert.GluInBack.Gen.frame m ρ, fun m ρ _ => Cert.GluInBackIdeal.Gen.frame m ρ, Cert.GluInBack.reference_frame,
  fun m ρ _ => Cert.SsmOutGrad.Gen.frame m ρ, fun m ρ _ => Cert.SsmOutGradIdeal.Gen.frame m ρ, Cert.SsmOutGrad.reference_frame,
  fun m ρ _ => Cert.GluInGrad.Gen.frame m ρ, fun m ρ _ => Cert.GluInGradIdeal.Gen.frame m ρ, Cert.GluInGrad.reference_frame,
  fun m ρ _ => Cert.BGrad.Gen.frame m ρ, fun m ρ _ => Cert.BGradIdeal.Gen.frame m ρ, Cert.BGrad.reference_frame,
  fun m ρ _ => Cert.CGrad.Gen.frame m ρ, fun m ρ _ => Cert.CGradIdeal.Gen.frame m ρ, Cert.CGrad.reference_frame,
  fun m ρ _ => Cert.MemKvGrad.Gen.frame m ρ, fun m ρ _ => Cert.MemKvGradIdeal.Gen.frame m ρ, Cert.MemKvGrad.reference_frame,
  fun m ρ _ => Cert.MergeBack.Gen.frame m ρ, fun m ρ _ => Cert.MergeBackIdeal.Gen.frame m ρ, Cert.MergeBack.reference_frame,
  fun m ρ _ => Cert.GluBack.Gen.frame m ρ, fun m ρ _ => Cert.GluBackIdeal.Gen.frame m ρ, Cert.GluBack.reference_frame,
  fun m ρ _ => Cert.SwigluBack.Gen.frame m ρ, fun m ρ _ => Cert.SwigluBackIdeal.Gen.frame m ρ, fun m ρ _ => Cert.SwigluBackIdeal.Gen.frame m ρ, Cert.SwigluBack.reference_frame, fun m ρ _ => Cert.SwigluBack.reference_frame m ρ trivial,
  fun m ρ _ => Cert.Merge.Gen.frame m ρ, fun m ρ _ => Cert.MergeIdeal.Gen.frame m ρ, Cert.Merge.reference_frame,
  fun m ρ _ => Cert.Glu.Gen.frame m ρ, fun m ρ _ => Cert.GluIdeal.Gen.frame m ρ, Cert.Glu.reference_frame,
  fun m ρ _ => Cert.Swiglu.Gen.frame m ρ, fun m ρ _ => Cert.SwigluIdeal.Gen.frame m ρ, Cert.Swiglu.reference_frame,
  fun m ρ _ => Cert.LossHead.Gen.frame m ρ, fun m ρ _ => Cert.LossHeadIdeal.Gen.frame m ρ, Cert.LossHead.reference_frame,
  fun m ρ _ => Cert.Norm.Gen.frame m ρ, fun m ρ _ => Cert.NormIdeal.Gen.frame m ρ, Cert.Norm.reference_frame,
  fun m ρ _ => Cert.UpdateIn.Gen.frame m ρ, fun m ρ _ => Cert.UpdateInIdeal.Gen.frame m ρ, Cert.UpdateIn.reference_frame,
  fun m ρ _ => Cert.UpdateSbOut.Gen.frame m ρ, fun m ρ _ => Cert.UpdateSbOutIdeal.Gen.frame m ρ, Cert.UpdateSbOut.reference_frame,
  fun m ρ _ => Cert.UpdateGlu.Gen.frame m ρ, fun m ρ _ => Cert.UpdateGluIdeal.Gen.frame m ρ, Cert.UpdateGlu.reference_frame,
  fun m ρ _ => Cert.UpdateSsmOut.Gen.frame m ρ, fun m ρ _ => Cert.UpdateSsmOutIdeal.Gen.frame m ρ, Cert.UpdateSsmOut.reference_frame,
  fun m ρ _ => Cert.UpdateMemKv.Gen.frame m ρ, fun m ρ _ => Cert.UpdateMemKvIdeal.Gen.frame m ρ, Cert.UpdateMemKv.reference_frame,
  fun m ρ _ => Cert.UpdateOut.Gen.frame m ρ, fun m ρ _ => Cert.UpdateOutIdeal.Gen.frame m ρ, Cert.UpdateOut.reference_frame,
  fun m ρ _ => Cert.UpdateUp.Gen.frame m ρ, fun m ρ _ => Cert.UpdateUpIdeal.Gen.frame m ρ, Cert.UpdateUp.reference_frame,
  fun m ρ _ => Cert.UpdateDown.Gen.frame m ρ, fun m ρ _ => Cert.UpdateDownIdeal.Gen.frame m ρ, Cert.UpdateDown.reference_frame,
  fun m ρ _ => Cert.SbFwd.Gen.frame m ρ, fun m ρ _ => Cert.SbFwdIdeal.Gen.frame m ρ, fun m ρ _ => Cert.SbFwdIdeal.Gen.frame m ρ, Cert.SF.reference_frame, fun m ρ _ => Cert.SF.reference_frame m ρ trivial,
  fun m ρ _ => Cert.MemFwd.Gen.frame m ρ, fun m ρ _ => Cert.MemFwdIdeal.Gen.frame m ρ, Cert.MemFwd.reference_frame,
  trivial, Cert.SB.algebraic,
  trivial, Cert.UpGrad.algebraic,
  trivial, Cert.InGrad.algebraic,
  trivial, Cert.DownGrad.algebraic,
  trivial, Cert.OutGrad.algebraic,
  trivial, Cert.SbOutGrad.algebraic,
  trivial, Cert.Up.algebraic,
  trivial, Cert.ProjIn.algebraic,
  trivial, Cert.Down.algebraic,
  trivial, Cert.Out.algebraic,
  trivial, Cert.SbOut.algebraic,
  trivial, Cert.DownBack.algebraic,
  trivial, Cert.OutBack.algebraic,
  trivial, Cert.SbOutBack.algebraic,
  trivial, Cert.UpBack.algebraic,
  trivial, Cert.InBack.algebraic,
  trivial, Cert.GluIn.algebraic,
  trivial, Cert.SsmOut.algebraic,
  trivial, Cert.MemKv.algebraic,
  trivial, Cert.SsmOutBack.algebraic,
  trivial, Cert.MemOutBack.algebraic,
  trivial, Cert.GluInBack.algebraic,
  trivial, Cert.SsmOutGrad.algebraic,
  trivial, Cert.GluInGrad.algebraic,
  trivial, Cert.BGrad.algebraic,
  trivial, Cert.CGrad.algebraic,
  trivial, Cert.MemKvGrad.algebraic,
  trivial, Cert.MergeBack.algebraic,
  trivial, Cert.GluBack.algebraic,
  trivial, Cert.SwigluBack.algebraic,
  trivial, Cert.Merge.algebraic,
  trivial, Cert.Glu.algebraic,
  trivial, Cert.Swiglu.algebraic,
  trivial, Cert.LossHead.algebraic,
  trivial, Cert.Norm.algebraic,
  trivial, Cert.UpdateIn.algebraic,
  trivial, Cert.UpdateSbOut.algebraic,
  trivial, Cert.UpdateGlu.algebraic,
  trivial, Cert.UpdateSsmOut.algebraic,
  trivial, Cert.UpdateMemKv.algebraic,
  trivial, Cert.UpdateOut.algebraic,
  trivial, Cert.UpdateUp.algebraic,
  trivial, Cert.UpdateDown.algebraic,
  trivial, Cert.SF.algebraic,
  trivial, Cert.MemFwd.algebraic⟩

end Cert.Proof

end
